-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_finite_ffn [hPre_finite_ffn : Cert.Pre_finite_ffn.Facts] (m : (ℓ : Loc Cert.MidIdeal.nD Cert.MidIdeal.τ Cert.MidIdeal.sig) → Buf (Elt Ideal) ℓ) : Prop :=
  ∀ c : Dev Cert.MidIdeal.nD,
    (Cert.Pre_finite_ffn.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3))) = (fun _ => 1#1)

def Pre_MidRefIdeal (m : (ℓ : Loc Cert.MidRefIdeal.nD Cert.MidRefIdeal.τ Cert.MidRefIdeal.sig) → Buf (Elt Ideal) ℓ) : Prop :=
  True

def Pre_MidRefIdeal_finite_ffn [hPre_finite_ffn : Cert.Pre_finite_ffn.Facts] (m : (ℓ : Loc Cert.MidRefIdeal.nD Cert.MidRefIdeal.τ Cert.MidRefIdeal.sig) → Buf (Elt Ideal) ℓ) : Prop :=
  ∀ c : Dev Cert.MidRefIdeal.nD,
    (Cert.Pre_finite_ffn.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_GIn (m : (ℓ : Loc Cert.GIn.nD Cert.GIn.τ Cert.GIn.sig) → Buf (Elt Bits) ℓ) : Prop :=
  True

def Pre_GInIdeal (m : (ℓ : Loc Cert.GInIdeal.nD Cert.GInIdeal.τ Cert.GInIdeal.sig) → Buf (Elt Ideal) ℓ) : Prop :=
  True

def Pre_GInRefIdeal (m : (ℓ : Loc Cert.GInRefIdeal.nD Cert.GInRefIdeal.τ Cert.GInRefIdeal.sig) → Buf (Elt Ideal) ℓ) : Prop :=
  True

def Pre_GOut (m : (ℓ : Loc Cert.GOut.nD Cert.GOut.τ Cert.GOut.sig) → Buf (Elt Bits) ℓ) : Prop :=
  True

def Pre_GOutIdeal (m : (ℓ : Loc Cert.GOutIdeal.nD Cert.GOutIdeal.τ Cert.GOutIdeal.sig) → Buf (Elt Ideal) ℓ) : Prop :=
  True

def Pre_GOutRefIdeal (m : (ℓ : Loc Cert.GOutRefIdeal.nD Cert.GOutRefIdeal.τ Cert.GOutRefIdeal.sig) → Buf (Elt Ideal) ℓ) : Prop :=
  True

def Pre_DX (m : (ℓ : Loc Cert.DX.nD Cert.DX.τ Cert.DX.sig) → Buf (Elt Bits) ℓ) : Prop :=
  True

def Pre_DXIdeal (m : (ℓ : Loc Cert.DXIdeal.nD Cert.DXIdeal.τ Cert.DXIdeal.sig) → Buf (Elt Ideal) ℓ) : Prop :=
  True

def Pre_DXRefIdeal (m : (ℓ : Loc Cert.DXRefIdeal.nD Cert.DXRefIdeal.τ Cert.DXRefIdeal.sig) → Buf (Elt Ideal) ℓ) : Prop :=
  True

def Pre_AbIn (m : (ℓ : Loc Cert.AbIn.nD Cert.AbIn.τ Cert.AbIn.sig) → Buf (Elt Bits) ℓ) : Prop :=
  True

def Pre_AbInIdeal (m : (ℓ : Loc Cert.AbInIdeal.nD Cert.AbInIdeal.τ Cert.AbInIdeal.sig) → Buf (Elt Ideal) ℓ) : Prop :=
  True

def Pre_AbInRefIdeal (m : (ℓ : Loc Cert.AbInRefIdeal.nD Cert.AbInRefIdeal.τ Cert.AbInRefIdeal.sig) → Buf (Elt Ideal) ℓ) : Prop :=
  True

def Pre_CdIn (m : (ℓ : Loc Cert.CdIn.nD Cert.CdIn.τ Cert.CdIn.sig) → Buf (Elt Bits) ℓ) : Prop :=
  True

def Pre_CdInIdeal (m : (ℓ : Loc Cert.CdInIdeal.nD Cert.CdInIdeal.τ Cert.CdInIdeal.sig) → Buf (Elt Ideal) ℓ) : Prop :=
  True

def Pre_CdInRefIdeal (m : (ℓ : Loc Cert.CdInRefIdeal.nD Cert.CdInRefIdeal.τ Cert.CdInRefIdeal.sig) → Buf (Elt Ideal) ℓ) : Prop :=
  True

def Pre_Outs (m : (ℓ : Loc Cert.Outs.nD Cert.Outs.τ Cert.Outs.sig) → Buf (Elt Bits) ℓ) : Prop :=
  True

def Pre_OutsIdeal (m : (ℓ : Loc Cert.OutsIdeal.nD Cert.OutsIdeal.τ Cert.OutsIdeal.sig) → Buf (Elt Ideal) ℓ) : Prop :=
  True

def Pre_OutsRefIdeal (m : (ℓ : Loc Cert.OutsRefIdeal.nD Cert.OutsRefIdeal.τ Cert.OutsRefIdeal.sig) → Buf (Elt Ideal) ℓ) : Prop :=
  True

def Pre_GAb (m : (ℓ : Loc Cert.GAb.nD Cert.GAb.τ Cert.GAb.sig) → Buf (Elt Bits) ℓ) : Prop :=
  True

def Pre_GAbIdeal (m : (ℓ : Loc Cert.GAbIdeal.nD Cert.GAbIdeal.τ Cert.GAbIdeal.sig) → Buf (Elt Ideal) ℓ) : Prop :=
  True

def Pre_GAbRefIdeal (m : (ℓ : Loc Cert.GAbRefIdeal.nD Cert.GAbRefIdeal.τ Cert.GAbRefIdeal.sig) → Buf (Elt Ideal) ℓ) : Prop :=
  True

def Pre_GCd (m : (ℓ : Loc Cert.GCd.nD Cert.GCd.τ Cert.GCd.sig) → Buf (Elt Bits) ℓ) : Prop :=
  True

def Pre_GCdIdeal (m : (ℓ : Loc Cert.GCdIdeal.nD Cert.GCdIdeal.τ Cert.GCdIdeal.sig) → Buf (Elt Ideal) ℓ) : Prop :=
  True

def Pre_GCdRefIdeal (m : (ℓ : Loc Cert.GCdRefIdeal.nD Cert.GCdRefIdeal.τ Cert.GCdRefIdeal.sig) → Buf (Elt Ideal) ℓ) : Prop :=
  True

def Pre_GHalf (m : (ℓ : Loc Cert.GHalf.nD Cert.GHalf.τ Cert.GHalf.sig) → Buf (Elt Bits) ℓ) : Prop :=
  True

def Pre_GHalfIdeal (m : (ℓ : Loc Cert.GHalfIdeal.nD Cert.GHalfIdeal.τ Cert.GHalfIdeal.sig) → Buf (Elt Ideal) ℓ) : Prop :=
  True

def Pre_GHalfRefIdeal (m : (ℓ : Loc Cert.GHalfRefIdeal.nD Cert.GHalfRefIdeal.τ Cert.GHalfRefIdeal.sig) → Buf (Elt Ideal) ℓ) : Prop :=
  True

def Pre_DCat (m : (ℓ : Loc Cert.DCat.nD Cert.DCat.τ Cert.DCat.sig) → Buf (Elt Bits) ℓ) : Prop :=
  True

def Pre_DCatIdeal (m : (ℓ : Loc Cert.DCatIdeal.nD Cert.DCatIdeal.τ Cert.DCatIdeal.sig) → Buf (Elt Ideal) ℓ) : Prop :=
  True

def Pre_DCatRefIdeal (m : (ℓ : Loc Cert.DCatRefIdeal.nD Cert.DCatRefIdeal.τ Cert.DCatRefIdeal.sig) → Buf (Elt Ideal) ℓ) : Prop :=
  True

def Pre_DAb (m : (ℓ : Loc Cert.DAb.nD Cert.DAb.τ Cert.DAb.sig) → Buf (Elt Bits) ℓ) : Prop :=
  True

def Pre_DAbIdeal (m : (ℓ : Loc Cert.DAbIdeal.nD Cert.DAbIdeal.τ Cert.DAbIdeal.sig) → Buf (Elt Ideal) ℓ) : Prop :=
  True

def Pre_DAbRefIdeal (m : (ℓ : Loc Cert.DAbRefIdeal.nD Cert.DAbRefIdeal.τ Cert.DAbRefIdeal.sig) → Buf (Elt Ideal) ℓ) : Prop :=
  True

def Pre_DCd (m : (ℓ : Loc Cert.DCd.nD Cert.DCd.τ Cert.DCd.sig) → Buf (Elt Bits) ℓ) : Prop :=
  True

def Pre_DCdIdeal (m : (ℓ : Loc Cert.DCdIdeal.nD Cert.DCdIdeal.τ Cert.DCdIdeal.sig) → Buf (Elt Ideal) ℓ) : Prop :=
  True

def Pre_DCdRefIdeal (m : (ℓ : Loc Cert.DCdRefIdeal.nD Cert.DCdRefIdeal.τ Cert.DCdRefIdeal.sig) → Buf (Elt Ideal) ℓ) : Prop :=
  True

def Pre_WKv (m : (ℓ : Loc Cert.WKv.nD Cert.WKv.τ Cert.WKv.sig) → Buf (Elt Bits) ℓ) : Prop :=
  True

def Pre_WKvIdeal (m : (ℓ : Loc Cert.WKvIdeal.nD Cert.WKvIdeal.τ Cert.WKvIdeal.sig) → Buf (Elt Ideal) ℓ) : Prop :=
  True

def Pre_WKvRefIdeal (m : (ℓ : Loc Cert.WKvRefIdeal.nD Cert.WKvRefIdeal.τ Cert.WKvRefIdeal.sig) → Buf (Elt Ideal) ℓ) : Prop :=
  True

def Pre_WQ (m : (ℓ : Loc Cert.WQ.nD Cert.WQ.τ Cert.WQ.sig) → Buf (Elt Bits) ℓ) : Prop :=
  True

def Pre_WQIdeal (m : (ℓ : Loc Cert.WQIdeal.nD Cert.WQIdeal.τ Cert.WQIdeal.sig) → Buf (Elt Ideal) ℓ) : Prop :=
  True

def Pre_WQRefIdeal (m : (ℓ : Loc Cert.WQRefIdeal.nD Cert.WQRefIdeal.τ Cert.WQRefIdeal.sig) → Buf (Elt Ideal) ℓ) : Prop :=
  True

def Pre_GWQ (m : (ℓ : Loc Cert.GWQ.nD Cert.GWQ.τ Cert.GWQ.sig) → Buf (Elt Bits) ℓ) : Prop :=
  True

def Pre_GWQIdeal (m : (ℓ : Loc Cert.GWQIdeal.nD Cert.GWQIdeal.τ Cert.GWQIdeal.sig) → Buf (Elt Ideal) ℓ) : Prop :=
  True

def Pre_GWQRefIdeal (m : (ℓ : Loc Cert.GWQRefIdeal.nD Cert.GWQRefIdeal.τ Cert.GWQRefIdeal.sig) → Buf (Elt Ideal) ℓ) : Prop :=
  True

def Pre_GWKv (m : (ℓ : Loc Cert.GWKv.nD Cert.GWKv.τ Cert.GWKv.sig) → Buf (Elt Bits) ℓ) : Prop :=
  True

def Pre_GWKvIdeal (m : (ℓ : Loc Cert.GWKvIdeal.nD Cert.GWKvIdeal.τ Cert.GWKvIdeal.sig) → Buf (Elt Ideal) ℓ) : Prop :=
  True

def Pre_GWKvRefIdeal (m : (ℓ : Loc Cert.GWKvRefIdeal.nD Cert.GWKvRefIdeal.τ Cert.GWKvRefIdeal.sig) → Buf (Elt Ideal) ℓ) : Prop :=
  True

def Pre_DQn (m : (ℓ : Loc Cert.DQn.nD Cert.DQn.τ Cert.DQn.sig) → Buf (Elt Bits) ℓ) : Prop :=
  True

def Pre_DQnIdeal (m : (ℓ : Loc Cert.DQnIdeal.nD Cert.DQnIdeal.τ Cert.DQnIdeal.sig) → Buf (Elt Ideal) ℓ) : Prop :=
  True

def Pre_DQnRefIdeal (m : (ℓ : Loc Cert.DQnRefIdeal.nD Cert.DQnRefIdeal.τ Cert.DQnRefIdeal.sig) → Buf (Elt Ideal) ℓ) : Prop :=
  True

def Pre_DKvn (m : (ℓ : Loc Cert.DKvn.nD Cert.DKvn.τ Cert.DKvn.sig) → Buf (Elt Bits) ℓ) : Prop :=
  True

def Pre_DKvnIdeal (m : (ℓ : Loc Cert.DKvnIdeal.nD Cert.DKvnIdeal.τ Cert.DKvnIdeal.sig) → Buf (Elt Ideal) ℓ) : Prop :=
  True

def Pre_DKvnRefIdeal (m : (ℓ : Loc Cert.DKvnRefIdeal.nD Cert.DKvnRefIdeal.τ Cert.DKvnRefIdeal.sig) → Buf (Elt Ideal) ℓ) : Prop :=
  True

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttIdeal_finite_att [hPre_finite_att : Cert.Pre_finite_att.Facts] (m : (ℓ : Loc Cert.AttIdeal.nD Cert.AttIdeal.τ Cert.AttIdeal.sig) → Buf (Elt Ideal) ℓ) : Prop :=
  ∀ c : Dev Cert.AttIdeal.nD,
    (Cert.Pre_finite_att.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2))) = (fun _ => 1#1)

def Pre_AttRefIdeal (m : (ℓ : Loc Cert.AttRefIdeal.nD Cert.AttRefIdeal.τ Cert.AttRefIdeal.sig) → Buf (Elt Ideal) ℓ) : Prop :=
  True

def Pre_AttRefIdeal_finite_att [hPre_finite_att : Cert.Pre_finite_att.Facts] (m : (ℓ : Loc Cert.AttRefIdeal.nD Cert.AttRefIdeal.τ Cert.AttRefIdeal.sig) → Buf (Elt Ideal) ℓ) : Prop :=
  ∀ c : Dev Cert.AttRefIdeal.nD,
    (Cert.Pre_finite_att.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1)) (m ((c.tc : Thread Cert.AttRefIdeal.nD Cert.AttRefIdeal.τ).loc Cert.AttRefIdeal.main_arg2))) = (fun _ => 1#1)

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def Pre_Res (m : (ℓ : Loc Cert.Res.nD Cert.Res.τ Cert.Res.sig) → Buf (Elt Bits) ℓ) : Prop :=
  True

def Pre_ResIdeal (m : (ℓ : Loc Cert.ResIdeal.nD Cert.ResIdeal.τ Cert.ResIdeal.sig) → Buf (Elt Ideal) ℓ) : Prop :=
  True

def Pre_ResRefIdeal (m : (ℓ : Loc Cert.ResRefIdeal.nD Cert.ResRefIdeal.τ Cert.ResRefIdeal.sig) → Buf (Elt Ideal) ℓ) : Prop :=
  True

def Pre_MixRes (m : (ℓ : Loc Cert.MixRes.nD Cert.MixRes.τ Cert.MixRes.sig) → Buf (Elt Bits) ℓ) : Prop :=
  True

def Pre_MixResIdeal (m : (ℓ : Loc Cert.MixResIdeal.nD Cert.MixResIdeal.τ Cert.MixResIdeal.sig) → Buf (Elt Ideal) ℓ) : Prop :=
  True

def Pre_MixResRefIdeal (m : (ℓ : Loc Cert.MixResRefIdeal.nD Cert.MixResRefIdeal.τ Cert.MixResRefIdeal.sig) → Buf (Elt Ideal) ℓ) : Prop :=
  True

def Pre_FfnRes (m : (ℓ : Loc Cert.FfnRes.nD Cert.FfnRes.τ Cert.FfnRes.sig) → Buf (Elt Bits) ℓ) : Prop :=
  True

def Pre_FfnResIdeal (m : (ℓ : Loc Cert.FfnResIdeal.nD Cert.FfnResIdeal.τ Cert.FfnResIdeal.sig) → Buf (Elt Ideal) ℓ) : Prop :=
  True

def Pre_FfnResRefIdeal (m : (ℓ : Loc Cert.FfnResRefIdeal.nD Cert.FfnResRefIdeal.τ Cert.FfnResRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ r.2.sem = fun _ => 0)

def quiescent_MidIdeal_pre_finite_ffn [hMidIdeal : Cert.MidIdeal.Facts] [hPre_finite_ffn : Cert.Pre_finite_ffn.Facts] : Prop :=
  ∀ (m : (ℓ : Loc Cert.MidIdeal.nD Cert.MidIdeal.τ Cert.MidIdeal.sig) → Buf (Elt Ideal) ℓ) (g : Dev Cert.MidIdeal.nD → PrngReg), Pre_MidIdeal_finite_ffn m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3))
      ∧ r.2.sem = fun _ => 0)

def quiescent_MidRefIdeal_pre_finite_ffn [hMidRefIdeal : Cert.MidRefIdeal.Facts] [hPre_finite_ffn : Cert.Pre_finite_ffn.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal_finite_ffn m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2))
      ∧ r.2.sem = fun _ => 0)

def quiescent_GIn [hGIn : Cert.GIn.Facts] : Prop :=
  ∀ (m : (ℓ : Loc Cert.GIn.nD Cert.GIn.τ Cert.GIn.sig) → Buf (Elt Bits) ℓ) (g : Dev Cert.GIn.nD → PrngReg), Pre_GIn m →
    θ_run (Cert.GIn.defs (F := Bits)) (onTc (τ := Cert.GIn.τ) (Cert.GIn.main (F := Bits))) ⟨m, fun _ => 0, g⟩ (fun r => (∀ c : Dev Cert.GIn.nD,
      r.2.mem ((c.tc : Thread Cert.GIn.nD Cert.GIn.τ).loc Cert.GIn.main_arg0) = m ((c.tc : Thread Cert.GIn.nD Cert.GIn.τ).loc Cert.GIn.main_arg0)
      ∧ r.2.mem ((c.tc : Thread Cert.GIn.nD Cert.GIn.τ).loc Cert.GIn.main_arg1) = m ((c.tc : Thread Cert.GIn.nD Cert.GIn.τ).loc Cert.GIn.main_arg1))
      ∧ r.2.sem = fun _ => 0)

def quiescent_GInIdeal [hGInIdeal : Cert.GInIdeal.Facts] : Prop :=
  ∀ (m : (ℓ : Loc Cert.GInIdeal.nD Cert.GInIdeal.τ Cert.GInIdeal.sig) → Buf (Elt Ideal) ℓ) (g : Dev Cert.GInIdeal.nD → PrngReg), Pre_GInIdeal m →
    θ_run (Cert.GInIdeal.defs (F := Ideal)) (onTc (τ := Cert.GInIdeal.τ) (Cert.GInIdeal.main (F := Ideal))) ⟨m, fun _ => 0, g⟩ (fun r => (∀ c : Dev Cert.GInIdeal.nD,
      r.2.mem ((c.tc : Thread Cert.GInIdeal.nD Cert.GInIdeal.τ).loc Cert.GInIdeal.main_arg0) = m ((c.tc : Thread Cert.GInIdeal.nD Cert.GInIdeal.τ).loc Cert.GInIdeal.main_arg0)
      ∧ r.2.mem ((c.tc : Thread Cert.GInIdeal.nD Cert.GInIdeal.τ).loc Cert.GInIdeal.main_arg1) = m ((c.tc : Thread Cert.GInIdeal.nD Cert.GInIdeal.τ).loc Cert.GInIdeal.main_arg1))
      ∧ r.2.sem = fun _ => 0)

def quiescent_GInRefIdeal [hGInRefIdeal : Cert.GInRefIdeal.Facts] : Prop :=
  ∀ (m : (ℓ : Loc Cert.GInRefIdeal.nD Cert.GInRefIdeal.τ Cert.GInRefIdeal.sig) → Buf (Elt Ideal) ℓ) (g : Dev Cert.GInRefIdeal.nD → PrngReg), Pre_GInRefIdeal m →
    θ_run (Cert.GInRefIdeal.defs (F := Ideal)) (onTc (τ := Cert.GInRefIdeal.τ) (Cert.GInRefIdeal.main (F := Ideal))) ⟨m, fun _ => 0, g⟩ (fun r => (∀ c : Dev Cert.GInRefIdeal.nD,
      r.2.mem ((c.tc : Thread Cert.GInRefIdeal.nD Cert.GInRefIdeal.τ).loc Cert.GInRefIdeal.main_arg0) = m ((c.tc : Thread Cert.GInRefIdeal.nD Cert.GInRefIdeal.τ).loc Cert.GInRefIdeal.main_arg0)
      ∧ r.2.mem ((c.tc : Thread Cert.GInRefIdeal.nD Cert.GInRefIdeal.τ).loc Cert.GInRefIdeal.main_arg1) = m ((c.tc : Thread Cert.GInRefIdeal.nD Cert.GInRefIdeal.τ).loc Cert.GInRefIdeal.main_arg1))
      ∧ r.2.sem = fun _ => 0)

def quiescent_GOut [hGOut : Cert.GOut.Facts] : Prop :=
  ∀ (m : (ℓ : Loc Cert.GOut.nD Cert.GOut.τ Cert.GOut.sig) → Buf (Elt Bits) ℓ) (g : Dev Cert.GOut.nD → PrngReg), Pre_GOut m →
    θ_run (Cert.GOut.defs (F := Bits)) (onTc (τ := Cert.GOut.τ) (Cert.GOut.main (F := Bits))) ⟨m, fun _ => 0, g⟩ (fun r => (∀ c : Dev Cert.GOut.nD,
      r.2.mem ((c.tc : Thread Cert.GOut.nD Cert.GOut.τ).loc Cert.GOut.main_arg0) = m ((c.tc : Thread Cert.GOut.nD Cert.GOut.τ).loc Cert.GOut.main_arg0)
      ∧ r.2.mem ((c.tc : Thread Cert.GOut.nD Cert.GOut.τ).loc Cert.GOut.main_arg1) = m ((c.tc : Thread Cert.GOut.nD Cert.GOut.τ).loc Cert.GOut.main_arg1))
      ∧ r.2.sem = fun _ => 0)

def quiescent_GOutIdeal [hGOutIdeal : Cert.GOutIdeal.Facts] : Prop :=
  ∀ (m : (ℓ : Loc Cert.GOutIdeal.nD Cert.GOutIdeal.τ Cert.GOutIdeal.sig) → Buf (Elt Ideal) ℓ) (g : Dev Cert.GOutIdeal.nD → PrngReg), Pre_GOutIdeal m →
    θ_run (Cert.GOutIdeal.defs (F := Ideal)) (onTc (τ := Cert.GOutIdeal.τ) (Cert.GOutIdeal.main (F := Ideal))) ⟨m, fun _ => 0, g⟩ (fun r => (∀ c : Dev Cert.GOutIdeal.nD,
      r.2.mem ((c.tc : Thread Cert.GOutIdeal.nD Cert.GOutIdeal.τ).loc Cert.GOutIdeal.main_arg0) = m ((c.tc : Thread Cert.GOutIdeal.nD Cert.GOutIdeal.τ).loc Cert.GOutIdeal.main_arg0)
      ∧ r.2.mem ((c.tc : Thread Cert.GOutIdeal.nD Cert.GOutIdeal.τ).loc Cert.GOutIdeal.main_arg1) = m ((c.tc : Thread Cert.GOutIdeal.nD Cert.GOutIdeal.τ).loc Cert.GOutIdeal.main_arg1))
      ∧ r.2.sem = fun _ => 0)

def quiescent_GOutRefIdeal [hGOutRefIdeal : Cert.GOutRefIdeal.Facts] : Prop :=
  ∀ (m : (ℓ : Loc Cert.GOutRefIdeal.nD Cert.GOutRefIdeal.τ Cert.GOutRefIdeal.sig) → Buf (Elt Ideal) ℓ) (g : Dev Cert.GOutRefIdeal.nD → PrngReg), Pre_GOutRefIdeal m →
    θ_run (Cert.GOutRefIdeal.defs (F := Ideal)) (onTc (τ := Cert.GOutRefIdeal.τ) (Cert.GOutRefIdeal.main (F := Ideal))) ⟨m, fun _ => 0, g⟩ (fun r => (∀ c : Dev Cert.GOutRefIdeal.nD,
      r.2.mem ((c.tc : Thread Cert.GOutRefIdeal.nD Cert.GOutRefIdeal.τ).loc Cert.GOutRefIdeal.main_arg0) = m ((c.tc : Thread Cert.GOutRefIdeal.nD Cert.GOutRefIdeal.τ).loc Cert.GOutRefIdeal.main_arg0)
      ∧ r.2.mem ((c.tc : Thread Cert.GOutRefIdeal.nD Cert.GOutRefIdeal.τ).loc Cert.GOutRefIdeal.main_arg1) = m ((c.tc : Thread Cert.GOutRefIdeal.nD Cert.GOutRefIdeal.τ).loc Cert.GOutRefIdeal.main_arg1))
      ∧ r.2.sem = fun _ => 0)

def quiescent_DX [hDX : Cert.DX.Facts] : Prop :=
  ∀ (m : (ℓ : Loc Cert.DX.nD Cert.DX.τ Cert.DX.sig) → Buf (Elt Bits) ℓ) (g : Dev Cert.DX.nD → PrngReg), Pre_DX m →
    θ_run (Cert.DX.defs (F := Bits)) (onTc (τ := Cert.DX.τ) (Cert.DX.main (F := Bits))) ⟨m, fun _ => 0, g⟩ (fun r => (∀ c : Dev Cert.DX.nD,
      r.2.mem ((c.tc : Thread Cert.DX.nD Cert.DX.τ).loc Cert.DX.main_arg0) = m ((c.tc : Thread Cert.DX.nD Cert.DX.τ).loc Cert.DX.main_arg0)
      ∧ r.2.mem ((c.tc : Thread Cert.DX.nD Cert.DX.τ).loc Cert.DX.main_arg1) = m ((c.tc : Thread Cert.DX.nD Cert.DX.τ).loc Cert.DX.main_arg1))
      ∧ r.2.sem = fun _ => 0)

def quiescent_DXIdeal [hDXIdeal : Cert.DXIdeal.Facts] : Prop :=
  ∀ (m : (ℓ : Loc Cert.DXIdeal.nD Cert.DXIdeal.τ Cert.DXIdeal.sig) → Buf (Elt Ideal) ℓ) (g : Dev Cert.DXIdeal.nD → PrngReg), Pre_DXIdeal m →
    θ_run (Cert.DXIdeal.defs (F := Ideal)) (onTc (τ := Cert.DXIdeal.τ) (Cert.DXIdeal.main (F := Ideal))) ⟨m, fun _ => 0, g⟩ (fun r => (∀ c : Dev Cert.DXIdeal.nD,
      r.2.mem ((c.tc : Thread Cert.DXIdeal.nD Cert.DXIdeal.τ).loc Cert.DXIdeal.main_arg0) = m ((c.tc : Thread Cert.DXIdeal.nD Cert.DXIdeal.τ).loc Cert.DXIdeal.main_arg0)
      ∧ r.2.mem ((c.tc : Thread Cert.DXIdeal.nD Cert.DXIdeal.τ).loc Cert.DXIdeal.main_arg1) = m ((c.tc : Thread Cert.DXIdeal.nD Cert.DXIdeal.τ).loc Cert.DXIdeal.main_arg1))
      ∧ r.2.sem = fun _ => 0)

def quiescent_DXRefIdeal [hDXRefIdeal : Cert.DXRefIdeal.Facts] : Prop :=
  ∀ (m : (ℓ : Loc Cert.DXRefIdeal.nD Cert.DXRefIdeal.τ Cert.DXRefIdeal.sig) → Buf (Elt Ideal) ℓ) (g : Dev Cert.DXRefIdeal.nD → PrngReg), Pre_DXRefIdeal m →
    θ_run (Cert.DXRefIdeal.defs (F := Ideal)) (onTc (τ := Cert.DXRefIdeal.τ) (Cert.DXRefIdeal.main (F := Ideal))) ⟨m, fun _ => 0, g⟩ (fun r => (∀ c : Dev Cert.DXRefIdeal.nD,
      r.2.mem ((c.tc : Thread Cert.DXRefIdeal.nD Cert.DXRefIdeal.τ).loc Cert.DXRefIdeal.main_arg0) = m ((c.tc : Thread Cert.DXRefIdeal.nD Cert.DXRefIdeal.τ).loc Cert.DXRefIdeal.main_arg0)
      ∧ r.2.mem ((c.tc : Thread Cert.DXRefIdeal.nD Cert.DXRefIdeal.τ).loc Cert.DXRefIdeal.main_arg1) = m ((c.tc : Thread Cert.DXRefIdeal.nD Cert.DXRefIdeal.τ).loc Cert.DXRefIdeal.main_arg1))
      ∧ r.2.sem = fun _ => 0)

def quiescent_AbIn [hAbIn : Cert.AbIn.Facts] : Prop :=
  ∀ (m : (ℓ : Loc Cert.AbIn.nD Cert.AbIn.τ Cert.AbIn.sig) → Buf (Elt Bits) ℓ) (g : Dev Cert.AbIn.nD → PrngReg), Pre_AbIn m →
    θ_run (Cert.AbIn.defs (F := Bits)) (onTc (τ := Cert.AbIn.τ) (Cert.AbIn.main (F := Bits))) ⟨m, fun _ => 0, g⟩ (fun r => (∀ c : Dev Cert.AbIn.nD,
      r.2.mem ((c.tc : Thread Cert.AbIn.nD Cert.AbIn.τ).loc Cert.AbIn.main_arg0) = m ((c.tc : Thread Cert.AbIn.nD Cert.AbIn.τ).loc Cert.AbIn.main_arg0)
      ∧ r.2.mem ((c.tc : Thread Cert.AbIn.nD Cert.AbIn.τ).loc Cert.AbIn.main_arg1) = m ((c.tc : Thread Cert.AbIn.nD Cert.AbIn.τ).loc Cert.AbIn.main_arg1))
      ∧ r.2.sem = fun _ => 0)

def quiescent_AbInIdeal [hAbInIdeal : Cert.AbInIdeal.Facts] : Prop :=
  ∀ (m : (ℓ : Loc Cert.AbInIdeal.nD Cert.AbInIdeal.τ Cert.AbInIdeal.sig) → Buf (Elt Ideal) ℓ) (g : Dev Cert.AbInIdeal.nD → PrngReg), Pre_AbInIdeal m →
    θ_run (Cert.AbInIdeal.defs (F := Ideal)) (onTc (τ := Cert.AbInIdeal.τ) (Cert.AbInIdeal.main (F := Ideal))) ⟨m, fun _ => 0, g⟩ (fun r => (∀ c : Dev Cert.AbInIdeal.nD,
      r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
      ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1))
      ∧ r.2.sem = fun _ => 0)

def quiescent_AbInRefIdeal [hAbInRefIdeal : Cert.AbInRefIdeal.Facts] : Prop :=
  ∀ (m : (ℓ : Loc Cert.AbInRefIdeal.nD Cert.AbInRefIdeal.τ Cert.AbInRefIdeal.sig) → Buf (Elt Ideal) ℓ) (g : Dev Cert.AbInRefIdeal.nD → PrngReg), Pre_AbInRefIdeal m →
    θ_run (Cert.AbInRefIdeal.defs (F := Ideal)) (onTc (τ := Cert.AbInRefIdeal.τ) (Cert.AbInRefIdeal.main (F := Ideal))) ⟨m, fun _ => 0, g⟩ (fun r => (∀ c : Dev Cert.AbInRefIdeal.nD,
      r.2.mem ((c.tc : Thread Cert.AbInRefIdeal.nD Cert.AbInRefIdeal.τ).loc Cert.AbInRefIdeal.main_arg0) = m ((c.tc : Thread Cert.AbInRefIdeal.nD Cert.AbInRefIdeal.τ).loc Cert.AbInRefIdeal.main_arg0)
      ∧ r.2.mem ((c.tc : Thread Cert.AbInRefIdeal.nD Cert.AbInRefIdeal.τ).loc Cert.AbInRefIdeal.main_arg1) = m ((c.tc : Thread Cert.AbInRefIdeal.nD Cert.AbInRefIdeal.τ).loc Cert.AbInRefIdeal.main_arg1))
      ∧ r.2.sem = fun _ => 0)

def quiescent_CdIn [hCdIn : Cert.CdIn.Facts] : Prop :=
  ∀ (m : (ℓ : Loc Cert.CdIn.nD Cert.CdIn.τ Cert.CdIn.sig) → Buf (Elt Bits) ℓ) (g : Dev Cert.CdIn.nD → PrngReg), Pre_CdIn m →
    θ_run (Cert.CdIn.defs (F := Bits)) (onTc (τ := Cert.CdIn.τ) (Cert.CdIn.main (F := Bits))) ⟨m, fun _ => 0, g⟩ (fun r => (∀ c : Dev Cert.CdIn.nD,
      r.2.mem ((c.tc : Thread Cert.CdIn.nD Cert.CdIn.τ).loc Cert.CdIn.main_arg0) = m ((c.tc : Thread Cert.CdIn.nD Cert.CdIn.τ).loc Cert.CdIn.main_arg0)
      ∧ r.2.mem ((c.tc : Thread Cert.CdIn.nD Cert.CdIn.τ).loc Cert.CdIn.main_arg1) = m ((c.tc : Thread Cert.CdIn.nD Cert.CdIn.τ).loc Cert.CdIn.main_arg1))
      ∧ r.2.sem = fun _ => 0)

def quiescent_CdInIdeal [hCdInIdeal : Cert.CdInIdeal.Facts] : Prop :=
  ∀ (m : (ℓ : Loc Cert.CdInIdeal.nD Cert.CdInIdeal.τ Cert.CdInIdeal.sig) → Buf (Elt Ideal) ℓ) (g : Dev Cert.CdInIdeal.nD → PrngReg), Pre_CdInIdeal m →
    θ_run (Cert.CdInIdeal.defs (F := Ideal)) (onTc (τ := Cert.CdInIdeal.τ) (Cert.CdInIdeal.main (F := Ideal))) ⟨m, fun _ => 0, g⟩ (fun r => (∀ c : Dev Cert.CdInIdeal.nD,
      r.2.mem ((c.tc : Thread Cert.CdInIdeal.nD Cert.CdInIdeal.τ).loc Cert.CdInIdeal.main_arg0) = m ((c.tc : Thread Cert.CdInIdeal.nD Cert.CdInIdeal.τ).loc Cert.CdInIdeal.main_arg0)
      ∧ r.2.mem ((c.tc : Thread Cert.CdInIdeal.nD Cert.CdInIdeal.τ).loc Cert.CdInIdeal.main_arg1) = m ((c.tc : Thread Cert.CdInIdeal.nD Cert.CdInIdeal.τ).loc Cert.CdInIdeal.main_arg1))
      ∧ r.2.sem = fun _ => 0)

def quiescent_CdInRefIdeal [hCdInRefIdeal : Cert.CdInRefIdeal.Facts] : Prop :=
  ∀ (m : (ℓ : Loc Cert.CdInRefIdeal.nD Cert.CdInRefIdeal.τ Cert.CdInRefIdeal.sig) → Buf (Elt Ideal) ℓ) (g : Dev Cert.CdInRefIdeal.nD → PrngReg), Pre_CdInRefIdeal m →
    θ_run (Cert.CdInRefIdeal.defs (F := Ideal)) (onTc (τ := Cert.CdInRefIdeal.τ) (Cert.CdInRefIdeal.main (F := Ideal))) ⟨m, fun _ => 0, g⟩ (fun r => (∀ c : Dev Cert.CdInRefIdeal.nD,
      r.2.mem ((c.tc : Thread Cert.CdInRefIdeal.nD Cert.CdInRefIdeal.τ).loc Cert.CdInRefIdeal.main_arg0) = m ((c.tc : Thread Cert.CdInRefIdeal.nD Cert.CdInRefIdeal.τ).loc Cert.CdInRefIdeal.main_arg0)
      ∧ r.2.mem ((c.tc : Thread Cert.CdInRefIdeal.nD Cert.CdInRefIdeal.τ).loc Cert.CdInRefIdeal.main_arg1) = m ((c.tc : Thread Cert.CdInRefIdeal.nD Cert.CdInRefIdeal.τ).loc Cert.CdInRefIdeal.main_arg1))
      ∧ r.2.sem = fun _ => 0)

def quiescent_Outs [hOuts : Cert.Outs.Facts] : Prop :=
  ∀ (m : (ℓ : Loc Cert.Outs.nD Cert.Outs.τ Cert.Outs.sig) → Buf (Elt Bits) ℓ) (g : Dev Cert.Outs.nD → PrngReg), Pre_Outs m →
    θ_run (Cert.Outs.defs (F := Bits)) (onTc (τ := Cert.Outs.τ) (Cert.Outs.main (F := Bits))) ⟨m, fun _ => 0, g⟩ (fun r => (∀ c : Dev Cert.Outs.nD,
      r.2.mem ((c.tc : Thread Cert.Outs.nD Cert.Outs.τ).loc Cert.Outs.main_arg0) = m ((c.tc : Thread Cert.Outs.nD Cert.Outs.τ).loc Cert.Outs.main_arg0)
      ∧ r.2.mem ((c.tc : Thread Cert.Outs.nD Cert.Outs.τ).loc Cert.Outs.main_arg1) = m ((c.tc : Thread Cert.Outs.nD Cert.Outs.τ).loc Cert.Outs.main_arg1)
      ∧ r.2.mem ((c.tc : Thread Cert.Outs.nD Cert.Outs.τ).loc Cert.Outs.main_arg2) = m ((c.tc : Thread Cert.Outs.nD Cert.Outs.τ).loc Cert.Outs.main_arg2))
      ∧ r.2.sem = fun _ => 0)

def quiescent_OutsIdeal [hOutsIdeal : Cert.OutsIdeal.Facts] : Prop :=
  ∀ (m : (ℓ : Loc Cert.OutsIdeal.nD Cert.OutsIdeal.τ Cert.OutsIdeal.sig) → Buf (Elt Ideal) ℓ) (g : Dev Cert.OutsIdeal.nD → PrngReg), Pre_OutsIdeal m →
    θ_run (Cert.OutsIdeal.defs (F := Ideal)) (onTc (τ := Cert.OutsIdeal.τ) (Cert.OutsIdeal.main (F := Ideal))) ⟨m, fun _ => 0, g⟩ (fun r => (∀ c : Dev Cert.OutsIdeal.nD,
      r.2.mem ((c.tc : Thread Cert.OutsIdeal.nD Cert.OutsIdeal.τ).loc Cert.OutsIdeal.main_arg0) = m ((c.tc : Thread Cert.OutsIdeal.nD Cert.OutsIdeal.τ).loc Cert.OutsIdeal.main_arg0)
      ∧ r.2.mem ((c.tc : Thread Cert.OutsIdeal.nD Cert.OutsIdeal.τ).loc Cert.OutsIdeal.main_arg1) = m ((c.tc : Thread Cert.OutsIdeal.nD Cert.OutsIdeal.τ).loc Cert.OutsIdeal.main_arg1)
      ∧ r.2.mem ((c.tc : Thread Cert.OutsIdeal.nD Cert.OutsIdeal.τ).loc Cert.OutsIdeal.main_arg2) = m ((c.tc : Thread Cert.OutsIdeal.nD Cert.OutsIdeal.τ).loc Cert.OutsIdeal.main_arg2))
      ∧ r.2.sem = fun _ => 0)

def quiescent_OutsRefIdeal [hOutsRefIdeal : Cert.OutsRefIdeal.Facts] : Prop :=
  ∀ (m : (ℓ : Loc Cert.OutsRefIdeal.nD Cert.OutsRefIdeal.τ Cert.OutsRefIdeal.sig) → Buf (Elt Ideal) ℓ) (g : Dev Cert.OutsRefIdeal.nD → PrngReg), Pre_OutsRefIdeal m →
    θ_run (Cert.OutsRefIdeal.defs (F := Ideal)) (onTc (τ := Cert.OutsRefIdeal.τ) (Cert.OutsRefIdeal.main (F := Ideal))) ⟨m, fun _ => 0, g⟩ (fun r => (∀ c : Dev Cert.OutsRefIdeal.nD,
      r.2.mem ((c.tc : Thread Cert.OutsRefIdeal.nD Cert.OutsRefIdeal.τ).loc Cert.OutsRefIdeal.main_arg0) = m ((c.tc : Thread Cert.OutsRefIdeal.nD Cert.OutsRefIdeal.τ).loc Cert.OutsRefIdeal.main_arg0)
      ∧ r.2.mem ((c.tc : Thread Cert.OutsRefIdeal.nD Cert.OutsRefIdeal.τ).loc Cert.OutsRefIdeal.main_arg1) = m ((c.tc : Thread Cert.OutsRefIdeal.nD Cert.OutsRefIdeal.τ).loc Cert.OutsRefIdeal.main_arg1)
      ∧ r.2.mem ((c.tc : Thread Cert.OutsRefIdeal.nD Cert.OutsRefIdeal.τ).loc Cert.OutsRefIdeal.main_arg2) = m ((c.tc : Thread Cert.OutsRefIdeal.nD Cert.OutsRefIdeal.τ).loc Cert.OutsRefIdeal.main_arg2))
      ∧ r.2.sem = fun _ => 0)

def quiescent_GAb [hGAb : Cert.GAb.Facts] : Prop :=
  ∀ (m : (ℓ : Loc Cert.GAb.nD Cert.GAb.τ Cert.GAb.sig) → Buf (Elt Bits) ℓ) (g : Dev Cert.GAb.nD → PrngReg), Pre_GAb m →
    θ_run (Cert.GAb.defs (F := Bits)) (onTc (τ := Cert.GAb.τ) (Cert.GAb.main (F := Bits))) ⟨m, fun _ => 0, g⟩ (fun r => (∀ c : Dev Cert.GAb.nD,
      r.2.mem ((c.tc : Thread Cert.GAb.nD Cert.GAb.τ).loc Cert.GAb.main_arg0) = m ((c.tc : Thread Cert.GAb.nD Cert.GAb.τ).loc Cert.GAb.main_arg0)
      ∧ r.2.mem ((c.tc : Thread Cert.GAb.nD Cert.GAb.τ).loc Cert.GAb.main_arg1) = m ((c.tc : Thread Cert.GAb.nD Cert.GAb.τ).loc Cert.GAb.main_arg1))
      ∧ r.2.sem = fun _ => 0)

def quiescent_GAbIdeal [hGAbIdeal : Cert.GAbIdeal.Facts] : Prop :=
  ∀ (m : (ℓ : Loc Cert.GAbIdeal.nD Cert.GAbIdeal.τ Cert.GAbIdeal.sig) → Buf (Elt Ideal) ℓ) (g : Dev Cert.GAbIdeal.nD → PrngReg), Pre_GAbIdeal m →
    θ_run (Cert.GAbIdeal.defs (F := Ideal)) (onTc (τ := Cert.GAbIdeal.τ) (Cert.GAbIdeal.main (F := Ideal))) ⟨m, fun _ => 0, g⟩ (fun r => (∀ c : Dev Cert.GAbIdeal.nD,
      r.2.mem ((c.tc : Thread Cert.GAbIdeal.nD Cert.GAbIdeal.τ).loc Cert.GAbIdeal.main_arg0) = m ((c.tc : Thread Cert.GAbIdeal.nD Cert.GAbIdeal.τ).loc Cert.GAbIdeal.main_arg0)
      ∧ r.2.mem ((c.tc : Thread Cert.GAbIdeal.nD Cert.GAbIdeal.τ).loc Cert.GAbIdeal.main_arg1) = m ((c.tc : Thread Cert.GAbIdeal.nD Cert.GAbIdeal.τ).loc Cert.GAbIdeal.main_arg1))
      ∧ r.2.sem = fun _ => 0)

def quiescent_GAbRefIdeal [hGAbRefIdeal : Cert.GAbRefIdeal.Facts] : Prop :=
  ∀ (m : (ℓ : Loc Cert.GAbRefIdeal.nD Cert.GAbRefIdeal.τ Cert.GAbRefIdeal.sig) → Buf (Elt Ideal) ℓ) (g : Dev Cert.GAbRefIdeal.nD → PrngReg), Pre_GAbRefIdeal m →
    θ_run (Cert.GAbRefIdeal.defs (F := Ideal)) (onTc (τ := Cert.GAbRefIdeal.τ) (Cert.GAbRefIdeal.main (F := Ideal))) ⟨m, fun _ => 0, g⟩ (fun r => (∀ c : Dev Cert.GAbRefIdeal.nD,
      r.2.mem ((c.tc : Thread Cert.GAbRefIdeal.nD Cert.GAbRefIdeal.τ).loc Cert.GAbRefIdeal.main_arg0) = m ((c.tc : Thread Cert.GAbRefIdeal.nD Cert.GAbRefIdeal.τ).loc Cert.GAbRefIdeal.main_arg0)
      ∧ r.2.mem ((c.tc : Thread Cert.GAbRefIdeal.nD Cert.GAbRefIdeal.τ).loc Cert.GAbRefIdeal.main_arg1) = m ((c.tc : Thread Cert.GAbRefIdeal.nD Cert.GAbRefIdeal.τ).loc Cert.GAbRefIdeal.main_arg1))
      ∧ r.2.sem = fun _ => 0)

def quiescent_GCd [hGCd : Cert.GCd.Facts] : Prop :=
  ∀ (m : (ℓ : Loc Cert.GCd.nD Cert.GCd.τ Cert.GCd.sig) → Buf (Elt Bits) ℓ) (g : Dev Cert.GCd.nD → PrngReg), Pre_GCd m →
    θ_run (Cert.GCd.defs (F := Bits)) (onTc (τ := Cert.GCd.τ) (Cert.GCd.main (F := Bits))) ⟨m, fun _ => 0, g⟩ (fun r => (∀ c : Dev Cert.GCd.nD,
      r.2.mem ((c.tc : Thread Cert.GCd.nD Cert.GCd.τ).loc Cert.GCd.main_arg0) = m ((c.tc : Thread Cert.GCd.nD Cert.GCd.τ).loc Cert.GCd.main_arg0)
      ∧ r.2.mem ((c.tc : Thread Cert.GCd.nD Cert.GCd.τ).loc Cert.GCd.main_arg1) = m ((c.tc : Thread Cert.GCd.nD Cert.GCd.τ).loc Cert.GCd.main_arg1))
      ∧ r.2.sem = fun _ => 0)

def quiescent_GCdIdeal [hGCdIdeal : Cert.GCdIdeal.Facts] : Prop :=
  ∀ (m : (ℓ : Loc Cert.GCdIdeal.nD Cert.GCdIdeal.τ Cert.GCdIdeal.sig) → Buf (Elt Ideal) ℓ) (g : Dev Cert.GCdIdeal.nD → PrngReg), Pre_GCdIdeal m →
    θ_run (Cert.GCdIdeal.defs (F := Ideal)) (onTc (τ := Cert.GCdIdeal.τ) (Cert.GCdIdeal.main (F := Ideal))) ⟨m, fun _ => 0, g⟩ (fun r => (∀ c : Dev Cert.GCdIdeal.nD,
      r.2.mem ((c.tc : Thread Cert.GCdIdeal.nD Cert.GCdIdeal.τ).loc Cert.GCdIdeal.main_arg0) = m ((c.tc : Thread Cert.GCdIdeal.nD Cert.GCdIdeal.τ).loc Cert.GCdIdeal.main_arg0)
      ∧ r.2.mem ((c.tc : Thread Cert.GCdIdeal.nD Cert.GCdIdeal.τ).loc Cert.GCdIdeal.main_arg1) = m ((c.tc : Thread Cert.GCdIdeal.nD Cert.GCdIdeal.τ).loc Cert.GCdIdeal.main_arg1))
      ∧ r.2.sem = fun _ => 0)

def quiescent_GCdRefIdeal [hGCdRefIdeal : Cert.GCdRefIdeal.Facts] : Prop :=
  ∀ (m : (ℓ : Loc Cert.GCdRefIdeal.nD Cert.GCdRefIdeal.τ Cert.GCdRefIdeal.sig) → Buf (Elt Ideal) ℓ) (g : Dev Cert.GCdRefIdeal.nD → PrngReg), Pre_GCdRefIdeal m →
    θ_run (Cert.GCdRefIdeal.defs (F := Ideal)) (onTc (τ := Cert.GCdRefIdeal.τ) (Cert.GCdRefIdeal.main (F := Ideal))) ⟨m, fun _ => 0, g⟩ (fun r => (∀ c : Dev Cert.GCdRefIdeal.nD,
      r.2.mem ((c.tc : Thread Cert.GCdRefIdeal.nD Cert.GCdRefIdeal.τ).loc Cert.GCdRefIdeal.main_arg0) = m ((c.tc : Thread Cert.GCdRefIdeal.nD Cert.GCdRefIdeal.τ).loc Cert.GCdRefIdeal.main_arg0)
      ∧ r.2.mem ((c.tc : Thread Cert.GCdRefIdeal.nD Cert.GCdRefIdeal.τ).loc Cert.GCdRefIdeal.main_arg1) = m ((c.tc : Thread Cert.GCdRefIdeal.nD Cert.GCdRefIdeal.τ).loc Cert.GCdRefIdeal.main_arg1))
      ∧ r.2.sem = fun _ => 0)

def quiescent_GHalf [hGHalf : Cert.GHalf.Facts] : Prop :=
  ∀ (m : (ℓ : Loc Cert.GHalf.nD Cert.GHalf.τ Cert.GHalf.sig) → Buf (Elt Bits) ℓ) (g : Dev Cert.GHalf.nD → PrngReg), Pre_GHalf m →
    θ_run (Cert.GHalf.defs (F := Bits)) (onTc (τ := Cert.GHalf.τ) (Cert.GHalf.main (F := Bits))) ⟨m, fun _ => 0, g⟩ (fun r => (∀ c : Dev Cert.GHalf.nD,
      r.2.mem ((c.tc : Thread Cert.GHalf.nD Cert.GHalf.τ).loc Cert.GHalf.main_arg0) = m ((c.tc : Thread Cert.GHalf.nD Cert.GHalf.τ).loc Cert.GHalf.main_arg0)
      ∧ r.2.mem ((c.tc : Thread Cert.GHalf.nD Cert.GHalf.τ).loc Cert.GHalf.main_arg1) = m ((c.tc : Thread Cert.GHalf.nD Cert.GHalf.τ).loc Cert.GHalf.main_arg1))
      ∧ r.2.sem = fun _ => 0)

def quiescent_GHalfIdeal [hGHalfIdeal : Cert.GHalfIdeal.Facts] : Prop :=
  ∀ (m : (ℓ : Loc Cert.GHalfIdeal.nD Cert.GHalfIdeal.τ Cert.GHalfIdeal.sig) → Buf (Elt Ideal) ℓ) (g : Dev Cert.GHalfIdeal.nD → PrngReg), Pre_GHalfIdeal m →
    θ_run (Cert.GHalfIdeal.defs (F := Ideal)) (onTc (τ := Cert.GHalfIdeal.τ) (Cert.GHalfIdeal.main (F := Ideal))) ⟨m, fun _ => 0, g⟩ (fun r => (∀ c : Dev Cert.GHalfIdeal.nD,
      r.2.mem ((c.tc : Thread Cert.GHalfIdeal.nD Cert.GHalfIdeal.τ).loc Cert.GHalfIdeal.main_arg0) = m ((c.tc : Thread Cert.GHalfIdeal.nD Cert.GHalfIdeal.τ).loc Cert.GHalfIdeal.main_arg0)
      ∧ r.2.mem ((c.tc : Thread Cert.GHalfIdeal.nD Cert.GHalfIdeal.τ).loc Cert.GHalfIdeal.main_arg1) = m ((c.tc : Thread Cert.GHalfIdeal.nD Cert.GHalfIdeal.τ).loc Cert.GHalfIdeal.main_arg1))
      ∧ r.2.sem = fun _ => 0)

def quiescent_GHalfRefIdeal [hGHalfRefIdeal : Cert.GHalfRefIdeal.Facts] : Prop :=
  ∀ (m : (ℓ : Loc Cert.GHalfRefIdeal.nD Cert.GHalfRefIdeal.τ Cert.GHalfRefIdeal.sig) → Buf (Elt Ideal) ℓ) (g : Dev Cert.GHalfRefIdeal.nD → PrngReg), Pre_GHalfRefIdeal m →
    θ_run (Cert.GHalfRefIdeal.defs (F := Ideal)) (onTc (τ := Cert.GHalfRefIdeal.τ) (Cert.GHalfRefIdeal.main (F := Ideal))) ⟨m, fun _ => 0, g⟩ (fun r => (∀ c : Dev Cert.GHalfRefIdeal.nD,
      r.2.mem ((c.tc : Thread Cert.GHalfRefIdeal.nD Cert.GHalfRefIdeal.τ).loc Cert.GHalfRefIdeal.main_arg0) = m ((c.tc : Thread Cert.GHalfRefIdeal.nD Cert.GHalfRefIdeal.τ).loc Cert.GHalfRefIdeal.main_arg0)
      ∧ r.2.mem ((c.tc : Thread Cert.GHalfRefIdeal.nD Cert.GHalfRefIdeal.τ).loc Cert.GHalfRefIdeal.main_arg1) = m ((c.tc : Thread Cert.GHalfRefIdeal.nD Cert.GHalfRefIdeal.τ).loc Cert.GHalfRefIdeal.main_arg1))
      ∧ r.2.sem = fun _ => 0)

def quiescent_DCat [hDCat : Cert.DCat.Facts] : Prop :=
  ∀ (m : (ℓ : Loc Cert.DCat.nD Cert.DCat.τ Cert.DCat.sig) → Buf (Elt Bits) ℓ) (g : Dev Cert.DCat.nD → PrngReg), Pre_DCat m →
    θ_run (Cert.DCat.defs (F := Bits)) (onTc (τ := Cert.DCat.τ) (Cert.DCat.main (F := Bits))) ⟨m, fun _ => 0, g⟩ (fun r => (∀ c : Dev Cert.DCat.nD,
      r.2.mem ((c.tc : Thread Cert.DCat.nD Cert.DCat.τ).loc Cert.DCat.main_arg0) = m ((c.tc : Thread Cert.DCat.nD Cert.DCat.τ).loc Cert.DCat.main_arg0)
      ∧ r.2.mem ((c.tc : Thread Cert.DCat.nD Cert.DCat.τ).loc Cert.DCat.main_arg1) = m ((c.tc : Thread Cert.DCat.nD Cert.DCat.τ).loc Cert.DCat.main_arg1))
      ∧ r.2.sem = fun _ => 0)

def quiescent_DCatIdeal [hDCatIdeal : Cert.DCatIdeal.Facts] : Prop :=
  ∀ (m : (ℓ : Loc Cert.DCatIdeal.nD Cert.DCatIdeal.τ Cert.DCatIdeal.sig) → Buf (Elt Ideal) ℓ) (g : Dev Cert.DCatIdeal.nD → PrngReg), Pre_DCatIdeal m →
    θ_run (Cert.DCatIdeal.defs (F := Ideal)) (onTc (τ := Cert.DCatIdeal.τ) (Cert.DCatIdeal.main (F := Ideal))) ⟨m, fun _ => 0, g⟩ (fun r => (∀ c : Dev Cert.DCatIdeal.nD,
      r.2.mem ((c.tc : Thread Cert.DCatIdeal.nD Cert.DCatIdeal.τ).loc Cert.DCatIdeal.main_arg0) = m ((c.tc : Thread Cert.DCatIdeal.nD Cert.DCatIdeal.τ).loc Cert.DCatIdeal.main_arg0)
      ∧ r.2.mem ((c.tc : Thread Cert.DCatIdeal.nD Cert.DCatIdeal.τ).loc Cert.DCatIdeal.main_arg1) = m ((c.tc : Thread Cert.DCatIdeal.nD Cert.DCatIdeal.τ).loc Cert.DCatIdeal.main_arg1))
      ∧ r.2.sem = fun _ => 0)

def quiescent_DCatRefIdeal [hDCatRefIdeal : Cert.DCatRefIdeal.Facts] : Prop :=
  ∀ (m : (ℓ : Loc Cert.DCatRefIdeal.nD Cert.DCatRefIdeal.τ Cert.DCatRefIdeal.sig) → Buf (Elt Ideal) ℓ) (g : Dev Cert.DCatRefIdeal.nD → PrngReg), Pre_DCatRefIdeal m →
    θ_run (Cert.DCatRefIdeal.defs (F := Ideal)) (onTc (τ := Cert.DCatRefIdeal.τ) (Cert.DCatRefIdeal.main (F := Ideal))) ⟨m, fun _ => 0, g⟩ (fun r => (∀ c : Dev Cert.DCatRefIdeal.nD,
      r.2.mem ((c.tc : Thread Cert.DCatRefIdeal.nD Cert.DCatRefIdeal.τ).loc Cert.DCatRefIdeal.main_arg0) = m ((c.tc : Thread Cert.DCatRefIdeal.nD Cert.DCatRefIdeal.τ).loc Cert.DCatRefIdeal.main_arg0)
      ∧ r.2.mem ((c.tc : Thread Cert.DCatRefIdeal.nD Cert.DCatRefIdeal.τ).loc Cert.DCatRefIdeal.main_arg1) = m ((c.tc : Thread Cert.DCatRefIdeal.nD Cert.DCatRefIdeal.τ).loc Cert.DCatRefIdeal.main_arg1))
      ∧ r.2.sem = fun _ => 0)

def quiescent_DAb [hDAb : Cert.DAb.Facts] : Prop :=
  ∀ (m : (ℓ : Loc Cert.DAb.nD Cert.DAb.τ Cert.DAb.sig) → Buf (Elt Bits) ℓ) (g : Dev Cert.DAb.nD → PrngReg), Pre_DAb m →
    θ_run (Cert.DAb.defs (F := Bits)) (onTc (τ := Cert.DAb.τ) (Cert.DAb.main (F := Bits))) ⟨m, fun _ => 0, g⟩ (fun r => (∀ c : Dev Cert.DAb.nD,
      r.2.mem ((c.tc : Thread Cert.DAb.nD Cert.DAb.τ).loc Cert.DAb.main_arg0) = m ((c.tc : Thread Cert.DAb.nD Cert.DAb.τ).loc Cert.DAb.main_arg0)
      ∧ r.2.mem ((c.tc : Thread Cert.DAb.nD Cert.DAb.τ).loc Cert.DAb.main_arg1) = m ((c.tc : Thread Cert.DAb.nD Cert.DAb.τ).loc Cert.DAb.main_arg1))
      ∧ r.2.sem = fun _ => 0)

def quiescent_DAbIdeal [hDAbIdeal : Cert.DAbIdeal.Facts] : Prop :=
  ∀ (m : (ℓ : Loc Cert.DAbIdeal.nD Cert.DAbIdeal.τ Cert.DAbIdeal.sig) → Buf (Elt Ideal) ℓ) (g : Dev Cert.DAbIdeal.nD → PrngReg), Pre_DAbIdeal m →
    θ_run (Cert.DAbIdeal.defs (F := Ideal)) (onTc (τ := Cert.DAbIdeal.τ) (Cert.DAbIdeal.main (F := Ideal))) ⟨m, fun _ => 0, g⟩ (fun r => (∀ c : Dev Cert.DAbIdeal.nD,
      r.2.mem ((c.tc : Thread Cert.DAbIdeal.nD Cert.DAbIdeal.τ).loc Cert.DAbIdeal.main_arg0) = m ((c.tc : Thread Cert.DAbIdeal.nD Cert.DAbIdeal.τ).loc Cert.DAbIdeal.main_arg0)
      ∧ r.2.mem ((c.tc : Thread Cert.DAbIdeal.nD Cert.DAbIdeal.τ).loc Cert.DAbIdeal.main_arg1) = m ((c.tc : Thread Cert.DAbIdeal.nD Cert.DAbIdeal.τ).loc Cert.DAbIdeal.main_arg1))
      ∧ r.2.sem = fun _ => 0)

def quiescent_DAbRefIdeal [hDAbRefIdeal : Cert.DAbRefIdeal.Facts] : Prop :=
  ∀ (m : (ℓ : Loc Cert.DAbRefIdeal.nD Cert.DAbRefIdeal.τ Cert.DAbRefIdeal.sig) → Buf (Elt Ideal) ℓ) (g : Dev Cert.DAbRefIdeal.nD → PrngReg), Pre_DAbRefIdeal m →
    θ_run (Cert.DAbRefIdeal.defs (F := Ideal)) (onTc (τ := Cert.DAbRefIdeal.τ) (Cert.DAbRefIdeal.main (F := Ideal))) ⟨m, fun _ => 0, g⟩ (fun r => (∀ c : Dev Cert.DAbRefIdeal.nD,
      r.2.mem ((c.tc : Thread Cert.DAbRefIdeal.nD Cert.DAbRefIdeal.τ).loc Cert.DAbRefIdeal.main_arg0) = m ((c.tc : Thread Cert.DAbRefIdeal.nD Cert.DAbRefIdeal.τ).loc Cert.DAbRefIdeal.main_arg0)
      ∧ r.2.mem ((c.tc : Thread Cert.DAbRefIdeal.nD Cert.DAbRefIdeal.τ).loc Cert.DAbRefIdeal.main_arg1) = m ((c.tc : Thread Cert.DAbRefIdeal.nD Cert.DAbRefIdeal.τ).loc Cert.DAbRefIdeal.main_arg1))
      ∧ r.2.sem = fun _ => 0)

def quiescent_DCd [hDCd : Cert.DCd.Facts] : Prop :=
  ∀ (m : (ℓ : Loc Cert.DCd.nD Cert.DCd.τ Cert.DCd.sig) → Buf (Elt Bits) ℓ) (g : Dev Cert.DCd.nD → PrngReg), Pre_DCd m →
    θ_run (Cert.DCd.defs (F := Bits)) (onTc (τ := Cert.DCd.τ) (Cert.DCd.main (F := Bits))) ⟨m, fun _ => 0, g⟩ (fun r => (∀ c : Dev Cert.DCd.nD,
      r.2.mem ((c.tc : Thread Cert.DCd.nD Cert.DCd.τ).loc Cert.DCd.main_arg0) = m ((c.tc : Thread Cert.DCd.nD Cert.DCd.τ).loc Cert.DCd.main_arg0)
      ∧ r.2.mem ((c.tc : Thread Cert.DCd.nD Cert.DCd.τ).loc Cert.DCd.main_arg1) = m ((c.tc : Thread Cert.DCd.nD Cert.DCd.τ).loc Cert.DCd.main_arg1))
      ∧ r.2.sem = fun _ => 0)

def quiescent_DCdIdeal [hDCdIdeal : Cert.DCdIdeal.Facts] : Prop :=
  ∀ (m : (ℓ : Loc Cert.DCdIdeal.nD Cert.DCdIdeal.τ Cert.DCdIdeal.sig) → Buf (Elt Ideal) ℓ) (g : Dev Cert.DCdIdeal.nD → PrngReg), Pre_DCdIdeal m →
    θ_run (Cert.DCdIdeal.defs (F := Ideal)) (onTc (τ := Cert.DCdIdeal.τ) (Cert.DCdIdeal.main (F := Ideal))) ⟨m, fun _ => 0, g⟩ (fun r => (∀ c : Dev Cert.DCdIdeal.nD,
      r.2.mem ((c.tc : Thread Cert.DCdIdeal.nD Cert.DCdIdeal.τ).loc Cert.DCdIdeal.main_arg0) = m ((c.tc : Thread Cert.DCdIdeal.nD Cert.DCdIdeal.τ).loc Cert.DCdIdeal.main_arg0)
      ∧ r.2.mem ((c.tc : Thread Cert.DCdIdeal.nD Cert.DCdIdeal.τ).loc Cert.DCdIdeal.main_arg1) = m ((c.tc : Thread Cert.DCdIdeal.nD Cert.DCdIdeal.τ).loc Cert.DCdIdeal.main_arg1))
      ∧ r.2.sem = fun _ => 0)

def quiescent_DCdRefIdeal [hDCdRefIdeal : Cert.DCdRefIdeal.Facts] : Prop :=
  ∀ (m : (ℓ : Loc Cert.DCdRefIdeal.nD Cert.DCdRefIdeal.τ Cert.DCdRefIdeal.sig) → Buf (Elt Ideal) ℓ) (g : Dev Cert.DCdRefIdeal.nD → PrngReg), Pre_DCdRefIdeal m →
    θ_run (Cert.DCdRefIdeal.defs (F := Ideal)) (onTc (τ := Cert.DCdRefIdeal.τ) (Cert.DCdRefIdeal.main (F := Ideal))) ⟨m, fun _ => 0, g⟩ (fun r => (∀ c : Dev Cert.DCdRefIdeal.nD,
      r.2.mem ((c.tc : Thread Cert.DCdRefIdeal.nD Cert.DCdRefIdeal.τ).loc Cert.DCdRefIdeal.main_arg0) = m ((c.tc : Thread Cert.DCdRefIdeal.nD Cert.DCdRefIdeal.τ).loc Cert.DCdRefIdeal.main_arg0)
      ∧ r.2.mem ((c.tc : Thread Cert.DCdRefIdeal.nD Cert.DCdRefIdeal.τ).loc Cert.DCdRefIdeal.main_arg1) = m ((c.tc : Thread Cert.DCdRefIdeal.nD Cert.DCdRefIdeal.τ).loc Cert.DCdRefIdeal.main_arg1))
      ∧ r.2.sem = fun _ => 0)

def quiescent_WKv [hWKv : Cert.WKv.Facts] : Prop :=
  ∀ (m : (ℓ : Loc Cert.WKv.nD Cert.WKv.τ Cert.WKv.sig) → Buf (Elt Bits) ℓ) (g : Dev Cert.WKv.nD → PrngReg), Pre_WKv m →
    θ_run (Cert.WKv.defs (F := Bits)) (onTc (τ := Cert.WKv.τ) (Cert.WKv.main (F := Bits))) ⟨m, fun _ => 0, g⟩ (fun r => (∀ c : Dev Cert.WKv.nD,
      r.2.mem ((c.tc : Thread Cert.WKv.nD Cert.WKv.τ).loc Cert.WKv.main_arg0) = m ((c.tc : Thread Cert.WKv.nD Cert.WKv.τ).loc Cert.WKv.main_arg0)
      ∧ r.2.mem ((c.tc : Thread Cert.WKv.nD Cert.WKv.τ).loc Cert.WKv.main_arg1) = m ((c.tc : Thread Cert.WKv.nD Cert.WKv.τ).loc Cert.WKv.main_arg1))
      ∧ r.2.sem = fun _ => 0)

def quiescent_WKvIdeal [hWKvIdeal : Cert.WKvIdeal.Facts] : Prop :=
  ∀ (m : (ℓ : Loc Cert.WKvIdeal.nD Cert.WKvIdeal.τ Cert.WKvIdeal.sig) → Buf (Elt Ideal) ℓ) (g : Dev Cert.WKvIdeal.nD → PrngReg), Pre_WKvIdeal m →
    θ_run (Cert.WKvIdeal.defs (F := Ideal)) (onTc (τ := Cert.WKvIdeal.τ) (Cert.WKvIdeal.main (F := Ideal))) ⟨m, fun _ => 0, g⟩ (fun r => (∀ c : Dev Cert.WKvIdeal.nD,
      r.2.mem ((c.tc : Thread Cert.WKvIdeal.nD Cert.WKvIdeal.τ).loc Cert.WKvIdeal.main_arg0) = m ((c.tc : Thread Cert.WKvIdeal.nD Cert.WKvIdeal.τ).loc Cert.WKvIdeal.main_arg0)
      ∧ r.2.mem ((c.tc : Thread Cert.WKvIdeal.nD Cert.WKvIdeal.τ).loc Cert.WKvIdeal.main_arg1) = m ((c.tc : Thread Cert.WKvIdeal.nD Cert.WKvIdeal.τ).loc Cert.WKvIdeal.main_arg1))
      ∧ r.2.sem = fun _ => 0)

def quiescent_WKvRefIdeal [hWKvRefIdeal : Cert.WKvRefIdeal.Facts] : Prop :=
  ∀ (m : (ℓ : Loc Cert.WKvRefIdeal.nD Cert.WKvRefIdeal.τ Cert.WKvRefIdeal.sig) → Buf (Elt Ideal) ℓ) (g : Dev Cert.WKvRefIdeal.nD → PrngReg), Pre_WKvRefIdeal m →
    θ_run (Cert.WKvRefIdeal.defs (F := Ideal)) (onTc (τ := Cert.WKvRefIdeal.τ) (Cert.WKvRefIdeal.main (F := Ideal))) ⟨m, fun _ => 0, g⟩ (fun r => (∀ c : Dev Cert.WKvRefIdeal.nD,
      r.2.mem ((c.tc : Thread Cert.WKvRefIdeal.nD Cert.WKvRefIdeal.τ).loc Cert.WKvRefIdeal.main_arg0) = m ((c.tc : Thread Cert.WKvRefIdeal.nD Cert.WKvRefIdeal.τ).loc Cert.WKvRefIdeal.main_arg0)
      ∧ r.2.mem ((c.tc : Thread Cert.WKvRefIdeal.nD Cert.WKvRefIdeal.τ).loc Cert.WKvRefIdeal.main_arg1) = m ((c.tc : Thread Cert.WKvRefIdeal.nD Cert.WKvRefIdeal.τ).loc Cert.WKvRefIdeal.main_arg1))
      ∧ r.2.sem = fun _ => 0)

def quiescent_WQ [hWQ : Cert.WQ.Facts] : Prop :=
  ∀ (m : (ℓ : Loc Cert.WQ.nD Cert.WQ.τ Cert.WQ.sig) → Buf (Elt Bits) ℓ) (g : Dev Cert.WQ.nD → PrngReg), Pre_WQ m →
    θ_run (Cert.WQ.defs (F := Bits)) (onTc (τ := Cert.WQ.τ) (Cert.WQ.main (F := Bits))) ⟨m, fun _ => 0, g⟩ (fun r => (∀ c : Dev Cert.WQ.nD,
      r.2.mem ((c.tc : Thread Cert.WQ.nD Cert.WQ.τ).loc Cert.WQ.main_arg0) = m ((c.tc : Thread Cert.WQ.nD Cert.WQ.τ).loc Cert.WQ.main_arg0)
      ∧ r.2.mem ((c.tc : Thread Cert.WQ.nD Cert.WQ.τ).loc Cert.WQ.main_arg1) = m ((c.tc : Thread Cert.WQ.nD Cert.WQ.τ).loc Cert.WQ.main_arg1))
      ∧ r.2.sem = fun _ => 0)

def quiescent_WQIdeal [hWQIdeal : Cert.WQIdeal.Facts] : Prop :=
  ∀ (m : (ℓ : Loc Cert.WQIdeal.nD Cert.WQIdeal.τ Cert.WQIdeal.sig) → Buf (Elt Ideal) ℓ) (g : Dev Cert.WQIdeal.nD → PrngReg), Pre_WQIdeal m →
    θ_run (Cert.WQIdeal.defs (F := Ideal)) (onTc (τ := Cert.WQIdeal.τ) (Cert.WQIdeal.main (F := Ideal))) ⟨m, fun _ => 0, g⟩ (fun r => (∀ c : Dev Cert.WQIdeal.nD,
      r.2.mem ((c.tc : Thread Cert.WQIdeal.nD Cert.WQIdeal.τ).loc Cert.WQIdeal.main_arg0) = m ((c.tc : Thread Cert.WQIdeal.nD Cert.WQIdeal.τ).loc Cert.WQIdeal.main_arg0)
      ∧ r.2.mem ((c.tc : Thread Cert.WQIdeal.nD Cert.WQIdeal.τ).loc Cert.WQIdeal.main_arg1) = m ((c.tc : Thread Cert.WQIdeal.nD Cert.WQIdeal.τ).loc Cert.WQIdeal.main_arg1))
      ∧ r.2.sem = fun _ => 0)

def quiescent_WQRefIdeal [hWQRefIdeal : Cert.WQRefIdeal.Facts] : Prop :=
  ∀ (m : (ℓ : Loc Cert.WQRefIdeal.nD Cert.WQRefIdeal.τ Cert.WQRefIdeal.sig) → Buf (Elt Ideal) ℓ) (g : Dev Cert.WQRefIdeal.nD → PrngReg), Pre_WQRefIdeal m →
    θ_run (Cert.WQRefIdeal.defs (F := Ideal)) (onTc (τ := Cert.WQRefIdeal.τ) (Cert.WQRefIdeal.main (F := Ideal))) ⟨m, fun _ => 0, g⟩ (fun r => (∀ c : Dev Cert.WQRefIdeal.nD,
      r.2.mem ((c.tc : Thread Cert.WQRefIdeal.nD Cert.WQRefIdeal.τ).loc Cert.WQRefIdeal.main_arg0) = m ((c.tc : Thread Cert.WQRefIdeal.nD Cert.WQRefIdeal.τ).loc Cert.WQRefIdeal.main_arg0)
      ∧ r.2.mem ((c.tc : Thread Cert.WQRefIdeal.nD Cert.WQRefIdeal.τ).loc Cert.WQRefIdeal.main_arg1) = m ((c.tc : Thread Cert.WQRefIdeal.nD Cert.WQRefIdeal.τ).loc Cert.WQRefIdeal.main_arg1))
      ∧ r.2.sem = fun _ => 0)

def quiescent_GWQ [hGWQ : Cert.GWQ.Facts] : Prop :=
  ∀ (m : (ℓ : Loc Cert.GWQ.nD Cert.GWQ.τ Cert.GWQ.sig) → Buf (Elt Bits) ℓ) (g : Dev Cert.GWQ.nD → PrngReg), Pre_GWQ m →
    θ_run (Cert.GWQ.defs (F := Bits)) (onTc (τ := Cert.GWQ.τ) (Cert.GWQ.main (F := Bits))) ⟨m, fun _ => 0, g⟩ (fun r => (∀ c : Dev Cert.GWQ.nD,
      r.2.mem ((c.tc : Thread Cert.GWQ.nD Cert.GWQ.τ).loc Cert.GWQ.main_arg0) = m ((c.tc : Thread Cert.GWQ.nD Cert.GWQ.τ).loc Cert.GWQ.main_arg0)
      ∧ r.2.mem ((c.tc : Thread Cert.GWQ.nD Cert.GWQ.τ).loc Cert.GWQ.main_arg1) = m ((c.tc : Thread Cert.GWQ.nD Cert.GWQ.τ).loc Cert.GWQ.main_arg1))
      ∧ r.2.sem = fun _ => 0)

def quiescent_GWQIdeal [hGWQIdeal : Cert.GWQIdeal.Facts] : Prop :=
  ∀ (m : (ℓ : Loc Cert.GWQIdeal.nD Cert.GWQIdeal.τ Cert.GWQIdeal.sig) → Buf (Elt Ideal) ℓ) (g : Dev Cert.GWQIdeal.nD → PrngReg), Pre_GWQIdeal m →
    θ_run (Cert.GWQIdeal.defs (F := Ideal)) (onTc (τ := Cert.GWQIdeal.τ) (Cert.GWQIdeal.main (F := Ideal))) ⟨m, fun _ => 0, g⟩ (fun r => (∀ c : Dev Cert.GWQIdeal.nD,
      r.2.mem ((c.tc : Thread Cert.GWQIdeal.nD Cert.GWQIdeal.τ).loc Cert.GWQIdeal.main_arg0) = m ((c.tc : Thread Cert.GWQIdeal.nD Cert.GWQIdeal.τ).loc Cert.GWQIdeal.main_arg0)
      ∧ r.2.mem ((c.tc : Thread Cert.GWQIdeal.nD Cert.GWQIdeal.τ).loc Cert.GWQIdeal.main_arg1) = m ((c.tc : Thread Cert.GWQIdeal.nD Cert.GWQIdeal.τ).loc Cert.GWQIdeal.main_arg1))
      ∧ r.2.sem = fun _ => 0)

def quiescent_GWQRefIdeal [hGWQRefIdeal : Cert.GWQRefIdeal.Facts] : Prop :=
  ∀ (m : (ℓ : Loc Cert.GWQRefIdeal.nD Cert.GWQRefIdeal.τ Cert.GWQRefIdeal.sig) → Buf (Elt Ideal) ℓ) (g : Dev Cert.GWQRefIdeal.nD → PrngReg), Pre_GWQRefIdeal m →
    θ_run (Cert.GWQRefIdeal.defs (F := Ideal)) (onTc (τ := Cert.GWQRefIdeal.τ) (Cert.GWQRefIdeal.main (F := Ideal))) ⟨m, fun _ => 0, g⟩ (fun r => (∀ c : Dev Cert.GWQRefIdeal.nD,
      r.2.mem ((c.tc : Thread Cert.GWQRefIdeal.nD Cert.GWQRefIdeal.τ).loc Cert.GWQRefIdeal.main_arg0) = m ((c.tc : Thread Cert.GWQRefIdeal.nD Cert.GWQRefIdeal.τ).loc Cert.GWQRefIdeal.main_arg0)
      ∧ r.2.mem ((c.tc : Thread Cert.GWQRefIdeal.nD Cert.GWQRefIdeal.τ).loc Cert.GWQRefIdeal.main_arg1) = m ((c.tc : Thread Cert.GWQRefIdeal.nD Cert.GWQRefIdeal.τ).loc Cert.GWQRefIdeal.main_arg1))
      ∧ r.2.sem = fun _ => 0)

def quiescent_GWKv [hGWKv : Cert.GWKv.Facts] : Prop :=
  ∀ (m : (ℓ : Loc Cert.GWKv.nD Cert.GWKv.τ Cert.GWKv.sig) → Buf (Elt Bits) ℓ) (g : Dev Cert.GWKv.nD → PrngReg), Pre_GWKv m →
    θ_run (Cert.GWKv.defs (F := Bits)) (onTc (τ := Cert.GWKv.τ) (Cert.GWKv.main (F := Bits))) ⟨m, fun _ => 0, g⟩ (fun r => (∀ c : Dev Cert.GWKv.nD,
      r.2.mem ((c.tc : Thread Cert.GWKv.nD Cert.GWKv.τ).loc Cert.GWKv.main_arg0) = m ((c.tc : Thread Cert.GWKv.nD Cert.GWKv.τ).loc Cert.GWKv.main_arg0)
      ∧ r.2.mem ((c.tc : Thread Cert.GWKv.nD Cert.GWKv.τ).loc Cert.GWKv.main_arg1) = m ((c.tc : Thread Cert.GWKv.nD Cert.GWKv.τ).loc Cert.GWKv.main_arg1))
      ∧ r.2.sem = fun _ => 0)

def quiescent_GWKvIdeal [hGWKvIdeal : Cert.GWKvIdeal.Facts] : Prop :=
  ∀ (m : (ℓ : Loc Cert.GWKvIdeal.nD Cert.GWKvIdeal.τ Cert.GWKvIdeal.sig) → Buf (Elt Ideal) ℓ) (g : Dev Cert.GWKvIdeal.nD → PrngReg), Pre_GWKvIdeal m →
    θ_run (Cert.GWKvIdeal.defs (F := Ideal)) (onTc (τ := Cert.GWKvIdeal.τ) (Cert.GWKvIdeal.main (F := Ideal))) ⟨m, fun _ => 0, g⟩ (fun r => (∀ c : Dev Cert.GWKvIdeal.nD,
      r.2.mem ((c.tc : Thread Cert.GWKvIdeal.nD Cert.GWKvIdeal.τ).loc Cert.GWKvIdeal.main_arg0) = m ((c.tc : Thread Cert.GWKvIdeal.nD Cert.GWKvIdeal.τ).loc Cert.GWKvIdeal.main_arg0)
      ∧ r.2.mem ((c.tc : Thread Cert.GWKvIdeal.nD Cert.GWKvIdeal.τ).loc Cert.GWKvIdeal.main_arg1) = m ((c.tc : Thread Cert.GWKvIdeal.nD Cert.GWKvIdeal.τ).loc Cert.GWKvIdeal.main_arg1))
      ∧ r.2.sem = fun _ => 0)

def quiescent_GWKvRefIdeal [hGWKvRefIdeal : Cert.GWKvRefIdeal.Facts] : Prop :=
  ∀ (m : (ℓ : Loc Cert.GWKvRefIdeal.nD Cert.GWKvRefIdeal.τ Cert.GWKvRefIdeal.sig) → Buf (Elt Ideal) ℓ) (g : Dev Cert.GWKvRefIdeal.nD → PrngReg), Pre_GWKvRefIdeal m →
    θ_run (Cert.GWKvRefIdeal.defs (F := Ideal)) (onTc (τ := Cert.GWKvRefIdeal.τ) (Cert.GWKvRefIdeal.main (F := Ideal))) ⟨m, fun _ => 0, g⟩ (fun r => (∀ c : Dev Cert.GWKvRefIdeal.nD,
      r.2.mem ((c.tc : Thread Cert.GWKvRefIdeal.nD Cert.GWKvRefIdeal.τ).loc Cert.GWKvRefIdeal.main_arg0) = m ((c.tc : Thread Cert.GWKvRefIdeal.nD Cert.GWKvRefIdeal.τ).loc Cert.GWKvRefIdeal.main_arg0)
      ∧ r.2.mem ((c.tc : Thread Cert.GWKvRefIdeal.nD Cert.GWKvRefIdeal.τ).loc Cert.GWKvRefIdeal.main_arg1) = m ((c.tc : Thread Cert.GWKvRefIdeal.nD Cert.GWKvRefIdeal.τ).loc Cert.GWKvRefIdeal.main_arg1))
      ∧ r.2.sem = fun _ => 0)

def quiescent_DQn [hDQn : Cert.DQn.Facts] : Prop :=
  ∀ (m : (ℓ : Loc Cert.DQn.nD Cert.DQn.τ Cert.DQn.sig) → Buf (Elt Bits) ℓ) (g : Dev Cert.DQn.nD → PrngReg), Pre_DQn m →
    θ_run (Cert.DQn.defs (F := Bits)) (onTc (τ := Cert.DQn.τ) (Cert.DQn.main (F := Bits))) ⟨m, fun _ => 0, g⟩ (fun r => (∀ c : Dev Cert.DQn.nD,
      r.2.mem ((c.tc : Thread Cert.DQn.nD Cert.DQn.τ).loc Cert.DQn.main_arg0) = m ((c.tc : Thread Cert.DQn.nD Cert.DQn.τ).loc Cert.DQn.main_arg0)
      ∧ r.2.mem ((c.tc : Thread Cert.DQn.nD Cert.DQn.τ).loc Cert.DQn.main_arg1) = m ((c.tc : Thread Cert.DQn.nD Cert.DQn.τ).loc Cert.DQn.main_arg1))
      ∧ r.2.sem = fun _ => 0)

def quiescent_DQnIdeal [hDQnIdeal : Cert.DQnIdeal.Facts] : Prop :=
  ∀ (m : (ℓ : Loc Cert.DQnIdeal.nD Cert.DQnIdeal.τ Cert.DQnIdeal.sig) → Buf (Elt Ideal) ℓ) (g : Dev Cert.DQnIdeal.nD → PrngReg), Pre_DQnIdeal m →
    θ_run (Cert.DQnIdeal.defs (F := Ideal)) (onTc (τ := Cert.DQnIdeal.τ) (Cert.DQnIdeal.main (F := Ideal))) ⟨m, fun _ => 0, g⟩ (fun r => (∀ c : Dev Cert.DQnIdeal.nD,
      r.2.mem ((c.tc : Thread Cert.DQnIdeal.nD Cert.DQnIdeal.τ).loc Cert.DQnIdeal.main_arg0) = m ((c.tc : Thread Cert.DQnIdeal.nD Cert.DQnIdeal.τ).loc Cert.DQnIdeal.main_arg0)
      ∧ r.2.mem ((c.tc : Thread Cert.DQnIdeal.nD Cert.DQnIdeal.τ).loc Cert.DQnIdeal.main_arg1) = m ((c.tc : Thread Cert.DQnIdeal.nD Cert.DQnIdeal.τ).loc Cert.DQnIdeal.main_arg1))
      ∧ r.2.sem = fun _ => 0)

def quiescent_DQnRefIdeal [hDQnRefIdeal : Cert.DQnRefIdeal.Facts] : Prop :=
  ∀ (m : (ℓ : Loc Cert.DQnRefIdeal.nD Cert.DQnRefIdeal.τ Cert.DQnRefIdeal.sig) → Buf (Elt Ideal) ℓ) (g : Dev Cert.DQnRefIdeal.nD → PrngReg), Pre_DQnRefIdeal m →
    θ_run (Cert.DQnRefIdeal.defs (F := Ideal)) (onTc (τ := Cert.DQnRefIdeal.τ) (Cert.DQnRefIdeal.main (F := Ideal))) ⟨m, fun _ => 0, g⟩ (fun r => (∀ c : Dev Cert.DQnRefIdeal.nD,
      r.2.mem ((c.tc : Thread Cert.DQnRefIdeal.nD Cert.DQnRefIdeal.τ).loc Cert.DQnRefIdeal.main_arg0) = m ((c.tc : Thread Cert.DQnRefIdeal.nD Cert.DQnRefIdeal.τ).loc Cert.DQnRefIdeal.main_arg0)
      ∧ r.2.mem ((c.tc : Thread Cert.DQnRefIdeal.nD Cert.DQnRefIdeal.τ).loc Cert.DQnRefIdeal.main_arg1) = m ((c.tc : Thread Cert.DQnRefIdeal.nD Cert.DQnRefIdeal.τ).loc Cert.DQnRefIdeal.main_arg1))
      ∧ r.2.sem = fun _ => 0)

def quiescent_DKvn [hDKvn : Cert.DKvn.Facts] : Prop :=
  ∀ (m : (ℓ : Loc Cert.DKvn.nD Cert.DKvn.τ Cert.DKvn.sig) → Buf (Elt Bits) ℓ) (g : Dev Cert.DKvn.nD → PrngReg), Pre_DKvn m →
    θ_run (Cert.DKvn.defs (F := Bits)) (onTc (τ := Cert.DKvn.τ) (Cert.DKvn.main (F := Bits))) ⟨m, fun _ => 0, g⟩ (fun r => (∀ c : Dev Cert.DKvn.nD,
      r.2.mem ((c.tc : Thread Cert.DKvn.nD Cert.DKvn.τ).loc Cert.DKvn.main_arg0) = m ((c.tc : Thread Cert.DKvn.nD Cert.DKvn.τ).loc Cert.DKvn.main_arg0)
      ∧ r.2.mem ((c.tc : Thread Cert.DKvn.nD Cert.DKvn.τ).loc Cert.DKvn.main_arg1) = m ((c.tc : Thread Cert.DKvn.nD Cert.DKvn.τ).loc Cert.DKvn.main_arg1))
      ∧ r.2.sem = fun _ => 0)

def quiescent_DKvnIdeal [hDKvnIdeal : Cert.DKvnIdeal.Facts] : Prop :=
  ∀ (m : (ℓ : Loc Cert.DKvnIdeal.nD Cert.DKvnIdeal.τ Cert.DKvnIdeal.sig) → Buf (Elt Ideal) ℓ) (g : Dev Cert.DKvnIdeal.nD → PrngReg), Pre_DKvnIdeal m →
    θ_run (Cert.DKvnIdeal.defs (F := Ideal)) (onTc (τ := Cert.DKvnIdeal.τ) (Cert.DKvnIdeal.main (F := Ideal))) ⟨m, fun _ => 0, g⟩ (fun r => (∀ c : Dev Cert.DKvnIdeal.nD,
      r.2.mem ((c.tc : Thread Cert.DKvnIdeal.nD Cert.DKvnIdeal.τ).loc Cert.DKvnIdeal.main_arg0) = m ((c.tc : Thread Cert.DKvnIdeal.nD Cert.DKvnIdeal.τ).loc Cert.DKvnIdeal.main_arg0)
      ∧ r.2.mem ((c.tc : Thread Cert.DKvnIdeal.nD Cert.DKvnIdeal.τ).loc Cert.DKvnIdeal.main_arg1) = m ((c.tc : Thread Cert.DKvnIdeal.nD Cert.DKvnIdeal.τ).loc Cert.DKvnIdeal.main_arg1))
      ∧ r.2.sem = fun _ => 0)

def quiescent_DKvnRefIdeal [hDKvnRefIdeal : Cert.DKvnRefIdeal.Facts] : Prop :=
  ∀ (m : (ℓ : Loc Cert.DKvnRefIdeal.nD Cert.DKvnRefIdeal.τ Cert.DKvnRefIdeal.sig) → Buf (Elt Ideal) ℓ) (g : Dev Cert.DKvnRefIdeal.nD → PrngReg), Pre_DKvnRefIdeal m →
    θ_run (Cert.DKvnRefIdeal.defs (F := Ideal)) (onTc (τ := Cert.DKvnRefIdeal.τ) (Cert.DKvnRefIdeal.main (F := Ideal))) ⟨m, fun _ => 0, g⟩ (fun r => (∀ c : Dev Cert.DKvnRefIdeal.nD,
      r.2.mem ((c.tc : Thread Cert.DKvnRefIdeal.nD Cert.DKvnRefIdeal.τ).loc Cert.DKvnRefIdeal.main_arg0) = m ((c.tc : Thread Cert.DKvnRefIdeal.nD Cert.DKvnRefIdeal.τ).loc Cert.DKvnRefIdeal.main_arg0)
      ∧ r.2.mem ((c.tc : Thread Cert.DKvnRefIdeal.nD Cert.DKvnRefIdeal.τ).loc Cert.DKvnRefIdeal.main_arg1) = m ((c.tc : Thread Cert.DKvnRefIdeal.nD Cert.DKvnRefIdeal.τ).loc Cert.DKvnRefIdeal.main_arg1))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1)
      ∧ r.2.mem ((c.tc : Thread Cert.Att.nD Cert.Att.τ).loc Cert.Att.main_arg2) = m ((c.tc : Thread Cert.Att.nD Cert.Att.τ).loc Cert.Att.main_arg2))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2))
      ∧ r.2.sem = fun _ => 0)

def quiescent_AttIdeal_pre_finite_att [hAttIdeal : Cert.AttIdeal.Facts] [hPre_finite_att : Cert.Pre_finite_att.Facts] : Prop :=
  ∀ (m : (ℓ : Loc Cert.AttIdeal.nD Cert.AttIdeal.τ Cert.AttIdeal.sig) → Buf (Elt Ideal) ℓ) (g : Dev Cert.AttIdeal.nD → PrngReg), Pre_AttIdeal_finite_att m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2))
      ∧ r.2.sem = fun _ => 0)

def quiescent_AttRefIdeal_pre_finite_att [hAttRefIdeal : Cert.AttRefIdeal.Facts] [hPre_finite_att : Cert.Pre_finite_att.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal_finite_att m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2))
      ∧ r.2.sem = fun _ => 0)

def quiescent_Res [hRes : Cert.Res.Facts] : Prop :=
  ∀ (m : (ℓ : Loc Cert.Res.nD Cert.Res.τ Cert.Res.sig) → Buf (Elt Bits) ℓ) (g : Dev Cert.Res.nD → PrngReg), Pre_Res m →
    θ_run (Cert.Res.defs (F := Bits)) (onTc (τ := Cert.Res.τ) (Cert.Res.main (F := Bits))) ⟨m, fun _ => 0, g⟩ (fun r => (∀ c : Dev Cert.Res.nD,
      r.2.mem ((c.tc : Thread Cert.Res.nD Cert.Res.τ).loc Cert.Res.main_arg0) = m ((c.tc : Thread Cert.Res.nD Cert.Res.τ).loc Cert.Res.main_arg0)
      ∧ r.2.mem ((c.tc : Thread Cert.Res.nD Cert.Res.τ).loc Cert.Res.main_arg1) = m ((c.tc : Thread Cert.Res.nD Cert.Res.τ).loc Cert.Res.main_arg1)
      ∧ r.2.mem ((c.tc : Thread Cert.Res.nD Cert.Res.τ).loc Cert.Res.main_arg2) = m ((c.tc : Thread Cert.Res.nD Cert.Res.τ).loc Cert.Res.main_arg2))
      ∧ r.2.sem = fun _ => 0)

def quiescent_ResIdeal [hResIdeal : Cert.ResIdeal.Facts] : Prop :=
  ∀ (m : (ℓ : Loc Cert.ResIdeal.nD Cert.ResIdeal.τ Cert.ResIdeal.sig) → Buf (Elt Ideal) ℓ) (g : Dev Cert.ResIdeal.nD → PrngReg), Pre_ResIdeal m →
    θ_run (Cert.ResIdeal.defs (F := Ideal)) (onTc (τ := Cert.ResIdeal.τ) (Cert.ResIdeal.main (F := Ideal))) ⟨m, fun _ => 0, g⟩ (fun r => (∀ c : Dev Cert.ResIdeal.nD,
      r.2.mem ((c.tc : Thread Cert.ResIdeal.nD Cert.ResIdeal.τ).loc Cert.ResIdeal.main_arg0) = m ((c.tc : Thread Cert.ResIdeal.nD Cert.ResIdeal.τ).loc Cert.ResIdeal.main_arg0)
      ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
      ∧ r.2.mem ((c.tc : Thread Cert.ResIdeal.nD Cert.ResIdeal.τ).loc Cert.ResIdeal.main_arg2) = m ((c.tc : Thread Cert.ResIdeal.nD Cert.ResIdeal.τ).loc Cert.ResIdeal.main_arg2))
      ∧ r.2.sem = fun _ => 0)

def quiescent_ResRefIdeal [hResRefIdeal : Cert.ResRefIdeal.Facts] : Prop :=
  ∀ (m : (ℓ : Loc Cert.ResRefIdeal.nD Cert.ResRefIdeal.τ Cert.ResRefIdeal.sig) → Buf (Elt Ideal) ℓ) (g : Dev Cert.ResRefIdeal.nD → PrngReg), Pre_ResRefIdeal m →
    θ_run (Cert.ResRefIdeal.defs (F := Ideal)) (onTc (τ := Cert.ResRefIdeal.τ) (Cert.ResRefIdeal.main (F := Ideal))) ⟨m, fun _ => 0, g⟩ (fun r => (∀ c : Dev Cert.ResRefIdeal.nD,
      r.2.mem ((c.tc : Thread Cert.ResRefIdeal.nD Cert.ResRefIdeal.τ).loc Cert.ResRefIdeal.main_arg0) = m ((c.tc : Thread Cert.ResRefIdeal.nD Cert.ResRefIdeal.τ).loc Cert.ResRefIdeal.main_arg0)
      ∧ r.2.mem ((c.tc : Thread Cert.ResRefIdeal.nD Cert.ResRefIdeal.τ).loc Cert.ResRefIdeal.main_arg1) = m ((c.tc : Thread Cert.ResRefIdeal.nD Cert.ResRefIdeal.τ).loc Cert.ResRefIdeal.main_arg1)
      ∧ r.2.mem ((c.tc : Thread Cert.ResRefIdeal.nD Cert.ResRefIdeal.τ).loc Cert.ResRefIdeal.main_arg2) = m ((c.tc : Thread Cert.ResRefIdeal.nD Cert.ResRefIdeal.τ).loc Cert.ResRefIdeal.main_arg2))
      ∧ r.2.sem = fun _ => 0)

def quiescent_MixRes [hMixRes : Cert.MixRes.Facts] : Prop :=
  ∀ (m : (ℓ : Loc Cert.MixRes.nD Cert.MixRes.τ Cert.MixRes.sig) → Buf (Elt Bits) ℓ) (g : Dev Cert.MixRes.nD → PrngReg), Pre_MixRes m →
    θ_run (Cert.MixRes.defs (F := Bits)) (onTc (τ := Cert.MixRes.τ) (Cert.MixRes.main (F := Bits))) ⟨m, fun _ => 0, g⟩ (fun r => (∀ c : Dev Cert.MixRes.nD,
      r.2.mem ((c.tc : Thread Cert.MixRes.nD Cert.MixRes.τ).loc Cert.MixRes.main_arg0) = m ((c.tc : Thread Cert.MixRes.nD Cert.MixRes.τ).loc Cert.MixRes.main_arg0)
      ∧ r.2.mem ((c.tc : Thread Cert.MixRes.nD Cert.MixRes.τ).loc Cert.MixRes.main_arg1) = m ((c.tc : Thread Cert.MixRes.nD Cert.MixRes.τ).loc Cert.MixRes.main_arg1)
      ∧ r.2.mem ((c.tc : Thread Cert.MixRes.nD Cert.MixRes.τ).loc Cert.MixRes.main_arg2) = m ((c.tc : Thread Cert.MixRes.nD Cert.MixRes.τ).loc Cert.MixRes.main_arg2)
      ∧ r.2.mem ((c.tc : Thread Cert.MixRes.nD Cert.MixRes.τ).loc Cert.MixRes.main_arg3) = m ((c.tc : Thread Cert.MixRes.nD Cert.MixRes.τ).loc Cert.MixRes.main_arg3))
      ∧ r.2.sem = fun _ => 0)

def quiescent_MixResIdeal [hMixResIdeal : Cert.MixResIdeal.Facts] : Prop :=
  ∀ (m : (ℓ : Loc Cert.MixResIdeal.nD Cert.MixResIdeal.τ Cert.MixResIdeal.sig) → Buf (Elt Ideal) ℓ) (g : Dev Cert.MixResIdeal.nD → PrngReg), Pre_MixResIdeal m →
    θ_run (Cert.MixResIdeal.defs (F := Ideal)) (onTc (τ := Cert.MixResIdeal.τ) (Cert.MixResIdeal.main (F := Ideal))) ⟨m, fun _ => 0, g⟩ (fun r => (∀ c : Dev Cert.MixResIdeal.nD,
      r.2.mem ((c.tc : Thread Cert.MixResIdeal.nD Cert.MixResIdeal.τ).loc Cert.MixResIdeal.main_arg0) = m ((c.tc : Thread Cert.MixResIdeal.nD Cert.MixResIdeal.τ).loc Cert.MixResIdeal.main_arg0)
      ∧ r.2.mem ((c.tc : Thread Cert.MixResIdeal.nD Cert.MixResIdeal.τ).loc Cert.MixResIdeal.main_arg1) = m ((c.tc : Thread Cert.MixResIdeal.nD Cert.MixResIdeal.τ).loc Cert.MixResIdeal.main_arg1)
      ∧ r.2.mem ((c.tc : Thread Cert.MixResIdeal.nD Cert.MixResIdeal.τ).loc Cert.MixResIdeal.main_arg2) = m ((c.tc : Thread Cert.MixResIdeal.nD Cert.MixResIdeal.τ).loc Cert.MixResIdeal.main_arg2)
      ∧ r.2.mem ((c.tc : Thread Cert.MixResIdeal.nD Cert.MixResIdeal.τ).loc Cert.MixResIdeal.main_arg3) = m ((c.tc : Thread Cert.MixResIdeal.nD Cert.MixResIdeal.τ).loc Cert.MixResIdeal.main_arg3))
      ∧ r.2.sem = fun _ => 0)

def quiescent_MixResRefIdeal [hMixResRefIdeal : Cert.MixResRefIdeal.Facts] : Prop :=
  ∀ (m : (ℓ : Loc Cert.MixResRefIdeal.nD Cert.MixResRefIdeal.τ Cert.MixResRefIdeal.sig) → Buf (Elt Ideal) ℓ) (g : Dev Cert.MixResRefIdeal.nD → PrngReg), Pre_MixResRefIdeal m →
    θ_run (Cert.MixResRefIdeal.defs (F := Ideal)) (onTc (τ := Cert.MixResRefIdeal.τ) (Cert.MixResRefIdeal.main (F := Ideal))) ⟨m, fun _ => 0, g⟩ (fun r => (∀ c : Dev Cert.MixResRefIdeal.nD,
      r.2.mem ((c.tc : Thread Cert.MixResRefIdeal.nD Cert.MixResRefIdeal.τ).loc Cert.MixResRefIdeal.main_arg0) = m ((c.tc : Thread Cert.MixResRefIdeal.nD Cert.MixResRefIdeal.τ).loc Cert.MixResRefIdeal.main_arg0)
      ∧ r.2.mem ((c.tc : Thread Cert.MixResRefIdeal.nD Cert.MixResRefIdeal.τ).loc Cert.MixResRefIdeal.main_arg1) = m ((c.tc : Thread Cert.MixResRefIdeal.nD Cert.MixResRefIdeal.τ).loc Cert.MixResRefIdeal.main_arg1)
      ∧ r.2.mem ((c.tc : Thread Cert.MixResRefIdeal.nD Cert.MixResRefIdeal.τ).loc Cert.MixResRefIdeal.main_arg2) = m ((c.tc : Thread Cert.MixResRefIdeal.nD Cert.MixResRefIdeal.τ).loc Cert.MixResRefIdeal.main_arg2)
      ∧ r.2.mem ((c.tc : Thread Cert.MixResRefIdeal.nD Cert.MixResRefIdeal.τ).loc Cert.MixResRefIdeal.main_arg3) = m ((c.tc : Thread Cert.MixResRefIdeal.nD Cert.MixResRefIdeal.τ).loc Cert.MixResRefIdeal.main_arg3))
      ∧ r.2.sem = fun _ => 0)

def quiescent_FfnRes [hFfnRes : Cert.FfnRes.Facts] : Prop :=
  ∀ (m : (ℓ : Loc Cert.FfnRes.nD Cert.FfnRes.τ Cert.FfnRes.sig) → Buf (Elt Bits) ℓ) (g : Dev Cert.FfnRes.nD → PrngReg), Pre_FfnRes m →
    θ_run (Cert.FfnRes.defs (F := Bits)) (onTc (τ := Cert.FfnRes.τ) (Cert.FfnRes.main (F := Bits))) ⟨m, fun _ => 0, g⟩ (fun r => (∀ c : Dev Cert.FfnRes.nD,
      r.2.mem ((c.tc : Thread Cert.FfnRes.nD Cert.FfnRes.τ).loc Cert.FfnRes.main_arg0) = m ((c.tc : Thread Cert.FfnRes.nD Cert.FfnRes.τ).loc Cert.FfnRes.main_arg0)
      ∧ r.2.mem ((c.tc : Thread Cert.FfnRes.nD Cert.FfnRes.τ).loc Cert.FfnRes.main_arg1) = m ((c.tc : Thread Cert.FfnRes.nD Cert.FfnRes.τ).loc Cert.FfnRes.main_arg1)
      ∧ r.2.mem ((c.tc : Thread Cert.FfnRes.nD Cert.FfnRes.τ).loc Cert.FfnRes.main_arg2) = m ((c.tc : Thread Cert.FfnRes.nD Cert.FfnRes.τ).loc Cert.FfnRes.main_arg2)
      ∧ r.2.mem ((c.tc : Thread Cert.FfnRes.nD Cert.FfnRes.τ).loc Cert.FfnRes.main_arg3) = m ((c.tc : Thread Cert.FfnRes.nD Cert.FfnRes.τ).loc Cert.FfnRes.main_arg3)
      ∧ r.2.mem ((c.tc : Thread Cert.FfnRes.nD Cert.FfnRes.τ).loc Cert.FfnRes.main_arg4) = m ((c.tc : Thread Cert.FfnRes.nD Cert.FfnRes.τ).loc Cert.FfnRes.main_arg4))
      ∧ r.2.sem = fun _ => 0)

def quiescent_FfnResIdeal [hFfnResIdeal : Cert.FfnResIdeal.Facts] : Prop :=
  ∀ (m : (ℓ : Loc Cert.FfnResIdeal.nD Cert.FfnResIdeal.τ Cert.FfnResIdeal.sig) → Buf (Elt Ideal) ℓ) (g : Dev Cert.FfnResIdeal.nD → PrngReg), Pre_FfnResIdeal m →
    θ_run (Cert.FfnResIdeal.defs (F := Ideal)) (onTc (τ := Cert.FfnResIdeal.τ) (Cert.FfnResIdeal.main (F := Ideal))) ⟨m, fun _ => 0, g⟩ (fun r => (∀ c : Dev Cert.FfnResIdeal.nD,
      r.2.mem ((c.tc : Thread Cert.FfnResIdeal.nD Cert.FfnResIdeal.τ).loc Cert.FfnResIdeal.main_arg0) = m ((c.tc : Thread Cert.FfnResIdeal.nD Cert.FfnResIdeal.τ).loc Cert.FfnResIdeal.main_arg0)
      ∧ r.2.mem ((c.tc : Thread Cert.FfnResIdeal.nD Cert.FfnResIdeal.τ).loc Cert.FfnResIdeal.main_arg1) = m ((c.tc : Thread Cert.FfnResIdeal.nD Cert.FfnResIdeal.τ).loc Cert.FfnResIdeal.main_arg1)
      ∧ r.2.mem ((c.tc : Thread Cert.FfnResIdeal.nD Cert.FfnResIdeal.τ).loc Cert.FfnResIdeal.main_arg2) = m ((c.tc : Thread Cert.FfnResIdeal.nD Cert.FfnResIdeal.τ).loc Cert.FfnResIdeal.main_arg2)
      ∧ r.2.mem ((c.tc : Thread Cert.FfnResIdeal.nD Cert.FfnResIdeal.τ).loc Cert.FfnResIdeal.main_arg3) = m ((c.tc : Thread Cert.FfnResIdeal.nD Cert.FfnResIdeal.τ).loc Cert.FfnResIdeal.main_arg3)
      ∧ r.2.mem ((c.tc : Thread Cert.FfnResIdeal.nD Cert.FfnResIdeal.τ).loc Cert.FfnResIdeal.main_arg4) = m ((c.tc : Thread Cert.FfnResIdeal.nD Cert.FfnResIdeal.τ).loc Cert.FfnResIdeal.main_arg4))
      ∧ r.2.sem = fun _ => 0)

def quiescent_FfnResRefIdeal [hFfnResRefIdeal : Cert.FfnResRefIdeal.Facts] : Prop :=
  ∀ (m : (ℓ : Loc Cert.FfnResRefIdeal.nD Cert.FfnResRefIdeal.τ Cert.FfnResRefIdeal.sig) → Buf (Elt Ideal) ℓ) (g : Dev Cert.FfnResRefIdeal.nD → PrngReg), Pre_FfnResRefIdeal m →
    θ_run (Cert.FfnResRefIdeal.defs (F := Ideal)) (onTc (τ := Cert.FfnResRefIdeal.τ) (Cert.FfnResRefIdeal.main (F := Ideal))) ⟨m, fun _ => 0, g⟩ (fun r => (∀ c : Dev Cert.FfnResRefIdeal.nD,
      r.2.mem ((c.tc : Thread Cert.FfnResRefIdeal.nD Cert.FfnResRefIdeal.τ).loc Cert.FfnResRefIdeal.main_arg0) = m ((c.tc : Thread Cert.FfnResRefIdeal.nD Cert.FfnResRefIdeal.τ).loc Cert.FfnResRefIdeal.main_arg0)
      ∧ r.2.mem ((c.tc : Thread Cert.FfnResRefIdeal.nD Cert.FfnResRefIdeal.τ).loc Cert.FfnResRefIdeal.main_arg1) = m ((c.tc : Thread Cert.FfnResRefIdeal.nD Cert.FfnResRefIdeal.τ).loc Cert.FfnResRefIdeal.main_arg1)
      ∧ r.2.mem ((c.tc : Thread Cert.FfnResRefIdeal.nD Cert.FfnResRefIdeal.τ).loc Cert.FfnResRefIdeal.main_arg2) = m ((c.tc : Thread Cert.FfnResRefIdeal.nD Cert.FfnResRefIdeal.τ).loc Cert.FfnResRefIdeal.main_arg2)
      ∧ r.2.mem ((c.tc : Thread Cert.FfnResRefIdeal.nD Cert.FfnResRefIdeal.τ).loc Cert.FfnResRefIdeal.main_arg3) = m ((c.tc : Thread Cert.FfnResRefIdeal.nD Cert.FfnResRefIdeal.τ).loc Cert.FfnResRefIdeal.main_arg3)
      ∧ r.2.mem ((c.tc : Thread Cert.FfnResRefIdeal.nD Cert.FfnResRefIdeal.τ).loc Cert.FfnResRefIdeal.main_arg4) = m ((c.tc : Thread Cert.FfnResRefIdeal.nD Cert.FfnResRefIdeal.τ).loc Cert.FfnResRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)) (v2 : (c : Dev Cert.KernelIdeal.nD) → Buf (Elt Ideal) ((c.tc : Thread Cert.KernelIdeal.nD Cert.KernelIdeal.τ).loc Cert.KernelIdeal.main_v43_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_v43_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_v147) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Mid_MidIdeal : Prop :=
  True

def algebraic_MidIdeal_MidRefIdeal_pre_finite_ffn [hMidIdeal : Cert.MidIdeal.Facts] [hMidRefIdeal : Cert.MidRefIdeal.Facts] [hPre_finite_ffn : Cert.Pre_finite_ffn.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal_finite_ffn m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)) →
    ∃ (v0 : (c : Dev Cert.MidIdeal.nD) → Buf (Elt Ideal) ((c.tc : Thread Cert.MidIdeal.nD Cert.MidIdeal.τ).loc Cert.MidIdeal.main_v5_0)) (v1 : (c : Dev Cert.MidIdeal.nD) → Buf (Elt Ideal) ((c.tc : Thread Cert.MidIdeal.nD Cert.MidIdeal.τ).loc Cert.MidIdeal.main_v5_1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v5_0) = v0 c
          ∧ r.2.mem ((c.tc : Thread Cert.MidIdeal.nD Cert.MidIdeal.τ).loc Cert.MidIdeal.main_v5_1) = v1 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v26) = v0 c
          ∧ r.2.mem ((c.tc : Thread Cert.MidRefIdeal.nD Cert.MidRefIdeal.τ).loc Cert.MidRefIdeal.main_v27) = v1 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v9) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2))

def preserves_GIn_GInIdeal : Prop :=
  True

def algebraic_GInIdeal_GInRefIdeal [hGInIdeal : Cert.GInIdeal.Facts] [hGInRefIdeal : Cert.GInRefIdeal.Facts] : Prop :=
  ∀ (m : (ℓ : Loc Cert.GInIdeal.nD Cert.GInIdeal.τ Cert.GInIdeal.sig) → Buf (Elt Ideal) ℓ) (g : Dev Cert.GInIdeal.nD → PrngReg)
    (m' : (ℓ : Loc Cert.GInRefIdeal.nD Cert.GInRefIdeal.τ Cert.GInRefIdeal.sig) → Buf (Elt Ideal) ℓ) (g' : Dev Cert.GInRefIdeal.nD → PrngReg), Pre_GInIdeal m →
    (∀ c : Dev Cert.GInIdeal.nD,
      m' ((c.tc : Thread Cert.GInRefIdeal.nD Cert.GInRefIdeal.τ).loc Cert.GInRefIdeal.main_arg0) = m ((c.tc : Thread Cert.GInIdeal.nD Cert.GInIdeal.τ).loc Cert.GInIdeal.main_arg0)
      ∧ m' ((c.tc : Thread Cert.GInRefIdeal.nD Cert.GInRefIdeal.τ).loc Cert.GInRefIdeal.main_arg1) = m ((c.tc : Thread Cert.GInIdeal.nD Cert.GInIdeal.τ).loc Cert.GInIdeal.main_arg1)) →
    ∃ (v0 : (c : Dev Cert.GInIdeal.nD) → Buf (Elt Ideal) ((c.tc : Thread Cert.GInIdeal.nD Cert.GInIdeal.τ).loc Cert.GInIdeal.main_v0)),
      θ_run (Cert.GInIdeal.defs (F := Ideal)) (onTc (τ := Cert.GInIdeal.τ) (Cert.GInIdeal.main (F := Ideal))) ⟨m, fun _ => 0, g⟩ (fun r => ∀ c : Dev Cert.GInIdeal.nD,
          r.2.mem ((c.tc : Thread Cert.GInIdeal.nD Cert.GInIdeal.τ).loc Cert.GInIdeal.main_v0) = v0 c
          ∧ r.2.mem ((c.tc : Thread Cert.GInIdeal.nD Cert.GInIdeal.τ).loc Cert.GInIdeal.main_arg0) = m ((c.tc : Thread Cert.GInIdeal.nD Cert.GInIdeal.τ).loc Cert.GInIdeal.main_arg0)
          ∧ r.2.mem ((c.tc : Thread Cert.GInIdeal.nD Cert.GInIdeal.τ).loc Cert.GInIdeal.main_arg1) = m ((c.tc : Thread Cert.GInIdeal.nD Cert.GInIdeal.τ).loc Cert.GInIdeal.main_arg1))
      ∧ θ_run (Cert.GInRefIdeal.defs (F := Ideal)) (onTc (τ := Cert.GInRefIdeal.τ) (Cert.GInRefIdeal.main (F := Ideal))) ⟨m', fun _ => 0, g'⟩ (fun r => ∀ c : Dev Cert.GInRefIdeal.nD,
          r.2.mem ((c.tc : Thread Cert.GInRefIdeal.nD Cert.GInRefIdeal.τ).loc Cert.GInRefIdeal.main_v6) = v0 c
          ∧ r.2.mem ((c.tc : Thread Cert.GInRefIdeal.nD Cert.GInRefIdeal.τ).loc Cert.GInRefIdeal.main_arg0) = m' ((c.tc : Thread Cert.GInRefIdeal.nD Cert.GInRefIdeal.τ).loc Cert.GInRefIdeal.main_arg0)
          ∧ r.2.mem ((c.tc : Thread Cert.GInRefIdeal.nD Cert.GInRefIdeal.τ).loc Cert.GInRefIdeal.main_arg1) = m' ((c.tc : Thread Cert.GInRefIdeal.nD Cert.GInRefIdeal.τ).loc Cert.GInRefIdeal.main_arg1))

def preserves_GOut_GOutIdeal : Prop :=
  True

def algebraic_GOutIdeal_GOutRefIdeal [hGOutIdeal : Cert.GOutIdeal.Facts] [hGOutRefIdeal : Cert.GOutRefIdeal.Facts] : Prop :=
  ∀ (m : (ℓ : Loc Cert.GOutIdeal.nD Cert.GOutIdeal.τ Cert.GOutIdeal.sig) → Buf (Elt Ideal) ℓ) (g : Dev Cert.GOutIdeal.nD → PrngReg)
    (m' : (ℓ : Loc Cert.GOutRefIdeal.nD Cert.GOutRefIdeal.τ Cert.GOutRefIdeal.sig) → Buf (Elt Ideal) ℓ) (g' : Dev Cert.GOutRefIdeal.nD → PrngReg), Pre_GOutIdeal m →
    (∀ c : Dev Cert.GOutIdeal.nD,
      m' ((c.tc : Thread Cert.GOutRefIdeal.nD Cert.GOutRefIdeal.τ).loc Cert.GOutRefIdeal.main_arg0) = m ((c.tc : Thread Cert.GOutIdeal.nD Cert.GOutIdeal.τ).loc Cert.GOutIdeal.main_arg0)
      ∧ m' ((c.tc : Thread Cert.GOutRefIdeal.nD Cert.GOutRefIdeal.τ).loc Cert.GOutRefIdeal.main_arg1) = m ((c.tc : Thread Cert.GOutIdeal.nD Cert.GOutIdeal.τ).loc Cert.GOutIdeal.main_arg1)) →
    ∃ (v0 : (c : Dev Cert.GOutIdeal.nD) → Buf (Elt Ideal) ((c.tc : Thread Cert.GOutIdeal.nD Cert.GOutIdeal.τ).loc Cert.GOutIdeal.main_v0)),
      θ_run (Cert.GOutIdeal.defs (F := Ideal)) (onTc (τ := Cert.GOutIdeal.τ) (Cert.GOutIdeal.main (F := Ideal))) ⟨m, fun _ => 0, g⟩ (fun r => ∀ c : Dev Cert.GOutIdeal.nD,
          r.2.mem ((c.tc : Thread Cert.GOutIdeal.nD Cert.GOutIdeal.τ).loc Cert.GOutIdeal.main_v0) = v0 c
          ∧ r.2.mem ((c.tc : Thread Cert.GOutIdeal.nD Cert.GOutIdeal.τ).loc Cert.GOutIdeal.main_arg0) = m ((c.tc : Thread Cert.GOutIdeal.nD Cert.GOutIdeal.τ).loc Cert.GOutIdeal.main_arg0)
          ∧ r.2.mem ((c.tc : Thread Cert.GOutIdeal.nD Cert.GOutIdeal.τ).loc Cert.GOutIdeal.main_arg1) = m ((c.tc : Thread Cert.GOutIdeal.nD Cert.GOutIdeal.τ).loc Cert.GOutIdeal.main_arg1))
      ∧ θ_run (Cert.GOutRefIdeal.defs (F := Ideal)) (onTc (τ := Cert.GOutRefIdeal.τ) (Cert.GOutRefIdeal.main (F := Ideal))) ⟨m', fun _ => 0, g'⟩ (fun r => ∀ c : Dev Cert.GOutRefIdeal.nD,
          r.2.mem ((c.tc : Thread Cert.GOutRefIdeal.nD Cert.GOutRefIdeal.τ).loc Cert.GOutRefIdeal.main_v6) = v0 c
          ∧ r.2.mem ((c.tc : Thread Cert.GOutRefIdeal.nD Cert.GOutRefIdeal.τ).loc Cert.GOutRefIdeal.main_arg0) = m' ((c.tc : Thread Cert.GOutRefIdeal.nD Cert.GOutRefIdeal.τ).loc Cert.GOutRefIdeal.main_arg0)
          ∧ r.2.mem ((c.tc : Thread Cert.GOutRefIdeal.nD Cert.GOutRefIdeal.τ).loc Cert.GOutRefIdeal.main_arg1) = m' ((c.tc : Thread Cert.GOutRefIdeal.nD Cert.GOutRefIdeal.τ).loc Cert.GOutRefIdeal.main_arg1))

def preserves_DX_DXIdeal : Prop :=
  True

def algebraic_DXIdeal_DXRefIdeal [hDXIdeal : Cert.DXIdeal.Facts] [hDXRefIdeal : Cert.DXRefIdeal.Facts] : Prop :=
  ∀ (m : (ℓ : Loc Cert.DXIdeal.nD Cert.DXIdeal.τ Cert.DXIdeal.sig) → Buf (Elt Ideal) ℓ) (g : Dev Cert.DXIdeal.nD → PrngReg)
    (m' : (ℓ : Loc Cert.DXRefIdeal.nD Cert.DXRefIdeal.τ Cert.DXRefIdeal.sig) → Buf (Elt Ideal) ℓ) (g' : Dev Cert.DXRefIdeal.nD → PrngReg), Pre_DXIdeal m →
    (∀ c : Dev Cert.DXIdeal.nD,
      m' ((c.tc : Thread Cert.DXRefIdeal.nD Cert.DXRefIdeal.τ).loc Cert.DXRefIdeal.main_arg0) = m ((c.tc : Thread Cert.DXIdeal.nD Cert.DXIdeal.τ).loc Cert.DXIdeal.main_arg0)
      ∧ m' ((c.tc : Thread Cert.DXRefIdeal.nD Cert.DXRefIdeal.τ).loc Cert.DXRefIdeal.main_arg1) = m ((c.tc : Thread Cert.DXIdeal.nD Cert.DXIdeal.τ).loc Cert.DXIdeal.main_arg1)) →
    ∃ (v0 : (c : Dev Cert.DXIdeal.nD) → Buf (Elt Ideal) ((c.tc : Thread Cert.DXIdeal.nD Cert.DXIdeal.τ).loc Cert.DXIdeal.main_v0)),
      θ_run (Cert.DXIdeal.defs (F := Ideal)) (onTc (τ := Cert.DXIdeal.τ) (Cert.DXIdeal.main (F := Ideal))) ⟨m, fun _ => 0, g⟩ (fun r => ∀ c : Dev Cert.DXIdeal.nD,
          r.2.mem ((c.tc : Thread Cert.DXIdeal.nD Cert.DXIdeal.τ).loc Cert.DXIdeal.main_v0) = v0 c
          ∧ r.2.mem ((c.tc : Thread Cert.DXIdeal.nD Cert.DXIdeal.τ).loc Cert.DXIdeal.main_arg0) = m ((c.tc : Thread Cert.DXIdeal.nD Cert.DXIdeal.τ).loc Cert.DXIdeal.main_arg0)
          ∧ r.2.mem ((c.tc : Thread Cert.DXIdeal.nD Cert.DXIdeal.τ).loc Cert.DXIdeal.main_arg1) = m ((c.tc : Thread Cert.DXIdeal.nD Cert.DXIdeal.τ).loc Cert.DXIdeal.main_arg1))
      ∧ θ_run (Cert.DXRefIdeal.defs (F := Ideal)) (onTc (τ := Cert.DXRefIdeal.τ) (Cert.DXRefIdeal.main (F := Ideal))) ⟨m', fun _ => 0, g'⟩ (fun r => ∀ c : Dev Cert.DXRefIdeal.nD,
          r.2.mem ((c.tc : Thread Cert.DXRefIdeal.nD Cert.DXRefIdeal.τ).loc Cert.DXRefIdeal.main_v5) = v0 c
          ∧ r.2.mem ((c.tc : Thread Cert.DXRefIdeal.nD Cert.DXRefIdeal.τ).loc Cert.DXRefIdeal.main_arg0) = m' ((c.tc : Thread Cert.DXRefIdeal.nD Cert.DXRefIdeal.τ).loc Cert.DXRefIdeal.main_arg0)
          ∧ r.2.mem ((c.tc : Thread Cert.DXRefIdeal.nD Cert.DXRefIdeal.τ).loc Cert.DXRefIdeal.main_arg1) = m' ((c.tc : Thread Cert.DXRefIdeal.nD Cert.DXRefIdeal.τ).loc Cert.DXRefIdeal.main_arg1))

def preserves_AbIn_AbInIdeal : Prop :=
  True

def algebraic_AbInIdeal_AbInRefIdeal [hAbInIdeal : Cert.AbInIdeal.Facts] [hAbInRefIdeal : Cert.AbInRefIdeal.Facts] : Prop :=
  ∀ (m : (ℓ : Loc Cert.AbInIdeal.nD Cert.AbInIdeal.τ Cert.AbInIdeal.sig) → Buf (Elt Ideal) ℓ) (g : Dev Cert.AbInIdeal.nD → PrngReg)
    (m' : (ℓ : Loc Cert.AbInRefIdeal.nD Cert.AbInRefIdeal.τ Cert.AbInRefIdeal.sig) → Buf (Elt Ideal) ℓ) (g' : Dev Cert.AbInRefIdeal.nD → PrngReg), Pre_AbInIdeal m →
    (∀ c : Dev Cert.AbInIdeal.nD,
      m' ((c.tc : Thread Cert.AbInRefIdeal.nD Cert.AbInRefIdeal.τ).loc Cert.AbInRefIdeal.main_arg0) = m ((c.tc : Thread Cert.AbInIdeal.nD Cert.AbInIdeal.τ).loc Cert.AbInIdeal.main_arg0)
      ∧ m' ((c.tc : Thread Cert.AbInRefIdeal.nD Cert.AbInRefIdeal.τ).loc Cert.AbInRefIdeal.main_arg1) = m ((c.tc : Thread Cert.AbInIdeal.nD Cert.AbInIdeal.τ).loc Cert.AbInIdeal.main_arg1)) →
    ∃ (v0 : (c : Dev Cert.AbInIdeal.nD) → Buf (Elt Ideal) ((c.tc : Thread Cert.AbInIdeal.nD Cert.AbInIdeal.τ).loc Cert.AbInIdeal.main_v0)),
      θ_run (Cert.AbInIdeal.defs (F := Ideal)) (onTc (τ := Cert.AbInIdeal.τ) (Cert.AbInIdeal.main (F := Ideal))) ⟨m, fun _ => 0, g⟩ (fun r => ∀ c : Dev Cert.AbInIdeal.nD,
          r.2.mem ((c.tc : Thread Cert.AbInIdeal.nD Cert.AbInIdeal.τ).loc Cert.AbInIdeal.main_v0) = v0 c
          ∧ r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
          ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1))
      ∧ θ_run (Cert.AbInRefIdeal.defs (F := Ideal)) (onTc (τ := Cert.AbInRefIdeal.τ) (Cert.AbInRefIdeal.main (F := Ideal))) ⟨m', fun _ => 0, g'⟩ (fun r => ∀ c : Dev Cert.AbInRefIdeal.nD,
          r.2.mem ((c.tc : Thread Cert.AbInRefIdeal.nD Cert.AbInRefIdeal.τ).loc Cert.AbInRefIdeal.main_v2) = v0 c
          ∧ r.2.mem ((c.tc : Thread Cert.AbInRefIdeal.nD Cert.AbInRefIdeal.τ).loc Cert.AbInRefIdeal.main_arg0) = m' ((c.tc : Thread Cert.AbInRefIdeal.nD Cert.AbInRefIdeal.τ).loc Cert.AbInRefIdeal.main_arg0)
          ∧ r.2.mem ((c.tc : Thread Cert.AbInRefIdeal.nD Cert.AbInRefIdeal.τ).loc Cert.AbInRefIdeal.main_arg1) = m' ((c.tc : Thread Cert.AbInRefIdeal.nD Cert.AbInRefIdeal.τ).loc Cert.AbInRefIdeal.main_arg1))

def preserves_CdIn_CdInIdeal : Prop :=
  True

def algebraic_CdInIdeal_CdInRefIdeal [hCdInIdeal : Cert.CdInIdeal.Facts] [hCdInRefIdeal : Cert.CdInRefIdeal.Facts] : Prop :=
  ∀ (m : (ℓ : Loc Cert.CdInIdeal.nD Cert.CdInIdeal.τ Cert.CdInIdeal.sig) → Buf (Elt Ideal) ℓ) (g : Dev Cert.CdInIdeal.nD → PrngReg)
    (m' : (ℓ : Loc Cert.CdInRefIdeal.nD Cert.CdInRefIdeal.τ Cert.CdInRefIdeal.sig) → Buf (Elt Ideal) ℓ) (g' : Dev Cert.CdInRefIdeal.nD → PrngReg), Pre_CdInIdeal m →
    (∀ c : Dev Cert.CdInIdeal.nD,
      m' ((c.tc : Thread Cert.CdInRefIdeal.nD Cert.CdInRefIdeal.τ).loc Cert.CdInRefIdeal.main_arg0) = m ((c.tc : Thread Cert.CdInIdeal.nD Cert.CdInIdeal.τ).loc Cert.CdInIdeal.main_arg0)
      ∧ m' ((c.tc : Thread Cert.CdInRefIdeal.nD Cert.CdInRefIdeal.τ).loc Cert.CdInRefIdeal.main_arg1) = m ((c.tc : Thread Cert.CdInIdeal.nD Cert.CdInIdeal.τ).loc Cert.CdInIdeal.main_arg1)) →
    ∃ (v0 : (c : Dev Cert.CdInIdeal.nD) → Buf (Elt Ideal) ((c.tc : Thread Cert.CdInIdeal.nD Cert.CdInIdeal.τ).loc Cert.CdInIdeal.main_v0)),
      θ_run (Cert.CdInIdeal.defs (F := Ideal)) (onTc (τ := Cert.CdInIdeal.τ) (Cert.CdInIdeal.main (F := Ideal))) ⟨m, fun _ => 0, g⟩ (fun r => ∀ c : Dev Cert.CdInIdeal.nD,
          r.2.mem ((c.tc : Thread Cert.CdInIdeal.nD Cert.CdInIdeal.τ).loc Cert.CdInIdeal.main_v0) = v0 c
          ∧ r.2.mem ((c.tc : Thread Cert.CdInIdeal.nD Cert.CdInIdeal.τ).loc Cert.CdInIdeal.main_arg0) = m ((c.tc : Thread Cert.CdInIdeal.nD Cert.CdInIdeal.τ).loc Cert.CdInIdeal.main_arg0)
          ∧ r.2.mem ((c.tc : Thread Cert.CdInIdeal.nD Cert.CdInIdeal.τ).loc Cert.CdInIdeal.main_arg1) = m ((c.tc : Thread Cert.CdInIdeal.nD Cert.CdInIdeal.τ).loc Cert.CdInIdeal.main_arg1))
      ∧ θ_run (Cert.CdInRefIdeal.defs (F := Ideal)) (onTc (τ := Cert.CdInRefIdeal.τ) (Cert.CdInRefIdeal.main (F := Ideal))) ⟨m', fun _ => 0, g'⟩ (fun r => ∀ c : Dev Cert.CdInRefIdeal.nD,
          r.2.mem ((c.tc : Thread Cert.CdInRefIdeal.nD Cert.CdInRefIdeal.τ).loc Cert.CdInRefIdeal.main_v2) = v0 c
          ∧ r.2.mem ((c.tc : Thread Cert.CdInRefIdeal.nD Cert.CdInRefIdeal.τ).loc Cert.CdInRefIdeal.main_arg0) = m' ((c.tc : Thread Cert.CdInRefIdeal.nD Cert.CdInRefIdeal.τ).loc Cert.CdInRefIdeal.main_arg0)
          ∧ r.2.mem ((c.tc : Thread Cert.CdInRefIdeal.nD Cert.CdInRefIdeal.τ).loc Cert.CdInRefIdeal.main_arg1) = m' ((c.tc : Thread Cert.CdInRefIdeal.nD Cert.CdInRefIdeal.τ).loc Cert.CdInRefIdeal.main_arg1))

def preserves_Outs_OutsIdeal : Prop :=
  True

def algebraic_OutsIdeal_OutsRefIdeal [hOutsIdeal : Cert.OutsIdeal.Facts] [hOutsRefIdeal : Cert.OutsRefIdeal.Facts] : Prop :=
  ∀ (m : (ℓ : Loc Cert.OutsIdeal.nD Cert.OutsIdeal.τ Cert.OutsIdeal.sig) → Buf (Elt Ideal) ℓ) (g : Dev Cert.OutsIdeal.nD → PrngReg)
    (m' : (ℓ : Loc Cert.OutsRefIdeal.nD Cert.OutsRefIdeal.τ Cert.OutsRefIdeal.sig) → Buf (Elt Ideal) ℓ) (g' : Dev Cert.OutsRefIdeal.nD → PrngReg), Pre_OutsIdeal m →
    (∀ c : Dev Cert.OutsIdeal.nD,
      m' ((c.tc : Thread Cert.OutsRefIdeal.nD Cert.OutsRefIdeal.τ).loc Cert.OutsRefIdeal.main_arg0) = m ((c.tc : Thread Cert.OutsIdeal.nD Cert.OutsIdeal.τ).loc Cert.OutsIdeal.main_arg0)
      ∧ m' ((c.tc : Thread Cert.OutsRefIdeal.nD Cert.OutsRefIdeal.τ).loc Cert.OutsRefIdeal.main_arg1) = m ((c.tc : Thread Cert.OutsIdeal.nD Cert.OutsIdeal.τ).loc Cert.OutsIdeal.main_arg1)
      ∧ m' ((c.tc : Thread Cert.OutsRefIdeal.nD Cert.OutsRefIdeal.τ).loc Cert.OutsRefIdeal.main_arg2) = m ((c.tc : Thread Cert.OutsIdeal.nD Cert.OutsIdeal.τ).loc Cert.OutsIdeal.main_arg2)) →
    ∃ (v0 : (c : Dev Cert.OutsIdeal.nD) → Buf (Elt Ideal) ((c.tc : Thread Cert.OutsIdeal.nD Cert.OutsIdeal.τ).loc Cert.OutsIdeal.main_v0)),
      θ_run (Cert.OutsIdeal.defs (F := Ideal)) (onTc (τ := Cert.OutsIdeal.τ) (Cert.OutsIdeal.main (F := Ideal))) ⟨m, fun _ => 0, g⟩ (fun r => ∀ c : Dev Cert.OutsIdeal.nD,
          r.2.mem ((c.tc : Thread Cert.OutsIdeal.nD Cert.OutsIdeal.τ).loc Cert.OutsIdeal.main_v0) = v0 c
          ∧ r.2.mem ((c.tc : Thread Cert.OutsIdeal.nD Cert.OutsIdeal.τ).loc Cert.OutsIdeal.main_arg0) = m ((c.tc : Thread Cert.OutsIdeal.nD Cert.OutsIdeal.τ).loc Cert.OutsIdeal.main_arg0)
          ∧ r.2.mem ((c.tc : Thread Cert.OutsIdeal.nD Cert.OutsIdeal.τ).loc Cert.OutsIdeal.main_arg1) = m ((c.tc : Thread Cert.OutsIdeal.nD Cert.OutsIdeal.τ).loc Cert.OutsIdeal.main_arg1)
          ∧ r.2.mem ((c.tc : Thread Cert.OutsIdeal.nD Cert.OutsIdeal.τ).loc Cert.OutsIdeal.main_arg2) = m ((c.tc : Thread Cert.OutsIdeal.nD Cert.OutsIdeal.τ).loc Cert.OutsIdeal.main_arg2))
      ∧ θ_run (Cert.OutsRefIdeal.defs (F := Ideal)) (onTc (τ := Cert.OutsRefIdeal.τ) (Cert.OutsRefIdeal.main (F := Ideal))) ⟨m', fun _ => 0, g'⟩ (fun r => ∀ c : Dev Cert.OutsRefIdeal.nD,
          r.2.mem ((c.tc : Thread Cert.OutsRefIdeal.nD Cert.OutsRefIdeal.τ).loc Cert.OutsRefIdeal.main_v4) = v0 c
          ∧ r.2.mem ((c.tc : Thread Cert.OutsRefIdeal.nD Cert.OutsRefIdeal.τ).loc Cert.OutsRefIdeal.main_arg0) = m' ((c.tc : Thread Cert.OutsRefIdeal.nD Cert.OutsRefIdeal.τ).loc Cert.OutsRefIdeal.main_arg0)
          ∧ r.2.mem ((c.tc : Thread Cert.OutsRefIdeal.nD Cert.OutsRefIdeal.τ).loc Cert.OutsRefIdeal.main_arg1) = m' ((c.tc : Thread Cert.OutsRefIdeal.nD Cert.OutsRefIdeal.τ).loc Cert.OutsRefIdeal.main_arg1)
          ∧ r.2.mem ((c.tc : Thread Cert.OutsRefIdeal.nD Cert.OutsRefIdeal.τ).loc Cert.OutsRefIdeal.main_arg2) = m' ((c.tc : Thread Cert.OutsRefIdeal.nD Cert.OutsRefIdeal.τ).loc Cert.OutsRefIdeal.main_arg2))

def preserves_GAb_GAbIdeal : Prop :=
  True

def algebraic_GAbIdeal_GAbRefIdeal [hGAbIdeal : Cert.GAbIdeal.Facts] [hGAbRefIdeal : Cert.GAbRefIdeal.Facts] : Prop :=
  ∀ (m : (ℓ : Loc Cert.GAbIdeal.nD Cert.GAbIdeal.τ Cert.GAbIdeal.sig) → Buf (Elt Ideal) ℓ) (g : Dev Cert.GAbIdeal.nD → PrngReg)
    (m' : (ℓ : Loc Cert.GAbRefIdeal.nD Cert.GAbRefIdeal.τ Cert.GAbRefIdeal.sig) → Buf (Elt Ideal) ℓ) (g' : Dev Cert.GAbRefIdeal.nD → PrngReg), Pre_GAbIdeal m →
    (∀ c : Dev Cert.GAbIdeal.nD,
      m' ((c.tc : Thread Cert.GAbRefIdeal.nD Cert.GAbRefIdeal.τ).loc Cert.GAbRefIdeal.main_arg0) = m ((c.tc : Thread Cert.GAbIdeal.nD Cert.GAbIdeal.τ).loc Cert.GAbIdeal.main_arg0)
      ∧ m' ((c.tc : Thread Cert.GAbRefIdeal.nD Cert.GAbRefIdeal.τ).loc Cert.GAbRefIdeal.main_arg1) = m ((c.tc : Thread Cert.GAbIdeal.nD Cert.GAbIdeal.τ).loc Cert.GAbIdeal.main_arg1)) →
    ∃ (v0 : (c : Dev Cert.GAbIdeal.nD) → Buf (Elt Ideal) ((c.tc : Thread Cert.GAbIdeal.nD Cert.GAbIdeal.τ).loc Cert.GAbIdeal.main_v0)),
      θ_run (Cert.GAbIdeal.defs (F := Ideal)) (onTc (τ := Cert.GAbIdeal.τ) (Cert.GAbIdeal.main (F := Ideal))) ⟨m, fun _ => 0, g⟩ (fun r => ∀ c : Dev Cert.GAbIdeal.nD,
          r.2.mem ((c.tc : Thread Cert.GAbIdeal.nD Cert.GAbIdeal.τ).loc Cert.GAbIdeal.main_v0) = v0 c
          ∧ r.2.mem ((c.tc : Thread Cert.GAbIdeal.nD Cert.GAbIdeal.τ).loc Cert.GAbIdeal.main_arg0) = m ((c.tc : Thread Cert.GAbIdeal.nD Cert.GAbIdeal.τ).loc Cert.GAbIdeal.main_arg0)
          ∧ r.2.mem ((c.tc : Thread Cert.GAbIdeal.nD Cert.GAbIdeal.τ).loc Cert.GAbIdeal.main_arg1) = m ((c.tc : Thread Cert.GAbIdeal.nD Cert.GAbIdeal.τ).loc Cert.GAbIdeal.main_arg1))
      ∧ θ_run (Cert.GAbRefIdeal.defs (F := Ideal)) (onTc (τ := Cert.GAbRefIdeal.τ) (Cert.GAbRefIdeal.main (F := Ideal))) ⟨m', fun _ => 0, g'⟩ (fun r => ∀ c : Dev Cert.GAbRefIdeal.nD,
          r.2.mem ((c.tc : Thread Cert.GAbRefIdeal.nD Cert.GAbRefIdeal.τ).loc Cert.GAbRefIdeal.main_v6) = v0 c
          ∧ r.2.mem ((c.tc : Thread Cert.GAbRefIdeal.nD Cert.GAbRefIdeal.τ).loc Cert.GAbRefIdeal.main_arg0) = m' ((c.tc : Thread Cert.GAbRefIdeal.nD Cert.GAbRefIdeal.τ).loc Cert.GAbRefIdeal.main_arg0)
          ∧ r.2.mem ((c.tc : Thread Cert.GAbRefIdeal.nD Cert.GAbRefIdeal.τ).loc Cert.GAbRefIdeal.main_arg1) = m' ((c.tc : Thread Cert.GAbRefIdeal.nD Cert.GAbRefIdeal.τ).loc Cert.GAbRefIdeal.main_arg1))

def preserves_GCd_GCdIdeal : Prop :=
  True

def algebraic_GCdIdeal_GCdRefIdeal [hGCdIdeal : Cert.GCdIdeal.Facts] [hGCdRefIdeal : Cert.GCdRefIdeal.Facts] : Prop :=
  ∀ (m : (ℓ : Loc Cert.GCdIdeal.nD Cert.GCdIdeal.τ Cert.GCdIdeal.sig) → Buf (Elt Ideal) ℓ) (g : Dev Cert.GCdIdeal.nD → PrngReg)
    (m' : (ℓ : Loc Cert.GCdRefIdeal.nD Cert.GCdRefIdeal.τ Cert.GCdRefIdeal.sig) → Buf (Elt Ideal) ℓ) (g' : Dev Cert.GCdRefIdeal.nD → PrngReg), Pre_GCdIdeal m →
    (∀ c : Dev Cert.GCdIdeal.nD,
      m' ((c.tc : Thread Cert.GCdRefIdeal.nD Cert.GCdRefIdeal.τ).loc Cert.GCdRefIdeal.main_arg0) = m ((c.tc : Thread Cert.GCdIdeal.nD Cert.GCdIdeal.τ).loc Cert.GCdIdeal.main_arg0)
      ∧ m' ((c.tc : Thread Cert.GCdRefIdeal.nD Cert.GCdRefIdeal.τ).loc Cert.GCdRefIdeal.main_arg1) = m ((c.tc : Thread Cert.GCdIdeal.nD Cert.GCdIdeal.τ).loc Cert.GCdIdeal.main_arg1)) →
    ∃ (v0 : (c : Dev Cert.GCdIdeal.nD) → Buf (Elt Ideal) ((c.tc : Thread Cert.GCdIdeal.nD Cert.GCdIdeal.τ).loc Cert.GCdIdeal.main_v0)),
      θ_run (Cert.GCdIdeal.defs (F := Ideal)) (onTc (τ := Cert.GCdIdeal.τ) (Cert.GCdIdeal.main (F := Ideal))) ⟨m, fun _ => 0, g⟩ (fun r => ∀ c : Dev Cert.GCdIdeal.nD,
          r.2.mem ((c.tc : Thread Cert.GCdIdeal.nD Cert.GCdIdeal.τ).loc Cert.GCdIdeal.main_v0) = v0 c
          ∧ r.2.mem ((c.tc : Thread Cert.GCdIdeal.nD Cert.GCdIdeal.τ).loc Cert.GCdIdeal.main_arg0) = m ((c.tc : Thread Cert.GCdIdeal.nD Cert.GCdIdeal.τ).loc Cert.GCdIdeal.main_arg0)
          ∧ r.2.mem ((c.tc : Thread Cert.GCdIdeal.nD Cert.GCdIdeal.τ).loc Cert.GCdIdeal.main_arg1) = m ((c.tc : Thread Cert.GCdIdeal.nD Cert.GCdIdeal.τ).loc Cert.GCdIdeal.main_arg1))
      ∧ θ_run (Cert.GCdRefIdeal.defs (F := Ideal)) (onTc (τ := Cert.GCdRefIdeal.τ) (Cert.GCdRefIdeal.main (F := Ideal))) ⟨m', fun _ => 0, g'⟩ (fun r => ∀ c : Dev Cert.GCdRefIdeal.nD,
          r.2.mem ((c.tc : Thread Cert.GCdRefIdeal.nD Cert.GCdRefIdeal.τ).loc Cert.GCdRefIdeal.main_v6) = v0 c
          ∧ r.2.mem ((c.tc : Thread Cert.GCdRefIdeal.nD Cert.GCdRefIdeal.τ).loc Cert.GCdRefIdeal.main_arg0) = m' ((c.tc : Thread Cert.GCdRefIdeal.nD Cert.GCdRefIdeal.τ).loc Cert.GCdRefIdeal.main_arg0)
          ∧ r.2.mem ((c.tc : Thread Cert.GCdRefIdeal.nD Cert.GCdRefIdeal.τ).loc Cert.GCdRefIdeal.main_arg1) = m' ((c.tc : Thread Cert.GCdRefIdeal.nD Cert.GCdRefIdeal.τ).loc Cert.GCdRefIdeal.main_arg1))

def preserves_GHalf_GHalfIdeal : Prop :=
  True

def algebraic_GHalfIdeal_GHalfRefIdeal [hGHalfIdeal : Cert.GHalfIdeal.Facts] [hGHalfRefIdeal : Cert.GHalfRefIdeal.Facts] : Prop :=
  ∀ (m : (ℓ : Loc Cert.GHalfIdeal.nD Cert.GHalfIdeal.τ Cert.GHalfIdeal.sig) → Buf (Elt Ideal) ℓ) (g : Dev Cert.GHalfIdeal.nD → PrngReg)
    (m' : (ℓ : Loc Cert.GHalfRefIdeal.nD Cert.GHalfRefIdeal.τ Cert.GHalfRefIdeal.sig) → Buf (Elt Ideal) ℓ) (g' : Dev Cert.GHalfRefIdeal.nD → PrngReg), Pre_GHalfIdeal m →
    (∀ c : Dev Cert.GHalfIdeal.nD,
      m' ((c.tc : Thread Cert.GHalfRefIdeal.nD Cert.GHalfRefIdeal.τ).loc Cert.GHalfRefIdeal.main_arg0) = m ((c.tc : Thread Cert.GHalfIdeal.nD Cert.GHalfIdeal.τ).loc Cert.GHalfIdeal.main_arg0)
      ∧ m' ((c.tc : Thread Cert.GHalfRefIdeal.nD Cert.GHalfRefIdeal.τ).loc Cert.GHalfRefIdeal.main_arg1) = m ((c.tc : Thread Cert.GHalfIdeal.nD Cert.GHalfIdeal.τ).loc Cert.GHalfIdeal.main_arg1)) →
    ∃ (v0 : (c : Dev Cert.GHalfIdeal.nD) → Buf (Elt Ideal) ((c.tc : Thread Cert.GHalfIdeal.nD Cert.GHalfIdeal.τ).loc Cert.GHalfIdeal.main_v0)),
      θ_run (Cert.GHalfIdeal.defs (F := Ideal)) (onTc (τ := Cert.GHalfIdeal.τ) (Cert.GHalfIdeal.main (F := Ideal))) ⟨m, fun _ => 0, g⟩ (fun r => ∀ c : Dev Cert.GHalfIdeal.nD,
          r.2.mem ((c.tc : Thread Cert.GHalfIdeal.nD Cert.GHalfIdeal.τ).loc Cert.GHalfIdeal.main_v0) = v0 c
          ∧ r.2.mem ((c.tc : Thread Cert.GHalfIdeal.nD Cert.GHalfIdeal.τ).loc Cert.GHalfIdeal.main_arg0) = m ((c.tc : Thread Cert.GHalfIdeal.nD Cert.GHalfIdeal.τ).loc Cert.GHalfIdeal.main_arg0)
          ∧ r.2.mem ((c.tc : Thread Cert.GHalfIdeal.nD Cert.GHalfIdeal.τ).loc Cert.GHalfIdeal.main_arg1) = m ((c.tc : Thread Cert.GHalfIdeal.nD Cert.GHalfIdeal.τ).loc Cert.GHalfIdeal.main_arg1))
      ∧ θ_run (Cert.GHalfRefIdeal.defs (F := Ideal)) (onTc (τ := Cert.GHalfRefIdeal.τ) (Cert.GHalfRefIdeal.main (F := Ideal))) ⟨m', fun _ => 0, g'⟩ (fun r => ∀ c : Dev Cert.GHalfRefIdeal.nD,
          r.2.mem ((c.tc : Thread Cert.GHalfRefIdeal.nD Cert.GHalfRefIdeal.τ).loc Cert.GHalfRefIdeal.main_v6) = v0 c
          ∧ r.2.mem ((c.tc : Thread Cert.GHalfRefIdeal.nD Cert.GHalfRefIdeal.τ).loc Cert.GHalfRefIdeal.main_arg0) = m' ((c.tc : Thread Cert.GHalfRefIdeal.nD Cert.GHalfRefIdeal.τ).loc Cert.GHalfRefIdeal.main_arg0)
          ∧ r.2.mem ((c.tc : Thread Cert.GHalfRefIdeal.nD Cert.GHalfRefIdeal.τ).loc Cert.GHalfRefIdeal.main_arg1) = m' ((c.tc : Thread Cert.GHalfRefIdeal.nD Cert.GHalfRefIdeal.τ).loc Cert.GHalfRefIdeal.main_arg1))

def preserves_DCat_DCatIdeal : Prop :=
  True

def algebraic_DCatIdeal_DCatRefIdeal [hDCatIdeal : Cert.DCatIdeal.Facts] [hDCatRefIdeal : Cert.DCatRefIdeal.Facts] : Prop :=
  ∀ (m : (ℓ : Loc Cert.DCatIdeal.nD Cert.DCatIdeal.τ Cert.DCatIdeal.sig) → Buf (Elt Ideal) ℓ) (g : Dev Cert.DCatIdeal.nD → PrngReg)
    (m' : (ℓ : Loc Cert.DCatRefIdeal.nD Cert.DCatRefIdeal.τ Cert.DCatRefIdeal.sig) → Buf (Elt Ideal) ℓ) (g' : Dev Cert.DCatRefIdeal.nD → PrngReg), Pre_DCatIdeal m →
    (∀ c : Dev Cert.DCatIdeal.nD,
      m' ((c.tc : Thread Cert.DCatRefIdeal.nD Cert.DCatRefIdeal.τ).loc Cert.DCatRefIdeal.main_arg0) = m ((c.tc : Thread Cert.DCatIdeal.nD Cert.DCatIdeal.τ).loc Cert.DCatIdeal.main_arg0)
      ∧ m' ((c.tc : Thread Cert.DCatRefIdeal.nD Cert.DCatRefIdeal.τ).loc Cert.DCatRefIdeal.main_arg1) = m ((c.tc : Thread Cert.DCatIdeal.nD Cert.DCatIdeal.τ).loc Cert.DCatIdeal.main_arg1)) →
    ∃ (v0 : (c : Dev Cert.DCatIdeal.nD) → Buf (Elt Ideal) ((c.tc : Thread Cert.DCatIdeal.nD Cert.DCatIdeal.τ).loc Cert.DCatIdeal.main_v0)),
      θ_run (Cert.DCatIdeal.defs (F := Ideal)) (onTc (τ := Cert.DCatIdeal.τ) (Cert.DCatIdeal.main (F := Ideal))) ⟨m, fun _ => 0, g⟩ (fun r => ∀ c : Dev Cert.DCatIdeal.nD,
          r.2.mem ((c.tc : Thread Cert.DCatIdeal.nD Cert.DCatIdeal.τ).loc Cert.DCatIdeal.main_v0) = v0 c
          ∧ r.2.mem ((c.tc : Thread Cert.DCatIdeal.nD Cert.DCatIdeal.τ).loc Cert.DCatIdeal.main_arg0) = m ((c.tc : Thread Cert.DCatIdeal.nD Cert.DCatIdeal.τ).loc Cert.DCatIdeal.main_arg0)
          ∧ r.2.mem ((c.tc : Thread Cert.DCatIdeal.nD Cert.DCatIdeal.τ).loc Cert.DCatIdeal.main_arg1) = m ((c.tc : Thread Cert.DCatIdeal.nD Cert.DCatIdeal.τ).loc Cert.DCatIdeal.main_arg1))
      ∧ θ_run (Cert.DCatRefIdeal.defs (F := Ideal)) (onTc (τ := Cert.DCatRefIdeal.τ) (Cert.DCatRefIdeal.main (F := Ideal))) ⟨m', fun _ => 0, g'⟩ (fun r => ∀ c : Dev Cert.DCatRefIdeal.nD,
          r.2.mem ((c.tc : Thread Cert.DCatRefIdeal.nD Cert.DCatRefIdeal.τ).loc Cert.DCatRefIdeal.main_v5) = v0 c
          ∧ r.2.mem ((c.tc : Thread Cert.DCatRefIdeal.nD Cert.DCatRefIdeal.τ).loc Cert.DCatRefIdeal.main_arg0) = m' ((c.tc : Thread Cert.DCatRefIdeal.nD Cert.DCatRefIdeal.τ).loc Cert.DCatRefIdeal.main_arg0)
          ∧ r.2.mem ((c.tc : Thread Cert.DCatRefIdeal.nD Cert.DCatRefIdeal.τ).loc Cert.DCatRefIdeal.main_arg1) = m' ((c.tc : Thread Cert.DCatRefIdeal.nD Cert.DCatRefIdeal.τ).loc Cert.DCatRefIdeal.main_arg1))

def preserves_DAb_DAbIdeal : Prop :=
  True

def algebraic_DAbIdeal_DAbRefIdeal [hDAbIdeal : Cert.DAbIdeal.Facts] [hDAbRefIdeal : Cert.DAbRefIdeal.Facts] : Prop :=
  ∀ (m : (ℓ : Loc Cert.DAbIdeal.nD Cert.DAbIdeal.τ Cert.DAbIdeal.sig) → Buf (Elt Ideal) ℓ) (g : Dev Cert.DAbIdeal.nD → PrngReg)
    (m' : (ℓ : Loc Cert.DAbRefIdeal.nD Cert.DAbRefIdeal.τ Cert.DAbRefIdeal.sig) → Buf (Elt Ideal) ℓ) (g' : Dev Cert.DAbRefIdeal.nD → PrngReg), Pre_DAbIdeal m →
    (∀ c : Dev Cert.DAbIdeal.nD,
      m' ((c.tc : Thread Cert.DAbRefIdeal.nD Cert.DAbRefIdeal.τ).loc Cert.DAbRefIdeal.main_arg0) = m ((c.tc : Thread Cert.DAbIdeal.nD Cert.DAbIdeal.τ).loc Cert.DAbIdeal.main_arg0)
      ∧ m' ((c.tc : Thread Cert.DAbRefIdeal.nD Cert.DAbRefIdeal.τ).loc Cert.DAbRefIdeal.main_arg1) = m ((c.tc : Thread Cert.DAbIdeal.nD Cert.DAbIdeal.τ).loc Cert.DAbIdeal.main_arg1)) →
    ∃ (v0 : (c : Dev Cert.DAbIdeal.nD) → Buf (Elt Ideal) ((c.tc : Thread Cert.DAbIdeal.nD Cert.DAbIdeal.τ).loc Cert.DAbIdeal.main_v0)),
      θ_run (Cert.DAbIdeal.defs (F := Ideal)) (onTc (τ := Cert.DAbIdeal.τ) (Cert.DAbIdeal.main (F := Ideal))) ⟨m, fun _ => 0, g⟩ (fun r => ∀ c : Dev Cert.DAbIdeal.nD,
          r.2.mem ((c.tc : Thread Cert.DAbIdeal.nD Cert.DAbIdeal.τ).loc Cert.DAbIdeal.main_v0) = v0 c
          ∧ r.2.mem ((c.tc : Thread Cert.DAbIdeal.nD Cert.DAbIdeal.τ).loc Cert.DAbIdeal.main_arg0) = m ((c.tc : Thread Cert.DAbIdeal.nD Cert.DAbIdeal.τ).loc Cert.DAbIdeal.main_arg0)
          ∧ r.2.mem ((c.tc : Thread Cert.DAbIdeal.nD Cert.DAbIdeal.τ).loc Cert.DAbIdeal.main_arg1) = m ((c.tc : Thread Cert.DAbIdeal.nD Cert.DAbIdeal.τ).loc Cert.DAbIdeal.main_arg1))
      ∧ θ_run (Cert.DAbRefIdeal.defs (F := Ideal)) (onTc (τ := Cert.DAbRefIdeal.τ) (Cert.DAbRefIdeal.main (F := Ideal))) ⟨m', fun _ => 0, g'⟩ (fun r => ∀ c : Dev Cert.DAbRefIdeal.nD,
          r.2.mem ((c.tc : Thread Cert.DAbRefIdeal.nD Cert.DAbRefIdeal.τ).loc Cert.DAbRefIdeal.main_v5) = v0 c
          ∧ r.2.mem ((c.tc : Thread Cert.DAbRefIdeal.nD Cert.DAbRefIdeal.τ).loc Cert.DAbRefIdeal.main_arg0) = m' ((c.tc : Thread Cert.DAbRefIdeal.nD Cert.DAbRefIdeal.τ).loc Cert.DAbRefIdeal.main_arg0)
          ∧ r.2.mem ((c.tc : Thread Cert.DAbRefIdeal.nD Cert.DAbRefIdeal.τ).loc Cert.DAbRefIdeal.main_arg1) = m' ((c.tc : Thread Cert.DAbRefIdeal.nD Cert.DAbRefIdeal.τ).loc Cert.DAbRefIdeal.main_arg1))

def preserves_DCd_DCdIdeal : Prop :=
  True

def algebraic_DCdIdeal_DCdRefIdeal [hDCdIdeal : Cert.DCdIdeal.Facts] [hDCdRefIdeal : Cert.DCdRefIdeal.Facts] : Prop :=
  ∀ (m : (ℓ : Loc Cert.DCdIdeal.nD Cert.DCdIdeal.τ Cert.DCdIdeal.sig) → Buf (Elt Ideal) ℓ) (g : Dev Cert.DCdIdeal.nD → PrngReg)
    (m' : (ℓ : Loc Cert.DCdRefIdeal.nD Cert.DCdRefIdeal.τ Cert.DCdRefIdeal.sig) → Buf (Elt Ideal) ℓ) (g' : Dev Cert.DCdRefIdeal.nD → PrngReg), Pre_DCdIdeal m →
    (∀ c : Dev Cert.DCdIdeal.nD,
      m' ((c.tc : Thread Cert.DCdRefIdeal.nD Cert.DCdRefIdeal.τ).loc Cert.DCdRefIdeal.main_arg0) = m ((c.tc : Thread Cert.DCdIdeal.nD Cert.DCdIdeal.τ).loc Cert.DCdIdeal.main_arg0)
      ∧ m' ((c.tc : Thread Cert.DCdRefIdeal.nD Cert.DCdRefIdeal.τ).loc Cert.DCdRefIdeal.main_arg1) = m ((c.tc : Thread Cert.DCdIdeal.nD Cert.DCdIdeal.τ).loc Cert.DCdIdeal.main_arg1)) →
    ∃ (v0 : (c : Dev Cert.DCdIdeal.nD) → Buf (Elt Ideal) ((c.tc : Thread Cert.DCdIdeal.nD Cert.DCdIdeal.τ).loc Cert.DCdIdeal.main_v0)),
      θ_run (Cert.DCdIdeal.defs (F := Ideal)) (onTc (τ := Cert.DCdIdeal.τ) (Cert.DCdIdeal.main (F := Ideal))) ⟨m, fun _ => 0, g⟩ (fun r => ∀ c : Dev Cert.DCdIdeal.nD,
          r.2.mem ((c.tc : Thread Cert.DCdIdeal.nD Cert.DCdIdeal.τ).loc Cert.DCdIdeal.main_v0) = v0 c
          ∧ r.2.mem ((c.tc : Thread Cert.DCdIdeal.nD Cert.DCdIdeal.τ).loc Cert.DCdIdeal.main_arg0) = m ((c.tc : Thread Cert.DCdIdeal.nD Cert.DCdIdeal.τ).loc Cert.DCdIdeal.main_arg0)
          ∧ r.2.mem ((c.tc : Thread Cert.DCdIdeal.nD Cert.DCdIdeal.τ).loc Cert.DCdIdeal.main_arg1) = m ((c.tc : Thread Cert.DCdIdeal.nD Cert.DCdIdeal.τ).loc Cert.DCdIdeal.main_arg1))
      ∧ θ_run (Cert.DCdRefIdeal.defs (F := Ideal)) (onTc (τ := Cert.DCdRefIdeal.τ) (Cert.DCdRefIdeal.main (F := Ideal))) ⟨m', fun _ => 0, g'⟩ (fun r => ∀ c : Dev Cert.DCdRefIdeal.nD,
          r.2.mem ((c.tc : Thread Cert.DCdRefIdeal.nD Cert.DCdRefIdeal.τ).loc Cert.DCdRefIdeal.main_v5) = v0 c
          ∧ r.2.mem ((c.tc : Thread Cert.DCdRefIdeal.nD Cert.DCdRefIdeal.τ).loc Cert.DCdRefIdeal.main_arg0) = m' ((c.tc : Thread Cert.DCdRefIdeal.nD Cert.DCdRefIdeal.τ).loc Cert.DCdRefIdeal.main_arg0)
          ∧ r.2.mem ((c.tc : Thread Cert.DCdRefIdeal.nD Cert.DCdRefIdeal.τ).loc Cert.DCdRefIdeal.main_arg1) = m' ((c.tc : Thread Cert.DCdRefIdeal.nD Cert.DCdRefIdeal.τ).loc Cert.DCdRefIdeal.main_arg1))

def preserves_WKv_WKvIdeal : Prop :=
  True

def algebraic_WKvIdeal_WKvRefIdeal [hWKvIdeal : Cert.WKvIdeal.Facts] [hWKvRefIdeal : Cert.WKvRefIdeal.Facts] : Prop :=
  ∀ (m : (ℓ : Loc Cert.WKvIdeal.nD Cert.WKvIdeal.τ Cert.WKvIdeal.sig) → Buf (Elt Ideal) ℓ) (g : Dev Cert.WKvIdeal.nD → PrngReg)
    (m' : (ℓ : Loc Cert.WKvRefIdeal.nD Cert.WKvRefIdeal.τ Cert.WKvRefIdeal.sig) → Buf (Elt Ideal) ℓ) (g' : Dev Cert.WKvRefIdeal.nD → PrngReg), Pre_WKvIdeal m →
    (∀ c : Dev Cert.WKvIdeal.nD,
      m' ((c.tc : Thread Cert.WKvRefIdeal.nD Cert.WKvRefIdeal.τ).loc Cert.WKvRefIdeal.main_arg0) = m ((c.tc : Thread Cert.WKvIdeal.nD Cert.WKvIdeal.τ).loc Cert.WKvIdeal.main_arg0)
      ∧ m' ((c.tc : Thread Cert.WKvRefIdeal.nD Cert.WKvRefIdeal.τ).loc Cert.WKvRefIdeal.main_arg1) = m ((c.tc : Thread Cert.WKvIdeal.nD Cert.WKvIdeal.τ).loc Cert.WKvIdeal.main_arg1)) →
    ∃ (v0 : (c : Dev Cert.WKvIdeal.nD) → Buf (Elt Ideal) ((c.tc : Thread Cert.WKvIdeal.nD Cert.WKvIdeal.τ).loc Cert.WKvIdeal.main_v0)),
      θ_run (Cert.WKvIdeal.defs (F := Ideal)) (onTc (τ := Cert.WKvIdeal.τ) (Cert.WKvIdeal.main (F := Ideal))) ⟨m, fun _ => 0, g⟩ (fun r => ∀ c : Dev Cert.WKvIdeal.nD,
          r.2.mem ((c.tc : Thread Cert.WKvIdeal.nD Cert.WKvIdeal.τ).loc Cert.WKvIdeal.main_v0) = v0 c
          ∧ r.2.mem ((c.tc : Thread Cert.WKvIdeal.nD Cert.WKvIdeal.τ).loc Cert.WKvIdeal.main_arg0) = m ((c.tc : Thread Cert.WKvIdeal.nD Cert.WKvIdeal.τ).loc Cert.WKvIdeal.main_arg0)
          ∧ r.2.mem ((c.tc : Thread Cert.WKvIdeal.nD Cert.WKvIdeal.τ).loc Cert.WKvIdeal.main_arg1) = m ((c.tc : Thread Cert.WKvIdeal.nD Cert.WKvIdeal.τ).loc Cert.WKvIdeal.main_arg1))
      ∧ θ_run (Cert.WKvRefIdeal.defs (F := Ideal)) (onTc (τ := Cert.WKvRefIdeal.τ) (Cert.WKvRefIdeal.main (F := Ideal))) ⟨m', fun _ => 0, g'⟩ (fun r => ∀ c : Dev Cert.WKvRefIdeal.nD,
          r.2.mem ((c.tc : Thread Cert.WKvRefIdeal.nD Cert.WKvRefIdeal.τ).loc Cert.WKvRefIdeal.main_v3) = v0 c
          ∧ r.2.mem ((c.tc : Thread Cert.WKvRefIdeal.nD Cert.WKvRefIdeal.τ).loc Cert.WKvRefIdeal.main_arg0) = m' ((c.tc : Thread Cert.WKvRefIdeal.nD Cert.WKvRefIdeal.τ).loc Cert.WKvRefIdeal.main_arg0)
          ∧ r.2.mem ((c.tc : Thread Cert.WKvRefIdeal.nD Cert.WKvRefIdeal.τ).loc Cert.WKvRefIdeal.main_arg1) = m' ((c.tc : Thread Cert.WKvRefIdeal.nD Cert.WKvRefIdeal.τ).loc Cert.WKvRefIdeal.main_arg1))

def preserves_WQ_WQIdeal : Prop :=
  True

def algebraic_WQIdeal_WQRefIdeal [hWQIdeal : Cert.WQIdeal.Facts] [hWQRefIdeal : Cert.WQRefIdeal.Facts] : Prop :=
  ∀ (m : (ℓ : Loc Cert.WQIdeal.nD Cert.WQIdeal.τ Cert.WQIdeal.sig) → Buf (Elt Ideal) ℓ) (g : Dev Cert.WQIdeal.nD → PrngReg)
    (m' : (ℓ : Loc Cert.WQRefIdeal.nD Cert.WQRefIdeal.τ Cert.WQRefIdeal.sig) → Buf (Elt Ideal) ℓ) (g' : Dev Cert.WQRefIdeal.nD → PrngReg), Pre_WQIdeal m →
    (∀ c : Dev Cert.WQIdeal.nD,
      m' ((c.tc : Thread Cert.WQRefIdeal.nD Cert.WQRefIdeal.τ).loc Cert.WQRefIdeal.main_arg0) = m ((c.tc : Thread Cert.WQIdeal.nD Cert.WQIdeal.τ).loc Cert.WQIdeal.main_arg0)
      ∧ m' ((c.tc : Thread Cert.WQRefIdeal.nD Cert.WQRefIdeal.τ).loc Cert.WQRefIdeal.main_arg1) = m ((c.tc : Thread Cert.WQIdeal.nD Cert.WQIdeal.τ).loc Cert.WQIdeal.main_arg1)) →
    ∃ (v0 : (c : Dev Cert.WQIdeal.nD) → Buf (Elt Ideal) ((c.tc : Thread Cert.WQIdeal.nD Cert.WQIdeal.τ).loc Cert.WQIdeal.main_v0)),
      θ_run (Cert.WQIdeal.defs (F := Ideal)) (onTc (τ := Cert.WQIdeal.τ) (Cert.WQIdeal.main (F := Ideal))) ⟨m, fun _ => 0, g⟩ (fun r => ∀ c : Dev Cert.WQIdeal.nD,
          r.2.mem ((c.tc : Thread Cert.WQIdeal.nD Cert.WQIdeal.τ).loc Cert.WQIdeal.main_v0) = v0 c
          ∧ r.2.mem ((c.tc : Thread Cert.WQIdeal.nD Cert.WQIdeal.τ).loc Cert.WQIdeal.main_arg0) = m ((c.tc : Thread Cert.WQIdeal.nD Cert.WQIdeal.τ).loc Cert.WQIdeal.main_arg0)
          ∧ r.2.mem ((c.tc : Thread Cert.WQIdeal.nD Cert.WQIdeal.τ).loc Cert.WQIdeal.main_arg1) = m ((c.tc : Thread Cert.WQIdeal.nD Cert.WQIdeal.τ).loc Cert.WQIdeal.main_arg1))
      ∧ θ_run (Cert.WQRefIdeal.defs (F := Ideal)) (onTc (τ := Cert.WQRefIdeal.τ) (Cert.WQRefIdeal.main (F := Ideal))) ⟨m', fun _ => 0, g'⟩ (fun r => ∀ c : Dev Cert.WQRefIdeal.nD,
          r.2.mem ((c.tc : Thread Cert.WQRefIdeal.nD Cert.WQRefIdeal.τ).loc Cert.WQRefIdeal.main_v2) = v0 c
          ∧ r.2.mem ((c.tc : Thread Cert.WQRefIdeal.nD Cert.WQRefIdeal.τ).loc Cert.WQRefIdeal.main_arg0) = m' ((c.tc : Thread Cert.WQRefIdeal.nD Cert.WQRefIdeal.τ).loc Cert.WQRefIdeal.main_arg0)
          ∧ r.2.mem ((c.tc : Thread Cert.WQRefIdeal.nD Cert.WQRefIdeal.τ).loc Cert.WQRefIdeal.main_arg1) = m' ((c.tc : Thread Cert.WQRefIdeal.nD Cert.WQRefIdeal.τ).loc Cert.WQRefIdeal.main_arg1))

def preserves_GWQ_GWQIdeal : Prop :=
  True

def algebraic_GWQIdeal_GWQRefIdeal [hGWQIdeal : Cert.GWQIdeal.Facts] [hGWQRefIdeal : Cert.GWQRefIdeal.Facts] : Prop :=
  ∀ (m : (ℓ : Loc Cert.GWQIdeal.nD Cert.GWQIdeal.τ Cert.GWQIdeal.sig) → Buf (Elt Ideal) ℓ) (g : Dev Cert.GWQIdeal.nD → PrngReg)
    (m' : (ℓ : Loc Cert.GWQRefIdeal.nD Cert.GWQRefIdeal.τ Cert.GWQRefIdeal.sig) → Buf (Elt Ideal) ℓ) (g' : Dev Cert.GWQRefIdeal.nD → PrngReg), Pre_GWQIdeal m →
    (∀ c : Dev Cert.GWQIdeal.nD,
      m' ((c.tc : Thread Cert.GWQRefIdeal.nD Cert.GWQRefIdeal.τ).loc Cert.GWQRefIdeal.main_arg0) = m ((c.tc : Thread Cert.GWQIdeal.nD Cert.GWQIdeal.τ).loc Cert.GWQIdeal.main_arg0)
      ∧ m' ((c.tc : Thread Cert.GWQRefIdeal.nD Cert.GWQRefIdeal.τ).loc Cert.GWQRefIdeal.main_arg1) = m ((c.tc : Thread Cert.GWQIdeal.nD Cert.GWQIdeal.τ).loc Cert.GWQIdeal.main_arg1)) →
    ∃ (v0 : (c : Dev Cert.GWQIdeal.nD) → Buf (Elt Ideal) ((c.tc : Thread Cert.GWQIdeal.nD Cert.GWQIdeal.τ).loc Cert.GWQIdeal.main_v0)),
      θ_run (Cert.GWQIdeal.defs (F := Ideal)) (onTc (τ := Cert.GWQIdeal.τ) (Cert.GWQIdeal.main (F := Ideal))) ⟨m, fun _ => 0, g⟩ (fun r => ∀ c : Dev Cert.GWQIdeal.nD,
          r.2.mem ((c.tc : Thread Cert.GWQIdeal.nD Cert.GWQIdeal.τ).loc Cert.GWQIdeal.main_v0) = v0 c
          ∧ r.2.mem ((c.tc : Thread Cert.GWQIdeal.nD Cert.GWQIdeal.τ).loc Cert.GWQIdeal.main_arg0) = m ((c.tc : Thread Cert.GWQIdeal.nD Cert.GWQIdeal.τ).loc Cert.GWQIdeal.main_arg0)
          ∧ r.2.mem ((c.tc : Thread Cert.GWQIdeal.nD Cert.GWQIdeal.τ).loc Cert.GWQIdeal.main_arg1) = m ((c.tc : Thread Cert.GWQIdeal.nD Cert.GWQIdeal.τ).loc Cert.GWQIdeal.main_arg1))
      ∧ θ_run (Cert.GWQRefIdeal.defs (F := Ideal)) (onTc (τ := Cert.GWQRefIdeal.τ) (Cert.GWQRefIdeal.main (F := Ideal))) ⟨m', fun _ => 0, g'⟩ (fun r => ∀ c : Dev Cert.GWQRefIdeal.nD,
          r.2.mem ((c.tc : Thread Cert.GWQRefIdeal.nD Cert.GWQRefIdeal.τ).loc Cert.GWQRefIdeal.main_v6) = v0 c
          ∧ r.2.mem ((c.tc : Thread Cert.GWQRefIdeal.nD Cert.GWQRefIdeal.τ).loc Cert.GWQRefIdeal.main_arg0) = m' ((c.tc : Thread Cert.GWQRefIdeal.nD Cert.GWQRefIdeal.τ).loc Cert.GWQRefIdeal.main_arg0)
          ∧ r.2.mem ((c.tc : Thread Cert.GWQRefIdeal.nD Cert.GWQRefIdeal.τ).loc Cert.GWQRefIdeal.main_arg1) = m' ((c.tc : Thread Cert.GWQRefIdeal.nD Cert.GWQRefIdeal.τ).loc Cert.GWQRefIdeal.main_arg1))

def preserves_GWKv_GWKvIdeal : Prop :=
  True

def algebraic_GWKvIdeal_GWKvRefIdeal [hGWKvIdeal : Cert.GWKvIdeal.Facts] [hGWKvRefIdeal : Cert.GWKvRefIdeal.Facts] : Prop :=
  ∀ (m : (ℓ : Loc Cert.GWKvIdeal.nD Cert.GWKvIdeal.τ Cert.GWKvIdeal.sig) → Buf (Elt Ideal) ℓ) (g : Dev Cert.GWKvIdeal.nD → PrngReg)
    (m' : (ℓ : Loc Cert.GWKvRefIdeal.nD Cert.GWKvRefIdeal.τ Cert.GWKvRefIdeal.sig) → Buf (Elt Ideal) ℓ) (g' : Dev Cert.GWKvRefIdeal.nD → PrngReg), Pre_GWKvIdeal m →
    (∀ c : Dev Cert.GWKvIdeal.nD,
      m' ((c.tc : Thread Cert.GWKvRefIdeal.nD Cert.GWKvRefIdeal.τ).loc Cert.GWKvRefIdeal.main_arg0) = m ((c.tc : Thread Cert.GWKvIdeal.nD Cert.GWKvIdeal.τ).loc Cert.GWKvIdeal.main_arg0)
      ∧ m' ((c.tc : Thread Cert.GWKvRefIdeal.nD Cert.GWKvRefIdeal.τ).loc Cert.GWKvRefIdeal.main_arg1) = m ((c.tc : Thread Cert.GWKvIdeal.nD Cert.GWKvIdeal.τ).loc Cert.GWKvIdeal.main_arg1)) →
    ∃ (v0 : (c : Dev Cert.GWKvIdeal.nD) → Buf (Elt Ideal) ((c.tc : Thread Cert.GWKvIdeal.nD Cert.GWKvIdeal.τ).loc Cert.GWKvIdeal.main_v0)),
      θ_run (Cert.GWKvIdeal.defs (F := Ideal)) (onTc (τ := Cert.GWKvIdeal.τ) (Cert.GWKvIdeal.main (F := Ideal))) ⟨m, fun _ => 0, g⟩ (fun r => ∀ c : Dev Cert.GWKvIdeal.nD,
          r.2.mem ((c.tc : Thread Cert.GWKvIdeal.nD Cert.GWKvIdeal.τ).loc Cert.GWKvIdeal.main_v0) = v0 c
          ∧ r.2.mem ((c.tc : Thread Cert.GWKvIdeal.nD Cert.GWKvIdeal.τ).loc Cert.GWKvIdeal.main_arg0) = m ((c.tc : Thread Cert.GWKvIdeal.nD Cert.GWKvIdeal.τ).loc Cert.GWKvIdeal.main_arg0)
          ∧ r.2.mem ((c.tc : Thread Cert.GWKvIdeal.nD Cert.GWKvIdeal.τ).loc Cert.GWKvIdeal.main_arg1) = m ((c.tc : Thread Cert.GWKvIdeal.nD Cert.GWKvIdeal.τ).loc Cert.GWKvIdeal.main_arg1))
      ∧ θ_run (Cert.GWKvRefIdeal.defs (F := Ideal)) (onTc (τ := Cert.GWKvRefIdeal.τ) (Cert.GWKvRefIdeal.main (F := Ideal))) ⟨m', fun _ => 0, g'⟩ (fun r => ∀ c : Dev Cert.GWKvRefIdeal.nD,
          r.2.mem ((c.tc : Thread Cert.GWKvRefIdeal.nD Cert.GWKvRefIdeal.τ).loc Cert.GWKvRefIdeal.main_v6) = v0 c
          ∧ r.2.mem ((c.tc : Thread Cert.GWKvRefIdeal.nD Cert.GWKvRefIdeal.τ).loc Cert.GWKvRefIdeal.main_arg0) = m' ((c.tc : Thread Cert.GWKvRefIdeal.nD Cert.GWKvRefIdeal.τ).loc Cert.GWKvRefIdeal.main_arg0)
          ∧ r.2.mem ((c.tc : Thread Cert.GWKvRefIdeal.nD Cert.GWKvRefIdeal.τ).loc Cert.GWKvRefIdeal.main_arg1) = m' ((c.tc : Thread Cert.GWKvRefIdeal.nD Cert.GWKvRefIdeal.τ).loc Cert.GWKvRefIdeal.main_arg1))

def preserves_DQn_DQnIdeal : Prop :=
  True

def algebraic_DQnIdeal_DQnRefIdeal [hDQnIdeal : Cert.DQnIdeal.Facts] [hDQnRefIdeal : Cert.DQnRefIdeal.Facts] : Prop :=
  ∀ (m : (ℓ : Loc Cert.DQnIdeal.nD Cert.DQnIdeal.τ Cert.DQnIdeal.sig) → Buf (Elt Ideal) ℓ) (g : Dev Cert.DQnIdeal.nD → PrngReg)
    (m' : (ℓ : Loc Cert.DQnRefIdeal.nD Cert.DQnRefIdeal.τ Cert.DQnRefIdeal.sig) → Buf (Elt Ideal) ℓ) (g' : Dev Cert.DQnRefIdeal.nD → PrngReg), Pre_DQnIdeal m →
    (∀ c : Dev Cert.DQnIdeal.nD,
      m' ((c.tc : Thread Cert.DQnRefIdeal.nD Cert.DQnRefIdeal.τ).loc Cert.DQnRefIdeal.main_arg0) = m ((c.tc : Thread Cert.DQnIdeal.nD Cert.DQnIdeal.τ).loc Cert.DQnIdeal.main_arg0)
      ∧ m' ((c.tc : Thread Cert.DQnRefIdeal.nD Cert.DQnRefIdeal.τ).loc Cert.DQnRefIdeal.main_arg1) = m ((c.tc : Thread Cert.DQnIdeal.nD Cert.DQnIdeal.τ).loc Cert.DQnIdeal.main_arg1)) →
    ∃ (v0 : (c : Dev Cert.DQnIdeal.nD) → Buf (Elt Ideal) ((c.tc : Thread Cert.DQnIdeal.nD Cert.DQnIdeal.τ).loc Cert.DQnIdeal.main_v0)),
      θ_run (Cert.DQnIdeal.defs (F := Ideal)) (onTc (τ := Cert.DQnIdeal.τ) (Cert.DQnIdeal.main (F := Ideal))) ⟨m, fun _ => 0, g⟩ (fun r => ∀ c : Dev Cert.DQnIdeal.nD,
          r.2.mem ((c.tc : Thread Cert.DQnIdeal.nD Cert.DQnIdeal.τ).loc Cert.DQnIdeal.main_v0) = v0 c
          ∧ r.2.mem ((c.tc : Thread Cert.DQnIdeal.nD Cert.DQnIdeal.τ).loc Cert.DQnIdeal.main_arg0) = m ((c.tc : Thread Cert.DQnIdeal.nD Cert.DQnIdeal.τ).loc Cert.DQnIdeal.main_arg0)
          ∧ r.2.mem ((c.tc : Thread Cert.DQnIdeal.nD Cert.DQnIdeal.τ).loc Cert.DQnIdeal.main_arg1) = m ((c.tc : Thread Cert.DQnIdeal.nD Cert.DQnIdeal.τ).loc Cert.DQnIdeal.main_arg1))
      ∧ θ_run (Cert.DQnRefIdeal.defs (F := Ideal)) (onTc (τ := Cert.DQnRefIdeal.τ) (Cert.DQnRefIdeal.main (F := Ideal))) ⟨m', fun _ => 0, g'⟩ (fun r => ∀ c : Dev Cert.DQnRefIdeal.nD,
          r.2.mem ((c.tc : Thread Cert.DQnRefIdeal.nD Cert.DQnRefIdeal.τ).loc Cert.DQnRefIdeal.main_v4) = v0 c
          ∧ r.2.mem ((c.tc : Thread Cert.DQnRefIdeal.nD Cert.DQnRefIdeal.τ).loc Cert.DQnRefIdeal.main_arg0) = m' ((c.tc : Thread Cert.DQnRefIdeal.nD Cert.DQnRefIdeal.τ).loc Cert.DQnRefIdeal.main_arg0)
          ∧ r.2.mem ((c.tc : Thread Cert.DQnRefIdeal.nD Cert.DQnRefIdeal.τ).loc Cert.DQnRefIdeal.main_arg1) = m' ((c.tc : Thread Cert.DQnRefIdeal.nD Cert.DQnRefIdeal.τ).loc Cert.DQnRefIdeal.main_arg1))

def preserves_DKvn_DKvnIdeal : Prop :=
  True

def algebraic_DKvnIdeal_DKvnRefIdeal [hDKvnIdeal : Cert.DKvnIdeal.Facts] [hDKvnRefIdeal : Cert.DKvnRefIdeal.Facts] : Prop :=
  ∀ (m : (ℓ : Loc Cert.DKvnIdeal.nD Cert.DKvnIdeal.τ Cert.DKvnIdeal.sig) → Buf (Elt Ideal) ℓ) (g : Dev Cert.DKvnIdeal.nD → PrngReg)
    (m' : (ℓ : Loc Cert.DKvnRefIdeal.nD Cert.DKvnRefIdeal.τ Cert.DKvnRefIdeal.sig) → Buf (Elt Ideal) ℓ) (g' : Dev Cert.DKvnRefIdeal.nD → PrngReg), Pre_DKvnIdeal m →
    (∀ c : Dev Cert.DKvnIdeal.nD,
      m' ((c.tc : Thread Cert.DKvnRefIdeal.nD Cert.DKvnRefIdeal.τ).loc Cert.DKvnRefIdeal.main_arg0) = m ((c.tc : Thread Cert.DKvnIdeal.nD Cert.DKvnIdeal.τ).loc Cert.DKvnIdeal.main_arg0)
      ∧ m' ((c.tc : Thread Cert.DKvnRefIdeal.nD Cert.DKvnRefIdeal.τ).loc Cert.DKvnRefIdeal.main_arg1) = m ((c.tc : Thread Cert.DKvnIdeal.nD Cert.DKvnIdeal.τ).loc Cert.DKvnIdeal.main_arg1)) →
    ∃ (v0 : (c : Dev Cert.DKvnIdeal.nD) → Buf (Elt Ideal) ((c.tc : Thread Cert.DKvnIdeal.nD Cert.DKvnIdeal.τ).loc Cert.DKvnIdeal.main_v0)),
      θ_run (Cert.DKvnIdeal.defs (F := Ideal)) (onTc (τ := Cert.DKvnIdeal.τ) (Cert.DKvnIdeal.main (F := Ideal))) ⟨m, fun _ => 0, g⟩ (fun r => ∀ c : Dev Cert.DKvnIdeal.nD,
          r.2.mem ((c.tc : Thread Cert.DKvnIdeal.nD Cert.DKvnIdeal.τ).loc Cert.DKvnIdeal.main_v0) = v0 c
          ∧ r.2.mem ((c.tc : Thread Cert.DKvnIdeal.nD Cert.DKvnIdeal.τ).loc Cert.DKvnIdeal.main_arg0) = m ((c.tc : Thread Cert.DKvnIdeal.nD Cert.DKvnIdeal.τ).loc Cert.DKvnIdeal.main_arg0)
          ∧ r.2.mem ((c.tc : Thread Cert.DKvnIdeal.nD Cert.DKvnIdeal.τ).loc Cert.DKvnIdeal.main_arg1) = m ((c.tc : Thread Cert.DKvnIdeal.nD Cert.DKvnIdeal.τ).loc Cert.DKvnIdeal.main_arg1))
      ∧ θ_run (Cert.DKvnRefIdeal.defs (F := Ideal)) (onTc (τ := Cert.DKvnRefIdeal.τ) (Cert.DKvnRefIdeal.main (F := Ideal))) ⟨m', fun _ => 0, g'⟩ (fun r => ∀ c : Dev Cert.DKvnRefIdeal.nD,
          r.2.mem ((c.tc : Thread Cert.DKvnRefIdeal.nD Cert.DKvnRefIdeal.τ).loc Cert.DKvnRefIdeal.main_v4) = v0 c
          ∧ r.2.mem ((c.tc : Thread Cert.DKvnRefIdeal.nD Cert.DKvnRefIdeal.τ).loc Cert.DKvnRefIdeal.main_arg0) = m' ((c.tc : Thread Cert.DKvnRefIdeal.nD Cert.DKvnRefIdeal.τ).loc Cert.DKvnRefIdeal.main_arg0)
          ∧ r.2.mem ((c.tc : Thread Cert.DKvnRefIdeal.nD Cert.DKvnRefIdeal.τ).loc Cert.DKvnRefIdeal.main_arg1) = m' ((c.tc : Thread Cert.DKvnRefIdeal.nD Cert.DKvnRefIdeal.τ).loc Cert.DKvnRefIdeal.main_arg1))

def preserves_Att_AttIdeal : Prop :=
  True

def algebraic_AttIdeal_AttRefIdeal_pre_finite_att [hAttIdeal : Cert.AttIdeal.Facts] [hAttRefIdeal : Cert.AttRefIdeal.Facts] [hPre_finite_att : Cert.Pre_finite_att.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttIdeal_finite_att m →
    (∀ c : Dev Cert.AttIdeal.nD,
      m' ((c.tc : Thread Cert.AttRefIdeal.nD Cert.AttRefIdeal.τ).loc Cert.AttRefIdeal.main_arg0) = m ((c.tc : Thread Cert.AttIdeal.nD Cert.AttIdeal.τ).loc Cert.AttIdeal.main_arg0)
      ∧ m' ((c.tc : Thread Cert.AttRefIdeal.nD Cert.AttRefIdeal.τ).loc Cert.AttRefIdeal.main_arg1) = m ((c.tc : Thread Cert.AttIdeal.nD Cert.AttIdeal.τ).loc Cert.AttIdeal.main_arg1)
      ∧ m' ((c.tc : Thread Cert.AttRefIdeal.nD Cert.AttRefIdeal.τ).loc Cert.AttRefIdeal.main_arg2) = m ((c.tc : Thread Cert.AttIdeal.nD Cert.AttIdeal.τ).loc Cert.AttIdeal.main_arg2)) →
    ∃ (v0 : (c : Dev Cert.AttIdeal.nD) → Buf (Elt Ideal) ((c.tc : Thread Cert.AttIdeal.nD Cert.AttIdeal.τ).loc Cert.AttIdeal.main_v0_0)) (v1 : (c : Dev Cert.AttIdeal.nD) → Buf (Elt Ideal) ((c.tc : Thread Cert.AttIdeal.nD Cert.AttIdeal.τ).loc Cert.AttIdeal.main_v0_1)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v0_0) = v0 c
          ∧ r.2.mem ((c.tc : Thread Cert.AttIdeal.nD Cert.AttIdeal.τ).loc Cert.AttIdeal.main_v0_1) = v1 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
          ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
          ∧ r.2.mem ((c.tc : Thread Cert.AttIdeal.nD Cert.AttIdeal.τ).loc Cert.AttIdeal.main_arg2) = m ((c.tc : Thread Cert.AttIdeal.nD Cert.AttIdeal.τ).loc Cert.AttIdeal.main_arg2))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v52) = v0 c
          ∧ r.2.mem ((c.tc : Thread Cert.AttRefIdeal.nD Cert.AttRefIdeal.τ).loc Cert.AttRefIdeal.main_v95) = v1 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0)
          ∧ r.2.mem ((c.tc : Thread Cert.AttRefIdeal.nD Cert.AttRefIdeal.τ).loc Cert.AttRefIdeal.main_arg1) = m' ((c.tc : Thread Cert.AttRefIdeal.nD Cert.AttRefIdeal.τ).loc Cert.AttRefIdeal.main_arg1)
          ∧ r.2.mem ((c.tc : Thread Cert.AttRefIdeal.nD Cert.AttRefIdeal.τ).loc Cert.AttRefIdeal.main_arg2) = m' ((c.tc : Thread Cert.AttRefIdeal.nD Cert.AttRefIdeal.τ).loc Cert.AttRefIdeal.main_arg2))

def preserves_Pre_PreIdeal : Prop :=
  True

def algebraic_PreIdeal_PreRefIdeal [hPreIdeal : Cert.PreIdeal.Facts] [hPreRefIdeal : Cert.PreRefIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)) →
    ∃ (v0 : (c : Dev Cert.PreIdeal.nD) → Buf (Elt Ideal) ((c.tc : Thread Cert.PreIdeal.nD Cert.PreIdeal.τ).loc Cert.PreIdeal.main_v0)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v0) = v0 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v35) = v0 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2))

def preserves_Res_ResIdeal : Prop :=
  True

def algebraic_ResIdeal_ResRefIdeal [hResIdeal : Cert.ResIdeal.Facts] [hResRefIdeal : Cert.ResRefIdeal.Facts] : Prop :=
  ∀ (m : (ℓ : Loc Cert.ResIdeal.nD Cert.ResIdeal.τ Cert.ResIdeal.sig) → Buf (Elt Ideal) ℓ) (g : Dev Cert.ResIdeal.nD → PrngReg)
    (m' : (ℓ : Loc Cert.ResRefIdeal.nD Cert.ResRefIdeal.τ Cert.ResRefIdeal.sig) → Buf (Elt Ideal) ℓ) (g' : Dev Cert.ResRefIdeal.nD → PrngReg), Pre_ResIdeal m →
    (∀ c : Dev Cert.ResIdeal.nD,
      m' ((c.tc : Thread Cert.ResRefIdeal.nD Cert.ResRefIdeal.τ).loc Cert.ResRefIdeal.main_arg0) = m ((c.tc : Thread Cert.ResIdeal.nD Cert.ResIdeal.τ).loc Cert.ResIdeal.main_arg0)
      ∧ m' ((c.tc : Thread Cert.ResRefIdeal.nD Cert.ResRefIdeal.τ).loc Cert.ResRefIdeal.main_arg1) = m ((c.tc : Thread Cert.ResIdeal.nD Cert.ResIdeal.τ).loc Cert.ResIdeal.main_arg1)
      ∧ m' ((c.tc : Thread Cert.ResRefIdeal.nD Cert.ResRefIdeal.τ).loc Cert.ResRefIdeal.main_arg2) = m ((c.tc : Thread Cert.ResIdeal.nD Cert.ResIdeal.τ).loc Cert.ResIdeal.main_arg2)) →
    ∃ (v0 : (c : Dev Cert.ResIdeal.nD) → Buf (Elt Ideal) ((c.tc : Thread Cert.ResIdeal.nD Cert.ResIdeal.τ).loc Cert.ResIdeal.main_v0)),
      θ_run (Cert.ResIdeal.defs (F := Ideal)) (onTc (τ := Cert.ResIdeal.τ) (Cert.ResIdeal.main (F := Ideal))) ⟨m, fun _ => 0, g⟩ (fun r => ∀ c : Dev Cert.ResIdeal.nD,
          r.2.mem ((c.tc : Thread Cert.ResIdeal.nD Cert.ResIdeal.τ).loc Cert.ResIdeal.main_v0) = v0 c
          ∧ r.2.mem ((c.tc : Thread Cert.ResIdeal.nD Cert.ResIdeal.τ).loc Cert.ResIdeal.main_arg0) = m ((c.tc : Thread Cert.ResIdeal.nD Cert.ResIdeal.τ).loc Cert.ResIdeal.main_arg0)
          ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
          ∧ r.2.mem ((c.tc : Thread Cert.ResIdeal.nD Cert.ResIdeal.τ).loc Cert.ResIdeal.main_arg2) = m ((c.tc : Thread Cert.ResIdeal.nD Cert.ResIdeal.τ).loc Cert.ResIdeal.main_arg2))
      ∧ θ_run (Cert.ResRefIdeal.defs (F := Ideal)) (onTc (τ := Cert.ResRefIdeal.τ) (Cert.ResRefIdeal.main (F := Ideal))) ⟨m', fun _ => 0, g'⟩ (fun r => ∀ c : Dev Cert.ResRefIdeal.nD,
          r.2.mem ((c.tc : Thread Cert.ResRefIdeal.nD Cert.ResRefIdeal.τ).loc Cert.ResRefIdeal.main_v11) = v0 c
          ∧ r.2.mem ((c.tc : Thread Cert.ResRefIdeal.nD Cert.ResRefIdeal.τ).loc Cert.ResRefIdeal.main_arg0) = m' ((c.tc : Thread Cert.ResRefIdeal.nD Cert.ResRefIdeal.τ).loc Cert.ResRefIdeal.main_arg0)
          ∧ r.2.mem ((c.tc : Thread Cert.ResRefIdeal.nD Cert.ResRefIdeal.τ).loc Cert.ResRefIdeal.main_arg1) = m' ((c.tc : Thread Cert.ResRefIdeal.nD Cert.ResRefIdeal.τ).loc Cert.ResRefIdeal.main_arg1)
          ∧ r.2.mem ((c.tc : Thread Cert.ResRefIdeal.nD Cert.ResRefIdeal.τ).loc Cert.ResRefIdeal.main_arg2) = m' ((c.tc : Thread Cert.ResRefIdeal.nD Cert.ResRefIdeal.τ).loc Cert.ResRefIdeal.main_arg2))

def preserves_MixRes_MixResIdeal : Prop :=
  True

def algebraic_MixResIdeal_MixResRefIdeal [hMixResIdeal : Cert.MixResIdeal.Facts] [hMixResRefIdeal : Cert.MixResRefIdeal.Facts] : Prop :=
  ∀ (m : (ℓ : Loc Cert.MixResIdeal.nD Cert.MixResIdeal.τ Cert.MixResIdeal.sig) → Buf (Elt Ideal) ℓ) (g : Dev Cert.MixResIdeal.nD → PrngReg)
    (m' : (ℓ : Loc Cert.MixResRefIdeal.nD Cert.MixResRefIdeal.τ Cert.MixResRefIdeal.sig) → Buf (Elt Ideal) ℓ) (g' : Dev Cert.MixResRefIdeal.nD → PrngReg), Pre_MixResIdeal m →
    (∀ c : Dev Cert.MixResIdeal.nD,
      m' ((c.tc : Thread Cert.MixResRefIdeal.nD Cert.MixResRefIdeal.τ).loc Cert.MixResRefIdeal.main_arg0) = m ((c.tc : Thread Cert.MixResIdeal.nD Cert.MixResIdeal.τ).loc Cert.MixResIdeal.main_arg0)
      ∧ m' ((c.tc : Thread Cert.MixResRefIdeal.nD Cert.MixResRefIdeal.τ).loc Cert.MixResRefIdeal.main_arg1) = m ((c.tc : Thread Cert.MixResIdeal.nD Cert.MixResIdeal.τ).loc Cert.MixResIdeal.main_arg1)
      ∧ m' ((c.tc : Thread Cert.MixResRefIdeal.nD Cert.MixResRefIdeal.τ).loc Cert.MixResRefIdeal.main_arg2) = m ((c.tc : Thread Cert.MixResIdeal.nD Cert.MixResIdeal.τ).loc Cert.MixResIdeal.main_arg2)
      ∧ m' ((c.tc : Thread Cert.MixResRefIdeal.nD Cert.MixResRefIdeal.τ).loc Cert.MixResRefIdeal.main_arg3) = m ((c.tc : Thread Cert.MixResIdeal.nD Cert.MixResIdeal.τ).loc Cert.MixResIdeal.main_arg3)) →
    ∃ (v0 : (c : Dev Cert.MixResIdeal.nD) → Buf (Elt Ideal) ((c.tc : Thread Cert.MixResIdeal.nD Cert.MixResIdeal.τ).loc Cert.MixResIdeal.main_v0_0)) (v1 : (c : Dev Cert.MixResIdeal.nD) → Buf (Elt Ideal) ((c.tc : Thread Cert.MixResIdeal.nD Cert.MixResIdeal.τ).loc Cert.MixResIdeal.main_v0_1)),
      θ_run (Cert.MixResIdeal.defs (F := Ideal)) (onTc (τ := Cert.MixResIdeal.τ) (Cert.MixResIdeal.main (F := Ideal))) ⟨m, fun _ => 0, g⟩ (fun r => ∀ c : Dev Cert.MixResIdeal.nD,
          r.2.mem ((c.tc : Thread Cert.MixResIdeal.nD Cert.MixResIdeal.τ).loc Cert.MixResIdeal.main_v0_0) = v0 c
          ∧ r.2.mem ((c.tc : Thread Cert.MixResIdeal.nD Cert.MixResIdeal.τ).loc Cert.MixResIdeal.main_v0_1) = v1 c
          ∧ r.2.mem ((c.tc : Thread Cert.MixResIdeal.nD Cert.MixResIdeal.τ).loc Cert.MixResIdeal.main_arg0) = m ((c.tc : Thread Cert.MixResIdeal.nD Cert.MixResIdeal.τ).loc Cert.MixResIdeal.main_arg0)
          ∧ r.2.mem ((c.tc : Thread Cert.MixResIdeal.nD Cert.MixResIdeal.τ).loc Cert.MixResIdeal.main_arg1) = m ((c.tc : Thread Cert.MixResIdeal.nD Cert.MixResIdeal.τ).loc Cert.MixResIdeal.main_arg1)
          ∧ r.2.mem ((c.tc : Thread Cert.MixResIdeal.nD Cert.MixResIdeal.τ).loc Cert.MixResIdeal.main_arg2) = m ((c.tc : Thread Cert.MixResIdeal.nD Cert.MixResIdeal.τ).loc Cert.MixResIdeal.main_arg2)
          ∧ r.2.mem ((c.tc : Thread Cert.MixResIdeal.nD Cert.MixResIdeal.τ).loc Cert.MixResIdeal.main_arg3) = m ((c.tc : Thread Cert.MixResIdeal.nD Cert.MixResIdeal.τ).loc Cert.MixResIdeal.main_arg3))
      ∧ θ_run (Cert.MixResRefIdeal.defs (F := Ideal)) (onTc (τ := Cert.MixResRefIdeal.τ) (Cert.MixResRefIdeal.main (F := Ideal))) ⟨m', fun _ => 0, g'⟩ (fun r => ∀ c : Dev Cert.MixResRefIdeal.nD,
          r.2.mem ((c.tc : Thread Cert.MixResRefIdeal.nD Cert.MixResRefIdeal.τ).loc Cert.MixResRefIdeal.main_v11) = v0 c
          ∧ r.2.mem ((c.tc : Thread Cert.MixResRefIdeal.nD Cert.MixResRefIdeal.τ).loc Cert.MixResRefIdeal.main_v47) = v1 c
          ∧ r.2.mem ((c.tc : Thread Cert.MixResRefIdeal.nD Cert.MixResRefIdeal.τ).loc Cert.MixResRefIdeal.main_arg0) = m' ((c.tc : Thread Cert.MixResRefIdeal.nD Cert.MixResRefIdeal.τ).loc Cert.MixResRefIdeal.main_arg0)
          ∧ r.2.mem ((c.tc : Thread Cert.MixResRefIdeal.nD Cert.MixResRefIdeal.τ).loc Cert.MixResRefIdeal.main_arg1) = m' ((c.tc : Thread Cert.MixResRefIdeal.nD Cert.MixResRefIdeal.τ).loc Cert.MixResRefIdeal.main_arg1)
          ∧ r.2.mem ((c.tc : Thread Cert.MixResRefIdeal.nD Cert.MixResRefIdeal.τ).loc Cert.MixResRefIdeal.main_arg2) = m' ((c.tc : Thread Cert.MixResRefIdeal.nD Cert.MixResRefIdeal.τ).loc Cert.MixResRefIdeal.main_arg2)
          ∧ r.2.mem ((c.tc : Thread Cert.MixResRefIdeal.nD Cert.MixResRefIdeal.τ).loc Cert.MixResRefIdeal.main_arg3) = m' ((c.tc : Thread Cert.MixResRefIdeal.nD Cert.MixResRefIdeal.τ).loc Cert.MixResRefIdeal.main_arg3))

def preserves_FfnRes_FfnResIdeal : Prop :=
  True

def algebraic_FfnResIdeal_FfnResRefIdeal [hFfnResIdeal : Cert.FfnResIdeal.Facts] [hFfnResRefIdeal : Cert.FfnResRefIdeal.Facts] : Prop :=
  ∀ (m : (ℓ : Loc Cert.FfnResIdeal.nD Cert.FfnResIdeal.τ Cert.FfnResIdeal.sig) → Buf (Elt Ideal) ℓ) (g : Dev Cert.FfnResIdeal.nD → PrngReg)
    (m' : (ℓ : Loc Cert.FfnResRefIdeal.nD Cert.FfnResRefIdeal.τ Cert.FfnResRefIdeal.sig) → Buf (Elt Ideal) ℓ) (g' : Dev Cert.FfnResRefIdeal.nD → PrngReg), Pre_FfnResIdeal m →
    (∀ c : Dev Cert.FfnResIdeal.nD,
      m' ((c.tc : Thread Cert.FfnResRefIdeal.nD Cert.FfnResRefIdeal.τ).loc Cert.FfnResRefIdeal.main_arg0) = m ((c.tc : Thread Cert.FfnResIdeal.nD Cert.FfnResIdeal.τ).loc Cert.FfnResIdeal.main_arg0)
      ∧ m' ((c.tc : Thread Cert.FfnResRefIdeal.nD Cert.FfnResRefIdeal.τ).loc Cert.FfnResRefIdeal.main_arg1) = m ((c.tc : Thread Cert.FfnResIdeal.nD Cert.FfnResIdeal.τ).loc Cert.FfnResIdeal.main_arg1)
      ∧ m' ((c.tc : Thread Cert.FfnResRefIdeal.nD Cert.FfnResRefIdeal.τ).loc Cert.FfnResRefIdeal.main_arg2) = m ((c.tc : Thread Cert.FfnResIdeal.nD Cert.FfnResIdeal.τ).loc Cert.FfnResIdeal.main_arg2)
      ∧ m' ((c.tc : Thread Cert.FfnResRefIdeal.nD Cert.FfnResRefIdeal.τ).loc Cert.FfnResRefIdeal.main_arg3) = m ((c.tc : Thread Cert.FfnResIdeal.nD Cert.FfnResIdeal.τ).loc Cert.FfnResIdeal.main_arg3)
      ∧ m' ((c.tc : Thread Cert.FfnResRefIdeal.nD Cert.FfnResRefIdeal.τ).loc Cert.FfnResRefIdeal.main_arg4) = m ((c.tc : Thread Cert.FfnResIdeal.nD Cert.FfnResIdeal.τ).loc Cert.FfnResIdeal.main_arg4)) →
    ∃ (v0 : (c : Dev Cert.FfnResIdeal.nD) → Buf (Elt Ideal) ((c.tc : Thread Cert.FfnResIdeal.nD Cert.FfnResIdeal.τ).loc Cert.FfnResIdeal.main_v0_0)) (v1 : (c : Dev Cert.FfnResIdeal.nD) → Buf (Elt Ideal) ((c.tc : Thread Cert.FfnResIdeal.nD Cert.FfnResIdeal.τ).loc Cert.FfnResIdeal.main_v0_1)),
      θ_run (Cert.FfnResIdeal.defs (F := Ideal)) (onTc (τ := Cert.FfnResIdeal.τ) (Cert.FfnResIdeal.main (F := Ideal))) ⟨m, fun _ => 0, g⟩ (fun r => ∀ c : Dev Cert.FfnResIdeal.nD,
          r.2.mem ((c.tc : Thread Cert.FfnResIdeal.nD Cert.FfnResIdeal.τ).loc Cert.FfnResIdeal.main_v0_0) = v0 c
          ∧ r.2.mem ((c.tc : Thread Cert.FfnResIdeal.nD Cert.FfnResIdeal.τ).loc Cert.FfnResIdeal.main_v0_1) = v1 c
          ∧ r.2.mem ((c.tc : Thread Cert.FfnResIdeal.nD Cert.FfnResIdeal.τ).loc Cert.FfnResIdeal.main_arg0) = m ((c.tc : Thread Cert.FfnResIdeal.nD Cert.FfnResIdeal.τ).loc Cert.FfnResIdeal.main_arg0)
          ∧ r.2.mem ((c.tc : Thread Cert.FfnResIdeal.nD Cert.FfnResIdeal.τ).loc Cert.FfnResIdeal.main_arg1) = m ((c.tc : Thread Cert.FfnResIdeal.nD Cert.FfnResIdeal.τ).loc Cert.FfnResIdeal.main_arg1)
          ∧ r.2.mem ((c.tc : Thread Cert.FfnResIdeal.nD Cert.FfnResIdeal.τ).loc Cert.FfnResIdeal.main_arg2) = m ((c.tc : Thread Cert.FfnResIdeal.nD Cert.FfnResIdeal.τ).loc Cert.FfnResIdeal.main_arg2)
          ∧ r.2.mem ((c.tc : Thread Cert.FfnResIdeal.nD Cert.FfnResIdeal.τ).loc Cert.FfnResIdeal.main_arg3) = m ((c.tc : Thread Cert.FfnResIdeal.nD Cert.FfnResIdeal.τ).loc Cert.FfnResIdeal.main_arg3)
          ∧ r.2.mem ((c.tc : Thread Cert.FfnResIdeal.nD Cert.FfnResIdeal.τ).loc Cert.FfnResIdeal.main_arg4) = m ((c.tc : Thread Cert.FfnResIdeal.nD Cert.FfnResIdeal.τ).loc Cert.FfnResIdeal.main_arg4))
      ∧ θ_run (Cert.FfnResRefIdeal.defs (F := Ideal)) (onTc (τ := Cert.FfnResRefIdeal.τ) (Cert.FfnResRefIdeal.main (F := Ideal))) ⟨m', fun _ => 0, g'⟩ (fun r => ∀ c : Dev Cert.FfnResRefIdeal.nD,
          r.2.mem ((c.tc : Thread Cert.FfnResRefIdeal.nD Cert.FfnResRefIdeal.τ).loc Cert.FfnResRefIdeal.main_v11) = v0 c
          ∧ r.2.mem ((c.tc : Thread Cert.FfnResRefIdeal.nD Cert.FfnResRefIdeal.τ).loc Cert.FfnResRefIdeal.main_v47) = v1 c
          ∧ r.2.mem ((c.tc : Thread Cert.FfnResRefIdeal.nD Cert.FfnResRefIdeal.τ).loc Cert.FfnResRefIdeal.main_arg0) = m' ((c.tc : Thread Cert.FfnResRefIdeal.nD Cert.FfnResRefIdeal.τ).loc Cert.FfnResRefIdeal.main_arg0)
          ∧ r.2.mem ((c.tc : Thread Cert.FfnResRefIdeal.nD Cert.FfnResRefIdeal.τ).loc Cert.FfnResRefIdeal.main_arg1) = m' ((c.tc : Thread Cert.FfnResRefIdeal.nD Cert.FfnResRefIdeal.τ).loc Cert.FfnResRefIdeal.main_arg1)
          ∧ r.2.mem ((c.tc : Thread Cert.FfnResRefIdeal.nD Cert.FfnResRefIdeal.τ).loc Cert.FfnResRefIdeal.main_arg2) = m' ((c.tc : Thread Cert.FfnResRefIdeal.nD Cert.FfnResRefIdeal.τ).loc Cert.FfnResRefIdeal.main_arg2)
          ∧ r.2.mem ((c.tc : Thread Cert.FfnResRefIdeal.nD Cert.FfnResRefIdeal.τ).loc Cert.FfnResRefIdeal.main_arg3) = m' ((c.tc : Thread Cert.FfnResRefIdeal.nD Cert.FfnResRefIdeal.τ).loc Cert.FfnResRefIdeal.main_arg3)
          ∧ r.2.mem ((c.tc : Thread Cert.FfnResRefIdeal.nD Cert.FfnResRefIdeal.τ).loc Cert.FfnResRefIdeal.main_arg4) = m' ((c.tc : Thread Cert.FfnResRefIdeal.nD Cert.FfnResRefIdeal.τ).loc Cert.FfnResRefIdeal.main_arg4))

def Claim : Prop :=
  ∃ (hKernel : Cert.Kernel.Facts) (hKernelIdeal : Cert.KernelIdeal.Facts) (hReferenceIdeal : Cert.ReferenceIdeal.Facts) (hMid : Cert.Mid.Facts) (hMidIdeal : Cert.MidIdeal.Facts) (hMidRefIdeal : Cert.MidRefIdeal.Facts) (hFfn : Cert.Ffn.Facts) (hFfnIdeal : Cert.FfnIdeal.Facts) (hFfnRefIdeal : Cert.FfnRefIdeal.Facts) (hGIn : Cert.GIn.Facts) (hGInIdeal : Cert.GInIdeal.Facts) (hGInRefIdeal : Cert.GInRefIdeal.Facts) (hGOut : Cert.GOut.Facts) (hGOutIdeal : Cert.GOutIdeal.Facts) (hGOutRefIdeal : Cert.GOutRefIdeal.Facts) (hDX : Cert.DX.Facts) (hDXIdeal : Cert.DXIdeal.Facts) (hDXRefIdeal : Cert.DXRefIdeal.Facts) (hAbIn : Cert.AbIn.Facts) (hAbInIdeal : Cert.AbInIdeal.Facts) (hAbInRefIdeal : Cert.AbInRefIdeal.Facts) (hCdIn : Cert.CdIn.Facts) (hCdInIdeal : Cert.CdInIdeal.Facts) (hCdInRefIdeal : Cert.CdInRefIdeal.Facts) (hOuts : Cert.Outs.Facts) (hOutsIdeal : Cert.OutsIdeal.Facts) (hOutsRefIdeal : Cert.OutsRefIdeal.Facts) (hGAb : Cert.GAb.Facts) (hGAbIdeal : Cert.GAbIdeal.Facts) (hGAbRefIdeal : Cert.GAbRefIdeal.Facts) (hGCd : Cert.GCd.Facts) (hGCdIdeal : Cert.GCdIdeal.Facts) (hGCdRefIdeal : Cert.GCdRefIdeal.Facts) (hGHalf : Cert.GHalf.Facts) (hGHalfIdeal : Cert.GHalfIdeal.Facts) (hGHalfRefIdeal : Cert.GHalfRefIdeal.Facts) (hDCat : Cert.DCat.Facts) (hDCatIdeal : Cert.DCatIdeal.Facts) (hDCatRefIdeal : Cert.DCatRefIdeal.Facts) (hDAb : Cert.DAb.Facts) (hDAbIdeal : Cert.DAbIdeal.Facts) (hDAbRefIdeal : Cert.DAbRefIdeal.Facts) (hDCd : Cert.DCd.Facts) (hDCdIdeal : Cert.DCdIdeal.Facts) (hDCdRefIdeal : Cert.DCdRefIdeal.Facts) (hWKv : Cert.WKv.Facts) (hWKvIdeal : Cert.WKvIdeal.Facts) (hWKvRefIdeal : Cert.WKvRefIdeal.Facts) (hWQ : Cert.WQ.Facts) (hWQIdeal : Cert.WQIdeal.Facts) (hWQRefIdeal : Cert.WQRefIdeal.Facts) (hGWQ : Cert.GWQ.Facts) (hGWQIdeal : Cert.GWQIdeal.Facts) (hGWQRefIdeal : Cert.GWQRefIdeal.Facts) (hGWKv : Cert.GWKv.Facts) (hGWKvIdeal : Cert.GWKvIdeal.Facts) (hGWKvRefIdeal : Cert.GWKvRefIdeal.Facts) (hDQn : Cert.DQn.Facts) (hDQnIdeal : Cert.DQnIdeal.Facts) (hDQnRefIdeal : Cert.DQnRefIdeal.Facts) (hDKvn : Cert.DKvn.Facts) (hDKvnIdeal : Cert.DKvnIdeal.Facts) (hDKvnRefIdeal : Cert.DKvnRefIdeal.Facts) (hAtt : Cert.Att.Facts) (hAttIdeal : Cert.AttIdeal.Facts) (hAttRefIdeal : Cert.AttRefIdeal.Facts) (hPre : Cert.Pre.Facts) (hPreIdeal : Cert.PreIdeal.Facts) (hPreRefIdeal : Cert.PreRefIdeal.Facts) (hRes : Cert.Res.Facts) (hResIdeal : Cert.ResIdeal.Facts) (hResRefIdeal : Cert.ResRefIdeal.Facts) (hMixRes : Cert.MixRes.Facts) (hMixResIdeal : Cert.MixResIdeal.Facts) (hMixResRefIdeal : Cert.MixResRefIdeal.Facts) (hFfnRes : Cert.FfnRes.Facts) (hFfnResIdeal : Cert.FfnResIdeal.Facts) (hFfnResRefIdeal : Cert.FfnResRefIdeal.Facts) (hPre_finite : Cert.Pre_finite.Facts) (hPre_finite_ffn : Cert.Pre_finite_ffn.Facts) (hPre_finite_att : Cert.Pre_finite_att.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mid (hMid := hMid)
    ∧ quiescent_MidIdeal (hMidIdeal := hMidIdeal)
    ∧ quiescent_MidIdeal_pre_finite_ffn (hMidIdeal := hMidIdeal) (hPre_finite_ffn := hPre_finite_ffn)
    ∧ quiescent_MidRefIdeal (hMidRefIdeal := hMidRefIdeal)
    ∧ quiescent_MidRefIdeal_pre_finite_ffn (hMidRefIdeal := hMidRefIdeal) (hPre_finite_ffn := hPre_finite_ffn)
    ∧ quiescent_Ffn (hFfn := hFfn)
    ∧ quiescent_FfnIdeal (hFfnIdeal := hFfnIdeal)
    ∧ quiescent_FfnRefIdeal (hFfnRefIdeal := hFfnRefIdeal)
    ∧ quiescent_GIn (hGIn := hGIn)
    ∧ quiescent_GInIdeal (hGInIdeal := hGInIdeal)
    ∧ quiescent_GInRefIdeal (hGInRefIdeal := hGInRefIdeal)
    ∧ quiescent_GOut (hGOut := hGOut)
    ∧ quiescent_GOutIdeal (hGOutIdeal := hGOutIdeal)
    ∧ quiescent_GOutRefIdeal (hGOutRefIdeal := hGOutRefIdeal)
    ∧ quiescent_DX (hDX := hDX)
    ∧ quiescent_DXIdeal (hDXIdeal := hDXIdeal)
    ∧ quiescent_DXRefIdeal (hDXRefIdeal := hDXRefIdeal)
    ∧ quiescent_AbIn (hAbIn := hAbIn)
    ∧ quiescent_AbInIdeal (hAbInIdeal := hAbInIdeal)
    ∧ quiescent_AbInRefIdeal (hAbInRefIdeal := hAbInRefIdeal)
    ∧ quiescent_CdIn (hCdIn := hCdIn)
    ∧ quiescent_CdInIdeal (hCdInIdeal := hCdInIdeal)
    ∧ quiescent_CdInRefIdeal (hCdInRefIdeal := hCdInRefIdeal)
    ∧ quiescent_Outs (hOuts := hOuts)
    ∧ quiescent_OutsIdeal (hOutsIdeal := hOutsIdeal)
    ∧ quiescent_OutsRefIdeal (hOutsRefIdeal := hOutsRefIdeal)
    ∧ quiescent_GAb (hGAb := hGAb)
    ∧ quiescent_GAbIdeal (hGAbIdeal := hGAbIdeal)
    ∧ quiescent_GAbRefIdeal (hGAbRefIdeal := hGAbRefIdeal)
    ∧ quiescent_GCd (hGCd := hGCd)
    ∧ quiescent_GCdIdeal (hGCdIdeal := hGCdIdeal)
    ∧ quiescent_GCdRefIdeal (hGCdRefIdeal := hGCdRefIdeal)
    ∧ quiescent_GHalf (hGHalf := hGHalf)
    ∧ quiescent_GHalfIdeal (hGHalfIdeal := hGHalfIdeal)
    ∧ quiescent_GHalfRefIdeal (hGHalfRefIdeal := hGHalfRefIdeal)
    ∧ quiescent_DCat (hDCat := hDCat)
    ∧ quiescent_DCatIdeal (hDCatIdeal := hDCatIdeal)
    ∧ quiescent_DCatRefIdeal (hDCatRefIdeal := hDCatRefIdeal)
    ∧ quiescent_DAb (hDAb := hDAb)
    ∧ quiescent_DAbIdeal (hDAbIdeal := hDAbIdeal)
    ∧ quiescent_DAbRefIdeal (hDAbRefIdeal := hDAbRefIdeal)
    ∧ quiescent_DCd (hDCd := hDCd)
    ∧ quiescent_DCdIdeal (hDCdIdeal := hDCdIdeal)
    ∧ quiescent_DCdRefIdeal (hDCdRefIdeal := hDCdRefIdeal)
    ∧ quiescent_WKv (hWKv := hWKv)
    ∧ quiescent_WKvIdeal (hWKvIdeal := hWKvIdeal)
    ∧ quiescent_WKvRefIdeal (hWKvRefIdeal := hWKvRefIdeal)
    ∧ quiescent_WQ (hWQ := hWQ)
    ∧ quiescent_WQIdeal (hWQIdeal := hWQIdeal)
    ∧ quiescent_WQRefIdeal (hWQRefIdeal := hWQRefIdeal)
    ∧ quiescent_GWQ (hGWQ := hGWQ)
    ∧ quiescent_GWQIdeal (hGWQIdeal := hGWQIdeal)
    ∧ quiescent_GWQRefIdeal (hGWQRefIdeal := hGWQRefIdeal)
    ∧ quiescent_GWKv (hGWKv := hGWKv)
    ∧ quiescent_GWKvIdeal (hGWKvIdeal := hGWKvIdeal)
    ∧ quiescent_GWKvRefIdeal (hGWKvRefIdeal := hGWKvRefIdeal)
    ∧ quiescent_DQn (hDQn := hDQn)
    ∧ quiescent_DQnIdeal (hDQnIdeal := hDQnIdeal)
    ∧ quiescent_DQnRefIdeal (hDQnRefIdeal := hDQnRefIdeal)
    ∧ quiescent_DKvn (hDKvn := hDKvn)
    ∧ quiescent_DKvnIdeal (hDKvnIdeal := hDKvnIdeal)
    ∧ quiescent_DKvnRefIdeal (hDKvnRefIdeal := hDKvnRefIdeal)
    ∧ quiescent_Att (hAtt := hAtt)
    ∧ quiescent_AttIdeal (hAttIdeal := hAttIdeal)
    ∧ quiescent_AttIdeal_pre_finite_att (hAttIdeal := hAttIdeal) (hPre_finite_att := hPre_finite_att)
    ∧ quiescent_AttRefIdeal (hAttRefIdeal := hAttRefIdeal)
    ∧ quiescent_AttRefIdeal_pre_finite_att (hAttRefIdeal := hAttRefIdeal) (hPre_finite_att := hPre_finite_att)
    ∧ quiescent_Pre (hPre := hPre)
    ∧ quiescent_PreIdeal (hPreIdeal := hPreIdeal)
    ∧ quiescent_PreRefIdeal (hPreRefIdeal := hPreRefIdeal)
    ∧ quiescent_Res (hRes := hRes)
    ∧ quiescent_ResIdeal (hResIdeal := hResIdeal)
    ∧ quiescent_ResRefIdeal (hResRefIdeal := hResRefIdeal)
    ∧ quiescent_MixRes (hMixRes := hMixRes)
    ∧ quiescent_MixResIdeal (hMixResIdeal := hMixResIdeal)
    ∧ quiescent_MixResRefIdeal (hMixResRefIdeal := hMixResRefIdeal)
    ∧ quiescent_FfnRes (hFfnRes := hFfnRes)
    ∧ quiescent_FfnResIdeal (hFfnResIdeal := hFfnResIdeal)
    ∧ quiescent_FfnResRefIdeal (hFfnResRefIdeal := hFfnResRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mid_MidIdeal
    ∧ algebraic_MidIdeal_MidRefIdeal_pre_finite_ffn (hMidIdeal := hMidIdeal) (hMidRefIdeal := hMidRefIdeal) (hPre_finite_ffn := hPre_finite_ffn)
    ∧ preserves_Ffn_FfnIdeal
    ∧ algebraic_FfnIdeal_FfnRefIdeal (hFfnIdeal := hFfnIdeal) (hFfnRefIdeal := hFfnRefIdeal)
    ∧ preserves_GIn_GInIdeal
    ∧ algebraic_GInIdeal_GInRefIdeal (hGInIdeal := hGInIdeal) (hGInRefIdeal := hGInRefIdeal)
    ∧ preserves_GOut_GOutIdeal
    ∧ algebraic_GOutIdeal_GOutRefIdeal (hGOutIdeal := hGOutIdeal) (hGOutRefIdeal := hGOutRefIdeal)
    ∧ preserves_DX_DXIdeal
    ∧ algebraic_DXIdeal_DXRefIdeal (hDXIdeal := hDXIdeal) (hDXRefIdeal := hDXRefIdeal)
    ∧ preserves_AbIn_AbInIdeal
    ∧ algebraic_AbInIdeal_AbInRefIdeal (hAbInIdeal := hAbInIdeal) (hAbInRefIdeal := hAbInRefIdeal)
    ∧ preserves_CdIn_CdInIdeal
    ∧ algebraic_CdInIdeal_CdInRefIdeal (hCdInIdeal := hCdInIdeal) (hCdInRefIdeal := hCdInRefIdeal)
    ∧ preserves_Outs_OutsIdeal
    ∧ algebraic_OutsIdeal_OutsRefIdeal (hOutsIdeal := hOutsIdeal) (hOutsRefIdeal := hOutsRefIdeal)
    ∧ preserves_GAb_GAbIdeal
    ∧ algebraic_GAbIdeal_GAbRefIdeal (hGAbIdeal := hGAbIdeal) (hGAbRefIdeal := hGAbRefIdeal)
    ∧ preserves_GCd_GCdIdeal
    ∧ algebraic_GCdIdeal_GCdRefIdeal (hGCdIdeal := hGCdIdeal) (hGCdRefIdeal := hGCdRefIdeal)
    ∧ preserves_GHalf_GHalfIdeal
    ∧ algebraic_GHalfIdeal_GHalfRefIdeal (hGHalfIdeal := hGHalfIdeal) (hGHalfRefIdeal := hGHalfRefIdeal)
    ∧ preserves_DCat_DCatIdeal
    ∧ algebraic_DCatIdeal_DCatRefIdeal (hDCatIdeal := hDCatIdeal) (hDCatRefIdeal := hDCatRefIdeal)
    ∧ preserves_DAb_DAbIdeal
    ∧ algebraic_DAbIdeal_DAbRefIdeal (hDAbIdeal := hDAbIdeal) (hDAbRefIdeal := hDAbRefIdeal)
    ∧ preserves_DCd_DCdIdeal
    ∧ algebraic_DCdIdeal_DCdRefIdeal (hDCdIdeal := hDCdIdeal) (hDCdRefIdeal := hDCdRefIdeal)
    ∧ preserves_WKv_WKvIdeal
    ∧ algebraic_WKvIdeal_WKvRefIdeal (hWKvIdeal := hWKvIdeal) (hWKvRefIdeal := hWKvRefIdeal)
    ∧ preserves_WQ_WQIdeal
    ∧ algebraic_WQIdeal_WQRefIdeal (hWQIdeal := hWQIdeal) (hWQRefIdeal := hWQRefIdeal)
    ∧ preserves_GWQ_GWQIdeal
    ∧ algebraic_GWQIdeal_GWQRefIdeal (hGWQIdeal := hGWQIdeal) (hGWQRefIdeal := hGWQRefIdeal)
    ∧ preserves_GWKv_GWKvIdeal
    ∧ algebraic_GWKvIdeal_GWKvRefIdeal (hGWKvIdeal := hGWKvIdeal) (hGWKvRefIdeal := hGWKvRefIdeal)
    ∧ preserves_DQn_DQnIdeal
    ∧ algebraic_DQnIdeal_DQnRefIdeal (hDQnIdeal := hDQnIdeal) (hDQnRefIdeal := hDQnRefIdeal)
    ∧ preserves_DKvn_DKvnIdeal
    ∧ algebraic_DKvnIdeal_DKvnRefIdeal (hDKvnIdeal := hDKvnIdeal) (hDKvnRefIdeal := hDKvnRefIdeal)
    ∧ preserves_Att_AttIdeal
    ∧ algebraic_AttIdeal_AttRefIdeal_pre_finite_att (hAttIdeal := hAttIdeal) (hAttRefIdeal := hAttRefIdeal) (hPre_finite_att := hPre_finite_att)
    ∧ preserves_Pre_PreIdeal
    ∧ algebraic_PreIdeal_PreRefIdeal (hPreIdeal := hPreIdeal) (hPreRefIdeal := hPreRefIdeal)
    ∧ preserves_Res_ResIdeal
    ∧ algebraic_ResIdeal_ResRefIdeal (hResIdeal := hResIdeal) (hResRefIdeal := hResRefIdeal)
    ∧ preserves_MixRes_MixResIdeal
    ∧ algebraic_MixResIdeal_MixResRefIdeal (hMixResIdeal := hMixResIdeal) (hMixResRefIdeal := hMixResRefIdeal)
    ∧ preserves_FfnRes_FfnResIdeal
    ∧ algebraic_FfnResIdeal_FfnResRefIdeal (hFfnResIdeal := hFfnResIdeal) (hFfnResRefIdeal := hFfnResRefIdeal)
-- ==== Pre_finite.lean ====
abbrev S4x2304x768 : Shape := ⟨3, ![4, 2304, 768]⟩
abbrev S4x2304x1024 : Shape := ⟨3, ![4, 2304, 1024]⟩
abbrev S4x2304x128 : Shape := ⟨3, ![4, 2304, 128]⟩
abbrev S_ : Shape := ⟨0, ![]⟩

class Facts : Prop where
  bitsLt_bf16_f32 : FTy.bits .bf16 < FTy.bits .f32
  bcast_S_S4x2304x768 : S_.BroadcastsInDim S4x2304x768 (![] : Fin 0 → Fin S4x2304x768.rank)
  reducesTo_S4x2304x768_S_d0_1_2 : S4x2304x768.ReducesTo [0, 1, 2] S_
  h_S_ : 0 < S_.numel
  bcast_S_S4x2304x1024 : S_.BroadcastsInDim S4x2304x1024 (![] : Fin 0 → Fin S4x2304x1024.rank)
  reducesTo_S4x2304x1024_S_d0_1_2 : S4x2304x1024.ReducesTo [0, 1, 2] S_
  bcast_S_S4x2304x128 : S_.BroadcastsInDim S4x2304x128 (![] : Fin 0 → Fin S4x2304x128.rank)
  reducesTo_S4x2304x128_S_d0_1_2 : S4x2304x128.ReducesTo [0, 1, 2] S_

variable [Facts]

def fn_part1 {F : FTy → Type} [FloatOps F] (main_v16 : IVec S_ 1) (main_v17 : FVec F S4x2304x1024 .f32) : IVec S_ 1 :=
  let main_v18 : FVec F S4x2304x1024 .f32 := Host.absf main_v17
  let main_cst_4 : FVec F S_ .f32 := constant S_ .f32 0x7F800000#32
  let main_v19 : FVec F S4x2304x1024 .f32 := broadcastInDim S4x2304x1024 ![] bcast_S_S4x2304x1024 main_cst_4
  let main_v20 : IVec S4x2304x1024 1 := cmpf .olt main_v18 main_v19
  let main_c_5 : IVec S_ 1 := constantI S_ 1 1#1
  let main_v21 : IVec S_ 1 := (fun x v => Host.reduce IntOp.andi x v reducesTo_S4x2304x1024_S_d0_1_2 h_S_) main_v20 main_c_5
  let main_v22 : IVec S_ 1 := andi main_v16 main_v21
  main_v22

def fn {F : FTy → Type} [FloatOps F] (main_arg0 : FVec F S4x2304x768 .bf16) (main_arg1 : FVec F S4x2304x1024 .bf16) (main_arg2 : FVec F S4x2304x128 .bf16) (main_arg3 : FVec F S4x2304x1024 .bf16) : IVec S_ 1 :=
  let main_v0 : FVec F S4x2304x768 .f32 := (extf .f32 · bitsLt_bf16_f32) main_arg0
  let main_v1 : FVec F S4x2304x768 .f32 := Host.absf main_v0
  let main_cst : FVec F S_ .f32 := constant S_ .f32 0x7F800000#32
  let main_v2 : FVec F S4x2304x768 .f32 := broadcastInDim S4x2304x768 ![] bcast_S_S4x2304x768 main_cst
  let main_v3 : IVec S4x2304x768 1 := cmpf .olt main_v1 main_v2
  let main_c : IVec S_ 1 := constantI S_ 1 1#1
  let main_v4 : IVec S_ 1 := (fun x v => Host.reduce IntOp.andi x v reducesTo_S4x2304x768_S_d0_1_2 h_S_) main_v3 main_c
  let main_v5 : FVec F S4x2304x1024 .f32 := (extf .f32 · bitsLt_bf16_f32) main_arg1
  let main_v6 : FVec F S4x2304x1024 .f32 := Host.absf main_v5
  let main_cst_0 : FVec F S_ .f32 := constant S_ .f32 0x7F800000#32
  let main_v7 : FVec F S4x2304x1024 .f32 := broadcastInDim S4x2304x1024 ![] bcast_S_S4x2304x1024 main_cst_0
  let main_v8 : IVec S4x2304x1024 1 := cmpf .olt main_v6 main_v7
  let main_c_1 : IVec S_ 1 := constantI S_ 1 1#1
  let main_v9 : IVec S_ 1 := (fun x v => Host.reduce IntOp.andi x v reducesTo_S4x2304x1024_S_d0_1_2 h_S_) main_v8 main_c_1
  let main_v10 : IVec S_ 1 := andi main_v4 main_v9
  let main_v11 : FVec F S4x2304x128 .f32 := (extf .f32 · bitsLt_bf16_f32) main_arg2
  let main_v12 : FVec F S4x2304x128 .f32 := Host.absf main_v11
  let main_cst_2 : FVec F S_ .f32 := constant S_ .f32 0x7F800000#32
  let main_v13 : FVec F S4x2304x128 .f32 := broadcastInDim S4x2304x128 ![] bcast_S_S4x2304x128 main_cst_2
  let main_v14 : IVec S4x2304x128 1 := cmpf .olt main_v12 main_v13
  let main_c_3 : IVec S_ 1 := constantI S_ 1 1#1
  let main_v15 : IVec S_ 1 := (fun x v => Host.reduce IntOp.andi x v reducesTo_S4x2304x128_S_d0_1_2 h_S_) main_v14 main_c_3
  let main_v16 : IVec S_ 1 := andi main_v10 main_v15
  let main_v17 : FVec F S4x2304x1024 .f32 := (extf .f32 · bitsLt_bf16_f32) main_arg3
  fn_part1 (F := F) main_v16 main_v17
-- ==== Pre_finite_att.lean ====
abbrev S4x2304x768 : Shape := ⟨3, ![4, 2304, 768]⟩
abbrev S4x2304x1024 : Shape := ⟨3, ![4, 2304, 1024]⟩
abbrev S4x2304x128 : Shape := ⟨3, ![4, 2304, 128]⟩
abbrev S_ : Shape := ⟨0, ![]⟩

class Facts : Prop where
  bitsLt_bf16_f32 : FTy.bits .bf16 < FTy.bits .f32
  bcast_S_S4x2304x768 : S_.BroadcastsInDim S4x2304x768 (![] : Fin 0 → Fin S4x2304x768.rank)
  reducesTo_S4x2304x768_S_d0_1_2 : S4x2304x768.ReducesTo [0, 1, 2] S_
  h_S_ : 0 < S_.numel
  bcast_S_S4x2304x1024 : S_.BroadcastsInDim S4x2304x1024 (![] : Fin 0 → Fin S4x2304x1024.rank)
  reducesTo_S4x2304x1024_S_d0_1_2 : S4x2304x1024.ReducesTo [0, 1, 2] S_
  bcast_S_S4x2304x128 : S_.BroadcastsInDim S4x2304x128 (![] : Fin 0 → Fin S4x2304x128.rank)
  reducesTo_S4x2304x128_S_d0_1_2 : S4x2304x128.ReducesTo [0, 1, 2] S_

variable [Facts]

def fn {F : FTy → Type} [FloatOps F] (main_arg0 : FVec F S4x2304x768 .bf16) (main_arg1 : FVec F S4x2304x1024 .bf16) (main_arg2 : FVec F S4x2304x128 .bf16) : IVec S_ 1 :=
  let main_v0 : FVec F S4x2304x768 .f32 := (extf .f32 · bitsLt_bf16_f32) main_arg0
  let main_v1 : FVec F S4x2304x768 .f32 := Host.absf main_v0
  let main_cst : FVec F S_ .f32 := constant S_ .f32 0x7F800000#32
  let main_v2 : FVec F S4x2304x768 .f32 := broadcastInDim S4x2304x768 ![] bcast_S_S4x2304x768 main_cst
  let main_v3 : IVec S4x2304x768 1 := cmpf .olt main_v1 main_v2
  let main_c : IVec S_ 1 := constantI S_ 1 1#1
  let main_v4 : IVec S_ 1 := (fun x v => Host.reduce IntOp.andi x v reducesTo_S4x2304x768_S_d0_1_2 h_S_) main_v3 main_c
  let main_v5 : FVec F S4x2304x1024 .f32 := (extf .f32 · bitsLt_bf16_f32) main_arg1
  let main_v6 : FVec F S4x2304x1024 .f32 := Host.absf main_v5
  let main_cst_0 : FVec F S_ .f32 := constant S_ .f32 0x7F800000#32
  let main_v7 : FVec F S4x2304x1024 .f32 := broadcastInDim S4x2304x1024 ![] bcast_S_S4x2304x1024 main_cst_0
  let main_v8 : IVec S4x2304x1024 1 := cmpf .olt main_v6 main_v7
  let main_c_1 : IVec S_ 1 := constantI S_ 1 1#1
  let main_v9 : IVec S_ 1 := (fun x v => Host.reduce IntOp.andi x v reducesTo_S4x2304x1024_S_d0_1_2 h_S_) main_v8 main_c_1
  let main_v10 : IVec S_ 1 := andi main_v4 main_v9
  let main_v11 : FVec F S4x2304x128 .f32 := (extf .f32 · bitsLt_bf16_f32) main_arg2
  let main_v12 : FVec F S4x2304x128 .f32 := Host.absf main_v11
  let main_cst_2 : FVec F S_ .f32 := constant S_ .f32 0x7F800000#32
  let main_v13 : FVec F S4x2304x128 .f32 := broadcastInDim S4x2304x128 ![] bcast_S_S4x2304x128 main_cst_2
  let main_v14 : IVec S4x2304x128 1 := cmpf .olt main_v12 main_v13
  let main_c_3 : IVec S_ 1 := constantI S_ 1 1#1
  let main_v15 : IVec S_ 1 := (fun x v => Host.reduce IntOp.andi x v reducesTo_S4x2304x128_S_d0_1_2 h_S_) main_v14 main_c_3
  let main_v16 : IVec S_ 1 := andi main_v10 main_v15
  main_v16
-- ==== Pre_finite_ffn.lean ====
abbrev S9216x1024 : Shape := ⟨2, ![9216, 1024]⟩
abbrev S1024x5632 : Shape := ⟨2, ![1024, 5632]⟩
abbrev S2816x1024 : Shape := ⟨2, ![2816, 1024]⟩
abbrev S_ : Shape := ⟨0, ![]⟩

class Facts : Prop where
  bitsLt_bf16_f32 : FTy.bits .bf16 < FTy.bits .f32
  bcast_S_S9216x1024 : S_.BroadcastsInDim S9216x1024 (![] : Fin 0 → Fin S9216x1024.rank)
  reducesTo_S9216x1024_S_d0_1 : S9216x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v16 : IVec S_ 1) (main_v17 : FVec F S2816x1024 .f32) : IVec S_ 1 :=
  let main_v18 : FVec F S2816x1024 .f32 := Host.absf main_v17
  let main_cst_4 : FVec F S_ .f32 := constant S_ .f32 0x7F800000#32
  let main_v19 : FVec F S2816x1024 .f32 := broadcastInDim S2816x1024 ![] bcast_S_S2816x1024 main_cst_4
  let main_v20 : IVec S2816x1024 1 := cmpf .olt main_v18 main_v19
  let main_c_5 : IVec S_ 1 := constantI S_ 1 1#1
  let main_v21 : IVec S_ 1 := (fun x v => Host.reduce IntOp.andi x v reducesTo_S2816x1024_S_d0_1 h_S_) main_v20 main_c_5
  let main_v22 : IVec S_ 1 := andi main_v16 main_v21
  main_v22

def fn {F : FTy → Type} [FloatOps F] (main_arg0 : FVec F S9216x1024 .bf16) (main_arg1 : FVec F S9216x1024 .bf16) (main_arg2 : FVec F S1024x5632 .bf16) (main_arg3 : FVec F S2816x1024 .bf16) : IVec S_ 1 :=
  let main_v0 : FVec F S9216x1024 .f32 := (extf .f32 · bitsLt_bf16_f32) main_arg0
  let main_v1 : FVec F S9216x1024 .f32 := Host.absf main_v0
  let main_cst : FVec F S_ .f32 := constant S_ .f32 0x7F800000#32
  let main_v2 : FVec F S9216x1024 .f32 := broadcastInDim S9216x1024 ![] bcast_S_S9216x1024 main_cst
  let main_v3 : IVec S9216x1024 1 := cmpf .olt main_v1 main_v2
  let main_c : IVec S_ 1 := constantI S_ 1 1#1
  let main_v4 : IVec S_ 1 := (fun x v => Host.reduce IntOp.andi x v reducesTo_S9216x1024_S_d0_1 h_S_) main_v3 main_c
  let main_v5 : FVec F S9216x1024 .f32 := (extf .f32 · bitsLt_bf16_f32) main_arg1
  let main_v6 : FVec F S9216x1024 .f32 := Host.absf main_v5
  let main_cst_0 : FVec F S_ .f32 := constant S_ .f32 0x7F800000#32
  let main_v7 : FVec F S9216x1024 .f32 := broadcastInDim S9216x1024 ![] bcast_S_S9216x1024 main_cst_0
  let main_v8 : IVec S9216x1024 1 := cmpf .olt main_v6 main_v7
  let main_c_1 : IVec S_ 1 := constantI S_ 1 1#1
  let main_v9 : IVec S_ 1 := (fun x v => Host.reduce IntOp.andi x v reducesTo_S9216x1024_S_d0_1 h_S_) main_v8 main_c_1
  let main_v10 : IVec S_ 1 := andi main_v4 main_v9
  let main_v11 : FVec F S1024x5632 .f32 := (extf .f32 · bitsLt_bf16_f32) main_arg2
  let main_v12 : FVec F S1024x5632 .f32 := Host.absf main_v11
  let main_cst_2 : FVec F S_ .f32 := constant S_ .f32 0x7F800000#32
  let main_v13 : FVec F S1024x5632 .f32 := broadcastInDim S1024x5632 ![] bcast_S_S1024x5632 main_cst_2
  let main_v14 : IVec S1024x5632 1 := cmpf .olt main_v12 main_v13
  let main_c_3 : IVec S_ 1 := constantI S_ 1 1#1
  let main_v15 : IVec S_ 1 := (fun x v => Host.reduce IntOp.andi x v reducesTo_S1024x5632_S_d0_1 h_S_) main_v14 main_c_3
  let main_v16 : IVec S_ 1 := andi main_v10 main_v15
  let main_v17 : FVec F S2816x1024 .f32 := (extf .f32 · bitsLt_bf16_f32) main_arg3
  fn_part1 (F := F) main_v16 main_v17
-- ==== Kernel.lean ====
abbrev S4x2304x768 : Shape := ⟨3, ![4, 2304, 768]⟩
abbrev S4x2304x1024 : Shape := ⟨3, ![4, 2304, 1024]⟩
abbrev S4x2304x128 : Shape := ⟨3, ![4, 2304, 128]⟩
abbrev S4x2304x512 : Shape := ⟨3, ![4, 2304, 512]⟩
abbrev S4x2304x4x128 : Shape := ⟨4, ![4, 2304, 4, 128]⟩
abbrev S4x2304x256 : Shape := ⟨3, ![4, 2304, 256]⟩
abbrev S4x2304x4x64 : Shape := ⟨4, ![4, 2304, 4, 64]⟩
abbrev S4x2304x4x192 : Shape := ⟨4, ![4, 2304, 4, 192]⟩
abbrev S4x2304x4x256 : Shape := ⟨4, ![4, 2304, 4, 256]⟩
abbrev S4x2304x2x64 : Shape := ⟨4, ![4, 2304, 2, 64]⟩
abbrev S4x2048x4x192 : Shape := ⟨4, ![4, 2048, 4, 192]⟩
abbrev S4x4x2048x2304 : Shape := ⟨4, ![4, 4, 2048, 2304]⟩
abbrev S_ : Shape := ⟨0, ![]⟩
abbrev S4x256x4x192 : Shape := ⟨4, ![4, 256, 4, 192]⟩
abbrev S4x4x256x256 : Shape := ⟨4, ![4, 4, 256, 256]⟩
abbrev S4x4x2048 : Shape := ⟨3, ![4, 4, 2048]⟩
abbrev S4x4x2048x1 : Shape := ⟨4, ![4, 4, 2048, 1]⟩
abbrev S4x4x256 : Shape := ⟨3, ![4, 4, 256]⟩
abbrev S4x4x256x1 : Shape := ⟨4, ![4, 4, 256, 1]⟩
abbrev S4x4x2304 : Shape := ⟨3, ![4, 4, 2304]⟩
abbrev S4x2304x4 : Shape := ⟨3, ![4, 2304, 4]⟩
abbrev S1x256x768 : Shape := ⟨3, ![1, 256, 768]⟩
abbrev S1x2304x1024 : Shape := ⟨3, ![1, 2304, 1024]⟩
abbrev S1x2304x128 : Shape := ⟨3, ![1, 2304, 128]⟩
abbrev S1x256x4 : Shape := ⟨3, ![1, 256, 4]⟩
abbrev S1x256x512 : Shape := ⟨3, ![1, 256, 512]⟩
abbrev S2304x1024 : Shape := ⟨2, ![2304, 1024]⟩
abbrev S2304x128 : Shape := ⟨2, ![2304, 128]⟩
abbrev S1x128 : Shape := ⟨2, ![1, 128]⟩
abbrev S1x256x128 : Shape := ⟨3, ![1, 256, 128]⟩
abbrev S256x128 : Shape := ⟨2, ![256, 128]⟩
abbrev S256x256 : Shape := ⟨2, ![256, 256]⟩
abbrev S1x2304x256 : Shape := ⟨3, ![1, 2304, 256]⟩
abbrev S2304x256 : Shape := ⟨2, ![2304, 256]⟩
abbrev S256x2304 : Shape := ⟨2, ![256, 2304]⟩
abbrev S1x256x1 : Shape := ⟨3, ![1, 256, 1]⟩
abbrev S256x1 : Shape := ⟨2, ![256, 1]⟩
abbrev S256 : Shape := ⟨1, ![256]⟩
abbrev S1x256x256 : Shape := ⟨3, ![1, 256, 256]⟩

abbrev nBuf : Space → Nat
  | .hbm => 56
  | .vmem => 17
  | .smem => 0
  | _ => 0

abbrev bufTy : (tb : Table) → Fin (tcTables nBuf tb) → BufTy
  | .hbm, ⟨0, _⟩ => ⟨S4x2304x768, .bf16⟩
  | .hbm, ⟨1, _⟩ => ⟨S4x2304x1024, .bf16⟩
  | .hbm, ⟨2, _⟩ => ⟨S4x2304x128, .bf16⟩
  | .hbm, ⟨3, _⟩ => ⟨S4x2304x1024, .bf16⟩
  | .hbm, ⟨4, _⟩ => ⟨S4x2304x768, .f32⟩
  | .hbm, ⟨5, _⟩ => ⟨S4x2304x1024, .f32⟩
  | .hbm, ⟨6, _⟩ => ⟨S4x2304x128, .f32⟩
  | .hbm, ⟨7, _⟩ => ⟨S4x2304x512, .f32⟩
  | .hbm, ⟨8, _⟩ => ⟨S4x2304x4x128, .f32⟩
  | .hbm, ⟨9, _⟩ => ⟨S4x2304x256, .f32⟩
  | .hbm, ⟨10, _⟩ => ⟨S4x2304x4x64, .f32⟩
  | .hbm, ⟨11, _⟩ => ⟨S4x2304x4x192, .f32⟩
  | .hbm, ⟨12, _⟩ => ⟨S4x2304x4x256, .f32⟩
  | .hbm, ⟨13, _⟩ => ⟨S4x2304x4x128, .f32⟩
  | .hbm, ⟨14, _⟩ => ⟨S4x2304x4x128, .f32⟩
  | .hbm, ⟨15, _⟩ => ⟨S4x2304x2x64, .f32⟩
  | .hbm, ⟨16, _⟩ => ⟨S4x2304x4x64, .f32⟩
  | .hbm, ⟨17, _⟩ => ⟨S4x2304x4x192, .f32⟩
  | .hbm, ⟨18, _⟩ => ⟨S4x2048x4x192, .f32⟩
  | .hbm, ⟨19, _⟩ => ⟨S4x4x2048x2304, .f32⟩
  | .hbm, ⟨20, _⟩ => ⟨S_, .f32⟩
  | .hbm, ⟨21, _⟩ => ⟨S4x4x2048x2304, .f32⟩
  | .hbm, ⟨22, _⟩ => ⟨S4x4x2048x2304, .f32⟩
  | .hbm, ⟨23, _⟩ => ⟨S4x256x4x192, .f32⟩
  | .hbm, ⟨24, _⟩ => ⟨S4x256x4x192, .f32⟩
  | .hbm, ⟨25, _⟩ => ⟨S4x4x256x256, .f32⟩
  | .hbm, ⟨26, _⟩ => ⟨S_, .f32⟩
  | .hbm, ⟨27, _⟩ => ⟨S4x4x256x256, .f32⟩
  | .hbm, ⟨28, _⟩ => ⟨S4x4x256x256, .f32⟩
  | .hbm, ⟨29, _⟩ => ⟨S_, .f32⟩
  | .hbm, ⟨30, _⟩ => ⟨S4x4x2048, .f32⟩
  | .hbm, ⟨31, _⟩ => ⟨S4x4x2048x1, .f32⟩
  | .hbm, ⟨32, _⟩ => ⟨S4x4x2048, .f32⟩
  | .hbm, ⟨33, _⟩ => ⟨S4x4x2048x2304, .f32⟩
  | .hbm, ⟨34, _⟩ => ⟨S4x4x2048x2304, .f32⟩
  | .hbm, ⟨35, _⟩ => ⟨S4x4x2048x2304, .f32⟩
  | .hbm, ⟨36, _⟩ => ⟨S_, .f32⟩
  | .hbm, ⟨37, _⟩ => ⟨S4x4x2048, .f32⟩
  | .hbm, ⟨38, _⟩ => ⟨S4x4x2048, .f32⟩
  | .hbm, ⟨39, _⟩ => ⟨S4x4x2048, .f32⟩
  | .hbm, ⟨40, _⟩ => ⟨S_, .f32⟩
  | .hbm, ⟨41, _⟩ => ⟨S4x4x256, .f32⟩
  | .hbm, ⟨42, _⟩ => ⟨S4x4x256x1, .f32⟩
  | .hbm, ⟨43, _⟩ => ⟨S4x4x256, .f32⟩
  | .hbm, ⟨44, _⟩ => ⟨S4x4x256x256, .f32⟩
  | .hbm, ⟨45, _⟩ => ⟨S4x4x256x256, .f32⟩
  | .hbm, ⟨46, _⟩ => ⟨S4x4x256x256, .f32⟩
  | .hbm, ⟨47, _⟩ => ⟨S_, .f32⟩
  | .hbm, ⟨48, _⟩ => ⟨S4x4x256, .f32⟩
  | .hbm, ⟨49, _⟩ => ⟨S4x4x256, .f32⟩
  | .hbm, ⟨50, _⟩ => ⟨S4x4x256, .f32⟩
  | .hbm, ⟨51, _⟩ => ⟨S4x4x2304, .f32⟩
  | .hbm, ⟨52, _⟩ => ⟨S4x2304x4, .f32⟩
  | .hbm, ⟨53, _⟩ => ⟨S4x2304x768, .f32⟩
  | .hbm, ⟨54, _⟩ => ⟨S4x2304x1024, .f32⟩
  | .hbm, ⟨55, _⟩ => ⟨S4x2304x128, .f32⟩
  | .local _ .vmem, ⟨0, _⟩ => ⟨S1x256x768, .bf16⟩
  | .local _ .vmem, ⟨1, _⟩ => ⟨S1x256x768, .bf16⟩
  | .local _ .vmem, ⟨2, _⟩ => ⟨S1x2304x1024, .bf16⟩
  | .local _ .vmem, ⟨3, _⟩ => ⟨S1x2304x1024, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x256x4, .f32⟩
  | .local _ .vmem, ⟨7, _⟩ => ⟨S1x256x4, .f32⟩
  | .local _ .vmem, ⟨8, _⟩ => ⟨S1x256x512, .bf16⟩
  | .local _ .vmem, ⟨9, _⟩ => ⟨S1x256x512, .bf16⟩
  | .local _ .vmem, ⟨10, _⟩ => ⟨S1x256x768, .f32⟩
  | .local _ .vmem, ⟨11, _⟩ => ⟨S1x256x768, .f32⟩
  | .local _ .vmem, ⟨12, _⟩ => ⟨S1x2304x1024, .f32⟩
  | .local _ .vmem, ⟨13, _⟩ => ⟨S1x2304x1024, .f32⟩
  | .local _ .vmem, ⟨14, _⟩ => ⟨S1x2304x128, .f32⟩
  | .local _ .vmem, ⟨15, _⟩ => ⟨S1x2304x128, .f32⟩
  | .local _ .vmem, ⟨16, _⟩ => ⟨S4x2304x256, .bf16⟩
  | _, _ => ⟨S4x2304x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43_0 : Ref sig .tc := ⟨.hbm, 53, rfl⟩
abbrev main_v43_1 : Ref sig .tc := ⟨.hbm, 54, rfl⟩
abbrev main_v43_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 9], ![false, false]⟩

def k0_cond2 (i : grid0.Coords) : BitVec 1 :=
  let arg1 : BitVec 32 := BitVec.ofNat 32 (i 1).val
  let c8_i32 : BitVec 32 := 8#32
  let v3 : BitVec 1 := Scalar.cmpi .slt arg1 c8_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c8_i32_2 : BitVec 32 := 8#32
  let v6 : BitVec 1 := Scalar.cmpi .sge arg1 c8_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2304x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2304x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4x2304x768 : Shape := ⟨3, ![4, 2304, 768]⟩
abbrev S4x2304x1024 : Shape := ⟨3, ![4, 2304, 1024]⟩
abbrev S4x2304x128 : Shape := ⟨3, ![4, 2304, 128]⟩
abbrev S4x2304x512 : Shape := ⟨3, ![4, 2304, 512]⟩
abbrev S4x2304x4x128 : Shape := ⟨4, ![4, 2304, 4, 128]⟩
abbrev S4x2304x256 : Shape := ⟨3, ![4, 2304, 256]⟩
abbrev S4x2304x4x64 : Shape := ⟨4, ![4, 2304, 4, 64]⟩
abbrev S4x2304x4x192 : Shape := ⟨4, ![4, 2304, 4, 192]⟩
abbrev S4x2304x4x256 : Shape := ⟨4, ![4, 2304, 4, 256]⟩
abbrev S4x2304x2x64 : Shape := ⟨4, ![4, 2304, 2, 64]⟩
abbrev S4x2048x4x192 : Shape := ⟨4, ![4, 2048, 4, 192]⟩
abbrev S4x4x2048x2304 : Shape := ⟨4, ![4, 4, 2048, 2304]⟩
abbrev S_ : Shape := ⟨0, ![]⟩
abbrev S4x256x4x192 : Shape := ⟨4, ![4, 256, 4, 192]⟩
abbrev S4x4x256x256 : Shape := ⟨4, ![4, 4, 256, 256]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S4x2048x4x128 : Shape := ⟨4, ![4, 2048, 4, 128]⟩
abbrev S4x4x256 : Shape := ⟨3, ![4, 4, 256]⟩
abbrev S4x4x256x1 : Shape := ⟨4, ![4, 4, 256, 1]⟩
abbrev S4x256x4x128 : Shape := ⟨4, ![4, 256, 4, 128]⟩
abbrev S4x4x128x256 : Shape := ⟨4, ![4, 4, 128, 256]⟩
abbrev S4x4x128x2304 : Shape := ⟨4, ![4, 4, 128, 2304]⟩
abbrev S4x4x256x192 : Shape := ⟨4, ![4, 4, 256, 192]⟩
abbrev S4x4x2304x192 : Shape := ⟨4, ![4, 4, 2304, 192]⟩
abbrev S4x4x2048x192 : Shape := ⟨4, ![4, 4, 2048, 192]⟩

abbrev nBuf : Space → Nat
  | .hbm => 195
  | .vmem => 0
  | .smem => 0
  | _ => 0

abbrev hbmTy0_0 (i : Nat) : BufTy := match i % 128 with
  | 0 => ⟨S4x2304x768, .bf16⟩
  | 1 => ⟨S4x2304x1024, .bf16⟩
  | 2 => ⟨S4x2304x128, .bf16⟩
  | 3 => ⟨S4x2304x1024, .bf16⟩
  | 4 => ⟨S4x2304x768, .f32⟩
  | 5 => ⟨S4x2304x1024, .f32⟩
  | 6 => ⟨S4x2304x128, .f32⟩
  | 7 => ⟨S4x2304x1024, .f32⟩
  | 8 => ⟨S4x2304x512, .f32⟩
  | 9 => ⟨S4x2304x4x128, .f32⟩
  | 10 => ⟨S4x2304x256, .f32⟩
  | 11 => ⟨S4x2304x4x64, .f32⟩
  | 12 => ⟨S4x2304x4x192, .f32⟩
  | 13 => ⟨S4x2304x4x256, .f32⟩
  | 14 => ⟨S4x2304x4x128, .f32⟩
  | 15 => ⟨S4x2304x4x128, .f32⟩
  | 16 => ⟨S4x2304x2x64, .f32⟩
  | 17 => ⟨S4x2304x4x64, .f32⟩
  | 18 => ⟨S4x2304x4x192, .f32⟩
  | 19 => ⟨S4x2048x4x192, .f32⟩
  | 20 => ⟨S4x4x2048x2304, .f32⟩
  | 21 => ⟨S_, .f32⟩
  | 22 => ⟨S4x4x2048x2304, .f32⟩
  | 23 => ⟨S4x4x2048x2304, .f32⟩
  | 24 => ⟨S4x256x4x192, .f32⟩
  | 25 => ⟨S4x256x4x192, .f32⟩
  | 26 => ⟨S4x4x256x256, .f32⟩
  | 27 => ⟨S_, .f32⟩
  | 28 => ⟨S4x4x256x256, .f32⟩
  | 29 => ⟨S4x4x256x256, .f32⟩
  | 30 => ⟨S_, .f32⟩
  | 31 => ⟨S4x4x2048, .f32⟩
  | 32 => ⟨S4x4x2048x1, .f32⟩
  | 33 => ⟨S4x4x2048x2304, .f32⟩
  | 34 => ⟨S4x4x2048x2304, .i1⟩
  | 35 => ⟨S4x4x2048x2304, .f32⟩
  | 36 => ⟨S_, .f32⟩
  | 37 => ⟨S4x4x2048, .f32⟩
  | 38 => ⟨S_, .f32⟩
  | 39 => ⟨S4x4x2048, .f32⟩
  | 40 => ⟨S4x4x2048, .f32⟩
  | 41 => ⟨S_, .f32⟩
  | 42 => ⟨S4x4x2048, .f32⟩
  | 43 => ⟨S4x4x2048, .i1⟩
  | 44 => ⟨S_, .f32⟩
  | 45 => ⟨S4x4x2048, .f32⟩
  | 46 => ⟨S4x4x2048, .i1⟩
  | 47 => ⟨S_, .f32⟩
  | 48 => ⟨S4x4x2048, .f32⟩
  | 49 => ⟨S_, .f32⟩
  | 50 => ⟨S4x4x2048, .f32⟩
  | 51 => ⟨S_, .f32⟩
  | 52 => ⟨S4x4x2048, .f32⟩
  | 53 => ⟨S4x4x2048, .f32⟩
  | 54 => ⟨S4x4x2048, .f32⟩
  | 55 => ⟨S4x4x2048x1, .f32⟩
  | 56 => ⟨S4x4x2048x2304, .f32⟩
  | 57 => ⟨S4x4x2048x2304, .f32⟩
  | 58 => ⟨S4x4x2048x2304, .f32⟩
  | 59 => ⟨S_, .f32⟩
  | 60 => ⟨S4x4x2048, .f32⟩
  | 61 => ⟨S4x4x2048x1, .f32⟩
  | 62 => ⟨S4x4x2048x2304, .f32⟩
  | 63 => ⟨S4x4x2048x2304, .f32⟩
  | 64 => ⟨S4x4x2048x1, .f32⟩
  | 65 => ⟨S_, .f32⟩
  | 66 => ⟨S4x4x2048x1, .f32⟩
  | 67 => ⟨S4x4x2048x1, .f32⟩
  | 68 => ⟨S4x4x128x2048, .f32⟩
  | 69 => ⟨S4x2048x4x128, .f32⟩
  | 70 => ⟨S_, .f32⟩
  | 71 => ⟨S4x4x256, .f32⟩
  | 72 => ⟨S4x4x256x1, .f32⟩
  | 73 => ⟨S4x4x256x256, .f32⟩
  | 74 => ⟨S4x4x256x256, .i1⟩
  | 75 => ⟨S4x4x256x256, .f32⟩
  | 76 => ⟨S_, .f32⟩
  | 77 => ⟨S4x4x256, .f32⟩
  | 78 => ⟨S_, .f32⟩
  | 79 => ⟨S4x4x256, .f32⟩
  | 80 => ⟨S4x4x256, .f32⟩
  | 81 => ⟨S_, .f32⟩
  | 82 => ⟨S4x4x256, .f32⟩
  | 83 => ⟨S4x4x256, .i1⟩
  | 84 => ⟨S_, .f32⟩
  | 85 => ⟨S4x4x256, .f32⟩
  | 86 => ⟨S4x4x256, .i1⟩
  | 87 => ⟨S_, .f32⟩
  | 88 => ⟨S4x4x256, .f32⟩
  | 89 => ⟨S_, .f32⟩
  | 90 => ⟨S4x4x256, .f32⟩
  | 91 => ⟨S_, .f32⟩
  | 92 => ⟨S4x4x256, .f32⟩
  | 93 => ⟨S4x4x256, .f32⟩
  | 94 => ⟨S4x4x256, .f32⟩
  | 95 => ⟨S4x4x256x1, .f32⟩
  | 96 => ⟨S4x4x256x256, .f32⟩
  | 97 => ⟨S4x4x256x256, .f32⟩
  | 98 => ⟨S4x4x256x256, .f32⟩
  | 99 => ⟨S_, .f32⟩
  | 100 => ⟨S4x4x256, .f32⟩
  | 101 => ⟨S4x4x256x1, .f32⟩
  | 102 => ⟨S4x4x256x256, .f32⟩
  | 103 => ⟨S4x4x256x256, .f32⟩
  | 104 => ⟨S4x4x256x1, .f32⟩
  | 105 => ⟨S_, .f32⟩
  | 106 => ⟨S4x4x256x1, .f32⟩
  | 107 => ⟨S4x4x256x1, .f32⟩
  | 108 => ⟨S4x256x4x128, .f32⟩
  | 109 => ⟨S4x4x128x256, .f32⟩
  | 110 => ⟨S4x256x4x128, .f32⟩
  | 111 => ⟨S4x2304x4x128, .f32⟩
  | 112 => ⟨S4x2304x512, .f32⟩
  | 113 => ⟨S4x2304x512, .f32⟩
  | 114 => ⟨S4x2304x4x128, .f32⟩
  | 115 => ⟨S4x2048x4x128, .f32⟩
  | 116 => ⟨S4x256x4x128, .f32⟩
  | 117 => ⟨S4x4x128x256, .f32⟩
  | 118 => ⟨S4x4x256x256, .f32⟩
  | 119 => ⟨S4x4x128x256, .f32⟩
  | 120 => ⟨S4x256x4x128, .f32⟩
  | 121 => ⟨S_, .f32⟩
  | 122 => ⟨S4x2304x4x128, .f32⟩
  | 123 => ⟨S4x4x256x256, .f32⟩
  | 124 => ⟨S4x4x256x256, .f32⟩
  | 125 => ⟨S4x4x256x256, .f32⟩
  | 126 => ⟨S_, .f32⟩
  | 127 => ⟨S4x4x256, .f32⟩
  | _ => ⟨S4x2304x768, .bf16⟩

abbrev hbmTy0_1 (i : Nat) : BufTy := match i % 128 with
  | 0 => ⟨S4x4x256x1, .f32⟩
  | 1 => ⟨S4x4x256x1, .f32⟩
  | 2 => ⟨S4x4x256x256, .f32⟩
  | 3 => ⟨S4x4x256x256, .f32⟩
  | 4 => ⟨S_, .f32⟩
  | 5 => ⟨S4x4x256, .f32⟩
  | 6 => ⟨S4x4x256x256, .f32⟩
  | 7 => ⟨S4x4x256x256, .f32⟩
  | 8 => ⟨S4x4x256x256, .f32⟩
  | 9 => ⟨S4x4x128x2048, .f32⟩
  | 10 => ⟨S4x4x2048x2304, .f32⟩
  | 11 => ⟨S4x4x128x2304, .f32⟩
  | 12 => ⟨S4x2304x4x128, .f32⟩
  | 13 => ⟨S4x2304x4x128, .f32⟩
  | 14 => ⟨S4x4x2048x2304, .f32⟩
  | 15 => ⟨S4x4x2048x2304, .f32⟩
  | 16 => ⟨S4x4x2048x2304, .f32⟩
  | 17 => ⟨S_, .f32⟩
  | 18 => ⟨S4x4x2048, .f32⟩
  | 19 => ⟨S4x4x2048x1, .f32⟩
  | 20 => ⟨S4x4x2048x1, .f32⟩
  | 21 => ⟨S4x4x2048x2304, .f32⟩
  | 22 => ⟨S4x4x2048x2304, .f32⟩
  | 23 => ⟨S_, .f32⟩
  | 24 => ⟨S4x4x2048, .f32⟩
  | 25 => ⟨S4x4x2048x2304, .f32⟩
  | 26 => ⟨S4x4x2048x2304, .f32⟩
  | 27 => ⟨S4x4x2048x2304, .f32⟩
  | 28 => ⟨S_, .f32⟩
  | 29 => ⟨S4x4x256x256, .f32⟩
  | 30 => ⟨S4x4x256x256, .f32⟩
  | 31 => ⟨S4x4x256x192, .f32⟩
  | 32 => ⟨S4x256x4x192, .f32⟩
  | 33 => ⟨S4x4x256x192, .f32⟩
  | 34 => ⟨S4x256x4x192, .f32⟩
  | 35 => ⟨S_, .f32⟩
  | 36 => ⟨S4x2304x4x192, .f32⟩
  | 37 => ⟨S_, .f32⟩
  | 38 => ⟨S4x2304x4x192, .f32⟩
  | 39 => ⟨S_, .f32⟩
  | 40 => ⟨S4x4x2048x2304, .f32⟩
  | 41 => ⟨S4x4x2048x2304, .f32⟩
  | 42 => ⟨S4x4x2304x192, .f32⟩
  | 43 => ⟨S4x2304x4x192, .f32⟩
  | 44 => ⟨S4x2304x4x192, .f32⟩
  | 45 => ⟨S4x4x2048x192, .f32⟩
  | 46 => ⟨S4x2048x4x192, .f32⟩
  | 47 => ⟨S_, .f32⟩
  | 48 => ⟨S4x2304x4x192, .f32⟩
  | 49 => ⟨S4x2304x4x192, .f32⟩
  | 50 => ⟨S4x2304x4x128, .f32⟩
  | 51 => ⟨S4x2304x4x64, .f32⟩
  | 52 => ⟨S4x2304x2x64, .f32⟩
  | 53 => ⟨S4x2304x2x64, .f32⟩
  | 54 => ⟨S4x2304x2x64, .f32⟩
  | 55 => ⟨S4x2304x128, .f32⟩
  | 56 => ⟨S4x2304x4x256, .f32⟩
  | 57 => ⟨S4x2304x1024, .f32⟩
  | 58 => ⟨S4x2304x4x128, .f32⟩
  | 59 => ⟨S4x2304x4x64, .f32⟩
  | 60 => ⟨S4x2304x256, .f32⟩
  | 61 => ⟨S_, .f32⟩
  | 62 => ⟨S4x2304x768, .f32⟩
  | 63 => ⟨S4x2304x512, .f32⟩
  | 64 => ⟨S_, .f32⟩
  | 65 => ⟨S4x2304x768, .f32⟩
  | 66 => ⟨S4x2304x768, .f32⟩
  | _ => ⟨S4x2304x768, .bf16⟩

abbrev hbmTy (i : Nat) : BufTy := match i / 128 with
  | 0 => hbmTy0_0 i
  | 1 => hbmTy0_1 i
  | _ => ⟨S4x2304x768, .bf16⟩

abbrev bufTy : (tb : Table) → Fin (tcTables nBuf tb) → BufTy
  | .hbm, ⟨i, _⟩ => hbmTy i
  | _, _ => ⟨S4x2304x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_9 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_cst_13 : Ref sig .tc := ⟨.hbm, 78, rfl⟩
abbrev main_v60 : Ref sig .tc := ⟨.hbm, 79, rfl⟩
abbrev main_v61 : Ref sig .tc := ⟨.hbm, 80, rfl⟩
abbrev main_cst_14 : Ref sig .tc := ⟨.hbm, 81, rfl⟩
abbrev main_v62 : Ref sig .tc := ⟨.hbm, 82, rfl⟩
abbrev main_v63 : Ref sig .tc := ⟨.hbm, 83, rfl⟩
abbrev main_cst_15 : Ref sig .tc := ⟨.hbm, 84, rfl⟩
abbrev main_v64 : Ref sig .tc := ⟨.hbm, 85, rfl⟩
abbrev main_v65 : Ref sig .tc := ⟨.hbm, 86, rfl⟩
abbrev main_cst_16 : Ref sig .tc := ⟨.hbm, 87, rfl⟩
abbrev main_v66 : Ref sig .tc := ⟨.hbm, 88, rfl⟩
abbrev main_cst_17 : Ref sig .tc := ⟨.hbm, 89, rfl⟩
abbrev main_v67 : Ref sig .tc := ⟨.hbm, 90, rfl⟩
abbrev main_cst_18 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_19 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_20 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_21 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_22 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_cst_23 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_cst_24 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_cst_25 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_cst_26 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_cst_27 : Ref sig .tc := ⟨.hbm, 163, rfl⟩
abbrev main_v131 : Ref sig .tc := ⟨.hbm, 164, rfl⟩
abbrev main_cst_28 : Ref sig .tc := ⟨.hbm, 165, rfl⟩
abbrev main_v132 : Ref sig .tc := ⟨.hbm, 166, rfl⟩
abbrev main_cst_29 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_cst_30 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_cst_31 : Ref sig .tc := ⟨.hbm, 189, rfl⟩
abbrev main_v153 : Ref sig .tc := ⟨.hbm, 190, rfl⟩
abbrev main_v154 : Ref sig .tc := ⟨.hbm, 191, rfl⟩
abbrev main_cst_32 : Ref sig .tc := ⟨.hbm, 192, rfl⟩
abbrev main_v155 : Ref sig .tc := ⟨.hbm, 193, rfl⟩
abbrev main_v156 : Ref sig .tc := ⟨.hbm, 194, rfl⟩

abbrev nD : Nat := 1
abbrev τ : Topo := Topo.v7x

variable {F : FTy → Type} [FloatOps F]
-- ==== Mid.lean ====
abbrev S9216x1024 : Shape := ⟨2, ![9216, 1024]⟩
abbrev S1024x5632 : Shape := ⟨2, ![1024, 5632]⟩
abbrev S2816x1024 : Shape := ⟨2, ![2816, 1024]⟩
abbrev S1024x1408 : Shape := ⟨2, ![1024, 1408]⟩
abbrev S9216x2816 : Shape := ⟨2, ![9216, 2816]⟩
abbrev S9216x5632 : Shape := ⟨2, ![9216, 5632]⟩
abbrev S512x1024 : Shape := ⟨2, ![512, 1024]⟩
abbrev S1024x2816 : Shape := ⟨2, ![1024, 2816]⟩
abbrev S1408x1024 : Shape := ⟨2, ![1408, 1024]⟩
abbrev S512x1408 : Shape := ⟨2, ![512, 1408]⟩
abbrev S512x2816 : Shape := ⟨2, ![512, 2816]⟩

abbrev nBuf : Space → Nat
  | .hbm => 11
  | .vmem => 12
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S1024x5632, .bf16⟩
  | .hbm, ⟨3, _⟩ => ⟨S2816x1024, .bf16⟩
  | .hbm, ⟨4, _⟩ => ⟨S1024x1408, .bf16⟩
  | .hbm, ⟨5, _⟩ => ⟨S1024x1408, .bf16⟩
  | .hbm, ⟨6, _⟩ => ⟨S1024x1408, .bf16⟩
  | .hbm, ⟨7, _⟩ => ⟨S1024x1408, .bf16⟩
  | .hbm, ⟨8, _⟩ => ⟨S1024x5632, .bf16⟩
  | .hbm, ⟨9, _⟩ => ⟨S9216x2816, .bf16⟩
  | .hbm, ⟨10, _⟩ => ⟨S9216x5632, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2816, .bf16⟩
  | .local _ .vmem, ⟨5, _⟩ => ⟨S1024x2816, .bf16⟩
  | .local _ .vmem, ⟨6, _⟩ => ⟨S1408x1024, .bf16⟩
  | .local _ .vmem, ⟨7, _⟩ => ⟨S1408x1024, .bf16⟩
  | .local _ .vmem, ⟨8, _⟩ => ⟨S512x1408, .bf16⟩
  | .local _ .vmem, ⟨9, _⟩ => ⟨S512x1408, .bf16⟩
  | .local _ .vmem, ⟨10, _⟩ => ⟨S512x2816, .bf16⟩
  | .local _ .vmem, ⟨11, _⟩ => ⟨S512x2816, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![18, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MidRefIdeal.lean ====
abbrev S9216x1024 : Shape := ⟨2, ![9216, 1024]⟩
abbrev S1024x5632 : Shape := ⟨2, ![1024, 5632]⟩
abbrev S2816x1024 : Shape := ⟨2, ![2816, 1024]⟩
abbrev S9216x5632 : Shape := ⟨2, ![9216, 5632]⟩
abbrev S9216x2816 : Shape := ⟨2, ![9216, 2816]⟩
abbrev S_ : Shape := ⟨0, ![]⟩
abbrev S9216x1408 : Shape := ⟨2, ![9216, 1408]⟩

abbrev nBuf : Space → Nat
  | .hbm => 55
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S1024x5632, .bf16⟩
  | .hbm, ⟨3, _⟩ => ⟨S2816x1024, .bf16⟩
  | .hbm, ⟨4, _⟩ => ⟨S9216x1024, .f32⟩
  | .hbm, ⟨5, _⟩ => ⟨S9216x1024, .f32⟩
  | .hbm, ⟨6, _⟩ => ⟨S1024x5632, .f32⟩
  | .hbm, ⟨7, _⟩ => ⟨S2816x1024, .f32⟩
  | .hbm, ⟨8, _⟩ => ⟨S9216x5632, .f32⟩
  | .hbm, ⟨9, _⟩ => ⟨S9216x2816, .f32⟩
  | .hbm, ⟨10, _⟩ => ⟨S9216x2816, .f32⟩
  | .hbm, ⟨11, _⟩ => ⟨S9216x2816, .f32⟩
  | .hbm, ⟨12, _⟩ => ⟨S9216x2816, .f32⟩
  | .hbm, ⟨13, _⟩ => ⟨S_, .f32⟩
  | .hbm, ⟨14, _⟩ => ⟨S9216x2816, .f32⟩
  | .hbm, ⟨15, _⟩ => ⟨S9216x2816, .f32⟩
  | .hbm, ⟨16, _⟩ => ⟨S_, .f32⟩
  | .hbm, ⟨17, _⟩ => ⟨S9216x2816, .f32⟩
  | .hbm, ⟨18, _⟩ => ⟨S9216x2816, .f32⟩
  | .hbm, ⟨19, _⟩ => ⟨S_, .f32⟩
  | .hbm, ⟨20, _⟩ => ⟨S9216x2816, .f32⟩
  | .hbm, ⟨21, _⟩ => ⟨S9216x2816, .f32⟩
  | .hbm, ⟨22, _⟩ => ⟨S9216x2816, .f32⟩
  | .hbm, ⟨23, _⟩ => ⟨S9216x2816, .f32⟩
  | .hbm, ⟨24, _⟩ => ⟨S9216x2816, .f32⟩
  | .hbm, ⟨25, _⟩ => ⟨S9216x1024, .f32⟩
  | .hbm, ⟨26, _⟩ => ⟨S9216x2816, .f32⟩
  | .hbm, ⟨27, _⟩ => ⟨S9216x2816, .f32⟩
  | .hbm, ⟨28, _⟩ => ⟨S9216x2816, .f32⟩
  | .hbm, ⟨29, _⟩ => ⟨S9216x2816, .f32⟩
  | .hbm, ⟨30, _⟩ => ⟨S9216x2816, .f32⟩
  | .hbm, ⟨31, _⟩ => ⟨S9216x2816, .f32⟩
  | .hbm, ⟨32, _⟩ => ⟨S9216x2816, .f32⟩
  | .hbm, ⟨33, _⟩ => ⟨S9216x5632, .f32⟩
  | .hbm, ⟨34, _⟩ => ⟨S9216x2816, .f32⟩
  | .hbm, ⟨35, _⟩ => ⟨S9216x2816, .f32⟩
  | .hbm, ⟨36, _⟩ => ⟨S9216x1408, .f32⟩
  | .hbm, ⟨37, _⟩ => ⟨S9216x1408, .f32⟩
  | .hbm, ⟨38, _⟩ => ⟨S9216x1408, .f32⟩
  | .hbm, ⟨39, _⟩ => ⟨S9216x1408, .f32⟩
  | .hbm, ⟨40, _⟩ => ⟨S9216x5632, .f32⟩
  | .hbm, ⟨41, _⟩ => ⟨S9216x2816, .f32⟩
  | .hbm, ⟨42, _⟩ => ⟨S9216x2816, .f32⟩
  | .hbm, ⟨43, _⟩ => ⟨S9216x2816, .f32⟩
  | .hbm, ⟨44, _⟩ => ⟨S9216x2816, .f32⟩
  | .hbm, ⟨45, _⟩ => ⟨S_, .f32⟩
  | .hbm, ⟨46, _⟩ => ⟨S9216x2816, .f32⟩
  | .hbm, ⟨47, _⟩ => ⟨S9216x2816, .f32⟩
  | .hbm, ⟨48, _⟩ => ⟨S_, .f32⟩
  | .hbm, ⟨49, _⟩ => ⟨S9216x2816, .f32⟩
  | .hbm, ⟨50, _⟩ => ⟨S9216x2816, .f32⟩
  | .hbm, ⟨51, _⟩ => ⟨S9216x2816, .f32⟩
  | .hbm, ⟨52, _⟩ => ⟨S9216x2816, .f32⟩
  | .hbm, ⟨53, _⟩ => ⟨S9216x2816, .bf16⟩
  | .hbm, ⟨54, _⟩ => ⟨S9216x5632, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v7_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v7_1 : Ref sig .tc := ⟨.hbm, 22, rfl⟩
abbrev main_v7_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call2_v0 : Ref sig .tc := ⟨.hbm, 43, rfl⟩
abbrev main_call2_v1 : Ref sig .tc := ⟨.hbm, 44, rfl⟩
abbrev main_call2_cst : Ref sig .tc := ⟨.hbm, 45, rfl⟩
abbrev main_call2_v2 : Ref sig .tc := ⟨.hbm, 46, rfl⟩
abbrev main_call2_v3 : Ref sig .tc := ⟨.hbm, 47, rfl⟩
abbrev main_call2_cst_0 : Ref sig .tc := ⟨.hbm, 48, rfl⟩
abbrev main_call2_v4 : Ref sig .tc := ⟨.hbm, 49, rfl⟩
abbrev main_call2_v5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩

abbrev nD : Nat := 1
abbrev τ : Topo := Topo.v7x

variable {F : FTy → Type} [FloatOps F]
-- ==== Ffn.lean ====
abbrev S9216x1024 : Shape := ⟨2, ![9216, 1024]⟩
abbrev S1024x5632 : Shape := ⟨2, ![1024, 5632]⟩
abbrev S2816x1024 : Shape := ⟨2, ![2816, 1024]⟩
abbrev S1024x1408 : Shape := ⟨2, ![1024, 1408]⟩
abbrev S512x1024 : Shape := ⟨2, ![512, 1024]⟩
abbrev S1024x2816 : Shape := ⟨2, ![1024, 2816]⟩
abbrev S1408x1024 : Shape := ⟨2, ![1408, 1024]⟩
abbrev S512x2816 : Shape := ⟨2, ![512, 2816]⟩
abbrev S512x1408 : Shape := ⟨2, ![512, 1408]⟩

abbrev nBuf : Space → Nat
  | .hbm => 9
  | .vmem => 9
  | .smem => 0
  | _ => 0

abbrev bufTy : (tb : Table) → Fin (tcTables nBuf tb) → BufTy
  | .hbm, ⟨0, _⟩ => ⟨S9216x1024, .bf16⟩
  | .hbm, ⟨1, _⟩ => ⟨S1024x5632, .bf16⟩
  | .hbm, ⟨2, _⟩ => ⟨S2816x1024, .bf16⟩
  | .hbm, ⟨3, _⟩ => ⟨S1024x1408, .bf16⟩
  | .hbm, ⟨4, _⟩ => ⟨S1024x1408, .bf16⟩
  | .hbm, ⟨5, _⟩ => ⟨S1024x1408, .bf16⟩
  | .hbm, ⟨6, _⟩ => ⟨S1024x1408, .bf16⟩
  | .hbm, ⟨7, _⟩ => ⟨S1024x5632, .bf16⟩
  | .hbm, ⟨8, _⟩ => ⟨S9216x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1408x1024, .bf16⟩
  | .local _ .vmem, ⟨5, _⟩ => ⟨S1408x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![18, 2], ![false, false]⟩

def k0_cond3 (i : grid0.Coords) : BitVec 1 :=
  let arg1 : BitVec 32 := BitVec.ofNat 32 (i 1).val
  let c1_i32 : BitVec 32 := 1#32
  let v18 : BitVec 1 := Scalar.cmpi .eq arg1 c1_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== FfnRefIdeal.lean ====
abbrev S9216x1024 : Shape := ⟨2, ![9216, 1024]⟩
abbrev S1024x5632 : Shape := ⟨2, ![1024, 5632]⟩
abbrev S2816x1024 : Shape := ⟨2, ![2816, 1024]⟩
abbrev S9216x5632 : Shape := ⟨2, ![9216, 5632]⟩
abbrev S9216x2816 : Shape := ⟨2, ![9216, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x5632, .bf16⟩
  | .hbm, ⟨2, _⟩ => ⟨S2816x1024, .bf16⟩
  | .hbm, ⟨3, _⟩ => ⟨S9216x1024, .f32⟩
  | .hbm, ⟨4, _⟩ => ⟨S1024x5632, .f32⟩
  | .hbm, ⟨5, _⟩ => ⟨S9216x5632, .f32⟩
  | .hbm, ⟨6, _⟩ => ⟨S9216x2816, .f32⟩
  | .hbm, ⟨7, _⟩ => ⟨S9216x2816, .f32⟩
  | .hbm, ⟨8, _⟩ => ⟨S9216x2816, .f32⟩
  | .hbm, ⟨9, _⟩ => ⟨S9216x2816, .f32⟩
  | .hbm, ⟨10, _⟩ => ⟨S_, .f32⟩
  | .hbm, ⟨11, _⟩ => ⟨S9216x2816, .f32⟩
  | .hbm, ⟨12, _⟩ => ⟨S9216x2816, .f32⟩
  | .hbm, ⟨13, _⟩ => ⟨S_, .f32⟩
  | .hbm, ⟨14, _⟩ => ⟨S9216x2816, .f32⟩
  | .hbm, ⟨15, _⟩ => ⟨S9216x2816, .f32⟩
  | .hbm, ⟨16, _⟩ => ⟨S9216x2816, .f32⟩
  | .hbm, ⟨17, _⟩ => ⟨S9216x2816, .f32⟩
  | .hbm, ⟨18, _⟩ => ⟨S2816x1024, .f32⟩
  | .hbm, ⟨19, _⟩ => ⟨S9216x1024, .f32⟩
  | .hbm, ⟨20, _⟩ => ⟨S9216x1024, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== GIn.lean ====
abbrev S9216x1024 : Shape := ⟨2, ![9216, 1024]⟩
abbrev S9216x5632 : Shape := ⟨2, ![9216, 5632]⟩
abbrev S1024x5632 : Shape := ⟨2, ![1024, 5632]⟩
abbrev S3072x1024 : Shape := ⟨2, ![3072, 1024]⟩
abbrev S3072x512 : Shape := ⟨2, ![3072, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S9216x5632, .bf16⟩
  | .hbm, ⟨2, _⟩ => ⟨S1024x5632, .bf16⟩
  | .local _ .vmem, ⟨0, _⟩ => ⟨S3072x1024, .bf16⟩
  | .local _ .vmem, ⟨1, _⟩ => ⟨S3072x1024, .bf16⟩
  | .local _ .vmem, ⟨2, _⟩ => ⟨S3072x512, .bf16⟩
  | .local _ .vmem, ⟨3, _⟩ => ⟨S3072x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S3072x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3072x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GInRefIdeal.lean ====
abbrev S9216x1024 : Shape := ⟨2, ![9216, 1024]⟩
abbrev S9216x5632 : Shape := ⟨2, ![9216, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x5632, .bf16⟩
  | .hbm, ⟨2, _⟩ => ⟨S_, .f32⟩
  | .hbm, ⟨3, _⟩ => ⟨S1024x5632, .f32⟩
  | .hbm, ⟨4, _⟩ => ⟨S9216x1024, .f32⟩
  | .hbm, ⟨5, _⟩ => ⟨S9216x5632, .f32⟩
  | .hbm, ⟨6, _⟩ => ⟨S9216x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GOut.lean ====
abbrev S9216x2816 : Shape := ⟨2, ![9216, 2816]⟩
abbrev S9216x1024 : Shape := ⟨2, ![9216, 1024]⟩
abbrev S2816x1024 : Shape := ⟨2, ![2816, 1024]⟩
abbrev S3072x1408 : Shape := ⟨2, ![3072, 1408]⟩
abbrev S3072x1024 : Shape := ⟨2, ![3072, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x2816, .bf16⟩
  | .hbm, ⟨1, _⟩ => ⟨S9216x1024, .bf16⟩
  | .hbm, ⟨2, _⟩ => ⟨S2816x1024, .bf16⟩
  | .local _ .vmem, ⟨0, _⟩ => ⟨S3072x1408, .bf16⟩
  | .local _ .vmem, ⟨1, _⟩ => ⟨S3072x1408, .bf16⟩
  | .local _ .vmem, ⟨2, _⟩ => ⟨S3072x1024, .bf16⟩
  | .local _ .vmem, ⟨3, _⟩ => ⟨S3072x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S9216x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S3072x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3072x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GOutRefIdeal.lean ====
abbrev S9216x2816 : Shape := ⟨2, ![9216, 2816]⟩
abbrev S9216x1024 : Shape := ⟨2, ![9216, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S9216x2816, .bf16⟩
  | .hbm, ⟨1, _⟩ => ⟨S9216x1024, .bf16⟩
  | .hbm, ⟨2, _⟩ => ⟨S_, .f32⟩
  | .hbm, ⟨3, _⟩ => ⟨S2816x1024, .f32⟩
  | .hbm, ⟨4, _⟩ => ⟨S9216x2816, .f32⟩
  | .hbm, ⟨5, _⟩ => ⟨S9216x1024, .f32⟩
  | .hbm, ⟨6, _⟩ => ⟨S9216x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S9216x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DX.lean ====
abbrev S9216x5632 : Shape := ⟨2, ![9216, 5632]⟩
abbrev S1024x5632 : Shape := ⟨2, ![1024, 5632]⟩
abbrev S9216x1024 : Shape := ⟨2, ![9216, 1024]⟩
abbrev S1152x2816 : Shape := ⟨2, ![1152, 2816]⟩
abbrev S1024x2816 : Shape := ⟨2, ![1024, 2816]⟩
abbrev S1152x1024 : Shape := ⟨2, ![1152, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x5632, .bf16⟩
  | .hbm, ⟨1, _⟩ => ⟨S1024x5632, .bf16⟩
  | .hbm, ⟨2, _⟩ => ⟨S9216x1024, .bf16⟩
  | .local _ .vmem, ⟨0, _⟩ => ⟨S1152x2816, .bf16⟩
  | .local _ .vmem, ⟨1, _⟩ => ⟨S1152x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1152x1024, .bf16⟩
  | .local _ .vmem, ⟨5, _⟩ => ⟨S1152x1024, .bf16⟩
  | .local _ .vmem, ⟨6, _⟩ => ⟨S1152x1024, .f32⟩
  | _, _ => ⟨S9216x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DXRefIdeal.lean ====
abbrev S9216x5632 : Shape := ⟨2, ![9216, 5632]⟩
abbrev S1024x5632 : Shape := ⟨2, ![1024, 5632]⟩
abbrev S_ : Shape := ⟨0, ![]⟩
abbrev S9216x1024 : Shape := ⟨2, ![9216, 1024]⟩

abbrev nBuf : Space → Nat
  | .hbm => 9
  | .vmem => 0
  | .smem => 0
  | _ => 0

abbrev bufTy : (tb : Table) → Fin (tcTables nBuf tb) → BufTy
  | .hbm, ⟨0, _⟩ => ⟨S9216x5632, .bf16⟩
  | .hbm, ⟨1, _⟩ => ⟨S1024x5632, .bf16⟩
  | .hbm, ⟨2, _⟩ => ⟨S_, .f32⟩
  | .hbm, ⟨3, _⟩ => ⟨S9216x1024, .f32⟩
  | .hbm, ⟨4, _⟩ => ⟨S1024x5632, .f32⟩
  | .hbm, ⟨5, _⟩ => ⟨S9216x5632, .f32⟩
  | .hbm, ⟨6, _⟩ => ⟨S9216x5632, .f32⟩
  | .hbm, ⟨7, _⟩ => ⟨S9216x1024, .f32⟩
  | .hbm, ⟨8, _⟩ => ⟨S9216x1024, .bf16⟩
  | _, _ => ⟨S9216x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AbIn.lean ====
abbrev S9216x1024 : Shape := ⟨2, ![9216, 1024]⟩
abbrev S1024x1664 : Shape := ⟨2, ![1024, 1664]⟩
abbrev S9216x1664 : Shape := ⟨2, ![9216, 1664]⟩
abbrev S1152x1024 : Shape := ⟨2, ![1152, 1024]⟩
abbrev S1152x1664 : Shape := ⟨2, ![1152, 1664]⟩

abbrev nBuf : Space → Nat
  | .hbm => 3
  | .vmem => 5
  | .smem => 0
  | _ => 0

abbrev bufTy : (tb : Table) → Fin (tcTables nBuf tb) → BufTy
  | .hbm, ⟨0, _⟩ => ⟨S9216x1024, .bf16⟩
  | .hbm, ⟨1, _⟩ => ⟨S1024x1664, .bf16⟩
  | .hbm, ⟨2, _⟩ => ⟨S9216x1664, .f32⟩
  | .local _ .vmem, ⟨0, _⟩ => ⟨S1152x1024, .bf16⟩
  | .local _ .vmem, ⟨1, _⟩ => ⟨S1152x1024, .bf16⟩
  | .local _ .vmem, ⟨2, _⟩ => ⟨S1024x1664, .bf16⟩
  | .local _ .vmem, ⟨3, _⟩ => ⟨S1152x1664, .f32⟩
  | .local _ .vmem, ⟨4, _⟩ => ⟨S1152x1664, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1152x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbInRefIdeal.lean ====
abbrev S9216x1024 : Shape := ⟨2, ![9216, 1024]⟩
abbrev S1024x1664 : Shape := ⟨2, ![1024, 1664]⟩
abbrev S9216x1664 : Shape := ⟨2, ![9216, 1664]⟩

abbrev nBuf : Space → Nat
  | .hbm => 5
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x1664, .bf16⟩
  | .hbm, ⟨2, _⟩ => ⟨S9216x1024, .f32⟩
  | .hbm, ⟨3, _⟩ => ⟨S1024x1664, .f32⟩
  | .hbm, ⟨4, _⟩ => ⟨S9216x1664, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== CdIn.lean ====
abbrev S9216x1024 : Shape := ⟨2, ![9216, 1024]⟩
abbrev S1024x2304 : Shape := ⟨2, ![1024, 2304]⟩
abbrev S9216x2304 : Shape := ⟨2, ![9216, 2304]⟩
abbrev S1152x1024 : Shape := ⟨2, ![1152, 1024]⟩
abbrev S1024x768 : Shape := ⟨2, ![1024, 768]⟩
abbrev S1152x768 : Shape := ⟨2, ![1152, 768]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S1024x2304, .bf16⟩
  | .hbm, ⟨2, _⟩ => ⟨S9216x2304, .f32⟩
  | .local _ .vmem, ⟨0, _⟩ => ⟨S1152x1024, .bf16⟩
  | .local _ .vmem, ⟨1, _⟩ => ⟨S1152x1024, .bf16⟩
  | .local _ .vmem, ⟨2, _⟩ => ⟨S1024x768, .bf16⟩
  | .local _ .vmem, ⟨3, _⟩ => ⟨S1024x768, .bf16⟩
  | .local _ .vmem, ⟨4, _⟩ => ⟨S1152x768, .f32⟩
  | .local _ .vmem, ⟨5, _⟩ => ⟨S1152x768, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CdInRefIdeal.lean ====
abbrev S9216x1024 : Shape := ⟨2, ![9216, 1024]⟩
abbrev S1024x2304 : Shape := ⟨2, ![1024, 2304]⟩
abbrev S9216x2304 : Shape := ⟨2, ![9216, 2304]⟩

abbrev nBuf : Space → Nat
  | .hbm => 5
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x2304, .bf16⟩
  | .hbm, ⟨2, _⟩ => ⟨S9216x1024, .f32⟩
  | .hbm, ⟨3, _⟩ => ⟨S1024x2304, .f32⟩
  | .hbm, ⟨4, _⟩ => ⟨S9216x2304, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Outs.lean ====
abbrev S9216x512 : Shape := ⟨2, ![9216, 512]⟩
abbrev S1024x1024 : Shape := ⟨2, ![1024, 1024]⟩
abbrev S9216x1024 : Shape := ⟨2, ![9216, 1024]⟩
abbrev S1152x512 : Shape := ⟨2, ![1152, 512]⟩
abbrev S512x1024 : Shape := ⟨2, ![512, 1024]⟩
abbrev S1152x1024 : Shape := ⟨2, ![1152, 1024]⟩

abbrev nBuf : Space → Nat
  | .hbm => 4
  | .vmem => 8
  | .smem => 0
  | _ => 0

abbrev bufTy : (tb : Table) → Fin (tcTables nBuf tb) → BufTy
  | .hbm, ⟨0, _⟩ => ⟨S9216x512, .bf16⟩
  | .hbm, ⟨1, _⟩ => ⟨S9216x512, .bf16⟩
  | .hbm, ⟨2, _⟩ => ⟨S1024x1024, .bf16⟩
  | .hbm, ⟨3, _⟩ => ⟨S9216x1024, .bf16⟩
  | .local _ .vmem, ⟨0, _⟩ => ⟨S1152x512, .bf16⟩
  | .local _ .vmem, ⟨1, _⟩ => ⟨S1152x512, .bf16⟩
  | .local _ .vmem, ⟨2, _⟩ => ⟨S1152x512, .bf16⟩
  | .local _ .vmem, ⟨3, _⟩ => ⟨S1152x512, .bf16⟩
  | .local _ .vmem, ⟨4, _⟩ => ⟨S512x1024, .bf16⟩
  | .local _ .vmem, ⟨5, _⟩ => ⟨S512x1024, .bf16⟩
  | .local _ .vmem, ⟨6, _⟩ => ⟨S1152x1024, .bf16⟩
  | .local _ .vmem, ⟨7, _⟩ => ⟨S1152x1024, .bf16⟩
  | _, _ => ⟨S9216x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1152x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1152x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1152x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutsRefIdeal.lean ====
abbrev S9216x512 : Shape := ⟨2, ![9216, 512]⟩
abbrev S1024x1024 : Shape := ⟨2, ![1024, 1024]⟩
abbrev S9216x1024 : Shape := ⟨2, ![9216, 1024]⟩

abbrev nBuf : Space → Nat
  | .hbm => 8
  | .vmem => 0
  | .smem => 0
  | _ => 0

abbrev bufTy : (tb : Table) → Fin (tcTables nBuf tb) → BufTy
  | .hbm, ⟨0, _⟩ => ⟨S9216x512, .bf16⟩
  | .hbm, ⟨1, _⟩ => ⟨S9216x512, .bf16⟩
  | .hbm, ⟨2, _⟩ => ⟨S1024x1024, .bf16⟩
  | .hbm, ⟨3, _⟩ => ⟨S9216x1024, .bf16⟩
  | .hbm, ⟨4, _⟩ => ⟨S9216x1024, .f32⟩
  | .hbm, ⟨5, _⟩ => ⟨S1024x1024, .f32⟩
  | .hbm, ⟨6, _⟩ => ⟨S9216x1024, .f32⟩
  | .hbm, ⟨7, _⟩ => ⟨S9216x1024, .bf16⟩
  | _, _ => ⟨S9216x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GAb.lean ====
abbrev S9216x1024 : Shape := ⟨2, ![9216, 1024]⟩
abbrev S9216x1664 : Shape := ⟨2, ![9216, 1664]⟩
abbrev S1024x1664 : Shape := ⟨2, ![1024, 1664]⟩
abbrev S3072x1024 : Shape := ⟨2, ![3072, 1024]⟩
abbrev S3072x1664 : Shape := ⟨2, ![3072, 1664]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S9216x1664, .bf16⟩
  | .hbm, ⟨2, _⟩ => ⟨S1024x1664, .bf16⟩
  | .local _ .vmem, ⟨0, _⟩ => ⟨S3072x1024, .bf16⟩
  | .local _ .vmem, ⟨1, _⟩ => ⟨S3072x1024, .bf16⟩
  | .local _ .vmem, ⟨2, _⟩ => ⟨S3072x1664, .bf16⟩
  | .local _ .vmem, ⟨3, _⟩ => ⟨S3072x1664, .bf16⟩
  | .local _ .vmem, ⟨4, _⟩ => ⟨S1024x1664, .bf16⟩
  | .local _ .vmem, ⟨5, _⟩ => ⟨S1024x1664, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S3072x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3072x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1664 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GAbRefIdeal.lean ====
abbrev S9216x1024 : Shape := ⟨2, ![9216, 1024]⟩
abbrev S9216x1664 : Shape := ⟨2, ![9216, 1664]⟩
abbrev S_ : Shape := ⟨0, ![]⟩
abbrev S1024x1664 : Shape := ⟨2, ![1024, 1664]⟩
abbrev S1664x1024 : Shape := ⟨2, ![1664, 1024]⟩

abbrev nBuf : Space → Nat
  | .hbm => 10
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x1664, .bf16⟩
  | .hbm, ⟨2, _⟩ => ⟨S_, .f32⟩
  | .hbm, ⟨3, _⟩ => ⟨S1024x1664, .f32⟩
  | .hbm, ⟨4, _⟩ => ⟨S9216x1024, .f32⟩
  | .hbm, ⟨5, _⟩ => ⟨S9216x1664, .f32⟩
  | .hbm, ⟨6, _⟩ => ⟨S9216x1664, .f32⟩
  | .hbm, ⟨7, _⟩ => ⟨S1664x1024, .f32⟩
  | .hbm, ⟨8, _⟩ => ⟨S1024x1664, .f32⟩
  | .hbm, ⟨9, _⟩ => ⟨S1024x1664, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GCd.lean ====
abbrev S9216x1024 : Shape := ⟨2, ![9216, 1024]⟩
abbrev S9216x2304 : Shape := ⟨2, ![9216, 2304]⟩
abbrev S1024x2304 : Shape := ⟨2, ![1024, 2304]⟩
abbrev S3072x1024 : Shape := ⟨2, ![3072, 1024]⟩
abbrev S3072x768 : Shape := ⟨2, ![3072, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S9216x2304, .bf16⟩
  | .hbm, ⟨2, _⟩ => ⟨S1024x2304, .bf16⟩
  | .local _ .vmem, ⟨0, _⟩ => ⟨S3072x1024, .bf16⟩
  | .local _ .vmem, ⟨1, _⟩ => ⟨S3072x1024, .bf16⟩
  | .local _ .vmem, ⟨2, _⟩ => ⟨S3072x768, .bf16⟩
  | .local _ .vmem, ⟨3, _⟩ => ⟨S3072x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S3072x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3072x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GCdRefIdeal.lean ====
abbrev S9216x1024 : Shape := ⟨2, ![9216, 1024]⟩
abbrev S9216x2304 : Shape := ⟨2, ![9216, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 10
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x2304, .bf16⟩
  | .hbm, ⟨2, _⟩ => ⟨S_, .f32⟩
  | .hbm, ⟨3, _⟩ => ⟨S1024x2304, .f32⟩
  | .hbm, ⟨4, _⟩ => ⟨S9216x1024, .f32⟩
  | .hbm, ⟨5, _⟩ => ⟨S9216x2304, .f32⟩
  | .hbm, ⟨6, _⟩ => ⟨S9216x2304, .f32⟩
  | .hbm, ⟨7, _⟩ => ⟨S2304x1024, .f32⟩
  | .hbm, ⟨8, _⟩ => ⟨S1024x2304, .f32⟩
  | .hbm, ⟨9, _⟩ => ⟨S1024x2304, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GHalf.lean ====
abbrev S9216x512 : Shape := ⟨2, ![9216, 512]⟩
abbrev S9216x1024 : Shape := ⟨2, ![9216, 1024]⟩
abbrev S512x1024 : Shape := ⟨2, ![512, 1024]⟩
abbrev S3072x512 : Shape := ⟨2, ![3072, 512]⟩
abbrev S3072x1024 : Shape := ⟨2, ![3072, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x512, .bf16⟩
  | .hbm, ⟨1, _⟩ => ⟨S9216x1024, .bf16⟩
  | .hbm, ⟨2, _⟩ => ⟨S512x1024, .bf16⟩
  | .local _ .vmem, ⟨0, _⟩ => ⟨S3072x512, .bf16⟩
  | .local _ .vmem, ⟨1, _⟩ => ⟨S3072x512, .bf16⟩
  | .local _ .vmem, ⟨2, _⟩ => ⟨S3072x1024, .bf16⟩
  | .local _ .vmem, ⟨3, _⟩ => ⟨S3072x1024, .bf16⟩
  | .local _ .vmem, ⟨4, _⟩ => ⟨S512x1024, .bf16⟩
  | .local _ .vmem, ⟨5, _⟩ => ⟨S512x1024, .f32⟩
  | _, _ => ⟨S9216x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S3072x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3072x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GHalfRefIdeal.lean ====
abbrev S9216x512 : Shape := ⟨2, ![9216, 512]⟩
abbrev S9216x1024 : Shape := ⟨2, ![9216, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S9216x512, .bf16⟩
  | .hbm, ⟨1, _⟩ => ⟨S9216x1024, .bf16⟩
  | .hbm, ⟨2, _⟩ => ⟨S_, .f32⟩
  | .hbm, ⟨3, _⟩ => ⟨S512x1024, .f32⟩
  | .hbm, ⟨4, _⟩ => ⟨S9216x512, .f32⟩
  | .hbm, ⟨5, _⟩ => ⟨S9216x1024, .f32⟩
  | .hbm, ⟨6, _⟩ => ⟨S9216x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S9216x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DCat.lean ====
abbrev S9216x1024 : Shape := ⟨2, ![9216, 1024]⟩
abbrev S1024x1024 : Shape := ⟨2, ![1024, 1024]⟩
abbrev S1152x1024 : Shape := ⟨2, ![1152, 1024]⟩

abbrev nBuf : Space → Nat
  | .hbm => 3
  | .vmem => 5
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S9216x1024, .bf16⟩
  | .local _ .vmem, ⟨0, _⟩ => ⟨S1152x1024, .bf16⟩
  | .local _ .vmem, ⟨1, _⟩ => ⟨S1152x1024, .bf16⟩
  | .local _ .vmem, ⟨2, _⟩ => ⟨S1024x1024, .bf16⟩
  | .local _ .vmem, ⟨3, _⟩ => ⟨S1152x1024, .bf16⟩
  | .local _ .vmem, ⟨4, _⟩ => ⟨S1152x1024, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DCatRefIdeal.lean ====
abbrev S9216x1024 : Shape := ⟨2, ![9216, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S_, .f32⟩
  | .hbm, ⟨3, _⟩ => ⟨S9216x1024, .f32⟩
  | .hbm, ⟨4, _⟩ => ⟨S1024x1024, .f32⟩
  | .hbm, ⟨5, _⟩ => ⟨S9216x1024, .f32⟩
  | .hbm, ⟨6, _⟩ => ⟨S9216x1024, .f32⟩
  | .hbm, ⟨7, _⟩ => ⟨S9216x1024, .f32⟩
  | .hbm, ⟨8, _⟩ => ⟨S9216x1024, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DAb.lean ====
abbrev S9216x1664 : Shape := ⟨2, ![9216, 1664]⟩
abbrev S1024x1664 : Shape := ⟨2, ![1024, 1664]⟩
abbrev S9216x1024 : Shape := ⟨2, ![9216, 1024]⟩
abbrev S1152x1664 : Shape := ⟨2, ![1152, 1664]⟩
abbrev S1152x1024 : Shape := ⟨2, ![1152, 1024]⟩

abbrev nBuf : Space → Nat
  | .hbm => 3
  | .vmem => 5
  | .smem => 0
  | _ => 0

abbrev bufTy : (tb : Table) → Fin (tcTables nBuf tb) → BufTy
  | .hbm, ⟨0, _⟩ => ⟨S9216x1664, .bf16⟩
  | .hbm, ⟨1, _⟩ => ⟨S1024x1664, .bf16⟩
  | .hbm, ⟨2, _⟩ => ⟨S9216x1024, .bf16⟩
  | .local _ .vmem, ⟨0, _⟩ => ⟨S1152x1664, .bf16⟩
  | .local _ .vmem, ⟨1, _⟩ => ⟨S1152x1664, .bf16⟩
  | .local _ .vmem, ⟨2, _⟩ => ⟨S1024x1664, .bf16⟩
  | .local _ .vmem, ⟨3, _⟩ => ⟨S1152x1024, .bf16⟩
  | .local _ .vmem, ⟨4, _⟩ => ⟨S1152x1024, .bf16⟩
  | _, _ => ⟨S9216x1664, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DAbRefIdeal.lean ====
abbrev S9216x1664 : Shape := ⟨2, ![9216, 1664]⟩
abbrev S1024x1664 : Shape := ⟨2, ![1024, 1664]⟩
abbrev S_ : Shape := ⟨0, ![]⟩
abbrev S9216x1024 : Shape := ⟨2, ![9216, 1024]⟩

abbrev nBuf : Space → Nat
  | .hbm => 9
  | .vmem => 0
  | .smem => 0
  | _ => 0

abbrev bufTy : (tb : Table) → Fin (tcTables nBuf tb) → BufTy
  | .hbm, ⟨0, _⟩ => ⟨S9216x1664, .bf16⟩
  | .hbm, ⟨1, _⟩ => ⟨S1024x1664, .bf16⟩
  | .hbm, ⟨2, _⟩ => ⟨S_, .f32⟩
  | .hbm, ⟨3, _⟩ => ⟨S9216x1024, .f32⟩
  | .hbm, ⟨4, _⟩ => ⟨S1024x1664, .f32⟩
  | .hbm, ⟨5, _⟩ => ⟨S9216x1664, .f32⟩
  | .hbm, ⟨6, _⟩ => ⟨S9216x1664, .f32⟩
  | .hbm, ⟨7, _⟩ => ⟨S9216x1024, .f32⟩
  | .hbm, ⟨8, _⟩ => ⟨S9216x1024, .bf16⟩
  | _, _ => ⟨S9216x1664, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DCd.lean ====
abbrev S9216x2304 : Shape := ⟨2, ![9216, 2304]⟩
abbrev S1024x2304 : Shape := ⟨2, ![1024, 2304]⟩
abbrev S9216x1024 : Shape := ⟨2, ![9216, 1024]⟩
abbrev S1152x2304 : Shape := ⟨2, ![1152, 2304]⟩
abbrev S1152x1024 : Shape := ⟨2, ![1152, 1024]⟩

abbrev nBuf : Space → Nat
  | .hbm => 3
  | .vmem => 5
  | .smem => 0
  | _ => 0

abbrev bufTy : (tb : Table) → Fin (tcTables nBuf tb) → BufTy
  | .hbm, ⟨0, _⟩ => ⟨S9216x2304, .bf16⟩
  | .hbm, ⟨1, _⟩ => ⟨S1024x2304, .bf16⟩
  | .hbm, ⟨2, _⟩ => ⟨S9216x1024, .bf16⟩
  | .local _ .vmem, ⟨0, _⟩ => ⟨S1152x2304, .bf16⟩
  | .local _ .vmem, ⟨1, _⟩ => ⟨S1152x2304, .bf16⟩
  | .local _ .vmem, ⟨2, _⟩ => ⟨S1024x2304, .bf16⟩
  | .local _ .vmem, ⟨3, _⟩ => ⟨S1152x1024, .bf16⟩
  | .local _ .vmem, ⟨4, _⟩ => ⟨S1152x1024, .bf16⟩
  | _, _ => ⟨S9216x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DCdRefIdeal.lean ====
abbrev S9216x2304 : Shape := ⟨2, ![9216, 2304]⟩
abbrev S1024x2304 : Shape := ⟨2, ![1024, 2304]⟩
abbrev S_ : Shape := ⟨0, ![]⟩
abbrev S9216x1024 : Shape := ⟨2, ![9216, 1024]⟩

abbrev nBuf : Space → Nat
  | .hbm => 9
  | .vmem => 0
  | .smem => 0
  | _ => 0

abbrev bufTy : (tb : Table) → Fin (tcTables nBuf tb) → BufTy
  | .hbm, ⟨0, _⟩ => ⟨S9216x2304, .bf16⟩
  | .hbm, ⟨1, _⟩ => ⟨S1024x2304, .bf16⟩
  | .hbm, ⟨2, _⟩ => ⟨S_, .f32⟩
  | .hbm, ⟨3, _⟩ => ⟨S9216x1024, .f32⟩
  | .hbm, ⟨4, _⟩ => ⟨S1024x2304, .f32⟩
  | .hbm, ⟨5, _⟩ => ⟨S9216x2304, .f32⟩
  | .hbm, ⟨6, _⟩ => ⟨S9216x2304, .f32⟩
  | .hbm, ⟨7, _⟩ => ⟨S9216x1024, .f32⟩
  | .hbm, ⟨8, _⟩ => ⟨S9216x1024, .bf16⟩
  | _, _ => ⟨S9216x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WKv.lean ====
abbrev S9216x256 : Shape := ⟨2, ![9216, 256]⟩
abbrev S256x1024 : Shape := ⟨2, ![256, 1024]⟩
abbrev S9216x1024 : Shape := ⟨2, ![9216, 1024]⟩
abbrev S1152x256 : Shape := ⟨2, ![1152, 256]⟩
abbrev S1152x1024 : Shape := ⟨2, ![1152, 1024]⟩

abbrev nBuf : Space → Nat
  | .hbm => 3
  | .vmem => 5
  | .smem => 0
  | _ => 0

abbrev bufTy : (tb : Table) → Fin (tcTables nBuf tb) → BufTy
  | .hbm, ⟨0, _⟩ => ⟨S9216x256, .bf16⟩
  | .hbm, ⟨1, _⟩ => ⟨S256x1024, .bf16⟩
  | .hbm, ⟨2, _⟩ => ⟨S9216x1024, .bf16⟩
  | .local _ .vmem, ⟨0, _⟩ => ⟨S1152x256, .bf16⟩
  | .local _ .vmem, ⟨1, _⟩ => ⟨S1152x256, .bf16⟩
  | .local _ .vmem, ⟨2, _⟩ => ⟨S256x1024, .bf16⟩
  | .local _ .vmem, ⟨3, _⟩ => ⟨S1152x1024, .bf16⟩
  | .local _ .vmem, ⟨4, _⟩ => ⟨S1152x1024, .bf16⟩
  | _, _ => ⟨S9216x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WKvRefIdeal.lean ====
abbrev S9216x256 : Shape := ⟨2, ![9216, 256]⟩
abbrev S256x1024 : Shape := ⟨2, ![256, 1024]⟩
abbrev S9216x1024 : Shape := ⟨2, ![9216, 1024]⟩

abbrev nBuf : Space → Nat
  | .hbm => 6
  | .vmem => 0
  | .smem => 0
  | _ => 0

abbrev bufTy : (tb : Table) → Fin (tcTables nBuf tb) → BufTy
  | .hbm, ⟨0, _⟩ => ⟨S9216x256, .bf16⟩
  | .hbm, ⟨1, _⟩ => ⟨S256x1024, .bf16⟩
  | .hbm, ⟨2, _⟩ => ⟨S9216x256, .f32⟩
  | .hbm, ⟨3, _⟩ => ⟨S256x1024, .f32⟩
  | .hbm, ⟨4, _⟩ => ⟨S9216x1024, .f32⟩
  | .hbm, ⟨5, _⟩ => ⟨S9216x1024, .bf16⟩
  | _, _ => ⟨S9216x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== WQ.lean ====
abbrev S9216x256 : Shape := ⟨2, ![9216, 256]⟩
abbrev S256x768 : Shape := ⟨2, ![256, 768]⟩
abbrev S9216x768 : Shape := ⟨2, ![9216, 768]⟩
abbrev S1152x256 : Shape := ⟨2, ![1152, 256]⟩
abbrev S1152x768 : Shape := ⟨2, ![1152, 768]⟩

abbrev nBuf : Space → Nat
  | .hbm => 3
  | .vmem => 5
  | .smem => 0
  | _ => 0

abbrev bufTy : (tb : Table) → Fin (tcTables nBuf tb) → BufTy
  | .hbm, ⟨0, _⟩ => ⟨S9216x256, .bf16⟩
  | .hbm, ⟨1, _⟩ => ⟨S256x768, .bf16⟩
  | .hbm, ⟨2, _⟩ => ⟨S9216x768, .f32⟩
  | .local _ .vmem, ⟨0, _⟩ => ⟨S1152x256, .bf16⟩
  | .local _ .vmem, ⟨1, _⟩ => ⟨S1152x256, .bf16⟩
  | .local _ .vmem, ⟨2, _⟩ => ⟨S256x768, .bf16⟩
  | .local _ .vmem, ⟨3, _⟩ => ⟨S1152x768, .f32⟩
  | .local _ .vmem, ⟨4, _⟩ => ⟨S1152x768, .f32⟩
  | _, _ => ⟨S9216x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1152x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WQRefIdeal.lean ====
abbrev S9216x256 : Shape := ⟨2, ![9216, 256]⟩
abbrev S256x768 : Shape := ⟨2, ![256, 768]⟩
abbrev S9216x768 : Shape := ⟨2, ![9216, 768]⟩

abbrev nBuf : Space → Nat
  | .hbm => 5
  | .vmem => 0
  | .smem => 0
  | _ => 0

abbrev bufTy : (tb : Table) → Fin (tcTables nBuf tb) → BufTy
  | .hbm, ⟨0, _⟩ => ⟨S9216x256, .bf16⟩
  | .hbm, ⟨1, _⟩ => ⟨S256x768, .bf16⟩
  | .hbm, ⟨2, _⟩ => ⟨S9216x256, .f32⟩
  | .hbm, ⟨3, _⟩ => ⟨S256x768, .f32⟩
  | .hbm, ⟨4, _⟩ => ⟨S9216x768, .f32⟩
  | _, _ => ⟨S9216x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GWQ.lean ====
abbrev S9216x256 : Shape := ⟨2, ![9216, 256]⟩
abbrev S9216x768 : Shape := ⟨2, ![9216, 768]⟩
abbrev S256x768 : Shape := ⟨2, ![256, 768]⟩
abbrev S3072x256 : Shape := ⟨2, ![3072, 256]⟩
abbrev S3072x768 : Shape := ⟨2, ![3072, 768]⟩

abbrev nBuf : Space → Nat
  | .hbm => 3
  | .vmem => 6
  | .smem => 0
  | _ => 0

abbrev bufTy : (tb : Table) → Fin (tcTables nBuf tb) → BufTy
  | .hbm, ⟨0, _⟩ => ⟨S9216x256, .bf16⟩
  | .hbm, ⟨1, _⟩ => ⟨S9216x768, .bf16⟩
  | .hbm, ⟨2, _⟩ => ⟨S256x768, .bf16⟩
  | .local _ .vmem, ⟨0, _⟩ => ⟨S3072x256, .bf16⟩
  | .local _ .vmem, ⟨1, _⟩ => ⟨S3072x256, .bf16⟩
  | .local _ .vmem, ⟨2, _⟩ => ⟨S3072x768, .bf16⟩
  | .local _ .vmem, ⟨3, _⟩ => ⟨S3072x768, .bf16⟩
  | .local _ .vmem, ⟨4, _⟩ => ⟨S256x768, .bf16⟩
  | .local _ .vmem, ⟨5, _⟩ => ⟨S256x768, .f32⟩
  | _, _ => ⟨S9216x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S3072x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3072x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GWQRefIdeal.lean ====
abbrev S9216x256 : Shape := ⟨2, ![9216, 256]⟩
abbrev S9216x768 : Shape := ⟨2, ![9216, 768]⟩
abbrev S_ : Shape := ⟨0, ![]⟩
abbrev S256x768 : Shape := ⟨2, ![256, 768]⟩
abbrev S768x256 : Shape := ⟨2, ![768, 256]⟩

abbrev nBuf : Space → Nat
  | .hbm => 10
  | .vmem => 0
  | .smem => 0
  | _ => 0

abbrev bufTy : (tb : Table) → Fin (tcTables nBuf tb) → BufTy
  | .hbm, ⟨0, _⟩ => ⟨S9216x256, .bf16⟩
  | .hbm, ⟨1, _⟩ => ⟨S9216x768, .bf16⟩
  | .hbm, ⟨2, _⟩ => ⟨S_, .f32⟩
  | .hbm, ⟨3, _⟩ => ⟨S256x768, .f32⟩
  | .hbm, ⟨4, _⟩ => ⟨S9216x256, .f32⟩
  | .hbm, ⟨5, _⟩ => ⟨S9216x768, .f32⟩
  | .hbm, ⟨6, _⟩ => ⟨S9216x768, .f32⟩
  | .hbm, ⟨7, _⟩ => ⟨S768x256, .f32⟩
  | .hbm, ⟨8, _⟩ => ⟨S256x768, .f32⟩
  | .hbm, ⟨9, _⟩ => ⟨S256x768, .bf16⟩
  | _, _ => ⟨S9216x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GWKv.lean ====
abbrev S9216x256 : Shape := ⟨2, ![9216, 256]⟩
abbrev S9216x1024 : Shape := ⟨2, ![9216, 1024]⟩
abbrev S256x1024 : Shape := ⟨2, ![256, 1024]⟩
abbrev S3072x256 : Shape := ⟨2, ![3072, 256]⟩
abbrev S3072x1024 : Shape := ⟨2, ![3072, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x256, .bf16⟩
  | .hbm, ⟨1, _⟩ => ⟨S9216x1024, .bf16⟩
  | .hbm, ⟨2, _⟩ => ⟨S256x1024, .bf16⟩
  | .local _ .vmem, ⟨0, _⟩ => ⟨S3072x256, .bf16⟩
  | .local _ .vmem, ⟨1, _⟩ => ⟨S3072x256, .bf16⟩
  | .local _ .vmem, ⟨2, _⟩ => ⟨S3072x1024, .bf16⟩
  | .local _ .vmem, ⟨3, _⟩ => ⟨S3072x1024, .bf16⟩
  | .local _ .vmem, ⟨4, _⟩ => ⟨S256x1024, .bf16⟩
  | .local _ .vmem, ⟨5, _⟩ => ⟨S256x1024, .f32⟩
  | _, _ => ⟨S9216x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S3072x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3072x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GWKvRefIdeal.lean ====
abbrev S9216x256 : Shape := ⟨2, ![9216, 256]⟩
abbrev S9216x1024 : Shape := ⟨2, ![9216, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S9216x256, .bf16⟩
  | .hbm, ⟨1, _⟩ => ⟨S9216x1024, .bf16⟩
  | .hbm, ⟨2, _⟩ => ⟨S_, .f32⟩
  | .hbm, ⟨3, _⟩ => ⟨S256x1024, .f32⟩
  | .hbm, ⟨4, _⟩ => ⟨S9216x256, .f32⟩
  | .hbm, ⟨5, _⟩ => ⟨S9216x1024, .f32⟩
  | .hbm, ⟨6, _⟩ => ⟨S9216x1024, .f32⟩
  | .hbm, ⟨7, _⟩ => ⟨S1024x256, .f32⟩
  | .hbm, ⟨8, _⟩ => ⟨S256x1024, .f32⟩
  | .hbm, ⟨9, _⟩ => ⟨S256x1024, .bf16⟩
  | _, _ => ⟨S9216x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DQn.lean ====
abbrev S9216x768 : Shape := ⟨2, ![9216, 768]⟩
abbrev S256x768 : Shape := ⟨2, ![256, 768]⟩
abbrev S9216x256 : Shape := ⟨2, ![9216, 256]⟩
abbrev S1152x768 : Shape := ⟨2, ![1152, 768]⟩
abbrev S1152x256 : Shape := ⟨2, ![1152, 256]⟩

abbrev nBuf : Space → Nat
  | .hbm => 3
  | .vmem => 5
  | .smem => 0
  | _ => 0

abbrev bufTy : (tb : Table) → Fin (tcTables nBuf tb) → BufTy
  | .hbm, ⟨0, _⟩ => ⟨S9216x768, .bf16⟩
  | .hbm, ⟨1, _⟩ => ⟨S256x768, .bf16⟩
  | .hbm, ⟨2, _⟩ => ⟨S9216x256, .f32⟩
  | .local _ .vmem, ⟨0, _⟩ => ⟨S1152x768, .bf16⟩
  | .local _ .vmem, ⟨1, _⟩ => ⟨S1152x768, .bf16⟩
  | .local _ .vmem, ⟨2, _⟩ => ⟨S256x768, .bf16⟩
  | .local _ .vmem, ⟨3, _⟩ => ⟨S1152x256, .f32⟩
  | .local _ .vmem, ⟨4, _⟩ => ⟨S1152x256, .f32⟩
  | _, _ => ⟨S9216x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1152x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DQnRefIdeal.lean ====
abbrev S9216x768 : Shape := ⟨2, ![9216, 768]⟩
abbrev S256x768 : Shape := ⟨2, ![256, 768]⟩
abbrev S_ : Shape := ⟨0, ![]⟩
abbrev S9216x256 : Shape := ⟨2, ![9216, 256]⟩

abbrev nBuf : Space → Nat
  | .hbm => 8
  | .vmem => 0
  | .smem => 0
  | _ => 0

abbrev bufTy : (tb : Table) → Fin (tcTables nBuf tb) → BufTy
  | .hbm, ⟨0, _⟩ => ⟨S9216x768, .bf16⟩
  | .hbm, ⟨1, _⟩ => ⟨S256x768, .bf16⟩
  | .hbm, ⟨2, _⟩ => ⟨S_, .f32⟩
  | .hbm, ⟨3, _⟩ => ⟨S9216x256, .f32⟩
  | .hbm, ⟨4, _⟩ => ⟨S256x768, .f32⟩
  | .hbm, ⟨5, _⟩ => ⟨S9216x768, .f32⟩
  | .hbm, ⟨6, _⟩ => ⟨S9216x768, .f32⟩
  | .hbm, ⟨7, _⟩ => ⟨S9216x256, .f32⟩
  | _, _ => ⟨S9216x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DKvn.lean ====
abbrev S9216x1024 : Shape := ⟨2, ![9216, 1024]⟩
abbrev S256x1024 : Shape := ⟨2, ![256, 1024]⟩
abbrev S9216x256 : Shape := ⟨2, ![9216, 256]⟩
abbrev S1152x1024 : Shape := ⟨2, ![1152, 1024]⟩
abbrev S1152x256 : Shape := ⟨2, ![1152, 256]⟩

abbrev nBuf : Space → Nat
  | .hbm => 3
  | .vmem => 5
  | .smem => 0
  | _ => 0

abbrev bufTy : (tb : Table) → Fin (tcTables nBuf tb) → BufTy
  | .hbm, ⟨0, _⟩ => ⟨S9216x1024, .bf16⟩
  | .hbm, ⟨1, _⟩ => ⟨S256x1024, .bf16⟩
  | .hbm, ⟨2, _⟩ => ⟨S9216x256, .f32⟩
  | .local _ .vmem, ⟨0, _⟩ => ⟨S1152x1024, .bf16⟩
  | .local _ .vmem, ⟨1, _⟩ => ⟨S1152x1024, .bf16⟩
  | .local _ .vmem, ⟨2, _⟩ => ⟨S256x1024, .bf16⟩
  | .local _ .vmem, ⟨3, _⟩ => ⟨S1152x256, .f32⟩
  | .local _ .vmem, ⟨4, _⟩ => ⟨S1152x256, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1152x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DKvnRefIdeal.lean ====
abbrev S9216x1024 : Shape := ⟨2, ![9216, 1024]⟩
abbrev S256x1024 : Shape := ⟨2, ![256, 1024]⟩
abbrev S_ : Shape := ⟨0, ![]⟩
abbrev S9216x256 : Shape := ⟨2, ![9216, 256]⟩

abbrev nBuf : Space → Nat
  | .hbm => 8
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S256x1024, .bf16⟩
  | .hbm, ⟨2, _⟩ => ⟨S_, .f32⟩
  | .hbm, ⟨3, _⟩ => ⟨S9216x256, .f32⟩
  | .hbm, ⟨4, _⟩ => ⟨S256x1024, .f32⟩
  | .hbm, ⟨5, _⟩ => ⟨S9216x1024, .f32⟩
  | .hbm, ⟨6, _⟩ => ⟨S9216x1024, .f32⟩
  | .hbm, ⟨7, _⟩ => ⟨S9216x256, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Att.lean ====
abbrev S4x2304x768 : Shape := ⟨3, ![4, 2304, 768]⟩
abbrev S4x2304x1024 : Shape := ⟨3, ![4, 2304, 1024]⟩
abbrev S4x2304x128 : Shape := ⟨3, ![4, 2304, 128]⟩
abbrev S4x2304x512 : Shape := ⟨3, ![4, 2304, 512]⟩
abbrev S4x2304x4 : Shape := ⟨3, ![4, 2304, 4]⟩
abbrev S1x256x768 : Shape := ⟨3, ![1, 256, 768]⟩
abbrev S1x2304x1024 : Shape := ⟨3, ![1, 2304, 1024]⟩
abbrev S1x2304x128 : Shape := ⟨3, ![1, 2304, 128]⟩
abbrev S1x256x512 : Shape := ⟨3, ![1, 256, 512]⟩
abbrev S1x256x4 : Shape := ⟨3, ![1, 256, 4]⟩
abbrev S4x2304x256 : Shape := ⟨3, ![4, 2304, 256]⟩
abbrev S2304x128 : Shape := ⟨2, ![2304, 128]⟩
abbrev S1x128 : Shape := ⟨2, ![1, 128]⟩
abbrev S1x256x128 : Shape := ⟨3, ![1, 256, 128]⟩
abbrev S256x128 : Shape := ⟨2, ![256, 128]⟩
abbrev S256x256 : Shape := ⟨2, ![256, 256]⟩
abbrev S1x2304x256 : Shape := ⟨3, ![1, 2304, 256]⟩
abbrev S2304x256 : Shape := ⟨2, ![2304, 256]⟩
abbrev S256x2304 : Shape := ⟨2, ![256, 2304]⟩
abbrev S256 : Shape := ⟨1, ![256]⟩
abbrev S256x1 : Shape := ⟨2, ![256, 1]⟩
abbrev S1x256x1 : Shape := ⟨3, ![1, 256, 1]⟩
abbrev S1x256x256 : Shape := ⟨3, ![1, 256, 256]⟩

abbrev nBuf : Space → Nat
  | .hbm => 5
  | .vmem => 11
  | .smem => 0
  | _ => 0

abbrev bufTy : (tb : Table) → Fin (tcTables nBuf tb) → BufTy
  | .hbm, ⟨0, _⟩ => ⟨S4x2304x768, .bf16⟩
  | .hbm, ⟨1, _⟩ => ⟨S4x2304x1024, .bf16⟩
  | .hbm, ⟨2, _⟩ => ⟨S4x2304x128, .bf16⟩
  | .hbm, ⟨3, _⟩ => ⟨S4x2304x512, .bf16⟩
  | .hbm, ⟨4, _⟩ => ⟨S4x2304x4, .f32⟩
  | .local _ .vmem, ⟨0, _⟩ => ⟨S1x256x768, .bf16⟩
  | .local _ .vmem, ⟨1, _⟩ => ⟨S1x256x768, .bf16⟩
  | .local _ .vmem, ⟨2, _⟩ => ⟨S1x2304x1024, .bf16⟩
  | .local _ .vmem, ⟨3, _⟩ => ⟨S1x2304x1024, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x4, .f32⟩
  | .local _ .vmem, ⟨9, _⟩ => ⟨S1x256x4, .f32⟩
  | .local _ .vmem, ⟨10, _⟩ => ⟨S4x2304x256, .bf16⟩
  | _, _ => ⟨S4x2304x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 9], ![false, false]⟩

def k0_cond2 (i : grid0.Coords) : BitVec 1 :=
  let arg1 : BitVec 32 := BitVec.ofNat 32 (i 1).val
  let c8_i32 : BitVec 32 := 8#32
  let v3 : BitVec 1 := Scalar.cmpi .slt arg1 c8_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c8_i32_2 : BitVec 32 := 8#32
  let v6 : BitVec 1 := Scalar.cmpi .sge arg1 c8_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttRefIdeal.lean ====
abbrev S4x2304x768 : Shape := ⟨3, ![4, 2304, 768]⟩
abbrev S4x2304x1024 : Shape := ⟨3, ![4, 2304, 1024]⟩
abbrev S4x2304x128 : Shape := ⟨3, ![4, 2304, 128]⟩
abbrev S4x2304x512 : Shape := ⟨3, ![4, 2304, 512]⟩
abbrev S4x2304x4x128 : Shape := ⟨4, ![4, 2304, 4, 128]⟩
abbrev S4x2304x256 : Shape := ⟨3, ![4, 2304, 256]⟩
abbrev S4x2304x4x64 : Shape := ⟨4, ![4, 2304, 4, 64]⟩
abbrev S4x2304x4x192 : Shape := ⟨4, ![4, 2304, 4, 192]⟩
abbrev S4x2304x4x256 : Shape := ⟨4, ![4, 2304, 4, 256]⟩
abbrev S4x2304x2x64 : Shape := ⟨4, ![4, 2304, 2, 64]⟩
abbrev S4x2048x4x192 : Shape := ⟨4, ![4, 2048, 4, 192]⟩
abbrev S4x4x2048x2304 : Shape := ⟨4, ![4, 4, 2048, 2304]⟩
abbrev S_ : Shape := ⟨0, ![]⟩
abbrev S4x256x4x192 : Shape := ⟨4, ![4, 256, 4, 192]⟩
abbrev S4x4x256x256 : Shape := ⟨4, ![4, 4, 256, 256]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S4x2048x4x128 : Shape := ⟨4, ![4, 2048, 4, 128]⟩
abbrev S4x4x256 : Shape := ⟨3, ![4, 4, 256]⟩
abbrev S4x4x256x1 : Shape := ⟨4, ![4, 4, 256, 1]⟩
abbrev S4x256x4x128 : Shape := ⟨4, ![4, 256, 4, 128]⟩
abbrev S4x4x128x256 : Shape := ⟨4, ![4, 4, 128, 256]⟩
abbrev S4x4x2304 : Shape := ⟨3, ![4, 4, 2304]⟩
abbrev S4x2304x4 : Shape := ⟨3, ![4, 2304, 4]⟩

abbrev nBuf : Space → Nat
  | .hbm => 113
  | .vmem => 0
  | .smem => 0
  | _ => 0

abbrev bufTy : (tb : Table) → Fin (tcTables nBuf tb) → BufTy
  | .hbm, ⟨0, _⟩ => ⟨S4x2304x768, .bf16⟩
  | .hbm, ⟨1, _⟩ => ⟨S4x2304x1024, .bf16⟩
  | .hbm, ⟨2, _⟩ => ⟨S4x2304x128, .bf16⟩
  | .hbm, ⟨3, _⟩ => ⟨S4x2304x768, .f32⟩
  | .hbm, ⟨4, _⟩ => ⟨S4x2304x1024, .f32⟩
  | .hbm, ⟨5, _⟩ => ⟨S4x2304x128, .f32⟩
  | .hbm, ⟨6, _⟩ => ⟨S4x2304x512, .f32⟩
  | .hbm, ⟨7, _⟩ => ⟨S4x2304x4x128, .f32⟩
  | .hbm, ⟨8, _⟩ => ⟨S4x2304x256, .f32⟩
  | .hbm, ⟨9, _⟩ => ⟨S4x2304x4x64, .f32⟩
  | .hbm, ⟨10, _⟩ => ⟨S4x2304x4x192, .f32⟩
  | .hbm, ⟨11, _⟩ => ⟨S4x2304x4x256, .f32⟩
  | .hbm, ⟨12, _⟩ => ⟨S4x2304x4x128, .f32⟩
  | .hbm, ⟨13, _⟩ => ⟨S4x2304x4x128, .f32⟩
  | .hbm, ⟨14, _⟩ => ⟨S4x2304x2x64, .f32⟩
  | .hbm, ⟨15, _⟩ => ⟨S4x2304x4x64, .f32⟩
  | .hbm, ⟨16, _⟩ => ⟨S4x2304x4x192, .f32⟩
  | .hbm, ⟨17, _⟩ => ⟨S4x2048x4x192, .f32⟩
  | .hbm, ⟨18, _⟩ => ⟨S4x4x2048x2304, .f32⟩
  | .hbm, ⟨19, _⟩ => ⟨S_, .f32⟩
  | .hbm, ⟨20, _⟩ => ⟨S4x4x2048x2304, .f32⟩
  | .hbm, ⟨21, _⟩ => ⟨S4x4x2048x2304, .f32⟩
  | .hbm, ⟨22, _⟩ => ⟨S4x256x4x192, .f32⟩
  | .hbm, ⟨23, _⟩ => ⟨S4x256x4x192, .f32⟩
  | .hbm, ⟨24, _⟩ => ⟨S4x4x256x256, .f32⟩
  | .hbm, ⟨25, _⟩ => ⟨S_, .f32⟩
  | .hbm, ⟨26, _⟩ => ⟨S4x4x256x256, .f32⟩
  | .hbm, ⟨27, _⟩ => ⟨S4x4x256x256, .f32⟩
  | .hbm, ⟨28, _⟩ => ⟨S_, .f32⟩
  | .hbm, ⟨29, _⟩ => ⟨S4x4x2048, .f32⟩
  | .hbm, ⟨30, _⟩ => ⟨S_, .f32⟩
  | .hbm, ⟨31, _⟩ => ⟨S4x4x2048, .f32⟩
  | .hbm, ⟨32, _⟩ => ⟨S4x4x2048, .f32⟩
  | .hbm, ⟨33, _⟩ => ⟨S4x4x2048x1, .f32⟩
  | .hbm, ⟨34, _⟩ => ⟨S4x4x2048x2304, .f32⟩
  | .hbm, ⟨35, _⟩ => ⟨S4x4x2048x2304, .f32⟩
  | .hbm, ⟨36, _⟩ => ⟨S4x4x2048x2304, .f32⟩
  | .hbm, ⟨37, _⟩ => ⟨S_, .f32⟩
  | .hbm, ⟨38, _⟩ => ⟨S4x4x2048, .f32⟩
  | .hbm, ⟨39, _⟩ => ⟨S4x4x2048x1, .f32⟩
  | .hbm, ⟨40, _⟩ => ⟨S4x4x2048x2304, .f32⟩
  | .hbm, ⟨41, _⟩ => ⟨S4x4x2048x2304, .f32⟩
  | .hbm, ⟨42, _⟩ => ⟨S4x4x128x2048, .f32⟩
  | .hbm, ⟨43, _⟩ => ⟨S4x2048x4x128, .f32⟩
  | .hbm, ⟨44, _⟩ => ⟨S_, .f32⟩
  | .hbm, ⟨45, _⟩ => ⟨S4x4x256, .f32⟩
  | .hbm, ⟨46, _⟩ => ⟨S_, .f32⟩
  | .hbm, ⟨47, _⟩ => ⟨S4x4x256, .f32⟩
  | .hbm, ⟨48, _⟩ => ⟨S4x4x256, .f32⟩
  | .hbm, ⟨49, _⟩ => ⟨S4x4x256x1, .f32⟩
  | .hbm, ⟨50, _⟩ => ⟨S4x4x256x256, .f32⟩
  | .hbm, ⟨51, _⟩ => ⟨S4x4x256x256, .f32⟩
  | .hbm, ⟨52, _⟩ => ⟨S4x4x256x256, .f32⟩
  | .hbm, ⟨53, _⟩ => ⟨S_, .f32⟩
  | .hbm, ⟨54, _⟩ => ⟨S4x4x256, .f32⟩
  | .hbm, ⟨55, _⟩ => ⟨S4x4x256x1, .f32⟩
  | .hbm, ⟨56, _⟩ => ⟨S4x4x256x256, .f32⟩
  | .hbm, ⟨57, _⟩ => ⟨S4x4x256x256, .f32⟩
  | .hbm, ⟨58, _⟩ => ⟨S4x256x4x128, .f32⟩
  | .hbm, ⟨59, _⟩ => ⟨S4x4x128x256, .f32⟩
  | .hbm, ⟨60, _⟩ => ⟨S4x256x4x128, .f32⟩
  | .hbm, ⟨61, _⟩ => ⟨S4x2304x4x128, .f32⟩
  | .hbm, ⟨62, _⟩ => ⟨S4x2304x512, .f32⟩
  | .hbm, ⟨63, _⟩ => ⟨S4x2304x512, .bf16⟩
  | .hbm, ⟨64, _⟩ => ⟨S4x2304x768, .f32⟩
  | .hbm, ⟨65, _⟩ => ⟨S4x2304x1024, .f32⟩
  | .hbm, ⟨66, _⟩ => ⟨S4x2304x128, .f32⟩
  | .hbm, ⟨67, _⟩ => ⟨S4x2304x512, .f32⟩
  | .hbm, ⟨68, _⟩ => ⟨S4x2304x4x128, .f32⟩
  | .hbm, ⟨69, _⟩ => ⟨S4x2304x256, .f32⟩
  | .hbm, ⟨70, _⟩ => ⟨S4x2304x4x64, .f32⟩
  | .hbm, ⟨71, _⟩ => ⟨S4x2304x4x192, .f32⟩
  | .hbm, ⟨72, _⟩ => ⟨S4x2304x4x256, .f32⟩
  | .hbm, ⟨73, _⟩ => ⟨S4x2304x4x128, .f32⟩
  | .hbm, ⟨74, _⟩ => ⟨S4x2304x4x128, .f32⟩
  | .hbm, ⟨75, _⟩ => ⟨S4x2304x2x64, .f32⟩
  | .hbm, ⟨76, _⟩ => ⟨S4x2304x4x64, .f32⟩
  | .hbm, ⟨77, _⟩ => ⟨S4x2304x4x192, .f32⟩
  | .hbm, ⟨78, _⟩ => ⟨S4x2048x4x192, .f32⟩
  | .hbm, ⟨79, _⟩ => ⟨S4x4x2048x2304, .f32⟩
  | .hbm, ⟨80, _⟩ => ⟨S_, .f32⟩
  | .hbm, ⟨81, _⟩ => ⟨S4x4x2048x2304, .f32⟩
  | .hbm, ⟨82, _⟩ => ⟨S4x4x2048x2304, .f32⟩
  | .hbm, ⟨83, _⟩ => ⟨S4x256x4x192, .f32⟩
  | .hbm, ⟨84, _⟩ => ⟨S4x256x4x192, .f32⟩
  | .hbm, ⟨85, _⟩ => ⟨S4x4x256x256, .f32⟩
  | .hbm, ⟨86, _⟩ => ⟨S_, .f32⟩
  | .hbm, ⟨87, _⟩ => ⟨S4x4x256x256, .f32⟩
  | .hbm, ⟨88, _⟩ => ⟨S4x4x256x256, .f32⟩
  | .hbm, ⟨89, _⟩ => ⟨S_, .f32⟩
  | .hbm, ⟨90, _⟩ => ⟨S4x4x2048, .f32⟩
  | .hbm, ⟨91, _⟩ => ⟨S4x4x2048x1, .f32⟩
  | .hbm, ⟨92, _⟩ => ⟨S4x4x2048, .f32⟩
  | .hbm, ⟨93, _⟩ => ⟨S4x4x2048x2304, .f32⟩
  | .hbm, ⟨94, _⟩ => ⟨S4x4x2048x2304, .f32⟩
  | .hbm, ⟨95, _⟩ => ⟨S4x4x2048x2304, .f32⟩
  | .hbm, ⟨96, _⟩ => ⟨S_, .f32⟩
  | .hbm, ⟨97, _⟩ => ⟨S4x4x2048, .f32⟩
  | .hbm, ⟨98, _⟩ => ⟨S4x4x2048, .f32⟩
  | .hbm, ⟨99, _⟩ => ⟨S4x4x2048, .f32⟩
  | .hbm, ⟨100, _⟩ => ⟨S_, .f32⟩
  | .hbm, ⟨101, _⟩ => ⟨S4x4x256, .f32⟩
  | .hbm, ⟨102, _⟩ => ⟨S4x4x256x1, .f32⟩
  | .hbm, ⟨103, _⟩ => ⟨S4x4x256, .f32⟩
  | .hbm, ⟨104, _⟩ => ⟨S4x4x256x256, .f32⟩
  | .hbm, ⟨105, _⟩ => ⟨S4x4x256x256, .f32⟩
  | .hbm, ⟨106, _⟩ => ⟨S4x4x256x256, .f32⟩
  | .hbm, ⟨107, _⟩ => ⟨S_, .f32⟩
  | .hbm, ⟨108, _⟩ => ⟨S4x4x256, .f32⟩
  | .hbm, ⟨109, _⟩ => ⟨S4x4x256, .f32⟩
  | .hbm, ⟨110, _⟩ => ⟨S4x4x256, .f32⟩
  | .hbm, ⟨111, _⟩ => ⟨S4x4x2304, .f32⟩
  | .hbm, ⟨112, _⟩ => ⟨S4x2304x4, .f32⟩
  | _, _ => ⟨S4x2304x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_cst_7 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_cst_8 : Ref sig .tc := ⟨.hbm, 86, rfl⟩
abbrev main_v74 : Ref sig .tc := ⟨.hbm, 87, rfl⟩
abbrev main_v75 : Ref sig .tc := ⟨.hbm, 88, rfl⟩
abbrev main_cst_9 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_cst_10 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_cst_11 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_cst_12 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩

abbrev nD : Nat := 1
abbrev τ : Topo := Topo.v7x

variable {F : FTy → Type} [FloatOps F]
-- ==== Pre.lean ====
abbrev S4x2304x1024 : Shape := ⟨3, ![4, 2304, 1024]⟩
abbrev S4x2x6x1024 : Shape := ⟨4, ![4, 2, 6, 1024]⟩
abbrev S1x1024 : Shape := ⟨2, ![1, 1024]⟩
abbrev S4x256x1024 : Shape := ⟨3, ![4, 256, 1024]⟩
abbrev S4x1x6x1024 : Shape := ⟨4, ![4, 1, 6, 1024]⟩
abbrev S1x256x1024 : Shape := ⟨3, ![1, 256, 1024]⟩
abbrev S256x1024 : Shape := ⟨2, ![256, 1024]⟩
abbrev S1x1x1x1024 : Shape := ⟨4, ![1, 1, 1, 1024]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S4x2304x1024, .f32⟩
  | .hbm, ⟨1, _⟩ => ⟨S4x2x6x1024, .f32⟩
  | .hbm, ⟨2, _⟩ => ⟨S1x1024, .f32⟩
  | .hbm, ⟨3, _⟩ => ⟨S4x2304x1024, .bf16⟩
  | .local _ .vmem, ⟨0, _⟩ => ⟨S4x256x1024, .f32⟩
  | .local _ .vmem, ⟨1, _⟩ => ⟨S4x256x1024, .f32⟩
  | .local _ .vmem, ⟨2, _⟩ => ⟨S4x1x6x1024, .f32⟩
  | .local _ .vmem, ⟨3, _⟩ => ⟨S4x1x6x1024, .f32⟩
  | .local _ .vmem, ⟨4, _⟩ => ⟨S1x1024, .f32⟩
  | .local _ .vmem, ⟨5, _⟩ => ⟨S4x256x1024, .bf16⟩
  | .local _ .vmem, ⟨6, _⟩ => ⟨S4x256x1024, .bf16⟩
  | _, _ => ⟨S4x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PreRefIdeal.lean ====
abbrev S4x2304x1024 : Shape := ⟨3, ![4, 2304, 1024]⟩
abbrev S4x2x6x1024 : Shape := ⟨4, ![4, 2, 6, 1024]⟩
abbrev S1x1024 : Shape := ⟨2, ![1, 1024]⟩
abbrev S_ : Shape := ⟨0, ![]⟩
abbrev S4x2304 : Shape := ⟨2, ![4, 2304]⟩
abbrev S4x2304x1 : Shape := ⟨3, ![4, 2304, 1]⟩
abbrev S1x1x1024 : Shape := ⟨3, ![1, 1, 1024]⟩
abbrev S4x1x1x1024 : Shape := ⟨4, ![4, 1, 1, 1024]⟩
abbrev S4x1024 : Shape := ⟨2, ![4, 1024]⟩
abbrev S4x1x1024 : Shape := ⟨3, ![4, 1, 1024]⟩
abbrev S4x2048x1024 : Shape := ⟨3, ![4, 2048, 1024]⟩
abbrev S4x256x1024 : Shape := ⟨3, ![4, 256, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4x2304x1024, .f32⟩
  | .hbm, ⟨1, _⟩ => ⟨S4x2x6x1024, .f32⟩
  | .hbm, ⟨2, _⟩ => ⟨S1x1024, .f32⟩
  | .hbm, ⟨3, _⟩ => ⟨S4x2304x1024, .f32⟩
  | .hbm, ⟨4, _⟩ => ⟨S_, .f32⟩
  | .hbm, ⟨5, _⟩ => ⟨S4x2304, .f32⟩
  | .hbm, ⟨6, _⟩ => ⟨S4x2304x1, .f32⟩
  | .hbm, ⟨7, _⟩ => ⟨S_, .f32⟩
  | .hbm, ⟨8, _⟩ => ⟨S4x2304x1, .f32⟩
  | .hbm, ⟨9, _⟩ => ⟨S4x2304x1, .f32⟩
  | .hbm, ⟨10, _⟩ => ⟨S_, .f32⟩
  | .hbm, ⟨11, _⟩ => ⟨S4x2304x1, .f32⟩
  | .hbm, ⟨12, _⟩ => ⟨S4x2304x1, .f32⟩
  | .hbm, ⟨13, _⟩ => ⟨S4x2304x1, .f32⟩
  | .hbm, ⟨14, _⟩ => ⟨S4x2304x1024, .f32⟩
  | .hbm, ⟨15, _⟩ => ⟨S4x2304x1024, .f32⟩
  | .hbm, ⟨16, _⟩ => ⟨S1x1x1024, .f32⟩
  | .hbm, ⟨17, _⟩ => ⟨S4x2304x1024, .f32⟩
  | .hbm, ⟨18, _⟩ => ⟨S4x2304x1024, .f32⟩
  | .hbm, ⟨19, _⟩ => ⟨S4x1x1x1024, .f32⟩
  | .hbm, ⟨20, _⟩ => ⟨S4x1024, .f32⟩
  | .hbm, ⟨21, _⟩ => ⟨S4x1x1024, .f32⟩
  | .hbm, ⟨22, _⟩ => ⟨S4x1x1x1024, .f32⟩
  | .hbm, ⟨23, _⟩ => ⟨S4x1024, .f32⟩
  | .hbm, ⟨24, _⟩ => ⟨S4x1x1024, .f32⟩
  | .hbm, ⟨25, _⟩ => ⟨S4x2048x1024, .f32⟩
  | .hbm, ⟨26, _⟩ => ⟨S4x256x1024, .f32⟩
  | .hbm, ⟨27, _⟩ => ⟨S4x2304x1024, .f32⟩
  | .hbm, ⟨28, _⟩ => ⟨S_, .f32⟩
  | .hbm, ⟨29, _⟩ => ⟨S4x2304x1024, .f32⟩
  | .hbm, ⟨30, _⟩ => ⟨S4x2304x1024, .f32⟩
  | .hbm, ⟨31, _⟩ => ⟨S4x2304x1024, .f32⟩
  | .hbm, ⟨32, _⟩ => ⟨S4x1x1x1024, .f32⟩
  | .hbm, ⟨33, _⟩ => ⟨S4x1024, .f32⟩
  | .hbm, ⟨34, _⟩ => ⟨S4x1x1024, .f32⟩
  | .hbm, ⟨35, _⟩ => ⟨S4x1x1x1024, .f32⟩
  | .hbm, ⟨36, _⟩ => ⟨S4x1024, .f32⟩
  | .hbm, ⟨37, _⟩ => ⟨S4x1x1024, .f32⟩
  | .hbm, ⟨38, _⟩ => ⟨S4x2048x1024, .f32⟩
  | .hbm, ⟨39, _⟩ => ⟨S4x256x1024, .f32⟩
  | .hbm, ⟨40, _⟩ => ⟨S4x2304x1024, .f32⟩
  | .hbm, ⟨41, _⟩ => ⟨S4x2304x1024, .f32⟩
  | .hbm, ⟨42, _⟩ => ⟨S4x2304x1024, .bf16⟩
  | _, _ => ⟨S4x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩

abbrev nD : Nat := 1
abbrev τ : Topo := Topo.v7x

variable {F : FTy → Type} [FloatOps F]
-- ==== Res.lean ====
abbrev S4x2304x1024 : Shape := ⟨3, ![4, 2304, 1024]⟩
abbrev S4x2x6x1024 : Shape := ⟨4, ![4, 2, 6, 1024]⟩
abbrev S4x256x1024 : Shape := ⟨3, ![4, 256, 1024]⟩
abbrev S4x1x6x1024 : Shape := ⟨4, ![4, 1, 6, 1024]⟩
abbrev S1x256x1024 : Shape := ⟨3, ![1, 256, 1024]⟩
abbrev S256x1024 : Shape := ⟨2, ![256, 1024]⟩
abbrev S1x1x1x1024 : Shape := ⟨4, ![1, 1, 1, 1024]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4x2304x1024, .f32⟩
  | .hbm, ⟨1, _⟩ => ⟨S4x2304x1024, .bf16⟩
  | .hbm, ⟨2, _⟩ => ⟨S4x2x6x1024, .f32⟩
  | .hbm, ⟨3, _⟩ => ⟨S4x2304x1024, .f32⟩
  | .local _ .vmem, ⟨0, _⟩ => ⟨S4x256x1024, .f32⟩
  | .local _ .vmem, ⟨1, _⟩ => ⟨S4x256x1024, .f32⟩
  | .local _ .vmem, ⟨2, _⟩ => ⟨S4x256x1024, .bf16⟩
  | .local _ .vmem, ⟨3, _⟩ => ⟨S4x256x1024, .bf16⟩
  | .local _ .vmem, ⟨4, _⟩ => ⟨S4x1x6x1024, .f32⟩
  | .local _ .vmem, ⟨5, _⟩ => ⟨S4x1x6x1024, .f32⟩
  | .local _ .vmem, ⟨6, _⟩ => ⟨S4x256x1024, .f32⟩
  | .local _ .vmem, ⟨7, _⟩ => ⟨S4x256x1024, .f32⟩
  | _, _ => ⟨S4x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![1, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ResRefIdeal.lean ====
abbrev S4x2304x1024 : Shape := ⟨3, ![4, 2304, 1024]⟩
abbrev S4x2x6x1024 : Shape := ⟨4, ![4, 2, 6, 1024]⟩
abbrev S4x1x1x1024 : Shape := ⟨4, ![4, 1, 1, 1024]⟩
abbrev S4x1024 : Shape := ⟨2, ![4, 1024]⟩
abbrev S4x1x1024 : Shape := ⟨3, ![4, 1, 1024]⟩
abbrev S4x2048x1024 : Shape := ⟨3, ![4, 2048, 1024]⟩
abbrev S4x256x1024 : Shape := ⟨3, ![4, 256, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4x2304x1024, .f32⟩
  | .hbm, ⟨1, _⟩ => ⟨S4x2304x1024, .bf16⟩
  | .hbm, ⟨2, _⟩ => ⟨S4x2x6x1024, .f32⟩
  | .hbm, ⟨3, _⟩ => ⟨S4x1x1x1024, .f32⟩
  | .hbm, ⟨4, _⟩ => ⟨S4x1024, .f32⟩
  | .hbm, ⟨5, _⟩ => ⟨S4x1x1024, .f32⟩
  | .hbm, ⟨6, _⟩ => ⟨S4x1x1x1024, .f32⟩
  | .hbm, ⟨7, _⟩ => ⟨S4x1024, .f32⟩
  | .hbm, ⟨8, _⟩ => ⟨S4x1x1024, .f32⟩
  | .hbm, ⟨9, _⟩ => ⟨S4x2048x1024, .f32⟩
  | .hbm, ⟨10, _⟩ => ⟨S4x256x1024, .f32⟩
  | .hbm, ⟨11, _⟩ => ⟨S4x2304x1024, .f32⟩
  | .hbm, ⟨12, _⟩ => ⟨S4x2304x1024, .f32⟩
  | .hbm, ⟨13, _⟩ => ⟨S4x2304x1024, .f32⟩
  | .hbm, ⟨14, _⟩ => ⟨S4x2304x1024, .f32⟩
  | _, _ => ⟨S4x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== MixRes.lean ====
abbrev S4x2304x1024 : Shape := ⟨3, ![4, 2304, 1024]⟩
abbrev S4x2x6x1024 : Shape := ⟨4, ![4, 2, 6, 1024]⟩
abbrev S1x1024 : Shape := ⟨2, ![1, 1024]⟩
abbrev S4x256x1024 : Shape := ⟨3, ![4, 256, 1024]⟩
abbrev S4x1x6x1024 : Shape := ⟨4, ![4, 1, 6, 1024]⟩
abbrev S1x256x1024 : Shape := ⟨3, ![1, 256, 1024]⟩
abbrev S256x1024 : Shape := ⟨2, ![256, 1024]⟩
abbrev S1x1x1x1024 : Shape := ⟨4, ![1, 1, 1, 1024]⟩
abbrev S256 : Shape := ⟨1, ![256]⟩
abbrev S256x1 : Shape := ⟨2, ![256, 1]⟩

abbrev nBuf : Space → Nat
  | .hbm => 6
  | .vmem => 11
  | .smem => 0
  | _ => 0

abbrev bufTy : (tb : Table) → Fin (tcTables nBuf tb) → BufTy
  | .hbm, ⟨0, _⟩ => ⟨S4x2304x1024, .f32⟩
  | .hbm, ⟨1, _⟩ => ⟨S4x2304x1024, .bf16⟩
  | .hbm, ⟨2, _⟩ => ⟨S4x2x6x1024, .f32⟩
  | .hbm, ⟨3, _⟩ => ⟨S1x1024, .f32⟩
  | .hbm, ⟨4, _⟩ => ⟨S4x2304x1024, .f32⟩
  | .hbm, ⟨5, _⟩ => ⟨S4x2304x1024, .bf16⟩
  | .local _ .vmem, ⟨0, _⟩ => ⟨S4x256x1024, .f32⟩
  | .local _ .vmem, ⟨1, _⟩ => ⟨S4x256x1024, .f32⟩
  | .local _ .vmem, ⟨2, _⟩ => ⟨S4x256x1024, .bf16⟩
  | .local _ .vmem, ⟨3, _⟩ => ⟨S4x256x1024, .bf16⟩
  | .local _ .vmem, ⟨4, _⟩ => ⟨S4x1x6x1024, .f32⟩
  | .local _ .vmem, ⟨5, _⟩ => ⟨S4x1x6x1024, .f32⟩
  | .local _ .vmem, ⟨6, _⟩ => ⟨S1x1024, .f32⟩
  | .local _ .vmem, ⟨7, _⟩ => ⟨S4x256x1024, .f32⟩
  | .local _ .vmem, ⟨8, _⟩ => ⟨S4x256x1024, .f32⟩
  | .local _ .vmem, ⟨9, _⟩ => ⟨S4x256x1024, .bf16⟩
  | .local _ .vmem, ⟨10, _⟩ => ⟨S4x256x1024, .bf16⟩
  | _, _ => ⟨S4x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MixResRefIdeal.lean ====
abbrev S4x2304x1024 : Shape := ⟨3, ![4, 2304, 1024]⟩
abbrev S4x2x6x1024 : Shape := ⟨4, ![4, 2, 6, 1024]⟩
abbrev S1x1024 : Shape := ⟨2, ![1, 1024]⟩
abbrev S4x1x1x1024 : Shape := ⟨4, ![4, 1, 1, 1024]⟩
abbrev S4x1024 : Shape := ⟨2, ![4, 1024]⟩
abbrev S4x1x1024 : Shape := ⟨3, ![4, 1, 1024]⟩
abbrev S4x2048x1024 : Shape := ⟨3, ![4, 2048, 1024]⟩
abbrev S4x256x1024 : Shape := ⟨3, ![4, 256, 1024]⟩
abbrev S_ : Shape := ⟨0, ![]⟩
abbrev S4x2304 : Shape := ⟨2, ![4, 2304]⟩
abbrev S4x2304x1 : Shape := ⟨3, ![4, 2304, 1]⟩
abbrev S1x1x1024 : Shape := ⟨3, ![1, 1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4x2304x1024, .f32⟩
  | .hbm, ⟨1, _⟩ => ⟨S4x2304x1024, .bf16⟩
  | .hbm, ⟨2, _⟩ => ⟨S4x2x6x1024, .f32⟩
  | .hbm, ⟨3, _⟩ => ⟨S1x1024, .f32⟩
  | .hbm, ⟨4, _⟩ => ⟨S4x1x1x1024, .f32⟩
  | .hbm, ⟨5, _⟩ => ⟨S4x1024, .f32⟩
  | .hbm, ⟨6, _⟩ => ⟨S4x1x1024, .f32⟩
  | .hbm, ⟨7, _⟩ => ⟨S4x1x1x1024, .f32⟩
  | .hbm, ⟨8, _⟩ => ⟨S4x1024, .f32⟩
  | .hbm, ⟨9, _⟩ => ⟨S4x1x1024, .f32⟩
  | .hbm, ⟨10, _⟩ => ⟨S4x2048x1024, .f32⟩
  | .hbm, ⟨11, _⟩ => ⟨S4x256x1024, .f32⟩
  | .hbm, ⟨12, _⟩ => ⟨S4x2304x1024, .f32⟩
  | .hbm, ⟨13, _⟩ => ⟨S4x2304x1024, .f32⟩
  | .hbm, ⟨14, _⟩ => ⟨S4x2304x1024, .f32⟩
  | .hbm, ⟨15, _⟩ => ⟨S4x2304x1024, .f32⟩
  | .hbm, ⟨16, _⟩ => ⟨S4x2304x1024, .f32⟩
  | .hbm, ⟨17, _⟩ => ⟨S_, .f32⟩
  | .hbm, ⟨18, _⟩ => ⟨S4x2304, .f32⟩
  | .hbm, ⟨19, _⟩ => ⟨S4x2304x1, .f32⟩
  | .hbm, ⟨20, _⟩ => ⟨S_, .f32⟩
  | .hbm, ⟨21, _⟩ => ⟨S4x2304x1, .f32⟩
  | .hbm, ⟨22, _⟩ => ⟨S4x2304x1, .f32⟩
  | .hbm, ⟨23, _⟩ => ⟨S_, .f32⟩
  | .hbm, ⟨24, _⟩ => ⟨S4x2304x1, .f32⟩
  | .hbm, ⟨25, _⟩ => ⟨S4x2304x1, .f32⟩
  | .hbm, ⟨26, _⟩ => ⟨S4x2304x1, .f32⟩
  | .hbm, ⟨27, _⟩ => ⟨S4x2304x1024, .f32⟩
  | .hbm, ⟨28, _⟩ => ⟨S4x2304x1024, .f32⟩
  | .hbm, ⟨29, _⟩ => ⟨S1x1x1024, .f32⟩
  | .hbm, ⟨30, _⟩ => ⟨S4x2304x1024, .f32⟩
  | .hbm, ⟨31, _⟩ => ⟨S4x2304x1024, .f32⟩
  | .hbm, ⟨32, _⟩ => ⟨S4x1x1x1024, .f32⟩
  | .hbm, ⟨33, _⟩ => ⟨S4x1024, .f32⟩
  | .hbm, ⟨34, _⟩ => ⟨S4x1x1024, .f32⟩
  | .hbm, ⟨35, _⟩ => ⟨S4x1x1x1024, .f32⟩
  | .hbm, ⟨36, _⟩ => ⟨S4x1024, .f32⟩
  | .hbm, ⟨37, _⟩ => ⟨S4x1x1024, .f32⟩
  | .hbm, ⟨38, _⟩ => ⟨S4x2048x1024, .f32⟩
  | .hbm, ⟨39, _⟩ => ⟨S4x256x1024, .f32⟩
  | .hbm, ⟨40, _⟩ => ⟨S4x2304x1024, .f32⟩
  | .hbm, ⟨41, _⟩ => ⟨S_, .f32⟩
  | .hbm, ⟨42, _⟩ => ⟨S4x2304x1024, .f32⟩
  | .hbm, ⟨43, _⟩ => ⟨S4x2304x1024, .f32⟩
  | .hbm, ⟨44, _⟩ => ⟨S4x2304x1024, .f32⟩
  | .hbm, ⟨45, _⟩ => ⟨S4x1x1x1024, .f32⟩
  | .hbm, ⟨46, _⟩ => ⟨S4x1024, .f32⟩
  | .hbm, ⟨47, _⟩ => ⟨S4x1x1024, .f32⟩
  | .hbm, ⟨48, _⟩ => ⟨S4x1x1x1024, .f32⟩
  | .hbm, ⟨49, _⟩ => ⟨S4x1024, .f32⟩
  | .hbm, ⟨50, _⟩ => ⟨S4x1x1024, .f32⟩
  | .hbm, ⟨51, _⟩ => ⟨S4x2048x1024, .f32⟩
  | .hbm, ⟨52, _⟩ => ⟨S4x256x1024, .f32⟩
  | .hbm, ⟨53, _⟩ => ⟨S4x2304x1024, .f32⟩
  | .hbm, ⟨54, _⟩ => ⟨S4x2304x1024, .f32⟩
  | .hbm, ⟨55, _⟩ => ⟨S4x2304x1024, .bf16⟩
  | _, _ => ⟨S4x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_2 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩

abbrev nD : Nat := 1
abbrev τ : Topo := Topo.v7x

variable {F : FTy → Type} [FloatOps F]
-- ==== FfnRes.lean ====
abbrev S4x2304x1024 : Shape := ⟨3, ![4, 2304, 1024]⟩
abbrev S4x2x6x1024 : Shape := ⟨4, ![4, 2, 6, 1024]⟩
abbrev S1x1024 : Shape := ⟨2, ![1, 1024]⟩
abbrev S4x256x1024 : Shape := ⟨3, ![4, 256, 1024]⟩
abbrev S4x1x6x1024 : Shape := ⟨4, ![4, 1, 6, 1024]⟩
abbrev S1x256x1024 : Shape := ⟨3, ![1, 256, 1024]⟩
abbrev S256x1024 : Shape := ⟨2, ![256, 1024]⟩
abbrev S1x1x1x1024 : Shape := ⟨4, ![1, 1, 1, 1024]⟩
abbrev S256 : Shape := ⟨1, ![256]⟩
abbrev S256x1 : Shape := ⟨2, ![256, 1]⟩

abbrev nBuf : Space → Nat
  | .hbm => 7
  | .vmem => 13
  | .smem => 0
  | _ => 0

abbrev bufTy : (tb : Table) → Fin (tcTables nBuf tb) → BufTy
  | .hbm, ⟨0, _⟩ => ⟨S4x2304x1024, .f32⟩
  | .hbm, ⟨1, _⟩ => ⟨S4x2304x1024, .bf16⟩
  | .hbm, ⟨2, _⟩ => ⟨S4x2x6x1024, .f32⟩
  | .hbm, ⟨3, _⟩ => ⟨S4x2x6x1024, .f32⟩
  | .hbm, ⟨4, _⟩ => ⟨S1x1024, .f32⟩
  | .hbm, ⟨5, _⟩ => ⟨S4x2304x1024, .f32⟩
  | .hbm, ⟨6, _⟩ => ⟨S4x2304x1024, .bf16⟩
  | .local _ .vmem, ⟨0, _⟩ => ⟨S4x256x1024, .f32⟩
  | .local _ .vmem, ⟨1, _⟩ => ⟨S4x256x1024, .f32⟩
  | .local _ .vmem, ⟨2, _⟩ => ⟨S4x256x1024, .bf16⟩
  | .local _ .vmem, ⟨3, _⟩ => ⟨S4x256x1024, .bf16⟩
  | .local _ .vmem, ⟨4, _⟩ => ⟨S4x1x6x1024, .f32⟩
  | .local _ .vmem, ⟨5, _⟩ => ⟨S4x1x6x1024, .f32⟩
  | .local _ .vmem, ⟨6, _⟩ => ⟨S4x1x6x1024, .f32⟩
  | .local _ .vmem, ⟨7, _⟩ => ⟨S4x1x6x1024, .f32⟩
  | .local _ .vmem, ⟨8, _⟩ => ⟨S1x1024, .f32⟩
  | .local _ .vmem, ⟨9, _⟩ => ⟨S4x256x1024, .f32⟩
  | .local _ .vmem, ⟨10, _⟩ => ⟨S4x256x1024, .f32⟩
  | .local _ .vmem, ⟨11, _⟩ => ⟨S4x256x1024, .bf16⟩
  | .local _ .vmem, ⟨12, _⟩ => ⟨S4x256x1024, .bf16⟩
  | _, _ => ⟨S4x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![1, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnResRefIdeal.lean ====
abbrev S4x2304x1024 : Shape := ⟨3, ![4, 2304, 1024]⟩
abbrev S4x2x6x1024 : Shape := ⟨4, ![4, 2, 6, 1024]⟩
abbrev S1x1024 : Shape := ⟨2, ![1, 1024]⟩
abbrev S4x1x1x1024 : Shape := ⟨4, ![4, 1, 1, 1024]⟩
abbrev S4x1024 : Shape := ⟨2, ![4, 1024]⟩
abbrev S4x1x1024 : Shape := ⟨3, ![4, 1, 1024]⟩
abbrev S4x2048x1024 : Shape := ⟨3, ![4, 2048, 1024]⟩
abbrev S4x256x1024 : Shape := ⟨3, ![4, 256, 1024]⟩
abbrev S_ : Shape := ⟨0, ![]⟩
abbrev S4x2304 : Shape := ⟨2, ![4, 2304]⟩
abbrev S4x2304x1 : Shape := ⟨3, ![4, 2304, 1]⟩
abbrev S1x1x1024 : Shape := ⟨3, ![1, 1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4x2304x1024, .f32⟩
  | .hbm, ⟨1, _⟩ => ⟨S4x2304x1024, .bf16⟩
  | .hbm, ⟨2, _⟩ => ⟨S4x2x6x1024, .f32⟩
  | .hbm, ⟨3, _⟩ => ⟨S4x2x6x1024, .f32⟩
  | .hbm, ⟨4, _⟩ => ⟨S1x1024, .f32⟩
  | .hbm, ⟨5, _⟩ => ⟨S4x1x1x1024, .f32⟩
  | .hbm, ⟨6, _⟩ => ⟨S4x1024, .f32⟩
  | .hbm, ⟨7, _⟩ => ⟨S4x1x1024, .f32⟩
  | .hbm, ⟨8, _⟩ => ⟨S4x1x1x1024, .f32⟩
  | .hbm, ⟨9, _⟩ => ⟨S4x1024, .f32⟩
  | .hbm, ⟨10, _⟩ => ⟨S4x1x1024, .f32⟩
  | .hbm, ⟨11, _⟩ => ⟨S4x2048x1024, .f32⟩
  | .hbm, ⟨12, _⟩ => ⟨S4x256x1024, .f32⟩
  | .hbm, ⟨13, _⟩ => ⟨S4x2304x1024, .f32⟩
  | .hbm, ⟨14, _⟩ => ⟨S4x2304x1024, .f32⟩
  | .hbm, ⟨15, _⟩ => ⟨S4x2304x1024, .f32⟩
  | .hbm, ⟨16, _⟩ => ⟨S4x2304x1024, .f32⟩
  | .hbm, ⟨17, _⟩ => ⟨S4x2304x1024, .f32⟩
  | .hbm, ⟨18, _⟩ => ⟨S_, .f32⟩
  | .hbm, ⟨19, _⟩ => ⟨S4x2304, .f32⟩
  | .hbm, ⟨20, _⟩ => ⟨S4x2304x1, .f32⟩
  | .hbm, ⟨21, _⟩ => ⟨S_, .f32⟩
  | .hbm, ⟨22, _⟩ => ⟨S4x2304x1, .f32⟩
  | .hbm, ⟨23, _⟩ => ⟨S4x2304x1, .f32⟩
  | .hbm, ⟨24, _⟩ => ⟨S_, .f32⟩
  | .hbm, ⟨25, _⟩ => ⟨S4x2304x1, .f32⟩
  | .hbm, ⟨26, _⟩ => ⟨S4x2304x1, .f32⟩
  | .hbm, ⟨27, _⟩ => ⟨S4x2304x1, .f32⟩
  | .hbm, ⟨28, _⟩ => ⟨S4x2304x1024, .f32⟩
  | .hbm, ⟨29, _⟩ => ⟨S4x2304x1024, .f32⟩
  | .hbm, ⟨30, _⟩ => ⟨S1x1x1024, .f32⟩
  | .hbm, ⟨31, _⟩ => ⟨S4x2304x1024, .f32⟩
  | .hbm, ⟨32, _⟩ => ⟨S4x2304x1024, .f32⟩
  | .hbm, ⟨33, _⟩ => ⟨S4x1x1x1024, .f32⟩
  | .hbm, ⟨34, _⟩ => ⟨S4x1024, .f32⟩
  | .hbm, ⟨35, _⟩ => ⟨S4x1x1024, .f32⟩
  | .hbm, ⟨36, _⟩ => ⟨S4x1x1x1024, .f32⟩
  | .hbm, ⟨37, _⟩ => ⟨S4x1024, .f32⟩
  | .hbm, ⟨38, _⟩ => ⟨S4x1x1024, .f32⟩
  | .hbm, ⟨39, _⟩ => ⟨S4x2048x1024, .f32⟩
  | .hbm, ⟨40, _⟩ => ⟨S4x256x1024, .f32⟩
  | .hbm, ⟨41, _⟩ => ⟨S4x2304x1024, .f32⟩
  | .hbm, ⟨42, _⟩ => ⟨S_, .f32⟩
  | .hbm, ⟨43, _⟩ => ⟨S4x2304x1024, .f32⟩
  | .hbm, ⟨44, _⟩ => ⟨S4x2304x1024, .f32⟩
  | .hbm, ⟨45, _⟩ => ⟨S4x2304x1024, .f32⟩
  | .hbm, ⟨46, _⟩ => ⟨S4x1x1x1024, .f32⟩
  | .hbm, ⟨47, _⟩ => ⟨S4x1024, .f32⟩
  | .hbm, ⟨48, _⟩ => ⟨S4x1x1024, .f32⟩
  | .hbm, ⟨49, _⟩ => ⟨S4x1x1x1024, .f32⟩
  | .hbm, ⟨50, _⟩ => ⟨S4x1024, .f32⟩
  | .hbm, ⟨51, _⟩ => ⟨S4x1x1024, .f32⟩
  | .hbm, ⟨52, _⟩ => ⟨S4x2048x1024, .f32⟩
  | .hbm, ⟨53, _⟩ => ⟨S4x256x1024, .f32⟩
  | .hbm, ⟨54, _⟩ => ⟨S4x2304x1024, .f32⟩
  | .hbm, ⟨55, _⟩ => ⟨S4x2304x1024, .f32⟩
  | .hbm, ⟨56, _⟩ => ⟨S4x2304x1024, .bf16⟩
  | _, _ => ⟨S4x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩

abbrev nD : Nat := 1
abbrev τ : Topo := Topo.v7x

variable {F : FTy → Type} [FloatOps F]
-- ==== Proof.Attn.lean ====
/-
  The gradient of the latent attention over the reals, one batch at a time. Arrays are functions of natural-number indices, so that a column such as
  `256 * h + d` is written without a bound; only the indices inside the arrays are ever read.
-/
module
public import Idealize.ShloMosaic.Lib.Pipeline.ValueKit
@[expose] public section
noncomputable section
namespace Cert.Attn
open Idealize.ShloMosaic

/-- The scale of the scores: the binary32 number nearest to one over the root of 192. -/
def c : ℝ := 9686330 / 134217728

theorem scale_eq : Ideal.ofBits FTy.f32 1033096506#32 = ((c : ℝ) : EReal) := by
  simp [Ideal.ofBits, Ideal.ieee, -EReal.coe_mul, c]; norm_num

/-- A sum of finite values is the finite sum. -/
theorem coe_sum {ι : Type} [Fintype ι] (f : ι → ℝ) : (∑ i, ((f i : ℝ) : EReal)) = ((∑ i, f i : ℝ) : EReal) :=
  (map_sum (⟨⟨fun x : ℝ => (x : EReal), EReal.coe_zero⟩, EReal.coe_add⟩ : ℝ →+ EReal) f Finset.univ).symm

/-- A head's query row: 128 plain columns, then the rotary pair with the other head's half cleared. -/
def qc (q : ℕ → ℕ → ℝ) (h r d : ℕ) : ℝ :=
  if d < 128 then q r (128 * h + d) else if (d - 128) / 64 = h % 2 then q r (512 + 128 * (h / 2) + (d - 128)) else 0

/-- A head's key row, likewise. -/
def kc (kv kp : ℕ → ℕ → ℝ) (h k d : ℕ) : ℝ :=
  if d < 128 then kv k (256 * h + d) else if (d - 128) / 64 = h % 2 then kp k (d - 128) else 0

/-- The scaled score of a query row with a key. -/
def sc (q kv kp : ℕ → ℕ → ℝ) (h r k : ℕ) : ℝ := (∑ d : Fin 256, qc q h r d * kc kv kp h k d) * c

/-- The weight of a key, from the row's log-sum `l`. -/
def pr (q kv kp l : ℕ → ℕ → ℝ) (h r k : ℕ) : ℝ := Real.exp (sc q kv kp h r k - l r h)

/-- The derivative of the output along a weight. -/
def dp (kv o : ℕ → ℕ → ℝ) (h r k : ℕ) : ℝ := ∑ e : Fin 128, o r (128 * h + e) * kv k (256 * h + 128 + e)

/-- The derivative along a score, over the `nk` keys that start at `a`. -/
def ds (nk a : ℕ) (q kv kp l o : ℕ → ℕ → ℝ) (h r k : ℕ) : ℝ :=
  pr q kv kp l h r k * (dp kv o h r k - ∑ j : Fin nk, pr q kv kp l h r (a + j) * dp kv o h r (a + j)) * c

/-- The gradient of the query array. -/
def dqv (nk a : ℕ) (q kv kp l o : ℕ → ℕ → ℝ) (r x : ℕ) : ℝ :=
  if x < 512 then ∑ k : Fin nk, ds nk a q kv kp l o (x / 128) r (a + k) * kc kv kp (x / 128) (a + k) (x % 128)
  else ∑ k : Fin nk, ds nk a q kv kp l o ((x - 512) / 64) r (a + k) * kc kv kp ((x - 512) / 64) (a + k) (128 + (x - 512) % 128)

/-- What 256 rows add to the gradient of the key-value array. -/
def tkv (nk a : ℕ) (q kv kp l o : ℕ → ℕ → ℝ) (k x : ℕ) : ℝ :=
  if x % 256 < 128 then ∑ r : Fin 256, ds nk a q kv kp l o (x / 256) r k * qc q (x / 256) r (x % 256)
  else ∑ r : Fin 256, pr q kv kp l (x / 256) r k * o r (128 * (x / 256) + (x % 256 - 128))

/-- What one head's 256 rows add to the gradient of the rotary key array. -/
def tk1 (nk a : ℕ) (q kv kp l o : ℕ → ℕ → ℝ) (h k x : ℕ) : ℝ :=
  ∑ r : Fin 256, ds nk a q kv kp l o h r k * qc q h r (128 + x)

/-- and all four. -/
def tkp (nk a : ℕ) (q kv kp l o : ℕ → ℕ → ℝ) (k x : ℕ) : ℝ :=
  tk1 nk a q kv kp l o 0 k x + tk1 nk a q kv kp l o 1 k x + tk1 nk a q kv kp l o 2 k x + tk1 nk a q kv kp l o 3 k x

/-! ## Arrays that hold finite values -/

/-- A matrix holding the values of `f`. -/
def R2 {m n : ℕ} (X : (⟨2, ![m, n]⟩ : Shape).Idx → EReal) (f : ℕ → ℕ → ℝ) : Prop := ∀ (i : Fin m) (j : Fin n), X (ix2 i j) = ((f i j : ℝ) : EReal)

/-- A matrix with a leading axis of one. -/
def R1 {m n : ℕ} (X : (⟨3, ![1, m, n]⟩ : Shape).Idx → EReal) (f : ℕ → ℕ → ℝ) : Prop := ∀ (i : Fin m) (j : Fin n), X (ix3 0 i j) = ((f i j : ℝ) : EReal)

/-- A stack of matrices. -/
def R3 {k m n : ℕ} (X : (⟨3, ![k, m, n]⟩ : Shape).Idx → EReal) (f : ℕ → ℕ → ℕ → ℝ) : Prop :=
  ∀ (b : Fin k) (i : Fin m) (j : Fin n), X (ix3 b i j) = ((f b i j : ℝ) : EReal)

/-- A block of a matrix holds the block of its values. -/
theorem R1.ld {M N m n a b : ℕ} {X : (⟨3, ![1, M, N]⟩ : Shape).Idx → EReal} {f : ℕ → ℕ → ℝ} (h : R1 X f)
    (inb : ∀ i, (![0, a, b] : Fin 3 → ℕ) i + (![1, m, n] : Fin 3 → ℕ) i ≤ (⟨3, ![1, M, N]⟩ : Shape).size i) :
    R1 (m := m) (n := n) (View.ld (Val := fun _ => EReal) (e' := EltTy.f32) X (Rect.unit (s := ⟨3, ![1, M, N]⟩) ![0, a, b] ![1, m, n] inb)) (fun i j => f (a + i) (b + j)) := by
  intro i j
  have h1 : a + i.val < M := lt_of_lt_of_le (Nat.add_lt_add_left i.2 a) (inb 1)
  have h2 : b + j.val < N := lt_of_lt_of_le (Nat.add_lt_add_left j.2 b) (inb 2)
  rw [← h ⟨a + i, h1⟩ ⟨b + j, h2⟩]
  show X _ = X _
  congr 1
  funext d
  fin_cases d <;> (apply Fin.ext; simp [Rect.unit, ix3])

/-- A block of one matrix of a stack. -/
theorem R3.ld {K M N k m n a b : ℕ} {X : (⟨3, ![K, M, N]⟩ : Shape).Idx → EReal} {f : ℕ → ℕ → ℕ → ℝ} (h : R3 X f)
    (inb : ∀ i, (![k, a, b] : Fin 3 → ℕ) i + (![1, m, n] : Fin 3 → ℕ) i ≤ (⟨3, ![K, M, N]⟩ : Shape).size i) :
    R1 (m := m) (n := n) (View.ld (Val := fun _ => EReal) (e' := EltTy.f32) X (Rect.unit (s := ⟨3, ![K, M, N]⟩) ![k, a, b] ![1, m, n] inb)) (fun i j => f k (a + i) (b + j)) := by
  intro i j
  have h0 : k < K := inb 0
  have h1 : a + i.val < M := lt_of_lt_of_le (Nat.add_lt_add_left i.2 a) (inb 1)
  have h2 : b + j.val < N := lt_of_lt_of_le (Nat.add_lt_add_left j.2 b) (inb 2)
  rw [← h ⟨k, h0⟩ ⟨a + i, h1⟩ ⟨b + j, h2⟩]
  show X _ = X _
  congr 1
  funext d
  fin_cases d <;> (apply Fin.ext; simp [Rect.unit, ix3])

end Cert.Attn
-- ==== Proof.Head.lean ====
/-
  One head of one tile of query rows: the stages of the printed kernel as functions of the blocks they read, for a tile against all the keys and for one
  against the last 256, and their values on finite blocks.
-/
module
public import proofs.«01_k».proof.Proof.Gen.KernelIdeal.Frame
public import proofs.«01_k».proof.Proof.Attn
@[expose] public section
set_option maxRecDepth 16384
noncomputable section
namespace Cert.KernelIdeal.Head
open Cert.KernelIdeal Cert.KernelIdeal.Gen Cert.Attn Idealize.ShloMosaic Idealize.ShloMosaic.TcCoe Idealize.SL.Sem

theorem lane_sge : ∀ n : Fin 128, IntOp.cmpi CmpIPredicate.sge (BitVec.ofNat 32 n) 64#32 = if n.val < 64 then 0#1 else 1#1 := by decide

theorem lane_slt : ∀ n : Fin 128, IntOp.cmpi CmpIPredicate.slt (BitVec.ofNat 32 n) 64#32 = if n.val < 64 then 1#1 else 0#1 := by decide

/-- A choice by a lane's number being at least 64. -/
theorem pick_sge (n : ℕ) (h : n < 128) (x y : EReal) :
    Scalar.select (IntOp.cmpi CmpIPredicate.sge (BitVec.ofNat 32 n) 64#32) x y = if n < 64 then y else x := by
  rw [lane_sge ⟨n, h⟩]
  by_cases hn : n < 64 <;> simp [hn, Scalar.select]

/-- A choice by its being under 64. -/
theorem pick_slt (n : ℕ) (h : n < 128) (x y : EReal) :
    Scalar.select (IntOp.cmpi CmpIPredicate.slt (BitVec.ofNat 32 n) 64#32) x y = if n < 64 then x else y := by
  rw [lane_slt ⟨n, h⟩]
  by_cases hn : n < 64 <;> simp [hn, Scalar.select]

/-- An even head's query rows. -/
def qE (rp nq : Vec Ideal S1x256x128 .bf16) : FVec Ideal S256x256 .bf16 := k0_pay17 (F := Ideal) rp nq

/-- An odd head's. -/
def qO (rp nq : Vec Ideal S1x256x128 .bf16) : FVec Ideal S256x256 .bf16 := k0_pay30 (F := Ideal) rp nq

theorem qE_fin {rp nq} {r' n' : ℕ → ℕ → ℝ} (hr : R1 rp r') (hn : R1 nq n') :
    R2 (qE rp nq) fun r d => if d < 128 then n' r d else if d - 128 < 64 then r' r (d - 128) else 0 := by
  intro i j
  pointwise [qE, k0_pay17]
  split
  · exact hn i ⟨j, _⟩
  · rw [pick_slt _ (by omega)]
    split
    · exact hr i ⟨j - 128, _⟩
    · rfl

theorem qO_fin {rp nq} {r' n' : ℕ → ℕ → ℝ} (hr : R1 rp r') (hn : R1 nq n') :
    R2 (qO rp nq) fun r d => if d < 128 then n' r d else if d - 128 < 64 then 0 else r' r (d - 128) := by
  intro i j
  pointwise [qO, k0_pay30]
  split
  · exact hn i ⟨j, _⟩
  · rw [pick_sge _ (by omega)]
    split
    · rfl
    · exact hr i ⟨j - 128, _⟩

/-! ## 2304 keys -/

/-- The weights of a tile's rows. -/
def PL (q : FVec Ideal S256x256 .bf16) (k : Vec Ideal S1x2304x256 .bf16) (l : Vec Ideal S1x256x1 .f32) : FVec Ideal S256x2304 .f32 :=
  have kk : FVec Ideal S2304x256 .bf16 := shapeCast S2304x256 k shapeCasts_S1x2304x256_S2304x256
  have s : FVec Ideal S256x2304 .f32 := matmul dot_S256x256_S2304x256_S256x2304_1_1_0_0_n_n none q kk (constant S256x2304 .f32 0x00000000#32)
  have z : FVec Ideal S256x2304 .f32 := broadcast S256x2304 (Scalar.ofBits .f32 0x3D93CD3A#32 : Ideal .f32)
  have ll : FVec Ideal S256x1 .f32 := shapeCast S256x1 l shapeCasts_S1x256x1_S256x1
  exp (subf (mulf s z) (broadcastTo S256x2304 ll broadcasts_S256x1_S256x2304))

/-- The derivatives along the weights. -/
def DL (v : Vec Ideal S1x2304x128 .bf16) (o : Vec Ideal S1x256x128 .bf16) : FVec Ideal S256x2304 .f32 :=
  have vv : FVec Ideal S2304x128 .bf16 := shapeCast S2304x128 v shapeCasts_S1x2304x128_S2304x128
  have oo : FVec Ideal S256x128 .bf16 := shapeCast S256x128 o shapeCasts_S1x256x128_S256x128
  matmul dot_S256x128_S2304x128_S256x2304_1_1_0_0_n_n none oo vv (constant S256x2304 .f32 0x00000000#32)

/-- The derivatives along the scores. -/
def SL (p d : FVec Ideal S256x2304 .f32) : FVec Ideal S256x2304 .f32 :=
  have m : FVec Ideal S256 .f32 := multiReduction .add [1] S256 (mulf p d) 0x00000000#32 reduces_S256x2304_S256 (.inl rfl) rfl
  have mm : FVec Ideal S256x1 .f32 := shapeCast S256x1 m shapeCasts_S256_S256x1
  have z : FVec Ideal S256x2304 .f32 := broadcast S256x2304 (Scalar.ofBits .f32 0x3D93CD3A#32 : Ideal .f32)
  mulf (mulf p (subf d (broadcastTo S256x2304 mm broadcasts_S256x1_S256x2304))) z

/-- The derivatives along a head's query columns. -/
def QL (k : Vec Ideal S1x2304x256 .bf16) (s : FVec Ideal S256x2304 .f32) : FVec Ideal S256x256 .f32 :=
  have kk : FVec Ideal S2304x256 .bf16 := shapeCast S2304x256 k shapeCasts_S1x2304x256_S2304x256
  matmul (φ₁ := .bf16) dot_S256x2304_S2304x256_S256x256_1_0_0_1_n_n none s kk (constant S256x256 .f32 0x00000000#32)

/-- their plain half, -/
def QNL (k : Vec Ideal S1x2304x256 .bf16) (s : FVec Ideal S256x2304 .f32) : FVec Ideal S1x256x128 .f32 :=
  shapeCast S1x256x128 (extractStridedSlice S256x128 ![0, 0] (QL k s) slices_S256x256_o0_0_S256x128) shapeCasts_S256x128_S1x256x128

/-- and the rotary halves of two heads, joined. -/
def QRL (k₀ k₁ : Vec Ideal S1x2304x256 .bf16) (s₀ s₁ : FVec Ideal S256x2304 .f32) : FVec Ideal S1x256x128 .f32 :=
  have a : FVec Ideal S256x128 .f32 := extractStridedSlice S256x128 ![0, 128] (QL k₀ s₀) slices_S256x256_o0_128_S256x128
  have b : FVec Ideal S256x128 .f32 := extractStridedSlice S256x128 ![0, 128] (QL k₁ s₁) slices_S256x256_o0_128_S256x128
  have m : IVec S256x128 1 := broadcastTo S256x128 (shapeCast S1x128 (cmpi .sge (iota .tc S1x128 32 [1] iota_S1x128_d1_w32) (broadcast S1x128 64#32)) shapeCasts_S1x128_S1x128) broadcasts_S1x128_S256x128
  shapeCast S1x256x128 (select m b a) shapeCasts_S256x128_S1x256x128

/-- The derivatives along a head's key columns, summed over the rows. -/
def KL (q : FVec Ideal S256x256 .bf16) (s : FVec Ideal S256x2304 .f32) : FVec Ideal S2304x256 .f32 :=
  matmul (φ₁ := .bf16) dot_S256x2304_S256x256_S2304x256_0_0_1_1_n_n none s q (constant S2304x256 .f32 0x00000000#32)

/-- The plain half added to a total, -/
def KNL (q : FVec Ideal S256x256 .bf16) (s : FVec Ideal S256x2304 .f32) (a : Vec Ideal S1x2304x128 .f32) : FVec Ideal S1x2304x128 .f32 :=
  have aa : FVec Ideal S2304x128 .f32 := shapeCast S2304x128 a shapeCasts_S1x2304x128_S2304x128
  shapeCast S1x2304x128 (addf aa (extractStridedSlice S2304x128 ![0, 0] (KL q s) slices_S2304x256_o0_0_S2304x128)) shapeCasts_S2304x128_S1x2304x128

/-- and the rotary half. -/
def KRL (q : FVec Ideal S256x256 .bf16) (s : FVec Ideal S256x2304 .f32) (a : Vec Ideal S1x2304x128 .f32) : FVec Ideal S1x2304x128 .f32 :=
  have aa : FVec Ideal S2304x128 .f32 := shapeCast S2304x128 a shapeCasts_S1x2304x128_S2304x128
  shapeCast S1x2304x128 (addf aa (extractStridedSlice S2304x128 ![0, 128] (KL q s) slices_S2304x256_o0_128_S2304x128)) shapeCasts_S2304x128_S1x2304x128

/-- The derivatives along a head's values added to a total. -/
def VL (p : FVec Ideal S256x2304 .f32) (o : Vec Ideal S1x256x128 .bf16) (a : Vec Ideal S1x2304x128 .f32) : FVec Ideal S1x2304x128 .f32 :=
  have oo : FVec Ideal S256x128 .bf16 := shapeCast S256x128 o shapeCasts_S1x256x128_S256x128
  have aa : FVec Ideal S2304x128 .f32 := shapeCast S2304x128 a shapeCasts_S1x2304x128_S2304x128
  have g : FVec Ideal S2304x128 .f32 := matmul (φ₁ := .bf16) dot_S256x2304_S256x128_S2304x128_0_0_1_1_n_n none p oo (constant S2304x128 .f32 0x00000000#32)
  shapeCast S1x2304x128 (addf aa g) shapeCasts_S2304x128_S1x2304x128

theorem PL_fin {q k l} {q' k' l' : ℕ → ℕ → ℝ} (hq : R2 q q') (hk : R1 k k') (hl : R1 l l') :
    R2 (PL q k l) fun r j => Real.exp ((∑ d : Fin 256, q' r d * k' j d) * c - l' r 0) := by
  intro i j
  pointwise [PL]
  simp only [hq _ _, hk _ _, scale_eq, ← EReal.coe_mul, coe_sum]
  rw [hl i 0, ← EReal.coe_sub, Ideal.exp_coe]
  rfl

theorem DL_fin {v o} {v' o' : ℕ → ℕ → ℝ} (hv : R1 v v') (ho : R1 o o') : R2 (DL v o) fun r j => ∑ e : Fin 128, o' r e * v' j e := by
  intro i j
  pointwise [DL]
  simp only [hv _ _, ho _ _, ← EReal.coe_mul, coe_sum]

theorem SL_fin {p d} {p' d' : ℕ → ℕ → ℝ} (hp : R2 p p') (hd : R2 d d') :
    R2 (SL p d) fun r j => p' r j * (d' r j - ∑ x : Fin 2304, p' r x * d' r x) * c := by
  intro i j
  pointwise [SL]
  simp only [hp _ _, hd _ _, scale_eq, ← EReal.coe_mul, coe_sum, ← EReal.coe_sub]

theorem QL_fin {k s} {k' s' : ℕ → ℕ → ℝ} (hk : R1 k k') (hs : R2 s s') : R2 (QL k s) fun r d => ∑ x : Fin 2304, s' r x * k' x d := by
  intro i j
  pointwise [QL]
  simp only [hk _ _, hs _ _, ← EReal.coe_mul, coe_sum]

theorem QNL_fin {k s} {k' s' : ℕ → ℕ → ℝ} (hk : R1 k k') (hs : R2 s s') : R1 (QNL k s) fun r d => ∑ x : Fin 2304, s' r x * k' x d := by
  intro i j
  pointwise [QNL]
  exact QL_fin hk hs i ⟨j, _⟩

theorem QRL_fin {k₀ k₁ s₀ s₁} {k₀' k₁' s₀' s₁' : ℕ → ℕ → ℝ} (hk₀ : R1 k₀ k₀') (hk₁ : R1 k₁ k₁') (hs₀ : R2 s₀ s₀') (hs₁ : R2 s₁ s₁') :
    R1 (QRL k₀ k₁ s₀ s₁) fun r d => if d < 64 then ∑ x : Fin 2304, s₀' r x * k₀' x (128 + d) else ∑ x : Fin 2304, s₁' r x * k₁' x (128 + d) := by
  intro i j
  pointwise [QRL]
  rw [QL_fin hk₀ hs₀ i ⟨128 + j, _⟩, QL_fin hk₁ hs₁ i ⟨128 + j, _⟩, pick_sge _ j.2]
  split <;> rfl

theorem KL_fin {q s} {q' s' : ℕ → ℕ → ℝ} (hq : R2 q q') (hs : R2 s s') : R2 (KL q s) fun j d => ∑ x : Fin 256, s' x j * q' x d := by
  intro i j
  pointwise [KL]
  simp only [hq _ _, hs _ _, ← EReal.coe_mul, coe_sum]

theorem KNL_fin {q s a} {q' s' a' : ℕ → ℕ → ℝ} (hq : R2 q q') (hs : R2 s s') (ha : R1 a a') :
    R1 (KNL q s a) fun j d => a' j d + ∑ x : Fin 256, s' x j * q' x d := by
  intro i j
  pointwise [KNL]
  rw [KL_fin hq hs i ⟨j, _⟩, ha i j, ← EReal.coe_add]

theorem KRL_fin {q s a} {q' s' a' : ℕ → ℕ → ℝ} (hq : R2 q q') (hs : R2 s s') (ha : R1 a a') :
    R1 (KRL q s a) fun j d => a' j d + ∑ x : Fin 256, s' x j * q' x (128 + d) := by
  intro i j
  pointwise [KRL]
  rw [KL_fin hq hs i ⟨128 + j, _⟩, ha i j, ← EReal.coe_add]

theorem VL_fin {p o a} {p' o' a' : ℕ → ℕ → ℝ} (hp : R2 p p') (ho : R1 o o') (ha : R1 a a') :
    R1 (VL p o a) fun j e => a' j e + ∑ x : Fin 256, p' x j * o' x e := by
  intro i j
  pointwise [VL]
  simp only [hp _ _, ho _ _, ← EReal.coe_mul, coe_sum]
  rw [ha i j, ← EReal.coe_add]

/-! ## 256 keys -/

/-- The weights of a tile's rows. -/
def PC (q : FVec Ideal S256x256 .bf16) (k : Vec Ideal S1x256x256 .bf16) (l : Vec Ideal S1x256x1 .f32) : FVec Ideal S256x256 .f32 :=
  have kk : FVec Ideal S256x256 .bf16 := shapeCast S256x256 k shapeCasts_S1x256x256_S256x256
  have s : FVec Ideal S256x256 .f32 := matmul dot_S256x256_S256x256_S256x256_1_1_0_0_n_n none q kk (constant S256x256 .f32 0x00000000#32)
  have z : FVec Ideal S256x256 .f32 := broadcast S256x256 (Scalar.ofBits .f32 0x3D93CD3A#32 : Ideal .f32)
  have ll : FVec Ideal S256x1 .f32 := shapeCast S256x1 l shapeCasts_S1x256x1_S256x1
  exp (subf (mulf s z) (broadcastTo S256x256 ll broadcasts_S256x1_S256x256))

/-- The derivatives along the weights. -/
def DC (v : Vec Ideal S1x256x128 .bf16) (o : Vec Ideal S1x256x128 .bf16) : FVec Ideal S256x256 .f32 :=
  have vv : FVec Ideal S256x128 .bf16 := shapeCast S256x128 v shapeCasts_S1x256x128_S256x128
  have oo : FVec Ideal S256x128 .bf16 := shapeCast S256x128 o shapeCasts_S1x256x128_S256x128
  matmul dot_S256x128_S256x128_S256x256_1_1_0_0_n_n none oo vv (constant S256x256 .f32 0x00000000#32)

/-- The derivatives along the scores. -/
def SC (p d : FVec Ideal S256x256 .f32) : FVec Ideal S256x256 .f32 :=
  have m : FVec Ideal S256 .f32 := multiReduction .add [1] S256 (mulf p d) 0x00000000#32 reduces_S256x256_S256 (.inl rfl) rfl
  have mm : FVec Ideal S256x1 .f32 := shapeCast S256x1 m shapeCasts_S256_S256x1
  have z : FVec Ideal S256x256 .f32 := broadcast S256x256 (Scalar.ofBits .f32 0x3D93CD3A#32 : Ideal .f32)
  mulf (mulf p (subf d (broadcastTo S256x256 mm broadcasts_S256x1_S256x256))) z

/-- The derivatives along a head's query columns. -/
def QC (k : Vec Ideal S1x256x256 .bf16) (s : FVec Ideal S256x256 .f32) : FVec Ideal S256x256 .f32 :=
  have kk : FVec Ideal S256x256 .bf16 := shapeCast S256x256 k shapeCasts_S1x256x256_S256x256
  matmul (φ₁ := .bf16) dot_S256x256_S256x256_S256x256_1_0_0_1_n_n none s kk (constant S256x256 .f32 0x00000000#32)

/-- their plain half, -/
def QNC (k : Vec Ideal S1x256x256 .bf16) (s : FVec Ideal S256x256 .f32) : FVec Ideal S1x256x128 .f32 :=
  shapeCast S1x256x128 (extractStridedSlice S256x128 ![0, 0] (QC k s) slices_S256x256_o0_0_S256x128) shapeCasts_S256x128_S1x256x128

/-- and the rotary halves of two heads, joined. -/
def QRC (k₀ k₁ : Vec Ideal S1x256x256 .bf16) (s₀ s₁ : FVec Ideal S256x256 .f32) : FVec Ideal S1x256x128 .f32 :=
  have a : FVec Ideal S256x128 .f32 := extractStridedSlice S256x128 ![0, 128] (QC k₀ s₀) slices_S256x256_o0_128_S256x128
  have b : FVec Ideal S256x128 .f32 := extractStridedSlice S256x128 ![0, 128] (QC k₁ s₁) slices_S256x256_o0_128_S256x128
  have m : IVec S256x128 1 := broadcastTo S256x128 (shapeCast S1x128 (cmpi .sge (iota .tc S1x128 32 [1] iota_S1x128_d1_w32) (broadcast S1x128 64#32)) shapeCasts_S1x128_S1x128) broadcasts_S1x128_S256x128
  shapeCast S1x256x128 (select m b a) shapeCasts_S256x128_S1x256x128

/-- The derivatives along a head's key columns, summed over the rows. -/
def KC (q : FVec Ideal S256x256 .bf16) (s : FVec Ideal S256x256 .f32) : FVec Ideal S256x256 .f32 :=
  matmul (φ₁ := .bf16) dot_S256x256_S256x256_S256x256_0_0_1_1_n_n none s q (constant S256x256 .f32 0x00000000#32)

/-- The plain half added to a total, -/
def KNC (q : FVec Ideal S256x256 .bf16) (s : FVec Ideal S256x256 .f32) (a : Vec Ideal S1x256x128 .f32) : FVec Ideal S1x256x128 .f32 :=
  have aa : FVec Ideal S256x128 .f32 := shapeCast S256x128 a shapeCasts_S1x256x128_S256x128
  shapeCast S1x256x128 (addf aa (extractStridedSlice S256x128 ![0, 0] (KC q s) slices_S256x256_o0_0_S256x128)) shapeCasts_S256x128_S1x256x128

/-- and the rotary half. -/
def KRC (q : FVec Ideal S256x256 .bf16) (s : FVec Ideal S256x256 .f32) (a : Vec Ideal S1x256x128 .f32) : FVec Ideal S1x256x128 .f32 :=
  have aa : FVec Ideal S256x128 .f32 := shapeCast S256x128 a shapeCasts_S1x256x128_S256x128
  shapeCast S1x256x128 (addf aa (extractStridedSlice S256x128 ![0, 128] (KC q s) slices_S256x256_o0_128_S256x128)) shapeCasts_S256x128_S1x256x128

/-- The derivatives along a head's values added to a total. -/
def VC (p : FVec Ideal S256x256 .f32) (o : Vec Ideal S1x256x128 .bf16) (a : Vec Ideal S1x256x128 .f32) : FVec Ideal S1x256x128 .f32 :=
  have oo : FVec Ideal S256x128 .bf16 := shapeCast S256x128 o shapeCasts_S1x256x128_S256x128
  have aa : FVec Ideal S256x128 .f32 := shapeCast S256x128 a shapeCasts_S1x256x128_S256x128
  have g : FVec Ideal S256x128 .f32 := matmul (φ₁ := .bf16) dot_S256x256_S256x128_S256x128_0_0_1_1_n_n none p oo (constant S256x128 .f32 0x00000000#32)
  shapeCast S1x256x128 (addf aa g) shapeCasts_S256x128_S1x256x128

theorem PC_fin {q k l} {q' k' l' : ℕ → ℕ → ℝ} (hq : R2 q q') (hk : R1 k k') (hl : R1 l l') :
    R2 (PC q k l) fun r j => Real.exp ((∑ d : Fin 256, q' r d * k' j d) * c - l' r 0) := by
  intro i j
  pointwise [PC]
  simp only [hq _ _, hk _ _, scale_eq, ← EReal.coe_mul, coe_sum]
  rw [hl i 0, ← EReal.coe_sub, Ideal.exp_coe]
  rfl

theorem DC_fin {v o} {v' o' : ℕ → ℕ → ℝ} (hv : R1 v v') (ho : R1 o o') : R2 (DC v o) fun r j => ∑ e : Fin 128, o' r e * v' j e := by
  intro i j
  pointwise [DC]
  simp only [hv _ _, ho _ _, ← EReal.coe_mul, coe_sum]

theorem SC_fin {p d} {p' d' : ℕ → ℕ → ℝ} (hp : R2 p p') (hd : R2 d d') :
    R2 (SC p d) fun r j => p' r j * (d' r j - ∑ x : Fin 256, p' r x * d' r x) * c := by
  intro i j
  pointwise [SC]
  simp only [hp _ _, hd _ _, scale_eq, ← EReal.coe_mul, coe_sum, ← EReal.coe_sub]

theorem QC_fin {k s} {k' s' : ℕ → ℕ → ℝ} (hk : R1 k k') (hs : R2 s s') : R2 (QC k s) fun r d => ∑ x : Fin 256, s' r x * k' x d := by
  intro i j
  pointwise [QC]
  simp only [hk _ _, hs _ _, ← EReal.coe_mul, coe_sum]

theorem QNC_fin {k s} {k' s' : ℕ → ℕ → ℝ} (hk : R1 k k') (hs : R2 s s') : R1 (QNC k s) fun r d => ∑ x : Fin 256, s' r x * k' x d := by
  intro i j
  pointwise [QNC]
  exact QC_fin hk hs i ⟨j, _⟩

theorem QRC_fin {k₀ k₁ s₀ s₁} {k₀' k₁' s₀' s₁' : ℕ → ℕ → ℝ} (hk₀ : R1 k₀ k₀') (hk₁ : R1 k₁ k₁') (hs₀ : R2 s₀ s₀') (hs₁ : R2 s₁ s₁') :
    R1 (QRC k₀ k₁ s₀ s₁) fun r d => if d < 64 then ∑ x : Fin 256, s₀' r x * k₀' x (128 + d) else ∑ x : Fin 256, s₁' r x * k₁' x (128 + d) := by
  intro i j
  pointwise [QRC]
  rw [QC_fin hk₀ hs₀ i ⟨128 + j, _⟩, QC_fin hk₁ hs₁ i ⟨128 + j, _⟩, pick_sge _ j.2]
  split <;> rfl

theorem KC_fin {q s} {q' s' : ℕ → ℕ → ℝ} (hq : R2 q q') (hs : R2 s s') : R2 (KC q s) fun j d => ∑ x : Fin 256, s' x j * q' x d := by
  intro i j
  pointwise [KC]
  simp only [hq _ _, hs _ _, ← EReal.coe_mul, coe_sum]

theorem KNC_fin {q s a} {q' s' a' : ℕ → ℕ → ℝ} (hq : R2 q q') (hs : R2 s s') (ha : R1 a a') :
    R1 (KNC q s a) fun j d => a' j d + ∑ x : Fin 256, s' x j * q' x d := by
  intro i j
  pointwise [KNC]
  rw [KC_fin hq hs i ⟨j, _⟩, ha i j, ← EReal.coe_add]

theorem KRC_fin {q s a} {q' s' a' : ℕ → ℕ → ℝ} (hq : R2 q q') (hs : R2 s s') (ha : R1 a a') :
    R1 (KRC q s a) fun j d => a' j d + ∑ x : Fin 256, s' x j * q' x (128 + d) := by
  intro i j
  pointwise [KRC]
  rw [KC_fin hq hs i ⟨128 + j, _⟩, ha i j, ← EReal.coe_add]

theorem VC_fin {p o a} {p' o' a' : ℕ → ℕ → ℝ} (hp : R2 p p') (ho : R1 o o') (ha : R1 a a') :
    R1 (VC p o a) fun j e => a' j e + ∑ x : Fin 256, p' x j * o' x e := by
  intro i j
  pointwise [VC]
  simp only [hp _ _, ho _ _, ← EReal.coe_mul, coe_sum]
  rw [ha i j, ← EReal.coe_add]

end Cert.KernelIdeal.Head
-- ==== Proof.Stage.lean ====
/-
  The printed kernel's four heads, stage by stage, are the one head of the file before; and a head's weights and derivatives are the attention's.
-/
module
public import proofs.«01_k».proof.Proof.Head
@[expose] public section
set_option maxRecDepth 16384
noncomputable section
namespace Cert.KernelIdeal.Head
open Cert.KernelIdeal Cert.KernelIdeal.Gen Cert.Attn Idealize.ShloMosaic Idealize.ShloMosaic.TcCoe Idealize.SL.Sem

/-! ## The printed stages of the four heads -/

theorem qn0_L (rp nq k v l o) :
    k0_pay24 (F := Ideal) (k0_pay18 (F := Ideal) k) (k0_pay21 (F := Ideal) rp nq k v l o)
      = QNL k (SL (PL (qE rp nq) k l) (DL v o)) := rfl

theorem qn1_L (rp nq k v l o) :
    k0_pay36 (F := Ideal) (k0_pay31 (F := Ideal) k) (k0_pay34 (F := Ideal) rp nq k v l o) (constant S256x256 .f32 0x00000000#32)
      = QNL k (SL (PL (qO rp nq) k l) (DL v o)) := rfl

theorem qr0_L (rp nq k v l o nq' k' v' l' o') :
    k0_pay37 (F := Ideal) (k0_pay25 (F := Ideal) (k0_pay18 (F := Ideal) k) (k0_pay21 (F := Ideal) rp nq k v l o)) (k0_pay31 (F := Ideal) k') (k0_pay34 (F := Ideal) rp nq' k' v' l' o') (constant S256x256 .f32 0x00000000#32)
      = QRL k k' (SL (PL (qE rp nq) k l) (DL v o)) (SL (PL (qO rp nq') k' l') (DL v' o')) := rfl

theorem qn2_L (rp nq k v l o) :
    k0_pay51 (F := Ideal) (k0_pay45 (F := Ideal) k) (k0_pay46 (F := Ideal) rp nq k l) (k0_pay48 (F := Ideal) v o)
      = QNL k (SL (PL (qE rp nq) k l) (DL v o)) := rfl

theorem qn3_L (rp nq k v l o) :
    k0_pay67 (F := Ideal) (k0_pay60 (F := Ideal) k) (k0_pay61 (F := Ideal) rp nq k l) (k0_pay63 (F := Ideal) v o) (k0_pay64 (F := Ideal) rp nq k v l o)
      = QNL k (SL (PL (qO rp nq) k l) (DL v o)) := rfl

theorem qr1_L (rp nq k v l o nq' k' v' l' o') :
    k0_pay68 (F := Ideal) (k0_pay52 (F := Ideal) (k0_pay45 (F := Ideal) k) (k0_pay46 (F := Ideal) rp nq k l) (k0_pay48 (F := Ideal) v o)) (k0_pay60 (F := Ideal) k') (k0_pay61 (F := Ideal) rp nq' k' l') (k0_pay63 (F := Ideal) v' o') (k0_pay64 (F := Ideal) rp nq' k' v' l' o')
      = QRL k k' (SL (PL (qE rp nq) k l) (DL v o)) (SL (PL (qO rp nq') k' l') (DL v' o')) := rfl

theorem kn0_L (rp nq k v l o a) :
    k0_pay27 (F := Ideal) (k0_pay17 (F := Ideal) rp nq) (k0_pay21 (F := Ideal) rp nq k v l o) a
      = KNL (qE rp nq) (SL (PL (qE rp nq) k l) (DL v o)) a := rfl

theorem kn1_L (rp nq k v l o a) :
    k0_pay39 (F := Ideal) (k0_pay30 (F := Ideal) rp nq) (k0_pay34 (F := Ideal) rp nq k v l o) a
      = KNL (qO rp nq) (SL (PL (qO rp nq) k l) (DL v o)) a := rfl

theorem kn2_L (rp nq k v l o a) :
    k0_pay54 (F := Ideal) (k0_pay44 (F := Ideal) rp nq) (k0_pay46 (F := Ideal) rp nq k l) (k0_pay48 (F := Ideal) v o) a
      = KNL (qE rp nq) (SL (PL (qE rp nq) k l) (DL v o)) a := rfl

theorem kn3_L (rp nq k v l o a) :
    k0_pay70 (F := Ideal) (k0_pay59 (F := Ideal) rp nq) (k0_pay61 (F := Ideal) rp nq k l) (k0_pay63 (F := Ideal) v o) (k0_pay64 (F := Ideal) rp nq k v l o) a
      = KNL (qO rp nq) (SL (PL (qO rp nq) k l) (DL v o)) a := rfl

theorem kr0_L (rp nq k v l o a) :
    k0_pay28 (F := Ideal) (k0_pay17 (F := Ideal) rp nq) (k0_pay21 (F := Ideal) rp nq k v l o) a
      = KRL (qE rp nq) (SL (PL (qE rp nq) k l) (DL v o)) a := rfl

theorem kr1_L (rp nq k v l o a) :
    k0_pay40 (F := Ideal) (k0_pay30 (F := Ideal) rp nq) (k0_pay34 (F := Ideal) rp nq k v l o) a
      = KRL (qO rp nq) (SL (PL (qO rp nq) k l) (DL v o)) a := rfl

theorem kr2_L (rp nq k v l o a) :
    k0_pay55 (F := Ideal) (k0_pay44 (F := Ideal) rp nq) (k0_pay46 (F := Ideal) rp nq k l) (k0_pay48 (F := Ideal) v o) a
      = KRL (qE rp nq) (SL (PL (qE rp nq) k l) (DL v o)) a := rfl

theorem kr3_L (rp nq k v l o a) :
    k0_pay2 (F := Ideal) (k0_pay71 (F := Ideal) (k0_pay59 (F := Ideal) rp nq) (k0_pay61 (F := Ideal) rp nq k l) (k0_pay63 (F := Ideal) v o) (k0_pay64 (F := Ideal) rp nq k v l o) a)
      = KRL (qO rp nq) (SL (PL (qO rp nq) k l) (DL v o)) a := rfl

theorem v0_L (rp nq k l o a) :
    k0_pay29 (F := Ideal) (k0_pay19 (F := Ideal) rp nq k l) (k0_pay20 (F := Ideal) o) a
      = VL (PL (qE rp nq) k l) o a := rfl

theorem v1_L (rp nq k l o a) :
    k0_pay43 (F := Ideal) (k0_pay33 (F := Ideal) o) (k0_pay41 (F := Ideal) a) (k0_pay42 (F := Ideal) (k0_pay32 (F := Ideal) rp nq k l))
      = VL (PL (qO rp nq) k l) o a := rfl

theorem v2_L (rp nq k l o a) :
    k0_pay58 (F := Ideal) (k0_pay56 (F := Ideal) a) (k0_pay57 (F := Ideal) (k0_pay46 (F := Ideal) rp nq k l) (k0_pay47 (F := Ideal) o))
      = VL (PL (qE rp nq) k l) o a := rfl

theorem v3_L (rp nq k l o a) :
    k0_pay3 (F := Ideal) (k0_pay61 (F := Ideal) rp nq k l) (k0_pay62 (F := Ideal) o) a
      = VL (PL (qO rp nq) k l) o a := rfl

/-- The weights of a head's rows are the attention's. -/
theorem pr_fin_L {q kv kp l : ℕ → ℕ → ℝ} (h a : ℕ) {qq k lb} (hq : R2 qq fun r d => qc q h r d) (hk : R1 k fun j d => kc kv kp h (a + j) d)
    (hl : R1 lb fun r _ => l r h) : R2 (PL qq k lb) fun r j => pr q kv kp l h r (a + j) :=
  by
  intro i j
  rw [PL_fin hq hk hl i j]
  simp only [pr, sc]

/-- and the derivatives along the scores. -/
theorem ds_fin_L {q kv kp l o : ℕ → ℕ → ℝ} (h a : ℕ) {qq k v lb ob} (hq : R2 qq fun r d => qc q h r d) (hk : R1 k fun j d => kc kv kp h (a + j) d)
    (hl : R1 lb fun r _ => l r h) (hv : R1 v fun j e => kv (a + j) (256 * h + 128 + e)) (ho : R1 ob fun r e => o r (128 * h + e)) :
    R2 (SL (PL qq k lb) (DL v ob)) fun r j => ds 2304 a q kv kp l o h r (a + j) :=
  by
  intro i j
  rw [SL_fin (pr_fin_L h a hq hk hl) (DL_fin hv ho) i j]
  simp only [ds, dp]
/-! ## The printed stages of the four heads -/

theorem qn0_C (rp nq k v l o) :
    k0_pay79 (F := Ideal) (k0_pay73 (F := Ideal) k) (k0_pay76 (F := Ideal) rp nq k v l o)
      = QNC k (SC (PC (qE rp nq) k l) (DC v o)) := rfl

theorem qn1_C (rp nq k v l o) :
    k0_pay91 (F := Ideal) (k0_pay86 (F := Ideal) k) (k0_pay89 (F := Ideal) rp nq k v l o) (constant S256x256 .f32 0x00000000#32)
      = QNC k (SC (PC (qO rp nq) k l) (DC v o)) := rfl

theorem qr0_C (rp nq k v l o nq' k' v' l' o') :
    k0_pay92 (F := Ideal) (k0_pay80 (F := Ideal) (k0_pay73 (F := Ideal) k) (k0_pay76 (F := Ideal) rp nq k v l o)) (k0_pay86 (F := Ideal) k') (k0_pay89 (F := Ideal) rp nq' k' v' l' o') (constant S256x256 .f32 0x00000000#32)
      = QRC k k' (SC (PC (qE rp nq) k l) (DC v o)) (SC (PC (qO rp nq') k' l') (DC v' o')) := rfl

theorem qn2_C (rp nq k v l o) :
    k0_pay106 (F := Ideal) (k0_pay100 (F := Ideal) k) (k0_pay101 (F := Ideal) rp nq k l) (k0_pay103 (F := Ideal) v o)
      = QNC k (SC (PC (qE rp nq) k l) (DC v o)) := rfl

theorem qn3_C (rp nq k v l o) :
    k0_pay122 (F := Ideal) (k0_pay115 (F := Ideal) k) (k0_pay116 (F := Ideal) rp nq k l) (k0_pay118 (F := Ideal) v o) (k0_pay119 (F := Ideal) rp nq k v l o)
      = QNC k (SC (PC (qO rp nq) k l) (DC v o)) := rfl

theorem qr1_C (rp nq k v l o nq' k' v' l' o') :
    k0_pay123 (F := Ideal) (k0_pay107 (F := Ideal) (k0_pay100 (F := Ideal) k) (k0_pay101 (F := Ideal) rp nq k l) (k0_pay103 (F := Ideal) v o)) (k0_pay115 (F := Ideal) k') (k0_pay116 (F := Ideal) rp nq' k' l') (k0_pay118 (F := Ideal) v' o') (k0_pay119 (F := Ideal) rp nq' k' v' l' o')
      = QRC k k' (SC (PC (qE rp nq) k l) (DC v o)) (SC (PC (qO rp nq') k' l') (DC v' o')) := rfl

theorem kn0_C (rp nq k v l o a) :
    k0_pay82 (F := Ideal) (k0_pay72 (F := Ideal) rp nq) (k0_pay76 (F := Ideal) rp nq k v l o) a
      = KNC (qE rp nq) (SC (PC (qE rp nq) k l) (DC v o)) a := rfl

theorem kn1_C (rp nq k v l o a) :
    k0_pay94 (F := Ideal) (k0_pay85 (F := Ideal) rp nq) (k0_pay89 (F := Ideal) rp nq k v l o) a
      = KNC (qO rp nq) (SC (PC (qO rp nq) k l) (DC v o)) a := rfl

theorem kn2_C (rp nq k v l o a) :
    k0_pay109 (F := Ideal) (k0_pay99 (F := Ideal) rp nq) (k0_pay101 (F := Ideal) rp nq k l) (k0_pay103 (F := Ideal) v o) a
      = KNC (qE rp nq) (SC (PC (qE rp nq) k l) (DC v o)) a := rfl

theorem kn3_C (rp nq k v l o a) :
    k0_pay125 (F := Ideal) (k0_pay114 (F := Ideal) rp nq) (k0_pay116 (F := Ideal) rp nq k l) (k0_pay118 (F := Ideal) v o) (k0_pay119 (F := Ideal) rp nq k v l o) a
      = KNC (qO rp nq) (SC (PC (qO rp nq) k l) (DC v o)) a := rfl

theorem kr0_C (rp nq k v l o a) :
    k0_pay83 (F := Ideal) (k0_pay72 (F := Ideal) rp nq) (k0_pay76 (F := Ideal) rp nq k v l o) a
      = KRC (qE rp nq) (SC (PC (qE rp nq) k l) (DC v o)) a := rfl

theorem kr1_C (rp nq k v l o a) :
    k0_pay95 (F := Ideal) (k0_pay85 (F := Ideal) rp nq) (k0_pay89 (F := Ideal) rp nq k v l o) a
      = KRC (qO rp nq) (SC (PC (qO rp nq) k l) (DC v o)) a := rfl

theorem kr2_C (rp nq k v l o a) :
    k0_pay110 (F := Ideal) (k0_pay99 (F := Ideal) rp nq) (k0_pay101 (F := Ideal) rp nq k l) (k0_pay103 (F := Ideal) v o) a
      = KRC (qE rp nq) (SC (PC (qE rp nq) k l) (DC v o)) a := rfl

theorem kr3_C (rp nq k v l o a) :
    k0_pay4 (F := Ideal) (k0_pay126 (F := Ideal) (k0_pay114 (F := Ideal) rp nq) (k0_pay116 (F := Ideal) rp nq k l) (k0_pay118 (F := Ideal) v o) (k0_pay119 (F := Ideal) rp nq k v l o) a)
      = KRC (qO rp nq) (SC (PC (qO rp nq) k l) (DC v o)) a := rfl

theorem v0_C (rp nq k l o a) :
    k0_pay84 (F := Ideal) (k0_pay74 (F := Ideal) rp nq k l) (k0_pay75 (F := Ideal) o) a
      = VC (PC (qE rp nq) k l) o a := rfl

theorem v1_C (rp nq k l o a) :
    k0_pay98 (F := Ideal) (k0_pay88 (F := Ideal) o) (k0_pay96 (F := Ideal) a) (k0_pay97 (F := Ideal) (k0_pay87 (F := Ideal) rp nq k l))
      = VC (PC (qO rp nq) k l) o a := rfl

theorem v2_C (rp nq k l o a) :
    k0_pay113 (F := Ideal) (k0_pay111 (F := Ideal) a) (k0_pay112 (F := Ideal) (k0_pay101 (F := Ideal) rp nq k l) (k0_pay102 (F := Ideal) o))
      = VC (PC (qE rp nq) k l) o a := rfl

theorem v3_C (rp nq k l o a) :
    k0_pay5 (F := Ideal) (k0_pay116 (F := Ideal) rp nq k l) (k0_pay117 (F := Ideal) o) a
      = VC (PC (qO rp nq) k l) o a := rfl

/-- The weights of a head's rows are the attention's. -/
theorem pr_fin_C {q kv kp l : ℕ → ℕ → ℝ} (h a : ℕ) {qq k lb} (hq : R2 qq fun r d => qc q h r d) (hk : R1 k fun j d => kc kv kp h (a + j) d)
    (hl : R1 lb fun r _ => l r h) : R2 (PC qq k lb) fun r j => pr q kv kp l h r (a + j) :=
  by
  intro i j
  rw [PC_fin hq hk hl i j]
  simp only [pr, sc]

/-- and the derivatives along the scores. -/
theorem ds_fin_C {q kv kp l o : ℕ → ℕ → ℝ} (h a : ℕ) {qq k v lb ob} (hq : R2 qq fun r d => qc q h r d) (hk : R1 k fun j d => kc kv kp h (a + j) d)
    (hl : R1 lb fun r _ => l r h) (hv : R1 v fun j e => kv (a + j) (256 * h + 128 + e)) (ho : R1 ob fun r e => o r (128 * h + e)) :
    R2 (SC (PC qq k lb) (DC v ob)) fun r j => ds 256 a q kv kp l o h r (a + j) :=
  by
  intro i j
  rw [SC_fin (pr_fin_C h a hq hk hl) (DC_fin hv ho) i j]
  simp only [ds, dp]

end Cert.KernelIdeal.Head
-- ==== Proof.Tile.lean ====
/-
  A tile's stores, head by head, and the finite values they hold.
-/
module
public import proofs.«01_k».proof.Proof.Stage
public import Idealize.ShloMosaic.Lib.Pipeline.ReadBack
@[expose] public section
set_option maxRecDepth 16384
noncomputable section
namespace Cert.KernelIdeal.Head
open Cert.KernelIdeal Cert.KernelIdeal.Gen Cert.Attn Idealize.ShloMosaic Idealize.ShloMosaic.TcCoe Idealize.SL.Sem

/-- The array of one batch holding a function's values. -/
def arr {m n : ℕ} (g : ℕ → ℕ → ℝ) : (⟨3, ![1, m, n]⟩ : Shape).Idx → EReal := fun y => ((g (y 1).val (y 2).val : ℝ) : EReal)

/-- A block whose values are those of `g` there is a piece of `g`'s array. -/
theorem piece_of {M N m n a b : ℕ} {w : (⟨3, ![1, m, n]⟩ : Shape).Idx → EReal} {f g : ℕ → ℕ → ℝ} (hw : R1 w f)
    (inb : ∀ i, (![0, a, b] : Fin 3 → ℕ) i + (![1, m, n] : Fin 3 → ℕ) i ≤ (⟨3, ![1, M, N]⟩ : Shape).size i)
    (h : ∀ i j, i < m → j < n → f i j = g (a + i) (b + j)) (x : (⟨3, ![1, m, n]⟩ : Shape).Idx) :
    w x = arr (m := M) (n := N) g ((Rect.unit (s := ⟨3, ![1, M, N]⟩) ![0, a, b] ![1, m, n] inb).emb x) := by
  obtain ⟨z, i, j, rfl⟩ : ∃ (z : Fin 1) (i : Fin m) (j : Fin n), x = ix3 z i j := ⟨x 0, x 1, x 2, by funext d; fin_cases d <;> rfl⟩
  rw [Subsingleton.elim z 0, hw i j, h i j i.2 j.2]
  show _ = ((g (a + 1 * i.val) (b + 1 * j.val) : ℝ) : EReal)
  rw [one_mul, one_mul]

/-- A block holds any function that is the array's there. -/
theorem _root_.Cert.Attn.R1.ldTo {M N m n a b : ℕ} {X : (⟨3, ![1, M, N]⟩ : Shape).Idx → EReal} {f g : ℕ → ℕ → ℝ} (h : R1 X f)
    (inb : ∀ i, (![0, a, b] : Fin 3 → ℕ) i + (![1, m, n] : Fin 3 → ℕ) i ≤ (⟨3, ![1, M, N]⟩ : Shape).size i) (hg : ∀ i j, f (a + i) (b + j) = g i j) :
    R1 (m := m) (n := n) (View.ld (Val := fun _ => EReal) (e' := EltTy.f32) X (Rect.unit (s := ⟨3, ![1, M, N]⟩) ![0, a, b] ![1, m, n] inb)) g := by
  intro i j
  rw [h.ld inb i j]
  exact congrArg _ (hg i j)

theorem _root_.Cert.Attn.R3.ldTo {K M N k m n a b : ℕ} {X : (⟨3, ![K, M, N]⟩ : Shape).Idx → EReal} {f : ℕ → ℕ → ℕ → ℝ} {g : ℕ → ℕ → ℝ} (h : R3 X f)
    (inb : ∀ i, (![k, a, b] : Fin 3 → ℕ) i + (![1, m, n] : Fin 3 → ℕ) i ≤ (⟨3, ![K, M, N]⟩ : Shape).size i) (hg : ∀ i j, f k (a + i) (b + j) = g i j) :
    R1 (m := m) (n := n) (View.ld (Val := fun _ => EReal) (e' := EltTy.f32) X (Rect.unit (s := ⟨3, ![K, M, N]⟩) ![k, a, b] ![1, m, n] inb)) g := by
  intro i j
  rw [h.ld inb i j]
  exact congrArg _ (hg i j)

/-- One column of a row of numbers. -/
theorem _root_.Cert.Attn.R1.col {M N m b : ℕ} {X : (⟨3, ![1, M, N]⟩ : Shape).Idx → EReal} {f : ℕ → ℕ → ℝ} (h : R1 X f)
    (inb : ∀ i, (![0, 0, b] : Fin 3 → ℕ) i + (![1, m, 1] : Fin 3 → ℕ) i ≤ (⟨3, ![1, M, N]⟩ : Shape).size i) :
    R1 (m := m) (n := 1) (View.ld (Val := fun _ => EReal) (e' := EltTy.f32) X (Rect.unit (s := ⟨3, ![1, M, N]⟩) ![0, 0, b] ![1, m, 1] inb)) (fun i _ => f i b) := by
  intro i j
  rw [h.ld inb i j]
  simp

/-- An even head's query rows are the attention's. -/
theorem qE_qc {q : ℕ → ℕ → ℝ} (h : ℕ) (hh : h % 2 = 0) {rp nq} (hr : R1 rp fun r d => q r (512 + 128 * (h / 2) + d)) (hn : R1 nq fun r d => q r (128 * h + d)) :
    R2 (qE rp nq) fun r d => qc q h r d := by
  intro i j
  rw [qE_fin hr hn i j]
  have hj := j.2
  simp only [qc, hh]
  by_cases h1 : j.val < 128
  · rw [if_pos h1, if_pos h1]
  · rw [if_neg h1, if_neg h1]
    by_cases h2 : j.val - 128 < 64
    · rw [if_pos h2, if_pos (by omega)]
    · rw [if_neg h2, if_neg (by omega)]

/-- and an odd head's. -/
theorem qO_qc {q : ℕ → ℕ → ℝ} (h : ℕ) (hh : h % 2 = 1) {rp nq} (hr : R1 rp fun r d => q r (512 + 128 * (h / 2) + d)) (hn : R1 nq fun r d => q r (128 * h + d)) :
    R2 (qO rp nq) fun r d => qc q h r d := by
  intro i j
  rw [qO_fin hr hn i j]
  have hj := j.2
  simp only [qc, hh]
  by_cases h1 : j.val < 128
  · rw [if_pos h1, if_pos h1]
  · rw [if_neg h1, if_neg h1]
    by_cases h2 : j.val - 128 < 64
    · rw [if_pos h2, if_neg (by omega)]
    · rw [if_neg h2, if_pos (by omega)]

/-! ## 2304 keys -/

/-- Head 0's query rows, -/
def qL0 (x0 : Vec Ideal S1x256x768 .bf16) : FVec Ideal S256x256 .bf16 := qE (View.ld x0 (Rect.unit ![0, 0, 512] ![1, 256, 128] inb_S1x256x768_S1x256x128_0_0_512)) (View.ld x0 (Rect.unit ![0, 0, 0] ![1, 256, 128] inb_S1x256x768_S1x256x128_0_0_0))

/-- keys, -/
def kL0 (K : Vec Ideal S4x2304x256 .bf16) : Vec Ideal S1x2304x256 .bf16 := (View.ld K (Rect.unit ![0, 0, 0] ![1, 2304, 256] inb_S4x2304x256_S1x2304x256_0_0_0))

/-- output gradients, -/
def oL0 (x4 : Vec Ideal S1x256x512 .bf16) : Vec Ideal S1x256x128 .bf16 := (View.ld x4 (Rect.unit ![0, 0, 0] ![1, 256, 128] inb_S1x256x512_S1x256x128_0_0_0))

/-- weights -/
def pL0 (x0 : Vec Ideal S1x256x768 .bf16) (x3 : Vec Ideal S1x256x4 .f32) (K : Vec Ideal S4x2304x256 .bf16) : FVec Ideal S256x2304 .f32 :=
  PL (qL0 x0) (kL0 K) (View.ld x3 (Rect.unit ![0, 0, 0] ![1, 256, 1] inb_S1x256x4_S1x256x1_0_0_0))

/-- and derivatives. -/
def sL0 (x0 : Vec Ideal S1x256x768 .bf16) (x1 : Vec Ideal S1x2304x1024 .bf16) (x3 : Vec Ideal S1x256x4 .f32) (x4 : Vec Ideal S1x256x512 .bf16)
    (K : Vec Ideal S4x2304x256 .bf16) : FVec Ideal S256x2304 .f32 :=
  SL (pL0 x0 x3 K) (DL (View.ld x1 (Rect.unit ![0, 0, 128] ![1, 2304, 128] inb_S1x2304x1024_S1x2304x128_0_0_128)) (oL0 x4))

/-- Head 1's query rows, -/
def qL1 (x0 : Vec Ideal S1x256x768 .bf16) : FVec Ideal S256x256 .bf16 := qO (View.ld x0 (Rect.unit ![0, 0, 512] ![1, 256, 128] inb_S1x256x768_S1x256x128_0_0_512)) (View.ld x0 (Rect.unit ![0, 0, 128] ![1, 256, 128] inb_S1x256x768_S1x256x128_0_0_128))

/-- keys, -/
def kL1 (K : Vec Ideal S4x2304x256 .bf16) : Vec Ideal S1x2304x256 .bf16 := (View.ld K (Rect.unit ![1, 0, 0] ![1, 2304, 256] inb_S4x2304x256_S1x2304x256_1_0_0))

/-- output gradients, -/
def oL1 (x4 : Vec Ideal S1x256x512 .bf16) : Vec Ideal S1x256x128 .bf16 := (View.ld x4 (Rect.unit ![0, 0, 128] ![1, 256, 128] inb_S1x256x512_S1x256x128_0_0_128))

/-- weights -/
def pL1 (x0 : Vec Ideal S1x256x768 .bf16) (x3 : Vec Ideal S1x256x4 .f32) (K : Vec Ideal S4x2304x256 .bf16) : FVec Ideal S256x2304 .f32 :=
  PL (qL1 x0) (kL1 K) (View.ld x3 (Rect.unit ![0, 0, 1] ![1, 256, 1] inb_S1x256x4_S1x256x1_0_0_1))

/-- and derivatives. -/
def sL1 (x0 : Vec Ideal S1x256x768 .bf16) (x1 : Vec Ideal S1x2304x1024 .bf16) (x3 : Vec Ideal S1x256x4 .f32) (x4 : Vec Ideal S1x256x512 .bf16)
    (K : Vec Ideal S4x2304x256 .bf16) : FVec Ideal S256x2304 .f32 :=
  SL (pL1 x0 x3 K) (DL (View.ld x1 (Rect.unit ![0, 0, 384] ![1, 2304, 128] inb_S1x2304x1024_S1x2304x128_0_0_384)) (oL1 x4))

/-- Head 2's query rows, -/
def qL2 (x0 : Vec Ideal S1x256x768 .bf16) : FVec Ideal S256x256 .bf16 := qE (View.ld x0 (Rect.unit ![0, 0, 640] ![1, 256, 128] inb_S1x256x768_S1x256x128_0_0_640)) (View.ld x0 (Rect.unit ![0, 0, 256] ![1, 256, 128] inb_S1x256x768_S1x256x128_0_0_256))

/-- keys, -/
def kL2 (K : Vec Ideal S4x2304x256 .bf16) : Vec Ideal S1x2304x256 .bf16 := (View.ld K (Rect.unit ![2, 0, 0] ![1, 2304, 256] inb_S4x2304x256_S1x2304x256_2_0_0))

/-- output gradients, -/
def oL2 (x4 : Vec Ideal S1x256x512 .bf16) : Vec Ideal S1x256x128 .bf16 := (View.ld x4 (Rect.unit ![0, 0, 256] ![1, 256, 128] inb_S1x256x512_S1x256x128_0_0_256))

/-- weights -/
def pL2 (x0 : Vec Ideal S1x256x768 .bf16) (x3 : Vec Ideal S1x256x4 .f32) (K : Vec Ideal S4x2304x256 .bf16) : FVec Ideal S256x2304 .f32 :=
  PL (qL2 x0) (kL2 K) (View.ld x3 (Rect.unit ![0, 0, 2] ![1, 256, 1] inb_S1x256x4_S1x256x1_0_0_2))

/-- and derivatives. -/
def sL2 (x0 : Vec Ideal S1x256x768 .bf16) (x1 : Vec Ideal S1x2304x1024 .bf16) (x3 : Vec Ideal S1x256x4 .f32) (x4 : Vec Ideal S1x256x512 .bf16)
    (K : Vec Ideal S4x2304x256 .bf16) : FVec Ideal S256x2304 .f32 :=
  SL (pL2 x0 x3 K) (DL (View.ld x1 (Rect.unit ![0, 0, 640] ![1, 2304, 128] inb_S1x2304x1024_S1x2304x128_0_0_640)) (oL2 x4))

/-- Head 3's query rows, -/
def qL3 (x0 : Vec Ideal S1x256x768 .bf16) : FVec Ideal S256x256 .bf16 := qO (View.ld x0 (Rect.unit ![0, 0, 640] ![1, 256, 128] inb_S1x256x768_S1x256x128_0_0_640)) (View.ld x0 (Rect.unit ![0, 0, 384] ![1, 256, 128] inb_S1x256x768_S1x256x128_0_0_384))

/-- keys, -/
def kL3 (K : Vec Ideal S4x2304x256 .bf16) : Vec Ideal S1x2304x256 .bf16 := (View.ld K (Rect.unit ![3, 0, 0] ![1, 2304, 256] inb_S4x2304x256_S1x2304x256_3_0_0))

/-- output gradients, -/
def oL3 (x4 : Vec Ideal S1x256x512 .bf16) : Vec Ideal S1x256x128 .bf16 := (View.ld x4 (Rect.unit ![0, 0, 384] ![1, 256, 128] inb_S1x256x512_S1x256x128_0_0_384))

/-- weights -/
def pL3 (x0 : Vec Ideal S1x256x768 .bf16) (x3 : Vec Ideal S1x256x4 .f32) (K : Vec Ideal S4x2304x256 .bf16) : FVec Ideal S256x2304 .f32 :=
  PL (qL3 x0) (kL3 K) (View.ld x3 (Rect.unit ![0, 0, 3] ![1, 256, 1] inb_S1x256x4_S1x256x1_0_0_3))

/-- and derivatives. -/
def sL3 (x0 : Vec Ideal S1x256x768 .bf16) (x1 : Vec Ideal S1x2304x1024 .bf16) (x3 : Vec Ideal S1x256x4 .f32) (x4 : Vec Ideal S1x256x512 .bf16)
    (K : Vec Ideal S4x2304x256 .bf16) : FVec Ideal S256x2304 .f32 :=
  SL (pL3 x0 x3 K) (DL (View.ld x1 (Rect.unit ![0, 0, 896] ![1, 2304, 128] inb_S1x2304x1024_S1x2304x128_0_0_896)) (oL3 x4))

/-- The stores to the query gradient, newest first. -/
def out5L (x0 : Vec Ideal S1x256x768 .bf16) (x1 : Vec Ideal S1x2304x1024 .bf16) (x3 : Vec Ideal S1x256x4 .f32) (x4 : Vec Ideal S1x256x512 .bf16)
    (K : Vec Ideal S4x2304x256 .bf16) : List (View.Piece (Elt Ideal) S1x256x768 .f32) :=
  [⟨Rect.unit ![0, 0, 640] ![1, 256, 128] inb_S1x256x768_S1x256x128_0_0_640, QRL (kL2 K) (kL3 K) (sL2 x0 x1 x3 x4 K) (sL3 x0 x1 x3 x4 K)⟩,
    ⟨Rect.unit ![0, 0, 384] ![1, 256, 128] inb_S1x256x768_S1x256x128_0_0_384, QNL (kL3 K) (sL3 x0 x1 x3 x4 K)⟩,
    ⟨Rect.unit ![0, 0, 256] ![1, 256, 128] inb_S1x256x768_S1x256x128_0_0_256, QNL (kL2 K) (sL2 x0 x1 x3 x4 K)⟩,
    ⟨Rect.unit ![0, 0, 512] ![1, 256, 128] inb_S1x256x768_S1x256x128_0_0_512, QRL (kL0 K) (kL1 K) (sL0 x0 x1 x3 x4 K) (sL1 x0 x1 x3 x4 K)⟩,
    ⟨Rect.unit ![0, 0, 128] ![1, 256, 128] inb_S1x256x768_S1x256x128_0_0_128, QNL (kL1 K) (sL1 x0 x1 x3 x4 K)⟩,
    ⟨Rect.unit ![0, 0, 0] ![1, 256, 128] inb_S1x256x768_S1x256x128_0_0_0, QNL (kL0 K) (sL0 x0 x1 x3 x4 K)⟩]

/-- The stores to the key-value gradient, over the total `x6`. -/
def out6L (x0 : Vec Ideal S1x256x768 .bf16) (x1 : Vec Ideal S1x2304x1024 .bf16) (x3 : Vec Ideal S1x256x4 .f32) (x4 : Vec Ideal S1x256x512 .bf16)
    (K : Vec Ideal S4x2304x256 .bf16) (x6 : Vec Ideal S1x2304x1024 .f32) : List (View.Piece (Elt Ideal) S1x2304x1024 .f32) :=
  [⟨Rect.unit ![0, 0, 896] ![1, 2304, 128] inb_S1x2304x1024_S1x2304x128_0_0_896, VL (pL3 x0 x3 K) (oL3 x4) (View.ld x6 (Rect.unit ![0, 0, 896] ![1, 2304, 128] inb_S1x2304x1024_S1x2304x128_0_0_896))⟩,
    ⟨Rect.unit ![0, 0, 768] ![1, 2304, 128] inb_S1x2304x1024_S1x2304x128_0_0_768, KNL (qL3 x0) (sL3 x0 x1 x3 x4 K) (View.ld x6 (Rect.unit ![0, 0, 768] ![1, 2304, 128] inb_S1x2304x1024_S1x2304x128_0_0_768))⟩,
    ⟨Rect.unit ![0, 0, 640] ![1, 2304, 128] inb_S1x2304x1024_S1x2304x128_0_0_640, VL (pL2 x0 x3 K) (oL2 x4) (View.ld x6 (Rect.unit ![0, 0, 640] ![1, 2304, 128] inb_S1x2304x1024_S1x2304x128_0_0_640))⟩,
    ⟨Rect.unit ![0, 0, 512] ![1, 2304, 128] inb_S1x2304x1024_S1x2304x128_0_0_512, KNL (qL2 x0) (sL2 x0 x1 x3 x4 K) (View.ld x6 (Rect.unit ![0, 0, 512] ![1, 2304, 128] inb_S1x2304x1024_S1x2304x128_0_0_512))⟩,
    ⟨Rect.unit ![0, 0, 384] ![1, 2304, 128] inb_S1x2304x1024_S1x2304x128_0_0_384, VL (pL1 x0 x3 K) (oL1 x4) (View.ld x6 (Rect.unit ![0, 0, 384] ![1, 2304, 128] inb_S1x2304x1024_S1x2304x128_0_0_384))⟩,
    ⟨Rect.unit ![0, 0, 256] ![1, 2304, 128] inb_S1x2304x1024_S1x2304x128_0_0_256, KNL (qL1 x0) (sL1 x0 x1 x3 x4 K) (View.ld x6 (Rect.unit ![0, 0, 256] ![1, 2304, 128] inb_S1x2304x1024_S1x2304x128_0_0_256))⟩,
    ⟨Rect.unit ![0, 0, 128] ![1, 2304, 128] inb_S1x2304x1024_S1x2304x128_0_0_128, VL (pL0 x0 x3 K) (oL0 x4) (View.ld x6 (Rect.unit ![0, 0, 128] ![1, 2304, 128] inb_S1x2304x1024_S1x2304x128_0_0_128))⟩,
    ⟨Rect.unit ![0, 0, 0] ![1, 2304, 128] inb_S1x2304x1024_S1x2304x128_0_0_0, KNL (qL0 x0) (sL0 x0 x1 x3 x4 K) (View.ld x6 (Rect.unit ![0, 0, 0] ![1, 2304, 128] inb_S1x2304x1024_S1x2304x128_0_0_0))⟩]

/-- The rotary key gradient after the four heads, over the total `a`. -/
def out7L (x0 : Vec Ideal S1x256x768 .bf16) (x1 : Vec Ideal S1x2304x1024 .bf16) (x3 : Vec Ideal S1x256x4 .f32) (x4 : Vec Ideal S1x256x512 .bf16)
    (K : Vec Ideal S4x2304x256 .bf16) (a : Vec Ideal S1x2304x128 .f32) : Vec Ideal S1x2304x128 .f32 :=
  KRL (qL3 x0) (sL3 x0 x1 x3 x4 K) (KRL (qL2 x0) (sL2 x0 x1 x3 x4 K) (KRL (qL1 x0) (sL1 x0 x1 x3 x4 K) (KRL (qL0 x0) (sL0 x0 x1 x3 x4 K) a)))

theorem qL0_fin {q : ℕ → ℕ → ℝ} {x0} (h0 : R1 x0 q) : R2 (qL0 x0) fun r d => qc q 0 r d :=
  qE_qc 0 rfl (h0.ldTo _ fun i j => by simp) (h0.ldTo _ fun i j => by simp)

theorem kL0_fin {kv kp : ℕ → ℕ → ℝ} {K} (hK : R3 K (kc kv kp)) : R1 (kL0 K) fun j d => kc kv kp 0 (0 + j) d :=
  hK.ldTo _ fun i j => by simp

theorem oL0_fin {o : ℕ → ℕ → ℝ} {x4} (h4 : R1 x4 o) : R1 (oL0 x4) fun r e => o r (128 * 0 + e) :=
  h4.ldTo _ fun i j => by simp

theorem pL0_fin {q kv kp l : ℕ → ℕ → ℝ} {x0 x3 K} (h0 : R1 x0 q) (h3 : R1 x3 l) (hK : R3 K (kc kv kp)) :
    R2 (pL0 x0 x3 K) fun r j => pr q kv kp l 0 r (0 + j) :=
  pr_fin_L 0 0 (qL0_fin h0) (kL0_fin hK) (h3.col _)

theorem sL0_fin {q kv kp l o : ℕ → ℕ → ℝ} {x0 x1 x3 x4 K} (h0 : R1 x0 q) (h1 : R1 x1 kv) (h3 : R1 x3 l) (h4 : R1 x4 o) (hK : R3 K (kc kv kp)) : R2 (sL0 x0 x1 x3 x4 K) fun r j => ds 2304 0 q kv kp l o 0 r (0 + j) :=
  ds_fin_L 0 0 (qL0_fin h0) (kL0_fin hK) (h3.col _) (h1.ldTo _ fun i j => by simp) (oL0_fin h4)

theorem qL1_fin {q : ℕ → ℕ → ℝ} {x0} (h0 : R1 x0 q) : R2 (qL1 x0) fun r d => qc q 1 r d :=
  qO_qc 1 rfl (h0.ldTo _ fun i j => by simp) (h0.ldTo _ fun i j => by simp)

theorem kL1_fin {kv kp : ℕ → ℕ → ℝ} {K} (hK : R3 K (kc kv kp)) : R1 (kL1 K) fun j d => kc kv kp 1 (0 + j) d :=
  hK.ldTo _ fun i j => by simp

theorem oL1_fin {o : ℕ → ℕ → ℝ} {x4} (h4 : R1 x4 o) : R1 (oL1 x4) fun r e => o r (128 * 1 + e) :=
  h4.ldTo _ fun i j => by simp

theorem pL1_fin {q kv kp l : ℕ → ℕ → ℝ} {x0 x3 K} (h0 : R1 x0 q) (h3 : R1 x3 l) (hK : R3 K (kc kv kp)) :
    R2 (pL1 x0 x3 K) fun r j => pr q kv kp l 1 r (0 + j) :=
  pr_fin_L 1 0 (qL1_fin h0) (kL1_fin hK) (h3.col _)

theorem sL1_fin {q kv kp l o : ℕ → ℕ → ℝ} {x0 x1 x3 x4 K} (h0 : R1 x0 q) (h1 : R1 x1 kv) (h3 : R1 x3 l) (h4 : R1 x4 o) (hK : R3 K (kc kv kp)) : R2 (sL1 x0 x1 x3 x4 K) fun r j => ds 2304 0 q kv kp l o 1 r (0 + j) :=
  ds_fin_L 1 0 (qL1_fin h0) (kL1_fin hK) (h3.col _) (h1.ldTo _ fun i j => by simp) (oL1_fin h4)

theorem qL2_fin {q : ℕ → ℕ → ℝ} {x0} (h0 : R1 x0 q) : R2 (qL2 x0) fun r d => qc q 2 r d :=
  qE_qc 2 rfl (h0.ldTo _ fun i j => by simp) (h0.ldTo _ fun i j => by simp)

theorem kL2_fin {kv kp : ℕ → ℕ → ℝ} {K} (hK : R3 K (kc kv kp)) : R1 (kL2 K) fun j d => kc kv kp 2 (0 + j) d :=
  hK.ldTo _ fun i j => by simp

theorem oL2_fin {o : ℕ → ℕ → ℝ} {x4} (h4 : R1 x4 o) : R1 (oL2 x4) fun r e => o r (128 * 2 + e) :=
  h4.ldTo _ fun i j => by simp

theorem pL2_fin {q kv kp l : ℕ → ℕ → ℝ} {x0 x3 K} (h0 : R1 x0 q) (h3 : R1 x3 l) (hK : R3 K (kc kv kp)) :
    R2 (pL2 x0 x3 K) fun r j => pr q kv kp l 2 r (0 + j) :=
  pr_fin_L 2 0 (qL2_fin h0) (kL2_fin hK) (h3.col _)

theorem sL2_fin {q kv kp l o : ℕ → ℕ → ℝ} {x0 x1 x3 x4 K} (h0 : R1 x0 q) (h1 : R1 x1 kv) (h3 : R1 x3 l) (h4 : R1 x4 o) (hK : R3 K (kc kv kp)) : R2 (sL2 x0 x1 x3 x4 K) fun r j => ds 2304 0 q kv kp l o 2 r (0 + j) :=
  ds_fin_L 2 0 (qL2_fin h0) (kL2_fin hK) (h3.col _) (h1.ldTo _ fun i j => by simp) (oL2_fin h4)

theorem qL3_fin {q : ℕ → ℕ → ℝ} {x0} (h0 : R1 x0 q) : R2 (qL3 x0) fun r d => qc q 3 r d :=
  qO_qc 3 rfl (h0.ldTo _ fun i j => by simp) (h0.ldTo _ fun i j => by simp)

theorem kL3_fin {kv kp : ℕ → ℕ → ℝ} {K} (hK : R3 K (kc kv kp)) : R1 (kL3 K) fun j d => kc kv kp 3 (0 + j) d :=
  hK.ldTo _ fun i j => by simp

theorem oL3_fin {o : ℕ → ℕ → ℝ} {x4} (h4 : R1 x4 o) : R1 (oL3 x4) fun r e => o r (128 * 3 + e) :=
  h4.ldTo _ fun i j => by simp

theorem pL3_fin {q kv kp l : ℕ → ℕ → ℝ} {x0 x3 K} (h0 : R1 x0 q) (h3 : R1 x3 l) (hK : R3 K (kc kv kp)) :
    R2 (pL3 x0 x3 K) fun r j => pr q kv kp l 3 r (0 + j) :=
  pr_fin_L 3 0 (qL3_fin h0) (kL3_fin hK) (h3.col _)

theorem sL3_fin {q kv kp l o : ℕ → ℕ → ℝ} {x0 x1 x3 x4 K} (h0 : R1 x0 q) (h1 : R1 x1 kv) (h3 : R1 x3 l) (h4 : R1 x4 o) (hK : R3 K (kc kv kp)) : R2 (sL3 x0 x1 x3 x4 K) fun r j => ds 2304 0 q kv kp l o 3 r (0 + j) :=
  ds_fin_L 3 0 (qL3_fin h0) (kL3_fin hK) (h3.col _) (h1.ldTo _ fun i j => by simp) (oL3_fin h4)

/-- The query gradient's stores hold the attention's. -/
theorem out5L_fin {q kv kp l o : ℕ → ℕ → ℝ} {x0 x1 x3 x4 K} (h0 : R1 x0 q) (h1 : R1 x1 kv) (h3 : R1 x3 l) (h4 : R1 x4 o) (hK : R3 K (kc kv kp)) :
    View.PiecesOf (arr (dqv 2304 0 q kv kp l o)) (out5L x0 x1 x3 x4 K) :=
  ⟨piece_of (QRL_fin (kL2_fin hK) (kL3_fin hK) (sL2_fin h0 h1 h3 h4 hK) (sL3_fin h0 h1 h3 h4 hK)) inb_S1x256x768_S1x256x128_0_0_640 (fun i j _ hj => by
      simp only [dqv]
      rw [if_neg (show ¬ 640 + j < 512 by omega), show (640 + j - 512) % 128 = j by omega, Nat.zero_add]
      by_cases hl : j < 64
      · rw [if_pos hl, show (640 + j - 512) / 64 = 2 by omega]
      · rw [if_neg hl, show (640 + j - 512) / 64 = 3 by omega]),
    piece_of (QNL_fin (kL3_fin hK) (sL3_fin h0 h1 h3 h4 hK)) inb_S1x256x768_S1x256x128_0_0_384 (fun i j _ hj => by
      simp only [dqv]
      rw [if_pos (show 384 + j < 512 by omega), show (384 + j) / 128 = 3 by omega, show (384 + j) % 128 = j by omega, Nat.zero_add]),
    piece_of (QNL_fin (kL2_fin hK) (sL2_fin h0 h1 h3 h4 hK)) inb_S1x256x768_S1x256x128_0_0_256 (fun i j _ hj => by
      simp only [dqv]
      rw [if_pos (show 256 + j < 512 by omega), show (256 + j) / 128 = 2 by omega, show (256 + j) % 128 = j by omega, Nat.zero_add]),
    piece_of (QRL_fin (kL0_fin hK) (kL1_fin hK) (sL0_fin h0 h1 h3 h4 hK) (sL1_fin h0 h1 h3 h4 hK)) inb_S1x256x768_S1x256x128_0_0_512 (fun i j _ hj => by
      simp only [dqv]
      rw [if_neg (show ¬ 512 + j < 512 by omega), show (512 + j - 512) % 128 = j by omega, Nat.zero_add]
      by_cases hl : j < 64
      · rw [if_pos hl, show (512 + j - 512) / 64 = 0 by omega]
      · rw [if_neg hl, show (512 + j - 512) / 64 = 1 by omega]),
    piece_of (QNL_fin (kL1_fin hK) (sL1_fin h0 h1 h3 h4 hK)) inb_S1x256x768_S1x256x128_0_0_128 (fun i j _ hj => by
      simp only [dqv]
      rw [if_pos (show 128 + j < 512 by omega), show (128 + j) / 128 = 1 by omega, show (128 + j) % 128 = j by omega, Nat.zero_add]),
    piece_of (QNL_fin (kL0_fin hK) (sL0_fin h0 h1 h3 h4 hK)) inb_S1x256x768_S1x256x128_0_0_0 (fun i j _ hj => by
      simp only [dqv]
      rw [if_pos (show 0 + j < 512 by omega), show (0 + j) / 128 = 0 by omega, show (0 + j) % 128 = j by omega, Nat.zero_add]),
    trivial⟩

/-- The key-value gradient's stores hold the total and the tile's part. -/
theorem out6L_fin {q kv kp l o : ℕ → ℕ → ℝ} {x0 x1 x3 x4 K} {x6} {a6 : ℕ → ℕ → ℝ} (h0 : R1 x0 q) (h1 : R1 x1 kv) (h3 : R1 x3 l) (h4 : R1 x4 o) (hK : R3 K (kc kv kp)) (h6 : R1 x6 a6) :
    View.PiecesOf (arr fun k x => a6 k x + tkv 2304 0 q kv kp l o k x) (out6L x0 x1 x3 x4 K x6) :=
  ⟨piece_of (VL_fin (pL3_fin h0 h3 hK) (oL3_fin h4) (h6.ld inb_S1x2304x1024_S1x2304x128_0_0_896)) inb_S1x2304x1024_S1x2304x128_0_0_896 (fun i j _ hj => by
      simp only [tkv]
      rw [if_neg (by omega), show (896 + j) / 256 = 3 by omega, show (896 + j) % 256 - 128 = j by omega]),
    piece_of (KNL_fin (qL3_fin h0) (sL3_fin h0 h1 h3 h4 hK) (h6.ld inb_S1x2304x1024_S1x2304x128_0_0_768)) inb_S1x2304x1024_S1x2304x128_0_0_768 (fun i j _ hj => by
      simp only [tkv]
      rw [if_pos (by omega), show (768 + j) / 256 = 3 by omega, show (768 + j) % 256 = j by omega]),
    piece_of (VL_fin (pL2_fin h0 h3 hK) (oL2_fin h4) (h6.ld inb_S1x2304x1024_S1x2304x128_0_0_640)) inb_S1x2304x1024_S1x2304x128_0_0_640 (fun i j _ hj => by
      simp only [tkv]
      rw [if_neg (by omega), show (640 + j) / 256 = 2 by omega, show (640 + j) % 256 - 128 = j by omega]),
    piece_of (KNL_fin (qL2_fin h0) (sL2_fin h0 h1 h3 h4 hK) (h6.ld inb_S1x2304x1024_S1x2304x128_0_0_512)) inb_S1x2304x1024_S1x2304x128_0_0_512 (fun i j _ hj => by
      simp only [tkv]
      rw [if_pos (by omega), show (512 + j) / 256 = 2 by omega, show (512 + j) % 256 = j by omega]),
    piece_of (VL_fin (pL1_fin h0 h3 hK) (oL1_fin h4) (h6.ld inb_S1x2304x1024_S1x2304x128_0_0_384)) inb_S1x2304x1024_S1x2304x128_0_0_384 (fun i j _ hj => by
      simp only [tkv]
      rw [if_neg (by omega), show (384 + j) / 256 = 1 by omega, show (384 + j) % 256 - 128 = j by omega]),
    piece_of (KNL_fin (qL1_fin h0) (sL1_fin h0 h1 h3 h4 hK) (h6.ld inb_S1x2304x1024_S1x2304x128_0_0_256)) inb_S1x2304x1024_S1x2304x128_0_0_256 (fun i j _ hj => by
      simp only [tkv]
      rw [if_pos (by omega), show (256 + j) / 256 = 1 by omega, show (256 + j) % 256 = j by omega]),
    piece_of (VL_fin (pL0_fin h0 h3 hK) (oL0_fin h4) (h6.ld inb_S1x2304x1024_S1x2304x128_0_0_128)) inb_S1x2304x1024_S1x2304x128_0_0_128 (fun i j _ hj => by
      simp only [tkv]
      rw [if_neg (by omega), show (128 + j) / 256 = 0 by omega, show (128 + j) % 256 - 128 = j by omega]),
    piece_of (KNL_fin (qL0_fin h0) (sL0_fin h0 h1 h3 h4 hK) (h6.ld inb_S1x2304x1024_S1x2304x128_0_0_0)) inb_S1x2304x1024_S1x2304x128_0_0_0 (fun i j _ hj => by
      simp only [tkv]
      rw [if_pos (by omega), show (0 + j) / 256 = 0 by omega, show (0 + j) % 256 = j by omega]),
    trivial⟩

/-- The rotary key gradient holds the total and the tile's part. -/
theorem out7L_fin {q kv kp l o : ℕ → ℕ → ℝ} {x0 x1 x3 x4 K} {x} {a : ℕ → ℕ → ℝ} (h0 : R1 x0 q) (h1 : R1 x1 kv) (h3 : R1 x3 l) (h4 : R1 x4 o) (hK : R3 K (kc kv kp)) (hx : R1 x a) :
    R1 (out7L x0 x1 x3 x4 K x) fun k d => a k d + tkp 2304 0 q kv kp l o (0 + k) d := by
  intro i j
  refine (KRL_fin (qL3_fin h0) (sL3_fin h0 h1 h3 h4 hK) (KRL_fin (qL2_fin h0) (sL2_fin h0 h1 h3 h4 hK)
    (KRL_fin (qL1_fin h0) (sL1_fin h0 h1 h3 h4 hK) (KRL_fin (qL0_fin h0) (sL0_fin h0 h1 h3 h4 hK) hx))) i j).trans ?_
  simp only [tkp, tk1, add_assoc]

/-! ## 256 keys -/

/-- Head 0's query rows, -/
def qC0 (x0 : Vec Ideal S1x256x768 .bf16) : FVec Ideal S256x256 .bf16 := qE (View.ld x0 (Rect.unit ![0, 0, 512] ![1, 256, 128] inb_S1x256x768_S1x256x128_0_0_512)) (View.ld x0 (Rect.unit ![0, 0, 0] ![1, 256, 128] inb_S1x256x768_S1x256x128_0_0_0))

/-- keys, -/
def kC0 (K : Vec Ideal S4x2304x256 .bf16) : Vec Ideal S1x256x256 .bf16 := (View.ld K (Rect.unit ![0, 2048, 0] ![1, 256, 256] inb_S4x2304x256_S1x256x256_0_2048_0))

/-- output gradients, -/
def oC0 (x4 : Vec Ideal S1x256x512 .bf16) : Vec Ideal S1x256x128 .bf16 := (View.ld x4 (Rect.unit ![0, 0, 0] ![1, 256, 128] inb_S1x256x512_S1x256x128_0_0_0))

/-- weights -/
def pC0 (x0 : Vec Ideal S1x256x768 .bf16) (x3 : Vec Ideal S1x256x4 .f32) (K : Vec Ideal S4x2304x256 .bf16) : FVec Ideal S256x256 .f32 :=
  PC (qC0 x0) (kC0 K) (View.ld x3 (Rect.unit ![0, 0, 0] ![1, 256, 1] inb_S1x256x4_S1x256x1_0_0_0))

/-- and derivatives. -/
def sC0 (x0 : Vec Ideal S1x256x768 .bf16) (x1 : Vec Ideal S1x2304x1024 .bf16) (x3 : Vec Ideal S1x256x4 .f32) (x4 : Vec Ideal S1x256x512 .bf16)
    (K : Vec Ideal S4x2304x256 .bf16) : FVec Ideal S256x256 .f32 :=
  SC (pC0 x0 x3 K) (DC (View.ld x1 (Rect.unit ![0, 2048, 128] ![1, 256, 128] inb_S1x2304x1024_S1x256x128_0_2048_128)) (oC0 x4))

/-- Head 1's query rows, -/
def qC1 (x0 : Vec Ideal S1x256x768 .bf16) : FVec Ideal S256x256 .bf16 := qO (View.ld x0 (Rect.unit ![0, 0, 512] ![1, 256, 128] inb_S1x256x768_S1x256x128_0_0_512)) (View.ld x0 (Rect.unit ![0, 0, 128] ![1, 256, 128] inb_S1x256x768_S1x256x128_0_0_128))

/-- keys, -/
def kC1 (K : Vec Ideal S4x2304x256 .bf16) : Vec Ideal S1x256x256 .bf16 := (View.ld K (Rect.unit ![1, 2048, 0] ![1, 256, 256] inb_S4x2304x256_S1x256x256_1_2048_0))

/-- output gradients, -/
def oC1 (x4 : Vec Ideal S1x256x512 .bf16) : Vec Ideal S1x256x128 .bf16 := (View.ld x4 (Rect.unit ![0, 0, 128] ![1, 256, 128] inb_S1x256x512_S1x256x128_0_0_128))

/-- weights -/
def pC1 (x0 : Vec Ideal S1x256x768 .bf16) (x3 : Vec Ideal S1x256x4 .f32) (K : Vec Ideal S4x2304x256 .bf16) : FVec Ideal S256x256 .f32 :=
  PC (qC1 x0) (kC1 K) (View.ld x3 (Rect.unit ![0, 0, 1] ![1, 256, 1] inb_S1x256x4_S1x256x1_0_0_1))

/-- and derivatives. -/
def sC1 (x0 : Vec Ideal S1x256x768 .bf16) (x1 : Vec Ideal S1x2304x1024 .bf16) (x3 : Vec Ideal S1x256x4 .f32) (x4 : Vec Ideal S1x256x512 .bf16)
    (K : Vec Ideal S4x2304x256 .bf16) : FVec Ideal S256x256 .f32 :=
  SC (pC1 x0 x3 K) (DC (View.ld x1 (Rect.unit ![0, 2048, 384] ![1, 256, 128] inb_S1x2304x1024_S1x256x128_0_2048_384)) (oC1 x4))

/-- Head 2's query rows, -/
def qC2 (x0 : Vec Ideal S1x256x768 .bf16) : FVec Ideal S256x256 .bf16 := qE (View.ld x0 (Rect.unit ![0, 0, 640] ![1, 256, 128] inb_S1x256x768_S1x256x128_0_0_640)) (View.ld x0 (Rect.unit ![0, 0, 256] ![1, 256, 128] inb_S1x256x768_S1x256x128_0_0_256))

/-- keys, -/
def kC2 (K : Vec Ideal S4x2304x256 .bf16) : Vec Ideal S1x256x256 .bf16 := (View.ld K (Rect.unit ![2, 2048, 0] ![1, 256, 256] inb_S4x2304x256_S1x256x256_2_2048_0))

/-- output gradients, -/
def oC2 (x4 : Vec Ideal S1x256x512 .bf16) : Vec Ideal S1x256x128 .bf16 := (View.ld x4 (Rect.unit ![0, 0, 256] ![1, 256, 128] inb_S1x256x512_S1x256x128_0_0_256))

/-- weights -/
def pC2 (x0 : Vec Ideal S1x256x768 .bf16) (x3 : Vec Ideal S1x256x4 .f32) (K : Vec Ideal S4x2304x256 .bf16) : FVec Ideal S256x256 .f32 :=
  PC (qC2 x0) (kC2 K) (View.ld x3 (Rect.unit ![0, 0, 2] ![1, 256, 1] inb_S1x256x4_S1x256x1_0_0_2))

/-- and derivatives. -/
def sC2 (x0 : Vec Ideal S1x256x768 .bf16) (x1 : Vec Ideal S1x2304x1024 .bf16) (x3 : Vec Ideal S1x256x4 .f32) (x4 : Vec Ideal S1x256x512 .bf16)
    (K : Vec Ideal S4x2304x256 .bf16) : FVec Ideal S256x256 .f32 :=
  SC (pC2 x0 x3 K) (DC (View.ld x1 (Rect.unit ![0, 2048, 640] ![1, 256, 128] inb_S1x2304x1024_S1x256x128_0_2048_640)) (oC2 x4))

/-- Head 3's query rows, -/
def qC3 (x0 : Vec Ideal S1x256x768 .bf16) : FVec Ideal S256x256 .bf16 := qO (View.ld x0 (Rect.unit ![0, 0, 640] ![1, 256, 128] inb_S1x256x768_S1x256x128_0_0_640)) (View.ld x0 (Rect.unit ![0, 0, 384] ![1, 256, 128] inb_S1x256x768_S1x256x128_0_0_384))

/-- keys, -/
def kC3 (K : Vec Ideal S4x2304x256 .bf16) : Vec Ideal S1x256x256 .bf16 := (View.ld K (Rect.unit ![3, 2048, 0] ![1, 256, 256] inb_S4x2304x256_S1x256x256_3_2048_0))

/-- output gradients, -/
def oC3 (x4 : Vec Ideal S1x256x512 .bf16) : Vec Ideal S1x256x128 .bf16 := (View.ld x4 (Rect.unit ![0, 0, 384] ![1, 256, 128] inb_S1x256x512_S1x256x128_0_0_384))

/-- weights -/
def pC3 (x0 : Vec Ideal S1x256x768 .bf16) (x3 : Vec Ideal S1x256x4 .f32) (K : Vec Ideal S4x2304x256 .bf16) : FVec Ideal S256x256 .f32 :=
  PC (qC3 x0) (kC3 K) (View.ld x3 (Rect.unit ![0, 0, 3] ![1, 256, 1] inb_S1x256x4_S1x256x1_0_0_3))

/-- and derivatives. -/
def sC3 (x0 : Vec Ideal S1x256x768 .bf16) (x1 : Vec Ideal S1x2304x1024 .bf16) (x3 : Vec Ideal S1x256x4 .f32) (x4 : Vec Ideal S1x256x512 .bf16)
    (K : Vec Ideal S4x2304x256 .bf16) : FVec Ideal S256x256 .f32 :=
  SC (pC3 x0 x3 K) (DC (View.ld x1 (Rect.unit ![0, 2048, 896] ![1, 256, 128] inb_S1x2304x1024_S1x256x128_0_2048_896)) (oC3 x4))

/-- The stores to the query gradient, newest first. -/
def out5C (x0 : Vec Ideal S1x256x768 .bf16) (x1 : Vec Ideal S1x2304x1024 .bf16) (x3 : Vec Ideal S1x256x4 .f32) (x4 : Vec Ideal S1x256x512 .bf16)
    (K : Vec Ideal S4x2304x256 .bf16) : List (View.Piece (Elt Ideal) S1x256x768 .f32) :=
  [⟨Rect.unit ![0, 0, 640] ![1, 256, 128] inb_S1x256x768_S1x256x128_0_0_640, QRC (kC2 K) (kC3 K) (sC2 x0 x1 x3 x4 K) (sC3 x0 x1 x3 x4 K)⟩,
    ⟨Rect.unit ![0, 0, 384] ![1, 256, 128] inb_S1x256x768_S1x256x128_0_0_384, QNC (kC3 K) (sC3 x0 x1 x3 x4 K)⟩,
    ⟨Rect.unit ![0, 0, 256] ![1, 256, 128] inb_S1x256x768_S1x256x128_0_0_256, QNC (kC2 K) (sC2 x0 x1 x3 x4 K)⟩,
    ⟨Rect.unit ![0, 0, 512] ![1, 256, 128] inb_S1x256x768_S1x256x128_0_0_512, QRC (kC0 K) (kC1 K) (sC0 x0 x1 x3 x4 K) (sC1 x0 x1 x3 x4 K)⟩,
    ⟨Rect.unit ![0, 0, 128] ![1, 256, 128] inb_S1x256x768_S1x256x128_0_0_128, QNC (kC1 K) (sC1 x0 x1 x3 x4 K)⟩,
    ⟨Rect.unit ![0, 0, 0] ![1, 256, 128] inb_S1x256x768_S1x256x128_0_0_0, QNC (kC0 K) (sC0 x0 x1 x3 x4 K)⟩]

/-- The stores to the key-value gradient, over the total `x6`. -/
def out6C (x0 : Vec Ideal S1x256x768 .bf16) (x1 : Vec Ideal S1x2304x1024 .bf16) (x3 : Vec Ideal S1x256x4 .f32) (x4 : Vec Ideal S1x256x512 .bf16)
    (K : Vec Ideal S4x2304x256 .bf16) (x6 : Vec Ideal S1x2304x1024 .f32) : List (View.Piece (Elt Ideal) S1x2304x1024 .f32) :=
  [⟨Rect.unit ![0, 2048, 896] ![1, 256, 128] inb_S1x2304x1024_S1x256x128_0_2048_896, VC (pC3 x0 x3 K) (oC3 x4) (View.ld x6 (Rect.unit ![0, 2048, 896] ![1, 256, 128] inb_S1x2304x1024_S1x256x128_0_2048_896))⟩,
    ⟨Rect.unit ![0, 2048, 768] ![1, 256, 128] inb_S1x2304x1024_S1x256x128_0_2048_768, KNC (qC3 x0) (sC3 x0 x1 x3 x4 K) (View.ld x6 (Rect.unit ![0, 2048, 768] ![1, 256, 128] inb_S1x2304x1024_S1x256x128_0_2048_768))⟩,
    ⟨Rect.unit ![0, 2048, 640] ![1, 256, 128] inb_S1x2304x1024_S1x256x128_0_2048_640, VC (pC2 x0 x3 K) (oC2 x4) (View.ld x6 (Rect.unit ![0, 2048, 640] ![1, 256, 128] inb_S1x2304x1024_S1x256x128_0_2048_640))⟩,
    ⟨Rect.unit ![0, 2048, 512] ![1, 256, 128] inb_S1x2304x1024_S1x256x128_0_2048_512, KNC (qC2 x0) (sC2 x0 x1 x3 x4 K) (View.ld x6 (Rect.unit ![0, 2048, 512] ![1, 256, 128] inb_S1x2304x1024_S1x256x128_0_2048_512))⟩,
    ⟨Rect.unit ![0, 2048, 384] ![1, 256, 128] inb_S1x2304x1024_S1x256x128_0_2048_384, VC (pC1 x0 x3 K) (oC1 x4) (View.ld x6 (Rect.unit ![0, 2048, 384] ![1, 256, 128] inb_S1x2304x1024_S1x256x128_0_2048_384))⟩,
    ⟨Rect.unit ![0, 2048, 256] ![1, 256, 128] inb_S1x2304x1024_S1x256x128_0_2048_256, KNC (qC1 x0) (sC1 x0 x1 x3 x4 K) (View.ld x6 (Rect.unit ![0, 2048, 256] ![1, 256, 128] inb_S1x2304x1024_S1x256x128_0_2048_256))⟩,
    ⟨Rect.unit ![0, 2048, 128] ![1, 256, 128] inb_S1x2304x1024_S1x256x128_0_2048_128, VC (pC0 x0 x3 K) (oC0 x4) (View.ld x6 (Rect.unit ![0, 2048, 128] ![1, 256, 128] inb_S1x2304x1024_S1x256x128_0_2048_128))⟩,
    ⟨Rect.unit ![0, 2048, 0] ![1, 256, 128] inb_S1x2304x1024_S1x256x128_0_2048_0, KNC (qC0 x0) (sC0 x0 x1 x3 x4 K) (View.ld x6 (Rect.unit ![0, 2048, 0] ![1, 256, 128] inb_S1x2304x1024_S1x256x128_0_2048_0))⟩]

/-- The rotary key gradient after the four heads, over the total `a`. -/
def out7C (x0 : Vec Ideal S1x256x768 .bf16) (x1 : Vec Ideal S1x2304x1024 .bf16) (x3 : Vec Ideal S1x256x4 .f32) (x4 : Vec Ideal S1x256x512 .bf16)
    (K : Vec Ideal S4x2304x256 .bf16) (a : Vec Ideal S1x256x128 .f32) : Vec Ideal S1x256x128 .f32 :=
  KRC (qC3 x0) (sC3 x0 x1 x3 x4 K) (KRC (qC2 x0) (sC2 x0 x1 x3 x4 K) (KRC (qC1 x0) (sC1 x0 x1 x3 x4 K) (KRC (qC0 x0) (sC0 x0 x1 x3 x4 K) a)))

theorem qC0_fin {q : ℕ → ℕ → ℝ} {x0} (h0 : R1 x0 q) : R2 (qC0 x0) fun r d => qc q 0 r d :=
  qE_qc 0 rfl (h0.ldTo _ fun i j => by simp) (h0.ldTo _ fun i j => by simp)

theorem kC0_fin {kv kp : ℕ → ℕ → ℝ} {K} (hK : R3 K (kc kv kp)) : R1 (kC0 K) fun j d => kc kv kp 0 (2048 + j) d :=
  hK.ldTo _ fun i j => by simp

theorem oC0_fin {o : ℕ → ℕ → ℝ} {x4} (h4 : R1 x4 o) : R1 (oC0 x4) fun r e => o r (128 * 0 + e) :=
  h4.ldTo _ fun i j => by simp

theorem pC0_fin {q kv kp l : ℕ → ℕ → ℝ} {x0 x3 K} (h0 : R1 x0 q) (h3 : R1 x3 l) (hK : R3 K (kc kv kp)) :
    R2 (pC0 x0 x3 K) fun r j => pr q kv kp l 0 r (2048 + j) :=
  pr_fin_C 0 2048 (qC0_fin h0) (kC0_fin hK) (h3.col _)

theorem sC0_fin {q kv kp l o : ℕ → ℕ → ℝ} {x0 x1 x3 x4 K} (h0 : R1 x0 q) (h1 : R1 x1 kv) (h3 : R1 x3 l) (h4 : R1 x4 o) (hK : R3 K (kc kv kp)) : R2 (sC0 x0 x1 x3 x4 K) fun r j => ds 256 2048 q kv kp l o 0 r (2048 + j) :=
  ds_fin_C 0 2048 (qC0_fin h0) (kC0_fin hK) (h3.col _) (h1.ldTo _ fun i j => by simp) (oC0_fin h4)

theorem qC1_fin {q : ℕ → ℕ → ℝ} {x0} (h0 : R1 x0 q) : R2 (qC1 x0) fun r d => qc q 1 r d :=
  qO_qc 1 rfl (h0.ldTo _ fun i j => by simp) (h0.ldTo _ fun i j => by simp)

theorem kC1_fin {kv kp : ℕ → ℕ → ℝ} {K} (hK : R3 K (kc kv kp)) : R1 (kC1 K) fun j d => kc kv kp 1 (2048 + j) d :=
  hK.ldTo _ fun i j => by simp

theorem oC1_fin {o : ℕ → ℕ → ℝ} {x4} (h4 : R1 x4 o) : R1 (oC1 x4) fun r e => o r (128 * 1 + e) :=
  h4.ldTo _ fun i j => by simp

theorem pC1_fin {q kv kp l : ℕ → ℕ → ℝ} {x0 x3 K} (h0 : R1 x0 q) (h3 : R1 x3 l) (hK : R3 K (kc kv kp)) :
    R2 (pC1 x0 x3 K) fun r j => pr q kv kp l 1 r (2048 + j) :=
  pr_fin_C 1 2048 (qC1_fin h0) (kC1_fin hK) (h3.col _)

theorem sC1_fin {q kv kp l o : ℕ → ℕ → ℝ} {x0 x1 x3 x4 K} (h0 : R1 x0 q) (h1 : R1 x1 kv) (h3 : R1 x3 l) (h4 : R1 x4 o) (hK : R3 K (kc kv kp)) : R2 (sC1 x0 x1 x3 x4 K) fun r j => ds 256 2048 q kv kp l o 1 r (2048 + j) :=
  ds_fin_C 1 2048 (qC1_fin h0) (kC1_fin hK) (h3.col _) (h1.ldTo _ fun i j => by simp) (oC1_fin h4)

theorem qC2_fin {q : ℕ → ℕ → ℝ} {x0} (h0 : R1 x0 q) : R2 (qC2 x0) fun r d => qc q 2 r d :=
  qE_qc 2 rfl (h0.ldTo _ fun i j => by simp) (h0.ldTo _ fun i j => by simp)

theorem kC2_fin {kv kp : ℕ → ℕ → ℝ} {K} (hK : R3 K (kc kv kp)) : R1 (kC2 K) fun j d => kc kv kp 2 (2048 + j) d :=
  hK.ldTo _ fun i j => by simp

theorem oC2_fin {o : ℕ → ℕ → ℝ} {x4} (h4 : R1 x4 o) : R1 (oC2 x4) fun r e => o r (128 * 2 + e) :=
  h4.ldTo _ fun i j => by simp

theorem pC2_fin {q kv kp l : ℕ → ℕ → ℝ} {x0 x3 K} (h0 : R1 x0 q) (h3 : R1 x3 l) (hK : R3 K (kc kv kp)) :
    R2 (pC2 x0 x3 K) fun r j => pr q kv kp l 2 r (2048 + j) :=
  pr_fin_C 2 2048 (qC2_fin h0) (kC2_fin hK) (h3.col _)

theorem sC2_fin {q kv kp l o : ℕ → ℕ → ℝ} {x0 x1 x3 x4 K} (h0 : R1 x0 q) (h1 : R1 x1 kv) (h3 : R1 x3 l) (h4 : R1 x4 o) (hK : R3 K (kc kv kp)) : R2 (sC2 x0 x1 x3 x4 K) fun r j => ds 256 2048 q kv kp l o 2 r (2048 + j) :=
  ds_fin_C 2 2048 (qC2_fin h0) (kC2_fin hK) (h3.col _) (h1.ldTo _ fun i j => by simp) (oC2_fin h4)

theorem qC3_fin {q : ℕ → ℕ → ℝ} {x0} (h0 : R1 x0 q) : R2 (qC3 x0) fun r d => qc q 3 r d :=
  qO_qc 3 rfl (h0.ldTo _ fun i j => by simp) (h0.ldTo _ fun i j => by simp)

theorem kC3_fin {kv kp : ℕ → ℕ → ℝ} {K} (hK : R3 K (kc kv kp)) : R1 (kC3 K) fun j d => kc kv kp 3 (2048 + j) d :=
  hK.ldTo _ fun i j => by simp

theorem oC3_fin {o : ℕ → ℕ → ℝ} {x4} (h4 : R1 x4 o) : R1 (oC3 x4) fun r e => o r (128 * 3 + e) :=
  h4.ldTo _ fun i j => by simp

theorem pC3_fin {q kv kp l : ℕ → ℕ → ℝ} {x0 x3 K} (h0 : R1 x0 q) (h3 : R1 x3 l) (hK : R3 K (kc kv kp)) :
    R2 (pC3 x0 x3 K) fun r j => pr q kv kp l 3 r (2048 + j) :=
  pr_fin_C 3 2048 (qC3_fin h0) (kC3_fin hK) (h3.col _)

theorem sC3_fin {q kv kp l o : ℕ → ℕ → ℝ} {x0 x1 x3 x4 K} (h0 : R1 x0 q) (h1 : R1 x1 kv) (h3 : R1 x3 l) (h4 : R1 x4 o) (hK : R3 K (kc kv kp)) : R2 (sC3 x0 x1 x3 x4 K) fun r j => ds 256 2048 q kv kp l o 3 r (2048 + j) :=
  ds_fin_C 3 2048 (qC3_fin h0) (kC3_fin hK) (h3.col _) (h1.ldTo _ fun i j => by simp) (oC3_fin h4)

/-- The query gradient's stores hold the attention's. -/
theorem out5C_fin {q kv kp l o : ℕ → ℕ → ℝ} {x0 x1 x3 x4 K} (h0 : R1 x0 q) (h1 : R1 x1 kv) (h3 : R1 x3 l) (h4 : R1 x4 o) (hK : R3 K (kc kv kp)) :
    View.PiecesOf (arr (dqv 256 2048 q kv kp l o)) (out5C x0 x1 x3 x4 K) :=
  ⟨piece_of (QRC_fin (kC2_fin hK) (kC3_fin hK) (sC2_fin h0 h1 h3 h4 hK) (sC3_fin h0 h1 h3 h4 hK)) inb_S1x256x768_S1x256x128_0_0_640 (fun i j _ hj => by
      simp only [dqv]
      rw [if_neg (show ¬ 640 + j < 512 by omega), show (640 + j - 512) % 128 = j by omega, Nat.zero_add]
      by_cases hl : j < 64
      · rw [if_pos hl, show (640 + j - 512) / 64 = 2 by omega]
      · rw [if_neg hl, show (640 + j - 512) / 64 = 3 by omega]),
    piece_of (QNC_fin (kC3_fin hK) (sC3_fin h0 h1 h3 h4 hK)) inb_S1x256x768_S1x256x128_0_0_384 (fun i j _ hj => by
      simp only [dqv]
      rw [if_pos (show 384 + j < 512 by omega), show (384 + j) / 128 = 3 by omega, show (384 + j) % 128 = j by omega, Nat.zero_add]),
    piece_of (QNC_fin (kC2_fin hK) (sC2_fin h0 h1 h3 h4 hK)) inb_S1x256x768_S1x256x128_0_0_256 (fun i j _ hj => by
      simp only [dqv]
      rw [if_pos (show 256 + j < 512 by omega), show (256 + j) / 128 = 2 by omega, show (256 + j) % 128 = j by omega, Nat.zero_add]),
    piece_of (QRC_fin (kC0_fin hK) (kC1_fin hK) (sC0_fin h0 h1 h3 h4 hK) (sC1_fin h0 h1 h3 h4 hK)) inb_S1x256x768_S1x256x128_0_0_512 (fun i j _ hj => by
      simp only [dqv]
      rw [if_neg (show ¬ 512 + j < 512 by omega), show (512 + j - 512) % 128 = j by omega, Nat.zero_add]
      by_cases hl : j < 64
      · rw [if_pos hl, show (512 + j - 512) / 64 = 0 by omega]
      · rw [if_neg hl, show (512 + j - 512) / 64 = 1 by omega]),
    piece_of (QNC_fin (kC1_fin hK) (sC1_fin h0 h1 h3 h4 hK)) inb_S1x256x768_S1x256x128_0_0_128 (fun i j _ hj => by
      simp only [dqv]
      rw [if_pos (show 128 + j < 512 by omega), show (128 + j) / 128 = 1 by omega, show (128 + j) % 128 = j by omega, Nat.zero_add]),
    piece_of (QNC_fin (kC0_fin hK) (sC0_fin h0 h1 h3 h4 hK)) inb_S1x256x768_S1x256x128_0_0_0 (fun i j _ hj => by
      simp only [dqv]
      rw [if_pos (show 0 + j < 512 by omega), show (0 + j) / 128 = 0 by omega, show (0 + j) % 128 = j by omega, Nat.zero_add]),
    trivial⟩

/-- The key-value gradient's stores hold the total and the tile's part. -/
theorem out6C_fin {q kv kp l o : ℕ → ℕ → ℝ} {x0 x1 x3 x4 K} {x6} {a6 : ℕ → ℕ → ℝ} (h0 : R1 x0 q) (h1 : R1 x1 kv) (h3 : R1 x3 l) (h4 : R1 x4 o) (hK : R3 K (kc kv kp)) (h6 : R1 x6 a6) :
    View.PiecesOf (arr fun k x => a6 k x + tkv 256 2048 q kv kp l o k x) (out6C x0 x1 x3 x4 K x6) :=
  ⟨piece_of (VC_fin (pC3_fin h0 h3 hK) (oC3_fin h4) (h6.ld inb_S1x2304x1024_S1x256x128_0_2048_896)) inb_S1x2304x1024_S1x256x128_0_2048_896 (fun i j _ hj => by
      simp only [tkv]
      rw [if_neg (by omega), show (896 + j) / 256 = 3 by omega, show (896 + j) % 256 - 128 = j by omega]),
    piece_of (KNC_fin (qC3_fin h0) (sC3_fin h0 h1 h3 h4 hK) (h6.ld inb_S1x2304x1024_S1x256x128_0_2048_768)) inb_S1x2304x1024_S1x256x128_0_2048_768 (fun i j _ hj => by
      simp only [tkv]
      rw [if_pos (by omega), show (768 + j) / 256 = 3 by omega, show (768 + j) % 256 = j by omega]),
    piece_of (VC_fin (pC2_fin h0 h3 hK) (oC2_fin h4) (h6.ld inb_S1x2304x1024_S1x256x128_0_2048_640)) inb_S1x2304x1024_S1x256x128_0_2048_640 (fun i j _ hj => by
      simp only [tkv]
      rw [if_neg (by omega), show (640 + j) / 256 = 2 by omega, show (640 + j) % 256 - 128 = j by omega]),
    piece_of (KNC_fin (qC2_fin h0) (sC2_fin h0 h1 h3 h4 hK) (h6.ld inb_S1x2304x1024_S1x256x128_0_2048_512)) inb_S1x2304x1024_S1x256x128_0_2048_512 (fun i j _ hj => by
      simp only [tkv]
      rw [if_pos (by omega), show (512 + j) / 256 = 2 by omega, show (512 + j) % 256 = j by omega]),
    piece_of (VC_fin (pC1_fin h0 h3 hK) (oC1_fin h4) (h6.ld inb_S1x2304x1024_S1x256x128_0_2048_384)) inb_S1x2304x1024_S1x256x128_0_2048_384 (fun i j _ hj => by
      simp only [tkv]
      rw [if_neg (by omega), show (384 + j) / 256 = 1 by omega, show (384 + j) % 256 - 128 = j by omega]),
    piece_of (KNC_fin (qC1_fin h0) (sC1_fin h0 h1 h3 h4 hK) (h6.ld inb_S1x2304x1024_S1x256x128_0_2048_256)) inb_S1x2304x1024_S1x256x128_0_2048_256 (fun i j _ hj => by
      simp only [tkv]
      rw [if_pos (by omega), show (256 + j) / 256 = 1 by omega, show (256 + j) % 256 = j by omega]),
    piece_of (VC_fin (pC0_fin h0 h3 hK) (oC0_fin h4) (h6.ld inb_S1x2304x1024_S1x256x128_0_2048_128)) inb_S1x2304x1024_S1x256x128_0_2048_128 (fun i j _ hj => by
      simp only [tkv]
      rw [if_neg (by omega), show (128 + j) / 256 = 0 by omega, show (128 + j) % 256 - 128 = j by omega]),
    piece_of (KNC_fin (qC0_fin h0) (sC0_fin h0 h1 h3 h4 hK) (h6.ld inb_S1x2304x1024_S1x256x128_0_2048_0)) inb_S1x2304x1024_S1x256x128_0_2048_0 (fun i j _ hj => by
      simp only [tkv]
      rw [if_pos (by omega), show (0 + j) / 256 = 0 by omega, show (0 + j) % 256 = j by omega]),
    trivial⟩

/-- The rotary key gradient holds the total and the tile's part. -/
theorem out7C_fin {q kv kp l o : ℕ → ℕ → ℝ} {x0 x1 x3 x4 K} {x} {a : ℕ → ℕ → ℝ} (h0 : R1 x0 q) (h1 : R1 x1 kv) (h3 : R1 x3 l) (h4 : R1 x4 o) (hK : R3 K (kc kv kp)) (hx : R1 x a) :
    R1 (out7C x0 x1 x3 x4 K x) fun k d => a k d + tkp 256 2048 q kv kp l o (2048 + k) d := by
  intro i j
  refine (KRC_fin (qC3_fin h0) (sC3_fin h0 h1 h3 h4 hK) (KRC_fin (qC2_fin h0) (sC2_fin h0 h1 h3 h4 hK)
    (KRC_fin (qC1_fin h0) (sC1_fin h0 h1 h3 h4 hK) (KRC_fin (qC0_fin h0) (sC0_fin h0 h1 h3 h4 hK) hx))) i j).trans ?_
  simp only [tkp, tk1, add_assoc]

end Cert.KernelIdeal.Head
-- ==== Proof.Point.lean ====
/-
  What one grid point leaves: the first tile of a batch, one of the seven after it, and the context rows' tile.
-/
module
public import proofs.«01_k».proof.Proof.Tile
@[expose] public section
set_option maxRecDepth 16384
noncomputable section
namespace Cert.KernelIdeal.Head
open Cert.KernelIdeal Cert.KernelIdeal.Gen Cert.Attn Idealize.ShloMosaic Idealize.ShloMosaic.TcCoe Idealize.SL.Sem

/-- An index lies in a block when its two coordinates do. -/
theorem mem_block {K M N k m n a b : ℕ} (inb : ∀ i, (![k, a, b] : Fin 3 → ℕ) i + (![1, m, n] : Fin 3 → ℕ) i ≤ (⟨3, ![K, M, N]⟩ : Shape).size i)
    (z : Fin K) (i : Fin M) (j : Fin N) (hz : z.val = k) (hi : a ≤ i.val ∧ i.val < a + m) (hj : b ≤ j.val ∧ j.val < b + n) :
    (ix3 z i j : (⟨3, ![K, M, N]⟩ : Shape).Idx) ∈ (Rect.unit (s := ⟨3, ![K, M, N]⟩) ![k, a, b] ![1, m, n] inb).set := by
  rw [Rect.mem_set_unit]
  intro d
  fin_cases d
  · exact ⟨hz.ge, by show z.val < k + 1; omega⟩
  · exact hi
  · exact hj

/-- and is out of one when its row is. -/
theorem not_mem_block {K M N k m n a b : ℕ} (inb : ∀ i, (![k, a, b] : Fin 3 → ℕ) i + (![1, m, n] : Fin 3 → ℕ) i ≤ (⟨3, ![K, M, N]⟩ : Shape).size i)
    (z : Fin K) (i : Fin M) (j : Fin N) (hi : i.val < a) :
    (ix3 z i j : (⟨3, ![K, M, N]⟩ : Shape).Idx) ∉ (Rect.unit (s := ⟨3, ![K, M, N]⟩) ![k, a, b] ![1, m, n] inb).set := by
  rw [Rect.mem_set_unit]
  intro h
  exact absurd (h 1).1 (not_le.2 hi)

/-- A read of earlier stores, as a block of what they left. -/
theorem readCov_block {S : Shape} {e : EltTy} (v : View sig .tc .vmem S e) (L : List (View.Piece (Elt Ideal) S e)) (r : Rect S) :
    v.readCov L r.toLoadRect = View.ld (View.canon L) r := View.readCov_eq_canon' v L r.toLoadRect

theorem cover5L (x0 x1 x3 x4 K) (i : Fin 256) (j : Fin 768) : ∃ p ∈ out5L x0 x1 x3 x4 K, (ix3 0 i j : S1x256x768.Idx) ∈ p.1.set := by
  have hi := i.2
  have hj := j.2
  have h : j.val / 128 = 0 ∨ j.val / 128 = 1 ∨ j.val / 128 = 2 ∨ j.val / 128 = 3 ∨ j.val / 128 = 4 ∨ j.val / 128 = 5 := by omega
  rcases h with h | h | h | h | h | h
  · exact ⟨_, (List.Mem.tail _ (List.Mem.tail _ (List.Mem.tail _ (List.Mem.tail _ (List.Mem.tail _ (List.Mem.head _)))))), mem_block inb_S1x256x768_S1x256x128_0_0_0 _ _ _ rfl (by omega) (by omega)⟩
  · exact ⟨_, (List.Mem.tail _ (List.Mem.tail _ (List.Mem.tail _ (List.Mem.tail _ (List.Mem.head _))))), mem_block inb_S1x256x768_S1x256x128_0_0_128 _ _ _ rfl (by omega) (by omega)⟩
  · exact ⟨_, (List.Mem.tail _ (List.Mem.tail _ (List.Mem.head _))), mem_block inb_S1x256x768_S1x256x128_0_0_256 _ _ _ rfl (by omega) (by omega)⟩
  · exact ⟨_, (List.Mem.tail _ (List.Mem.head _)), mem_block inb_S1x256x768_S1x256x128_0_0_384 _ _ _ rfl (by omega) (by omega)⟩
  · exact ⟨_, (List.Mem.tail _ (List.Mem.tail _ (List.Mem.tail _ (List.Mem.head _)))), mem_block inb_S1x256x768_S1x256x128_0_0_512 _ _ _ rfl (by omega) (by omega)⟩
  · exact ⟨_, (List.Mem.head _), mem_block inb_S1x256x768_S1x256x128_0_0_640 _ _ _ rfl (by omega) (by omega)⟩

theorem cover6L (x0 x1 x3 x4 K x6) (i : Fin 2304) (j : Fin 1024) : ∃ p ∈ out6L x0 x1 x3 x4 K x6, (ix3 0 i j : S1x2304x1024.Idx) ∈ p.1.set := by
  have hi' := i.2
  have hj := j.2
  have h : j.val / 128 = 0 ∨ j.val / 128 = 1 ∨ j.val / 128 = 2 ∨ j.val / 128 = 3 ∨ j.val / 128 = 4 ∨ j.val / 128 = 5 ∨ j.val / 128 = 6 ∨ j.val / 128 = 7 := by omega
  rcases h with h | h | h | h | h | h | h | h
  · exact ⟨_, (List.Mem.tail _ (List.Mem.tail _ (List.Mem.tail _ (List.Mem.tail _ (List.Mem.tail _ (List.Mem.tail _ (List.Mem.tail _ (List.Mem.head _)))))))), mem_block inb_S1x2304x1024_S1x2304x128_0_0_0 _ _ _ rfl (by omega) (by omega)⟩
  · exact ⟨_, (List.Mem.tail _ (List.Mem.tail _ (List.Mem.tail _ (List.Mem.tail _ (List.Mem.tail _ (List.Mem.tail _ (List.Mem.head _))))))), mem_block inb_S1x2304x1024_S1x2304x128_0_0_128 _ _ _ rfl (by omega) (by omega)⟩
  · exact ⟨_, (List.Mem.tail _ (List.Mem.tail _ (List.Mem.tail _ (List.Mem.tail _ (List.Mem.tail _ (List.Mem.head _)))))), mem_block inb_S1x2304x1024_S1x2304x128_0_0_256 _ _ _ rfl (by omega) (by omega)⟩
  · exact ⟨_, (List.Mem.tail _ (List.Mem.tail _ (List.Mem.tail _ (List.Mem.tail _ (List.Mem.head _))))), mem_block inb_S1x2304x1024_S1x2304x128_0_0_384 _ _ _ rfl (by omega) (by omega)⟩
  · exact ⟨_, (List.Mem.tail _ (List.Mem.tail _ (List.Mem.tail _ (List.Mem.head _)))), mem_block inb_S1x2304x1024_S1x2304x128_0_0_512 _ _ _ rfl (by omega) (by omega)⟩
  · exact ⟨_, (List.Mem.tail _ (List.Mem.tail _ (List.Mem.head _))), mem_block inb_S1x2304x1024_S1x2304x128_0_0_640 _ _ _ rfl (by omega) (by omega)⟩
  · exact ⟨_, (List.Mem.tail _ (List.Mem.head _)), mem_block inb_S1x2304x1024_S1x2304x128_0_0_768 _ _ _ rfl (by omega) (by omega)⟩
  · exact ⟨_, (List.Mem.head _), mem_block inb_S1x2304x1024_S1x2304x128_0_0_896 _ _ _ rfl (by omega) (by omega)⟩

theorem cover5C (x0 x1 x3 x4 K) (i : Fin 256) (j : Fin 768) : ∃ p ∈ out5C x0 x1 x3 x4 K, (ix3 0 i j : S1x256x768.Idx) ∈ p.1.set := by
  have hi := i.2
  have hj := j.2
  have h : j.val / 128 = 0 ∨ j.val / 128 = 1 ∨ j.val / 128 = 2 ∨ j.val / 128 = 3 ∨ j.val / 128 = 4 ∨ j.val / 128 = 5 := by omega
  rcases h with h | h | h | h | h | h
  · exact ⟨_, (List.Mem.tail _ (List.Mem.tail _ (List.Mem.tail _ (List.Mem.tail _ (List.Mem.tail _ (List.Mem.head _)))))), mem_block inb_S1x256x768_S1x256x128_0_0_0 _ _ _ rfl (by omega) (by omega)⟩
  · exact ⟨_, (List.Mem.tail _ (List.Mem.tail _ (List.Mem.tail _ (List.Mem.tail _ (List.Mem.head _))))), mem_block inb_S1x256x768_S1x256x128_0_0_128 _ _ _ rfl (by omega) (by omega)⟩
  · exact ⟨_, (List.Mem.tail _ (List.Mem.tail _ (List.Mem.head _))), mem_block inb_S1x256x768_S1x256x128_0_0_256 _ _ _ rfl (by omega) (by omega)⟩
  · exact ⟨_, (List.Mem.tail _ (List.Mem.head _)), mem_block inb_S1x256x768_S1x256x128_0_0_384 _ _ _ rfl (by omega) (by omega)⟩
  · exact ⟨_, (List.Mem.tail _ (List.Mem.tail _ (List.Mem.tail _ (List.Mem.head _)))), mem_block inb_S1x256x768_S1x256x128_0_0_512 _ _ _ rfl (by omega) (by omega)⟩
  · exact ⟨_, (List.Mem.head _), mem_block inb_S1x256x768_S1x256x128_0_0_640 _ _ _ rfl (by omega) (by omega)⟩

theorem cover6C (x0 x1 x3 x4 K x6) (i : Fin 2304) (j : Fin 1024) (hi : 2048 ≤ i.val) : ∃ p ∈ out6C x0 x1 x3 x4 K x6, (ix3 0 i j : S1x2304x1024.Idx) ∈ p.1.set := by
  have hi' := i.2
  have hj := j.2
  have h : j.val / 128 = 0 ∨ j.val / 128 = 1 ∨ j.val / 128 = 2 ∨ j.val / 128 = 3 ∨ j.val / 128 = 4 ∨ j.val / 128 = 5 ∨ j.val / 128 = 6 ∨ j.val / 128 = 7 := by omega
  rcases h with h | h | h | h | h | h | h | h
  · exact ⟨_, (List.Mem.tail _ (List.Mem.tail _ (List.Mem.tail _ (List.Mem.tail _ (List.Mem.tail _ (List.Mem.tail _ (List.Mem.tail _ (List.Mem.head _)))))))), mem_block inb_S1x2304x1024_S1x256x128_0_2048_0 _ _ _ rfl (by omega) (by omega)⟩
  · exact ⟨_, (List.Mem.tail _ (List.Mem.tail _ (List.Mem.tail _ (List.Mem.tail _ (List.Mem.tail _ (List.Mem.tail _ (List.Mem.head _))))))), mem_block inb_S1x2304x1024_S1x256x128_0_2048_128 _ _ _ rfl (by omega) (by omega)⟩
  · exact ⟨_, (List.Mem.tail _ (List.Mem.tail _ (List.Mem.tail _ (List.Mem.tail _ (List.Mem.tail _ (List.Mem.head _)))))), mem_block inb_S1x2304x1024_S1x256x128_0_2048_256 _ _ _ rfl (by omega) (by omega)⟩
  · exact ⟨_, (List.Mem.tail _ (List.Mem.tail _ (List.Mem.tail _ (List.Mem.tail _ (List.Mem.head _))))), mem_block inb_S1x2304x1024_S1x256x128_0_2048_384 _ _ _ rfl (by omega) (by omega)⟩
  · exact ⟨_, (List.Mem.tail _ (List.Mem.tail _ (List.Mem.tail _ (List.Mem.head _)))), mem_block inb_S1x2304x1024_S1x256x128_0_2048_512 _ _ _ rfl (by omega) (by omega)⟩
  · exact ⟨_, (List.Mem.tail _ (List.Mem.tail _ (List.Mem.head _))), mem_block inb_S1x2304x1024_S1x256x128_0_2048_640 _ _ _ rfl (by omega) (by omega)⟩
  · exact ⟨_, (List.Mem.tail _ (List.Mem.head _)), mem_block inb_S1x2304x1024_S1x256x128_0_2048_768 _ _ _ rfl (by omega) (by omega)⟩
  · exact ⟨_, (List.Mem.head _), mem_block inb_S1x2304x1024_S1x256x128_0_2048_896 _ _ _ rfl (by omega) (by omega)⟩

/-- The key table's stores, newest first. -/
def scratch (x1 : Vec Ideal S1x2304x1024 .bf16) (x2 : Vec Ideal S1x2304x128 .bf16) : List (View.Piece (Elt Ideal) S4x2304x256 .bf16) :=
  [⟨Rect.unit ![3, 0, 128] ![1, 2304, 128] inb_S4x2304x256_S1x2304x128_3_0_128, k0_pay1 (k0_pay8 x2) (iota Kind.tc S1x128 32 [1] iota_S1x128_d1_w32)⟩,
    ⟨Rect.unit ![3, 0, 0] ![1, 2304, 128] inb_S4x2304x256_S1x2304x128_3_0_0, k0_pay16 (View.ld x1 (Rect.unit ![0, 0, 768] ![1, 2304, 128] inb_S1x2304x1024_S1x2304x128_0_0_768))⟩,
    ⟨Rect.unit ![2, 0, 128] ![1, 2304, 128] inb_S4x2304x256_S1x2304x128_2_0_128, k0_pay15 (k0_pay8 x2)⟩,
    ⟨Rect.unit ![2, 0, 0] ![1, 2304, 128] inb_S4x2304x256_S1x2304x128_2_0_0, k0_pay14 (View.ld x1 (Rect.unit ![0, 0, 512] ![1, 2304, 128] inb_S1x2304x1024_S1x2304x128_0_0_512))⟩,
    ⟨Rect.unit ![1, 0, 128] ![1, 2304, 128] inb_S4x2304x256_S1x2304x128_1_0_128, k0_pay13 (k0_pay8 x2)⟩,
    ⟨Rect.unit ![1, 0, 0] ![1, 2304, 128] inb_S4x2304x256_S1x2304x128_1_0_0, k0_pay12 (k0_pay11 (View.ld x1 (Rect.unit ![0, 0, 256] ![1, 2304, 128] inb_S1x2304x1024_S1x2304x128_0_0_256)))⟩,
    ⟨Rect.unit ![0, 0, 128] ![1, 2304, 128] inb_S4x2304x256_S1x2304x128_0_0_128, k0_pay10 x2⟩,
    ⟨Rect.unit ![0, 0, 0] ![1, 2304, 128] inb_S4x2304x256_S1x2304x128_0_0_0, k0_pay9 (View.ld x1 (Rect.unit ![0, 0, 0] ![1, 2304, 128] inb_S1x2304x1024_S1x2304x128_0_0_0))⟩]

/-- A stack holding a function's values. -/
def arr3 {k m n : ℕ} (g : ℕ → ℕ → ℕ → ℝ) : (⟨3, ![k, m, n]⟩ : Shape).Idx → EReal := fun y => ((g (y 0).val (y 1).val (y 2).val : ℝ) : EReal)

theorem piece3_of {K M N k m n b : ℕ} {w : (⟨3, ![1, m, n]⟩ : Shape).Idx → EReal} {f : ℕ → ℕ → ℝ} {g : ℕ → ℕ → ℕ → ℝ} (hw : R1 w f)
    (inb : ∀ i, (![k, 0, b] : Fin 3 → ℕ) i + (![1, m, n] : Fin 3 → ℕ) i ≤ (⟨3, ![K, M, N]⟩ : Shape).size i)
    (h : ∀ i j, i < m → j < n → f i j = g k i (b + j)) (x : (⟨3, ![1, m, n]⟩ : Shape).Idx) :
    w x = arr3 (k := K) (m := M) (n := N) g ((Rect.unit (s := ⟨3, ![K, M, N]⟩) ![k, 0, b] ![1, m, n] inb).emb x) := by
  obtain ⟨z, i, j, rfl⟩ : ∃ (z : Fin 1) (i : Fin m) (j : Fin n), x = ix3 z i j := ⟨x 0, x 1, x 2, by funext d; fin_cases d <;> rfl⟩
  rw [Subsingleton.elim z 0, hw i j, h i j i.2 j.2]
  show _ = ((g (k + 1 * 0) (0 + 1 * i.val) (b + 1 * j.val) : ℝ) : EReal)
  simp only [one_mul, Nat.zero_add, Nat.add_zero]

/-- The rotary keys with the upper half cleared, -/
theorem rotary_lo {w} {x : Vec Ideal S1x2304x128 .bf16} {f : ℕ → ℕ → ℝ} (hx : R1 x f) (hw : ∀ (i : Fin 2304) (j : Fin 128), w (ix3 0 i j) = if j.val < 64 then x (ix3 0 i j) else 0) :
    R1 (m := 2304) (n := 128) w fun k d => if d < 64 then f k d else 0 := by
  intro i j
  rw [hw, hx i j]
  by_cases h : j.val < 64 <;> simp [h]

/-- and the lower. -/
theorem rotary_hi {w} {x : Vec Ideal S1x2304x128 .bf16} {f : ℕ → ℕ → ℝ} (hx : R1 x f) (hw : ∀ (i : Fin 2304) (j : Fin 128), w (ix3 0 i j) = if j.val < 64 then 0 else x (ix3 0 i j)) :
    R1 (m := 2304) (n := 128) w fun k d => if d < 64 then 0 else f k d := by
  intro i j
  rw [hw, hx i j]
  by_cases h : j.val < 64 <;> simp [h]

theorem copy_fin {w} {x : Vec Ideal S1x2304x128 .bf16} {f : ℕ → ℕ → ℝ} (hx : R1 x f) (hw : ∀ (i : Fin 2304) (j : Fin 128), w (ix3 0 i j) = x (ix3 0 i j)) :
    R1 (m := 2304) (n := 128) w f := fun i j => (hw i j).trans (hx i j)

/-- Every store into the table is the heads' keys. -/
theorem scratch_pieces {kv kp : ℕ → ℕ → ℝ} {x1 x2} (h1 : R1 x1 kv) (h2 : R1 x2 kp) : View.PiecesOf (arr3 (kc kv kp)) (scratch x1 x2) :=
  ⟨piece3_of (rotary_hi h2 fun i j => by
      pointwise [k0_pay1, k0_pay8]
      rw [pick_sge _ j.2]) inb_S4x2304x256_S1x2304x128_3_0_128 (fun i j _ hj => by
      simp only [kc]
      rw [if_neg (show ¬ 128 + j < 128 by omega), show 128 + j - 128 = j by omega]
      by_cases hl : j < 64
      · rw [if_pos hl, if_neg (by omega)]
      · rw [if_neg hl, if_pos (by omega)]),
    piece3_of (copy_fin (h1.ld inb_S1x2304x1024_S1x2304x128_0_0_768) fun i j => by
      pointwise [k0_pay16]) inb_S4x2304x256_S1x2304x128_3_0_0 (fun i j _ hj => by
      simp only [kc]
      rw [if_pos (show 0 + j < 128 by omega)]
      simp),
    piece3_of (rotary_lo h2 fun i j => by
      pointwise [k0_pay15, k0_pay8]
      rw [pick_slt _ j.2]) inb_S4x2304x256_S1x2304x128_2_0_128 (fun i j _ hj => by
      simp only [kc]
      rw [if_neg (show ¬ 128 + j < 128 by omega), show 128 + j - 128 = j by omega]
      by_cases hl : j < 64
      · rw [if_pos hl, if_pos (by omega)]
      · rw [if_neg hl, if_neg (by omega)]),
    piece3_of (copy_fin (h1.ld inb_S1x2304x1024_S1x2304x128_0_0_512) fun i j => by
      pointwise [k0_pay14]) inb_S4x2304x256_S1x2304x128_2_0_0 (fun i j _ hj => by
      simp only [kc]
      rw [if_pos (show 0 + j < 128 by omega)]
      simp),
    piece3_of (rotary_hi h2 fun i j => by
      pointwise [k0_pay13, k0_pay8]
      rw [pick_sge _ j.2]) inb_S4x2304x256_S1x2304x128_1_0_128 (fun i j _ hj => by
      simp only [kc]
      rw [if_neg (show ¬ 128 + j < 128 by omega), show 128 + j - 128 = j by omega]
      by_cases hl : j < 64
      · rw [if_pos hl, if_neg (by omega)]
      · rw [if_neg hl, if_pos (by omega)]),
    piece3_of (copy_fin (h1.ld inb_S1x2304x1024_S1x2304x128_0_0_256) fun i j => by
      pointwise [k0_pay12, k0_pay11]) inb_S4x2304x256_S1x2304x128_1_0_0 (fun i j _ hj => by
      simp only [kc]
      rw [if_pos (show 0 + j < 128 by omega)]
      simp),
    piece3_of (rotary_lo h2 fun i j => by
      pointwise [k0_pay10, k0_pay8]
      rw [pick_slt _ j.2]) inb_S4x2304x256_S1x2304x128_0_0_128 (fun i j _ hj => by
      simp only [kc]
      rw [if_neg (show ¬ 128 + j < 128 by omega), show 128 + j - 128 = j by omega]
      by_cases hl : j < 64
      · rw [if_pos hl, if_pos (by omega)]
      · rw [if_neg hl, if_neg (by omega)]),
    piece3_of (copy_fin (h1.ld inb_S1x2304x1024_S1x2304x128_0_0_0) fun i j => by
      pointwise [k0_pay9]) inb_S4x2304x256_S1x2304x128_0_0_0 (fun i j _ hj => by
      simp only [kc]
      rw [if_pos (show 0 + j < 128 by omega)]
      simp),
    trivial⟩

/-- The table holds the heads' keys. -/
theorem scratch_fin {kv kp : ℕ → ℕ → ℝ} {x1 x2} (h1 : R1 x1 kv) (h2 : R1 x2 kp) : R3 (View.canon (scratch x1 x2)) (kc kv kp) := by
  intro z i j
  refine View.canon_apply_of_pieces _ _ (scratch_pieces h1 h2).mem _ ?_
  have hi := i.2
  have hj := j.2
  by_cases h : j.val < 128
  · fin_cases z
    · exact ⟨_, (List.Mem.tail _ (List.Mem.tail _ (List.Mem.tail _ (List.Mem.tail _ (List.Mem.tail _ (List.Mem.tail _ (List.Mem.tail _ (List.Mem.head _)))))))), mem_block inb_S4x2304x256_S1x2304x128_0_0_0 _ _ _ rfl (by omega) (by omega)⟩
    · exact ⟨_, (List.Mem.tail _ (List.Mem.tail _ (List.Mem.tail _ (List.Mem.tail _ (List.Mem.tail _ (List.Mem.head _)))))), mem_block inb_S4x2304x256_S1x2304x128_1_0_0 _ _ _ rfl (by omega) (by omega)⟩
    · exact ⟨_, (List.Mem.tail _ (List.Mem.tail _ (List.Mem.tail _ (List.Mem.head _)))), mem_block inb_S4x2304x256_S1x2304x128_2_0_0 _ _ _ rfl (by omega) (by omega)⟩
    · exact ⟨_, (List.Mem.tail _ (List.Mem.head _)), mem_block inb_S4x2304x256_S1x2304x128_3_0_0 _ _ _ rfl (by omega) (by omega)⟩
  · fin_cases z
    · exact ⟨_, (List.Mem.tail _ (List.Mem.tail _ (List.Mem.tail _ (List.Mem.tail _ (List.Mem.tail _ (List.Mem.tail _ (List.Mem.head _))))))), mem_block inb_S4x2304x256_S1x2304x128_0_0_128 _ _ _ rfl (by omega) (by omega)⟩
    · exact ⟨_, (List.Mem.tail _ (List.Mem.tail _ (List.Mem.tail _ (List.Mem.tail _ (List.Mem.head _))))), mem_block inb_S4x2304x256_S1x2304x128_1_0_128 _ _ _ rfl (by omega) (by omega)⟩
    · exact ⟨_, (List.Mem.tail _ (List.Mem.tail _ (List.Mem.head _))), mem_block inb_S4x2304x256_S1x2304x128_2_0_128 _ _ _ rfl (by omega) (by omega)⟩
    · exact ⟨_, (List.Mem.head _), mem_block inb_S4x2304x256_S1x2304x128_3_0_128 _ _ _ rfl (by omega) (by omega)⟩

/-- The context tile's one store to the rotary key gradient, over the total `x7`. -/
def st7 (x0 : Vec Ideal S1x256x768 .bf16) (x1 : Vec Ideal S1x2304x1024 .bf16) (x3 : Vec Ideal S1x256x4 .f32) (x4 : Vec Ideal S1x256x512 .bf16)
    (K : Vec Ideal S4x2304x256 .bf16) (x7 : Vec Ideal S1x2304x128 .f32) : List (View.Piece (Elt Ideal) S1x2304x128 .f32) :=
  [⟨Rect.unit ![0, 2048, 0] ![1, 256, 128] inb_S1x2304x128_S1x256x128_0_2048_0,
    out7C x0 x1 x3 x4 K (View.ld x7 (Rect.unit ![0, 2048, 0] ![1, 256, 128] inb_S1x2304x128_S1x256x128_0_2048_0))⟩]

theorem cover7 (x0 x1 x3 x4 K x7) (i : Fin 2304) (j : Fin 128) (hi : 2048 ≤ i.val) : ∃ p ∈ st7 x0 x1 x3 x4 K x7, (ix3 0 i j : S1x2304x128.Idx) ∈ p.1.set :=
  ⟨_, List.Mem.head _, mem_block inb_S1x2304x128_S1x256x128_0_2048_0 _ _ _ rfl (by omega) (by omega)⟩

theorem st7_fin {q kv kp l o : ℕ → ℕ → ℝ} {x0 x1 x3 x4 K} {x7} {a7 : ℕ → ℕ → ℝ} (h0 : R1 x0 q) (h1 : R1 x1 kv) (h3 : R1 x3 l) (h4 : R1 x4 o)
    (hK : R3 K (kc kv kp)) (h7 : R1 x7 a7) : View.PiecesOf (arr fun k x => a7 k x + tkp 256 2048 q kv kp l o k x) (st7 x0 x1 x3 x4 K x7) :=
  ⟨piece_of (out7C_fin h0 h1 h3 h4 hK (h7.ldTo inb_S1x2304x128_S1x256x128_0_2048_0 (g := fun i j => a7 (2048 + i) j) fun i j => by simp))
    inb_S1x2304x128_S1x256x128_0_2048_0 (fun i j _ _ => by simp), trivial⟩

theorem zero6 : R1 (k0_pay6 (F := Ideal)) fun _ _ => 0 := by
  intro i j
  pointwise [k0_pay6]
  rfl

theorem zero7 : R1 (k0_pay7 (F := Ideal)) fun _ _ => 0 := by
  intro i j
  pointwise [k0_pay7]
  rfl

theorem outA_s_fin {kv kp : ℕ → ℕ → ℝ} (c : Dev nD) (i : grid0.Coords) (arg2 : Memref sig .tc .vmem S1x256x768 .bf16) (harg2 : arg2.IsWhole) (arg3 : Memref sig .tc .vmem S1x2304x1024 .bf16) (harg3 : arg3.IsWhole) (arg4 : Memref sig .tc .vmem S1x2304x128 .bf16) (harg4 : arg4.IsWhole) (arg5 : Memref sig .tc .vmem S1x256x4 .f32) (harg5 : arg5.IsWhole) (arg6 : Memref sig .tc .vmem S1x256x512 .bf16) (harg6 : arg6.IsWhole) (arg7 : Memref sig .tc .vmem S1x256x768 .f32) (harg7 : arg7.IsWhole) (arg8 : Memref sig .tc .vmem S1x2304x1024 .f32) (harg8 : arg8.IsWhole) (arg9 : Memref sig .tc .vmem S1x2304x128 .f32) (harg9 : arg9.IsWhole) (arg10 : Memref sig .tc .vmem S4x2304x256 .bf16) (harg10 : arg10.IsWhole) (hc0 : cond0_0 i) (hc1 : cond0_1 i) (hc2 : ¬cond0_2 i)
    {x0 : Vec Ideal S1x256x768 .bf16} {x1 : Vec Ideal S1x2304x1024 .bf16} {x2 : Vec Ideal S1x2304x128 .bf16} {x3 : Vec Ideal S1x256x4 .f32} {x4 : Vec Ideal S1x256x512 .bf16} (h1 : R1 x1 kv) (h2 : R1 x2 kp) :
    R3 (sout0_A_0 c i arg2 harg2 arg3 harg3 arg4 harg4 arg5 harg5 arg6 harg6 arg7 harg7 arg8 harg8 arg9 harg9 arg10 harg10 hc0 hc1 hc2 x0 x1 x2 x3 x4) (kc kv kp) := by
  intro z r j
  frame_out
  exact scratch_fin h1 h2 z r j

theorem outA_5_fin {q kv kp l o : ℕ → ℕ → ℝ} (c : Dev nD) (i : grid0.Coords) (arg2 : Memref sig .tc .vmem S1x256x768 .bf16) (harg2 : arg2.IsWhole) (arg3 : Memref sig .tc .vmem S1x2304x1024 .bf16) (harg3 : arg3.IsWhole) (arg4 : Memref sig .tc .vmem S1x2304x128 .bf16) (harg4 : arg4.IsWhole) (arg5 : Memref sig .tc .vmem S1x256x4 .f32) (harg5 : arg5.IsWhole) (arg6 : Memref sig .tc .vmem S1x256x512 .bf16) (harg6 : arg6.IsWhole) (arg7 : Memref sig .tc .vmem S1x256x768 .f32) (harg7 : arg7.IsWhole) (arg8 : Memref sig .tc .vmem S1x2304x1024 .f32) (harg8 : arg8.IsWhole) (arg9 : Memref sig .tc .vmem S1x2304x128 .f32) (harg9 : arg9.IsWhole) (arg10 : Memref sig .tc .vmem S4x2304x256 .bf16) (harg10 : arg10.IsWhole) (hc0 : cond0_0 i) (hc1 : cond0_1 i) (hc2 : ¬cond0_2 i)
    {x0 : Vec Ideal S1x256x768 .bf16} {x1 : Vec Ideal S1x2304x1024 .bf16} {x2 : Vec Ideal S1x2304x128 .bf16} {x3 : Vec Ideal S1x256x4 .f32} {x4 : Vec Ideal S1x256x512 .bf16} (h0 : R1 x0 q) (h1 : R1 x1 kv) (h3 : R1 x3 l) (h4 : R1 x4 o) (h2 : R1 x2 kp) :
    R1 (out0_A_5 c i arg2 harg2 arg3 harg3 arg4 harg4 arg5 harg5 arg6 harg6 arg7 harg7 arg8 harg8 arg9 harg9 arg10 harg10 hc0 hc1 hc2 x0 x1 x2 x3 x4) (dqv 2304 0 q kv kp l o) := by
  intro r j
  frame_out
  simp only [readCov_block arg10.view]
  obtain ⟨K, hKd⟩ : ∃ K, K = View.canon (scratch x1 x2) := ⟨_, rfl⟩
  have hK : R3 K (kc kv kp) := hKd ▸ scratch_fin h1 h2
  have hs : ∀ L, L = scratch x1 x2 → View.canon L = K := fun L hL => by rw [hL, hKd]
  erw [hKd.symm]
  simp only [qn0_L, qn1_L, qn2_L, qn3_L, qr0_L, qr1_L]
  exact View.canon_apply_of_pieces _ (out5L x0 x1 x3 x4 K) (out5L_fin h0 h1 h3 h4 hK).mem _ (cover5L _ _ _ _ _ r j)

theorem outA_6_fin {q kv kp l o : ℕ → ℕ → ℝ} (c : Dev nD) (i : grid0.Coords) (arg2 : Memref sig .tc .vmem S1x256x768 .bf16) (harg2 : arg2.IsWhole) (arg3 : Memref sig .tc .vmem S1x2304x1024 .bf16) (harg3 : arg3.IsWhole) (arg4 : Memref sig .tc .vmem S1x2304x128 .bf16) (harg4 : arg4.IsWhole) (arg5 : Memref sig .tc .vmem S1x256x4 .f32) (harg5 : arg5.IsWhole) (arg6 : Memref sig .tc .vmem S1x256x512 .bf16) (harg6 : arg6.IsWhole) (arg7 : Memref sig .tc .vmem S1x256x768 .f32) (harg7 : arg7.IsWhole) (arg8 : Memref sig .tc .vmem S1x2304x1024 .f32) (harg8 : arg8.IsWhole) (arg9 : Memref sig .tc .vmem S1x2304x128 .f32) (harg9 : arg9.IsWhole) (arg10 : Memref sig .tc .vmem S4x2304x256 .bf16) (harg10 : arg10.IsWhole) (hc0 : cond0_0 i) (hc1 : cond0_1 i) (hc2 : ¬cond0_2 i)
    {x0 : Vec Ideal S1x256x768 .bf16} {x1 : Vec Ideal S1x2304x1024 .bf16} {x2 : Vec Ideal S1x2304x128 .bf16} {x3 : Vec Ideal S1x256x4 .f32} {x4 : Vec Ideal S1x256x512 .bf16} (h0 : R1 x0 q) (h1 : R1 x1 kv) (h3 : R1 x3 l) (h4 : R1 x4 o) (h2 : R1 x2 kp) :
    R1 (out0_A_6 c i arg2 harg2 arg3 harg3 arg4 harg4 arg5 harg5 arg6 harg6 arg7 harg7 arg8 harg8 arg9 harg9 arg10 harg10 hc0 hc1 hc2 x0 x1 x2 x3 x4) (fun k x => tkv 2304 0 q kv kp l o k x) := by
  intro r j
  frame_open
  simp (disch := decide) only [↓View.readCov_skip arg8.view, ↓View.readCov_fill arg8.view]
  frame_out
  simp only [readCov_block arg10.view]
  obtain ⟨K, hKd⟩ : ∃ K, K = View.canon (scratch x1 x2) := ⟨_, rfl⟩
  have hK : R3 K (kc kv kp) := hKd ▸ scratch_fin h1 h2
  have hs : ∀ L, L = scratch x1 x2 → View.canon L = K := fun L hL => by rw [hL, hKd]
  erw [hKd.symm]
  simp only [kn0_L, kn1_L, kn2_L, kn3_L, v0_L, v1_L, v2_L, v3_L]
  refine (View.canon_append_of_piecesOf _ [_] (out6L x0 x1 x3 x4 K (k0_pay6 (F := Ideal))) (out6L_fin h0 h1 h3 h4 hK zero6) _ (cover6L _ _ _ _ _ _ r j)).trans ?_
  simp [arr]

theorem outA_7_fin {q kv kp l o : ℕ → ℕ → ℝ} (c : Dev nD) (i : grid0.Coords) (arg2 : Memref sig .tc .vmem S1x256x768 .bf16) (harg2 : arg2.IsWhole) (arg3 : Memref sig .tc .vmem S1x2304x1024 .bf16) (harg3 : arg3.IsWhole) (arg4 : Memref sig .tc .vmem S1x2304x128 .bf16) (harg4 : arg4.IsWhole) (arg5 : Memref sig .tc .vmem S1x256x4 .f32) (harg5 : arg5.IsWhole) (arg6 : Memref sig .tc .vmem S1x256x512 .bf16) (harg6 : arg6.IsWhole) (arg7 : Memref sig .tc .vmem S1x256x768 .f32) (harg7 : arg7.IsWhole) (arg8 : Memref sig .tc .vmem S1x2304x1024 .f32) (harg8 : arg8.IsWhole) (arg9 : Memref sig .tc .vmem S1x2304x128 .f32) (harg9 : arg9.IsWhole) (arg10 : Memref sig .tc .vmem S4x2304x256 .bf16) (harg10 : arg10.IsWhole) (hc0 : cond0_0 i) (hc1 : cond0_1 i) (hc2 : ¬cond0_2 i)
    {x0 : Vec Ideal S1x256x768 .bf16} {x1 : Vec Ideal S1x2304x1024 .bf16} {x2 : Vec Ideal S1x2304x128 .bf16} {x3 : Vec Ideal S1x256x4 .f32} {x4 : Vec Ideal S1x256x512 .bf16} (h0 : R1 x0 q) (h1 : R1 x1 kv) (h3 : R1 x3 l) (h4 : R1 x4 o) (h2 : R1 x2 kp) :
    R1 (out0_A_7 c i arg2 harg2 arg3 harg3 arg4 harg4 arg5 harg5 arg6 harg6 arg7 harg7 arg8 harg8 arg9 harg9 arg10 harg10 hc0 hc1 hc2 x0 x1 x2 x3 x4) (fun k x => tkp 2304 0 q kv kp l o k x) := by
  intro r j
  frame_out
  simp only [readCov_block arg10.view]
  obtain ⟨K, hKd⟩ : ∃ K, K = View.canon (scratch x1 x2) := ⟨_, rfl⟩
  have hK : R3 K (kc kv kp) := hKd ▸ scratch_fin h1 h2
  have hs : ∀ L, L = scratch x1 x2 → View.canon L = K := fun L hL => by rw [hL, hKd]
  erw [hKd.symm]
  simp only [kr0_L, kr1_L, kr2_L, kr3_L]
  refine (out7L_fin h0 h1 h3 h4 hK zero7 r j).trans ?_
  simp

theorem outB_5_fin {q kv kp l o : ℕ → ℕ → ℝ} (c : Dev nD) (i : grid0.Coords) (arg2 : Memref sig .tc .vmem S1x256x768 .bf16) (harg2 : arg2.IsWhole) (arg3 : Memref sig .tc .vmem S1x2304x1024 .bf16) (harg3 : arg3.IsWhole) (arg4 : Memref sig .tc .vmem S1x2304x128 .bf16) (harg4 : arg4.IsWhole) (arg5 : Memref sig .tc .vmem S1x256x4 .f32) (harg5 : arg5.IsWhole) (arg6 : Memref sig .tc .vmem S1x256x512 .bf16) (harg6 : arg6.IsWhole) (arg7 : Memref sig .tc .vmem S1x256x768 .f32) (harg7 : arg7.IsWhole) (arg8 : Memref sig .tc .vmem S1x2304x1024 .f32) (harg8 : arg8.IsWhole) (arg9 : Memref sig .tc .vmem S1x2304x128 .f32) (harg9 : arg9.IsWhole) (arg10 : Memref sig .tc .vmem S4x2304x256 .bf16) (harg10 : arg10.IsWhole) (hc0 : ¬cond0_0 i) (hc1 : cond0_1 i) (hc2 : ¬cond0_2 i)
    {x0 : Vec Ideal S1x256x768 .bf16} {x1 : Vec Ideal S1x2304x1024 .bf16} {x2 : Vec Ideal S1x2304x128 .bf16} {x3 : Vec Ideal S1x256x4 .f32} {x4 : Vec Ideal S1x256x512 .bf16} {xo6 : Vec Ideal S1x2304x1024 .f32} {xo7 : Vec Ideal S1x2304x128 .f32} {xs0 : Vec Ideal S4x2304x256 .bf16} (h0 : R1 x0 q) (h1 : R1 x1 kv) (h3 : R1 x3 l) (h4 : R1 x4 o) {a6 a7 : ℕ → ℕ → ℝ} (h6 : R1 xo6 a6) (h7 : R1 xo7 a7) (hK : R3 xs0 (kc kv kp)) :
    R1 (out0_B_5 c i arg2 harg2 arg3 harg3 arg4 harg4 arg5 harg5 arg6 harg6 arg7 harg7 arg8 harg8 arg9 harg9 arg10 harg10 hc0 hc1 hc2 x0 x1 x2 x3 x4 xo6 xo7 xs0) (dqv 2304 0 q kv kp l o) := by
  intro r j
  frame_out
  simp only [qn0_L, qn1_L, qn2_L, qn3_L, qr0_L, qr1_L]
  exact View.canon_apply_of_pieces _ (out5L x0 x1 x3 x4 xs0) (out5L_fin h0 h1 h3 h4 hK).mem _ (cover5L _ _ _ _ _ r j)

theorem outB_6_fin {q kv kp l o : ℕ → ℕ → ℝ} (c : Dev nD) (i : grid0.Coords) (arg2 : Memref sig .tc .vmem S1x256x768 .bf16) (harg2 : arg2.IsWhole) (arg3 : Memref sig .tc .vmem S1x2304x1024 .bf16) (harg3 : arg3.IsWhole) (arg4 : Memref sig .tc .vmem S1x2304x128 .bf16) (harg4 : arg4.IsWhole) (arg5 : Memref sig .tc .vmem S1x256x4 .f32) (harg5 : arg5.IsWhole) (arg6 : Memref sig .tc .vmem S1x256x512 .bf16) (harg6 : arg6.IsWhole) (arg7 : Memref sig .tc .vmem S1x256x768 .f32) (harg7 : arg7.IsWhole) (arg8 : Memref sig .tc .vmem S1x2304x1024 .f32) (harg8 : arg8.IsWhole) (arg9 : Memref sig .tc .vmem S1x2304x128 .f32) (harg9 : arg9.IsWhole) (arg10 : Memref sig .tc .vmem S4x2304x256 .bf16) (harg10 : arg10.IsWhole) (hc0 : ¬cond0_0 i) (hc1 : cond0_1 i) (hc2 : ¬cond0_2 i)
    {x0 : Vec Ideal S1x256x768 .bf16} {x1 : Vec Ideal S1x2304x1024 .bf16} {x2 : Vec Ideal S1x2304x128 .bf16} {x3 : Vec Ideal S1x256x4 .f32} {x4 : Vec Ideal S1x256x512 .bf16} {xo6 : Vec Ideal S1x2304x1024 .f32} {xo7 : Vec Ideal S1x2304x128 .f32} {xs0 : Vec Ideal S4x2304x256 .bf16} (h0 : R1 x0 q) (h1 : R1 x1 kv) (h3 : R1 x3 l) (h4 : R1 x4 o) {a6 a7 : ℕ → ℕ → ℝ} (h6 : R1 xo6 a6) (h7 : R1 xo7 a7) (hK : R3 xs0 (kc kv kp)) :
    R1 (out0_B_6 c i arg2 harg2 arg3 harg3 arg4 harg4 arg5 harg5 arg6 harg6 arg7 harg7 arg8 harg8 arg9 harg9 arg10 harg10 hc0 hc1 hc2 x0 x1 x2 x3 x4 xo6 xo7 xs0) (fun k x => a6 k x + tkv 2304 0 q kv kp l o k x) := by
  intro r j
  frame_out
  simp only [kn0_L, kn1_L, kn2_L, kn3_L, v0_L, v1_L, v2_L, v3_L]
  exact View.canon_apply_of_pieces _ (out6L x0 x1 x3 x4 xs0 xo6) (out6L_fin h0 h1 h3 h4 hK h6).mem _ (cover6L _ _ _ _ _ _ r j)

theorem outB_7_fin {q kv kp l o : ℕ → ℕ → ℝ} (c : Dev nD) (i : grid0.Coords) (arg2 : Memref sig .tc .vmem S1x256x768 .bf16) (harg2 : arg2.IsWhole) (arg3 : Memref sig .tc .vmem S1x2304x1024 .bf16) (harg3 : arg3.IsWhole) (arg4 : Memref sig .tc .vmem S1x2304x128 .bf16) (harg4 : arg4.IsWhole) (arg5 : Memref sig .tc .vmem S1x256x4 .f32) (harg5 : arg5.IsWhole) (arg6 : Memref sig .tc .vmem S1x256x512 .bf16) (harg6 : arg6.IsWhole) (arg7 : Memref sig .tc .vmem S1x256x768 .f32) (harg7 : arg7.IsWhole) (arg8 : Memref sig .tc .vmem S1x2304x1024 .f32) (harg8 : arg8.IsWhole) (arg9 : Memref sig .tc .vmem S1x2304x128 .f32) (harg9 : arg9.IsWhole) (arg10 : Memref sig .tc .vmem S4x2304x256 .bf16) (harg10 : arg10.IsWhole) (hc0 : ¬cond0_0 i) (hc1 : cond0_1 i) (hc2 : ¬cond0_2 i)
    {x0 : Vec Ideal S1x256x768 .bf16} {x1 : Vec Ideal S1x2304x1024 .bf16} {x2 : Vec Ideal S1x2304x128 .bf16} {x3 : Vec Ideal S1x256x4 .f32} {x4 : Vec Ideal S1x256x512 .bf16} {xo6 : Vec Ideal S1x2304x1024 .f32} {xo7 : Vec Ideal S1x2304x128 .f32} {xs0 : Vec Ideal S4x2304x256 .bf16} (h0 : R1 x0 q) (h1 : R1 x1 kv) (h3 : R1 x3 l) (h4 : R1 x4 o) {a6 a7 : ℕ → ℕ → ℝ} (h6 : R1 xo6 a6) (h7 : R1 xo7 a7) (hK : R3 xs0 (kc kv kp)) :
    R1 (out0_B_7 c i arg2 harg2 arg3 harg3 arg4 harg4 arg5 harg5 arg6 harg6 arg7 harg7 arg8 harg8 arg9 harg9 arg10 harg10 hc0 hc1 hc2 x0 x1 x2 x3 x4 xo6 xo7 xs0) (fun k x => a7 k x + tkp 2304 0 q kv kp l o k x) := by
  intro r j
  frame_out
  simp only [kr0_L, kr1_L, kr2_L, kr3_L]
  refine (out7L_fin h0 h1 h3 h4 hK h7 r j).trans ?_
  simp

theorem outC_5_fin {q kv kp l o : ℕ → ℕ → ℝ} (c : Dev nD) (i : grid0.Coords) (arg2 : Memref sig .tc .vmem S1x256x768 .bf16) (harg2 : arg2.IsWhole) (arg3 : Memref sig .tc .vmem S1x2304x1024 .bf16) (harg3 : arg3.IsWhole) (arg4 : Memref sig .tc .vmem S1x2304x128 .bf16) (harg4 : arg4.IsWhole) (arg5 : Memref sig .tc .vmem S1x256x4 .f32) (harg5 : arg5.IsWhole) (arg6 : Memref sig .tc .vmem S1x256x512 .bf16) (harg6 : arg6.IsWhole) (arg7 : Memref sig .tc .vmem S1x256x768 .f32) (harg7 : arg7.IsWhole) (arg8 : Memref sig .tc .vmem S1x2304x1024 .f32) (harg8 : arg8.IsWhole) (arg9 : Memref sig .tc .vmem S1x2304x128 .f32) (harg9 : arg9.IsWhole) (arg10 : Memref sig .tc .vmem S4x2304x256 .bf16) (harg10 : arg10.IsWhole) (hc0 : ¬cond0_0 i) (hc1 : ¬cond0_1 i) (hc2 : cond0_2 i)
    {x0 : Vec Ideal S1x256x768 .bf16} {x1 : Vec Ideal S1x2304x1024 .bf16} {x2 : Vec Ideal S1x2304x128 .bf16} {x3 : Vec Ideal S1x256x4 .f32} {x4 : Vec Ideal S1x256x512 .bf16} {xo6 : Vec Ideal S1x2304x1024 .f32} {xo7 : Vec Ideal S1x2304x128 .f32} {xs0 : Vec Ideal S4x2304x256 .bf16} (h0 : R1 x0 q) (h1 : R1 x1 kv) (h3 : R1 x3 l) (h4 : R1 x4 o) {a6 a7 : ℕ → ℕ → ℝ} (h6 : R1 xo6 a6) (h7 : R1 xo7 a7) (hK : R3 xs0 (kc kv kp)) :
    R1 (out0_C_5 c i arg2 harg2 arg3 harg3 arg4 harg4 arg5 harg5 arg6 harg6 arg7 harg7 arg8 harg8 arg9 harg9 arg10 harg10 hc0 hc1 hc2 x0 x1 x2 x3 x4 xo6 xo7 xs0) (dqv 256 2048 q kv kp l o) := by
  intro r j
  frame_out
  simp only [qn0_C, qn1_C, qn2_C, qn3_C, qr0_C, qr1_C]
  exact View.canon_apply_of_pieces _ (out5C x0 x1 x3 x4 xs0) (out5C_fin h0 h1 h3 h4 hK).mem _ (cover5C _ _ _ _ _ r j)

theorem outC_6_fin {q kv kp l o : ℕ → ℕ → ℝ} (c : Dev nD) (i : grid0.Coords) (arg2 : Memref sig .tc .vmem S1x256x768 .bf16) (harg2 : arg2.IsWhole) (arg3 : Memref sig .tc .vmem S1x2304x1024 .bf16) (harg3 : arg3.IsWhole) (arg4 : Memref sig .tc .vmem S1x2304x128 .bf16) (harg4 : arg4.IsWhole) (arg5 : Memref sig .tc .vmem S1x256x4 .f32) (harg5 : arg5.IsWhole) (arg6 : Memref sig .tc .vmem S1x256x512 .bf16) (harg6 : arg6.IsWhole) (arg7 : Memref sig .tc .vmem S1x256x768 .f32) (harg7 : arg7.IsWhole) (arg8 : Memref sig .tc .vmem S1x2304x1024 .f32) (harg8 : arg8.IsWhole) (arg9 : Memref sig .tc .vmem S1x2304x128 .f32) (harg9 : arg9.IsWhole) (arg10 : Memref sig .tc .vmem S4x2304x256 .bf16) (harg10 : arg10.IsWhole) (hc0 : ¬cond0_0 i) (hc1 : ¬cond0_1 i) (hc2 : cond0_2 i)
    {x0 : Vec Ideal S1x256x768 .bf16} {x1 : Vec Ideal S1x2304x1024 .bf16} {x2 : Vec Ideal S1x2304x128 .bf16} {x3 : Vec Ideal S1x256x4 .f32} {x4 : Vec Ideal S1x256x512 .bf16} {xo6 : Vec Ideal S1x2304x1024 .f32} {xo7 : Vec Ideal S1x2304x128 .f32} {xs0 : Vec Ideal S4x2304x256 .bf16} (h0 : R1 x0 q) (h1 : R1 x1 kv) (h3 : R1 x3 l) (h4 : R1 x4 o) {a6 a7 : ℕ → ℕ → ℝ} (h6 : R1 xo6 a6) (h7 : R1 xo7 a7) (hK : R3 xs0 (kc kv kp)) :
    R1 (out0_C_6 c i arg2 harg2 arg3 harg3 arg4 harg4 arg5 harg5 arg6 harg6 arg7 harg7 arg8 harg8 arg9 harg9 arg10 harg10 hc0 hc1 hc2 x0 x1 x2 x3 x4 xo6 xo7 xs0) (fun k x => if 2048 ≤ k then a6 k x + tkv 256 2048 q kv kp l o k x else a6 k x) := by
  intro r j
  frame_out
  simp only [kn0_C, kn1_C, kn2_C, kn3_C, v0_C, v1_C, v2_C, v3_C]
  by_cases hr : 2048 ≤ r.val
  · refine (View.read_writes_apply_of_pieces _ _ _ (out6C x0 x1 x3 x4 xs0 xo6) (out6C_fin h0 h1 h3 h4 hK h6).mem _ (cover6C _ _ _ _ _ _ r j hr)).trans ?_
    simp [arr, hr]
  · refine (View.read_writes_apply_of_forall_not_mem _ _ _ (out6C x0 x1 x3 x4 xs0 xo6) ?_).trans ?_
    · intro p hp
      simp only [out6C, List.mem_cons, List.not_mem_nil, or_false] at hp
      rcases hp with rfl | rfl | rfl | rfl | rfl | rfl | rfl | rfl
      · exact not_mem_block inb_S1x2304x1024_S1x256x128_0_2048_896 _ _ _ (by omega)
      · exact not_mem_block inb_S1x2304x1024_S1x256x128_0_2048_768 _ _ _ (by omega)
      · exact not_mem_block inb_S1x2304x1024_S1x256x128_0_2048_640 _ _ _ (by omega)
      · exact not_mem_block inb_S1x2304x1024_S1x256x128_0_2048_512 _ _ _ (by omega)
      · exact not_mem_block inb_S1x2304x1024_S1x256x128_0_2048_384 _ _ _ (by omega)
      · exact not_mem_block inb_S1x2304x1024_S1x256x128_0_2048_256 _ _ _ (by omega)
      · exact not_mem_block inb_S1x2304x1024_S1x256x128_0_2048_128 _ _ _ (by omega)
      · exact not_mem_block inb_S1x2304x1024_S1x256x128_0_2048_0 _ _ _ (by omega)
    · rw [harg8.read_unread, h6 r j, if_neg hr]

theorem outC_7_fin {q kv kp l o : ℕ → ℕ → ℝ} (c : Dev nD) (i : grid0.Coords) (arg2 : Memref sig .tc .vmem S1x256x768 .bf16) (harg2 : arg2.IsWhole) (arg3 : Memref sig .tc .vmem S1x2304x1024 .bf16) (harg3 : arg3.IsWhole) (arg4 : Memref sig .tc .vmem S1x2304x128 .bf16) (harg4 : arg4.IsWhole) (arg5 : Memref sig .tc .vmem S1x256x4 .f32) (harg5 : arg5.IsWhole) (arg6 : Memref sig .tc .vmem S1x256x512 .bf16) (harg6 : arg6.IsWhole) (arg7 : Memref sig .tc .vmem S1x256x768 .f32) (harg7 : arg7.IsWhole) (arg8 : Memref sig .tc .vmem S1x2304x1024 .f32) (harg8 : arg8.IsWhole) (arg9 : Memref sig .tc .vmem S1x2304x128 .f32) (harg9 : arg9.IsWhole) (arg10 : Memref sig .tc .vmem S4x2304x256 .bf16) (harg10 : arg10.IsWhole) (hc0 : ¬cond0_0 i) (hc1 : ¬cond0_1 i) (hc2 : cond0_2 i)
    {x0 : Vec Ideal S1x256x768 .bf16} {x1 : Vec Ideal S1x2304x1024 .bf16} {x2 : Vec Ideal S1x2304x128 .bf16} {x3 : Vec Ideal S1x256x4 .f32} {x4 : Vec Ideal S1x256x512 .bf16} {xo6 : Vec Ideal S1x2304x1024 .f32} {xo7 : Vec Ideal S1x2304x128 .f32} {xs0 : Vec Ideal S4x2304x256 .bf16} (h0 : R1 x0 q) (h1 : R1 x1 kv) (h3 : R1 x3 l) (h4 : R1 x4 o) {a6 a7 : ℕ → ℕ → ℝ} (h6 : R1 xo6 a6) (h7 : R1 xo7 a7) (hK : R3 xs0 (kc kv kp)) :
    R1 (out0_C_7 c i arg2 harg2 arg3 harg3 arg4 harg4 arg5 harg5 arg6 harg6 arg7 harg7 arg8 harg8 arg9 harg9 arg10 harg10 hc0 hc1 hc2 x0 x1 x2 x3 x4 xo6 xo7 xs0) (fun k x => if 2048 ≤ k then a7 k x + tkp 256 2048 q kv kp l o k x else a7 k x) := by
  intro r j
  frame_out
  simp only [kr0_C, kr1_C, kr2_C, kr3_C, View.readCov_cons_toLoadRect]
  by_cases hr : 2048 ≤ r.val
  · refine (View.read_writes_apply_of_pieces _ _ _ (st7 x0 x1 x3 x4 xs0 xo7) (st7_fin h0 h1 h3 h4 hK h7).mem _ (cover7 _ _ _ _ _ _ r j hr)).trans ?_
    simp [arr, hr]
  · refine (View.read_writes_apply_of_forall_not_mem arg9.view _ _ _ ?_).trans ?_
    · intro p hp
      simp only [List.mem_cons, List.not_mem_nil, or_false] at hp
      rcases hp with rfl | rfl | rfl | rfl <;> exact not_mem_block inb_S1x2304x128_S1x256x128_0_2048_0 _ _ _ (by omega)
    · rw [harg9.read_unread, h7 r j, if_neg hr]

theorem outB_s_eq (c : Dev nD) (i : grid0.Coords) (arg2 : Memref sig .tc .vmem S1x256x768 .bf16) (harg2 : arg2.IsWhole) (arg3 : Memref sig .tc .vmem S1x2304x1024 .bf16) (harg3 : arg3.IsWhole) (arg4 : Memref sig .tc .vmem S1x2304x128 .bf16) (harg4 : arg4.IsWhole) (arg5 : Memref sig .tc .vmem S1x256x4 .f32) (harg5 : arg5.IsWhole) (arg6 : Memref sig .tc .vmem S1x256x512 .bf16) (harg6 : arg6.IsWhole) (arg7 : Memref sig .tc .vmem S1x256x768 .f32) (harg7 : arg7.IsWhole) (arg8 : Memref sig .tc .vmem S1x2304x1024 .f32) (harg8 : arg8.IsWhole) (arg9 : Memref sig .tc .vmem S1x2304x128 .f32) (harg9 : arg9.IsWhole) (arg10 : Memref sig .tc .vmem S4x2304x256 .bf16) (harg10 : arg10.IsWhole) (hc0 : ¬cond0_0 i) (hc1 : cond0_1 i) (hc2 : ¬cond0_2 i)
    {x0 : Vec Ideal S1x256x768 .bf16} {x1 : Vec Ideal S1x2304x1024 .bf16} {x2 : Vec Ideal S1x2304x128 .bf16} {x3 : Vec Ideal S1x256x4 .f32} {x4 : Vec Ideal S1x256x512 .bf16} {xo6 : Vec Ideal S1x2304x1024 .f32} {xo7 : Vec Ideal S1x2304x128 .f32} {xs0 : Vec Ideal S4x2304x256 .bf16} :
    sout0_B_0 c i arg2 harg2 arg3 harg3 arg4 harg4 arg5 harg5 arg6 harg6 arg7 harg7 arg8 harg8 arg9 harg9 arg10 harg10 hc0 hc1 hc2 x0 x1 x2 x3 x4 xo6 xo7 xs0 = xs0 := by
  rfl

theorem outC_s_eq (c : Dev nD) (i : grid0.Coords) (arg2 : Memref sig .tc .vmem S1x256x768 .bf16) (harg2 : arg2.IsWhole) (arg3 : Memref sig .tc .vmem S1x2304x1024 .bf16) (harg3 : arg3.IsWhole) (arg4 : Memref sig .tc .vmem S1x2304x128 .bf16) (harg4 : arg4.IsWhole) (arg5 : Memref sig .tc .vmem S1x256x4 .f32) (harg5 : arg5.IsWhole) (arg6 : Memref sig .tc .vmem S1x256x512 .bf16) (harg6 : arg6.IsWhole) (arg7 : Memref sig .tc .vmem S1x256x768 .f32) (harg7 : arg7.IsWhole) (arg8 : Memref sig .tc .vmem S1x2304x1024 .f32) (harg8 : arg8.IsWhole) (arg9 : Memref sig .tc .vmem S1x2304x128 .f32) (harg9 : arg9.IsWhole) (arg10 : Memref sig .tc .vmem S4x2304x256 .bf16) (harg10 : arg10.IsWhole) (hc0 : ¬cond0_0 i) (hc1 : ¬cond0_1 i) (hc2 : cond0_2 i)
    {x0 : Vec Ideal S1x256x768 .bf16} {x1 : Vec Ideal S1x2304x1024 .bf16} {x2 : Vec Ideal S1x2304x128 .bf16} {x3 : Vec Ideal S1x256x4 .f32} {x4 : Vec Ideal S1x256x512 .bf16} {xo6 : Vec Ideal S1x2304x1024 .f32} {xo7 : Vec Ideal S1x2304x128 .f32} {xs0 : Vec Ideal S4x2304x256 .bf16} :
    sout0_C_0 c i arg2 harg2 arg3 harg3 arg4 harg4 arg5 harg5 arg6 harg6 arg7 harg7 arg8 harg8 arg9 harg9 arg10 harg10 hc0 hc1 hc2 x0 x1 x2 x3 x4 xo6 xo7 xs0 = xs0 := by
  rfl

end Cert.KernelIdeal.Head
-- ==== Proof.Fold.lean ====
/-
  The kernel's grid: nine tiles of 256 query rows in each of four batches. The block each window reads, and what the three results and the carried key
  table hold after a tile.
-/
module
public import proofs.«01_k».proof.Proof.Gen.KernelIdeal.Value
public import proofs.«01_k».proof.Proof.Point
@[expose] public section
set_option maxRecDepth 16384
noncomputable section
namespace Cert.KernelIdeal.Head
open Cert.KernelIdeal Cert.KernelIdeal.Gen Cert.KernelIdeal.Value Idealize.ShloMosaic Idealize.ShloMosaic.TcCoe Idealize.SL.Sem Cert.Attn

variable (m : (ℓ : Loc nD τ sig) → Buf (Elt Ideal) ℓ)

theorem N36 (t : Fin cfg0.N) : t.val < 36 := lt_of_lt_of_eq t.2 N_0

theorem idx0 : ∀ t : Fin cfg0.N, win0_0.index t 0 = t.val / 9 ∧ win0_0.index t 1 = t.val % 9 ∧ win0_0.index t 2 = 0 :=
  (by decide +kernel : ∀ t : Fin grid0.N, win0_0.index t 0 = t.val / 9 ∧ win0_0.index t 1 = t.val % 9 ∧ win0_0.index t 2 = 0)

theorem blk0 (c : Dev nD) (t : Fin cfg0.N) {f : ℕ → ℕ → ℕ → ℝ} (h : R3 (k := 4) (m := 2304) (n := 768) (V m c main_arg0) f) :
    R1 (m := 256) (n := 768) (iblk m c 0 t) (fun i j => f (t.val / 9) (256 * (t.val % 9) + i) j) := by
  intro i j
  have ht := N36 t
  obtain ⟨e0, e1, e2⟩ := idx0 t
  rw [← h ⟨t.val / 9, by omega⟩ ⟨256 * (t.val % 9) + i, by omega⟩ ⟨j, by omega⟩]
  unfold iblk
  rw [View.read_apply]
  show V m c main_arg0 _ = V m c main_arg0 _
  congr 1
  funext a
  apply Fin.ext
  match a with
  | ⟨0, _⟩ => show win0_0.index t 0 * 1 + 1 * 0 = t.val / 9; rw [e0]; omega
  | ⟨1, _⟩ => show win0_0.index t 1 * 256 + 1 * i.val = 256 * (t.val % 9) + i; rw [e1]; omega
  | ⟨2, _⟩ => show win0_0.index t 2 * 768 + 1 * j.val = j.val; rw [e2]; omega

theorem idx1 : ∀ t : Fin cfg0.N, win0_1.index t 0 = t.val / 9 ∧ win0_1.index t 1 = 0 ∧ win0_1.index t 2 = 0 :=
  (by decide +kernel : ∀ t : Fin grid0.N, win0_1.index t 0 = t.val / 9 ∧ win0_1.index t 1 = 0 ∧ win0_1.index t 2 = 0)

theorem blk1 (c : Dev nD) (t : Fin cfg0.N) {f : ℕ → ℕ → ℕ → ℝ} (h : R3 (k := 4) (m := 2304) (n := 1024) (V m c main_arg1) f) :
    R1 (m := 2304) (n := 1024) (iblk m c 1 t) (fun i j => f (t.val / 9) (i) j) := by
  intro i j
  have ht := N36 t
  obtain ⟨e0, e1, e2⟩ := idx1 t
  rw [← h ⟨t.val / 9, by omega⟩ ⟨i, by omega⟩ ⟨j, by omega⟩]
  unfold iblk
  rw [View.read_apply]
  show V m c main_arg1 _ = V m c main_arg1 _
  congr 1
  funext a
  apply Fin.ext
  match a with
  | ⟨0, _⟩ => show win0_1.index t 0 * 1 + 1 * 0 = t.val / 9; rw [e0]; omega
  | ⟨1, _⟩ => show win0_1.index t 1 * 2304 + 1 * i.val = i; rw [e1]; omega
  | ⟨2, _⟩ => show win0_1.index t 2 * 1024 + 1 * j.val = j.val; rw [e2]; omega

theorem idx2 : ∀ t : Fin cfg0.N, win0_2.index t 0 = t.val / 9 ∧ win0_2.index t 1 = 0 ∧ win0_2.index t 2 = 0 :=
  (by decide +kernel : ∀ t : Fin grid0.N, win0_2.index t 0 = t.val / 9 ∧ win0_2.index t 1 = 0 ∧ win0_2.index t 2 = 0)

theorem blk2 (c : Dev nD) (t : Fin cfg0.N) {f : ℕ → ℕ → ℕ → ℝ} (h : R3 (k := 4) (m := 2304) (n := 128) (V m c main_arg2) f) :
    R1 (m := 2304) (n := 128) (iblk m c 2 t) (fun i j => f (t.val / 9) (i) j) := by
  intro i j
  have ht := N36 t
  obtain ⟨e0, e1, e2⟩ := idx2 t
  rw [← h ⟨t.val / 9, by omega⟩ ⟨i, by omega⟩ ⟨j, by omega⟩]
  unfold iblk
  rw [View.read_apply]
  show V m c main_arg2 _ = V m c main_arg2 _
  congr 1
  funext a
  apply Fin.ext
  match a with
  | ⟨0, _⟩ => show win0_2.index t 0 * 1 + 1 * 0 = t.val / 9; rw [e0]; omega
  | ⟨1, _⟩ => show win0_2.index t 1 * 2304 + 1 * i.val = i; rw [e1]; omega
  | ⟨2, _⟩ => show win0_2.index t 2 * 128 + 1 * j.val = j.val; rw [e2]; omega

theorem idx3 : ∀ t : Fin cfg0.N, win0_3.index t 0 = t.val / 9 ∧ win0_3.index t 1 = t.val % 9 ∧ win0_3.index t 2 = 0 :=
  (by decide +kernel : ∀ t : Fin grid0.N, win0_3.index t 0 = t.val / 9 ∧ win0_3.index t 1 = t.val % 9 ∧ win0_3.index t 2 = 0)

theorem blk3 (c : Dev nD) (t : Fin cfg0.N) {f : ℕ → ℕ → ℕ → ℝ} (h : R3 (k := 4) (m := 2304) (n := 4) (V m c main_v42) f) :
    R1 (m := 256) (n := 4) (iblk m c 3 t) (fun i j => f (t.val / 9) (256 * (t.val % 9) + i) j) := by
  intro i j
  have ht := N36 t
  obtain ⟨e0, e1, e2⟩ := idx3 t
  rw [← h ⟨t.val / 9, by omega⟩ ⟨256 * (t.val % 9) + i, by omega⟩ ⟨j, by omega⟩]
  unfold iblk
  rw [View.read_apply]
  show V m c main_v42 _ = V m c main_v42 _
  congr 1
  funext a
  apply Fin.ext
  match a with
  | ⟨0, _⟩ => show win0_3.index t 0 * 1 + 1 * 0 = t.val / 9; rw [e0]; omega
  | ⟨1, _⟩ => show win0_3.index t 1 * 256 + 1 * i.val = 256 * (t.val % 9) + i; rw [e1]; omega
  | ⟨2, _⟩ => show win0_3.index t 2 * 4 + 1 * j.val = j.val; rw [e2]; omega

theorem idx4 : ∀ t : Fin cfg0.N, win0_4.index t 0 = t.val / 9 ∧ win0_4.index t 1 = t.val % 9 ∧ win0_4.index t 2 = 0 :=
  (by decide +kernel : ∀ t : Fin grid0.N, win0_4.index t 0 = t.val / 9 ∧ win0_4.index t 1 = t.val % 9 ∧ win0_4.index t 2 = 0)

theorem blk4 (c : Dev nD) (t : Fin cfg0.N) {f : ℕ → ℕ → ℕ → ℝ} (h : R3 (k := 4) (m := 2304) (n := 1024) (V m c main_arg3) f) :
    R1 (m := 256) (n := 512) (iblk m c 4 t) (fun i j => f (t.val / 9) (256 * (t.val % 9) + i) j) := by
  intro i j
  have ht := N36 t
  obtain ⟨e0, e1, e2⟩ := idx4 t
  rw [← h ⟨t.val / 9, by omega⟩ ⟨256 * (t.val % 9) + i, by omega⟩ ⟨j, by omega⟩]
  unfold iblk
  rw [View.read_apply]
  show V m c main_arg3 _ = V m c main_arg3 _
  congr 1
  funext a
  apply Fin.ext
  match a with
  | ⟨0, _⟩ => show win0_4.index t 0 * 1 + 1 * 0 = t.val / 9; rw [e0]; omega
  | ⟨1, _⟩ => show win0_4.index t 1 * 256 + 1 * i.val = 256 * (t.val % 9) + i; rw [e1]; omega
  | ⟨2, _⟩ => show win0_4.index t 2 * 512 + 1 * j.val = j.val; rw [e2]; omega

/-- What tiles `0 … i` of batch `b` leave in the key-value gradient. -/
def acc6 (q kv kp l o : ℕ → ℕ → ℕ → ℝ) (b : ℕ) : ℕ → ℕ → ℕ → ℝ
  | 0, k, x => tkv 2304 0 (fun r d => q b (256 * 0 + r) d) (kv b) (kp b) (fun r h => l b (256 * 0 + r) h) (fun r d => o b (256 * 0 + r) d) k x
  | i + 1, k, x => if i + 1 ≤ 7 then acc6 q kv kp l o b i k x + tkv 2304 0 (fun r d => q b (256 * (i + 1) + r) d) (kv b) (kp b) (fun r h => l b (256 * (i + 1) + r) h) (fun r d => o b (256 * (i + 1) + r) d) k x
    else if 2048 ≤ k then acc6 q kv kp l o b i k x + tkv 256 2048 (fun r d => q b (256 * (i + 1) + r) d) (kv b) (kp b) (fun r h => l b (256 * (i + 1) + r) h) (fun r d => o b (256 * (i + 1) + r) d) k x else acc6 q kv kp l o b i k x

/-- and in the rotary key gradient. -/
def acc7 (q kv kp l o : ℕ → ℕ → ℕ → ℝ) (b : ℕ) : ℕ → ℕ → ℕ → ℝ
  | 0, k, x => tkp 2304 0 (fun r d => q b (256 * 0 + r) d) (kv b) (kp b) (fun r h => l b (256 * 0 + r) h) (fun r d => o b (256 * 0 + r) d) k x
  | i + 1, k, x => if i + 1 ≤ 7 then acc7 q kv kp l o b i k x + tkp 2304 0 (fun r d => q b (256 * (i + 1) + r) d) (kv b) (kp b) (fun r h => l b (256 * (i + 1) + r) h) (fun r d => o b (256 * (i + 1) + r) d) k x
    else if 2048 ≤ k then acc7 q kv kp l o b i k x + tkp 256 2048 (fun r d => q b (256 * (i + 1) + r) d) (kv b) (kp b) (fun r h => l b (256 * (i + 1) + r) h) (fun r d => o b (256 * (i + 1) + r) d) k x else acc7 q kv kp l o b i k x

/-- The query gradient of tile `i`. -/
def dqt (q kv kp l o : ℕ → ℕ → ℕ → ℝ) (b i : ℕ) : ℕ → ℕ → ℝ :=
  if i ≤ 7 then dqv 2304 0 (fun r d => q b (256 * i + r) d) (kv b) (kp b) (fun r h => l b (256 * i + r) h) (fun r d => o b (256 * i + r) d) else dqv 256 2048 (fun r d => q b (256 * i + r) d) (kv b) (kp b) (fun r h => l b (256 * i + r) h) (fun r d => o b (256 * i + r) d)

/-- What the three results and the key table hold. -/
def Hold (s : Vec Ideal S1x256x768 .f32 × Vec Ideal S1x2304x1024 .f32 × Vec Ideal S1x2304x128 .f32 × Vec Ideal S4x2304x256 .bf16) (a5 a6 a7 : ℕ → ℕ → ℝ)
    (aK : ℕ → ℕ → ℕ → ℝ) : Prop :=
  R1 (m := 256) (n := 768) s.1 a5 ∧ R1 (m := 2304) (n := 1024) s.2.1 a6 ∧ R1 (m := 2304) (n := 128) s.2.2.1 a7 ∧ R3 (k := 4) (m := 2304) (n := 256) s.2.2.2 aK

theorem Hold.mk' {x5 : Vec Ideal S1x256x768 .f32} {x6 : Vec Ideal S1x2304x1024 .f32} {x7 : Vec Ideal S1x2304x128 .f32} {xK : Vec Ideal S4x2304x256 .bf16}
    {a5 a6 a7 aK} (h5 : R1 (m := 256) (n := 768) x5 a5) (h6 : R1 (m := 2304) (n := 1024) x6 a6) (h7 : R1 (m := 2304) (n := 128) x7 a7)
    (hK : R3 (k := 4) (m := 2304) (n := 256) xK aK) : Hold (x5, x6, x7, xK) a5 a6 a7 aK := ⟨h5, h6, h7, hK⟩

theorem tileA (c : Dev nD) (t : Fin cfg0.N) (c0 : t.val % 9 = 0) (c1 : t.val % 9 ≤ 7) (c2 : ¬t.val % 9 = 8) {q kv kp l o : ℕ → ℕ → ℝ}
    (h0 : R1 (m := 256) (n := 768) (iblk m c 0 t) q) (h1 : R1 (m := 2304) (n := 1024) (iblk m c 1 t) kv) (h2 : R1 (m := 2304) (n := 128) (iblk m c 2 t) kp)
    (h3 : R1 (m := 256) (n := 4) (iblk m c 3 t) l) (h4 : R1 (m := 256) (n := 512) (iblk m c 4 t) o)  :
    Hold (outsAt0 m c t.val t.isLt) (dqv 2304 0 q kv kp l o) (fun k x => tkv 2304 0 q kv kp l o k x) (fun k x => tkp 2304 0 q kv kp l o k x) (kc kv kp) := by
  rw [outsAt0_A m c t c0 c1 c2]
  apply Hold.mk'
  · exact outA_5_fin _ _ _ _ _ _ _ _ _ _ _ _ _ _ _ _ _ _ _ _ _ _ _ h0 h1 h3 h4 h2
  · exact outA_6_fin _ _ _ _ _ _ _ _ _ _ _ _ _ _ _ _ _ _ _ _ _ _ _ h0 h1 h3 h4 h2
  · exact outA_7_fin _ _ _ _ _ _ _ _ _ _ _ _ _ _ _ _ _ _ _ _ _ _ _ h0 h1 h3 h4 h2
  · exact outA_s_fin _ _ _ _ _ _ _ _ _ _ _ _ _ _ _ _ _ _ _ _ _ _ _ h1 h2

theorem tileB (c : Dev nD) (t : Fin cfg0.N) (c0 : ¬t.val % 9 = 0) (c1 : t.val % 9 ≤ 7) (c2 : ¬t.val % 9 = 8) {q kv kp l o : ℕ → ℕ → ℝ} {s : Vec Ideal S1x256x768 .f32 × Vec Ideal S1x2304x1024 .f32 × Vec Ideal S1x2304x128 .f32 × Vec Ideal S4x2304x256 .bf16} {a6 a7 : ℕ → ℕ → ℝ}
    (h0 : R1 (m := 256) (n := 768) (iblk m c 0 t) q) (h1 : R1 (m := 2304) (n := 1024) (iblk m c 1 t) kv) (h2 : R1 (m := 2304) (n := 128) (iblk m c 2 t) kp)
    (h3 : R1 (m := 256) (n := 4) (iblk m c 3 t) l) (h4 : R1 (m := 256) (n := 512) (iblk m c 4 t) o) (h6 : R1 (m := 2304) (n := 1024) s.2.1 a6) (h7 : R1 (m := 2304) (n := 128) s.2.2.1 a7) (hK : R3 (k := 4) (m := 2304) (n := 256) s.2.2.2 (kc kv kp)) :
    Hold (stAt0 m c t.val t.isLt s) (dqv 2304 0 q kv kp l o) (fun k x => a6 k x + tkv 2304 0 q kv kp l o k x) (fun k x => a7 k x + tkp 2304 0 q kv kp l o k x) (kc kv kp) := by
  rw [stAt0_B m c t s c0 c1 c2]
  apply Hold.mk'
  · exact outB_5_fin _ _ _ _ _ _ _ _ _ _ _ _ _ _ _ _ _ _ _ _ _ _ _ h0 h1 h3 h4 h6 h7 hK
  · exact outB_6_fin _ _ _ _ _ _ _ _ _ _ _ _ _ _ _ _ _ _ _ _ _ _ _ h0 h1 h3 h4 h6 h7 hK
  · exact outB_7_fin _ _ _ _ _ _ _ _ _ _ _ _ _ _ _ _ _ _ _ _ _ _ _ h0 h1 h3 h4 h6 h7 hK
  · rw [outB_s_eq]; exact hK

theorem tileC (c : Dev nD) (t : Fin cfg0.N) (c0 : ¬t.val % 9 = 0) (c1 : ¬t.val % 9 ≤ 7) (c2 : t.val % 9 = 8) {q kv kp l o : ℕ → ℕ → ℝ} {s : Vec Ideal S1x256x768 .f32 × Vec Ideal S1x2304x1024 .f32 × Vec Ideal S1x2304x128 .f32 × Vec Ideal S4x2304x256 .bf16} {a6 a7 : ℕ → ℕ → ℝ}
    (h0 : R1 (m := 256) (n := 768) (iblk m c 0 t) q) (h1 : R1 (m := 2304) (n := 1024) (iblk m c 1 t) kv) (h2 : R1 (m := 2304) (n := 128) (iblk m c 2 t) kp)
    (h3 : R1 (m := 256) (n := 4) (iblk m c 3 t) l) (h4 : R1 (m := 256) (n := 512) (iblk m c 4 t) o) (h6 : R1 (m := 2304) (n := 1024) s.2.1 a6) (h7 : R1 (m := 2304) (n := 128) s.2.2.1 a7) (hK : R3 (k := 4) (m := 2304) (n := 256) s.2.2.2 (kc kv kp)) :
    Hold (stAt0 m c t.val t.isLt s) (dqv 256 2048 q kv kp l o) (fun k x => if 2048 ≤ k then a6 k x + tkv 256 2048 q kv kp l o k x else a6 k x) (fun k x => if 2048 ≤ k then a7 k x + tkp 256 2048 q kv kp l o k x else a7 k x) (kc kv kp) := by
  rw [stAt0_C m c t s c0 c1 c2]
  apply Hold.mk'
  · exact outC_5_fin _ _ _ _ _ _ _ _ _ _ _ _ _ _ _ _ _ _ _ _ _ _ _ h0 h1 h3 h4 h6 h7 hK
  · exact outC_6_fin _ _ _ _ _ _ _ _ _ _ _ _ _ _ _ _ _ _ _ _ _ _ _ h0 h1 h3 h4 h6 h7 hK
  · exact outC_7_fin _ _ _ _ _ _ _ _ _ _ _ _ _ _ _ _ _ _ _ _ _ _ _ h0 h1 h3 h4 h6 h7 hK
  · rw [outC_s_eq]; exact hK

theorem inv_tile (c : Dev nD) {q kv kp l o : ℕ → ℕ → ℕ → ℝ} (hq : R3 (k := 4) (m := 2304) (n := 768) (V m c main_arg0) q)
    (hkv : R3 (k := 4) (m := 2304) (n := 1024) (V m c main_arg1) kv) (hkp : R3 (k := 4) (m := 2304) (n := 128) (V m c main_arg2) kp)
    (hl : R3 (k := 4) (m := 2304) (n := 4) (V m c main_v42) l) (ho : R3 (k := 4) (m := 2304) (n := 1024) (V m c main_arg3) o) (b : ℕ) :
    ∀ (i n : ℕ) (hn : n < cfg0.N), i ≤ 8 → n = 9 * b + i →
      Hold (outsAt0 m c n hn) (dqt q kv kp l o b i) (acc6 q kv kp l o b i) (acc7 q kv kp l o b i) (kc (kv b) (kp b)) := by
  intro i
  induction i with
  | zero =>
    intro n h _ e
    have e1 : n / 9 = b := by omega
    have e2 : n % 9 = 0 := by omega
    have h0 := blk0 m c ⟨n, h⟩ hq
    have h1 := blk1 m c ⟨n, h⟩ hkv
    have h2 := blk2 m c ⟨n, h⟩ hkp
    have h3 := blk3 m c ⟨n, h⟩ hl
    have h4 := blk4 m c ⟨n, h⟩ ho
    simp only [e1, e2] at h0 h1 h2 h3 h4
    exact tileA m c ⟨n, h⟩ e2 (by show n % 9 ≤ 7; omega) (by show ¬n % 9 = 8; omega) h0 h1 h2 h3 h4
  | succ i ih =>
    intro n h hi e
    obtain ⟨n, rfl⟩ : ∃ k, n = k + 1 := ⟨n - 1, by omega⟩
    obtain ⟨-, i6, i7, iK⟩ := ih n (Nat.lt_of_succ_lt h) (by omega) (by omega)
    have e1 : (n + 1) / 9 = b := by omega
    have e2 : (n + 1) % 9 = i + 1 := by omega
    have h0 := blk0 m c ⟨n + 1, h⟩ hq
    have h1 := blk1 m c ⟨n + 1, h⟩ hkv
    have h2 := blk2 m c ⟨n + 1, h⟩ hkp
    have h3 := blk3 m c ⟨n + 1, h⟩ hl
    have h4 := blk4 m c ⟨n + 1, h⟩ ho
    simp only [e1, e2] at h0 h1 h2 h3 h4
    rw [outsAt0_succ m c n h]
    by_cases h7 : i + 1 ≤ 7
    · have := tileB m c ⟨n + 1, h⟩ (by show ¬(n + 1) % 9 = 0; omega) (by show (n + 1) % 9 ≤ 7; omega) (by show ¬(n + 1) % 9 = 8; omega)
        h0 h1 h2 h3 h4 i6 i7 iK
      simpa only [dqt, acc6, acc7, if_pos h7] using this
    · have := tileC m c ⟨n + 1, h⟩ (by show ¬(n + 1) % 9 = 0; omega) (by show ¬(n + 1) % 9 ≤ 7; omega) (by show (n + 1) % 9 = 8; omega)
        h0 h1 h2 h3 h4 i6 i7 iK
      simpa only [dqt, acc6, acc7, if_neg h7] using this

/-- The three results after the run. -/
theorem result5 (c : Dev nD) {q kv kp l o : ℕ → ℕ → ℕ → ℝ} (hq : R3 (k := 4) (m := 2304) (n := 768) (V m c main_arg0) q)
    (hkv : R3 (k := 4) (m := 2304) (n := 1024) (V m c main_arg1) kv) (hkp : R3 (k := 4) (m := 2304) (n := 128) (V m c main_arg2) kp)
    (hl : R3 (k := 4) (m := 2304) (n := 4) (V m c main_v42) l) (ho : R3 (k := 4) (m := 2304) (n := 1024) (V m c main_arg3) o) :
    R3 (k := 4) (m := 2304) (n := 768) (G5 m c) (fun b r d => dqt q kv kp l o b (r / 256) (r % 256) d) := by
  intro b r d
  have hp : pt5Of (ix3 b r d) = 9 * b.val + r.val / 256 := by
    show 9 * (b.val / 1 - 0) + 1 * (r.val / 256 - 0) + 1 * (d.val / 768 - 0) = _
    omega
  have hN : pt5Of (ix3 b r d) < cfg0.N := lt_of_lt_of_eq (by omega : _ < 36) N_0.symm
  unfold G5
  rw [dif_pos hN, ← outsAt0_sweep m c _ hN]
  have h := (inv_tile m c hq hkv hkp hl ho b.val (r.val / 256) _ hN (by omega) hp).1 ⟨r.val % 256, by omega⟩ d
  refine Eq.trans (congrArg _ ?_) h
  funext a
  apply Fin.ext
  match a with
  | ⟨0, _⟩ => show b.val % 1 = 0; omega
  | ⟨1, _⟩ => rfl
  | ⟨2, _⟩ => show d.val % 768 = d.val; omega

theorem result6 (c : Dev nD) {q kv kp l o : ℕ → ℕ → ℕ → ℝ} (hq : R3 (k := 4) (m := 2304) (n := 768) (V m c main_arg0) q)
    (hkv : R3 (k := 4) (m := 2304) (n := 1024) (V m c main_arg1) kv) (hkp : R3 (k := 4) (m := 2304) (n := 128) (V m c main_arg2) kp)
    (hl : R3 (k := 4) (m := 2304) (n := 4) (V m c main_v42) l) (ho : R3 (k := 4) (m := 2304) (n := 1024) (V m c main_arg3) o) :
    R3 (k := 4) (m := 2304) (n := 1024) (G6 m c) (fun b r d => acc6 q kv kp l o b 8 r d) := by
  intro b r d
  have hp : pt6Of (ix3 b r d) = 9 * b.val + 8 := by
    show 9 * (1 * (b.val / 1 - 0) + 1 * (r.val / 2304 - 0) + 1 * (d.val / 1024 - 0)) + 8 = _
    omega
  have hN : pt6Of (ix3 b r d) < cfg0.N := lt_of_lt_of_eq (by omega : _ < 36) N_0.symm
  unfold G6
  rw [dif_pos hN, ← outsAt0_sweep m c _ hN]
  have h := (inv_tile m c hq hkv hkp hl ho b.val 8 _ hN (by omega) hp).2.1 r d
  refine Eq.trans (congrArg _ ?_) h
  funext a
  apply Fin.ext
  match a with
  | ⟨0, _⟩ => show b.val % 1 = 0; omega
  | ⟨1, _⟩ => show r.val % 2304 = r.val; omega
  | ⟨2, _⟩ => show d.val % 1024 = d.val; omega

theorem result7 (c : Dev nD) {q kv kp l o : ℕ → ℕ → ℕ → ℝ} (hq : R3 (k := 4) (m := 2304) (n := 768) (V m c main_arg0) q)
    (hkv : R3 (k := 4) (m := 2304) (n := 1024) (V m c main_arg1) kv) (hkp : R3 (k := 4) (m := 2304) (n := 128) (V m c main_arg2) kp)
    (hl : R3 (k := 4) (m := 2304) (n := 4) (V m c main_v42) l) (ho : R3 (k := 4) (m := 2304) (n := 1024) (V m c main_arg3) o) :
    R3 (k := 4) (m := 2304) (n := 128) (G7 m c) (fun b r d => acc7 q kv kp l o b 8 r d) := by
  intro b r d
  have hp : pt7Of (ix3 b r d) = 9 * b.val + 8 := by
    show 9 * (1 * (b.val / 1 - 0) + 1 * (r.val / 2304 - 0) + 1 * (d.val / 128 - 0)) + 8 = _
    omega
  have hN : pt7Of (ix3 b r d) < cfg0.N := lt_of_lt_of_eq (by omega : _ < 36) N_0.symm
  unfold G7
  rw [dif_pos hN, ← outsAt0_sweep m c _ hN]
  have h := (inv_tile m c hq hkv hkp hl ho b.val 8 _ hN (by omega) hp).2.2.1 r d
  refine Eq.trans (congrArg _ ?_) h
  funext a
  apply Fin.ext
  match a with
  | ⟨0, _⟩ => show b.val % 1 = 0; omega
  | ⟨1, _⟩ => show r.val % 2304 = r.val; omega
  | ⟨2, _⟩ => show d.val % 128 = d.val; omega

end Cert.KernelIdeal.Head
-- ==== Proof.Equation.lean ====
/-
  The two sides of the equation over the reals. The reference contracts 192 columns per head and forms the softmax by a row maximum; the kernel contracts 256
  columns, half of the last 128 cleared, and takes the row's log-sum from the host. The sums over the kernel's tiles are the sums over all rows.
-/
module
public import proofs.«01_k».proof.Proof.Attn
@[expose] public section
noncomputable section
namespace Cert.Attn

/-- A head's query row in the reference. -/
def q192 (q : ℕ → ℕ → ℝ) (r h d : ℕ) : ℝ := if d < 128 then q r (128 * h + d) else q r (512 + 64 * h + (d - 128))

/-- A head's key row in the reference. -/
def k192 (kv kp : ℕ → ℕ → ℝ) (k h d : ℕ) : ℝ := if d < 128 then kv k (256 * h + d) else kp k (64 * (h % 2) + (d - 128))

/-- The scaled score in the reference. -/
def s192 (q kv kp : ℕ → ℕ → ℝ) (h r k : ℕ) : ℝ := (∑ d : Fin 192, q192 q r h d * k192 kv kp k h d) * c

/-- 256 columns, half of the upper 128 cleared, sum to the 192 that are left. -/
theorem sum_half (f : ℕ → ℝ) (s : ℕ) (hs : s < 2) (g : ℕ → ℝ) (h1 : ∀ d, d < 128 → g d = f d)
    (h2 : ∀ d, d < 64 → g (128 + (64 * s + d)) = f (128 + d)) (h3 : ∀ d, d < 128 → d / 64 ≠ s → g (128 + d) = 0) :
    ∑ d : Fin 256, g d = ∑ d : Fin 192, f d := by
  rw [Fin.sum_univ_add (a := 128) (b := 128) (fun d => g d.val), Fin.sum_univ_add (a := 128) (b := 64) (fun d => f d.val)]
  congr 1
  · exact Finset.sum_congr rfl fun d _ => h1 d d.2
  · rw [Fin.sum_univ_add (a := 64) (b := 64) (fun d => g (Fin.natAdd 128 d).val)]
    obtain rfl | rfl : s = 0 ∨ s = 1 := by omega
    · rw [Finset.sum_eq_zero (s := Finset.univ) (f := fun i : Fin 64 => g (Fin.natAdd 128 (Fin.natAdd 64 i)).val)
        (fun d _ => h3 (64 + d) (by omega) (by omega)), add_zero]
      exact Finset.sum_congr rfl fun d _ => by
        have e := h2 d d.2
        rw [mul_zero, zero_add] at e
        exact e
    · rw [Finset.sum_eq_zero (s := Finset.univ) (f := fun i : Fin 64 => g (Fin.natAdd 128 (Fin.castAdd 64 i)).val)
        (fun d _ => h3 d (by omega) (by omega)), zero_add]
      exact Finset.sum_congr rfl fun d _ => h2 d d.2

theorem sc_eq (q kv kp : ℕ → ℕ → ℝ) (h r k : ℕ) : sc q kv kp h r k = s192 q kv kp h r k := by
  unfold sc s192
  congr 1
  refine sum_half (fun d => q192 q r h d * k192 kv kp k h d) (h % 2) (Nat.mod_lt _ (by norm_num)) (fun d => qc q h r d * kc kv kp h k d) ?_ ?_ ?_
  · intro d hd
    simp only [qc, kc, q192, k192, if_pos hd]
  · intro d hd
    have e : 128 + (64 * (h % 2) + d) - 128 = 64 * (h % 2) + d := by omega
    have e' : (64 * (h % 2) + d) / 64 = h % 2 := by omega
    have e2 : 512 + 128 * (h / 2) + (64 * (h % 2) + d) = 512 + 64 * h + d := by omega
    simp only [qc, kc, q192, k192, show ¬ 128 + (64 * (h % 2) + d) < 128 by omega, show ¬ 128 + d < 128 by omega, if_false, e, e', e2, if_true,
      Nat.add_sub_cancel_left]
  · intro d hd hne
    simp only [qc, show ¬ 128 + d < 128 by omega, if_false, Nat.add_sub_cancel_left, if_neg hne, zero_mul]

/-! ## The softmax -/

/-- The exponentials over a row's subtracted value `M`; rows and keys counted from `a`. -/
def exR (a : ℕ) (q kv kp M : ℕ → ℕ → ℝ) (h r k : ℕ) : ℝ := Real.exp (s192 q kv kp h (a + r) (a + k) - M h r)

/-- Their sum over a row. -/
def zR (nk a : ℕ) (q kv kp M : ℕ → ℕ → ℝ) (h r : ℕ) : ℝ := ∑ j : Fin nk, exR a q kv kp M h r j

/-- The derivative along a weight. -/
def dpR (a : ℕ) (kv o : ℕ → ℕ → ℝ) (h r k : ℕ) : ℝ := ∑ e : Fin 128, o (a + r) (128 * h + e) * kv (a + k) (256 * h + 128 + e)

/-- The weights. -/
def pR (nk a : ℕ) (q kv kp M : ℕ → ℕ → ℝ) (h r k : ℕ) : ℝ := exR a q kv kp M h r k * (1 / zR nk a q kv kp M h r)

/-- The derivative along a score, as the reference computes it. -/
def dsR (nk a : ℕ) (q kv kp M o : ℕ → ℕ → ℝ) (h r k : ℕ) : ℝ :=
  (dpR a kv o h r k * (1 / zR nk a q kv kp M h r)
    + -∑ j : Fin nk, dpR a kv o h r j * (1 * (1 / (zR nk a q kv kp M h r * zR nk a q kv kp M h r))) * exR a q kv kp M h r j)
    * exR a q kv kp M h r k * c

/-- A row's log-sum. -/
def lsum (nk a : ℕ) (q kv kp : ℕ → ℕ → ℝ) (h r : ℕ) : ℝ := Real.log (∑ j : Fin nk, Real.exp (s192 q kv kp h r (a + j)))

theorem zR_pos {nk : ℕ} (hn : 0 < nk) (a : ℕ) (q kv kp M : ℕ → ℕ → ℝ) (h r : ℕ) : 0 < zR nk a q kv kp M h r :=
  Finset.sum_pos (fun _ _ => Real.exp_pos _) ⟨⟨0, hn⟩, Finset.mem_univ _⟩

theorem zR_eq (nk a : ℕ) (q kv kp M : ℕ → ℕ → ℝ) (h r : ℕ) :
    zR nk a q kv kp M h r = (∑ j : Fin nk, Real.exp (s192 q kv kp h (a + r) (a + j))) * Real.exp (-M h r) := by
  unfold zR exR
  rw [Finset.sum_mul]
  exact Finset.sum_congr rfl fun j _ => by rw [sub_eq_add_neg, Real.exp_add]

/-- The maximum put back in front of the logarithm leaves the log-sum. -/
theorem lsum_eq {nk : ℕ} (hn : 0 < nk) (a : ℕ) (q kv kp M : ℕ → ℕ → ℝ) (h r : ℕ) :
    M h r + Real.log (zR nk a q kv kp M h r) = lsum nk a q kv kp h (a + r) := by
  have hp : 0 < ∑ j : Fin nk, Real.exp (s192 q kv kp h (a + r) (a + j)) := Finset.sum_pos (fun _ _ => Real.exp_pos _) ⟨⟨0, hn⟩, Finset.mem_univ _⟩
  rw [zR_eq, Real.log_mul hp.ne' (Real.exp_pos _).ne', Real.log_exp, lsum]
  ring

theorem pr_eq {nk : ℕ} (hn : 0 < nk) (a : ℕ) {q kv kp M l : ℕ → ℕ → ℝ} {h r : ℕ} (hl : l (a + r) h = lsum nk a q kv kp h (a + r)) (k : ℕ) :
    pr q kv kp l h (a + r) (a + k) = pR nk a q kv kp M h r k := by
  have hz := zR_pos hn a q kv kp M h r
  rw [pr, pR, sc_eq, hl, ← lsum_eq hn a q kv kp M h r, ← sub_sub, Real.exp_sub, Real.exp_log hz, exR, div_eq_mul_one_div]

theorem dp_eq (a : ℕ) (kv o : ℕ → ℕ → ℝ) (h r k : ℕ) : dp kv o h (a + r) (a + k) = dpR a kv o h r k := rfl

theorem ds_eq {nk : ℕ} (hn : 0 < nk) (a : ℕ) {q kv kp M l o : ℕ → ℕ → ℝ} {h r : ℕ} (hl : l (a + r) h = lsum nk a q kv kp h (a + r)) (k : ℕ) :
    ds nk a q kv kp l o h (a + r) (a + k) = dsR nk a q kv kp M o h r k := by
  have hz := (zR_pos hn a q kv kp M h r).ne'
  unfold ds
  simp only [pr_eq hn a (M := M) hl, dp_eq]
  unfold dsR pR
  have e : ∑ j : Fin nk, dpR a kv o h r j * (1 * (1 / (zR nk a q kv kp M h r * zR nk a q kv kp M h r))) * exR a q kv kp M h r j
      = (1 / zR nk a q kv kp M h r) * ∑ j : Fin nk, exR a q kv kp M h r j * (1 / zR nk a q kv kp M h r) * dpR a kv o h r j := by
    rw [Finset.mul_sum]
    refine Finset.sum_congr rfl fun j _ => ?_
    field_simp
  rw [e]
  ring

/-! ## Sums over tiles -/

/-- Eight tiles of 256 rows are 2048 rows. -/
theorem sum_tiles (f : ℕ → ℝ) : ∑ r : Fin 2048, f r = ∑ i : Fin 8, ∑ r : Fin 256, f (256 * i + r) := by
  rw [← Fintype.sum_prod_type', ← (finProdFinEquiv (m := 8) (n := 256)).sum_comp]
  exact Finset.sum_congr rfl fun x _ => by rw [finProdFinEquiv_apply_val, Nat.add_comm]

end Cert.Attn
-- ==== Proof.RefA.lean ====
/-
  The reference's operations read at their indices: queries, keys and the scaled scores of the two attentions.
-/
module
public import proofs.«01_k».proof.Proof.Equation
public import proofs.«01_k».proof.Proof.Gen.ReferenceIdeal.Read
public import Idealize.ShloMosaic.Lib.Pipeline.ValueKit
@[expose] public section
set_option maxRecDepth 16384
noncomputable section
open Idealize Idealize.ShloMosaic
namespace Cert.ReferenceIdeal.Read
open Cert.Attn

/-- An array of rank 4 holding reals. -/
def R4 {n0 n1 n2 n3 : ℕ} (X : (⟨4, ![n0, n1, n2, n3]⟩ : Shape).Idx → EReal) (f : ℕ → ℕ → ℕ → ℕ → ℝ) : Prop :=
  ∀ (b : Fin n0) (r : Fin n1) (h : Fin n2) (d : Fin n3), X (ix4 b r h d) = ((f b r h d : ℝ) : EReal)

variable {x0 : (⟨S4x2304x768, .bf16⟩ : BufTy).Contents (Elt Ideal)} {x1 : (⟨S4x2304x1024, .bf16⟩ : BufTy).Contents (Elt Ideal)}
  {x2 : (⟨S4x2304x128, .bf16⟩ : BufTy).Contents (Elt Ideal)} {x3 : (⟨S4x2304x1024, .bf16⟩ : BufTy).Contents (Elt Ideal)}
  {q kv kp o : ℕ → ℕ → ℕ → ℝ}

theorem v8_at (h0 : R3 (k := 4) (m := 2304) (n := 768) x0 q) :
    R4 (n0 := 4) (n1 := 2304) (n2 := 4) (n3 := 192) (val_main_v8 (F := Ideal) x0) (fun b r h d => q192 (q b) r h d) := by
  intro b r h d
  pointwise [val_main_v8, val_main_v5, val_main_v7, val_main_v4, val_main_v6, val_main_v0]
  unfold q192
  split
  · rw [h0]; congr 2; dsimp only; omega
  · rw [h0]; congr 2; dsimp only; omega

theorem v14_at (h1 : R3 (k := 4) (m := 2304) (n := 1024) x1 kv) (h2 : R3 (k := 4) (m := 2304) (n := 128) x2 kp) :
    R4 (n0 := 4) (n1 := 2304) (n2 := 4) (n3 := 192) (val_main_v14 (F := Ideal) x1 x2) (fun b r h d => k192 (kv b) (kp b) r h d) := by
  intro b r h d
  pointwise [val_main_v14, val_main_v10, val_main_v9, val_main_v13, val_main_v12, val_main_v1, val_main_v2]
  unfold k192
  split
  · rw [h1]; congr 2; dsimp only; omega
  · split
    · rw [h2]; congr 2; dsimp only; omega
    · rw [h2]; congr 2; dsimp only; omega

/-- The word of minus infinity. -/
theorem ninf : Ideal.ofBits FTy.f32 4286578688#32 = (⊥ : EReal) := rfl

/-- The maximum of a row of reals, taken from minus infinity, is real. -/
theorem fold_max {n : ℕ} (hn : 0 < n) (f : Fin n → ℝ) :
    ∃ M : ℝ, Finset.fold max (⊥ : EReal) (fun k => ((f k : ℝ) : EReal)) Finset.univ = ((M : ℝ) : EReal) := by
  have key : ∀ s : Finset (Fin n), Finset.fold max (⊥ : EReal) (fun k => ((f k : ℝ) : EReal)) s = ⊥ ∧ s = ∅ ∨
      ∃ M : ℝ, Finset.fold max (⊥ : EReal) (fun k => ((f k : ℝ) : EReal)) s = ((M : ℝ) : EReal) := by
    intro s
    induction s using Finset.induction_on with
    | empty => exact .inl ⟨rfl, rfl⟩
    | insert a s ha ih =>
      right
      rw [Finset.fold_insert ha]
      obtain ⟨e, _⟩ | ⟨M, e⟩ := ih
      · exact ⟨f a, by rw [e]; exact max_bot_right _⟩
      · exact ⟨max (f a) M, by rw [e]; exact (EReal.coe_strictMono.monotone.map_max (a := f a) (b := M)).symm⟩
  obtain ⟨_, e⟩ | e := key Finset.univ
  · exact absurd e (Finset.univ_nonempty_iff.2 ⟨⟨0, hn⟩⟩).ne_empty
  · exact e

end Cert.ReferenceIdeal.Read
-- ==== Proof.RefL.lean ====
/-
  The reference's attention over the 2048 latent rows, read at its indices: the softmax, its derivative and the three products of the gradient.
-/
module
public import proofs.«01_k».proof.Proof.RefA
@[expose] public section
set_option maxRecDepth 16384
noncomputable section
open Idealize Idealize.ShloMosaic
namespace Cert.ReferenceIdeal.Read
open Cert.Attn

variable {x0 : (⟨S4x2304x768, .bf16⟩ : BufTy).Contents (Elt Ideal)} {x1 : (⟨S4x2304x1024, .bf16⟩ : BufTy).Contents (Elt Ideal)}
  {x2 : (⟨S4x2304x128, .bf16⟩ : BufTy).Contents (Elt Ideal)} {x3 : (⟨S4x2304x1024, .bf16⟩ : BufTy).Contents (Elt Ideal)}
  {q kv kp o : ℕ → ℕ → ℕ → ℝ}

/-- The scaled scores. -/
theorem Ls (h0 : R3 (k := 4) (m := 2304) (n := 768) x0 q) (h1 : R3 (k := 4) (m := 2304) (n := 1024) x1 kv) (h2 : R3 (k := 4) (m := 2304) (n := 128) x2 kp) :
    R4 (n0 := 4) (n1 := 4) (n2 := 2048) (n3 := 2304) (val_main_v18 (F := Ideal) x0 x1 x2) (fun b h r k => s192 (q b) (kv b) (kp b) h (0 + r) (0 + k)) := by
  intro b h r k
  pointwise [val_main_v18, val_main_v16, val_main_v15, val_main_v17, val_main_cst]
  rw [scale_eq]
  simp only [v8_at h0 _ _ _ _, v14_at h1 h2 _ _ _ _, ← EReal.coe_mul, coe_sum]
  rfl

/-- A row's maximum is real. -/
theorem Lm (h0 : R3 (k := 4) (m := 2304) (n := 768) x0 q) (h1 : R3 (k := 4) (m := 2304) (n := 1024) x1 kv) (h2 : R3 (k := 4) (m := 2304) (n := 128) x2 kp) : ∃ M : ℕ → ℕ → ℕ → ℝ, R3 (k := 4) (m := 4) (n := 2048) (val_main_v24 (F := Ideal) x0 x1 x2) M := by
  have key : ∀ (b : Fin 4) (h : Fin 4) (r : Fin 2048), ∃ M : ℝ, val_main_v24 (F := Ideal) x0 x1 x2 (ix3 b h r) = ((M : ℝ) : EReal) := by
    intro b h r
    pointwise [val_main_v24, val_main_cst_1]
    simp only [Ls h0 h1 h2 _ _ _ _]
    exact fold_max (by norm_num) fun x : Fin 2304 => s192 (q b) (kv b) (kp b) h (0 + r) (0 + x)
  choose M hM using key
  refine ⟨fun b h r => if H : b < 4 ∧ h < 4 ∧ r < 2048 then M ⟨b, H.1⟩ ⟨h, H.2.1⟩ ⟨r, H.2.2⟩ else 0, fun b h r => ?_⟩
  refine (hM b h r).trans ?_
  dsimp only
  rw [dif_pos ⟨b.2, h.2, r.2⟩]

/-- A row's maximum, spread over the row. -/
theorem Lb {M : ℕ → ℕ → ℕ → ℝ} (hM : R3 (k := 4) (m := 4) (n := 2048) (val_main_v24 (F := Ideal) x0 x1 x2) M) :
    R4 (n0 := 4) (n1 := 4) (n2 := 2048) (n3 := 2304) (val_main_v42 (F := Ideal) x0 x1 x2) (fun b h r _ => M b h r) := by
  intro b h r k
  have e : val_main_v30 (F := Ideal) (ix3 b h r) = (⊥ : EReal) := by
    pointwise [val_main_v30, val_main_cst_3]
    exact ninf
  have e' : val_main_v31 (F := Ideal) x0 x1 x2 (ix3 b h r) = ((M b h r : ℝ) : EReal) := by
    rw [val_main_v31_apply, e, hM]
    exact max_bot_left _
  pointwise [val_main_v42, val_main_v41]
  exact e'

/-- The exponentials. -/
theorem Le {M : ℕ → ℕ → ℕ → ℝ} (h0 : R3 (k := 4) (m := 2304) (n := 768) x0 q) (h1 : R3 (k := 4) (m := 2304) (n := 1024) x1 kv) (h2 : R3 (k := 4) (m := 2304) (n := 128) x2 kp)
    (hM : R3 (k := 4) (m := 4) (n := 2048) (val_main_v24 (F := Ideal) x0 x1 x2) M) :
    R4 (n0 := 4) (n1 := 4) (n2 := 2048) (n3 := 2304) (val_main_v44 (F := Ideal) x0 x1 x2) (fun b h r k => exR 0 (q b) (kv b) (kp b) (M b) h r k) := by
  intro b h r k
  pointwise [val_main_v44, val_main_v43]
  rw [Lb hM, Ls h0 h1 h2]
  simp only [← EReal.coe_sub]
  exact Ideal.exp_coe _

/-- A row's sum of them. -/
theorem Lz {M : ℕ → ℕ → ℕ → ℝ}
    (he : R4 (n0 := 4) (n1 := 4) (n2 := 2048) (n3 := 2304) (val_main_v44 (F := Ideal) x0 x1 x2) (fun b h r k => exR 0 (q b) (kv b) (kp b) (M b) h r k)) :
    R3 (k := 4) (m := 4) (n := 2048) (val_main_v45 (F := Ideal) x0 x1 x2) (fun b h r => zR 2304 0 (q b) (kv b) (kp b) (M b) h r) := by
  intro b h r
  unfold val_main_v45
  generalize val_main_v44 (F := Ideal) x0 x1 x2 = Y at he
  pointwise [val_main_cst_9]
  simp only [he _ _ _ _, coe_sum]
  rfl

/-- The weights. -/
theorem Lp {M : ℕ → ℕ → ℕ → ℝ}
    (he : R4 (n0 := 4) (n1 := 4) (n2 := 2048) (n3 := 2304) (val_main_v44 (F := Ideal) x0 x1 x2) (fun b h r k => exR 0 (q b) (kv b) (kp b) (M b) h r k))
    (hz : R3 (k := 4) (m := 4) (n := 2048) (val_main_v45 (F := Ideal) x0 x1 x2) (fun b h r => zR 2304 0 (q b) (kv b) (kp b) (M b) h r)) :
    R4 (n0 := 4) (n1 := 4) (n2 := 2048) (n3 := 2304) (val_main_v48 (F := Ideal) x0 x1 x2) (fun b h r k => pR 2304 0 (q b) (kv b) (kp b) (M b) h r k) := by
  intro b h r k
  pointwise [val_main_v48, val_main_v47, val_main_v46]
  rw [he, hz, Ideal.div_coe (zR_pos (by norm_num) _ _ _ _ _ _ _).ne', ← EReal.coe_mul]
  rfl

/-- The derivative along a weight. -/
theorem Ldp (h1 : R3 (k := 4) (m := 2304) (n := 1024) x1 kv) (h3 : R3 (k := 4) (m := 2304) (n := 1024) x3 o) :
    R4 (n0 := 4) (n1 := 4) (n2 := 2048) (n3 := 2304) (val_main_v109 (F := Ideal) x1 x3) (fun b h r k => dpR 0 (kv b) (o b) h r k) := by
  intro b h r k
  pointwise [val_main_v109, val_main_v108, val_main_v89, val_main_v88, val_main_v87, val_main_v3, val_main_v11, val_main_v9, val_main_v1]
  simp only [h1 _ _ _, h3 _ _ _, ← EReal.coe_mul, coe_sum]
  unfold dpR
  congr 1
  refine Finset.sum_congr rfl fun x _ => ?_
  congr 2 <;> (try dsimp only) <;> omega

/-- The derivative along a scaled score. -/
theorem Lds {M : ℕ → ℕ → ℕ → ℝ}
    (he : R4 (n0 := 4) (n1 := 4) (n2 := 2048) (n3 := 2304) (val_main_v44 (F := Ideal) x0 x1 x2) (fun b h r k => exR 0 (q b) (kv b) (kp b) (M b) h r k))
    (hz : R3 (k := 4) (m := 4) (n := 2048) (val_main_v45 (F := Ideal) x0 x1 x2) (fun b h r => zR 2304 0 (q b) (kv b) (kp b) (M b) h r))
    (hd : R4 (n0 := 4) (n1 := 4) (n2 := 2048) (n3 := 2304) (val_main_v109 (F := Ideal) x1 x3) (fun b h r k => dpR 0 (kv b) (o b) h r k)) :
    R4 (n0 := 4) (n1 := 4) (n2 := 2048) (n3 := 2304) (val_main_v134 (F := Ideal) x0 x1 x2 x3) (fun b h r k => dsR 2304 0 (q b) (kv b) (kp b) (M b) (o b) h r k) := by
  intro b h r k
  pointwise [val_main_v134, val_main_v133, val_main_v124, val_main_v123, val_main_v122, val_main_v121, val_main_v120, val_main_v119, val_main_v118, val_main_v117, val_main_v116, val_main_v115, val_main_v114, val_main_v113, val_main_v51, val_main_v50, val_main_v49, val_main_v46, val_main_cst_25, val_main_cst_24, val_main_cst_10, val_main_cst_29]
  have hp := (zR_pos (nk := 2304) (by norm_num) 0 (q b) (kv b) (kp b) (M b) h r).ne'
  rw [hz]
  simp only [he _ _ _ _, hd _ _ _ _, ← EReal.coe_mul, Ideal.div_coe hp, Ideal.div_coe (mul_ne_zero hp hp), scale_eq]
  rw [← EReal.coe_one]
  simp only [← EReal.coe_mul, ← EReal.coe_neg, ← EReal.coe_add, coe_sum, Fin.sum_univ_one]
  rfl

/-- The gradient of the queries. -/
theorem Ldq {D : ℕ → ℕ → ℕ → ℕ → ℝ} (h1 : R3 (k := 4) (m := 2304) (n := 1024) x1 kv) (h2 : R3 (k := 4) (m := 2304) (n := 128) x2 kp)
    (hd : R4 (n0 := 4) (n1 := 4) (n2 := 2048) (n3 := 2304) (val_main_v134 (F := Ideal) x0 x1 x2 x3) D) :
    R4 (n0 := 4) (n1 := 2048) (n2 := 4) (n3 := 192) (val_main_v139 (F := Ideal) x0 x1 x2 x3)
      (fun b r h d => ∑ k : Fin 2304, D b h r k * k192 (kv b) (kp b) (0 + k) h d) := by
  intro b r h d
  pointwise [val_main_v139, val_main_v138]
  simp only [hd _ _ _ _, v14_at h1 h2 _ _ _ _, ← EReal.coe_mul, coe_sum, zero_add]

/-- The gradient of the keys. -/
theorem Ldk {D : ℕ → ℕ → ℕ → ℕ → ℝ} (h0 : R3 (k := 4) (m := 2304) (n := 768) x0 q)
    (hd : R4 (n0 := 4) (n1 := 4) (n2 := 2048) (n3 := 2304) (val_main_v134 (F := Ideal) x0 x1 x2 x3) D) :
    R4 (n0 := 4) (n1 := 2304) (n2 := 4) (n3 := 192) (val_main_v136 (F := Ideal) x0 x1 x2 x3)
      (fun b k h d => ∑ r : Fin 2048, D b h r k * q192 (q b) (0 + r) h d) := by
  intro b k h d
  pointwise [val_main_v136, val_main_v135, val_main_v15]
  simp only [hd _ _ _ _, v8_at h0 _ _ _ _, ← EReal.coe_mul, coe_sum, zero_add]

/-- The gradient of the values. -/
theorem Ldv {P : ℕ → ℕ → ℕ → ℕ → ℝ} (h3 : R3 (k := 4) (m := 2304) (n := 1024) x3 o)
    (hp : R4 (n0 := 4) (n1 := 4) (n2 := 2048) (n3 := 2304) (val_main_v48 (F := Ideal) x0 x1 x2) P) :
    R4 (n0 := 4) (n1 := 2304) (n2 := 4) (n3 := 128) (val_main_v111 (F := Ideal) x0 x1 x2 x3)
      (fun b k h d => ∑ r : Fin 2048, P b h r k * o b (0 + r) (128 * h + d)) := by
  intro b k h d
  pointwise [val_main_v111, val_main_v110, val_main_v108, val_main_v89, val_main_v88, val_main_v87, val_main_v3]
  simp only [hp _ _ _ _, h3 _ _ _, ← EReal.coe_mul, coe_sum]
  congr 1
  refine Finset.sum_congr rfl fun x _ => ?_
  rw [mul_comm]
  congr 2 <;> (try dsimp only) <;> omega

end Cert.ReferenceIdeal.Read
-- ==== Proof.RefC.lean ====
/-
  The reference's attention over the 256 context rows, read at its indices: the softmax, its derivative and the three products of the gradient.
-/
module
public import proofs.«01_k».proof.Proof.RefA
@[expose] public section
set_option maxRecDepth 16384
noncomputable section
open Idealize Idealize.ShloMosaic
namespace Cert.ReferenceIdeal.Read
open Cert.Attn

variable {x0 : (⟨S4x2304x768, .bf16⟩ : BufTy).Contents (Elt Ideal)} {x1 : (⟨S4x2304x1024, .bf16⟩ : BufTy).Contents (Elt Ideal)}
  {x2 : (⟨S4x2304x128, .bf16⟩ : BufTy).Contents (Elt Ideal)} {x3 : (⟨S4x2304x1024, .bf16⟩ : BufTy).Contents (Elt Ideal)}
  {q kv kp o : ℕ → ℕ → ℕ → ℝ}

/-- The scaled scores. -/
theorem Cs (h0 : R3 (k := 4) (m := 2304) (n := 768) x0 q) (h1 : R3 (k := 4) (m := 2304) (n := 1024) x1 kv) (h2 : R3 (k := 4) (m := 2304) (n := 128) x2 kp) :
    R4 (n0 := 4) (n1 := 4) (n2 := 256) (n3 := 256) (val_main_v23 (F := Ideal) x0 x1 x2) (fun b h r k => s192 (q b) (kv b) (kp b) h (2048 + r) (2048 + k)) := by
  intro b h r k
  pointwise [val_main_v23, val_main_v21, val_main_v19, val_main_v22, val_main_cst_0, val_main_v20]
  rw [scale_eq]
  simp only [v8_at h0 _ _ _ _, v14_at h1 h2 _ _ _ _, ← EReal.coe_mul, coe_sum]
  rfl

/-- A row's maximum is real. -/
theorem Cm (h0 : R3 (k := 4) (m := 2304) (n := 768) x0 q) (h1 : R3 (k := 4) (m := 2304) (n := 1024) x1 kv) (h2 : R3 (k := 4) (m := 2304) (n := 128) x2 kp) : ∃ M : ℕ → ℕ → ℕ → ℝ, R3 (k := 4) (m := 4) (n := 256) (val_main_v54 (F := Ideal) x0 x1 x2) M := by
  have key : ∀ (b : Fin 4) (h : Fin 4) (r : Fin 256), ∃ M : ℝ, val_main_v54 (F := Ideal) x0 x1 x2 (ix3 b h r) = ((M : ℝ) : EReal) := by
    intro b h r
    pointwise [val_main_v54, val_main_cst_11]
    simp only [Cs h0 h1 h2 _ _ _ _]
    exact fold_max (by norm_num) fun x : Fin 256 => s192 (q b) (kv b) (kp b) h (2048 + r) (2048 + x)
  choose M hM using key
  refine ⟨fun b h r => if H : b < 4 ∧ h < 4 ∧ r < 256 then M ⟨b, H.1⟩ ⟨h, H.2.1⟩ ⟨r, H.2.2⟩ else 0, fun b h r => ?_⟩
  refine (hM b h r).trans ?_
  dsimp only
  rw [dif_pos ⟨b.2, h.2, r.2⟩]

/-- A row's maximum, spread over the row. -/
theorem Cb {M : ℕ → ℕ → ℕ → ℝ} (hM : R3 (k := 4) (m := 4) (n := 256) (val_main_v54 (F := Ideal) x0 x1 x2) M) :
    R4 (n0 := 4) (n1 := 4) (n2 := 256) (n3 := 256) (val_main_v72 (F := Ideal) x0 x1 x2) (fun b h r _ => M b h r) := by
  intro b h r k
  have e : val_main_v60 (F := Ideal) (ix3 b h r) = (⊥ : EReal) := by
    pointwise [val_main_v60, val_main_cst_13]
    exact ninf
  have e' : val_main_v61 (F := Ideal) x0 x1 x2 (ix3 b h r) = ((M b h r : ℝ) : EReal) := by
    rw [val_main_v61_apply, e, hM]
    exact max_bot_left _
  pointwise [val_main_v72, val_main_v71]
  exact e'

/-- The exponentials. -/
theorem Ce {M : ℕ → ℕ → ℕ → ℝ} (h0 : R3 (k := 4) (m := 2304) (n := 768) x0 q) (h1 : R3 (k := 4) (m := 2304) (n := 1024) x1 kv) (h2 : R3 (k := 4) (m := 2304) (n := 128) x2 kp)
    (hM : R3 (k := 4) (m := 4) (n := 256) (val_main_v54 (F := Ideal) x0 x1 x2) M) :
    R4 (n0 := 4) (n1 := 4) (n2 := 256) (n3 := 256) (val_main_v74 (F := Ideal) x0 x1 x2) (fun b h r k => exR 2048 (q b) (kv b) (kp b) (M b) h r k) := by
  intro b h r k
  pointwise [val_main_v74, val_main_v73]
  rw [Cb hM, Cs h0 h1 h2]
  simp only [← EReal.coe_sub]
  exact Ideal.exp_coe _

/-- A row's sum of them. -/
theorem Cz {M : ℕ → ℕ → ℕ → ℝ}
    (he : R4 (n0 := 4) (n1 := 4) (n2 := 256) (n3 := 256) (val_main_v74 (F := Ideal) x0 x1 x2) (fun b h r k => exR 2048 (q b) (kv b) (kp b) (M b) h r k)) :
    R3 (k := 4) (m := 4) (n := 256) (val_main_v75 (F := Ideal) x0 x1 x2) (fun b h r => zR 256 2048 (q b) (kv b) (kp b) (M b) h r) := by
  intro b h r
  unfold val_main_v75
  generalize val_main_v74 (F := Ideal) x0 x1 x2 = Y at he
  pointwise [val_main_cst_19]
  simp only [he _ _ _ _, coe_sum]
  rfl

/-- The weights. -/
theorem Cp {M : ℕ → ℕ → ℕ → ℝ}
    (he : R4 (n0 := 4) (n1 := 4) (n2 := 256) (n3 := 256) (val_main_v74 (F := Ideal) x0 x1 x2) (fun b h r k => exR 2048 (q b) (kv b) (kp b) (M b) h r k))
    (hz : R3 (k := 4) (m := 4) (n := 256) (val_main_v75 (F := Ideal) x0 x1 x2) (fun b h r => zR 256 2048 (q b) (kv b) (kp b) (M b) h r)) :
    R4 (n0 := 4) (n1 := 4) (n2 := 256) (n3 := 256) (val_main_v78 (F := Ideal) x0 x1 x2) (fun b h r k => pR 256 2048 (q b) (kv b) (kp b) (M b) h r k) := by
  intro b h r k
  pointwise [val_main_v78, val_main_v77, val_main_v76]
  rw [he, hz, Ideal.div_coe (zR_pos (by norm_num) _ _ _ _ _ _ _).ne', ← EReal.coe_mul]
  rfl

/-- The derivative along a weight. -/
theorem Cdp (h1 : R3 (k := 4) (m := 2304) (n := 1024) x1 kv) (h3 : R3 (k := 4) (m := 2304) (n := 1024) x3 o) :
    R4 (n0 := 4) (n1 := 4) (n2 := 256) (n3 := 256) (val_main_v92 (F := Ideal) x1 x3) (fun b h r k => dpR 2048 (kv b) (o b) h r k) := by
  intro b h r k
  pointwise [val_main_v92, val_main_v91, val_main_v90, val_main_v88, val_main_v87, val_main_v3, val_main_v82, val_main_v11, val_main_v9, val_main_v1]
  simp only [h1 _ _ _, h3 _ _ _, ← EReal.coe_mul, coe_sum]
  unfold dpR
  congr 1
  refine Finset.sum_congr rfl fun x _ => ?_
  congr 2 <;> (try dsimp only) <;> omega

/-- The derivative along a scaled score. -/
theorem Cds {M : ℕ → ℕ → ℕ → ℝ}
    (he : R4 (n0 := 4) (n1 := 4) (n2 := 256) (n3 := 256) (val_main_v74 (F := Ideal) x0 x1 x2) (fun b h r k => exR 2048 (q b) (kv b) (kp b) (M b) h r k))
    (hz : R3 (k := 4) (m := 4) (n := 256) (val_main_v75 (F := Ideal) x0 x1 x2) (fun b h r => zR 256 2048 (q b) (kv b) (kp b) (M b) h r))
    (hd : R4 (n0 := 4) (n1 := 4) (n2 := 256) (n3 := 256) (val_main_v92 (F := Ideal) x1 x3) (fun b h r k => dpR 2048 (kv b) (o b) h r k)) :
    R4 (n0 := 4) (n1 := 4) (n2 := 256) (n3 := 256) (val_main_v126 (F := Ideal) x0 x1 x2 x3) (fun b h r k => dsR 256 2048 (q b) (kv b) (kp b) (M b) (o b) h r k) := by
  intro b h r k
  pointwise [val_main_v126, val_main_v125, val_main_v107, val_main_v106, val_main_v105, val_main_v104, val_main_v103, val_main_v102, val_main_v101, val_main_v100, val_main_v99, val_main_v98, val_main_v97, val_main_v96, val_main_v81, val_main_v80, val_main_v79, val_main_v76, val_main_cst_23, val_main_cst_22, val_main_cst_20, val_main_cst_26]
  have hp := (zR_pos (nk := 256) (by norm_num) 2048 (q b) (kv b) (kp b) (M b) h r).ne'
  rw [hz]
  simp only [he _ _ _ _, hd _ _ _ _, ← EReal.coe_mul, Ideal.div_coe hp, Ideal.div_coe (mul_ne_zero hp hp), scale_eq]
  rw [← EReal.coe_one]
  simp only [← EReal.coe_mul, ← EReal.coe_neg, ← EReal.coe_add, coe_sum, Fin.sum_univ_one]
  rfl

/-- The gradient of the queries. -/
theorem Cdq {D : ℕ → ℕ → ℕ → ℕ → ℝ} (h1 : R3 (k := 4) (m := 2304) (n := 1024) x1 kv) (h2 : R3 (k := 4) (m := 2304) (n := 128) x2 kp)
    (hd : R4 (n0 := 4) (n1 := 4) (n2 := 256) (n3 := 256) (val_main_v126 (F := Ideal) x0 x1 x2 x3) D) :
    R4 (n0 := 4) (n1 := 256) (n2 := 4) (n3 := 192) (val_main_v130 (F := Ideal) x0 x1 x2 x3)
      (fun b r h d => ∑ k : Fin 256, D b h r k * k192 (kv b) (kp b) (2048 + k) h d) := by
  intro b r h d
  pointwise [val_main_v130, val_main_v129, val_main_v20]
  simp only [hd _ _ _ _, v14_at h1 h2 _ _ _ _, ← EReal.coe_mul, coe_sum]

/-- The gradient of the keys. -/
theorem Cdk {D : ℕ → ℕ → ℕ → ℕ → ℝ} (h0 : R3 (k := 4) (m := 2304) (n := 768) x0 q)
    (hd : R4 (n0 := 4) (n1 := 4) (n2 := 256) (n3 := 256) (val_main_v126 (F := Ideal) x0 x1 x2 x3) D) :
    R4 (n0 := 4) (n1 := 256) (n2 := 4) (n3 := 192) (val_main_v128 (F := Ideal) x0 x1 x2 x3)
      (fun b k h d => ∑ r : Fin 256, D b h r k * q192 (q b) (2048 + r) h d) := by
  intro b k h d
  pointwise [val_main_v128, val_main_v127, val_main_v19]
  simp only [hd _ _ _ _, v8_at h0 _ _ _ _, ← EReal.coe_mul, coe_sum]

/-- The gradient of the values. -/
theorem Cdv {P : ℕ → ℕ → ℕ → ℕ → ℝ} (h3 : R3 (k := 4) (m := 2304) (n := 1024) x3 o)
    (hp : R4 (n0 := 4) (n1 := 4) (n2 := 256) (n3 := 256) (val_main_v78 (F := Ideal) x0 x1 x2) P) :
    R4 (n0 := 4) (n1 := 256) (n2 := 4) (n3 := 128) (val_main_v94 (F := Ideal) x0 x1 x2 x3)
      (fun b k h d => ∑ r : Fin 256, P b h r k * o b (2048 + r) (128 * h + d)) := by
  intro b k h d
  pointwise [val_main_v94, val_main_v93, val_main_v91, val_main_v90, val_main_v88, val_main_v87, val_main_v3]
  simp only [hp _ _ _ _, h3 _ _ _, ← EReal.coe_mul, coe_sum]
  congr 1
  refine Finset.sum_congr rfl fun x _ => ?_
  rw [mul_comm]
  congr 2 <;> (try dsimp only) <;> omega

end Cert.ReferenceIdeal.Read
-- ==== Proof.RefOut.lean ====
/-
  The reference's three results over the reals: the two attentions' gradients put together, and the heads' columns put back in their places.
-/
module
public import proofs.«01_k».proof.Proof.RefL
public import proofs.«01_k».proof.Proof.RefC
@[expose] public section
set_option maxRecDepth 16384
noncomputable section
open Idealize Idealize.ShloMosaic
namespace Cert.ReferenceIdeal.Read
open Cert.Attn

variable {x0 : (⟨S4x2304x768, .bf16⟩ : BufTy).Contents (Elt Ideal)} {x1 : (⟨S4x2304x1024, .bf16⟩ : BufTy).Contents (Elt Ideal)}
  {x2 : (⟨S4x2304x128, .bf16⟩ : BufTy).Contents (Elt Ideal)} {x3 : (⟨S4x2304x1024, .bf16⟩ : BufTy).Contents (Elt Ideal)}
  {q kv kp o : ℕ → ℕ → ℕ → ℝ}

variable {DL DC PL PC : ℕ → ℕ → ℕ → ℕ → ℝ}

/-- The gradient of a head's query row: a context row's from the context attention, a latent row's from the latent one. -/
def dqh (kv kp : ℕ → ℕ → ℕ → ℝ) (DL DC : ℕ → ℕ → ℕ → ℕ → ℝ) (b r h d : ℕ) : ℝ :=
  (if 2048 ≤ r then ∑ k : Fin 256, DC b h (r - 2048) k * k192 (kv b) (kp b) (2048 + k) h d else 0)
    + (if r < 2048 then ∑ k : Fin 2304, DL b h r k * k192 (kv b) (kp b) (0 + k) h d else 0)

/-- The gradient of a head's key row. -/
def dkh (q : ℕ → ℕ → ℕ → ℝ) (DL DC : ℕ → ℕ → ℕ → ℕ → ℝ) (b k h d : ℕ) : ℝ :=
  (if 2048 ≤ k then ∑ r : Fin 256, DC b h r (k - 2048) * q192 (q b) (2048 + r) h d else 0)
    + ∑ r : Fin 2048, DL b h r k * q192 (q b) (0 + r) h d

/-- The gradient of a head's value row. -/
def dvh (o : ℕ → ℕ → ℕ → ℝ) (PL PC : ℕ → ℕ → ℕ → ℕ → ℝ) (b k h d : ℕ) : ℝ :=
  (if 2048 ≤ k then ∑ r : Fin 256, PC b h r (k - 2048) * o b (2048 + r) (128 * h + d) else 0)
    + ∑ r : Fin 2048, PL b h r k * o b (0 + r) (128 * h + d)

theorem v141_at (h1 : R3 (k := 4) (m := 2304) (n := 1024) x1 kv) (h2 : R3 (k := 4) (m := 2304) (n := 128) x2 kp)
    (hDL : R4 (n0 := 4) (n1 := 4) (n2 := 2048) (n3 := 2304) (val_main_v134 (F := Ideal) x0 x1 x2 x3) DL)
    (hDC : R4 (n0 := 4) (n1 := 4) (n2 := 256) (n3 := 256) (val_main_v126 (F := Ideal) x0 x1 x2 x3) DC) :
    R4 (n0 := 4) (n1 := 2304) (n2 := 4) (n3 := 192) (val_main_v141 (F := Ideal) x0 x1 x2 x3) (fun b r h d => dqh kv kp DL DC b r h d) := by
  intro b r h d
  have e1 := Ldq h1 h2 hDL
  have e2 := Cdq h1 h2 hDC
  rw [val_main_v141_apply]
  pointwise [val_main_v132, val_main_v140, val_main_cst_30, val_main_cst_28]
  unfold dqh
  by_cases hr : r.val < 2048
  · rw [dif_neg (by omega), dif_pos hr, if_neg (by omega), if_pos hr, e1, zero_add, zero_add]
  · rw [dif_pos (by omega), dif_neg hr, if_pos (by omega), if_neg hr, e2, add_zero, add_zero]

theorem v137_at (h0 : R3 (k := 4) (m := 2304) (n := 768) x0 q)
    (hDL : R4 (n0 := 4) (n1 := 4) (n2 := 2048) (n3 := 2304) (val_main_v134 (F := Ideal) x0 x1 x2 x3) DL)
    (hDC : R4 (n0 := 4) (n1 := 4) (n2 := 256) (n3 := 256) (val_main_v126 (F := Ideal) x0 x1 x2 x3) DC) :
    R4 (n0 := 4) (n1 := 2304) (n2 := 4) (n3 := 192) (val_main_v137 (F := Ideal) x0 x1 x2 x3) (fun b r h d => dkh q DL DC b r h d) := by
  intro b r h d
  have e1 := Ldk h0 hDL
  have e2 := Cdk h0 hDC
  rw [val_main_v137_apply, e1]
  pointwise [val_main_v131, val_main_cst_27]
  unfold dkh
  by_cases hr : r.val < 2048
  · rw [dif_neg (by omega), if_neg (by omega)]
    simp only [zero_add]
  · rw [dif_pos (by omega), if_pos (by omega), e2, ← EReal.coe_add]
    simp only [zero_add]

theorem v112_at (h3 : R3 (k := 4) (m := 2304) (n := 1024) x3 o)
    (hPL : R4 (n0 := 4) (n1 := 4) (n2 := 2048) (n3 := 2304) (val_main_v48 (F := Ideal) x0 x1 x2) PL)
    (hPC : R4 (n0 := 4) (n1 := 4) (n2 := 256) (n3 := 256) (val_main_v78 (F := Ideal) x0 x1 x2) PC) :
    R4 (n0 := 4) (n1 := 2304) (n2 := 4) (n3 := 128) (val_main_v112 (F := Ideal) x0 x1 x2 x3) (fun b r h d => dvh o PL PC b r h d) := by
  intro b r h d
  have e1 := Ldv h3 hPL
  have e2 := Cdv h3 hPC
  rw [val_main_v112_apply, e1]
  pointwise [val_main_v95, val_main_cst_21]
  unfold dvh
  by_cases hr : r.val < 2048
  · rw [dif_neg (by omega), if_neg (by omega)]
    simp only [zero_add]
  · rw [dif_pos (by omega), if_pos (by omega), e2, ← EReal.coe_add]
    simp only [zero_add]

/-- The gradient of `q`. -/
theorem out_q {G : ℕ → ℕ → ℕ → ℕ → ℝ}
    (h : R4 (n0 := 4) (n1 := 2304) (n2 := 4) (n3 := 192) (val_main_v141 (F := Ideal) x0 x1 x2 x3) G) :
    R3 (k := 4) (m := 2304) (n := 768) (val_main_v156 (F := Ideal) x0 x1 x2 x3)
      (fun b r x => if x < 512 then G b r (x / 128) (x % 128) else G b r ((x - 512) / 64) (128 + (x - 512) % 64)) := by
  intro b r x
  rw [val_main_v156_apply]
  pointwise [val_main_v155, val_main_v154, val_main_v153, val_main_v152, val_main_v151, val_main_v150, val_main_cst_31, val_main_cst_32]
  by_cases hx : x.val < 512
  · rw [dif_neg (by omega), dif_pos hx, if_pos hx, h]
    exact zero_add _
  · rw [dif_pos (by omega), dif_neg hx, if_neg hx, h]
    exact add_zero _

/-- The gradient of `kv`. -/
theorem out_kv {K W : ℕ → ℕ → ℕ → ℕ → ℝ}
    (h : R4 (n0 := 4) (n1 := 2304) (n2 := 4) (n3 := 192) (val_main_v137 (F := Ideal) x0 x1 x2 x3) K)
    (h' : R4 (n0 := 4) (n1 := 2304) (n2 := 4) (n3 := 128) (val_main_v112 (F := Ideal) x0 x1 x2 x3) W) :
    R3 (k := 4) (m := 2304) (n := 1024) (val_main_v149 (F := Ideal) x0 x1 x2 x3)
      (fun b r x => if x % 256 < 128 then K b r (x / 256) (x % 256) else W b r (x / 256) (x % 256 - 128)) := by
  intro b r x
  pointwise [val_main_v149, val_main_v148, val_main_v142]
  by_cases hx : x.val % 256 < 128
  · rw [dif_pos hx, if_pos hx, h]
  · rw [dif_neg hx, if_neg hx, h']

/-- The gradient of `kpe`. -/
theorem out_kpe {K : ℕ → ℕ → ℕ → ℕ → ℝ}
    (h : R4 (n0 := 4) (n1 := 2304) (n2 := 4) (n3 := 192) (val_main_v137 (F := Ideal) x0 x1 x2 x3) K) :
    R3 (k := 4) (m := 2304) (n := 128) (val_main_v147 (F := Ideal) x0 x1 x2 x3)
      (fun b r x => K b r (x / 64) (128 + x % 64) + K b r (2 + x / 64) (128 + x % 64)) := by
  intro b r x
  pointwise [val_main_v147, val_main_v146, val_main_v145, val_main_v144, val_main_v143]
  rw [h, h, ← EReal.coe_add]

end Cert.ReferenceIdeal.Read
-- ==== Proof.Match.lean ====
/-
  The kernel's results and the reference's are the same reals: the carried sums over the tiles are the reference's sums over the rows, and the columns that a
  head does not own contribute nothing.
-/
module
public import proofs.«01_k».proof.Proof.Fold
public import proofs.«01_k».proof.Proof.RefOut
@[expose] public section
noncomputable section
namespace Cert.Attn
open Cert.KernelIdeal.Head (acc6 acc7 dqt)
open Cert.ReferenceIdeal.Read (dqh dkh dvh)

variable (q kv kp o ML MC : ℕ → ℕ → ℕ → ℝ)

/-- The row sums the host passes. -/
def lsF (b r h : ℕ) : ℝ := if r < 2048 then lsum 2304 0 (q b) (kv b) (kp b) h r else lsum 256 2048 (q b) (kv b) (kp b) h r

theorem lsF_lat {b r h : ℕ} (hr : r < 2048) : lsF q kv kp b (0 + r) h = lsum 2304 0 (q b) (kv b) (kp b) h (0 + r) := by
  rw [zero_add, lsF, if_pos hr]

theorem lsF_ctx (b r h : ℕ) : lsF q kv kp b (2048 + r) h = lsum 256 2048 (q b) (kv b) (kp b) h (2048 + r) := by
  rw [lsF, if_neg (by omega)]

theorem ds_lat {b r h : ℕ} (hr : r < 2048) (k : ℕ) : ds 2304 0 (q b) (kv b) (kp b) (lsF q kv kp b) (o b) h r k
    = dsR 2304 0 (q b) (kv b) (kp b) (ML b) (o b) h r k := by
  have e := ds_eq (nk := 2304) (by norm_num) 0 (M := ML b) (o := o b) (lsF_lat q kv kp (b := b) (h := h) hr) k
  rwa [zero_add, zero_add] at e

theorem pr_lat {b r h : ℕ} (hr : r < 2048) (k : ℕ) : pr (q b) (kv b) (kp b) (lsF q kv kp b) h r k
    = pR 2304 0 (q b) (kv b) (kp b) (ML b) h r k := by
  have e := pr_eq (nk := 2304) (by norm_num) 0 (M := ML b) (lsF_lat q kv kp (b := b) (h := h) hr) k
  rwa [zero_add, zero_add] at e

theorem ds_ctx (b r h k : ℕ) : ds 256 2048 (q b) (kv b) (kp b) (lsF q kv kp b) (o b) h (2048 + r) (2048 + k)
    = dsR 256 2048 (q b) (kv b) (kp b) (MC b) (o b) h r k :=
  ds_eq (nk := 256) (by norm_num) 2048 (M := MC b) (o := o b) (lsF_ctx q kv kp b r h) k

theorem pr_ctx (b r h k : ℕ) : pr (q b) (kv b) (kp b) (lsF q kv kp b) h (2048 + r) (2048 + k)
    = pR 256 2048 (q b) (kv b) (kp b) (MC b) h r k :=
  pr_eq (nk := 256) (by norm_num) 2048 (M := MC b) (lsF_ctx q kv kp b r h) k

/-! ## A head's columns -/

theorem kc_low (kv kp : ℕ → ℕ → ℝ) (h k : ℕ) {d : ℕ} (hd : d < 128) : kc kv kp h k d = k192 kv kp k h d := by
  rw [kc, k192, if_pos hd, if_pos hd]

theorem kc_high (kv kp : ℕ → ℕ → ℝ) (k x : ℕ) : kc kv kp (x / 64) k (128 + x % 128) = k192 kv kp k (x / 64) (128 + x % 64) := by
  rw [kc, k192, if_neg (show ¬ 128 + x % 128 < 128 by omega), if_neg (show ¬ 128 + x % 64 < 128 by omega)]
  simp only [Nat.add_sub_cancel_left]
  rw [if_pos (show x % 128 / 64 = x / 64 % 2 by omega)]
  congr 1
  omega

theorem qc_low (q : ℕ → ℕ → ℝ) (h r : ℕ) {d : ℕ} (hd : d < 128) : qc q h r d = q192 q r h d := by
  rw [qc, q192, if_pos hd, if_pos hd]

theorem qc_high (q : ℕ → ℕ → ℝ) (h r : ℕ) {x : ℕ} (hx : x / 64 = h % 2) : qc q h r (128 + x) = q192 q r h (128 + x % 64) := by
  rw [qc, q192, if_neg (show ¬ 128 + x < 128 by omega), if_neg (show ¬ 128 + x % 64 < 128 by omega)]
  simp only [Nat.add_sub_cancel_left]
  rw [if_pos hx]
  congr 1
  omega

theorem qc_none (q : ℕ → ℕ → ℝ) (h r : ℕ) {x : ℕ} (hx : x / 64 ≠ h % 2) : qc q h r (128 + x) = 0 := by
  rw [qc, if_neg (show ¬ 128 + x < 128 by omega), Nat.add_sub_cancel_left, if_neg hx]

/-! ## The queries -/

theorem dq_eq (b r x : ℕ) (hr : r < 2304) :
    dqt q kv kp (lsF q kv kp) o b (r / 256) (r % 256) x
      = if x < 512 then dqh kv kp (fun b h r k => dsR 2304 0 (q b) (kv b) (kp b) (ML b) (o b) h r k) (fun b h r k => dsR 256 2048 (q b) (kv b) (kp b) (MC b) (o b) h r k) b r (x / 128) (x % 128)
        else dqh kv kp (fun b h r k => dsR 2304 0 (q b) (kv b) (kp b) (ML b) (o b) h r k) (fun b h r k => dsR 256 2048 (q b) (kv b) (kp b) (MC b) (o b) h r k) b r ((x - 512) / 64) (128 + (x - 512) % 64) := by
  have e : 256 * (r / 256) + r % 256 = r := Nat.div_add_mod r 256
  have t : ∀ nk a h k, ds nk a (fun r' d => q b (256 * (r / 256) + r') d) (kv b) (kp b) (fun r' h => lsF q kv kp b (256 * (r / 256) + r') h)
      (fun r' d => o b (256 * (r / 256) + r') d) h (r % 256) k = ds nk a (q b) (kv b) (kp b) (lsF q kv kp b) (o b) h r k := by
    intro nk a h k
    show ds nk a (q b) (kv b) (kp b) (lsF q kv kp b) (o b) h (256 * (r / 256) + r % 256) k = _
    rw [e]
  unfold dqt
  by_cases h2 : r < 2048
  · rw [if_pos (by omega)]
    unfold dqv dqh
    simp only [t, if_pos h2, if_neg (show ¬ 2048 ≤ r by omega), zero_add, ds_lat q kv kp o ML h2, kc_high, kc_low (kv b) (kp b) _ _ (Nat.mod_lt x (show 128 > 0 by norm_num))]
  · rw [if_neg (by omega)]
    have e2 : 2048 + (r - 2048) = r := by omega
    have t2 : ∀ h (k : Fin 256), ds 256 2048 (q b) (kv b) (kp b) (lsF q kv kp b) (o b) h r (2048 + k)
        = dsR 256 2048 (q b) (kv b) (kp b) (MC b) (o b) h (r - 2048) k := by
      intro h k
      rw [← ds_ctx q kv kp o MC b (r - 2048) h k, e2]
    unfold dqv dqh
    simp only [t, if_neg h2, if_pos (show 2048 ≤ r by omega), add_zero, t2, kc_high, kc_low (kv b) (kp b) _ _ (Nat.mod_lt x (show 128 > 0 by norm_num))]

/-! ## The carried sums -/

/-- A sum carried over the tiles: the eight latent tiles, then, on the context keys, the context tile. -/
theorem carried (A T T' : ℕ → ℕ → ℕ → ℝ) (h0 : ∀ k x, A 0 k x = T 0 k x)
    (hs : ∀ i k x, A (i + 1) k x = if i + 1 ≤ 7 then A i k x + T (i + 1) k x else if 2048 ≤ k then A i k x + T' (i + 1) k x else A i k x) (k x : ℕ) :
    A 8 k x = (if 2048 ≤ k then T' 8 k x else 0) + ∑ i : Fin 8, T i k x := by
  have key : ∀ n, n ≤ 7 → A n k x = ∑ i ∈ Finset.range (n + 1), T i k x := by
    intro n
    induction n with
    | zero => intro _; rw [h0, Finset.sum_range_one]
    | succ n ih => intro hn; rw [hs, if_pos hn, ih (by omega), Finset.sum_range_succ _ (n + 1)]
  rw [hs, if_neg (by omega), key 7 le_rfl, Finset.sum_range]
  split
  · rw [add_comm]
  · rw [zero_add]

/-- The gradient of keys and values. -/
theorem dkv_eq (b k x : ℕ) (hk : k < 2304) :
    acc6 q kv kp (lsF q kv kp) o b 8 k x
      = if x % 256 < 128 then dkh q (fun b h r k => dsR 2304 0 (q b) (kv b) (kp b) (ML b) (o b) h r k) (fun b h r k => dsR 256 2048 (q b) (kv b) (kp b) (MC b) (o b) h r k) b k (x / 256) (x % 256)
        else dvh o (fun b h r k => pR 2304 0 (q b) (kv b) (kp b) (ML b) h r k) (fun b h r k => pR 256 2048 (q b) (kv b) (kp b) (MC b) h r k) b k (x / 256) (x % 256 - 128) := by
  rw [carried (acc6 q kv kp (lsF q kv kp) o b) (fun i k x => tkv 2304 0 (fun r d => q b (256 * i + r) d) (kv b) (kp b) (fun r h => lsF q kv kp b (256 * i + r) h) (fun r d => o b (256 * i + r) d) k x)
    (fun i k x => tkv 256 2048 (fun r d => q b (256 * i + r) d) (kv b) (kp b) (fun r h => lsF q kv kp b (256 * i + r) h) (fun r d => o b (256 * i + r) d) k x) (fun _ _ => rfl) (fun _ _ _ => rfl)]
  have e2 : 2048 ≤ k → 2048 + (k - 2048) = k := by omega
  unfold tkv
  by_cases hx : x % 256 < 128
  · simp only [if_pos hx]
    unfold dkh
    congr 1
    · by_cases h2 : 2048 ≤ k
      · rw [if_pos h2, if_pos h2]
        refine Finset.sum_congr rfl fun r _ => ?_
        dsimp only
        rw [← ds_ctx q kv kp o MC b r (x / 256) (k - 2048), e2 h2, ← qc_low _ _ _ hx]
        rfl
      · rw [if_neg h2, if_neg h2]
    · rw [sum_tiles (fun r => dsR 2304 0 (q b) (kv b) (kp b) (ML b) (o b) (x / 256) r k * q192 (q b) (0 + r) (x / 256) (x % 256))]
      refine Finset.sum_congr rfl fun i _ => Finset.sum_congr rfl fun r _ => ?_
      rw [← ds_lat q kv kp o ML (by omega), zero_add, ← qc_low _ _ _ hx]
      rfl
  · simp only [if_neg hx]
    unfold dvh
    congr 1
    · by_cases h2 : 2048 ≤ k
      · rw [if_pos h2, if_pos h2]
        refine Finset.sum_congr rfl fun r _ => ?_
        dsimp only
        rw [← pr_ctx q kv kp MC b r (x / 256) (k - 2048), e2 h2]
        rfl
      · rw [if_neg h2, if_neg h2]
    · rw [sum_tiles (fun r => pR 2304 0 (q b) (kv b) (kp b) (ML b) (x / 256) r k * o b (0 + r) (128 * (x / 256) + (x % 256 - 128)))]
      refine Finset.sum_congr rfl fun i _ => Finset.sum_congr rfl fun r _ => ?_
      rw [← pr_lat q kv kp ML (by omega), zero_add]
      rfl

/-- The rope keys' sum of one head, over all rows. -/
theorem tk_head (b k x h : ℕ) (hx : x / 64 = h % 2) :
    ((if 2048 ≤ k then ∑ r : Fin 256, ds 256 2048 (q b) (kv b) (kp b) (lsF q kv kp b) (o b) h (2048 + r) k * qc (q b) h (2048 + r) (128 + x) else 0)
      + ∑ i : Fin 8, ∑ r : Fin 256, ds 2304 0 (q b) (kv b) (kp b) (lsF q kv kp b) (o b) h (256 * i + r) k * qc (q b) h (256 * i + r) (128 + x))
      = dkh q (fun b h r k => dsR 2304 0 (q b) (kv b) (kp b) (ML b) (o b) h r k) (fun b h r k => dsR 256 2048 (q b) (kv b) (kp b) (MC b) (o b) h r k) b k h (128 + x % 64) := by
  have e2 : 2048 ≤ k → 2048 + (k - 2048) = k := by omega
  unfold dkh
  congr 1
  · by_cases h2 : 2048 ≤ k
    · rw [if_pos h2, if_pos h2]
      refine Finset.sum_congr rfl fun r _ => ?_
      dsimp only
      rw [← ds_ctx q kv kp o MC b r h (k - 2048), e2 h2, qc_high _ _ _ hx]
    · rw [if_neg h2, if_neg h2]
  · rw [sum_tiles (fun r => dsR 2304 0 (q b) (kv b) (kp b) (ML b) (o b) h r k * q192 (q b) (0 + r) h (128 + x % 64))]
    refine Finset.sum_congr rfl fun i _ => Finset.sum_congr rfl fun r _ => ?_
    rw [← ds_lat q kv kp o ML (by omega), zero_add, qc_high _ _ _ hx]

/-- A head that does not own the column adds nothing. -/
theorem tk_none (b k x h : ℕ) (hx : x / 64 ≠ h % 2) :
    ((if 2048 ≤ k then ∑ r : Fin 256, ds 256 2048 (q b) (kv b) (kp b) (lsF q kv kp b) (o b) h (2048 + r) k * qc (q b) h (2048 + r) (128 + x) else 0)
      + ∑ i : Fin 8, ∑ r : Fin 256, ds 2304 0 (q b) (kv b) (kp b) (lsF q kv kp b) (o b) h (256 * i + r) k * qc (q b) h (256 * i + r) (128 + x)) = 0 := by
  simp only [qc_none _ _ _ hx, mul_zero, Finset.sum_const_zero, ite_self, add_zero]

/-- The gradient of the rope keys. -/
theorem dkpe_eq (b k x : ℕ) (hx : x < 128) :
    acc7 q kv kp (lsF q kv kp) o b 8 k x
      = dkh q (fun b h r k => dsR 2304 0 (q b) (kv b) (kp b) (ML b) (o b) h r k) (fun b h r k => dsR 256 2048 (q b) (kv b) (kp b) (MC b) (o b) h r k) b k (x / 64) (128 + x % 64)
        + dkh q (fun b h r k => dsR 2304 0 (q b) (kv b) (kp b) (ML b) (o b) h r k) (fun b h r k => dsR 256 2048 (q b) (kv b) (kp b) (MC b) (o b) h r k) b k (2 + x / 64) (128 + x % 64) := by
  rw [carried (acc7 q kv kp (lsF q kv kp) o b) (fun i k x => tkp 2304 0 (fun r d => q b (256 * i + r) d) (kv b) (kp b) (fun r h => lsF q kv kp b (256 * i + r) h) (fun r d => o b (256 * i + r) d) k x)
    (fun i k x => tkp 256 2048 (fun r d => q b (256 * i + r) d) (kv b) (kp b) (fun r h => lsF q kv kp b (256 * i + r) h) (fun r d => o b (256 * i + r) d) k x) (fun _ _ => rfl) (fun _ _ _ => rfl)]
  have split : ∀ (P : Prop) [Decidable P] (f0 f1 f2 f3 : ℝ) (g0 g1 g2 g3 : ℝ), (if P then f0 + f1 + f2 + f3 else 0) + (g0 + g1 + g2 + g3)
      = ((if P then f0 else 0) + g0) + ((if P then f1 else 0) + g1) + ((if P then f2 else 0) + g2) + ((if P then f3 else 0) + g3) := by
    intro P _ f0 f1 f2 f3 g0 g1 g2 g3
    split <;> ring
  unfold tkp tk1
  simp only [Finset.sum_add_distrib, split]
  obtain hh | hh : x / 64 = 0 ∨ x / 64 = 1 := by omega
  · refine (congrArg₂ (· + ·) (congrArg₂ (· + ·) (congrArg₂ (· + ·) (tk_head q kv kp o ML MC b k x 0 (by omega)) (tk_none q kv kp o b k x 1 (by omega)))
      (tk_head q kv kp o ML MC b k x 2 (by omega))) (tk_none q kv kp o b k x 3 (by omega))).trans ?_
    rw [hh, add_zero, add_zero]
  · refine (congrArg₂ (· + ·) (congrArg₂ (· + ·) (congrArg₂ (· + ·) (tk_none q kv kp o b k x 0 (by omega)) (tk_head q kv kp o ML MC b k x 1 (by omega)))
      (tk_none q kv kp o b k x 2 (by omega))) (tk_head q kv kp o ML MC b k x 3 (by omega))).trans ?_
    rw [hh, zero_add, add_zero]

end Cert.Attn
-- ==== Proof.Lse.lean ====
/-
  The row sums the host passes to the kernel: a row's maximum plus the logarithm of the sum of the exponentials over it, which is the row's log-sum.
-/
module
public import proofs.«01_k».proof.Proof.RefL
public import proofs.«01_k».proof.Proof.RefC
public import proofs.«01_k».proof.Proof.Gen.KernelIdeal.Value
@[expose] public section
set_option maxRecDepth 16384
noncomputable section
open Idealize Idealize.ShloMosaic
namespace Cert.KernelIdeal.Head
open Cert.ReferenceIdeal.Read (R4 val_main_v18 val_main_v23 val_main_v24 val_main_v54 Ls Cs Lm Cm)
open Cert.KernelIdeal Cert.KernelIdeal.Gen Cert.KernelIdeal.Value Idealize.ShloMosaic.TcCoe Idealize.SL.Sem Cert.Attn

variable (m : (ℓ : Loc nD τ sig) → Buf (Elt Ideal) ℓ)

/-- The row sums from the scores and their maxima, latent rows. -/
def lseL (s : FVec Ideal S4x4x2048x2304 .f32) (x : FVec Ideal S4x4x2048 .f32) : FVec Ideal S4x4x2048 .f32 :=
  addf (shapeCast _ (broadcastInDim S4x4x2048x1 ![0, 1, 2] bcast_S4x4x2048_S4x4x2048x1_0_1_2 x) shapeCasts_S4x4x2048x1_S4x4x2048)
    (Host.log (Host.reduceAdd (Host.exp (subf s (broadcastInDim S4x4x2048x2304 ![0, 1, 2, 3] bcast_S4x4x2048x1_S4x4x2048x2304_0_1_2_3
      (broadcastInDim S4x4x2048x1 ![0, 1, 2] bcast_S4x4x2048_S4x4x2048x1_0_1_2 x)))) (constant S_ .f32 0x00000000#32) reducesTo_S4x4x2048x2304_S4x4x2048_d3 h_S_))

theorem lseL_at {s : FVec Ideal S4x4x2048x2304 .f32} {x : FVec Ideal S4x4x2048 .f32} {q kv kp M : ℕ → ℕ → ℕ → ℝ}
    (hs : R4 (n0 := 4) (n1 := 4) (n2 := 2048) (n3 := 2304) s (fun b h r k => s192 (q b) (kv b) (kp b) h (0 + r) (0 + k)))
    (hM : R3 (k := 4) (m := 4) (n := 2048) x M) :
    R3 (k := 4) (m := 4) (n := 2048) (lseL s x) (fun b h r => lsum 2304 0 (q b) (kv b) (kp b) h (0 + r)) := by
  intro b h r
  pointwise [lseL]
  rw [hM]
  simp only [hs _ _ _ _, ← EReal.coe_sub, Ideal.exp_coe, coe_sum]
  have hz := zR_pos (nk := 2304) (by norm_num) 0 (q b) (kv b) (kp b) (M b) h r
  have e : Ideal.log ((zR 2304 0 (q b) (kv b) (kp b) (M b) h r : ℝ) : EReal) = ((Real.log (zR 2304 0 (q b) (kv b) (kp b) (M b) h r) : ℝ) : EReal) := by
    rw [Ideal.log_coe, if_neg (not_le.2 hz)]
  refine (congrArg (((M b h r : ℝ) : EReal) + ·) e).trans ?_
  rw [← EReal.coe_add, lsum_eq (by norm_num)]
  simp only [zero_add]

/-- The row sums from the scores and their maxima, context rows. -/
def lseC (s : FVec Ideal S4x4x256x256 .f32) (x : FVec Ideal S4x4x256 .f32) : FVec Ideal S4x4x256 .f32 :=
  addf (shapeCast _ (broadcastInDim S4x4x256x1 ![0, 1, 2] bcast_S4x4x256_S4x4x256x1_0_1_2 x) shapeCasts_S4x4x256x1_S4x4x256)
    (Host.log (Host.reduceAdd (Host.exp (subf s (broadcastInDim S4x4x256x256 ![0, 1, 2, 3] bcast_S4x4x256x1_S4x4x256x256_0_1_2_3
      (broadcastInDim S4x4x256x1 ![0, 1, 2] bcast_S4x4x256_S4x4x256x1_0_1_2 x)))) (constant S_ .f32 0x00000000#32) reducesTo_S4x4x256x256_S4x4x256_d3 h_S_))

theorem lseC_at {s : FVec Ideal S4x4x256x256 .f32} {x : FVec Ideal S4x4x256 .f32} {q kv kp M : ℕ → ℕ → ℕ → ℝ}
    (hs : R4 (n0 := 4) (n1 := 4) (n2 := 256) (n3 := 256) s (fun b h r k => s192 (q b) (kv b) (kp b) h (2048 + r) (2048 + k)))
    (hM : R3 (k := 4) (m := 4) (n := 256) x M) :
    R3 (k := 4) (m := 4) (n := 256) (lseC s x) (fun b h r => lsum 256 2048 (q b) (kv b) (kp b) h (2048 + r)) := by
  intro b h r
  pointwise [lseC]
  rw [hM]
  simp only [hs _ _ _ _, ← EReal.coe_sub, Ideal.exp_coe, coe_sum]
  have hz := zR_pos (nk := 256) (by norm_num) 2048 (q b) (kv b) (kp b) (M b) h r
  have e : Ideal.log ((zR 256 2048 (q b) (kv b) (kp b) (M b) h r : ℝ) : EReal) = ((Real.log (zR 256 2048 (q b) (kv b) (kp b) (M b) h r) : ℝ) : EReal) := by
    rw [Ideal.log_coe, if_neg (not_le.2 hz)]
  refine (congrArg (((M b h r : ℝ) : EReal) + ·) e).trans ?_
  rw [← EReal.coe_add, lsum_eq (by norm_num)]

/-- The row sums the kernel reads. -/
theorem lse_eq (c : Dev nD) : V m c main_v42 = transpose S4x2304x4 [0, 2, 1] (concatenate S4x4x2304 2
    [⟨S4x4x2048, lseL (val_main_v18 (V m c main_arg0) (V m c main_arg1) (V m c main_arg2)) (val_main_v24 (V m c main_arg0) (V m c main_arg1) (V m c main_arg2))⟩,
      ⟨S4x4x256, lseC (val_main_v23 (V m c main_arg0) (V m c main_arg1) (V m c main_arg2)) (val_main_v54 (V m c main_arg0) (V m c main_arg1) (V m c main_arg2))⟩]
    concatenates_S4x4x2048_S4x4x256_S4x4x2304_d2) transposes_S4x4x2304_S4x2304x4_0_2_1 := by
  entry_read
  rfl

theorem lse_at (c : Dev nD) {q kv kp : ℕ → ℕ → ℕ → ℝ} (hq : R3 (k := 4) (m := 2304) (n := 768) (V m c main_arg0) q)
    (hkv : R3 (k := 4) (m := 2304) (n := 1024) (V m c main_arg1) kv) (hkp : R3 (k := 4) (m := 2304) (n := 128) (V m c main_arg2) kp) :
    R3 (k := 4) (m := 2304) (n := 4) (V m c main_v42)
      (fun b r h => if r < 2048 then lsum 2304 0 (q b) (kv b) (kp b) h r else lsum 256 2048 (q b) (kv b) (kp b) h r) := by
  rw [lse_eq]
  obtain ⟨M, hM⟩ := Lm hq hkv hkp
  obtain ⟨M', hM'⟩ := Cm hq hkv hkp
  have e1 := lseL_at (Ls hq hkv hkp) hM
  have e2 := lseC_at (Cs hq hkv hkp) hM'
  generalize lseL _ _ = A at e1 ⊢
  generalize lseC _ _ = B at e2 ⊢
  intro b r h
  pointwise []
  by_cases hr : r.val < 2048
  · rw [dif_pos hr, if_pos hr, e1]
    simp only [zero_add]
  · rw [dif_neg hr, if_neg hr, e2]
    have e : 2048 + (r.val - 2048) = r.val := by omega
    simp only [e]

end Cert.KernelIdeal.Head
-- ==== Proof.Finite.lean ====
/-
  Finite arguments hold reals.
-/
module
public import proofs.«01_k».proof.Defs
public import proofs.«01_k».proof.Proof.Attn
public import Idealize.ShloMosaic.Lib.ReduceAll
public import Idealize.ShloMosaic.Lib.Pipeline.ValueKit
@[expose] public section
set_option maxRecDepth 16384
noncomputable section
open Idealize Idealize.ShloMosaic
namespace Cert.Pre_finite
open Cert.Attn

/-- The shape facts the precondition states. -/
theorem facts : Cert.Pre_finite.Facts where
  bitsLt_bf16_f32 := by decide
  bcast_S_S4x2304x768 := by decide
  reducesTo_S4x2304x768_S_d0_1_2 := by decide
  h_S_ := by decide
  bcast_S_S4x2304x1024 := by decide
  reducesTo_S4x2304x1024_S_d0_1_2 := by decide
  bcast_S_S4x2304x128 := by decide
  reducesTo_S4x2304x128_S_d0_1_2 := by decide

/-- A value of absolute value below plus infinity is real. -/
theorem real_of_lt {x : EReal} (h : max x (-x) < ⊤) : ((x.toReal : ℝ) : EReal) = x := by
  have h' := h
  refine EReal.coe_toReal (fun e => ?_) (fun e => ?_)
  · rw [e] at h'; exact absurd (lt_of_le_of_lt (le_max_left _ _) h') (lt_irrefl _)
  · rw [e] at h'; exact absurd (lt_of_le_of_lt (le_max_right _ _) h') (by simp)

/-- An array whose comparison with plus infinity holds everywhere holds reals. -/
theorem lift {n : ℕ} {x : FVec Ideal ⟨3, ![4, 2304, n]⟩ .bf16} (hb : FTy.bits .bf16 < FTy.bits .f32)
    (bc : S_.BroadcastsInDim ⟨3, ![4, 2304, n]⟩ (![] : Fin 0 → Fin 3)) (rd : (⟨3, ![4, 2304, n]⟩ : Shape).ReducesTo [0, 1, 2] S_) (hs : 0 < S_.numel)
    (h : Host.reduce IntOp.andi (cmpf .olt (Host.absf (extf .f32 x hb)) (broadcastInDim ⟨3, ![4, 2304, n]⟩ ![] bc (constant S_ .f32 0x7F800000#32)))
      (constantI S_ 1 1#1) rd hs ix0 = 1#1) : ∃ f : ℕ → ℕ → ℕ → ℝ, R3 (k := 4) (m := 2304) (n := n) x f := by
  have key : ∀ (b : Fin 4) (r : Fin 2304) (d : Fin n), (((x (ix3 b r d) : EReal).toReal : ℝ) : EReal) = x (ix3 b r d) := by
    intro b r d
    have e := Host.reduce_andi_all (t := S_) _ _ rd hs ix0 h (ix3 b r d)
    apply real_of_lt
    change BitVec.ofBool (decide (max (x (ix3 b r d)) (-(x (ix3 b r d))) < (⊤ : EReal))) = 1#1 at e
    by_contra hn
    rw [decide_eq_false hn] at e
    exact absurd e (by decide)
  exact ⟨fun b r d => if H : b < 4 ∧ r < 2304 ∧ d < n then (x (ix3 ⟨b, H.1⟩ ⟨r, H.2.1⟩ ⟨d, H.2.2⟩) : EReal).toReal else 0, fun b r d => by
    dsimp only
    rw [dif_pos ⟨b.2, r.2, d.2⟩]
    exact (key b r d).symm⟩

theorem reals [Facts] {x0 : FVec Ideal S4x2304x768 .bf16} {x1 : FVec Ideal S4x2304x1024 .bf16} {x2 : FVec Ideal S4x2304x128 .bf16}
    {x3 : FVec Ideal S4x2304x1024 .bf16} (h : fn (F := Ideal) x0 x1 x2 x3 = fun _ => 1#1) :
    (∃ f, R3 (k := 4) (m := 2304) (n := 768) x0 f) ∧ (∃ f, R3 (k := 4) (m := 2304) (n := 1024) x1 f) ∧ (∃ f, R3 (k := 4) (m := 2304) (n := 128) x2 f)
      ∧ ∃ f, R3 (k := 4) (m := 2304) (n := 1024) x3 f := by
  have e := congrFun h ix0
  unfold fn fn_part1 at e
  obtain ⟨e, h3⟩ := IntOp.andi_eq_one.1 e
  obtain ⟨e, h2⟩ := IntOp.andi_eq_one.1 e
  obtain ⟨h0, h1⟩ := IntOp.andi_eq_one.1 e
  exact ⟨lift _ _ _ _ h0, lift _ _ _ _ h1, lift _ _ _ _ h2, lift _ _ _ _ h3⟩

end Cert.Pre_finite
-- ==== Proof.Equal.lean ====
/-
  From finite arguments the kernel's three results are the reference's.
-/
module
public import proofs.«01_k».proof.Proof.Match
public import proofs.«01_k».proof.Proof.Lse
public import proofs.«01_k».proof.Proof.Finite
@[expose] public section
set_option maxRecDepth 16384
noncomputable section
namespace Cert.KernelIdeal.Head
open Cert.KernelIdeal Cert.KernelIdeal.Gen Cert.KernelIdeal.Value Idealize.ShloMosaic Idealize.ShloMosaic.TcCoe Idealize.SL.Sem Cert.Attn
open Cert.ReferenceIdeal.Read

/-- Two arrays holding the same reals are equal. -/
theorem R3_ext {k m n : ℕ} {X Y : (⟨3, ![k, m, n]⟩ : Shape).Idx → EReal} {f g : ℕ → ℕ → ℕ → ℝ} (hX : R3 X f) (hY : R3 Y g)
    (h : ∀ b i j, b < k → i < m → j < n → f b i j = g b i j) : X = Y := by
  funext i
  obtain ⟨b, r, d, rfl⟩ : ∃ (b : Fin k) (r : Fin m) (d : Fin n), i = ix3 b r d := ⟨i 0, i 1, i 2, eq_ix3 i⟩
  rw [hX, hY, h _ _ _ b.2 r.2 d.2]

/-- The three equations, of arguments holding reals. -/
theorem equal (m : (ℓ : Loc nD τ sig) → Buf (Elt Ideal) ℓ) (c : Dev nD) {q kv kp o : ℕ → ℕ → ℕ → ℝ}
    (h0 : R3 (k := 4) (m := 2304) (n := 768) (V m c main_arg0) q) (h1 : R3 (k := 4) (m := 2304) (n := 1024) (V m c main_arg1) kv)
    (h2 : R3 (k := 4) (m := 2304) (n := 128) (V m c main_arg2) kp) (h3 : R3 (k := 4) (m := 2304) (n := 1024) (V m c main_arg3) o) :
    G5 m c = val_main_v156 (F := Ideal) (V m c main_arg0) (V m c main_arg1) (V m c main_arg2) (V m c main_arg3)
      ∧ G6 m c = val_main_v149 (F := Ideal) (V m c main_arg0) (V m c main_arg1) (V m c main_arg2) (V m c main_arg3)
      ∧ G7 m c = val_main_v147 (F := Ideal) (V m c main_arg0) (V m c main_arg1) (V m c main_arg2) (V m c main_arg3) := by
  have hl := lse_at m c h0 h1 h2
  obtain ⟨ML, hML⟩ := Lm h0 h1 h2
  obtain ⟨MC, hMC⟩ := Cm h0 h1 h2
  have eL := Le h0 h1 h2 hML
  have eC := Ce h0 h1 h2 hMC
  have zL := Lz eL
  have zC := Cz eC
  have pL := Lp eL zL
  have pC := Cp eC zC
  have dL := Lds eL zL (Ldp h1 h3)
  have dC := Cds eC zC (Cdp h1 h3)
  have oq := out_q (v141_at h1 h2 dL dC)
  have hk := v137_at h0 dL dC
  have okv := out_kv hk (v112_at h3 pL pC)
  have okp := out_kpe hk
  refine ⟨?_, ?_, ?_⟩
  · refine R3_ext (result5 m c h0 h1 h2 hl h3) oq fun b r x _ hr _ => ?_
    exact dq_eq q kv kp o ML MC b r x hr
  · refine R3_ext (result6 m c h0 h1 h2 hl h3) okv fun b r x _ hr _ => ?_
    exact dkv_eq q kv kp o ML MC b r x hr
  · refine R3_ext (result7 m c h0 h1 h2 hl h3) okp fun b r x _ _ hx => ?_
    exact dkpe_eq q kv kp o ML MC b r x hx

end Cert.KernelIdeal.Head
-- ==== Proof.OfMid.lean ====
module

public import proofs.«01_k».proof.Proof.Gen.Mid.Frame
public import proofs.«01_k».proof.Proof.Gen.MidIdeal.Value
public import proofs.«01_k».proof.Proof.Gen.MidRefIdeal.Read
public import Idealize.ShloMosaic.Lib.Pipeline.ValueKit

@[expose] public section

end
-- ==== Proof.OfFfn.lean ====
module

public import proofs.«01_k».proof.Proof.Gen.Ffn.Frame
public import proofs.«01_k».proof.Proof.Gen.FfnIdeal.Value
public import proofs.«01_k».proof.Proof.Gen.FfnRefIdeal.Read
public import Idealize.ShloMosaic.Lib.Pipeline.ValueKit

@[expose] public section

end
-- ==== Proof.OfGIn.lean ====
module

public import proofs.«01_k».proof.Proof.Gen.GIn.Frame
public import proofs.«01_k».proof.Proof.Gen.GInIdeal.Value
public import proofs.«01_k».proof.Proof.Gen.GInRefIdeal.Read
public import Idealize.ShloMosaic.Lib.Pipeline.ValueKit

@[expose] public section

end
-- ==== Proof.OfGOut.lean ====
module

public import proofs.«01_k».proof.Proof.Gen.GOut.Frame
public import proofs.«01_k».proof.Proof.Gen.GOutIdeal.Value
public import proofs.«01_k».proof.Proof.Gen.GOutRefIdeal.Read
public import Idealize.ShloMosaic.Lib.Pipeline.ValueKit

@[expose] public section

end
-- ==== Proof.OfDX.lean ====
module

public import proofs.«01_k».proof.Proof.Gen.DX.Frame
public import proofs.«01_k».proof.Proof.Gen.DXIdeal.Value
public import proofs.«01_k».proof.Proof.Gen.DXRefIdeal.Read
public import Idealize.ShloMosaic.Lib.Pipeline.ValueKit

@[expose] public section

end
-- ==== Proof.OfAbIn.lean ====
module

public import proofs.«01_k».proof.Proof.Gen.AbIn.Frame
public import proofs.«01_k».proof.Proof.Gen.AbInIdeal.Value
public import proofs.«01_k».proof.Proof.Gen.AbInRefIdeal.Read
public import Idealize.ShloMosaic.Lib.Pipeline.ValueKit

@[expose] public section

end
-- ==== Proof.OfCdIn.lean ====
module

public import proofs.«01_k».proof.Proof.Gen.CdIn.Frame
public import proofs.«01_k».proof.Proof.Gen.CdInIdeal.Value
public import proofs.«01_k».proof.Proof.Gen.CdInRefIdeal.Read
public import Idealize.ShloMosaic.Lib.Pipeline.ValueKit

@[expose] public section

end
-- ==== Proof.OfOuts.lean ====
module

public import proofs.«01_k».proof.Proof.Gen.Outs.Frame
public import proofs.«01_k».proof.Proof.Gen.OutsIdeal.Value
public import proofs.«01_k».proof.Proof.Gen.OutsRefIdeal.Read
public import Idealize.ShloMosaic.Lib.Pipeline.ValueKit

@[expose] public section

end
-- ==== Proof.OfGAb.lean ====
module

public import proofs.«01_k».proof.Proof.Gen.GAb.Frame
public import proofs.«01_k».proof.Proof.Gen.GAbIdeal.Value
public import proofs.«01_k».proof.Proof.Gen.GAbRefIdeal.Read
public import Idealize.ShloMosaic.Lib.Pipeline.ValueKit

@[expose] public section

end
-- ==== Proof.OfWKv.lean ====
module

public import proofs.«01_k».proof.Proof.Gen.WKv.Frame
public import proofs.«01_k».proof.Proof.Gen.WKvIdeal.Value
public import proofs.«01_k».proof.Proof.Gen.WKvRefIdeal.Read
public import Idealize.ShloMosaic.Lib.Pipeline.ValueKit

@[expose] public section

end
-- ==== Proof.OfWQ.lean ====
module

public import proofs.«01_k».proof.Proof.Gen.WQ.Frame
public import proofs.«01_k».proof.Proof.Gen.WQIdeal.Value
public import proofs.«01_k».proof.Proof.Gen.WQRefIdeal.Read
public import Idealize.ShloMosaic.Lib.Pipeline.ValueKit

@[expose] public section

end
-- ==== Proof.OfGWQ.lean ====
module

public import proofs.«01_k».proof.Proof.Gen.GWQ.Frame
public import proofs.«01_k».proof.Proof.Gen.GWQIdeal.Value
public import proofs.«01_k».proof.Proof.Gen.GWQRefIdeal.Read
public import Idealize.ShloMosaic.Lib.Pipeline.ValueKit

@[expose] public section

end
-- ==== Proof.OfGWKv.lean ====
module

public import proofs.«01_k».proof.Proof.Gen.GWKv.Frame
public import proofs.«01_k».proof.Proof.Gen.GWKvIdeal.Value
public import proofs.«01_k».proof.Proof.Gen.GWKvRefIdeal.Read
public import Idealize.ShloMosaic.Lib.Pipeline.ValueKit

@[expose] public section

end
-- ==== Proof.OfDQn.lean ====
module

public import proofs.«01_k».proof.Proof.Gen.DQn.Frame
public import proofs.«01_k».proof.Proof.Gen.DQnIdeal.Value
public import proofs.«01_k».proof.Proof.Gen.DQnRefIdeal.Read
public import Idealize.ShloMosaic.Lib.Pipeline.ValueKit

@[expose] public section

end
-- ==== Proof.OfDKvn.lean ====
module

public import proofs.«01_k».proof.Proof.Gen.DKvn.Frame
public import proofs.«01_k».proof.Proof.Gen.DKvnIdeal.Value
public import proofs.«01_k».proof.Proof.Gen.DKvnRefIdeal.Read
public import Idealize.ShloMosaic.Lib.Pipeline.ValueKit

@[expose] public section

end
-- ==== Proof.OfAtt.lean ====
module

public import proofs.«01_k».proof.Proof.Gen.Att.Frame
public import proofs.«01_k».proof.Proof.Gen.AttIdeal.Value
public import proofs.«01_k».proof.Proof.Gen.AttRefIdeal.Read
public import Idealize.ShloMosaic.Lib.Pipeline.ValueKit

@[expose] public section

end
-- ==== Proof.OfPre.lean ====
module

public import proofs.«01_k».proof.Proof.Gen.Pre.Frame
public import proofs.«01_k».proof.Proof.Gen.PreIdeal.Value
public import proofs.«01_k».proof.Proof.Gen.PreRefIdeal.Read
public import Idealize.ShloMosaic.Lib.Pipeline.ValueKit

@[expose] public section

end
-- ==== Proof.OfRes.lean ====
module

public import proofs.«01_k».proof.Proof.Gen.Res.Frame
public import proofs.«01_k».proof.Proof.Gen.ResIdeal.Value
public import proofs.«01_k».proof.Proof.Gen.ResRefIdeal.Read
public import Idealize.ShloMosaic.Lib.Pipeline.ValueKit

@[expose] public section

end
-- ==== Proof.OfMixRes.lean ====
module

public import proofs.«01_k».proof.Proof.Gen.MixRes.Frame
public import proofs.«01_k».proof.Proof.Gen.MixResIdeal.Value
public import proofs.«01_k».proof.Proof.Gen.MixResRefIdeal.Read
public import Idealize.ShloMosaic.Lib.Pipeline.ValueKit

@[expose] public section

end
-- ==== Proof.OfFfnRes.lean ====
module

public import proofs.«01_k».proof.Proof.Gen.FfnRes.Frame
public import proofs.«01_k».proof.Proof.Gen.FfnResIdeal.Value
public import proofs.«01_k».proof.Proof.Gen.FfnResRefIdeal.Read
public import Idealize.ShloMosaic.Lib.Pipeline.ValueKit

@[expose] public section

end
-- ==== Proof.OfGCd.lean ====
module

public import proofs.«01_k».proof.Proof.Gen.GCd.Frame
public import proofs.«01_k».proof.Proof.Gen.GCdIdeal.Value
public import proofs.«01_k».proof.Proof.Gen.GCdRefIdeal.Read
public import Idealize.ShloMosaic.Lib.Pipeline.ValueKit

@[expose] public section

end
-- ==== Proof.OfGHalf.lean ====
module

public import proofs.«01_k».proof.Proof.Gen.GHalf.Frame
public import proofs.«01_k».proof.Proof.Gen.GHalfIdeal.Value
public import proofs.«01_k».proof.Proof.Gen.GHalfRefIdeal.Read
public import Idealize.ShloMosaic.Lib.Pipeline.ValueKit

@[expose] public section

end
-- ==== Proof.OfDCat.lean ====
module

public import proofs.«01_k».proof.Proof.Gen.DCat.Frame
public import proofs.«01_k».proof.Proof.Gen.DCatIdeal.Value
public import proofs.«01_k».proof.Proof.Gen.DCatRefIdeal.Read
public import Idealize.ShloMosaic.Lib.Pipeline.ValueKit

@[expose] public section

end
-- ==== Proof.OfDAb.lean ====
module

public import proofs.«01_k».proof.Proof.Gen.DAb.Frame
public import proofs.«01_k».proof.Proof.Gen.DAbIdeal.Value
public import proofs.«01_k».proof.Proof.Gen.DAbRefIdeal.Read
public import Idealize.ShloMosaic.Lib.Pipeline.ValueKit

@[expose] public section

end
-- ==== Proof.OfDCd.lean ====
module

public import proofs.«01_k».proof.Proof.Gen.DCd.Frame
public import proofs.«01_k».proof.Proof.Gen.DCdIdeal.Value
public import proofs.«01_k».proof.Proof.Gen.DCdRefIdeal.Read
public import Idealize.ShloMosaic.Lib.Pipeline.ValueKit

@[expose] public section

end
-- ==== Proof.Gate.lean ====
/-
  The gated unit on real arguments: the derivative the kernel stores and the derivative of the plain
  expression are the same real number.
-/
module

public import proofs.«01_k».proof.Proof.Attn
public import Idealize.ShloMosaic.Lib.Pipeline.ValueKit
public import Idealize.ShloMosaic.PureOps.Ideal.Laws

@[expose] public section

noncomputable section

namespace Cert.Gate

open Idealize.ShloMosaic

/-- A value that is a real number. -/
def IsReal (x : EReal) : Prop := ∃ r : ℝ, x = (r : EReal)

/-- The gated unit. -/
def gate (a b : EReal) : EReal := a * Ideal.logistic a * b

/-- The derivative in the gate's first argument, as the kernel forms it. -/
def back (a b d : EReal) : EReal := d * b * (Ideal.logistic a * (1 + a * (1 - Ideal.logistic a)))

/-- The derivative in the gate's first argument, as the chain rule for `a * logistic a` leaves it. -/
def chain (a b d : EReal) : EReal :=
  d * b * Ideal.logistic a + a * (d * b) * (Ideal.logistic a * (1 - Ideal.logistic a))

theorem logistic_coe (a : ℝ) : Ideal.logistic (a : EReal) = ((1 / (1 + Real.exp (-a)) : ℝ) : EReal) := by
  have h : (1 + Real.exp (-a)) ≠ 0 := by positivity
  unfold Ideal.logistic
  rw [← EReal.coe_neg, Ideal.exp_coe, ← EReal.coe_one, ← EReal.coe_add, Ideal.div_coe h, ← EReal.coe_mul, one_mul]

/-- On reals the two forms of the derivative agree. -/
theorem back_eq {a b d : EReal} (ha : IsReal a) (hb : IsReal b) (hd : IsReal d) : back a b d = chain a b d := by
  obtain ⟨a, rfl⟩ := ha
  obtain ⟨b, rfl⟩ := hb
  obtain ⟨d, rfl⟩ := hd
  unfold back chain
  rw [logistic_coe]
  generalize 1 / (1 + Real.exp (-a)) = s
  rw [← EReal.coe_one]
  simp only [← EReal.coe_sub, ← EReal.coe_mul, ← EReal.coe_add]
  exact congrArg _ (by ring)

/-- A sum of products of reals is real. -/
theorem real_sum {n : ℕ} {f g : Fin n → EReal} (hf : ∀ k, IsReal (f k)) (hg : ∀ k, IsReal (g k)) : IsReal (∑ k, f k * g k) := by
  choose p hp using hf
  choose q hq using hg
  exact ⟨∑ k, p k * q k, by simp only [hp, hq, ← EReal.coe_mul]; exact Cert.Attn.coe_sum _⟩

/-- A value of absolute value below plus infinity is real. -/
theorem real_of_lt {x : EReal} (h : max x (-x) < ⊤) : IsReal x := by
  induction x using EReal.rec with
  | bot => simp at h
  | coe r => exact ⟨r, rfl⟩
  | top => simp at h

end Cert.Gate

end
-- ==== Proof.MidRef.lean ====
module

public import proofs.«01_k».proof.Proof.OfMid
public import proofs.«01_k».proof.Proof.Gate
public import Idealize.ShloMosaic.Lib.Pipeline.ValueKit

@[expose] public section

set_option maxRecDepth 16384

noncomputable section

namespace Cert.MidRefIdeal.Mine

open Cert.MidRefIdeal Cert.MidRefIdeal.Gen Idealize.ShloMosaic Cert.MidRefIdeal.Read Cert.Gate

variable (x dy : Vec Ideal S9216x1024 .bf16) (w : Vec Ideal S1024x5632 .bf16) (v : Vec Ideal S2816x1024 .bf16)

/-- The first product of the reference at an index. -/
theorem z_at (j : S9216x5632.Idx) : val_main_v4 (F := Ideal) x w j = ∑ k : Fin 1024, x (ix2 (j 0) k) * w (ix2 k (j 1)) := by
  pointwise [val_main_v4, val_main_v2, val_main_v0]

/-- The derivative of the second product at an index. -/
theorem d_at (j : S9216x2816.Idx) : val_main_v10 (F := Ideal) dy v j = ∑ k : Fin 1024, dy (ix2 (j 0) k) * v (ix2 (j 1) k) := by
  pointwise [val_main_v10, val_main_v1, val_main_v3]

/-- The gated unit of the reference at an index. -/
theorem h_at (i : Fin 9216) (n : Fin 2816) (hl : n.val < 5632) (hr : 2816 + n.val < 5632) : val_main_v26 (F := Ideal) x w (ix2 i n)
    = gate (val_main_v4 (F := Ideal) x w (ix2 i ⟨n.val, hl⟩)) (val_main_v4 (F := Ideal) x w (ix2 i ⟨2816 + n.val, hr⟩)) := by
  pointwise [val_main_v26, val_main_v25, val_main_v24, val_main_call2_v5, val_main_call2_v4, val_main_call2_v3, val_main_call2_v2,
    val_main_call2_v1, val_main_call2_v0, val_main_call2_cst, val_main_call2_cst_0, val_main_v23, val_main_v22]
  rfl

/-- The derivative in the linear half. -/
theorem db_at (i : Fin 9216) (n : Fin 2816) (hl : n.val < 5632) : val_main_v11 (F := Ideal) x dy w v (ix2 i n)
    = val_main_v4 (F := Ideal) x w (ix2 i ⟨n.val, hl⟩) * Ideal.logistic (val_main_v4 (F := Ideal) x w (ix2 i ⟨n.val, hl⟩)) * val_main_v10 (F := Ideal) dy v (ix2 i n) := by
  pointwise [val_main_v11, val_main_v7_0, val_main_v7_2, val_main_call0_v4, val_main_call0_v3, val_main_call0_v2, val_main_call0_v1,
    val_main_call0_v0, val_main_call0_cst, val_main_call0_cst_0, val_main_v5]
  rfl

/-- The derivative in the half under the logistic function. -/
theorem da_at (i : Fin 9216) (n : Fin 2816) (hl : n.val < 5632) (hr : 2816 + n.val < 5632) : val_main_v13 (F := Ideal) x dy w v (ix2 i n)
    = chain (val_main_v4 (F := Ideal) x w (ix2 i ⟨n.val, hl⟩)) (val_main_v4 (F := Ideal) x w (ix2 i ⟨2816 + n.val, hr⟩)) (val_main_v10 (F := Ideal) dy v (ix2 i n)) := by
  pointwise [val_main_v13, val_main_call1_v0, val_main_call1_v1, val_main_call1_v2, val_main_v12, val_main_v7_1, val_main_v7_2,
    val_main_call0_v7, val_main_call0_v6, val_main_call0_cst_1, val_main_call0_v4, val_main_call0_v3, val_main_call0_v2,
    val_main_call0_v1, val_main_call0_v0, val_main_call0_cst, val_main_call0_cst_0, val_main_v5, val_main_v6]
  rfl

/-- The columns of group `q` hold the derivative in the first half, then the derivative in the second. -/
theorem left_at (i : Fin 9216) (q : Fin 2) (r : Fin 1408) (h : q.val * 2816 + r.val < 5632) (h' : q.val * 1408 + r.val < 2816) :
    val_main_v27 (F := Ideal) x dy w v (ix2 i ⟨q.val * 2816 + r.val, h⟩) = val_main_v13 (F := Ideal) x dy w v (ix2 i ⟨q.val * 1408 + r.val, h'⟩) := by
  have hr := r.isLt
  have hq := q.isLt
  pointwise [val_main_v27, val_main_v21, val_main_v20, val_main_v19, val_main_v18, val_main_v17, val_main_v16, val_main_v15, val_main_v14]
  by_cases h0 : q.val = 0
  · rw [dif_pos (by omega), dif_pos (by omega)]
    exact congrArg (fun e => val_main_v13 (F := Ideal) x dy w v (ix2 i e)) (Fin.ext (by show q.val * 2816 + r.val = q.val * 1408 + r.val; omega))
  · rw [dif_neg (by omega), dif_neg (by omega), dif_pos (by omega), dif_pos (by omega)]
    exact congrArg (fun e => val_main_v13 (F := Ideal) x dy w v (ix2 i e))
      (Fin.ext (by show 1408 + (q.val * 2816 + r.val - 1408 - 1408) = q.val * 1408 + r.val; omega))

theorem right_at (i : Fin 9216) (q : Fin 2) (r : Fin 1408) (h : q.val * 2816 + (1408 + r.val) < 5632) (h' : q.val * 1408 + r.val < 2816) :
    val_main_v27 (F := Ideal) x dy w v (ix2 i ⟨q.val * 2816 + (1408 + r.val), h⟩) = val_main_v11 (F := Ideal) x dy w v (ix2 i ⟨q.val * 1408 + r.val, h'⟩) := by
  have hr := r.isLt
  have hq := q.isLt
  pointwise [val_main_v27, val_main_v21, val_main_v20, val_main_v19, val_main_v18, val_main_v17, val_main_v16, val_main_v15, val_main_v14]
  by_cases h0 : q.val = 0
  · rw [dif_neg (by omega), dif_pos (by omega)]
    exact congrArg (fun e => val_main_v11 (F := Ideal) x dy w v (ix2 i e))
      (Fin.ext (by show q.val * 2816 + (1408 + r.val) - 1408 = q.val * 1408 + r.val; omega))
  · rw [dif_neg (by omega), dif_neg (by omega), dif_neg (by omega)]
    exact congrArg (fun e => val_main_v11 (F := Ideal) x dy w v (ix2 i e))
      (Fin.ext (by show 1408 + (q.val * 2816 + (1408 + r.val) - 1408 - 1408 - 1408) = q.val * 1408 + r.val; omega))

end Cert.MidRefIdeal.Mine

end
-- ==== Proof.Mid.lean ====
module

public import proofs.«01_k».proof.Proof.OfMid
public import proofs.«01_k».proof.Proof.MidRef
public import Idealize.ShloMosaic.Lib.Pipeline.ValueKit

@[expose] public section

set_option maxRecDepth 16384

noncomputable section

namespace Cert.MidIdeal.Mine

open Cert.MidIdeal Cert.MidIdeal.Gen Idealize.ShloMosaic Idealize.ShloMosaic.TcCoe Idealize.SL.Sem Cert.Gate
open Idealize.ShloMosaic.Pipeline (Dat)

variable (m : (ℓ : Loc nD τ sig) → Buf (Elt Ideal) ℓ)

/-- The weights with their columns in groups, as the host code before the call orders them. -/
def paired (w : Vec Ideal S1024x5632 .bf16) : Vec Ideal S1024x5632 .bf16 := concatenate S1024x5632 1
  [⟨S1024x1408, extractStridedSlice S1024x1408 ![0, 0] w slices_S1024x5632_S1024x1408_0_0⟩,
   ⟨S1024x1408, extractStridedSlice S1024x1408 ![0, 2816] w slices_S1024x5632_S1024x1408_0_2816⟩,
   ⟨S1024x1408, extractStridedSlice S1024x1408 ![0, 1408] w slices_S1024x5632_S1024x1408_0_1408⟩,
   ⟨S1024x1408, extractStridedSlice S1024x1408 ![0, 4224] w slices_S1024x5632_S1024x1408_0_4224⟩]
  concatenates_S1024x1408_S1024x1408_S1024x1408_S1024x1408_S1024x5632_d1

/-- The array of weights the call reads. -/
theorem entry (c : Dev nD) : V m c main_v4 = paired (m ((c : Thread nD τ).loc main_arg2)) := rfl

/-- The columns of group `q`: first those of the half under the logistic function, then those of the other half. -/
theorem left_at (w : Vec Ideal S1024x5632 .bf16) (k : Fin 1024) (q : Fin 2) (r : Fin 1408) (h : q.val * 2816 + r.val < 5632) (h' : q.val * 1408 + r.val < 5632) :
    paired w (ix2 k ⟨q.val * 2816 + r.val, h⟩) = w (ix2 k ⟨q.val * 1408 + r.val, h'⟩) := by
  have hr := r.isLt
  have hq := q.isLt
  pointwise [paired]
  by_cases h0 : q.val = 0
  · rw [dif_pos (by omega)]
    exact congrArg (fun e => w (ix2 k e)) (Fin.ext (by show q.val * 2816 + r.val = q.val * 1408 + r.val; omega))
  · rw [dif_neg (by omega), dif_neg (by omega), dif_pos (by omega)]
    exact congrArg (fun e => w (ix2 k e)) (Fin.ext (by show 1408 + (q.val * 2816 + r.val - 1408 - 1408) = q.val * 1408 + r.val; omega))

theorem right_at (w : Vec Ideal S1024x5632 .bf16) (k : Fin 1024) (q : Fin 2) (r : Fin 1408) (h : q.val * 2816 + (1408 + r.val) < 5632) (h' : 2816 + (q.val * 1408 + r.val) < 5632) :
    paired w (ix2 k ⟨q.val * 2816 + (1408 + r.val), h⟩) = w (ix2 k ⟨2816 + (q.val * 1408 + r.val), h'⟩) := by
  have hr := r.isLt
  have hq := q.isLt
  pointwise [paired]
  by_cases h0 : q.val = 0
  · rw [dif_neg (by omega), dif_pos (by omega)]
    exact congrArg (fun e => w (ix2 k e)) (Fin.ext (by show 2816 + (q.val * 2816 + (1408 + r.val) - 1408) = 2816 + (q.val * 1408 + r.val); omega))
  · rw [dif_neg (by omega), dif_neg (by omega), dif_neg (by omega)]
    exact congrArg (fun e => w (ix2 k e)) (Fin.ext (by show 4224 + (q.val * 2816 + (1408 + r.val) - 1408 - 1408 - 1408) = 2816 + (q.val * 1408 + r.val); omega))

/-- Where the blocks of each array sit at every grid point. -/
theorem idx : ∀ t : Fin cfg0.N, win0_0.index t = ![t.val / 2, 0] ∧ win0_1.index t = ![t.val / 2, 0] ∧ win0_2.index t = ![0, t.val % 2]
    ∧ win0_3.index t = ![t.val % 2, 0] ∧ win0_4.index t = ![t.val / 2, t.val % 2] ∧ win0_5.index t = ![t.val / 2, t.val % 2] :=
  (by decide +kernel : ∀ t : Fin grid0.N, _)

theorem pay1_at (x : Vec Ideal S512x1024 .bf16) (w : Vec Ideal S1024x2816 .bf16) (j : S512x2816.Idx) :
    k0_pay1 x w j = ∑ k : Fin 1024, x (ix2 (j 0) k) * w (ix2 k (j 1)) := by pointwise [k0_pay1]

theorem pay4_at (y : Vec Ideal S512x1024 .bf16) (v : Vec Ideal S1408x1024 .bf16) (j : S512x1408.Idx) :
    k0_pay4 y v j = ∑ k : Fin 1024, y (ix2 (j 0) k) * v (ix2 (j 1) k) := by pointwise [k0_pay4]

section

variable (x y : Vec Ideal S512x1024 .bf16) (w : Vec Ideal S1024x2816 .bf16) (v : Vec Ideal S1408x1024 .bf16)
  (i : Fin 512) (r : Fin 1408) (hl : r.val < 2816) (hr : 1408 + r.val < 2816)

theorem pay7_at : k0_pay7 x w (ix2 i r) = gate (k0_pay1 x w (ix2 i ⟨r.val, hl⟩)) (k0_pay1 x w (ix2 i ⟨1408 + r.val, hr⟩)) := by
  pointwise [k0_pay7, k0_pay6, k0_pay5, k0_pay3, k0_pay2]
  rfl

theorem pay8_at : k0_pay8 x w y v (ix2 i r)
    = back (k0_pay1 x w (ix2 i ⟨r.val, hl⟩)) (k0_pay1 x w (ix2 i ⟨1408 + r.val, hr⟩)) (k0_pay4 y v (ix2 i r)) := by
  pointwise [k0_pay8, k0_pay5, k0_pay3, k0_pay2]
  rfl

theorem pay9_at : k0_pay9 x w y v (ix2 i r)
    = k0_pay4 y v (ix2 i r) * (k0_pay1 x w (ix2 i ⟨r.val, hl⟩) * Ideal.logistic (k0_pay1 x w (ix2 i ⟨r.val, hl⟩))) := by
  pointwise [k0_pay9, k0_pay6, k0_pay5, k0_pay2]

end

variable (c : Dev nD) (t : Fin cfg0.N)

theorem lt_rows (i : Fin 512) : t.val / 2 * 512 + i.val < 9216 := by
  have h : t.val < 36 := lt_of_lt_of_eq t.isLt N_0
  have := i.isLt
  omega

theorem x_at (i : Fin 512) (k : Fin 1024) :
    (iblk m c 0 t : Vec Ideal S512x1024 .bf16) (ix2 i k) = (m ((c : Thread nD τ).loc main_arg0) : Vec Ideal S9216x1024 .bf16) (ix2 ⟨t.val / 2 * 512 + i.val, lt_rows t i⟩ k) := by
  blk_ext [iblk, V, idx t]

theorem y_at (i : Fin 512) (k : Fin 1024) :
    (iblk m c 1 t : Vec Ideal S512x1024 .bf16) (ix2 i k) = (m ((c : Thread nD τ).loc main_arg1) : Vec Ideal S9216x1024 .bf16) (ix2 ⟨t.val / 2 * 512 + i.val, lt_rows t i⟩ k) := by
  blk_ext [iblk, V, idx t]

theorem w_at (k : Fin 1024) (n : Fin 2816) (h : t.val % 2 * 2816 + n.val < 5632) :
    (iblk m c 2 t : Vec Ideal S1024x2816 .bf16) (ix2 k n) = paired (m ((c : Thread nD τ).loc main_arg2)) (ix2 k ⟨t.val % 2 * 2816 + n.val, h⟩) := by
  rw [← entry m c]
  blk_ext [iblk, idx t]

theorem v_at (r : Fin 1408) (k : Fin 1024) (h : t.val % 2 * 1408 + r.val < 2816) :
    (iblk m c 3 t : Vec Ideal S1408x1024 .bf16) (ix2 r k) = (m ((c : Thread nD τ).loc main_arg3) : Vec Ideal S2816x1024 .bf16) (ix2 ⟨t.val % 2 * 1408 + r.val, h⟩ k) := by
  blk_ext [iblk, V, idx t]

/-- The reference's first product over the arguments. -/
abbrev Z : Vec Ideal S9216x5632 .f32 :=
  Cert.MidRefIdeal.Read.val_main_v4 (F := Ideal) (m ((c : Thread nD τ).loc main_arg0)) (m ((c : Thread nD τ).loc main_arg2))

/-- The reference's derivative of the second product over the arguments. -/
abbrev D : Vec Ideal S9216x2816 .f32 :=
  Cert.MidRefIdeal.Read.val_main_v10 (F := Ideal) (m ((c : Thread nD τ).loc main_arg1)) (m ((c : Thread nD τ).loc main_arg3))

theorem left (i : Fin 512) (r : Fin 1408) (hl : r.val < 2816) (h : t.val % 2 * 1408 + r.val < 5632) :
    k0_pay1 (F := Ideal) (iblk m c 0 t) (iblk m c 2 t) (ix2 i ⟨r.val, hl⟩) = Z m c (ix2 ⟨t.val / 2 * 512 + i.val, lt_rows t i⟩ ⟨t.val % 2 * 1408 + r.val, h⟩) := by
  rw [pay1_at, Z, Cert.MidRefIdeal.Mine.z_at]
  refine Finset.sum_congr rfl fun k _ => congrArg₂ (· * ·) (x_at m c t i k) ?_
  refine (w_at m c t k ⟨r.val, hl⟩ (by have := r.isLt; dsimp only; omega)).trans ?_
  exact left_at _ k ⟨t.val % 2, Nat.mod_lt _ (by omega)⟩ r _ h

theorem right (i : Fin 512) (r : Fin 1408) (hr : 1408 + r.val < 2816) (h : 2816 + (t.val % 2 * 1408 + r.val) < 5632) :
    k0_pay1 (F := Ideal) (iblk m c 0 t) (iblk m c 2 t) (ix2 i ⟨1408 + r.val, hr⟩)
      = Z m c (ix2 ⟨t.val / 2 * 512 + i.val, lt_rows t i⟩ ⟨2816 + (t.val % 2 * 1408 + r.val), h⟩) := by
  rw [pay1_at, Z, Cert.MidRefIdeal.Mine.z_at]
  refine Finset.sum_congr rfl fun k _ => congrArg₂ (· * ·) (x_at m c t i k) ?_
  refine (w_at m c t k ⟨1408 + r.val, hr⟩ (by have := r.isLt; dsimp only; omega)).trans ?_
  exact right_at _ k ⟨t.val % 2, Nat.mod_lt _ (by omega)⟩ r _ h

theorem deriv (i : Fin 512) (r : Fin 1408) (h : t.val % 2 * 1408 + r.val < 2816) :
    k0_pay4 (F := Ideal) (iblk m c 1 t) (iblk m c 3 t) (ix2 i r) = D m c (ix2 ⟨t.val / 2 * 512 + i.val, lt_rows t i⟩ ⟨t.val % 2 * 1408 + r.val, h⟩) := by
  rw [pay4_at, D, Cert.MidRefIdeal.Mine.d_at]
  exact Finset.sum_congr rfl fun k _ => congrArg₂ (· * ·) (y_at m c t i k) (v_at m c t r k h)

/-- What the kernel stores of the gated unit. -/
theorem store_h (i : Fin 512) (r : Fin 1408) (h : t.val % 2 * 1408 + r.val < 2816) :
    k0_pay7 (F := Ideal) (iblk m c 0 t) (iblk m c 2 t) (ix2 i r)
      = Cert.MidRefIdeal.Read.val_main_v26 (F := Ideal) (m ((c : Thread nD τ).loc main_arg0)) (m ((c : Thread nD τ).loc main_arg2))
        (ix2 ⟨t.val / 2 * 512 + i.val, lt_rows t i⟩ ⟨t.val % 2 * 1408 + r.val, h⟩) := by
  have h1 : r.val < 1408 := r.isLt
  have e1 := left m c t i r (by omega) (by omega)
  have e2 := right m c t i r (by omega) (by omega)
  have e5 := Cert.MidRefIdeal.Mine.h_at (m ((c : Thread nD τ).loc main_arg0)) (m ((c : Thread nD τ).loc main_arg2))
    ⟨t.val / 2 * 512 + i.val, lt_rows t i⟩ ⟨t.val % 2 * 1408 + r.val, h⟩ (by dsimp only; omega) (by dsimp only; omega)
  exact (pay7_at _ _ i r _ _).trans ((congrArg₂ gate e1 e2).trans e5.symm)

/-- The gated unit: the kernel's array is the reference's. -/
theorem final_h : (dats m 0 c).arrAt 4 (cfgs 0).N
    = Cert.MidRefIdeal.Read.val_main_v26 (F := Ideal) (m ((c : Thread nD τ).loc main_arg0)) (m ((c : Thread nD τ).loc main_arg2)) := by
  refine (dats m 0 c).arrAt_eq_of_covers 4 _ (by decide +kernel) fun t _ y => ?_
  blk_simp
  rw [after0_4]
  frame_out
  have h0 : t.val % 2 < 2 := Nat.mod_lt _ (by omega)
  obtain ⟨i, r, rfl⟩ : ∃ (i : Fin 512) (r : Fin 1408), y = (ix2 i r : S512x1408.Idx) := ⟨y 0, y 1, by blk_ext⟩
  refine (store_h m c t i r (by have := r.isLt; omega)).trans ?_
  blk_ext [idx t]

variable (hx : ∀ i, IsReal ((m ((c : Thread nD τ).loc main_arg0) : Vec Ideal S9216x1024 .bf16) i))
  (hy : ∀ i, IsReal ((m ((c : Thread nD τ).loc main_arg1) : Vec Ideal S9216x1024 .bf16) i))
  (hw : ∀ i, IsReal ((m ((c : Thread nD τ).loc main_arg2) : Vec Ideal S1024x5632 .bf16) i))
  (hv : ∀ i, IsReal ((m ((c : Thread nD τ).loc main_arg3) : Vec Ideal S2816x1024 .bf16) i))

include hx hw in
theorem real_z (j : S9216x5632.Idx) : IsReal (Z m c j) := by
  rw [Z, Cert.MidRefIdeal.Mine.z_at]
  exact real_sum (fun _ => hx _) (fun _ => hw _)

include hy hv in
theorem real_d (j : S9216x2816.Idx) : IsReal (D m c j) := by
  rw [D, Cert.MidRefIdeal.Mine.d_at]
  exact real_sum (fun _ => hy _) (fun _ => hv _)

/-- The reference's second result over the arguments. -/
abbrev DZ : Vec Ideal S9216x5632 .bf16 := Cert.MidRefIdeal.Read.val_main_v27 (F := Ideal) (m ((c : Thread nD τ).loc main_arg0))
  (m ((c : Thread nD τ).loc main_arg1)) (m ((c : Thread nD τ).loc main_arg2)) (m ((c : Thread nD τ).loc main_arg3))

include hx hy hw hv in
theorem store_left (i : Fin 512) (r : Fin 1408) (h : t.val % 2 * 2816 + r.val < 5632) :
    k0_pay8 (F := Ideal) (iblk m c 0 t) (iblk m c 2 t) (iblk m c 1 t) (iblk m c 3 t) (ix2 i r)
      = DZ m c (ix2 ⟨t.val / 2 * 512 + i.val, lt_rows t i⟩ ⟨t.val % 2 * 2816 + r.val, h⟩) := by
  have h0 : t.val % 2 < 2 := Nat.mod_lt _ (by omega)
  have h1 : r.val < 1408 := r.isLt
  have e1 := left m c t i r (by omega) (by omega)
  have e2 := right m c t i r (by omega) (by omega)
  have e3 := deriv m c t i r (by omega)
  have e4 := Cert.MidRefIdeal.Mine.left_at (m ((c : Thread nD τ).loc main_arg0)) (m ((c : Thread nD τ).loc main_arg1)) (m ((c : Thread nD τ).loc main_arg2))
    (m ((c : Thread nD τ).loc main_arg3)) ⟨t.val / 2 * 512 + i.val, lt_rows t i⟩ ⟨t.val % 2, h0⟩ r h (by dsimp only; omega)
  have e5 := Cert.MidRefIdeal.Mine.da_at (m ((c : Thread nD τ).loc main_arg0)) (m ((c : Thread nD τ).loc main_arg1)) (m ((c : Thread nD τ).loc main_arg2))
    (m ((c : Thread nD τ).loc main_arg3)) ⟨t.val / 2 * 512 + i.val, lt_rows t i⟩ ⟨t.val % 2 * 1408 + r.val, by omega⟩ (by dsimp only; omega) (by dsimp only; omega)
  have e6 := back_eq (real_z m c hx hw (ix2 ⟨t.val / 2 * 512 + i.val, lt_rows t i⟩ ⟨t.val % 2 * 1408 + r.val, by omega⟩))
    (real_z m c hx hw (ix2 ⟨t.val / 2 * 512 + i.val, lt_rows t i⟩ ⟨2816 + (t.val % 2 * 1408 + r.val), by omega⟩))
    (real_d m c hy hv (ix2 ⟨t.val / 2 * 512 + i.val, lt_rows t i⟩ ⟨t.val % 2 * 1408 + r.val, by omega⟩))
  exact (pay8_at _ _ _ _ i r _ _).trans ((congr (congr (congrArg back e1) e2) e3).trans (e6.trans (e5.symm.trans e4.symm)))

theorem store_right (i : Fin 512) (r : Fin 1408) (h : t.val % 2 * 2816 + (1408 + r.val) < 5632) :
    k0_pay9 (F := Ideal) (iblk m c 0 t) (iblk m c 2 t) (iblk m c 1 t) (iblk m c 3 t) (ix2 i r)
      = DZ m c (ix2 ⟨t.val / 2 * 512 + i.val, lt_rows t i⟩ ⟨t.val % 2 * 2816 + (1408 + r.val), h⟩) := by
  have h0 : t.val % 2 < 2 := Nat.mod_lt _ (by omega)
  have h1 : r.val < 1408 := r.isLt
  have e1 := left m c t i r (by omega) (by omega)
  have e3 := deriv m c t i r (by omega)
  have e4 := Cert.MidRefIdeal.Mine.right_at (m ((c : Thread nD τ).loc main_arg0)) (m ((c : Thread nD τ).loc main_arg1)) (m ((c : Thread nD τ).loc main_arg2))
    (m ((c : Thread nD τ).loc main_arg3)) ⟨t.val / 2 * 512 + i.val, lt_rows t i⟩ ⟨t.val % 2, h0⟩ r h (by dsimp only; omega)
  have e5 := Cert.MidRefIdeal.Mine.db_at (m ((c : Thread nD τ).loc main_arg0)) (m ((c : Thread nD τ).loc main_arg1)) (m ((c : Thread nD τ).loc main_arg2))
    (m ((c : Thread nD τ).loc main_arg3)) ⟨t.val / 2 * 512 + i.val, lt_rows t i⟩ ⟨t.val % 2 * 1408 + r.val, by omega⟩ (by dsimp only; omega)
  have e6 : ∀ a d : EReal, d * (a * Ideal.logistic a) = a * Ideal.logistic a * d := fun a d => mul_comm _ _
  exact (pay9_at _ _ _ _ i r _).trans ((congrArg₂ (fun a d => d * (a * Ideal.logistic a)) e1 e3).trans ((e6 _ _).trans (e5.symm.trans e4.symm)))

theorem ld0 (x : Vec Ideal S512x1024 .bf16) : View.ld x r0_0 = x := View.ld_unit_zero (by decide) _ x
theorem ld1 (x : Vec Ideal S1024x2816 .bf16) : View.ld x r0_1 = x := View.ld_unit_zero (by decide) _ x
theorem ld2 (x : Vec Ideal S1408x1024 .bf16) : View.ld x r0_2 = x := View.ld_unit_zero (by decide) _ x

include hx hy hw hv in
/-- The derivative of the first product: the kernel's array is the reference's. -/
theorem final_dz : (dats m 0 c).arrAt 5 (cfgs 0).N = DZ m c := by
  refine (dats m 0 c).arrAt_eq_of_covers 5 _ (by decide +kernel) fun t _ y => ?_
  blk_simp
  rw [after0_5]
  have h2 : t.val % 2 < 2 := Nat.mod_lt _ (by omega)
  canon_tiles x h
  case piece0 =>
    have e : k0_pay9 (F := Ideal) (iblk m c 0 t) (iblk m c 2 t) (iblk m c 1 t) (iblk m c 3 t) x
        = DZ m c (ix2 ⟨t.val / 2 * 512 + (x 0).val, lt_rows t (x 0)⟩ ⟨t.val % 2 * 2816 + (1408 + (x 1).val), by omega⟩) := by
      obtain ⟨i, r, rfl⟩ : ∃ (i : Fin 512) (r : Fin 1408), x = ix2 i r := ⟨x 0, x 1, by blk_ext⟩
      exact store_right m c t i r _
    refine Eq.trans ?_ (e.trans ?_)
    · rw [ld0, ld1, ld0, ld2]
    · blk_ext [idx t]
  case piece1 =>
    have e : k0_pay8 (F := Ideal) (iblk m c 0 t) (iblk m c 2 t) (iblk m c 1 t) (iblk m c 3 t) x
        = DZ m c (ix2 ⟨t.val / 2 * 512 + (x 0).val, lt_rows t (x 0)⟩ ⟨t.val % 2 * 2816 + (x 1).val, by omega⟩) := by
      obtain ⟨i, r, rfl⟩ : ∃ (i : Fin 512) (r : Fin 1408), x = ix2 i r := ⟨x 0, x 1, by blk_ext⟩
      exact store_left m c t hx hy hw hv i r _
    refine Eq.trans ?_ (e.trans ?_)
    · rw [ld0, ld1, ld0, ld2]
    · blk_ext [idx t]

end Cert.MidIdeal.Mine

end
-- ==== Proof.FiniteFfn.lean ====
module

public import proofs.«01_k».proof.Defs
public import proofs.«01_k».proof.Proof.Gate
public import Idealize.ShloMosaic.Lib.ReduceAll
public import Idealize.ShloMosaic.Lib.Pipeline.ValueKit

@[expose] public section

set_option maxRecDepth 16384

noncomputable section

open Idealize Idealize.ShloMosaic

namespace Cert.Pre_finite_ffn

open Cert.Gate

/-- The shape facts the precondition states. -/
theorem facts : Cert.Pre_finite_ffn.Facts where
  bitsLt_bf16_f32 := by decide
  bcast_S_S9216x1024 := by decide
  reducesTo_S9216x1024_S_d0_1 := by decide
  h_S_ := by decide
  bcast_S_S1024x5632 := by decide
  reducesTo_S1024x5632_S_d0_1 := by decide
  bcast_S_S2816x1024 := by decide
  reducesTo_S2816x1024_S_d0_1 := by decide

/-- An array whose comparison with plus infinity holds everywhere holds reals. -/
theorem lift {a b : ℕ} {x : FVec Ideal ⟨2, ![a, b]⟩ .bf16} (hb : FTy.bits .bf16 < FTy.bits .f32)
    (bc : S_.BroadcastsInDim ⟨2, ![a, b]⟩ (![] : Fin 0 → Fin 2)) (rd : (⟨2, ![a, b]⟩ : Shape).ReducesTo [0, 1] S_) (hs : 0 < S_.numel)
    (h : Host.reduce IntOp.andi (cmpf .olt (Host.absf (extf .f32 x hb)) (broadcastInDim ⟨2, ![a, b]⟩ ![] bc (constant S_ .f32 0x7F800000#32)))
      (constantI S_ 1 1#1) rd hs ix0 = 1#1) (i : Shape.Idx ⟨2, ![a, b]⟩) : IsReal (x i) := by
  have e := Host.reduce_andi_all (t := S_) _ _ rd hs ix0 h i
  apply real_of_lt
  change BitVec.ofBool (decide (max (x i) (-(x i)) < (⊤ : EReal))) = 1#1 at e
  by_contra hn
  rw [decide_eq_false hn] at e
  exact absurd e (by decide)

theorem reals [Facts] {x0 : FVec Ideal S9216x1024 .bf16} {x1 : FVec Ideal S9216x1024 .bf16} {x2 : FVec Ideal S1024x5632 .bf16}
    {x3 : FVec Ideal S2816x1024 .bf16} (h : fn (F := Ideal) x0 x1 x2 x3 = fun _ => 1#1) :
    (∀ i, IsReal (x0 i)) ∧ (∀ i, IsReal (x1 i)) ∧ (∀ i, IsReal (x2 i)) ∧ ∀ i, IsReal (x3 i) := by
  have e := congrFun h ix0
  unfold fn fn_part1 at e
  obtain ⟨e, h3⟩ := IntOp.andi_eq_one.1 e
  obtain ⟨e, h2⟩ := IntOp.andi_eq_one.1 e
  obtain ⟨h0, h1⟩ := IntOp.andi_eq_one.1 e
  exact ⟨lift _ _ _ _ h0, lift _ _ _ _ h1, lift _ _ _ _ h2, lift _ _ _ _ h3⟩

end Cert.Pre_finite_ffn

end
-- ==== Proof.ClaimsMid.lean ====
module

public import proofs.«01_k».proof.Defs
public import proofs.«01_k».proof.Proof.Mid
public import proofs.«01_k».proof.Proof.FiniteFfn
public import Idealize.ShloMosaic.Adequacy
public import Idealize.ShloMosaic.Init

@[expose] public section

noncomputable section

namespace Cert.Proof

open Idealize.ShloMosaic Idealize.SL.Sem

/-- The feed-forward layer's gated unit and the gradient before it: the call runs, at its own formats. -/
theorem mid_p [Cert.Mid.Facts] : Cert.quiescent_Mid := fun m ρ _ => Cert.Mid.Gen.frame m ρ

/-- and over the reals. -/
theorem mid_pi : Cert.quiescent_MidIdeal (hMidIdeal := Cert.MidIdeal.Gen.facts) := fun m ρ _ => Cert.MidIdeal.Gen.frame m ρ

/-- The reference runs; it declares no semaphore. -/
theorem mid_ri : Cert.quiescent_MidRefIdeal (hMidRefIdeal := Cert.MidRefIdeal.Gen.facts) := fun m ρ _ =>
  (θ_run Cert.MidRefIdeal.defs _ _).mono (fun r h => ⟨fun c => (h c).2.2, sem_eq_zero_of_no_sems (by decide) r.2⟩)
    (Cert.MidRefIdeal.Value.run (F := Ideal) m ρ)

theorem mid_pi_pre : Cert.quiescent_MidIdeal_pre_finite_ffn (hMidIdeal := Cert.MidIdeal.Gen.facts) (hPre_finite_ffn := Cert.Pre_finite_ffn.facts) :=
  fun m ρ _ => Cert.MidIdeal.Gen.frame m ρ

theorem mid_ri_pre : Cert.quiescent_MidRefIdeal_pre_finite_ffn (hMidRefIdeal := Cert.MidRefIdeal.Gen.facts) (hPre_finite_ffn := Cert.Pre_finite_ffn.facts) :=
  fun m ρ _ => mid_ri m ρ trivial

/-- From finite arguments the call's two results are the reference's. -/
theorem mid_alg : Cert.algebraic_MidIdeal_MidRefIdeal_pre_finite_ffn (hMidIdeal := Cert.MidIdeal.Gen.facts)
    (hMidRefIdeal := Cert.MidRefIdeal.Gen.facts) (hPre_finite_ffn := Cert.Pre_finite_ffn.facts) := by
  intro m ρ m' ρ' hpre hagree
  refine ⟨fun c => (Cert.MidIdeal.Gen.dats m 0 c).arrAt 4 Cert.MidIdeal.cfg0.N, fun c => (Cert.MidIdeal.Gen.dats m 0 c).arrAt 5 Cert.MidIdeal.cfg0.N,
    Cert.MidIdeal.Value.run_blocks m ρ, ?_⟩
  refine (θ_run Cert.MidRefIdeal.defs _ _).mono (fun r h c => ?_) (Cert.MidRefIdeal.Value.run (F := Ideal) m' ρ')
  have := Cert.Pre_finite_ffn.facts
  obtain ⟨e0, e1, e2, e3⟩ := hagree c
  obtain ⟨hx, hy, hw, hv⟩ := Cert.Pre_finite_ffn.reals (hpre c)
  have g := Cert.MidIdeal.Mine.final_h m c
  have d := Cert.MidIdeal.Mine.final_dz m c hx hy hw hv
  obtain ⟨r0, r1, r2⟩ := h c
  rw [← e0, ← e2] at g
  unfold Cert.MidIdeal.Mine.DZ at d
  rw [← e0, ← e1, ← e2, ← e3] at d
  exact ⟨(r0.trans (Cert.MidRefIdeal.Read.val_main_v26_eq _ _)).trans g.symm, (r1.trans (Cert.MidRefIdeal.Read.val_main_v27_eq m' c)).trans d.symm, r2⟩

end Cert.Proof

end
-- ==== Proof.Ffn.lean ====
module

public import proofs.«01_k».proof.Proof.OfFfn
public import proofs.«01_k».proof.Proof.Gate
public import Idealize.ShloMosaic.Lib.Pipeline.ValueKit

@[expose] public section

set_option maxRecDepth 16384

noncomputable section

namespace Cert.FfnRefIdeal.Mine

open Cert.FfnRefIdeal Cert.FfnRefIdeal.Gen Idealize.ShloMosaic Cert.FfnRefIdeal.Read Cert.Gate

variable (x : Vec Ideal S9216x1024 .bf16) (w : Vec Ideal S1024x5632 .bf16) (v : Vec Ideal S2816x1024 .bf16)

/-- The first product of the reference at an index. -/
theorem z_at (j : S9216x5632.Idx) : val_main_v2 (F := Ideal) x w j = ∑ k : Fin 1024, x (ix2 (j 0) k) * w (ix2 k (j 1)) := by
  pointwise [val_main_v2, val_main_v1, val_main_v0]

/-- The gated unit of the reference at an index. -/
theorem h_at (i : Fin 9216) (n : Fin 2816) (hl : n.val < 5632) (hr : 2816 + n.val < 5632) : val_main_v6 (F := Ideal) x w (ix2 i n)
    = gate (val_main_v2 (F := Ideal) x w (ix2 i ⟨n.val, hl⟩)) (val_main_v2 (F := Ideal) x w (ix2 i ⟨2816 + n.val, hr⟩)) := by
  pointwise [val_main_v6, val_main_v5, val_main_call0_v5, val_main_call0_v4, val_main_call0_v3, val_main_call0_v2,
    val_main_call0_v1, val_main_call0_v0, val_main_call0_cst, val_main_call0_cst_0, val_main_v3, val_main_v4]
  rfl

/-- The reference's array at an index. -/
theorem y_at (j : S9216x1024.Idx) : val_main_v9 (F := Ideal) x w v j = ∑ k : Fin 2816, val_main_v6 (F := Ideal) x w (ix2 (j 0) k) * v (ix2 k (j 1)) := by
  pointwise [val_main_v9, val_main_v8, val_main_v7]

end Cert.FfnRefIdeal.Mine

namespace Cert.FfnIdeal.Mine

open Cert.FfnIdeal Cert.FfnIdeal.Gen Idealize.ShloMosaic Idealize.ShloMosaic.TcCoe Idealize.SL.Sem Cert.Gate
open Idealize.ShloMosaic.Pipeline (Dat)

variable (m : (ℓ : Loc nD τ sig) → Buf (Elt Ideal) ℓ)

/-- The weights with their columns in groups, as the host code before the call orders them. -/
def paired (w : Vec Ideal S1024x5632 .bf16) : Vec Ideal S1024x5632 .bf16 := concatenate S1024x5632 1
  [⟨S1024x1408, extractStridedSlice S1024x1408 ![0, 0] w slices_S1024x5632_S1024x1408_0_0⟩,
   ⟨S1024x1408, extractStridedSlice S1024x1408 ![0, 2816] w slices_S1024x5632_S1024x1408_0_2816⟩,
   ⟨S1024x1408, extractStridedSlice S1024x1408 ![0, 1408] w slices_S1024x5632_S1024x1408_0_1408⟩,
   ⟨S1024x1408, extractStridedSlice S1024x1408 ![0, 4224] w slices_S1024x5632_S1024x1408_0_4224⟩]
  concatenates_S1024x1408_S1024x1408_S1024x1408_S1024x1408_S1024x5632_d1

/-- The array of weights the call reads. -/
theorem entry (c : Dev nD) : V m c main_v4 = paired (m ((c : Thread nD τ).loc main_arg1)) := rfl

/-- The columns of group `q`: first those of the half under the logistic function, then those of the other half. -/
theorem left_at (w : Vec Ideal S1024x5632 .bf16) (k : Fin 1024) (q : Fin 2) (r : Fin 1408) (h : q.val * 2816 + r.val < 5632) (h' : q.val * 1408 + r.val < 5632) :
    paired w (ix2 k ⟨q.val * 2816 + r.val, h⟩) = w (ix2 k ⟨q.val * 1408 + r.val, h'⟩) := by
  have hr := r.isLt
  have hq := q.isLt
  pointwise [paired]
  by_cases h0 : q.val = 0
  · rw [dif_pos (by omega)]
    exact congrArg (fun e => w (ix2 k e)) (Fin.ext (by show q.val * 2816 + r.val = q.val * 1408 + r.val; omega))
  · rw [dif_neg (by omega), dif_neg (by omega), dif_pos (by omega)]
    exact congrArg (fun e => w (ix2 k e)) (Fin.ext (by show 1408 + (q.val * 2816 + r.val - 1408 - 1408) = q.val * 1408 + r.val; omega))

theorem right_at (w : Vec Ideal S1024x5632 .bf16) (k : Fin 1024) (q : Fin 2) (r : Fin 1408) (h : q.val * 2816 + (1408 + r.val) < 5632) (h' : 2816 + (q.val * 1408 + r.val) < 5632) :
    paired w (ix2 k ⟨q.val * 2816 + (1408 + r.val), h⟩) = w (ix2 k ⟨2816 + (q.val * 1408 + r.val), h'⟩) := by
  have hr := r.isLt
  have hq := q.isLt
  pointwise [paired]
  by_cases h0 : q.val = 0
  · rw [dif_neg (by omega), dif_pos (by omega)]
    exact congrArg (fun e => w (ix2 k e)) (Fin.ext (by show 2816 + (q.val * 2816 + (1408 + r.val) - 1408) = 2816 + (q.val * 1408 + r.val); omega))
  · rw [dif_neg (by omega), dif_neg (by omega), dif_neg (by omega)]
    exact congrArg (fun e => w (ix2 k e)) (Fin.ext (by show 4224 + (q.val * 2816 + (1408 + r.val) - 1408 - 1408 - 1408) = 2816 + (q.val * 1408 + r.val); omega))

/-- Where the blocks of each array sit at every grid point. -/
theorem idx : ∀ t : Fin cfg0.N, win0_0.index t = ![t.val / 2, 0] ∧ win0_1.index t = ![0, t.val % 2] ∧ win0_2.index t = ![t.val % 2, 0]
    ∧ win0_3.index t = ![t.val / 2, 0] :=
  (by decide +kernel : ∀ t : Fin grid0.N, _)

/-- What one step adds: the gated unit of a group of columns times the group's rows of the second matrix. -/
def part (x : Vec Ideal S512x1024 .bf16) (w : Vec Ideal S1024x2816 .bf16) (v : Vec Ideal S1408x1024 .bf16) (j : S512x1024.Idx) (k : Fin 1408) : EReal :=
  gate (∑ p : Fin 1024, x (ix2 (j 0) p) * w (ix2 p ⟨k.val, by have := k.isLt; omega⟩))
    (∑ p : Fin 1024, x (ix2 (j 0) p) * w (ix2 p ⟨1408 + k.val, by have := k.isLt; omega⟩)) * v (ix2 k (j 1))

theorem pay1_at (x : Vec Ideal S512x1024 .bf16) (w : Vec Ideal S1024x2816 .bf16) (v : Vec Ideal S1408x1024 .bf16) (j : S512x1024.Idx) :
    k0_pay1 x w v j = ∑ k : Fin 1408, part x w v j k := by
  pointwise [k0_pay1]
  rfl

theorem set_at (x : Vec Ideal S512x1024 .bf16) (w : Vec Ideal S1024x2816 .bf16) (v : Vec Ideal S1408x1024 .bf16) (j : S512x1024.Idx) :
    k0_pay2 x w v j = 0 + ∑ k : Fin 1408, part x w v j k := by
  rw [zero_add, ← pay1_at]
  pointwise [k0_pay2]

theorem add_at (x : Vec Ideal S512x1024 .bf16) (w : Vec Ideal S1024x2816 .bf16) (v : Vec Ideal S1408x1024 .bf16) (a : Vec Ideal S512x1024 .f32) (j : S512x1024.Idx) :
    k0_pay3 x w v a j = a j + ∑ k : Fin 1408, part x w v j k := by
  rw [← pay1_at]
  pointwise [k0_pay3]

theorem out_at (a : Vec Ideal S512x1024 .f32) (j : S512x1024.Idx) : k0_pay4 a j = a j := by pointwise [k0_pay4]

/-- At the last step of a group the result's block is the running sum. -/
theorem last (c : Dev nD) (t : Fin cfg0.N) (h : t.val % 2 = 1) (j : S512x1024.Idx) :
    (outsAt0 m c t.val t.isLt).1 j = (outsAt0 m c t.val t.isLt).2 j := by
  rw [outsAt0_B m c t (by omega) h h]; frame_out; rw [out_at]

variable (c : Dev nD)

theorem lt_rows (t : Fin cfg0.N) (i : Fin 512) : t.val / 2 * 512 + i.val < 9216 := by
  have h : t.val < 36 := lt_of_lt_of_eq t.isLt N_0
  have := i.isLt
  omega

theorem x_at (t : Fin cfg0.N) (i : Fin 512) (k : Fin 1024) :
    (iblk m c 0 t : Vec Ideal S512x1024 .bf16) (ix2 i k) = (m ((c : Thread nD τ).loc main_arg0) : Vec Ideal S9216x1024 .bf16) (ix2 ⟨t.val / 2 * 512 + i.val, lt_rows t i⟩ k) := by
  blk_ext [iblk, V, idx t]

theorem w_at (t : Fin cfg0.N) (k : Fin 1024) (n : Fin 2816) (h : t.val % 2 * 2816 + n.val < 5632) :
    (iblk m c 1 t : Vec Ideal S1024x2816 .bf16) (ix2 k n) = paired (m ((c : Thread nD τ).loc main_arg1)) (ix2 k ⟨t.val % 2 * 2816 + n.val, h⟩) := by
  rw [← entry m c]
  blk_ext [iblk, idx t]

theorem v_at (t : Fin cfg0.N) (r : Fin 1408) (k : Fin 1024) (h : t.val % 2 * 1408 + r.val < 2816) :
    (iblk m c 2 t : Vec Ideal S1408x1024 .bf16) (ix2 r k) = (m ((c : Thread nD τ).loc main_arg2) : Vec Ideal S2816x1024 .bf16) (ix2 ⟨t.val % 2 * 1408 + r.val, h⟩ k) := by
  blk_ext [iblk, V, idx t]

/-- A step's term is the reference's term at the group's columns. -/
theorem part_eq (t : Fin cfg0.N) (i : Fin 512) (n : Fin 1024) (r : Fin 1408) (h : t.val % 2 * 1408 + r.val < 2816) :
    part (iblk m c 0 t) (iblk m c 1 t) (iblk m c 2 t) (ix2 i n) r
      = Cert.FfnRefIdeal.Read.val_main_v6 (F := Ideal) (m ((c : Thread nD τ).loc main_arg0)) (m ((c : Thread nD τ).loc main_arg1))
          (ix2 ⟨t.val / 2 * 512 + i.val, lt_rows t i⟩ ⟨t.val % 2 * 1408 + r.val, h⟩)
        * (m ((c : Thread nD τ).loc main_arg2) : Vec Ideal S2816x1024 .bf16) (ix2 ⟨t.val % 2 * 1408 + r.val, h⟩ n) := by
  have h1 : r.val < 1408 := r.isLt
  have h0 : t.val % 2 < 2 := Nat.mod_lt _ (by omega)
  have e5 := Cert.FfnRefIdeal.Mine.h_at (m ((c : Thread nD τ).loc main_arg0)) (m ((c : Thread nD τ).loc main_arg1))
    ⟨t.val / 2 * 512 + i.val, lt_rows t i⟩ ⟨t.val % 2 * 1408 + r.val, h⟩ (by dsimp only; omega) (by dsimp only; omega)
  rw [e5, Cert.FfnRefIdeal.Mine.z_at, Cert.FfnRefIdeal.Mine.z_at]
  refine congrArg₂ (· * ·) (congrArg₂ gate ?_ ?_) (v_at m c t r n h)
  · refine Finset.sum_congr rfl fun k _ => congrArg₂ (· * ·) (x_at m c t i k) ?_
    refine (w_at m c t k ⟨r.val, by omega⟩ (by dsimp only; omega)).trans ?_
    exact left_at _ k ⟨t.val % 2, h0⟩ r _ (by dsimp only; omega)
  · refine Finset.sum_congr rfl fun k _ => congrArg₂ (· * ·) (x_at m c t i k) ?_
    refine (w_at m c t k ⟨1408 + r.val, by omega⟩ (by dsimp only; omega)).trans ?_
    exact right_at _ k ⟨t.val % 2, h0⟩ r _ (by dsimp only; omega)

/-- The reference's term depends on its row and columns only. -/
theorem same (x : Vec Ideal S9216x1024 .bf16) (w : Vec Ideal S1024x5632 .bf16) (v : Vec Ideal S2816x1024 .bf16) {a b : Fin 9216} {k l : Fin 2816}
    {p q : Fin 1024} (h : a = b) (e : k = l) (g : p = q) : Cert.FfnRefIdeal.Read.val_main_v6 (F := Ideal) x w (ix2 a k) * v (ix2 k p)
      = Cert.FfnRefIdeal.Read.val_main_v6 (F := Ideal) x w (ix2 b l) * v (ix2 l q) := by subst h e g; rfl

/-- The block of the result at the last step of a group. -/
theorem after_at (t : Fin cfg0.N) (h2 : t.val % 2 = 1) (i : Fin 512) (n : Fin 1024) : (dats m 0 c).after 3 t (ix2 i n)
    = ∑ k : Fin 2816, Cert.FfnRefIdeal.Read.val_main_v6 (F := Ideal) (m ((c : Thread nD τ).loc main_arg0)) (m ((c : Thread nD τ).loc main_arg1))
        (ix2 ⟨t.val / 2 * 512 + i.val, lt_rows t i⟩ k) * (m ((c : Thread nD τ).loc main_arg2) : Vec Ideal S2816x1024 .bf16) (ix2 k n) := by
  have ht : t.val < 36 := lt_of_lt_of_eq t.isLt N_0
  rw [after0_3, last m c t h2, Pipeline.eq_sum_fin_of_reset_step_apply_of_flush (fun n h => (outsAt0 m c n h).2) 2 (fun _ => 0) _
    (fun t h j => by rw [outsAt0_A m c t h (by omega) (by omega)]; frame_out; rw [set_at])
    (fun t h j => by
      rw [outsAt0_B m c t h (by omega) (by omega)]; frame_out; rw [add_at]
      exact congrArg (· + _) (congrFun ((Memref.isWhole_whole cc0_scratch0).read_unread _) j))
    t h2 _, zero_add]
  refine Fin.sum_mul_add_congr fun s k hl => ?_
  have hs := s.isLt
  have hb : 2 * (t.val / 2) + s.val < cfg0.N := lt_of_lt_of_eq (by omega : 2 * (t.val / 2) + s.val < 36) N_0.symm
  have hr : (2 * (t.val / 2) + s.val) % 2 * 1408 + k.val < 2816 := by have := k.isLt; omega
  refine (part_eq m c ⟨2 * (t.val / 2) + s.val, hb⟩ i n k hr).trans ?_
  have g0 : (⟨(2 * (t.val / 2) + s.val) / 2 * 512 + i.val, lt_rows ⟨2 * (t.val / 2) + s.val, hb⟩ i⟩ : Fin 9216) = ⟨t.val / 2 * 512 + i.val, lt_rows t i⟩ := by
    apply Fin.ext
    show (2 * (t.val / 2) + s.val) / 2 * 512 + i.val = t.val / 2 * 512 + i.val
    omega
  have g1 : (⟨(2 * (t.val / 2) + s.val) % 2 * 1408 + k.val, hr⟩ : Fin 2816) = ⟨s.val * 1408 + k.val, hl⟩ := by
    apply Fin.ext
    show (2 * (t.val / 2) + s.val) % 2 * 1408 + k.val = s.val * 1408 + k.val
    omega
  exact same _ _ _ g0 g1 rfl

/-- The forward pass of the feed-forward layer: the kernel's array is the reference's. -/
theorem final : (dats m 0 c).arrAt 3 (cfgs 0).N
    = Cert.FfnRefIdeal.Read.val_main_v9 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have h2 := (flush0_3 t).mp hf
  blk_simp
  have ht : t.val < 36 := lt_of_lt_of_eq t.isLt N_0
  obtain ⟨i, n, rfl⟩ : ∃ (i : Fin 512) (n : Fin 1024), y = (ix2 i n : S512x1024.Idx) := ⟨y 0, y 1, by blk_ext⟩
  have e := (after_at m c t h2 i n).trans (Cert.FfnRefIdeal.Mine.y_at _ _ _ (ix2 ⟨t.val / 2 * 512 + i.val, lt_rows t i⟩ n)).symm
  refine e.trans ?_
  blk_ext [idx t]

end Cert.FfnIdeal.Mine

end
-- ==== Proof.GIn.lean ====
module

public import proofs.«01_k».proof.Proof.OfGIn
public import Idealize.ShloMosaic.Lib.Pipeline.ValueKit

@[expose] public section

set_option maxRecDepth 16384

noncomputable section

namespace Cert.GInIdeal.Mine

open Cert.GInIdeal Cert.GInIdeal.Gen Idealize.ShloMosaic Idealize.ShloMosaic.TcCoe Idealize.SL.Sem
open Idealize.ShloMosaic.Pipeline (Dat)

variable (m : (ℓ : Loc nD τ sig) → Buf (Elt Ideal) ℓ)

/-- Where the blocks of each array sit at every grid point. -/
theorem idx : ∀ t : Fin cfg0.N, win0_0.index t = ![t.val % 3, 0] ∧ win0_1.index t = ![t.val % 3, t.val / 3] ∧ win0_2.index t = ![0, t.val / 3] :=
  (by decide +kernel : ∀ t : Fin grid0.N, _)

/-- The store at the first step of a group: zeros. -/
theorem zero_at (j : S1024x512.Idx) : k0_pay1 (F := Ideal) j = 0 := by pointwise [k0_pay1]

/-- The store at every step: what was there plus the product of the two blocks. -/
theorem add_at (a : Vec Ideal S1024x512 .f32) (x : Vec Ideal S3072x1024 .bf16) (z : Vec Ideal S3072x512 .bf16) (j : S1024x512.Idx) :
    k0_pay2 a x z j = a j + ∑ k : Fin 3072, x (ix2 k (j 0)) * z (ix2 k (j 1)) := by pointwise [k0_pay2]

/-- The store of the result is the running sum. -/
theorem out_at (a : Vec Ideal S1024x512 .f32) (j : S1024x512.Idx) : k0_pay3 a j = a j := by pointwise [k0_pay3]

/-- At the last step of a group the result's block is the running sum. -/
theorem last (c : Dev nD) (t : Fin cfg0.N) (h : t.val % 3 = 2) (j : S1024x512.Idx) :
    (outsAt0 m c t.val t.isLt).1 j = (outsAt0 m c t.val t.isLt).2 j := by
  rw [outsAt0_C m c t (by omega) h]; frame_out; rw [out_at]

/-- The reference's array at an index: one sum over the whole contracted axis. -/
theorem ref_at (x : Vec Ideal S9216x1024 .bf16) (z : Vec Ideal S9216x5632 .bf16) (j : S1024x5632.Idx) :
    Cert.GInRefIdeal.Read.val_main_v6 (F := Ideal) x z j = ∑ k : Fin 9216, x (ix2 k (j 0)) * z (ix2 k (j 1)) := by
  pointwise [Cert.GInRefIdeal.Read.val_main_v6, Cert.GInRefIdeal.Read.val_main_v5, Cert.GInRefIdeal.Read.val_main_v4, Cert.GInRefIdeal.Read.val_main_v3, Cert.GInRefIdeal.Read.val_main_v1]
  exact Finset.sum_congr rfl fun k _ => mul_comm _ _

/-- The gradient of the first weight matrix of the feed-forward layer: the kernel's array is the reference's. -/
theorem final (c : Dev nD) : (dats m 0 c).arrAt 2 (cfgs 0).N
    = Cert.GInRefIdeal.Read.val_main_v6 (F := Ideal) (m ((c : Thread nD τ).loc main_arg0)) (m ((c : Thread nD τ).loc main_arg1)) := by
  refine (dats m 0 c).arrAt_eq_of_covers 2 _ (by decide +kernel) fun t hf y => ?_
  have h2 := (flush0_2 t).mp hf
  blk_simp
  rw [after0_2, last m c t h2, Pipeline.eq_sum_fin_of_reset_step_apply_of_flush (fun n h => (outsAt0 m c n h).2) 3 (fun _ => 0) _
    (fun t h j => by rw [outsAt0_A m c t h (by omega)]; frame_out; rw [add_at, zero_at])
    (fun t h j => by
      by_cases h' : t.val % 3 = 2
      · rw [outsAt0_C m c t h h']; frame_out; rw [add_at]
        exact congrArg (· + _) (congrFun ((Memref.isWhole_whole cc0_scratch0).read_unread _) j)
      · rw [outsAt0_B m c t h h']; frame_out; rw [add_at]
        exact congrArg (· + _) (congrFun ((Memref.isWhole_whole cc0_scratch0).read_unread _) j))
    t h2 _, zero_add, ref_at]
  refine Fin.sum_mul_add_congr fun s k hl => ?_
  blk_point [iblk, V, idx t, idx ⟨_, Pipeline.run_point_lt_of_flush t h2 s⟩]

end Cert.GInIdeal.Mine

end
-- ==== Proof.GOut.lean ====
module

public import proofs.«01_k».proof.Proof.OfGOut
public import Idealize.ShloMosaic.Lib.Pipeline.ValueKit

@[expose] public section

set_option maxRecDepth 16384

noncomputable section

namespace Cert.GOutIdeal.Mine

open Cert.GOutIdeal Cert.GOutIdeal.Gen Idealize.ShloMosaic Idealize.ShloMosaic.TcCoe Idealize.SL.Sem
open Idealize.ShloMosaic.Pipeline (Dat)

variable (m : (ℓ : Loc nD τ sig) → Buf (Elt Ideal) ℓ)

/-- Where the blocks of each array sit at every grid point. -/
theorem idx : ∀ t : Fin cfg0.N, win0_0.index t = ![t.val % 3, t.val / 3] ∧ win0_1.index t = ![t.val % 3, 0] ∧ win0_2.index t = ![t.val / 3, 0] :=
  (by decide +kernel : ∀ t : Fin grid0.N, _)

/-- The store at the first step of a group: zeros. -/
theorem zero_at (j : S1408x1024.Idx) : k0_pay1 (F := Ideal) j = 0 := by pointwise [k0_pay1]

/-- The store at every step: what was there plus the product of the two blocks. -/
theorem add_at (a : Vec Ideal S1408x1024 .f32) (x : Vec Ideal S3072x1408 .bf16) (z : Vec Ideal S3072x1024 .bf16) (j : S1408x1024.Idx) :
    k0_pay2 a x z j = a j + ∑ k : Fin 3072, x (ix2 k (j 0)) * z (ix2 k (j 1)) := by pointwise [k0_pay2]

/-- The store of the result is the running sum. -/
theorem out_at (a : Vec Ideal S1408x1024 .f32) (j : S1408x1024.Idx) : k0_pay3 a j = a j := by pointwise [k0_pay3]

/-- At the last step of a group the result's block is the running sum. -/
theorem last (c : Dev nD) (t : Fin cfg0.N) (h : t.val % 3 = 2) (j : S1408x1024.Idx) :
    (outsAt0 m c t.val t.isLt).1 j = (outsAt0 m c t.val t.isLt).2 j := by
  rw [outsAt0_C m c t (by omega) h]; frame_out; rw [out_at]

/-- The reference's array at an index: one sum over the whole contracted axis. -/
theorem ref_at (x : Vec Ideal S9216x2816 .bf16) (z : Vec Ideal S9216x1024 .bf16) (j : S2816x1024.Idx) :
    Cert.GOutRefIdeal.Read.val_main_v6 (F := Ideal) x z j = ∑ k : Fin 9216, x (ix2 k (j 0)) * z (ix2 k (j 1)) := by
  pointwise [Cert.GOutRefIdeal.Read.val_main_v6, Cert.GOutRefIdeal.Read.val_main_v5, Cert.GOutRefIdeal.Read.val_main_v4, Cert.GOutRefIdeal.Read.val_main_v3, Cert.GOutRefIdeal.Read.val_main_v1]
  exact Finset.sum_congr rfl fun k _ => mul_comm _ _

/-- The gradient of the second weight matrix of the feed-forward layer: the kernel's array is the reference's. -/
theorem final (c : Dev nD) : (dats m 0 c).arrAt 2 (cfgs 0).N
    = Cert.GOutRefIdeal.Read.val_main_v6 (F := Ideal) (m ((c : Thread nD τ).loc main_arg0)) (m ((c : Thread nD τ).loc main_arg1)) := by
  refine (dats m 0 c).arrAt_eq_of_covers 2 _ (by decide +kernel) fun t hf y => ?_
  have h2 := (flush0_2 t).mp hf
  blk_simp
  rw [after0_2, last m c t h2, Pipeline.eq_sum_fin_of_reset_step_apply_of_flush (fun n h => (outsAt0 m c n h).2) 3 (fun _ => 0) _
    (fun t h j => by rw [outsAt0_A m c t h (by omega)]; frame_out; rw [add_at, zero_at])
    (fun t h j => by
      by_cases h' : t.val % 3 = 2
      · rw [outsAt0_C m c t h h']; frame_out; rw [add_at]
        exact congrArg (· + _) (congrFun ((Memref.isWhole_whole cc0_scratch0).read_unread _) j)
      · rw [outsAt0_B m c t h h']; frame_out; rw [add_at]
        exact congrArg (· + _) (congrFun ((Memref.isWhole_whole cc0_scratch0).read_unread _) j))
    t h2 _, zero_add, ref_at]
  refine Fin.sum_mul_add_congr fun s k hl => ?_
  blk_point [iblk, V, idx t, idx ⟨_, Pipeline.run_point_lt_of_flush t h2 s⟩]

end Cert.GOutIdeal.Mine

end
-- ==== Proof.DX.lean ====
module

public import proofs.«01_k».proof.Proof.OfDX
public import Idealize.ShloMosaic.Lib.Pipeline.ValueKit

@[expose] public section

set_option maxRecDepth 16384

noncomputable section

namespace Cert.DXIdeal.Mine

open Cert.DXIdeal Cert.DXIdeal.Gen Idealize.ShloMosaic Idealize.ShloMosaic.TcCoe Idealize.SL.Sem
open Idealize.ShloMosaic.Pipeline (Dat)

variable (m : (ℓ : Loc nD τ sig) → Buf (Elt Ideal) ℓ)

/-- Where the blocks of each array sit at every grid point. -/
theorem idx : ∀ t : Fin cfg0.N, win0_0.index t = ![t.val / 2, t.val % 2] ∧ win0_1.index t = ![0, t.val % 2] ∧ win0_2.index t = ![t.val / 2, 0] :=
  (by decide +kernel : ∀ t : Fin grid0.N, _)

/-- The store at the first step of a group: zeros. -/
theorem zero_at (j : S1152x1024.Idx) : k0_pay1 (F := Ideal) j = 0 := by pointwise [k0_pay1]

/-- The store at every step: what was there plus the product of the two blocks. -/
theorem add_at (a : Vec Ideal S1152x1024 .f32) (x : Vec Ideal S1152x2816 .bf16) (z : Vec Ideal S1024x2816 .bf16) (j : S1152x1024.Idx) :
    k0_pay2 a x z j = a j + ∑ k : Fin 2816, x (ix2 (j 0) k) * z (ix2 (j 1) k) := by pointwise [k0_pay2]

/-- The store of the result is the running sum. -/
theorem out_at (a : Vec Ideal S1152x1024 .f32) (j : S1152x1024.Idx) : k0_pay3 a j = a j := by pointwise [k0_pay3]

/-- At the last step of a group the result's block is the running sum. -/
theorem last (c : Dev nD) (t : Fin cfg0.N) (h : t.val % 2 = 1) (j : S1152x1024.Idx) :
    (outsAt0 m c t.val t.isLt).1 j = (outsAt0 m c t.val t.isLt).2 j := by
  rw [outsAt0_B m c t (by omega) h]; frame_out; rw [out_at]

/-- The reference's array at an index: one sum over the whole contracted axis. -/
theorem ref_at (x : Vec Ideal S9216x5632 .bf16) (z : Vec Ideal S1024x5632 .bf16) (j : S9216x1024.Idx) :
    Cert.DXRefIdeal.Read.val_main_v5 (F := Ideal) x z j = ∑ k : Fin 5632, x (ix2 (j 0) k) * z (ix2 (j 1) k) := by
  pointwise [Cert.DXRefIdeal.Read.val_main_v5, Cert.DXRefIdeal.Read.val_main_v4, Cert.DXRefIdeal.Read.val_main_v3, Cert.DXRefIdeal.Read.val_main_v1]

/-- The gradient of the rows entering the feed-forward layer: the kernel's array is the reference's. -/
theorem final (c : Dev nD) : (dats m 0 c).arrAt 2 (cfgs 0).N
    = Cert.DXRefIdeal.Read.val_main_v5 (F := Ideal) (m ((c : Thread nD τ).loc main_arg0)) (m ((c : Thread nD τ).loc main_arg1)) := by
  refine (dats m 0 c).arrAt_eq_of_covers 2 _ (by decide +kernel) fun t hf y => ?_
  have h2 := (flush0_2 t).mp hf
  blk_simp
  rw [after0_2, last m c t h2, Pipeline.eq_sum_fin_of_reset_step_apply_of_flush (fun n h => (outsAt0 m c n h).2) 2 (fun _ => 0) _
    (fun t h j => by rw [outsAt0_A m c t h (by omega)]; frame_out; rw [add_at, zero_at])
    (fun t h j => by
      rw [outsAt0_B m c t h (by omega)]; frame_out; rw [add_at]
      exact congrArg (· + _) (congrFun ((Memref.isWhole_whole cc0_scratch0).read_unread _) j))
    t h2 _, zero_add, ref_at]
  refine Fin.sum_mul_add_congr fun s k hl => ?_
  blk_point [iblk, V, idx t, idx ⟨_, Pipeline.run_point_lt_of_flush t h2 s⟩]

end Cert.DXIdeal.Mine

end
-- ==== Proof.ClaimsF.lean ====
module

public import proofs.«01_k».proof.Defs
public import proofs.«01_k».proof.Proof.Ffn
public import proofs.«01_k».proof.Proof.GIn
public import proofs.«01_k».proof.Proof.GOut
public import proofs.«01_k».proof.Proof.DX
public import Idealize.ShloMosaic.Adequacy
public import Idealize.ShloMosaic.Init

@[expose] public section

noncomputable section

namespace Cert.Proof

open Idealize.ShloMosaic Idealize.SL.Sem

/-- The forward pass of the feed-forward layer: the call runs, at its own formats. -/
theorem ffn_p [Cert.Ffn.Facts] : Cert.quiescent_Ffn := fun m ρ _ => Cert.Ffn.Gen.frame m ρ

/-- and over the reals. -/
theorem ffn_pi : Cert.quiescent_FfnIdeal (hFfnIdeal := Cert.FfnIdeal.Gen.facts) := fun m ρ _ => Cert.FfnIdeal.Gen.frame m ρ

/-- The reference runs; it declares no semaphore. -/
theorem ffn_ri : Cert.quiescent_FfnRefIdeal (hFfnRefIdeal := Cert.FfnRefIdeal.Gen.facts) := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The forward pass of the feed-forward layer: the call's result is the reference's. -/
theorem ffn_alg : Cert.algebraic_FfnIdeal_FfnRefIdeal (hFfnIdeal := Cert.FfnIdeal.Gen.facts) (hFfnRefIdeal := Cert.FfnRefIdeal.Gen.facts) := by
  intro m ρ m' ρ' _ hagree
  refine ⟨fun c => (Cert.FfnIdeal.Gen.dats m 0 c).arrAt 3 Cert.FfnIdeal.cfg0.N, Cert.FfnIdeal.Value.run_blocks m ρ, ?_⟩
  refine (θ_run Cert.FfnRefIdeal.defs _ _).mono (fun r h c => ?_) (Cert.FfnRefIdeal.Value.run (F := Ideal) m' ρ')
  have g := Cert.FfnIdeal.Mine.final m c
  obtain ⟨e0, e1, e2⟩ := hagree c
  obtain ⟨r0, r1⟩ := h c
  rw [← e0, ← e1, ← e2] at g
  exact ⟨(r0.trans (Cert.FfnRefIdeal.Read.val_main_v9_eq _ _ _ )).trans g.symm, r1⟩

/-- The gradient of the feed-forward layer's first matrix: the call runs, at its own formats. -/
theorem gIn_p [Cert.GIn.Facts] : Cert.quiescent_GIn := fun m ρ _ => Cert.GIn.Gen.frame m ρ

/-- and over the reals. -/
theorem gIn_pi : Cert.quiescent_GInIdeal (hGInIdeal := Cert.GInIdeal.Gen.facts) := fun m ρ _ => Cert.GInIdeal.Gen.frame m ρ

/-- The reference runs; it declares no semaphore. -/
theorem gIn_ri : Cert.quiescent_GInRefIdeal (hGInRefIdeal := Cert.GInRefIdeal.Gen.facts) := fun m ρ _ =>
  (θ_run Cert.GInRefIdeal.defs _ _).mono (fun r h => ⟨fun c => (h c).2, sem_eq_zero_of_no_sems (by decide) r.2⟩)
    (Cert.GInRefIdeal.Value.run (F := Ideal) m ρ)

/-- The gradient of the feed-forward layer's first matrix: the call's result is the reference's. -/
theorem gIn_alg : Cert.algebraic_GInIdeal_GInRefIdeal (hGInIdeal := Cert.GInIdeal.Gen.facts) (hGInRefIdeal := Cert.GInRefIdeal.Gen.facts) := by
  intro m ρ m' ρ' _ hagree
  refine ⟨fun c => (Cert.GInIdeal.Gen.dats m 0 c).arrAt 2 Cert.GInIdeal.cfg0.N, Cert.GInIdeal.Value.run_blocks m ρ, ?_⟩
  refine (θ_run Cert.GInRefIdeal.defs _ _).mono (fun r h c => ?_) (Cert.GInRefIdeal.Value.run (F := Ideal) m' ρ')
  have g := Cert.GInIdeal.Mine.final m c
  obtain ⟨e0, e1⟩ := hagree c
  obtain ⟨r0, r1⟩ := h c
  rw [← e0, ← e1] at g
  exact ⟨(r0.trans (Cert.GInRefIdeal.Read.val_main_v6_eq _ _ )).trans g.symm, r1⟩

/-- The gradient of the feed-forward layer's second matrix: the call runs, at its own formats. -/
theorem gOut_p [Cert.GOut.Facts] : Cert.quiescent_GOut := fun m ρ _ => Cert.GOut.Gen.frame m ρ

/-- and over the reals. -/
theorem gOut_pi : Cert.quiescent_GOutIdeal (hGOutIdeal := Cert.GOutIdeal.Gen.facts) := fun m ρ _ => Cert.GOutIdeal.Gen.frame m ρ

/-- The reference runs; it declares no semaphore. -/
theorem gOut_ri : Cert.quiescent_GOutRefIdeal (hGOutRefIdeal := Cert.GOutRefIdeal.Gen.facts) := fun m ρ _ =>
  (θ_run Cert.GOutRefIdeal.defs _ _).mono (fun r h => ⟨fun c => (h c).2, sem_eq_zero_of_no_sems (by decide) r.2⟩)
    (Cert.GOutRefIdeal.Value.run (F := Ideal) m ρ)

/-- The gradient of the feed-forward layer's second matrix: the call's result is the reference's. -/
theorem gOut_alg : Cert.algebraic_GOutIdeal_GOutRefIdeal (hGOutIdeal := Cert.GOutIdeal.Gen.facts) (hGOutRefIdeal := Cert.GOutRefIdeal.Gen.facts) := by
  intro m ρ m' ρ' _ hagree
  refine ⟨fun c => (Cert.GOutIdeal.Gen.dats m 0 c).arrAt 2 Cert.GOutIdeal.cfg0.N, Cert.GOutIdeal.Value.run_blocks m ρ, ?_⟩
  refine (θ_run Cert.GOutRefIdeal.defs _ _).mono (fun r h c => ?_) (Cert.GOutRefIdeal.Value.run (F := Ideal) m' ρ')
  have g := Cert.GOutIdeal.Mine.final m c
  obtain ⟨e0, e1⟩ := hagree c
  obtain ⟨r0, r1⟩ := h c
  rw [← e0, ← e1] at g
  exact ⟨(r0.trans (Cert.GOutRefIdeal.Read.val_main_v6_eq _ _ )).trans g.symm, r1⟩

/-- The gradient of the feed-forward layer's input: the call runs, at its own formats. -/
theorem dX_p [Cert.DX.Facts] : Cert.quiescent_DX := fun m ρ _ => Cert.DX.Gen.frame m ρ

/-- and over the reals. -/
theorem dX_pi : Cert.quiescent_DXIdeal (hDXIdeal := Cert.DXIdeal.Gen.facts) := fun m ρ _ => Cert.DXIdeal.Gen.frame m ρ

/-- The reference runs; it declares no semaphore. -/
theorem dX_ri : Cert.quiescent_DXRefIdeal (hDXRefIdeal := Cert.DXRefIdeal.Gen.facts) := fun m ρ _ =>
  (θ_run Cert.DXRefIdeal.defs _ _).mono (fun r h => ⟨fun c => (h c).2, sem_eq_zero_of_no_sems (by decide) r.2⟩)
    (Cert.DXRefIdeal.Value.run (F := Ideal) m ρ)

/-- The gradient of the feed-forward layer's input: the call's result is the reference's. -/
theorem dX_alg : Cert.algebraic_DXIdeal_DXRefIdeal (hDXIdeal := Cert.DXIdeal.Gen.facts) (hDXRefIdeal := Cert.DXRefIdeal.Gen.facts) := by
  intro m ρ m' ρ' _ hagree
  refine ⟨fun c => (Cert.DXIdeal.Gen.dats m 0 c).arrAt 2 Cert.DXIdeal.cfg0.N, Cert.DXIdeal.Value.run_blocks m ρ, ?_⟩
  refine (θ_run Cert.DXRefIdeal.defs _ _).mono (fun r h c => ?_) (Cert.DXRefIdeal.Value.run (F := Ideal) m' ρ')
  have g := Cert.DXIdeal.Mine.final m c
  obtain ⟨e0, e1⟩ := hagree c
  obtain ⟨r0, r1⟩ := h c
  rw [← e0, ← e1] at g
  exact ⟨(r0.trans (Cert.DXRefIdeal.Read.val_main_v5_eq _ _ )).trans g.symm, r1⟩

end Cert.Proof

end
-- ==== Proof.AbIn.lean ====
module

public import proofs.«01_k».proof.Proof.OfAbIn
public import Idealize.ShloMosaic.Lib.Pipeline.ValueKit

@[expose] public section

set_option maxRecDepth 16384

noncomputable section

namespace Cert.AbInIdeal.Mine

open Cert.AbInIdeal Cert.AbInIdeal.Gen Idealize.ShloMosaic Idealize.ShloMosaic.TcCoe Idealize.SL.Sem
open Idealize.ShloMosaic.Pipeline (Dat)

variable (m : (ℓ : Loc nD τ sig) → Buf (Elt Ideal) ℓ)

/-- Where the blocks of each array sit at every grid point. -/
theorem idx : ∀ t : Fin cfg0.N, win0_0.index t = ![t.val, 0] ∧ win0_1.index t = ![0, 0] ∧ win0_2.index t = ![t.val, 0] :=
  (by decide +kernel : ∀ t : Fin grid0.N, _)

/-- The one store of a grid point: the product of the two blocks. -/
theorem out_at (x : Vec Ideal S1152x1024 .bf16) (z : Vec Ideal S1024x1664 .bf16) (j : S1152x1664.Idx) :
    k0_pay1 x z j = ∑ k : Fin 1024, x (ix2 (j 0) k) * z (ix2 k (j 1)) := by pointwise [k0_pay1]

/-- The reference's array at an index: one sum over the whole contracted axis. -/
theorem ref_at (x : Vec Ideal S9216x1024 .bf16) (z : Vec Ideal S1024x1664 .bf16) (j : S9216x1664.Idx) :
    Cert.AbInRefIdeal.Read.val_main_v2 (F := Ideal) x z j = ∑ k : Fin 1024, x (ix2 (j 0) k) * z (ix2 k (j 1)) := by
  pointwise [Cert.AbInRefIdeal.Read.val_main_v2, Cert.AbInRefIdeal.Read.val_main_v1, Cert.AbInRefIdeal.Read.val_main_v0]

/-- The first input projection: the kernel's array is the reference's. -/
theorem final (c : Dev nD) : (dats m 0 c).arrAt 2 (cfgs 0).N
    = Cert.AbInRefIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [out_at, ref_at]
  refine Fin.sum_fin_congr fun k => ?_
  blk_point [iblk, V, idx t]

end Cert.AbInIdeal.Mine

end
-- ==== Proof.CdIn.lean ====
module

public import proofs.«01_k».proof.Proof.OfCdIn
public import Idealize.ShloMosaic.Lib.Pipeline.ValueKit

@[expose] public section

set_option maxRecDepth 16384

noncomputable section

namespace Cert.CdInIdeal.Mine

open Cert.CdInIdeal Cert.CdInIdeal.Gen Idealize.ShloMosaic Idealize.ShloMosaic.TcCoe Idealize.SL.Sem
open Idealize.ShloMosaic.Pipeline (Dat)

variable (m : (ℓ : Loc nD τ sig) → Buf (Elt Ideal) ℓ)

/-- Where the blocks of each array sit at every grid point. -/
theorem idx : ∀ t : Fin cfg0.N, win0_0.index t = ![t.val / 3, 0] ∧ win0_1.index t = ![0, t.val % 3] ∧ win0_2.index t = ![t.val / 3, t.val % 3] :=
  (by decide +kernel : ∀ t : Fin grid0.N, _)

/-- The one store of a grid point: the product of the two blocks. -/
theorem out_at (x : Vec Ideal S1152x1024 .bf16) (z : Vec Ideal S1024x768 .bf16) (j : S1152x768.Idx) :
    k0_pay1 x z j = ∑ k : Fin 1024, x (ix2 (j 0) k) * z (ix2 k (j 1)) := by pointwise [k0_pay1]

/-- The reference's array at an index: one sum over the whole contracted axis. -/
theorem ref_at (x : Vec Ideal S9216x1024 .bf16) (z : Vec Ideal S1024x2304 .bf16) (j : S9216x2304.Idx) :
    Cert.CdInRefIdeal.Read.val_main_v2 (F := Ideal) x z j = ∑ k : Fin 1024, x (ix2 (j 0) k) * z (ix2 k (j 1)) := by
  pointwise [Cert.CdInRefIdeal.Read.val_main_v2, Cert.CdInRefIdeal.Read.val_main_v1, Cert.CdInRefIdeal.Read.val_main_v0]

/-- The second input projection: the kernel's array is the reference's. -/
theorem final (c : Dev nD) : (dats m 0 c).arrAt 2 (cfgs 0).N
    = Cert.CdInRefIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [out_at, ref_at]
  refine Fin.sum_fin_congr fun k => ?_
  blk_point [iblk, V, idx t]

end Cert.CdInIdeal.Mine

end
-- ==== Proof.Outs.lean ====
module

public import proofs.«01_k».proof.Proof.OfOuts
public import Idealize.ShloMosaic.Lib.Pipeline.ValueKit

@[expose] public section

set_option maxRecDepth 16384

noncomputable section

namespace Cert.OutsIdeal.Mine

open Cert.OutsIdeal Cert.OutsIdeal.Gen Idealize.ShloMosaic Idealize.ShloMosaic.TcCoe Idealize.SL.Sem
open Idealize.ShloMosaic.Pipeline (Dat)

variable (m : (ℓ : Loc nD τ sig) → Buf (Elt Ideal) ℓ)

/-- Where the blocks of each array sit at every grid point. -/
theorem idx : ∀ t : Fin cfg0.N, win0_0.index t = ![t.val, 0] ∧ win0_1.index t = ![t.val, 0] ∧ win0_2.index t = ![0, 0] ∧ win0_3.index t = ![1, 0]
    ∧ win0_4.index t = ![t.val, 0] :=
  (by decide +kernel : ∀ t : Fin grid0.N, _)

/-- The one store of a grid point: the sum of the two products. -/
theorem out_at (x : Vec Ideal S1152x512 .bf16) (w : Vec Ideal S512x1024 .bf16) (y : Vec Ideal S1152x512 .bf16) (v : Vec Ideal S512x1024 .bf16) (j : S1152x1024.Idx) :
    k0_pay1 x w y v j = (∑ k : Fin 512, x (ix2 (j 0) k) * w (ix2 k (j 1))) + ∑ k : Fin 512, y (ix2 (j 0) k) * v (ix2 k (j 1)) := by pointwise [k0_pay1]

/-- The two halves of the rows, one after the other. -/
theorem cat_at (x y : Vec Ideal S9216x512 .bf16) (i : Fin 9216) (k : Fin 1024) :
    Cert.OutsRefIdeal.Read.val_main_v0 (F := Ideal) x y (ix2 i k)
      = if h : k.val < 512 then x (ix2 i ⟨k.val, h⟩) else y (ix2 i ⟨k.val - 512, by have := k.isLt; omega⟩) := by
  pointwise [Cert.OutsRefIdeal.Read.val_main_v0]

theorem ref_sum (x y : Vec Ideal S9216x512 .bf16) (w : Vec Ideal S1024x1024 .bf16) (j : S9216x1024.Idx) :
    Cert.OutsRefIdeal.Read.val_main_v4 (F := Ideal) x y w j = ∑ k : Fin 1024, Cert.OutsRefIdeal.Read.val_main_v0 (F := Ideal) x y (ix2 (j 0) k) * w (ix2 k (j 1)) := by
  pointwise [Cert.OutsRefIdeal.Read.val_main_v4, Cert.OutsRefIdeal.Read.val_main_v3, Cert.OutsRefIdeal.Read.val_main_v2, Cert.OutsRefIdeal.Read.val_main_v1]

/-- The reference's array at an index, its sum cut in two. -/
theorem ref_at (x y : Vec Ideal S9216x512 .bf16) (w : Vec Ideal S1024x1024 .bf16) (j : S9216x1024.Idx) :
    Cert.OutsRefIdeal.Read.val_main_v4 (F := Ideal) x y w j
      = (∑ k : Fin 512, x (ix2 (j 0) k) * w (ix2 (⟨k.val, by have := k.isLt; omega⟩ : Fin 1024) (j 1)))
        + ∑ k : Fin 512, y (ix2 (j 0) k) * w (ix2 (⟨512 + k.val, by have := k.isLt; omega⟩ : Fin 1024) (j 1)) := by
  obtain ⟨i, n, rfl⟩ : ∃ (i : Fin 9216) (n : Fin 1024), j = (ix2 i n : S9216x1024.Idx) := ⟨j 0, j 1, by blk_ext⟩
  refine (ref_sum x y w (ix2 i n)).trans ((Fin.sum_univ_add (a := 512) (b := 512) fun k : Fin (512 + 512) =>
    Cert.OutsRefIdeal.Read.val_main_v0 (F := Ideal) x y (ix2 i k) * w (ix2 k n)).trans ?_)
  refine congrArg₂ (· + ·) (Finset.sum_congr rfl fun k _ => congrArg₂ (· * ·) ?_ rfl) (Finset.sum_congr rfl fun k _ => congrArg₂ (· * ·) ?_ rfl)
  · exact (cat_at x y i (Fin.castAdd 512 k)).trans (dif_pos k.isLt)
  · exact (cat_at x y i (Fin.natAdd 512 k)).trans ((dif_neg (by simp)).trans (congrArg (fun e => y (ix2 i e)) (Fin.ext (by simp))))

/-- The output projection: the kernel's array is the reference's. -/
theorem final (c : Dev nD) : (dats m 0 c).arrAt 4 (cfgs 0).N
    = Cert.OutsRefIdeal.Read.val_main_v4 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  rw [out_at, ref_at]
  refine congrArg₂ (· + ·) (Fin.sum_fin_congr fun k => ?_) (Fin.sum_fin_congr fun k => ?_)
  · blk_point [iblk, V, idx t]
  · blk_point [iblk, V, idx t]

end Cert.OutsIdeal.Mine

end
-- ==== Proof.GAb.lean ====
module

public import proofs.«01_k».proof.Proof.OfGAb
public import Idealize.ShloMosaic.Lib.Pipeline.ValueKit

@[expose] public section

set_option maxRecDepth 16384

noncomputable section

namespace Cert.GAbIdeal.Mine

open Cert.GAbIdeal Cert.GAbIdeal.Gen Idealize.ShloMosaic Idealize.ShloMosaic.TcCoe Idealize.SL.Sem
open Idealize.ShloMosaic.Pipeline (Dat)

variable (m : (ℓ : Loc nD τ sig) → Buf (Elt Ideal) ℓ)

/-- Where the blocks of each array sit at every grid point. -/
theorem idx : ∀ t : Fin cfg0.N, win0_0.index t = ![t.val % 3, 0] ∧ win0_1.index t = ![t.val % 3, 0] ∧ win0_2.index t = ![0, 0] :=
  (by decide +kernel : ∀ t : Fin grid0.N, _)

/-- The store at the first step of a group: zeros. -/
theorem zero_at (j : S1024x1664.Idx) : k0_pay1 (F := Ideal) j = 0 := by pointwise [k0_pay1]

/-- The store at every step: what was there plus the product of the two blocks. -/
theorem add_at (a : Vec Ideal S1024x1664 .f32) (x : Vec Ideal S3072x1024 .bf16) (z : Vec Ideal S3072x1664 .bf16) (j : S1024x1664.Idx) :
    k0_pay2 a x z j = a j + ∑ k : Fin 3072, x (ix2 k (j 0)) * z (ix2 k (j 1)) := by pointwise [k0_pay2]

/-- The store of the result is the running sum. -/
theorem out_at (a : Vec Ideal S1024x1664 .f32) (j : S1024x1664.Idx) : k0_pay3 a j = a j := by pointwise [k0_pay3]

/-- At the last step of a group the result's block is the running sum. -/
theorem last (c : Dev nD) (t : Fin cfg0.N) (h : t.val % 3 = 2) (j : S1024x1664.Idx) :
    (outsAt0 m c t.val t.isLt).1 j = (outsAt0 m c t.val t.isLt).2 j := by
  rw [outsAt0_C m c t (by omega) h]; frame_out; rw [out_at]

/-- The reference's array at an index: one sum over the whole contracted axis. -/
theorem ref_at (x : Vec Ideal S9216x1024 .bf16) (z : Vec Ideal S9216x1664 .bf16) (j : S1024x1664.Idx) :
    Cert.GAbRefIdeal.Read.val_main_v6 (F := Ideal) x z j = ∑ k : Fin 9216, x (ix2 k (j 0)) * z (ix2 k (j 1)) := by
  pointwise [Cert.GAbRefIdeal.Read.val_main_v6, Cert.GAbRefIdeal.Read.val_main_v5, Cert.GAbRefIdeal.Read.val_main_v4, Cert.GAbRefIdeal.Read.val_main_v3, Cert.GAbRefIdeal.Read.val_main_v1]
  exact Finset.sum_congr rfl fun k _ => mul_comm _ _

/-- The gradient of the first input projection: the kernel's array is the reference's. -/
theorem final (c : Dev nD) : (dats m 0 c).arrAt 2 (cfgs 0).N
    = Cert.GAbRefIdeal.Read.val_main_v6 (F := Ideal) (m ((c : Thread nD τ).loc main_arg0)) (m ((c : Thread nD τ).loc main_arg1)) := by
  refine (dats m 0 c).arrAt_eq_of_covers 2 _ (by decide +kernel) fun t hf y => ?_
  have h2 := (flush0_2 t).mp hf
  blk_simp
  rw [after0_2, last m c t h2, Pipeline.eq_sum_fin_of_reset_step_apply_of_flush (fun n h => (outsAt0 m c n h).2) 3 (fun _ => 0) _
    (fun t h j => by rw [outsAt0_A m c t h (by omega)]; frame_out; rw [add_at, zero_at])
    (fun t h j => by
      by_cases h' : t.val % 3 = 2
      · rw [outsAt0_C m c t h h']; frame_out; rw [add_at]
        exact congrArg (· + _) (congrFun ((Memref.isWhole_whole cc0_scratch0).read_unread _) j)
      · rw [outsAt0_B m c t h h']; frame_out; rw [add_at]
        exact congrArg (· + _) (congrFun ((Memref.isWhole_whole cc0_scratch0).read_unread _) j))
    t h2 _, zero_add, ref_at]
  refine Fin.sum_mul_add_congr fun s k hl => ?_
  blk_point [iblk, V, idx t, idx ⟨_, Pipeline.run_point_lt_of_flush t h2 s⟩]

end Cert.GAbIdeal.Mine

end
-- ==== Proof.GCd.lean ====
module

public import proofs.«01_k».proof.Proof.OfGCd
public import Idealize.ShloMosaic.Lib.Pipeline.ValueKit

@[expose] public section

set_option maxRecDepth 16384

noncomputable section

namespace Cert.GCdIdeal.Mine

open Cert.GCdIdeal Cert.GCdIdeal.Gen Idealize.ShloMosaic Idealize.ShloMosaic.TcCoe Idealize.SL.Sem
open Idealize.ShloMosaic.Pipeline (Dat)

variable (m : (ℓ : Loc nD τ sig) → Buf (Elt Ideal) ℓ)

/-- Where the blocks of each array sit at every grid point. -/
theorem idx : ∀ t : Fin cfg0.N, win0_0.index t = ![t.val % 3, 0] ∧ win0_1.index t = ![t.val % 3, t.val / 3] ∧ win0_2.index t = ![0, t.val / 3] :=
  (by decide +kernel : ∀ t : Fin grid0.N, _)

/-- The store at the first step of a group: zeros. -/
theorem zero_at (j : S1024x768.Idx) : k0_pay1 (F := Ideal) j = 0 := by pointwise [k0_pay1]

/-- The store at every step: what was there plus the product of the two blocks. -/
theorem add_at (a : Vec Ideal S1024x768 .f32) (x : Vec Ideal S3072x1024 .bf16) (z : Vec Ideal S3072x768 .bf16) (j : S1024x768.Idx) :
    k0_pay2 a x z j = a j + ∑ k : Fin 3072, x (ix2 k (j 0)) * z (ix2 k (j 1)) := by pointwise [k0_pay2]

/-- The store of the result is the running sum. -/
theorem out_at (a : Vec Ideal S1024x768 .f32) (j : S1024x768.Idx) : k0_pay3 a j = a j := by pointwise [k0_pay3]

/-- At the last step of a group the result's block is the running sum. -/
theorem last (c : Dev nD) (t : Fin cfg0.N) (h : t.val % 3 = 2) (j : S1024x768.Idx) :
    (outsAt0 m c t.val t.isLt).1 j = (outsAt0 m c t.val t.isLt).2 j := by
  rw [outsAt0_C m c t (by omega) h]; frame_out; rw [out_at]

/-- The reference's array at an index: one sum over the whole contracted axis. -/
theorem ref_at (x : Vec Ideal S9216x1024 .bf16) (z : Vec Ideal S9216x2304 .bf16) (j : S1024x2304.Idx) :
    Cert.GCdRefIdeal.Read.val_main_v6 (F := Ideal) x z j = ∑ k : Fin 9216, x (ix2 k (j 0)) * z (ix2 k (j 1)) := by
  pointwise [Cert.GCdRefIdeal.Read.val_main_v6, Cert.GCdRefIdeal.Read.val_main_v5, Cert.GCdRefIdeal.Read.val_main_v4, Cert.GCdRefIdeal.Read.val_main_v3, Cert.GCdRefIdeal.Read.val_main_v1]
  exact Finset.sum_congr rfl fun k _ => mul_comm _ _

/-- The gradient of the second input projection: the kernel's array is the reference's. -/
theorem final (c : Dev nD) : (dats m 0 c).arrAt 2 (cfgs 0).N
    = Cert.GCdRefIdeal.Read.val_main_v6 (F := Ideal) (m ((c : Thread nD τ).loc main_arg0)) (m ((c : Thread nD τ).loc main_arg1)) := by
  refine (dats m 0 c).arrAt_eq_of_covers 2 _ (by decide +kernel) fun t hf y => ?_
  have h2 := (flush0_2 t).mp hf
  blk_simp
  rw [after0_2, last m c t h2, Pipeline.eq_sum_fin_of_reset_step_apply_of_flush (fun n h => (outsAt0 m c n h).2) 3 (fun _ => 0) _
    (fun t h j => by rw [outsAt0_A m c t h (by omega)]; frame_out; rw [add_at, zero_at])
    (fun t h j => by
      by_cases h' : t.val % 3 = 2
      · rw [outsAt0_C m c t h h']; frame_out; rw [add_at]
        exact congrArg (· + _) (congrFun ((Memref.isWhole_whole cc0_scratch0).read_unread _) j)
      · rw [outsAt0_B m c t h h']; frame_out; rw [add_at]
        exact congrArg (· + _) (congrFun ((Memref.isWhole_whole cc0_scratch0).read_unread _) j))
    t h2 _, zero_add, ref_at]
  refine Fin.sum_mul_add_congr fun s k hl => ?_
  blk_point [iblk, V, idx t, idx ⟨_, Pipeline.run_point_lt_of_flush t h2 s⟩]

end Cert.GCdIdeal.Mine

end
-- ==== Proof.GHalf.lean ====
module

public import proofs.«01_k».proof.Proof.OfGHalf
public import Idealize.ShloMosaic.Lib.Pipeline.ValueKit

@[expose] public section

set_option maxRecDepth 16384

noncomputable section

namespace Cert.GHalfIdeal.Mine

open Cert.GHalfIdeal Cert.GHalfIdeal.Gen Idealize.ShloMosaic Idealize.ShloMosaic.TcCoe Idealize.SL.Sem
open Idealize.ShloMosaic.Pipeline (Dat)

variable (m : (ℓ : Loc nD τ sig) → Buf (Elt Ideal) ℓ)

/-- Where the blocks of each array sit at every grid point. -/
theorem idx : ∀ t : Fin cfg0.N, win0_0.index t = ![t.val % 3, 0] ∧ win0_1.index t = ![t.val % 3, 0] ∧ win0_2.index t = ![0, 0] :=
  (by decide +kernel : ∀ t : Fin grid0.N, _)

/-- The store at the first step of a group: zeros. -/
theorem zero_at (j : S512x1024.Idx) : k0_pay1 (F := Ideal) j = 0 := by pointwise [k0_pay1]

/-- The store at every step: what was there plus the product of the two blocks. -/
theorem add_at (a : Vec Ideal S512x1024 .f32) (x : Vec Ideal S3072x512 .bf16) (z : Vec Ideal S3072x1024 .bf16) (j : S512x1024.Idx) :
    k0_pay2 a x z j = a j + ∑ k : Fin 3072, x (ix2 k (j 0)) * z (ix2 k (j 1)) := by pointwise [k0_pay2]

/-- The store of the result is the running sum. -/
theorem out_at (a : Vec Ideal S512x1024 .f32) (j : S512x1024.Idx) : k0_pay3 a j = a j := by pointwise [k0_pay3]

/-- At the last step of a group the result's block is the running sum. -/
theorem last (c : Dev nD) (t : Fin cfg0.N) (h : t.val % 3 = 2) (j : S512x1024.Idx) :
    (outsAt0 m c t.val t.isLt).1 j = (outsAt0 m c t.val t.isLt).2 j := by
  rw [outsAt0_C m c t (by omega) h]; frame_out; rw [out_at]

/-- The reference's array at an index: one sum over the whole contracted axis. -/
theorem ref_at (x : Vec Ideal S9216x512 .bf16) (z : Vec Ideal S9216x1024 .bf16) (j : S512x1024.Idx) :
    Cert.GHalfRefIdeal.Read.val_main_v6 (F := Ideal) x z j = ∑ k : Fin 9216, x (ix2 k (j 0)) * z (ix2 k (j 1)) := by
  pointwise [Cert.GHalfRefIdeal.Read.val_main_v6, Cert.GHalfRefIdeal.Read.val_main_v5, Cert.GHalfRefIdeal.Read.val_main_v4, Cert.GHalfRefIdeal.Read.val_main_v3, Cert.GHalfRefIdeal.Read.val_main_v1]
  exact Finset.sum_congr rfl fun k _ => mul_comm _ _

/-- The gradient of one half of an output projection: the kernel's array is the reference's. -/
theorem final (c : Dev nD) : (dats m 0 c).arrAt 2 (cfgs 0).N
    = Cert.GHalfRefIdeal.Read.val_main_v6 (F := Ideal) (m ((c : Thread nD τ).loc main_arg0)) (m ((c : Thread nD τ).loc main_arg1)) := by
  refine (dats m 0 c).arrAt_eq_of_covers 2 _ (by decide +kernel) fun t hf y => ?_
  have h2 := (flush0_2 t).mp hf
  blk_simp
  rw [after0_2, last m c t h2, Pipeline.eq_sum_fin_of_reset_step_apply_of_flush (fun n h => (outsAt0 m c n h).2) 3 (fun _ => 0) _
    (fun t h j => by rw [outsAt0_A m c t h (by omega)]; frame_out; rw [add_at, zero_at])
    (fun t h j => by
      by_cases h' : t.val % 3 = 2
      · rw [outsAt0_C m c t h h']; frame_out; rw [add_at]
        exact congrArg (· + _) (congrFun ((Memref.isWhole_whole cc0_scratch0).read_unread _) j)
      · rw [outsAt0_B m c t h h']; frame_out; rw [add_at]
        exact congrArg (· + _) (congrFun ((Memref.isWhole_whole cc0_scratch0).read_unread _) j))
    t h2 _, zero_add, ref_at]
  refine Fin.sum_mul_add_congr fun s k hl => ?_
  blk_point [iblk, V, idx t, idx ⟨_, Pipeline.run_point_lt_of_flush t h2 s⟩]

end Cert.GHalfIdeal.Mine

end
-- ==== Proof.DCat.lean ====
module

public import proofs.«01_k».proof.Proof.OfDCat
public import Idealize.ShloMosaic.Lib.Pipeline.ValueKit

@[expose] public section

set_option maxRecDepth 16384

noncomputable section

namespace Cert.DCatIdeal.Mine

open Cert.DCatIdeal Cert.DCatIdeal.Gen Idealize.ShloMosaic Idealize.ShloMosaic.TcCoe Idealize.SL.Sem
open Idealize.ShloMosaic.Pipeline (Dat)

variable (m : (ℓ : Loc nD τ sig) → Buf (Elt Ideal) ℓ)

/-- Where the blocks of each array sit at every grid point. -/
theorem idx : ∀ t : Fin cfg0.N, win0_0.index t = ![t.val, 0] ∧ win0_1.index t = ![0, 0] ∧ win0_2.index t = ![t.val, 0] :=
  (by decide +kernel : ∀ t : Fin grid0.N, _)

/-- The one store of a grid point: the product of the two blocks. -/
theorem out_at (x : Vec Ideal S1152x1024 .bf16) (z : Vec Ideal S1024x1024 .bf16) (j : S1152x1024.Idx) :
    k0_pay1 x z j = ∑ k : Fin 1024, x (ix2 (j 0) k) * z (ix2 (j 1) k) := by pointwise [k0_pay1]

/-- The reference's array at an index: one sum over the whole contracted axis. -/
theorem ref_at (x : Vec Ideal S9216x1024 .bf16) (z : Vec Ideal S1024x1024 .bf16) (j : S9216x1024.Idx) :
    Cert.DCatRefIdeal.Read.val_main_v5 (F := Ideal) x z j = ∑ k : Fin 1024, x (ix2 (j 0) k) * z (ix2 (j 1) k) := by
  pointwise [Cert.DCatRefIdeal.Read.val_main_v5, Cert.DCatRefIdeal.Read.val_main_v4, Cert.DCatRefIdeal.Read.val_main_v3, Cert.DCatRefIdeal.Read.val_main_v1]

/-- The gradient of the rows entering an output projection: the kernel's array is the reference's. -/
theorem final (c : Dev nD) : (dats m 0 c).arrAt 2 (cfgs 0).N
    = Cert.DCatRefIdeal.Read.val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [out_at, ref_at]
  refine Fin.sum_fin_congr fun k => ?_
  blk_point [iblk, V, idx t]

end Cert.DCatIdeal.Mine

end
-- ==== Proof.DAb.lean ====
module

public import proofs.«01_k».proof.Proof.OfDAb
public import Idealize.ShloMosaic.Lib.Pipeline.ValueKit

@[expose] public section

set_option maxRecDepth 16384

noncomputable section

namespace Cert.DAbIdeal.Mine

open Cert.DAbIdeal Cert.DAbIdeal.Gen Idealize.ShloMosaic Idealize.ShloMosaic.TcCoe Idealize.SL.Sem
open Idealize.ShloMosaic.Pipeline (Dat)

variable (m : (ℓ : Loc nD τ sig) → Buf (Elt Ideal) ℓ)

/-- Where the blocks of each array sit at every grid point. -/
theorem idx : ∀ t : Fin cfg0.N, win0_0.index t = ![t.val, 0] ∧ win0_1.index t = ![0, 0] ∧ win0_2.index t = ![t.val, 0] :=
  (by decide +kernel : ∀ t : Fin grid0.N, _)

/-- The one store of a grid point: the product of the two blocks. -/
theorem out_at (x : Vec Ideal S1152x1664 .bf16) (z : Vec Ideal S1024x1664 .bf16) (j : S1152x1024.Idx) :
    k0_pay1 x z j = ∑ k : Fin 1664, x (ix2 (j 0) k) * z (ix2 (j 1) k) := by pointwise [k0_pay1]

/-- The reference's array at an index: one sum over the whole contracted axis. -/
theorem ref_at (x : Vec Ideal S9216x1664 .bf16) (z : Vec Ideal S1024x1664 .bf16) (j : S9216x1024.Idx) :
    Cert.DAbRefIdeal.Read.val_main_v5 (F := Ideal) x z j = ∑ k : Fin 1664, x (ix2 (j 0) k) * z (ix2 (j 1) k) := by
  pointwise [Cert.DAbRefIdeal.Read.val_main_v5, Cert.DAbRefIdeal.Read.val_main_v4, Cert.DAbRefIdeal.Read.val_main_v3, Cert.DAbRefIdeal.Read.val_main_v1]

/-- The gradient of the rows entering the first input projection: the kernel's array is the reference's. -/
theorem final (c : Dev nD) : (dats m 0 c).arrAt 2 (cfgs 0).N
    = Cert.DAbRefIdeal.Read.val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [out_at, ref_at]
  refine Fin.sum_fin_congr fun k => ?_
  blk_point [iblk, V, idx t]

end Cert.DAbIdeal.Mine

end
-- ==== Proof.DCd.lean ====
module

public import proofs.«01_k».proof.Proof.OfDCd
public import Idealize.ShloMosaic.Lib.Pipeline.ValueKit

@[expose] public section

set_option maxRecDepth 16384

noncomputable section

namespace Cert.DCdIdeal.Mine

open Cert.DCdIdeal Cert.DCdIdeal.Gen Idealize.ShloMosaic Idealize.ShloMosaic.TcCoe Idealize.SL.Sem
open Idealize.ShloMosaic.Pipeline (Dat)

variable (m : (ℓ : Loc nD τ sig) → Buf (Elt Ideal) ℓ)

/-- Where the blocks of each array sit at every grid point. -/
theorem idx : ∀ t : Fin cfg0.N, win0_0.index t = ![t.val, 0] ∧ win0_1.index t = ![0, 0] ∧ win0_2.index t = ![t.val, 0] :=
  (by decide +kernel : ∀ t : Fin grid0.N, _)

/-- The one store of a grid point: the product of the two blocks. -/
theorem out_at (x : Vec Ideal S1152x2304 .bf16) (z : Vec Ideal S1024x2304 .bf16) (j : S1152x1024.Idx) :
    k0_pay1 x z j = ∑ k : Fin 2304, x (ix2 (j 0) k) * z (ix2 (j 1) k) := by pointwise [k0_pay1]

/-- The reference's array at an index: one sum over the whole contracted axis. -/
theorem ref_at (x : Vec Ideal S9216x2304 .bf16) (z : Vec Ideal S1024x2304 .bf16) (j : S9216x1024.Idx) :
    Cert.DCdRefIdeal.Read.val_main_v5 (F := Ideal) x z j = ∑ k : Fin 2304, x (ix2 (j 0) k) * z (ix2 (j 1) k) := by
  pointwise [Cert.DCdRefIdeal.Read.val_main_v5, Cert.DCdRefIdeal.Read.val_main_v4, Cert.DCdRefIdeal.Read.val_main_v3, Cert.DCdRefIdeal.Read.val_main_v1]

/-- The gradient of the rows entering the second input projection: the kernel's array is the reference's. -/
theorem final (c : Dev nD) : (dats m 0 c).arrAt 2 (cfgs 0).N
    = Cert.DCdRefIdeal.Read.val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [out_at, ref_at]
  refine Fin.sum_fin_congr fun k => ?_
  blk_point [iblk, V, idx t]

end Cert.DCdIdeal.Mine

end
-- ==== Proof.ClaimsP.lean ====
module

public import proofs.«01_k».proof.Defs
public import proofs.«01_k».proof.Proof.AbIn
public import proofs.«01_k».proof.Proof.CdIn
public import proofs.«01_k».proof.Proof.Outs
public import proofs.«01_k».proof.Proof.GAb
public import proofs.«01_k».proof.Proof.GCd
public import proofs.«01_k».proof.Proof.GHalf
public import proofs.«01_k».proof.Proof.DCat
public import proofs.«01_k».proof.Proof.DAb
public import proofs.«01_k».proof.Proof.DCd
public import Idealize.ShloMosaic.Adequacy
public import Idealize.ShloMosaic.Init

@[expose] public section

noncomputable section

namespace Cert.Proof

open Idealize.ShloMosaic Idealize.SL.Sem

/-- The input projection of the even layers: the call runs, at its own formats. -/
theorem abIn_p [Cert.AbIn.Facts] : Cert.quiescent_AbIn := fun m ρ _ => Cert.AbIn.Gen.frame m ρ

/-- and over the reals. -/
theorem abIn_pi : Cert.quiescent_AbInIdeal (hAbInIdeal := Cert.AbInIdeal.Gen.facts) := fun m ρ _ => Cert.AbInIdeal.Gen.frame m ρ

/-- The reference runs; it declares no semaphore. -/
theorem abIn_ri : Cert.quiescent_AbInRefIdeal (hAbInRefIdeal := Cert.AbInRefIdeal.Gen.facts) := fun m ρ _ =>
  (θ_run Cert.AbInRefIdeal.defs _ _).mono (fun r h => ⟨fun c => (h c).2, sem_eq_zero_of_no_sems (by decide) r.2⟩)
    (Cert.AbInRefIdeal.Value.run (F := Ideal) m ρ)

/-- The input projection of the even layers: the call's result is the reference's. -/
theorem abIn_alg : Cert.algebraic_AbInIdeal_AbInRefIdeal (hAbInIdeal := Cert.AbInIdeal.Gen.facts) (hAbInRefIdeal := Cert.AbInRefIdeal.Gen.facts) := by
  intro m ρ m' ρ' _ hagree
  refine ⟨fun c => (Cert.AbInIdeal.Gen.dats m 0 c).arrAt 2 Cert.AbInIdeal.cfg0.N, Cert.AbInIdeal.Value.run_blocks m ρ, ?_⟩
  refine (θ_run Cert.AbInRefIdeal.defs _ _).mono (fun r h c => ?_) (Cert.AbInRefIdeal.Value.run (F := Ideal) m' ρ')
  have g := Cert.AbInIdeal.Mine.final m c
  obtain ⟨e0, e1⟩ := hagree c
  obtain ⟨r0, r1⟩ := h c
  rw [← e0, ← e1] at g
  exact ⟨(r0.trans (Cert.AbInRefIdeal.Read.val_main_v2_eq _ _ )).trans g.symm, r1⟩

/-- The input projection of the odd layers: the call runs, at its own formats. -/
theorem cdIn_p [Cert.CdIn.Facts] : Cert.quiescent_CdIn := fun m ρ _ => Cert.CdIn.Gen.frame m ρ

/-- and over the reals. -/
theorem cdIn_pi : Cert.quiescent_CdInIdeal (hCdInIdeal := Cert.CdInIdeal.Gen.facts) := fun m ρ _ => Cert.CdInIdeal.Gen.frame m ρ

/-- The reference runs; it declares no semaphore. -/
theorem cdIn_ri : Cert.quiescent_CdInRefIdeal (hCdInRefIdeal := Cert.CdInRefIdeal.Gen.facts) := fun m ρ _ =>
  (θ_run Cert.CdInRefIdeal.defs _ _).mono (fun r h => ⟨fun c => (h c).2, sem_eq_zero_of_no_sems (by decide) r.2⟩)
    (Cert.CdInRefIdeal.Value.run (F := Ideal) m ρ)

/-- The input projection of the odd layers: the call's result is the reference's. -/
theorem cdIn_alg : Cert.algebraic_CdInIdeal_CdInRefIdeal (hCdInIdeal := Cert.CdInIdeal.Gen.facts) (hCdInRefIdeal := Cert.CdInRefIdeal.Gen.facts) := by
  intro m ρ m' ρ' _ hagree
  refine ⟨fun c => (Cert.CdInIdeal.Gen.dats m 0 c).arrAt 2 Cert.CdInIdeal.cfg0.N, Cert.CdInIdeal.Value.run_blocks m ρ, ?_⟩
  refine (θ_run Cert.CdInRefIdeal.defs _ _).mono (fun r h c => ?_) (Cert.CdInRefIdeal.Value.run (F := Ideal) m' ρ')
  have g := Cert.CdInIdeal.Mine.final m c
  obtain ⟨e0, e1⟩ := hagree c
  obtain ⟨r0, r1⟩ := h c
  rw [← e0, ← e1] at g
  exact ⟨(r0.trans (Cert.CdInRefIdeal.Read.val_main_v2_eq _ _ )).trans g.symm, r1⟩

/-- The output projection: the call runs, at its own formats. -/
theorem outs_p [Cert.Outs.Facts] : Cert.quiescent_Outs := fun m ρ _ => Cert.Outs.Gen.frame m ρ

/-- and over the reals. -/
theorem outs_pi : Cert.quiescent_OutsIdeal (hOutsIdeal := Cert.OutsIdeal.Gen.facts) := fun m ρ _ => Cert.OutsIdeal.Gen.frame m ρ

/-- The reference runs; it declares no semaphore. -/
theorem outs_ri : Cert.quiescent_OutsRefIdeal (hOutsRefIdeal := Cert.OutsRefIdeal.Gen.facts) := fun m ρ _ =>
  (θ_run Cert.OutsRefIdeal.defs _ _).mono (fun r h => ⟨fun c => (h c).2, sem_eq_zero_of_no_sems (by decide) r.2⟩)
    (Cert.OutsRefIdeal.Value.run (F := Ideal) m ρ)

/-- The output projection: the call's result is the reference's. -/
theorem outs_alg : Cert.algebraic_OutsIdeal_OutsRefIdeal (hOutsIdeal := Cert.OutsIdeal.Gen.facts) (hOutsRefIdeal := Cert.OutsRefIdeal.Gen.facts) := by
  intro m ρ m' ρ' _ hagree
  refine ⟨fun c => (Cert.OutsIdeal.Gen.dats m 0 c).arrAt 4 Cert.OutsIdeal.cfg0.N, Cert.OutsIdeal.Value.run_blocks m ρ, ?_⟩
  refine (θ_run Cert.OutsRefIdeal.defs _ _).mono (fun r h c => ?_) (Cert.OutsRefIdeal.Value.run (F := Ideal) m' ρ')
  have g := Cert.OutsIdeal.Mine.final m c
  obtain ⟨e0, e1, e2⟩ := hagree c
  obtain ⟨r0, r1⟩ := h c
  rw [← e0, ← e1, ← e2] at g
  exact ⟨(r0.trans (Cert.OutsRefIdeal.Read.val_main_v4_eq _ _ _ )).trans g.symm, r1⟩

/-- The gradient of the even layers' input weights: the call runs, at its own formats. -/
theorem gAb_p [Cert.GAb.Facts] : Cert.quiescent_GAb := fun m ρ _ => Cert.GAb.Gen.frame m ρ

/-- and over the reals. -/
theorem gAb_pi : Cert.quiescent_GAbIdeal (hGAbIdeal := Cert.GAbIdeal.Gen.facts) := fun m ρ _ => Cert.GAbIdeal.Gen.frame m ρ

/-- The reference runs; it declares no semaphore. -/
theorem gAb_ri : Cert.quiescent_GAbRefIdeal (hGAbRefIdeal := Cert.GAbRefIdeal.Gen.facts) := fun m ρ _ =>
  (θ_run Cert.GAbRefIdeal.defs _ _).mono (fun r h => ⟨fun c => (h c).2, sem_eq_zero_of_no_sems (by decide) r.2⟩)
    (Cert.GAbRefIdeal.Value.run (F := Ideal) m ρ)

/-- The gradient of the even layers' input weights: the call's result is the reference's. -/
theorem gAb_alg : Cert.algebraic_GAbIdeal_GAbRefIdeal (hGAbIdeal := Cert.GAbIdeal.Gen.facts) (hGAbRefIdeal := Cert.GAbRefIdeal.Gen.facts) := by
  intro m ρ m' ρ' _ hagree
  refine ⟨fun c => (Cert.GAbIdeal.Gen.dats m 0 c).arrAt 2 Cert.GAbIdeal.cfg0.N, Cert.GAbIdeal.Value.run_blocks m ρ, ?_⟩
  refine (θ_run Cert.GAbRefIdeal.defs _ _).mono (fun r h c => ?_) (Cert.GAbRefIdeal.Value.run (F := Ideal) m' ρ')
  have g := Cert.GAbIdeal.Mine.final m c
  obtain ⟨e0, e1⟩ := hagree c
  obtain ⟨r0, r1⟩ := h c
  rw [← e0, ← e1] at g
  exact ⟨(r0.trans (Cert.GAbRefIdeal.Read.val_main_v6_eq _ _ )).trans g.symm, r1⟩

/-- The gradient of the odd layers' input weights: the call runs, at its own formats. -/
theorem gCd_p [Cert.GCd.Facts] : Cert.quiescent_GCd := fun m ρ _ => Cert.GCd.Gen.frame m ρ

/-- and over the reals. -/
theorem gCd_pi : Cert.quiescent_GCdIdeal (hGCdIdeal := Cert.GCdIdeal.Gen.facts) := fun m ρ _ => Cert.GCdIdeal.Gen.frame m ρ

/-- The reference runs; it declares no semaphore. -/
theorem gCd_ri : Cert.quiescent_GCdRefIdeal (hGCdRefIdeal := Cert.GCdRefIdeal.Gen.facts) := fun m ρ _ =>
  (θ_run Cert.GCdRefIdeal.defs _ _).mono (fun r h => ⟨fun c => (h c).2, sem_eq_zero_of_no_sems (by decide) r.2⟩)
    (Cert.GCdRefIdeal.Value.run (F := Ideal) m ρ)

/-- The gradient of the odd layers' input weights: the call's result is the reference's. -/
theorem gCd_alg : Cert.algebraic_GCdIdeal_GCdRefIdeal (hGCdIdeal := Cert.GCdIdeal.Gen.facts) (hGCdRefIdeal := Cert.GCdRefIdeal.Gen.facts) := by
  intro m ρ m' ρ' _ hagree
  refine ⟨fun c => (Cert.GCdIdeal.Gen.dats m 0 c).arrAt 2 Cert.GCdIdeal.cfg0.N, Cert.GCdIdeal.Value.run_blocks m ρ, ?_⟩
  refine (θ_run Cert.GCdRefIdeal.defs _ _).mono (fun r h c => ?_) (Cert.GCdRefIdeal.Value.run (F := Ideal) m' ρ')
  have g := Cert.GCdIdeal.Mine.final m c
  obtain ⟨e0, e1⟩ := hagree c
  obtain ⟨r0, r1⟩ := h c
  rw [← e0, ← e1] at g
  exact ⟨(r0.trans (Cert.GCdRefIdeal.Read.val_main_v6_eq _ _ )).trans g.symm, r1⟩

/-- The gradient of half of the output weights: the call runs, at its own formats. -/
theorem gHalf_p [Cert.GHalf.Facts] : Cert.quiescent_GHalf := fun m ρ _ => Cert.GHalf.Gen.frame m ρ

/-- and over the reals. -/
theorem gHalf_pi : Cert.quiescent_GHalfIdeal (hGHalfIdeal := Cert.GHalfIdeal.Gen.facts) := fun m ρ _ => Cert.GHalfIdeal.Gen.frame m ρ

/-- The reference runs; it declares no semaphore. -/
theorem gHalf_ri : Cert.quiescent_GHalfRefIdeal (hGHalfRefIdeal := Cert.GHalfRefIdeal.Gen.facts) := fun m ρ _ =>
  (θ_run Cert.GHalfRefIdeal.defs _ _).mono (fun r h => ⟨fun c => (h c).2, sem_eq_zero_of_no_sems (by decide) r.2⟩)
    (Cert.GHalfRefIdeal.Value.run (F := Ideal) m ρ)

/-- The gradient of half of the output weights: the call's result is the reference's. -/
theorem gHalf_alg : Cert.algebraic_GHalfIdeal_GHalfRefIdeal (hGHalfIdeal := Cert.GHalfIdeal.Gen.facts) (hGHalfRefIdeal := Cert.GHalfRefIdeal.Gen.facts) := by
  intro m ρ m' ρ' _ hagree
  refine ⟨fun c => (Cert.GHalfIdeal.Gen.dats m 0 c).arrAt 2 Cert.GHalfIdeal.cfg0.N, Cert.GHalfIdeal.Value.run_blocks m ρ, ?_⟩
  refine (θ_run Cert.GHalfRefIdeal.defs _ _).mono (fun r h c => ?_) (Cert.GHalfRefIdeal.Value.run (F := Ideal) m' ρ')
  have g := Cert.GHalfIdeal.Mine.final m c
  obtain ⟨e0, e1⟩ := hagree c
  obtain ⟨r0, r1⟩ := h c
  rw [← e0, ← e1] at g
  exact ⟨(r0.trans (Cert.GHalfRefIdeal.Read.val_main_v6_eq _ _ )).trans g.symm, r1⟩

/-- The gradient of the output projection's rows: the call runs, at its own formats. -/
theorem dCat_p [Cert.DCat.Facts] : Cert.quiescent_DCat := fun m ρ _ => Cert.DCat.Gen.frame m ρ

/-- and over the reals. -/
theorem dCat_pi : Cert.quiescent_DCatIdeal (hDCatIdeal := Cert.DCatIdeal.Gen.facts) := fun m ρ _ => Cert.DCatIdeal.Gen.frame m ρ

/-- The reference runs; it declares no semaphore. -/
theorem dCat_ri : Cert.quiescent_DCatRefIdeal (hDCatRefIdeal := Cert.DCatRefIdeal.Gen.facts) := fun m ρ _ =>
  (θ_run Cert.DCatRefIdeal.defs _ _).mono (fun r h => ⟨fun c => (h c).2, sem_eq_zero_of_no_sems (by decide) r.2⟩)
    (Cert.DCatRefIdeal.Value.run (F := Ideal) m ρ)

/-- The gradient of the output projection's rows: the call's result is the reference's. -/
theorem dCat_alg : Cert.algebraic_DCatIdeal_DCatRefIdeal (hDCatIdeal := Cert.DCatIdeal.Gen.facts) (hDCatRefIdeal := Cert.DCatRefIdeal.Gen.facts) := by
  intro m ρ m' ρ' _ hagree
  refine ⟨fun c => (Cert.DCatIdeal.Gen.dats m 0 c).arrAt 2 Cert.DCatIdeal.cfg0.N, Cert.DCatIdeal.Value.run_blocks m ρ, ?_⟩
  refine (θ_run Cert.DCatRefIdeal.defs _ _).mono (fun r h c => ?_) (Cert.DCatRefIdeal.Value.run (F := Ideal) m' ρ')
  have g := Cert.DCatIdeal.Mine.final m c
  obtain ⟨e0, e1⟩ := hagree c
  obtain ⟨r0, r1⟩ := h c
  rw [← e0, ← e1] at g
  exact ⟨(r0.trans (Cert.DCatRefIdeal.Read.val_main_v5_eq _ _ )).trans g.symm, r1⟩

/-- The gradient of the even layers' input rows: the call runs, at its own formats. -/
theorem dAb_p [Cert.DAb.Facts] : Cert.quiescent_DAb := fun m ρ _ => Cert.DAb.Gen.frame m ρ

/-- and over the reals. -/
theorem dAb_pi : Cert.quiescent_DAbIdeal (hDAbIdeal := Cert.DAbIdeal.Gen.facts) := fun m ρ _ => Cert.DAbIdeal.Gen.frame m ρ

/-- The reference runs; it declares no semaphore. -/
theorem dAb_ri : Cert.quiescent_DAbRefIdeal (hDAbRefIdeal := Cert.DAbRefIdeal.Gen.facts) := fun m ρ _ =>
  (θ_run Cert.DAbRefIdeal.defs _ _).mono (fun r h => ⟨fun c => (h c).2, sem_eq_zero_of_no_sems (by decide) r.2⟩)
    (Cert.DAbRefIdeal.Value.run (F := Ideal) m ρ)

/-- The gradient of the even layers' input rows: the call's result is the reference's. -/
theorem dAb_alg : Cert.algebraic_DAbIdeal_DAbRefIdeal (hDAbIdeal := Cert.DAbIdeal.Gen.facts) (hDAbRefIdeal := Cert.DAbRefIdeal.Gen.facts) := by
  intro m ρ m' ρ' _ hagree
  refine ⟨fun c => (Cert.DAbIdeal.Gen.dats m 0 c).arrAt 2 Cert.DAbIdeal.cfg0.N, Cert.DAbIdeal.Value.run_blocks m ρ, ?_⟩
  refine (θ_run Cert.DAbRefIdeal.defs _ _).mono (fun r h c => ?_) (Cert.DAbRefIdeal.Value.run (F := Ideal) m' ρ')
  have g := Cert.DAbIdeal.Mine.final m c
  obtain ⟨e0, e1⟩ := hagree c
  obtain ⟨r0, r1⟩ := h c
  rw [← e0, ← e1] at g
  exact ⟨(r0.trans (Cert.DAbRefIdeal.Read.val_main_v5_eq _ _ )).trans g.symm, r1⟩

/-- The gradient of the odd layers' input rows: the call runs, at its own formats. -/
theorem dCd_p [Cert.DCd.Facts] : Cert.quiescent_DCd := fun m ρ _ => Cert.DCd.Gen.frame m ρ

/-- and over the reals. -/
theorem dCd_pi : Cert.quiescent_DCdIdeal (hDCdIdeal := Cert.DCdIdeal.Gen.facts) := fun m ρ _ => Cert.DCdIdeal.Gen.frame m ρ

/-- The reference runs; it declares no semaphore. -/
theorem dCd_ri : Cert.quiescent_DCdRefIdeal (hDCdRefIdeal := Cert.DCdRefIdeal.Gen.facts) := fun m ρ _ =>
  (θ_run Cert.DCdRefIdeal.defs _ _).mono (fun r h => ⟨fun c => (h c).2, sem_eq_zero_of_no_sems (by decide) r.2⟩)
    (Cert.DCdRefIdeal.Value.run (F := Ideal) m ρ)

/-- The gradient of the odd layers' input rows: the call's result is the reference's. -/
theorem dCd_alg : Cert.algebraic_DCdIdeal_DCdRefIdeal (hDCdIdeal := Cert.DCdIdeal.Gen.facts) (hDCdRefIdeal := Cert.DCdRefIdeal.Gen.facts) := by
  intro m ρ m' ρ' _ hagree
  refine ⟨fun c => (Cert.DCdIdeal.Gen.dats m 0 c).arrAt 2 Cert.DCdIdeal.cfg0.N, Cert.DCdIdeal.Value.run_blocks m ρ, ?_⟩
  refine (θ_run Cert.DCdRefIdeal.defs _ _).mono (fun r h c => ?_) (Cert.DCdRefIdeal.Value.run (F := Ideal) m' ρ')
  have g := Cert.DCdIdeal.Mine.final m c
  obtain ⟨e0, e1⟩ := hagree c
  obtain ⟨r0, r1⟩ := h c
  rw [← e0, ← e1] at g
  exact ⟨(r0.trans (Cert.DCdRefIdeal.Read.val_main_v5_eq _ _ )).trans g.symm, r1⟩

end Cert.Proof

end
-- ==== Proof.WKv.lean ====
module

public import proofs.«01_k».proof.Proof.OfWKv
public import Idealize.ShloMosaic.Lib.Pipeline.ValueKit

@[expose] public section

set_option maxRecDepth 16384

noncomputable section

namespace Cert.WKvIdeal.Mine

open Cert.WKvIdeal Cert.WKvIdeal.Gen Idealize.ShloMosaic Idealize.ShloMosaic.TcCoe Idealize.SL.Sem
open Idealize.ShloMosaic.Pipeline (Dat)

variable (m : (ℓ : Loc nD τ sig) → Buf (Elt Ideal) ℓ)

/-- Where the blocks of each array sit at every grid point. -/
theorem idx : ∀ t : Fin cfg0.N, win0_0.index t = ![t.val, 0] ∧ win0_1.index t = ![0, 0] ∧ win0_2.index t = ![t.val, 0] :=
  (by decide +kernel : ∀ t : Fin grid0.N, _)

/-- The one store of a grid point: the product of the two blocks. -/
theorem out_at (x : Vec Ideal S1152x256 .bf16) (z : Vec Ideal S256x1024 .bf16) (j : S1152x1024.Idx) :
    k0_pay1 x z j = ∑ k : Fin 256, x (ix2 (j 0) k) * z (ix2 k (j 1)) := by pointwise [k0_pay1]

/-- The reference's array at an index: one sum over the whole contracted axis. -/
theorem ref_at (x : Vec Ideal S9216x256 .bf16) (z : Vec Ideal S256x1024 .bf16) (j : S9216x1024.Idx) :
    Cert.WKvRefIdeal.Read.val_main_v3 (F := Ideal) x z j = ∑ k : Fin 256, x (ix2 (j 0) k) * z (ix2 k (j 1)) := by
  pointwise [Cert.WKvRefIdeal.Read.val_main_v3, Cert.WKvRefIdeal.Read.val_main_v2, Cert.WKvRefIdeal.Read.val_main_v1, Cert.WKvRefIdeal.Read.val_main_v0]

/-- The key and value projection of the latent attention: the kernel's array is the reference's. -/
theorem final (c : Dev nD) : (dats m 0 c).arrAt 2 (cfgs 0).N
    = Cert.WKvRefIdeal.Read.val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [out_at, ref_at]
  refine Fin.sum_fin_congr fun k => ?_
  blk_point [iblk, V, idx t]

end Cert.WKvIdeal.Mine

end
-- ==== Proof.WQ.lean ====
module

public import proofs.«01_k».proof.Proof.OfWQ
public import Idealize.ShloMosaic.Lib.Pipeline.ValueKit

@[expose] public section

set_option maxRecDepth 16384

noncomputable section

namespace Cert.WQIdeal.Mine

open Cert.WQIdeal Cert.WQIdeal.Gen Idealize.ShloMosaic Idealize.ShloMosaic.TcCoe Idealize.SL.Sem
open Idealize.ShloMosaic.Pipeline (Dat)

variable (m : (ℓ : Loc nD τ sig) → Buf (Elt Ideal) ℓ)

/-- Where the blocks of each array sit at every grid point. -/
theorem idx : ∀ t : Fin cfg0.N, win0_0.index t = ![t.val, 0] ∧ win0_1.index t = ![0, 0] ∧ win0_2.index t = ![t.val, 0] :=
  (by decide +kernel : ∀ t : Fin grid0.N, _)

/-- The one store of a grid point: the product of the two blocks. -/
theorem out_at (x : Vec Ideal S1152x256 .bf16) (z : Vec Ideal S256x768 .bf16) (j : S1152x768.Idx) :
    k0_pay1 x z j = ∑ k : Fin 256, x (ix2 (j 0) k) * z (ix2 k (j 1)) := by pointwise [k0_pay1]

/-- The reference's array at an index: one sum over the whole contracted axis. -/
theorem ref_at (x : Vec Ideal S9216x256 .bf16) (z : Vec Ideal S256x768 .bf16) (j : S9216x768.Idx) :
    Cert.WQRefIdeal.Read.val_main_v2 (F := Ideal) x z j = ∑ k : Fin 256, x (ix2 (j 0) k) * z (ix2 k (j 1)) := by
  pointwise [Cert.WQRefIdeal.Read.val_main_v2, Cert.WQRefIdeal.Read.val_main_v1, Cert.WQRefIdeal.Read.val_main_v0]

/-- The query projection of the latent attention: the kernel's array is the reference's. -/
theorem final (c : Dev nD) : (dats m 0 c).arrAt 2 (cfgs 0).N
    = Cert.WQRefIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [out_at, ref_at]
  refine Fin.sum_fin_congr fun k => ?_
  blk_point [iblk, V, idx t]

end Cert.WQIdeal.Mine

end
-- ==== Proof.GWQ.lean ====
module

public import proofs.«01_k».proof.Proof.OfGWQ
public import Idealize.ShloMosaic.Lib.Pipeline.ValueKit

@[expose] public section

set_option maxRecDepth 16384

noncomputable section

namespace Cert.GWQIdeal.Mine

open Cert.GWQIdeal Cert.GWQIdeal.Gen Idealize.ShloMosaic Idealize.ShloMosaic.TcCoe Idealize.SL.Sem
open Idealize.ShloMosaic.Pipeline (Dat)

variable (m : (ℓ : Loc nD τ sig) → Buf (Elt Ideal) ℓ)

/-- Where the blocks of each array sit at every grid point. -/
theorem idx : ∀ t : Fin cfg0.N, win0_0.index t = ![t.val % 3, 0] ∧ win0_1.index t = ![t.val % 3, 0] ∧ win0_2.index t = ![0, 0] :=
  (by decide +kernel : ∀ t : Fin grid0.N, _)

/-- The store at the first step of a group: zeros. -/
theorem zero_at (j : S256x768.Idx) : k0_pay1 (F := Ideal) j = 0 := by pointwise [k0_pay1]

/-- The store at every step: what was there plus the product of the two blocks. -/
theorem add_at (a : Vec Ideal S256x768 .f32) (x : Vec Ideal S3072x256 .bf16) (z : Vec Ideal S3072x768 .bf16) (j : S256x768.Idx) :
    k0_pay2 a x z j = a j + ∑ k : Fin 3072, x (ix2 k (j 0)) * z (ix2 k (j 1)) := by pointwise [k0_pay2]

/-- The store of the result is the running sum. -/
theorem out_at (a : Vec Ideal S256x768 .f32) (j : S256x768.Idx) : k0_pay3 a j = a j := by pointwise [k0_pay3]

/-- At the last step of a group the result's block is the running sum. -/
theorem last (c : Dev nD) (t : Fin cfg0.N) (h : t.val % 3 = 2) (j : S256x768.Idx) :
    (outsAt0 m c t.val t.isLt).1 j = (outsAt0 m c t.val t.isLt).2 j := by
  rw [outsAt0_C m c t (by omega) h]; frame_out; rw [out_at]

/-- The reference's array at an index: one sum over the whole contracted axis. -/
theorem ref_at (x : Vec Ideal S9216x256 .bf16) (z : Vec Ideal S9216x768 .bf16) (j : S256x768.Idx) :
    Cert.GWQRefIdeal.Read.val_main_v6 (F := Ideal) x z j = ∑ k : Fin 9216, x (ix2 k (j 0)) * z (ix2 k (j 1)) := by
  pointwise [Cert.GWQRefIdeal.Read.val_main_v6, Cert.GWQRefIdeal.Read.val_main_v5, Cert.GWQRefIdeal.Read.val_main_v4, Cert.GWQRefIdeal.Read.val_main_v3, Cert.GWQRefIdeal.Read.val_main_v1]
  exact Finset.sum_congr rfl fun k _ => mul_comm _ _

/-- The gradient of the query projection: the kernel's array is the reference's. -/
theorem final (c : Dev nD) : (dats m 0 c).arrAt 2 (cfgs 0).N
    = Cert.GWQRefIdeal.Read.val_main_v6 (F := Ideal) (m ((c : Thread nD τ).loc main_arg0)) (m ((c : Thread nD τ).loc main_arg1)) := by
  refine (dats m 0 c).arrAt_eq_of_covers 2 _ (by decide +kernel) fun t hf y => ?_
  have h2 := (flush0_2 t).mp hf
  blk_simp
  rw [after0_2, last m c t h2, Pipeline.eq_sum_fin_of_reset_step_apply_of_flush (fun n h => (outsAt0 m c n h).2) 3 (fun _ => 0) _
    (fun t h j => by rw [outsAt0_A m c t h (by omega)]; frame_out; rw [add_at, zero_at])
    (fun t h j => by
      by_cases h' : t.val % 3 = 2
      · rw [outsAt0_C m c t h h']; frame_out; rw [add_at]
        exact congrArg (· + _) (congrFun ((Memref.isWhole_whole cc0_scratch0).read_unread _) j)
      · rw [outsAt0_B m c t h h']; frame_out; rw [add_at]
        exact congrArg (· + _) (congrFun ((Memref.isWhole_whole cc0_scratch0).read_unread _) j))
    t h2 _, zero_add, ref_at]
  refine Fin.sum_mul_add_congr fun s k hl => ?_
  blk_point [iblk, V, idx t, idx ⟨_, Pipeline.run_point_lt_of_flush t h2 s⟩]

end Cert.GWQIdeal.Mine

end
-- ==== Proof.GWKv.lean ====
module

public import proofs.«01_k».proof.Proof.OfGWKv
public import Idealize.ShloMosaic.Lib.Pipeline.ValueKit

@[expose] public section

set_option maxRecDepth 16384

noncomputable section

namespace Cert.GWKvIdeal.Mine

open Cert.GWKvIdeal Cert.GWKvIdeal.Gen Idealize.ShloMosaic Idealize.ShloMosaic.TcCoe Idealize.SL.Sem
open Idealize.ShloMosaic.Pipeline (Dat)

variable (m : (ℓ : Loc nD τ sig) → Buf (Elt Ideal) ℓ)

/-- Where the blocks of each array sit at every grid point. -/
theorem idx : ∀ t : Fin cfg0.N, win0_0.index t = ![t.val % 3, 0] ∧ win0_1.index t = ![t.val % 3, 0] ∧ win0_2.index t = ![0, 0] :=
  (by decide +kernel : ∀ t : Fin grid0.N, _)

/-- The store at the first step of a group: zeros. -/
theorem zero_at (j : S256x1024.Idx) : k0_pay1 (F := Ideal) j = 0 := by pointwise [k0_pay1]

/-- The store at every step: what was there plus the product of the two blocks. -/
theorem add_at (a : Vec Ideal S256x1024 .f32) (x : Vec Ideal S3072x256 .bf16) (z : Vec Ideal S3072x1024 .bf16) (j : S256x1024.Idx) :
    k0_pay2 a x z j = a j + ∑ k : Fin 3072, x (ix2 k (j 0)) * z (ix2 k (j 1)) := by pointwise [k0_pay2]

/-- The store of the result is the running sum. -/
theorem out_at (a : Vec Ideal S256x1024 .f32) (j : S256x1024.Idx) : k0_pay3 a j = a j := by pointwise [k0_pay3]

/-- At the last step of a group the result's block is the running sum. -/
theorem last (c : Dev nD) (t : Fin cfg0.N) (h : t.val % 3 = 2) (j : S256x1024.Idx) :
    (outsAt0 m c t.val t.isLt).1 j = (outsAt0 m c t.val t.isLt).2 j := by
  rw [outsAt0_C m c t (by omega) h]; frame_out; rw [out_at]

/-- The reference's array at an index: one sum over the whole contracted axis. -/
theorem ref_at (x : Vec Ideal S9216x256 .bf16) (z : Vec Ideal S9216x1024 .bf16) (j : S256x1024.Idx) :
    Cert.GWKvRefIdeal.Read.val_main_v6 (F := Ideal) x z j = ∑ k : Fin 9216, x (ix2 k (j 0)) * z (ix2 k (j 1)) := by
  pointwise [Cert.GWKvRefIdeal.Read.val_main_v6, Cert.GWKvRefIdeal.Read.val_main_v5, Cert.GWKvRefIdeal.Read.val_main_v4, Cert.GWKvRefIdeal.Read.val_main_v3, Cert.GWKvRefIdeal.Read.val_main_v1]
  exact Finset.sum_congr rfl fun k _ => mul_comm _ _

/-- The gradient of the key and value projection: the kernel's array is the reference's. -/
theorem final (c : Dev nD) : (dats m 0 c).arrAt 2 (cfgs 0).N
    = Cert.GWKvRefIdeal.Read.val_main_v6 (F := Ideal) (m ((c : Thread nD τ).loc main_arg0)) (m ((c : Thread nD τ).loc main_arg1)) := by
  refine (dats m 0 c).arrAt_eq_of_covers 2 _ (by decide +kernel) fun t hf y => ?_
  have h2 := (flush0_2 t).mp hf
  blk_simp
  rw [after0_2, last m c t h2, Pipeline.eq_sum_fin_of_reset_step_apply_of_flush (fun n h => (outsAt0 m c n h).2) 3 (fun _ => 0) _
    (fun t h j => by rw [outsAt0_A m c t h (by omega)]; frame_out; rw [add_at, zero_at])
    (fun t h j => by
      by_cases h' : t.val % 3 = 2
      · rw [outsAt0_C m c t h h']; frame_out; rw [add_at]
        exact congrArg (· + _) (congrFun ((Memref.isWhole_whole cc0_scratch0).read_unread _) j)
      · rw [outsAt0_B m c t h h']; frame_out; rw [add_at]
        exact congrArg (· + _) (congrFun ((Memref.isWhole_whole cc0_scratch0).read_unread _) j))
    t h2 _, zero_add, ref_at]
  refine Fin.sum_mul_add_congr fun s k hl => ?_
  blk_point [iblk, V, idx t, idx ⟨_, Pipeline.run_point_lt_of_flush t h2 s⟩]

end Cert.GWKvIdeal.Mine

end
-- ==== Proof.DQn.lean ====
module

public import proofs.«01_k».proof.Proof.OfDQn
public import Idealize.ShloMosaic.Lib.Pipeline.ValueKit

@[expose] public section

set_option maxRecDepth 16384

noncomputable section

namespace Cert.DQnIdeal.Mine

open Cert.DQnIdeal Cert.DQnIdeal.Gen Idealize.ShloMosaic Idealize.ShloMosaic.TcCoe Idealize.SL.Sem
open Idealize.ShloMosaic.Pipeline (Dat)

variable (m : (ℓ : Loc nD τ sig) → Buf (Elt Ideal) ℓ)

/-- Where the blocks of each array sit at every grid point. -/
theorem idx : ∀ t : Fin cfg0.N, win0_0.index t = ![t.val, 0] ∧ win0_1.index t = ![0, 0] ∧ win0_2.index t = ![t.val, 0] :=
  (by decide +kernel : ∀ t : Fin grid0.N, _)

/-- The one store of a grid point: the product of the two blocks. -/
theorem out_at (x : Vec Ideal S1152x768 .bf16) (z : Vec Ideal S256x768 .bf16) (j : S1152x256.Idx) :
    k0_pay1 x z j = ∑ k : Fin 768, x (ix2 (j 0) k) * z (ix2 (j 1) k) := by pointwise [k0_pay1]

/-- The reference's array at an index: one sum over the whole contracted axis. -/
theorem ref_at (x : Vec Ideal S9216x768 .bf16) (z : Vec Ideal S256x768 .bf16) (j : S9216x256.Idx) :
    Cert.DQnRefIdeal.Read.val_main_v4 (F := Ideal) x z j = ∑ k : Fin 768, x (ix2 (j 0) k) * z (ix2 (j 1) k) := by
  pointwise [Cert.DQnRefIdeal.Read.val_main_v4, Cert.DQnRefIdeal.Read.val_main_v3, Cert.DQnRefIdeal.Read.val_main_v1]

/-- The gradient of the rows entering the query projection: the kernel's array is the reference's. -/
theorem final (c : Dev nD) : (dats m 0 c).arrAt 2 (cfgs 0).N
    = Cert.DQnRefIdeal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [out_at, ref_at]
  refine Fin.sum_fin_congr fun k => ?_
  blk_point [iblk, V, idx t]

end Cert.DQnIdeal.Mine

end
-- ==== Proof.DKvn.lean ====
module

public import proofs.«01_k».proof.Proof.OfDKvn
public import Idealize.ShloMosaic.Lib.Pipeline.ValueKit

@[expose] public section

set_option maxRecDepth 16384

noncomputable section

namespace Cert.DKvnIdeal.Mine

open Cert.DKvnIdeal Cert.DKvnIdeal.Gen Idealize.ShloMosaic Idealize.ShloMosaic.TcCoe Idealize.SL.Sem
open Idealize.ShloMosaic.Pipeline (Dat)

variable (m : (ℓ : Loc nD τ sig) → Buf (Elt Ideal) ℓ)

/-- Where the blocks of each array sit at every grid point. -/
theorem idx : ∀ t : Fin cfg0.N, win0_0.index t = ![t.val, 0] ∧ win0_1.index t = ![0, 0] ∧ win0_2.index t = ![t.val, 0] :=
  (by decide +kernel : ∀ t : Fin grid0.N, _)

/-- The one store of a grid point: the product of the two blocks. -/
theorem out_at (x : Vec Ideal S1152x1024 .bf16) (z : Vec Ideal S256x1024 .bf16) (j : S1152x256.Idx) :
    k0_pay1 x z j = ∑ k : Fin 1024, x (ix2 (j 0) k) * z (ix2 (j 1) k) := by pointwise [k0_pay1]

/-- The reference's array at an index: one sum over the whole contracted axis. -/
theorem ref_at (x : Vec Ideal S9216x1024 .bf16) (z : Vec Ideal S256x1024 .bf16) (j : S9216x256.Idx) :
    Cert.DKvnRefIdeal.Read.val_main_v4 (F := Ideal) x z j = ∑ k : Fin 1024, x (ix2 (j 0) k) * z (ix2 (j 1) k) := by
  pointwise [Cert.DKvnRefIdeal.Read.val_main_v4, Cert.DKvnRefIdeal.Read.val_main_v3, Cert.DKvnRefIdeal.Read.val_main_v1]

/-- The gradient of the rows entering the key and value projection: the kernel's array is the reference's. -/
theorem final (c : Dev nD) : (dats m 0 c).arrAt 2 (cfgs 0).N
    = Cert.DKvnRefIdeal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [out_at, ref_at]
  refine Fin.sum_fin_congr fun k => ?_
  blk_point [iblk, V, idx t]

end Cert.DKvnIdeal.Mine

end
-- ==== Proof.ClaimsQ.lean ====
module

public import proofs.«01_k».proof.Defs
public import proofs.«01_k».proof.Proof.WKv
public import proofs.«01_k».proof.Proof.WQ
public import proofs.«01_k».proof.Proof.GWQ
public import proofs.«01_k».proof.Proof.GWKv
public import proofs.«01_k».proof.Proof.DQn
public import proofs.«01_k».proof.Proof.DKvn
public import Idealize.ShloMosaic.Adequacy
public import Idealize.ShloMosaic.Init

@[expose] public section

noncomputable section

namespace Cert.Proof

open Idealize.ShloMosaic Idealize.SL.Sem

/-- The latent rows expanded to keys and values: the call runs, at its own formats. -/
theorem wKv_p [Cert.WKv.Facts] : Cert.quiescent_WKv := fun m ρ _ => Cert.WKv.Gen.frame m ρ

/-- and over the reals. -/
theorem wKv_pi : Cert.quiescent_WKvIdeal (hWKvIdeal := Cert.WKvIdeal.Gen.facts) := fun m ρ _ => Cert.WKvIdeal.Gen.frame m ρ

/-- The reference runs; it declares no semaphore. -/
theorem wKv_ri : Cert.quiescent_WKvRefIdeal (hWKvRefIdeal := Cert.WKvRefIdeal.Gen.facts) := fun m ρ _ =>
  (θ_run Cert.WKvRefIdeal.defs _ _).mono (fun r h => ⟨fun c => (h c).2, sem_eq_zero_of_no_sems (by decide) r.2⟩)
    (Cert.WKvRefIdeal.Value.run (F := Ideal) m ρ)

/-- The latent rows expanded to keys and values: the call's result is the reference's. -/
theorem wKv_alg : Cert.algebraic_WKvIdeal_WKvRefIdeal (hWKvIdeal := Cert.WKvIdeal.Gen.facts) (hWKvRefIdeal := Cert.WKvRefIdeal.Gen.facts) := by
  intro m ρ m' ρ' _ hagree
  refine ⟨fun c => (Cert.WKvIdeal.Gen.dats m 0 c).arrAt 2 Cert.WKvIdeal.cfg0.N, Cert.WKvIdeal.Value.run_blocks m ρ, ?_⟩
  refine (θ_run Cert.WKvRefIdeal.defs _ _).mono (fun r h c => ?_) (Cert.WKvRefIdeal.Value.run (F := Ideal) m' ρ')
  have g := Cert.WKvIdeal.Mine.final m c
  obtain ⟨e0, e1⟩ := hagree c
  obtain ⟨r0, r1⟩ := h c
  rw [← e0, ← e1] at g
  exact ⟨(r0.trans (Cert.WKvRefIdeal.Read.val_main_v3_eq _ _ )).trans g.symm, r1⟩

/-- The query projection: the call runs, at its own formats. -/
theorem wQ_p [Cert.WQ.Facts] : Cert.quiescent_WQ := fun m ρ _ => Cert.WQ.Gen.frame m ρ

/-- and over the reals. -/
theorem wQ_pi : Cert.quiescent_WQIdeal (hWQIdeal := Cert.WQIdeal.Gen.facts) := fun m ρ _ => Cert.WQIdeal.Gen.frame m ρ

/-- The reference runs; it declares no semaphore. -/
theorem wQ_ri : Cert.quiescent_WQRefIdeal (hWQRefIdeal := Cert.WQRefIdeal.Gen.facts) := fun m ρ _ =>
  (θ_run Cert.WQRefIdeal.defs _ _).mono (fun r h => ⟨fun c => (h c).2, sem_eq_zero_of_no_sems (by decide) r.2⟩)
    (Cert.WQRefIdeal.Value.run (F := Ideal) m ρ)

/-- The query projection: the call's result is the reference's. -/
theorem wQ_alg : Cert.algebraic_WQIdeal_WQRefIdeal (hWQIdeal := Cert.WQIdeal.Gen.facts) (hWQRefIdeal := Cert.WQRefIdeal.Gen.facts) := by
  intro m ρ m' ρ' _ hagree
  refine ⟨fun c => (Cert.WQIdeal.Gen.dats m 0 c).arrAt 2 Cert.WQIdeal.cfg0.N, Cert.WQIdeal.Value.run_blocks m ρ, ?_⟩
  refine (θ_run Cert.WQRefIdeal.defs _ _).mono (fun r h c => ?_) (Cert.WQRefIdeal.Value.run (F := Ideal) m' ρ')
  have g := Cert.WQIdeal.Mine.final m c
  obtain ⟨e0, e1⟩ := hagree c
  obtain ⟨r0, r1⟩ := h c
  rw [← e0, ← e1] at g
  exact ⟨(r0.trans (Cert.WQRefIdeal.Read.val_main_v2_eq _ _ )).trans g.symm, r1⟩

/-- The gradient of the query projection's weights: the call runs, at its own formats. -/
theorem gWQ_p [Cert.GWQ.Facts] : Cert.quiescent_GWQ := fun m ρ _ => Cert.GWQ.Gen.frame m ρ

/-- and over the reals. -/
theorem gWQ_pi : Cert.quiescent_GWQIdeal (hGWQIdeal := Cert.GWQIdeal.Gen.facts) := fun m ρ _ => Cert.GWQIdeal.Gen.frame m ρ

/-- The reference runs; it declares no semaphore. -/
theorem gWQ_ri : Cert.quiescent_GWQRefIdeal (hGWQRefIdeal := Cert.GWQRefIdeal.Gen.facts) := fun m ρ _ =>
  (θ_run Cert.GWQRefIdeal.defs _ _).mono (fun r h => ⟨fun c => (h c).2, sem_eq_zero_of_no_sems (by decide) r.2⟩)
    (Cert.GWQRefIdeal.Value.run (F := Ideal) m ρ)

/-- The gradient of the query projection's weights: the call's result is the reference's. -/
theorem gWQ_alg : Cert.algebraic_GWQIdeal_GWQRefIdeal (hGWQIdeal := Cert.GWQIdeal.Gen.facts) (hGWQRefIdeal := Cert.GWQRefIdeal.Gen.facts) := by
  intro m ρ m' ρ' _ hagree
  refine ⟨fun c => (Cert.GWQIdeal.Gen.dats m 0 c).arrAt 2 Cert.GWQIdeal.cfg0.N, Cert.GWQIdeal.Value.run_blocks m ρ, ?_⟩
  refine (θ_run Cert.GWQRefIdeal.defs _ _).mono (fun r h c => ?_) (Cert.GWQRefIdeal.Value.run (F := Ideal) m' ρ')
  have g := Cert.GWQIdeal.Mine.final m c
  obtain ⟨e0, e1⟩ := hagree c
  obtain ⟨r0, r1⟩ := h c
  rw [← e0, ← e1] at g
  exact ⟨(r0.trans (Cert.GWQRefIdeal.Read.val_main_v6_eq _ _ )).trans g.symm, r1⟩

/-- The gradient of the key and value expansion's weights: the call runs, at its own formats. -/
theorem gWKv_p [Cert.GWKv.Facts] : Cert.quiescent_GWKv := fun m ρ _ => Cert.GWKv.Gen.frame m ρ

/-- and over the reals. -/
theorem gWKv_pi : Cert.quiescent_GWKvIdeal (hGWKvIdeal := Cert.GWKvIdeal.Gen.facts) := fun m ρ _ => Cert.GWKvIdeal.Gen.frame m ρ

/-- The reference runs; it declares no semaphore. -/
theorem gWKv_ri : Cert.quiescent_GWKvRefIdeal (hGWKvRefIdeal := Cert.GWKvRefIdeal.Gen.facts) := fun m ρ _ =>
  (θ_run Cert.GWKvRefIdeal.defs _ _).mono (fun r h => ⟨fun c => (h c).2, sem_eq_zero_of_no_sems (by decide) r.2⟩)
    (Cert.GWKvRefIdeal.Value.run (F := Ideal) m ρ)

/-- The gradient of the key and value expansion's weights: the call's result is the reference's. -/
theorem gWKv_alg : Cert.algebraic_GWKvIdeal_GWKvRefIdeal (hGWKvIdeal := Cert.GWKvIdeal.Gen.facts) (hGWKvRefIdeal := Cert.GWKvRefIdeal.Gen.facts) := by
  intro m ρ m' ρ' _ hagree
  refine ⟨fun c => (Cert.GWKvIdeal.Gen.dats m 0 c).arrAt 2 Cert.GWKvIdeal.cfg0.N, Cert.GWKvIdeal.Value.run_blocks m ρ, ?_⟩
  refine (θ_run Cert.GWKvRefIdeal.defs _ _).mono (fun r h c => ?_) (Cert.GWKvRefIdeal.Value.run (F := Ideal) m' ρ')
  have g := Cert.GWKvIdeal.Mine.final m c
  obtain ⟨e0, e1⟩ := hagree c
  obtain ⟨r0, r1⟩ := h c
  rw [← e0, ← e1] at g
  exact ⟨(r0.trans (Cert.GWKvRefIdeal.Read.val_main_v6_eq _ _ )).trans g.symm, r1⟩

/-- The gradient of the query projection's rows: the call runs, at its own formats. -/
theorem dQn_p [Cert.DQn.Facts] : Cert.quiescent_DQn := fun m ρ _ => Cert.DQn.Gen.frame m ρ

/-- and over the reals. -/
theorem dQn_pi : Cert.quiescent_DQnIdeal (hDQnIdeal := Cert.DQnIdeal.Gen.facts) := fun m ρ _ => Cert.DQnIdeal.Gen.frame m ρ

/-- The reference runs; it declares no semaphore. -/
theorem dQn_ri : Cert.quiescent_DQnRefIdeal (hDQnRefIdeal := Cert.DQnRefIdeal.Gen.facts) := fun m ρ _ =>
  (θ_run Cert.DQnRefIdeal.defs _ _).mono (fun r h => ⟨fun c => (h c).2, sem_eq_zero_of_no_sems (by decide) r.2⟩)
    (Cert.DQnRefIdeal.Value.run (F := Ideal) m ρ)

/-- The gradient of the query projection's rows: the call's result is the reference's. -/
theorem dQn_alg : Cert.algebraic_DQnIdeal_DQnRefIdeal (hDQnIdeal := Cert.DQnIdeal.Gen.facts) (hDQnRefIdeal := Cert.DQnRefIdeal.Gen.facts) := by
  intro m ρ m' ρ' _ hagree
  refine ⟨fun c => (Cert.DQnIdeal.Gen.dats m 0 c).arrAt 2 Cert.DQnIdeal.cfg0.N, Cert.DQnIdeal.Value.run_blocks m ρ, ?_⟩
  refine (θ_run Cert.DQnRefIdeal.defs _ _).mono (fun r h c => ?_) (Cert.DQnRefIdeal.Value.run (F := Ideal) m' ρ')
  have g := Cert.DQnIdeal.Mine.final m c
  obtain ⟨e0, e1⟩ := hagree c
  obtain ⟨r0, r1⟩ := h c
  rw [← e0, ← e1] at g
  exact ⟨(r0.trans (Cert.DQnRefIdeal.Read.val_main_v4_eq _ _ )).trans g.symm, r1⟩

/-- The gradient of the latent rows: the call runs, at its own formats. -/
theorem dKvn_p [Cert.DKvn.Facts] : Cert.quiescent_DKvn := fun m ρ _ => Cert.DKvn.Gen.frame m ρ

/-- and over the reals. -/
theorem dKvn_pi : Cert.quiescent_DKvnIdeal (hDKvnIdeal := Cert.DKvnIdeal.Gen.facts) := fun m ρ _ => Cert.DKvnIdeal.Gen.frame m ρ

/-- The reference runs; it declares no semaphore. -/
theorem dKvn_ri : Cert.quiescent_DKvnRefIdeal (hDKvnRefIdeal := Cert.DKvnRefIdeal.Gen.facts) := fun m ρ _ =>
  (θ_run Cert.DKvnRefIdeal.defs _ _).mono (fun r h => ⟨fun c => (h c).2, sem_eq_zero_of_no_sems (by decide) r.2⟩)
    (Cert.DKvnRefIdeal.Value.run (F := Ideal) m ρ)

/-- The gradient of the latent rows: the call's result is the reference's. -/
theorem dKvn_alg : Cert.algebraic_DKvnIdeal_DKvnRefIdeal (hDKvnIdeal := Cert.DKvnIdeal.Gen.facts) (hDKvnRefIdeal := Cert.DKvnRefIdeal.Gen.facts) := by
  intro m ρ m' ρ' _ hagree
  refine ⟨fun c => (Cert.DKvnIdeal.Gen.dats m 0 c).arrAt 2 Cert.DKvnIdeal.cfg0.N, Cert.DKvnIdeal.Value.run_blocks m ρ, ?_⟩
  refine (θ_run Cert.DKvnRefIdeal.defs _ _).mono (fun r h c => ?_) (Cert.DKvnRefIdeal.Value.run (F := Ideal) m' ρ')
  have g := Cert.DKvnIdeal.Mine.final m c
  obtain ⟨e0, e1⟩ := hagree c
  obtain ⟨r0, r1⟩ := h c
  rw [← e0, ← e1] at g
  exact ⟨(r0.trans (Cert.DKvnRefIdeal.Read.val_main_v4_eq _ _ )).trans g.symm, r1⟩

end Cert.Proof

end
-- ==== Proof.AttRef.lean ====
/-
  The forward attention of the reference, read at its indices: the weighted sums of the values and the logarithms of the sums.
-/
module
public import proofs.«01_k».proof.Proof.Lse
public import proofs.«01_k».proof.Proof.Gen.AttRefIdeal.Read
@[expose] public section
set_option maxRecDepth 16384
noncomputable section
open Idealize Idealize.ShloMosaic
namespace Cert.AttRefIdeal.Read
open Cert.Attn Cert.AttRefIdeal Cert.AttRefIdeal.Gen Idealize.ShloMosaic.TcCoe Idealize.SL.Sem
open Cert.ReferenceIdeal.Read (R4 Ls Cs Lm Cm Le Ce Lz Cz Lp Cp)
open Cert.KernelIdeal.Head (lseL lseC lseL_at lseC_at)

variable {x0 : (⟨S4x2304x768, .bf16⟩ : BufTy).Contents (Elt Ideal)} {x1 : (⟨S4x2304x1024, .bf16⟩ : BufTy).Contents (Elt Ideal)}
  {x2 : (⟨S4x2304x128, .bf16⟩ : BufTy).Contents (Elt Ideal)} {q kv kp : ℕ → ℕ → ℕ → ℝ}

/-- The weights are those of the gradient's reference, latent rows, -/
theorem weights_L : val_main_v33 (F := Ideal) x0 x1 x2 = Cert.ReferenceIdeal.Read.val_main_v48 (F := Ideal) x0 x1 x2 := rfl

/-- The output, latent rows, -/
theorem v35_at {P : ℕ → ℕ → ℕ → ℕ → ℝ} (h1 : R3 (k := 4) (m := 2304) (n := 1024) x1 kv)
    (hp : R4 (n0 := 4) (n1 := 4) (n2 := 2048) (n3 := 2304) (val_main_v33 (F := Ideal) x0 x1 x2) P) :
    R4 (n0 := 4) (n1 := 2048) (n2 := 4) (n3 := 128) (val_main_v35 (F := Ideal) x0 x1 x2)
      (fun b r h d => ∑ k : Fin 2304, P b h r k * kv b (0 + k) (256 * h + 128 + d)) := by
  intro b r h d
  pointwise [val_main_v35, val_main_v34, val_main_v10, val_main_v8, val_main_v1]
  simp only [hp _ _ _ _, h1 _ _ _, ← EReal.coe_mul, coe_sum]
  congr 1
  refine Finset.sum_congr rfl fun x _ => ?_
  rw [mul_comm]
  congr 2 <;> (try dsimp only) <;> omega

/-- and context rows. -/
theorem v49_at {P : ℕ → ℕ → ℕ → ℕ → ℝ} (h1 : R3 (k := 4) (m := 2304) (n := 1024) x1 kv)
    (hp : R4 (n0 := 4) (n1 := 4) (n2 := 256) (n3 := 256) (val_main_v46 (F := Ideal) x0 x1 x2) P) :
    R4 (n0 := 4) (n1 := 256) (n2 := 4) (n3 := 128) (val_main_v49 (F := Ideal) x0 x1 x2)
      (fun b r h d => ∑ k : Fin 256, P b h r k * kv b (2048 + k) (256 * h + 128 + d)) := by
  intro b r h d
  pointwise [val_main_v49, val_main_v48, val_main_v47, val_main_v10, val_main_v8, val_main_v1]
  simp only [hp _ _ _ _, h1 _ _ _, ← EReal.coe_mul, coe_sum]
  congr 1
  refine Finset.sum_congr rfl fun x _ => ?_
  rw [mul_comm]
  congr 2 <;> (try dsimp only) <;> omega

/-- Both, the heads side by side. -/
theorem v52_at {A B : ℕ → ℕ → ℕ → ℕ → ℝ} (hA : R4 (n0 := 4) (n1 := 2048) (n2 := 4) (n3 := 128) (val_main_v35 (F := Ideal) x0 x1 x2) A)
    (hB : R4 (n0 := 4) (n1 := 256) (n2 := 4) (n3 := 128) (val_main_v49 (F := Ideal) x0 x1 x2) B) :
    R3 (k := 4) (m := 2304) (n := 512) (val_main_v52 (F := Ideal) x0 x1 x2)
      (fun b r x => if r < 2048 then A b r (x / 128) (x % 128) else B b (r - 2048) (x / 128) (x % 128)) := by
  intro b r x
  unfold val_main_v52 val_main_v51 val_main_v50
  generalize val_main_v35 (F := Ideal) x0 x1 x2 = Y at hA
  generalize val_main_v49 (F := Ideal) x0 x1 x2 = Z at hB
  pointwise []
  by_cases hr : r.val < 2048
  · rw [dif_pos (by omega), if_pos hr, hA]
  · rw [dif_neg (by omega), if_neg hr, hB]

/-- So are the scores of the latent rows, -/
theorem scores_L : val_main_v70 (F := Ideal) x0 x1 x2 = Cert.ReferenceIdeal.Read.val_main_v18 (F := Ideal) x0 x1 x2 := rfl

/-- those of the context rows, -/
theorem scores_C : val_main_v75 (F := Ideal) x0 x1 x2 = Cert.ReferenceIdeal.Read.val_main_v23 (F := Ideal) x0 x1 x2 := rfl

/-- the maxima of the first, -/
theorem maxima_L : val_main_v76 (F := Ideal) x0 x1 x2 = Cert.ReferenceIdeal.Read.val_main_v24 (F := Ideal) x0 x1 x2 := rfl

/-- those of the second, -/
theorem maxima_C : val_main_v85 (F := Ideal) x0 x1 x2 = Cert.ReferenceIdeal.Read.val_main_v54 (F := Ideal) x0 x1 x2 := rfl

/-- the logarithms of the sums, latent rows, -/
theorem lse_L : val_main_v84 (F := Ideal) x0 x1 x2 = lseL (Cert.ReferenceIdeal.Read.val_main_v18 x0 x1 x2) (Cert.ReferenceIdeal.Read.val_main_v24 x0 x1 x2) := by
  rw [← scores_L, ← maxima_L]
  rfl

/-- and context rows. -/
theorem lse_C : val_main_v93 (F := Ideal) x0 x1 x2 = lseC (Cert.ReferenceIdeal.Read.val_main_v23 x0 x1 x2) (Cert.ReferenceIdeal.Read.val_main_v54 x0 x1 x2) := by
  rw [← scores_C, ← maxima_C]
  rfl

/-- The logarithms of the sums are those the gradient's host code prepares. -/
theorem v95_eq : val_main_v95 (F := Ideal) x0 x1 x2 = transpose S4x2304x4 [0, 2, 1] (concatenate S4x4x2304 2
    [⟨S4x4x2048, lseL (Cert.ReferenceIdeal.Read.val_main_v18 x0 x1 x2) (Cert.ReferenceIdeal.Read.val_main_v24 x0 x1 x2)⟩,
      ⟨S4x4x256, lseC (Cert.ReferenceIdeal.Read.val_main_v23 x0 x1 x2) (Cert.ReferenceIdeal.Read.val_main_v54 x0 x1 x2)⟩]
    concatenates_S4x4x2048_S4x4x256_S4x4x2304_d2) transposes_S4x4x2304_S4x2304x4_0_2_1 := by
  rw [← lse_L, ← lse_C]
  rfl

theorem v95_at (hq : R3 (k := 4) (m := 2304) (n := 768) x0 q) (hkv : R3 (k := 4) (m := 2304) (n := 1024) x1 kv) (hkp : R3 (k := 4) (m := 2304) (n := 128) x2 kp) :
    R3 (k := 4) (m := 2304) (n := 4) (val_main_v95 (F := Ideal) x0 x1 x2)
      (fun b r h => if r < 2048 then lsum 2304 0 (q b) (kv b) (kp b) h r else lsum 256 2048 (q b) (kv b) (kp b) h r) := by
  rw [v95_eq]
  obtain ⟨M, hM⟩ := Lm hq hkv hkp
  obtain ⟨M', hM'⟩ := Cm hq hkv hkp
  have e1 := lseL_at (Ls hq hkv hkp) hM
  have e2 := lseC_at (Cs hq hkv hkp) hM'
  generalize lseL _ _ = A at e1 ⊢
  generalize lseC _ _ = B at e2 ⊢
  intro b r h
  pointwise []
  by_cases hr : r.val < 2048
  · rw [dif_pos hr, if_pos hr, e1]
    simp only [zero_add]
  · rw [dif_neg hr, if_neg hr, e2]
    have e : 2048 + (r.val - 2048) = r.val := by omega
    simp only [e]

/-- The output of the reference. -/
theorem out_at (hq : R3 (k := 4) (m := 2304) (n := 768) x0 q) (hkv : R3 (k := 4) (m := 2304) (n := 1024) x1 kv) (hkp : R3 (k := 4) (m := 2304) (n := 128) x2 kp) :
    ∃ M M' : ℕ → ℕ → ℕ → ℝ, R3 (k := 4) (m := 2304) (n := 512) (val_main_v52 (F := Ideal) x0 x1 x2)
      (fun b r x => if r < 2048 then ∑ k : Fin 2304, pR 2304 0 (q b) (kv b) (kp b) (M b) (x / 128) r k * kv b (0 + k) (256 * (x / 128) + 128 + x % 128)
        else ∑ k : Fin 256, pR 256 2048 (q b) (kv b) (kp b) (M' b) (x / 128) (r - 2048) k * kv b (2048 + k) (256 * (x / 128) + 128 + x % 128)) := by
  obtain ⟨M, hM⟩ := Lm hq hkv hkp
  obtain ⟨M', hM'⟩ := Cm hq hkv hkp
  have eL := Le hq hkv hkp hM
  have eC := Ce hq hkv hkp hM'
  exact ⟨M, M', v52_at (v35_at hkv (Lp eL (Lz eL))) (v49_at hkv (Cp eC (Cz eC)))⟩

end Cert.AttRefIdeal.Read
-- ==== Proof.AttHead.lean ====
/-
  One head of one tile of query rows in the forward pass: scores, weights, output rows and the logarithms of the sums, and their values on finite blocks.
-/
module
public import proofs.«01_k».proof.Proof.Gen.AttIdeal.Frame
public import proofs.«01_k».proof.Proof.Point
@[expose] public section
set_option maxRecDepth 16384
noncomputable section
namespace Cert.AttIdeal.Head
open Cert.AttIdeal Cert.AttIdeal.Gen Cert.Attn Idealize.ShloMosaic Idealize.ShloMosaic.TcCoe Idealize.SL.Sem
open Cert.KernelIdeal.Head (qE qO qL0 kL0 qL0_fin kL0_fin qL1 kL1 qL1_fin kL1_fin qL2 kL2 qL2_fin kL2_fin qL3 kL3 qL3_fin kL3_fin qC0 kC0 qC0_fin kC0_fin qC1 kC1 qC1_fin kC1_fin qC2 kC2 qC2_fin kC2_fin qC3 kC3 qC3_fin kC3_fin)

/-- The maximum of a row of reals, taken from minus infinity, is real. -/
theorem fold_max {n : ℕ} (hn : 0 < n) (f : Fin n → ℝ) :
    ∃ M : ℝ, Finset.fold max (⊥ : EReal) (fun k => ((f k : ℝ) : EReal)) Finset.univ = ((M : ℝ) : EReal) := by
  have key : ∀ s : Finset (Fin n), s = ∅ ∨ ∃ M : ℝ, Finset.fold max (⊥ : EReal) (fun k => ((f k : ℝ) : EReal)) s = ((M : ℝ) : EReal) := by
    intro s
    induction s using Finset.induction_on with
    | empty => exact .inl rfl
    | insert a s ha ih =>
      right
      rw [Finset.fold_insert ha]
      obtain e | ⟨M, e⟩ := ih
      · exact ⟨f a, by rw [e]; exact max_bot_right _⟩
      · exact ⟨max (f a) M, by rw [e]; exact (EReal.coe_strictMono.monotone.map_max (a := f a) (b := M)).symm⟩
  obtain e | e := key Finset.univ
  · exact absurd e (Finset.univ_nonempty_iff.2 ⟨⟨0, hn⟩⟩).ne_empty
  · exact e

theorem div_one_coe {a : ℝ} (h : a ≠ 0) : Ideal.div 1 ((a : ℝ) : EReal) = ((1 / a : ℝ) : EReal) := by
  rw [Ideal.div_coe h, one_mul]

/-- A sum of exponentials is positive. -/
theorem sum_pos {n : ℕ} (hn : 0 < n) (f : Fin n → ℝ) : 0 < ∑ k, Real.exp (f k) :=
  Finset.sum_pos (fun _ _ => Real.exp_pos _) (Finset.univ_nonempty_iff.2 ⟨⟨0, hn⟩⟩)

/-- Lowering every score by the same number divides the sum of the exponentials. -/
theorem sum_shift {n : ℕ} (f : Fin n → ℝ) (t : ℝ) : ∑ k, Real.exp (f k - t) = (∑ k, Real.exp (f k)) / Real.exp t := by
  simp only [Real.exp_sub, Finset.sum_div]

/-- The logarithm of the sum does not see it, -/
theorem shift_log {n : ℕ} (hn : 0 < n) (f : Fin n → ℝ) (t : ℝ) : t + Real.log (∑ k, Real.exp (f k - t)) = Real.log (∑ k, Real.exp (f k)) := by
  rw [sum_shift, Real.log_div (sum_pos hn f).ne' (Real.exp_pos t).ne', Real.log_exp]
  ring

/-- and nor do the weights. -/
theorem weight {n : ℕ} (hn : 0 < n) (f : Fin n → ℝ) (t : ℝ) (j : Fin n) :
    Real.exp (f j - t) * (1 / ∑ k, Real.exp (f k - t)) = Real.exp (f j - Real.log (∑ k, Real.exp (f k))) := by
  rw [sum_shift, Real.exp_sub, Real.exp_sub, Real.exp_log (sum_pos hn f)]
  field_simp

/-! ## 2304 keys -/

/-- The scores of a tile's rows, -/
def TL (q : FVec Ideal S256x256 .bf16) (k : Vec Ideal S1x2304x256 .bf16) : FVec Ideal S256x2304 .f32 :=
  have kk : FVec Ideal S2304x256 .bf16 := shapeCast S2304x256 k shapeCasts_S1x2304x256_S2304x256
  mulf (matmul dot_S256x256_S2304x256_S256x2304_1_1_0_0_n_n none q kk (constant S256x2304 .f32 0x00000000#32)) (broadcast S256x2304 (Scalar.ofBits .f32 0x3D93CD3A#32 : Ideal .f32))

/-- the largest of each row, -/
def ML (s : FVec Ideal S256x2304 .f32) : FVec Ideal S256x1 .f32 :=
  shapeCast S256x1 (multiReduction .maximumf [1] S256 s 0xFF800000#32 reduces_S256x2304_S256 (.inl rfl) rfl) shapeCasts_S256_S256x1

/-- the exponentials below it, -/
def EL (s : FVec Ideal S256x2304 .f32) (t : FVec Ideal S256x1 .f32) : FVec Ideal S256x2304 .f32 := exp (subf s (broadcastTo S256x2304 t broadcasts_S256x1_S256x2304))

/-- their sums, -/
def ZL (e : FVec Ideal S256x2304 .f32) : FVec Ideal S256x1 .f32 :=
  shapeCast S256x1 (multiReduction .add [1] S256 e 0x00000000#32 reduces_S256x2304_S256 (.inl rfl) rfl) shapeCasts_S256_S256x1

/-- the rows of the output, -/
def OL (s : FVec Ideal S256x2304 .f32) (v : Vec Ideal S1x2304x128 .bf16) : FVec Ideal S1x256x128 .bf16 :=
  have e : FVec Ideal S256x2304 .f32 := EL s (ML s)
  have i : FVec Ideal S256x1 .f32 := divf (broadcast S256x1 (Scalar.ofBits .f32 0x3F800000#32 : Ideal .f32)) (ZL e)
  have p : FVec Ideal S256x2304 .bf16 := truncf .bf16 (mulf e (broadcastTo S256x2304 i broadcasts_S256x1_S256x2304)) bitsLt_bf16_f32
  have vv : FVec Ideal S2304x128 .bf16 := shapeCast S2304x128 v shapeCasts_S1x2304x128_S2304x128
  shapeCast S1x256x128 (truncf .bf16 (matmul dot_S256x2304_S2304x128_S256x128_1_0_0_1_n_n none p vv (constant S256x128 .f32 0x00000000#32)) bitsLt_bf16_f32) shapeCasts_S256x128_S1x256x128

/-- and the logarithms of the sums. -/
def LL (s : FVec Ideal S256x2304 .f32) : FVec Ideal S1x256x1 .f32 :=
  shapeCast S1x256x1 (addf (ML s) (log (ZL (EL s (ML s))))) shapeCasts_S256x1_S1x256x1

theorem TL_fin {q k} {q' k' : ℕ → ℕ → ℝ} (hq : R2 q q') (hk : R1 k k') : R2 (TL q k) fun r j => (∑ d : Fin 256, q' r d * k' j d) * c := by
  intro i j
  pointwise [TL]
  simp only [hq _ _, hk _ _, scale_eq, ← EReal.coe_mul, coe_sum]

theorem ML_fin {s} {s' : ℕ → ℕ → ℝ} (hs : R2 s s') : ∃ t : ℕ → ℝ, R2 (ML s) fun r _ => t r := by
  have key : ∀ i : Fin 256, ∃ t : ℝ, ML s (ix2 i 0) = ((t : ℝ) : EReal) := by
    intro i
    pointwise [ML]
    simp only [hs _ _]
    exact fold_max (by norm_num) _
  choose t ht using key
  refine ⟨fun r => if h : r < 256 then t ⟨r, h⟩ else 0, fun i j => ?_⟩
  rw [Subsingleton.elim j 0, ht i]
  show _ = ((if h : i.val < 256 then t ⟨i.val, h⟩ else 0 : ℝ) : EReal)
  rw [dif_pos i.2]

theorem EL_fin {s t} {s' : ℕ → ℕ → ℝ} {t' : ℕ → ℝ} (hs : R2 s s') (ht : R2 t fun r _ => t' r) : R2 (EL s t) fun r j => Real.exp (s' r j - t' r) := by
  intro i j
  pointwise [EL]
  rw [hs _ _, ht i 0, ← EReal.coe_sub, Ideal.exp_coe]

theorem ZL_fin {e} {e' : ℕ → ℕ → ℝ} (he : R2 e e') : R2 (ZL e) fun r _ => ∑ j : Fin 2304, e' r j := by
  intro i j
  pointwise [ZL]
  simp only [he _ _, coe_sum]

theorem OL_fin {s v} {s' v' : ℕ → ℕ → ℝ} (hs : R2 s s') (hv : R1 v v') :
    R1 (OL s v) fun r x => ∑ j : Fin 2304, Real.exp (s' r j - Real.log (∑ k : Fin 2304, Real.exp (s' r k))) * v' j x := by
  obtain ⟨t, ht⟩ := ML_fin hs
  have he := EL_fin hs ht
  have hz := ZL_fin he
  intro i j
  pointwise [OL]
  simp only [he _ _, hv _ _]
  rw [hz i 0]
  rw [div_one_coe (sum_pos (by norm_num) (fun k : Fin 2304 => s' i k - t i)).ne']
  simp only [← EReal.coe_mul, coe_sum]
  exact congrArg _ (Finset.sum_congr rfl fun k _ => congrArg (· * v' k j) (weight (by norm_num) (fun k : Fin 2304 => s' i k) (t i) k))

theorem LL_fin {s} {s' : ℕ → ℕ → ℝ} (hs : R2 s s') : R1 (LL s) fun r _ => Real.log (∑ k : Fin 2304, Real.exp (s' r k)) := by
  obtain ⟨t, ht⟩ := ML_fin hs
  have hz := ZL_fin (EL_fin hs ht)
  intro i j
  pointwise [LL]
  rw [ht i 0, hz i 0, Ideal.log_coe, if_neg (not_le.2 (sum_pos (by norm_num) (fun k : Fin 2304 => s' i k - t i))), ← EReal.coe_add]
  exact congrArg _ (shift_log (by norm_num) (fun k : Fin 2304 => s' i k) (t i))

/-! ## 256 keys -/

/-- The scores of a tile's rows, -/
def TC (q : FVec Ideal S256x256 .bf16) (k : Vec Ideal S1x256x256 .bf16) : FVec Ideal S256x256 .f32 :=
  have kk : FVec Ideal S256x256 .bf16 := shapeCast S256x256 k shapeCasts_S1x256x256_S256x256
  mulf (matmul dot_S256x256_S256x256_S256x256_1_1_0_0_n_n none q kk (constant S256x256 .f32 0x00000000#32)) (broadcast S256x256 (Scalar.ofBits .f32 0x3D93CD3A#32 : Ideal .f32))

/-- the largest of each row, -/
def MC (s : FVec Ideal S256x256 .f32) : FVec Ideal S256x1 .f32 :=
  shapeCast S256x1 (multiReduction .maximumf [1] S256 s 0xFF800000#32 reduces_S256x256_S256 (.inl rfl) rfl) shapeCasts_S256_S256x1

/-- the exponentials below it, -/
def EC (s : FVec Ideal S256x256 .f32) (t : FVec Ideal S256x1 .f32) : FVec Ideal S256x256 .f32 := exp (subf s (broadcastTo S256x256 t broadcasts_S256x1_S256x256))

/-- their sums, -/
def ZC (e : FVec Ideal S256x256 .f32) : FVec Ideal S256x1 .f32 :=
  shapeCast S256x1 (multiReduction .add [1] S256 e 0x00000000#32 reduces_S256x256_S256 (.inl rfl) rfl) shapeCasts_S256_S256x1

/-- the rows of the output, -/
def OC (s : FVec Ideal S256x256 .f32) (v : Vec Ideal S1x256x128 .bf16) : FVec Ideal S1x256x128 .bf16 :=
  have e : FVec Ideal S256x256 .f32 := EC s (MC s)
  have i : FVec Ideal S256x1 .f32 := divf (broadcast S256x1 (Scalar.ofBits .f32 0x3F800000#32 : Ideal .f32)) (ZC e)
  have p : FVec Ideal S256x256 .bf16 := truncf .bf16 (mulf e (broadcastTo S256x256 i broadcasts_S256x1_S256x256)) bitsLt_bf16_f32
  have vv : FVec Ideal S256x128 .bf16 := shapeCast S256x128 v shapeCasts_S1x256x128_S256x128
  shapeCast S1x256x128 (truncf .bf16 (matmul dot_S256x256_S256x128_S256x128_1_0_0_1_n_n none p vv (constant S256x128 .f32 0x00000000#32)) bitsLt_bf16_f32) shapeCasts_S256x128_S1x256x128

/-- and the logarithms of the sums. -/
def LC (s : FVec Ideal S256x256 .f32) : FVec Ideal S1x256x1 .f32 :=
  shapeCast S1x256x1 (addf (MC s) (log (ZC (EC s (MC s))))) shapeCasts_S256x1_S1x256x1

theorem TC_fin {q k} {q' k' : ℕ → ℕ → ℝ} (hq : R2 q q') (hk : R1 k k') : R2 (TC q k) fun r j => (∑ d : Fin 256, q' r d * k' j d) * c := by
  intro i j
  pointwise [TC]
  simp only [hq _ _, hk _ _, scale_eq, ← EReal.coe_mul, coe_sum]

theorem MC_fin {s} {s' : ℕ → ℕ → ℝ} (hs : R2 s s') : ∃ t : ℕ → ℝ, R2 (MC s) fun r _ => t r := by
  have key : ∀ i : Fin 256, ∃ t : ℝ, MC s (ix2 i 0) = ((t : ℝ) : EReal) := by
    intro i
    pointwise [MC]
    simp only [hs _ _]
    exact fold_max (by norm_num) _
  choose t ht using key
  refine ⟨fun r => if h : r < 256 then t ⟨r, h⟩ else 0, fun i j => ?_⟩
  rw [Subsingleton.elim j 0, ht i]
  show _ = ((if h : i.val < 256 then t ⟨i.val, h⟩ else 0 : ℝ) : EReal)
  rw [dif_pos i.2]

theorem EC_fin {s t} {s' : ℕ → ℕ → ℝ} {t' : ℕ → ℝ} (hs : R2 s s') (ht : R2 t fun r _ => t' r) : R2 (EC s t) fun r j => Real.exp (s' r j - t' r) := by
  intro i j
  pointwise [EC]
  rw [hs _ _, ht i 0, ← EReal.coe_sub, Ideal.exp_coe]

theorem ZC_fin {e} {e' : ℕ → ℕ → ℝ} (he : R2 e e') : R2 (ZC e) fun r _ => ∑ j : Fin 256, e' r j := by
  intro i j
  pointwise [ZC]
  simp only [he _ _, coe_sum]

theorem OC_fin {s v} {s' v' : ℕ → ℕ → ℝ} (hs : R2 s s') (hv : R1 v v') :
    R1 (OC s v) fun r x => ∑ j : Fin 256, Real.exp (s' r j - Real.log (∑ k : Fin 256, Real.exp (s' r k))) * v' j x := by
  obtain ⟨t, ht⟩ := MC_fin hs
  have he := EC_fin hs ht
  have hz := ZC_fin he
  intro i j
  pointwise [OC]
  simp only [he _ _, hv _ _]
  rw [hz i 0]
  rw [div_one_coe (sum_pos (by norm_num) (fun k : Fin 256 => s' i k - t i)).ne']
  simp only [← EReal.coe_mul, coe_sum]
  exact congrArg _ (Finset.sum_congr rfl fun k _ => congrArg (· * v' k j) (weight (by norm_num) (fun k : Fin 256 => s' i k) (t i) k))

theorem LC_fin {s} {s' : ℕ → ℕ → ℝ} (hs : R2 s s') : R1 (LC s) fun r _ => Real.log (∑ k : Fin 256, Real.exp (s' r k)) := by
  obtain ⟨t, ht⟩ := MC_fin hs
  have hz := ZC_fin (EC_fin hs ht)
  intro i j
  pointwise [LC]
  rw [ht i 0, hz i 0, Ideal.log_coe, if_neg (not_le.2 (sum_pos (by norm_num) (fun k : Fin 256 => s' i k - t i))), ← EReal.coe_add]
  exact congrArg _ (shift_log (by norm_num) (fun k : Fin 256 => s' i k) (t i))

end Cert.AttIdeal.Head
-- ==== Proof.AttTile.lean ====
/-
  A tile's stores in the forward pass, and what one grid point leaves.
-/
module
public import proofs.«01_k».proof.Proof.AttHead
public import Idealize.ShloMosaic.Lib.Pipeline.ReadBack
@[expose] public section
set_option maxRecDepth 16384
noncomputable section
namespace Cert.AttIdeal.Head
open Cert.AttIdeal Cert.AttIdeal.Gen Cert.Attn Idealize.ShloMosaic Idealize.ShloMosaic.TcCoe Idealize.SL.Sem
open Cert.KernelIdeal.Head (qE qO qL0 kL0 qL0_fin kL0_fin qL1 kL1 qL1_fin kL1_fin qL2 kL2 qL2_fin kL2_fin qL3 kL3 qL3_fin kL3_fin qC0 kC0 qC0_fin kC0_fin qC1 kC1 qC1_fin kC1_fin qC2 kC2 qC2_fin kC2_fin qC3 kC3 qC3_fin kC3_fin piece_of arr mem_block scratch scratch_fin)

/-- The logarithm of a row's sum of exponentials, over the `nk` keys that start at `a`, -/
def lsk (nk a : ℕ) (q kv kp : ℕ → ℕ → ℝ) (r h : ℕ) : ℝ := Real.log (∑ x : Fin nk, Real.exp (sc q kv kp h r (a + x)))

/-- and the weighted sum of the values. -/
def ov (nk a : ℕ) (q kv kp : ℕ → ℕ → ℝ) (r x : ℕ) : ℝ :=
  ∑ j : Fin nk, Real.exp (sc q kv kp (x / 128) r (a + j) - lsk nk a q kv kp r (x / 128)) * kv (a + j) (256 * (x / 128) + 128 + x % 128)

theorem soft (nk a h : ℕ) (q kv kp : ℕ → ℕ → ℝ) {i i' j : ℕ} (hi : i' = 0 + i) (hj : j < 128) {x : ℕ} (hx : x = 128 * h + j) :
    (∑ k : Fin nk, Real.exp (sc q kv kp h i (a + k) - Real.log (∑ y : Fin nk, Real.exp (sc q kv kp h i (a + y)))) * kv (a + k) (256 * h + 128 + j)) = ov nk a q kv kp i' x := by
  obtain rfl : i' = i := by omega
  subst hx
  unfold ov lsk
  rw [show (128 * h + j) / 128 = h by omega, show (128 * h + j) % 128 = j by omega]

/-! ## 2304 keys -/

theorem o0_L (rp nq k v) : k0_pay22 (F := Ideal) rp nq k v = OL (TL (qE rp nq) k) v := rfl

theorem l0_L (rp nq k) : k0_pay23 (F := Ideal) (k0_pay19 (F := Ideal) rp nq k) (k0_pay21 (F := Ideal) rp nq k) = LL (TL (qE rp nq) k) := rfl

theorem o1_L (rp nq k v) : k0_pay30 (F := Ideal) (k0_pay28 (F := Ideal) rp nq k) (k0_pay29 (F := Ideal) v) (constant S256x128 .f32 0x00000000#32) = OL (TL (qO rp nq) k) v := rfl

theorem l1_L (rp nq k) : k0_pay31 (F := Ideal) (k0_pay25 (F := Ideal) rp nq k) (k0_pay27 (F := Ideal) rp nq k) = LL (TL (qO rp nq) k) := rfl

theorem o2_L (rp nq k v) : k0_pay37 (F := Ideal) (k0_pay34 (F := Ideal) rp nq k) (k0_pay36 (F := Ideal) rp nq k) v = OL (TL (qE rp nq) k) v := rfl

theorem l2_L (rp nq k) : k0_pay38 (F := Ideal) (k0_pay33 (F := Ideal) rp nq k) (k0_pay35 (F := Ideal) rp nq k) = LL (TL (qE rp nq) k) := rfl

theorem o3_L (rp nq k v) : k0_pay7 (F := Ideal) (k0_pay39 (F := Ideal) rp nq k) (k0_pay40 (F := Ideal) rp nq k) v = OL (TL (qO rp nq) k) v := rfl

theorem l3_L (rp nq k) : k0_pay8 (F := Ideal) (k0_pay39 (F := Ideal) rp nq k) (k0_pay40 (F := Ideal) rp nq k) = LL (TL (qO rp nq) k) := rfl

theorem sL0_fin {q kv kp : ℕ → ℕ → ℝ} {x0 K} (h0 : R1 x0 q) (hK : R3 K (kc kv kp)) : R2 (TL (qL0 x0) (kL0 K)) fun r j => sc q kv kp 0 r (0 + j) :=
  TL_fin (qL0_fin h0) (kL0_fin hK)

theorem sL1_fin {q kv kp : ℕ → ℕ → ℝ} {x0 K} (h0 : R1 x0 q) (hK : R3 K (kc kv kp)) : R2 (TL (qL1 x0) (kL1 K)) fun r j => sc q kv kp 1 r (0 + j) :=
  TL_fin (qL1_fin h0) (kL1_fin hK)

theorem sL2_fin {q kv kp : ℕ → ℕ → ℝ} {x0 K} (h0 : R1 x0 q) (hK : R3 K (kc kv kp)) : R2 (TL (qL2 x0) (kL2 K)) fun r j => sc q kv kp 2 r (0 + j) :=
  TL_fin (qL2_fin h0) (kL2_fin hK)

theorem sL3_fin {q kv kp : ℕ → ℕ → ℝ} {x0 K} (h0 : R1 x0 q) (hK : R3 K (kc kv kp)) : R2 (TL (qL3 x0) (kL3 K)) fun r j => sc q kv kp 3 r (0 + j) :=
  TL_fin (qL3_fin h0) (kL3_fin hK)

/-- The stores to the output, newest first, -/
def out3L (x0 : Vec Ideal S1x256x768 .bf16) (x1 : Vec Ideal S1x2304x1024 .bf16) (K : Vec Ideal S4x2304x256 .bf16) : List (View.Piece (Elt Ideal) S1x256x512 .bf16) :=
  [⟨Rect.unit ![0, 0, 384] ![1, 256, 128] inb_S1x256x512_S1x256x128_0_0_384, OL (TL (qL3 x0) (kL3 K)) (View.ld x1 (Rect.unit ![0, 0, 896] ![1, 2304, 128] inb_S1x2304x1024_S1x2304x128_0_0_896))⟩,
    ⟨Rect.unit ![0, 0, 256] ![1, 256, 128] inb_S1x256x512_S1x256x128_0_0_256, OL (TL (qL2 x0) (kL2 K)) (View.ld x1 (Rect.unit ![0, 0, 640] ![1, 2304, 128] inb_S1x2304x1024_S1x2304x128_0_0_640))⟩,
    ⟨Rect.unit ![0, 0, 128] ![1, 256, 128] inb_S1x256x512_S1x256x128_0_0_128, OL (TL (qL1 x0) (kL1 K)) (View.ld x1 (Rect.unit ![0, 0, 384] ![1, 2304, 128] inb_S1x2304x1024_S1x2304x128_0_0_384))⟩,
    ⟨Rect.unit ![0, 0, 0] ![1, 256, 128] inb_S1x256x512_S1x256x128_0_0_0, OL (TL (qL0 x0) (kL0 K)) (View.ld x1 (Rect.unit ![0, 0, 128] ![1, 2304, 128] inb_S1x2304x1024_S1x2304x128_0_0_128))⟩]

/-- and to the logarithms of the sums. -/
def out4L (x0 : Vec Ideal S1x256x768 .bf16) (K : Vec Ideal S4x2304x256 .bf16) : List (View.Piece (Elt Ideal) S1x256x4 .f32) :=
  [⟨Rect.unit ![0, 0, 3] ![1, 256, 1] inb_S1x256x4_S1x256x1_0_0_3, LL (TL (qL3 x0) (kL3 K))⟩,
    ⟨Rect.unit ![0, 0, 2] ![1, 256, 1] inb_S1x256x4_S1x256x1_0_0_2, LL (TL (qL2 x0) (kL2 K))⟩,
    ⟨Rect.unit ![0, 0, 1] ![1, 256, 1] inb_S1x256x4_S1x256x1_0_0_1, LL (TL (qL1 x0) (kL1 K))⟩,
    ⟨Rect.unit ![0, 0, 0] ![1, 256, 1] inb_S1x256x4_S1x256x1_0_0_0, LL (TL (qL0 x0) (kL0 K))⟩]

theorem out3L_fin {q kv kp : ℕ → ℕ → ℝ} {x0 x1 K} (h0 : R1 x0 q) (h1 : R1 x1 kv) (hK : R3 K (kc kv kp)) : View.PiecesOf (arr (ov 2304 0 q kv kp)) (out3L x0 x1 K) :=
  ⟨piece_of (OL_fin (sL3_fin h0 hK) (v' := fun j x => kv (0 + j) (256 * 3 + 128 + x)) (h1.ldTo _ fun i j => by simp)) inb_S1x256x512_S1x256x128_0_0_384 (fun i j _ hj => soft 2304 0 3 q kv kp rfl hj rfl),
    piece_of (OL_fin (sL2_fin h0 hK) (v' := fun j x => kv (0 + j) (256 * 2 + 128 + x)) (h1.ldTo _ fun i j => by simp)) inb_S1x256x512_S1x256x128_0_0_256 (fun i j _ hj => soft 2304 0 2 q kv kp rfl hj rfl),
    piece_of (OL_fin (sL1_fin h0 hK) (v' := fun j x => kv (0 + j) (256 * 1 + 128 + x)) (h1.ldTo _ fun i j => by simp)) inb_S1x256x512_S1x256x128_0_0_128 (fun i j _ hj => soft 2304 0 1 q kv kp rfl hj rfl),
    piece_of (OL_fin (sL0_fin h0 hK) (v' := fun j x => kv (0 + j) (256 * 0 + 128 + x)) (h1.ldTo _ fun i j => by simp)) inb_S1x256x512_S1x256x128_0_0_0 (fun i j _ hj => soft 2304 0 0 q kv kp rfl hj rfl), trivial⟩

theorem out4L_fin {q kv kp : ℕ → ℕ → ℝ} {x0 K} (h0 : R1 x0 q) (hK : R3 K (kc kv kp)) : View.PiecesOf (arr (lsk 2304 0 q kv kp)) (out4L x0 K) :=
  ⟨piece_of (LL_fin (sL3_fin h0 hK)) inb_S1x256x4_S1x256x1_0_0_3 (fun i j _ hj => by rw [show j = 0 from Nat.lt_one_iff.1 hj, Nat.zero_add]; rfl),
    piece_of (LL_fin (sL2_fin h0 hK)) inb_S1x256x4_S1x256x1_0_0_2 (fun i j _ hj => by rw [show j = 0 from Nat.lt_one_iff.1 hj, Nat.zero_add]; rfl),
    piece_of (LL_fin (sL1_fin h0 hK)) inb_S1x256x4_S1x256x1_0_0_1 (fun i j _ hj => by rw [show j = 0 from Nat.lt_one_iff.1 hj, Nat.zero_add]; rfl),
    piece_of (LL_fin (sL0_fin h0 hK)) inb_S1x256x4_S1x256x1_0_0_0 (fun i j _ hj => by rw [show j = 0 from Nat.lt_one_iff.1 hj, Nat.zero_add]; rfl), trivial⟩

theorem cover3L (x0 x1 K) (i : Fin 256) (j : Fin 512) : ∃ p ∈ out3L x0 x1 K, (ix3 0 i j : S1x256x512.Idx) ∈ p.1.set := by
  have hi := i.2
  have hj := j.2
  have h : j.val / 128 = 0 ∨ j.val / 128 = 1 ∨ j.val / 128 = 2 ∨ j.val / 128 = 3 := by omega
  rcases h with h | h | h | h
  · exact ⟨_, (List.Mem.tail _ (List.Mem.tail _ (List.Mem.tail _ (List.Mem.head _)))), mem_block inb_S1x256x512_S1x256x128_0_0_0 _ _ _ rfl (by omega) (by omega)⟩
  · exact ⟨_, (List.Mem.tail _ (List.Mem.tail _ (List.Mem.head _))), mem_block inb_S1x256x512_S1x256x128_0_0_128 _ _ _ rfl (by omega) (by omega)⟩
  · exact ⟨_, (List.Mem.tail _ (List.Mem.head _)), mem_block inb_S1x256x512_S1x256x128_0_0_256 _ _ _ rfl (by omega) (by omega)⟩
  · exact ⟨_, (List.Mem.head _), mem_block inb_S1x256x512_S1x256x128_0_0_384 _ _ _ rfl (by omega) (by omega)⟩

theorem cover4L (x0 K) (i : Fin 256) (j : Fin 4) : ∃ p ∈ out4L x0 K, (ix3 0 i j : S1x256x4.Idx) ∈ p.1.set := by
  have hi := i.2
  have hj := j.2
  have h : j.val = 0 ∨ j.val = 1 ∨ j.val = 2 ∨ j.val = 3 := by omega
  rcases h with h | h | h | h
  · exact ⟨_, (List.Mem.tail _ (List.Mem.tail _ (List.Mem.tail _ (List.Mem.head _)))), mem_block inb_S1x256x4_S1x256x1_0_0_0 _ _ _ rfl (by omega) (by omega)⟩
  · exact ⟨_, (List.Mem.tail _ (List.Mem.tail _ (List.Mem.head _))), mem_block inb_S1x256x4_S1x256x1_0_0_1 _ _ _ rfl (by omega) (by omega)⟩
  · exact ⟨_, (List.Mem.tail _ (List.Mem.head _)), mem_block inb_S1x256x4_S1x256x1_0_0_2 _ _ _ rfl (by omega) (by omega)⟩
  · exact ⟨_, (List.Mem.head _), mem_block inb_S1x256x4_S1x256x1_0_0_3 _ _ _ rfl (by omega) (by omega)⟩

/-! ## 256 keys -/

theorem o0_C (rp nq k v) : k0_pay45 (F := Ideal) rp nq k v = OC (TC (qE rp nq) k) v := rfl

theorem l0_C (rp nq k) : k0_pay46 (F := Ideal) (k0_pay42 (F := Ideal) rp nq k) (k0_pay44 (F := Ideal) rp nq k) = LC (TC (qE rp nq) k) := rfl

theorem o1_C (rp nq k v) : k0_pay53 (F := Ideal) (k0_pay51 (F := Ideal) rp nq k) (k0_pay52 (F := Ideal) v) (constant S256x128 .f32 0x00000000#32) = OC (TC (qO rp nq) k) v := rfl

theorem l1_C (rp nq k) : k0_pay54 (F := Ideal) (k0_pay48 (F := Ideal) rp nq k) (k0_pay50 (F := Ideal) rp nq k) = LC (TC (qO rp nq) k) := rfl

theorem o2_C (rp nq k v) : k0_pay60 (F := Ideal) (k0_pay57 (F := Ideal) rp nq k) (k0_pay59 (F := Ideal) rp nq k) v = OC (TC (qE rp nq) k) v := rfl

theorem l2_C (rp nq k) : k0_pay61 (F := Ideal) (k0_pay56 (F := Ideal) rp nq k) (k0_pay58 (F := Ideal) rp nq k) = LC (TC (qE rp nq) k) := rfl

theorem o3_C (rp nq k v) : k0_pay11 (F := Ideal) (k0_pay62 (F := Ideal) rp nq k) (k0_pay63 (F := Ideal) rp nq k) v = OC (TC (qO rp nq) k) v := rfl

theorem l3_C (rp nq k) : k0_pay12 (F := Ideal) (k0_pay62 (F := Ideal) rp nq k) (k0_pay63 (F := Ideal) rp nq k) = LC (TC (qO rp nq) k) := rfl

theorem sC0_fin {q kv kp : ℕ → ℕ → ℝ} {x0 K} (h0 : R1 x0 q) (hK : R3 K (kc kv kp)) : R2 (TC (qC0 x0) (kC0 K)) fun r j => sc q kv kp 0 r (2048 + j) :=
  TC_fin (qC0_fin h0) (kC0_fin hK)

theorem sC1_fin {q kv kp : ℕ → ℕ → ℝ} {x0 K} (h0 : R1 x0 q) (hK : R3 K (kc kv kp)) : R2 (TC (qC1 x0) (kC1 K)) fun r j => sc q kv kp 1 r (2048 + j) :=
  TC_fin (qC1_fin h0) (kC1_fin hK)

theorem sC2_fin {q kv kp : ℕ → ℕ → ℝ} {x0 K} (h0 : R1 x0 q) (hK : R3 K (kc kv kp)) : R2 (TC (qC2 x0) (kC2 K)) fun r j => sc q kv kp 2 r (2048 + j) :=
  TC_fin (qC2_fin h0) (kC2_fin hK)

theorem sC3_fin {q kv kp : ℕ → ℕ → ℝ} {x0 K} (h0 : R1 x0 q) (hK : R3 K (kc kv kp)) : R2 (TC (qC3 x0) (kC3 K)) fun r j => sc q kv kp 3 r (2048 + j) :=
  TC_fin (qC3_fin h0) (kC3_fin hK)

/-- The stores to the output, newest first, -/
def out3C (x0 : Vec Ideal S1x256x768 .bf16) (x1 : Vec Ideal S1x2304x1024 .bf16) (K : Vec Ideal S4x2304x256 .bf16) : List (View.Piece (Elt Ideal) S1x256x512 .bf16) :=
  [⟨Rect.unit ![0, 0, 384] ![1, 256, 128] inb_S1x256x512_S1x256x128_0_0_384, OC (TC (qC3 x0) (kC3 K)) (View.ld x1 (Rect.unit ![0, 2048, 896] ![1, 256, 128] inb_S1x2304x1024_S1x256x128_0_2048_896))⟩,
    ⟨Rect.unit ![0, 0, 256] ![1, 256, 128] inb_S1x256x512_S1x256x128_0_0_256, OC (TC (qC2 x0) (kC2 K)) (View.ld x1 (Rect.unit ![0, 2048, 640] ![1, 256, 128] inb_S1x2304x1024_S1x256x128_0_2048_640))⟩,
    ⟨Rect.unit ![0, 0, 128] ![1, 256, 128] inb_S1x256x512_S1x256x128_0_0_128, OC (TC (qC1 x0) (kC1 K)) (View.ld x1 (Rect.unit ![0, 2048, 384] ![1, 256, 128] inb_S1x2304x1024_S1x256x128_0_2048_384))⟩,
    ⟨Rect.unit ![0, 0, 0] ![1, 256, 128] inb_S1x256x512_S1x256x128_0_0_0, OC (TC (qC0 x0) (kC0 K)) (View.ld x1 (Rect.unit ![0, 2048, 128] ![1, 256, 128] inb_S1x2304x1024_S1x256x128_0_2048_128))⟩]

/-- and to the logarithms of the sums. -/
def out4C (x0 : Vec Ideal S1x256x768 .bf16) (K : Vec Ideal S4x2304x256 .bf16) : List (View.Piece (Elt Ideal) S1x256x4 .f32) :=
  [⟨Rect.unit ![0, 0, 3] ![1, 256, 1] inb_S1x256x4_S1x256x1_0_0_3, LC (TC (qC3 x0) (kC3 K))⟩,
    ⟨Rect.unit ![0, 0, 2] ![1, 256, 1] inb_S1x256x4_S1x256x1_0_0_2, LC (TC (qC2 x0) (kC2 K))⟩,
    ⟨Rect.unit ![0, 0, 1] ![1, 256, 1] inb_S1x256x4_S1x256x1_0_0_1, LC (TC (qC1 x0) (kC1 K))⟩,
    ⟨Rect.unit ![0, 0, 0] ![1, 256, 1] inb_S1x256x4_S1x256x1_0_0_0, LC (TC (qC0 x0) (kC0 K))⟩]

theorem out3C_fin {q kv kp : ℕ → ℕ → ℝ} {x0 x1 K} (h0 : R1 x0 q) (h1 : R1 x1 kv) (hK : R3 K (kc kv kp)) : View.PiecesOf (arr (ov 256 2048 q kv kp)) (out3C x0 x1 K) :=
  ⟨piece_of (OC_fin (sC3_fin h0 hK) (v' := fun j x => kv (2048 + j) (256 * 3 + 128 + x)) (h1.ldTo _ fun i j => by simp)) inb_S1x256x512_S1x256x128_0_0_384 (fun i j _ hj => soft 256 2048 3 q kv kp rfl hj rfl),
    piece_of (OC_fin (sC2_fin h0 hK) (v' := fun j x => kv (2048 + j) (256 * 2 + 128 + x)) (h1.ldTo _ fun i j => by simp)) inb_S1x256x512_S1x256x128_0_0_256 (fun i j _ hj => soft 256 2048 2 q kv kp rfl hj rfl),
    piece_of (OC_fin (sC1_fin h0 hK) (v' := fun j x => kv (2048 + j) (256 * 1 + 128 + x)) (h1.ldTo _ fun i j => by simp)) inb_S1x256x512_S1x256x128_0_0_128 (fun i j _ hj => soft 256 2048 1 q kv kp rfl hj rfl),
    piece_of (OC_fin (sC0_fin h0 hK) (v' := fun j x => kv (2048 + j) (256 * 0 + 128 + x)) (h1.ldTo _ fun i j => by simp)) inb_S1x256x512_S1x256x128_0_0_0 (fun i j _ hj => soft 256 2048 0 q kv kp rfl hj rfl), trivial⟩

theorem out4C_fin {q kv kp : ℕ → ℕ → ℝ} {x0 K} (h0 : R1 x0 q) (hK : R3 K (kc kv kp)) : View.PiecesOf (arr (lsk 256 2048 q kv kp)) (out4C x0 K) :=
  ⟨piece_of (LC_fin (sC3_fin h0 hK)) inb_S1x256x4_S1x256x1_0_0_3 (fun i j _ hj => by rw [show j = 0 from Nat.lt_one_iff.1 hj, Nat.zero_add]; rfl),
    piece_of (LC_fin (sC2_fin h0 hK)) inb_S1x256x4_S1x256x1_0_0_2 (fun i j _ hj => by rw [show j = 0 from Nat.lt_one_iff.1 hj, Nat.zero_add]; rfl),
    piece_of (LC_fin (sC1_fin h0 hK)) inb_S1x256x4_S1x256x1_0_0_1 (fun i j _ hj => by rw [show j = 0 from Nat.lt_one_iff.1 hj, Nat.zero_add]; rfl),
    piece_of (LC_fin (sC0_fin h0 hK)) inb_S1x256x4_S1x256x1_0_0_0 (fun i j _ hj => by rw [show j = 0 from Nat.lt_one_iff.1 hj, Nat.zero_add]; rfl), trivial⟩

theorem cover3C (x0 x1 K) (i : Fin 256) (j : Fin 512) : ∃ p ∈ out3C x0 x1 K, (ix3 0 i j : S1x256x512.Idx) ∈ p.1.set := by
  have hi := i.2
  have hj := j.2
  have h : j.val / 128 = 0 ∨ j.val / 128 = 1 ∨ j.val / 128 = 2 ∨ j.val / 128 = 3 := by omega
  rcases h with h | h | h | h
  · exact ⟨_, (List.Mem.tail _ (List.Mem.tail _ (List.Mem.tail _ (List.Mem.head _)))), mem_block inb_S1x256x512_S1x256x128_0_0_0 _ _ _ rfl (by omega) (by omega)⟩
  · exact ⟨_, (List.Mem.tail _ (List.Mem.tail _ (List.Mem.head _))), mem_block inb_S1x256x512_S1x256x128_0_0_128 _ _ _ rfl (by omega) (by omega)⟩
  · exact ⟨_, (List.Mem.tail _ (List.Mem.head _)), mem_block inb_S1x256x512_S1x256x128_0_0_256 _ _ _ rfl (by omega) (by omega)⟩
  · exact ⟨_, (List.Mem.head _), mem_block inb_S1x256x512_S1x256x128_0_0_384 _ _ _ rfl (by omega) (by omega)⟩

theorem cover4C (x0 K) (i : Fin 256) (j : Fin 4) : ∃ p ∈ out4C x0 K, (ix3 0 i j : S1x256x4.Idx) ∈ p.1.set := by
  have hi := i.2
  have hj := j.2
  have h : j.val = 0 ∨ j.val = 1 ∨ j.val = 2 ∨ j.val = 3 := by omega
  rcases h with h | h | h | h
  · exact ⟨_, (List.Mem.tail _ (List.Mem.tail _ (List.Mem.tail _ (List.Mem.head _)))), mem_block inb_S1x256x4_S1x256x1_0_0_0 _ _ _ rfl (by omega) (by omega)⟩
  · exact ⟨_, (List.Mem.tail _ (List.Mem.tail _ (List.Mem.head _))), mem_block inb_S1x256x4_S1x256x1_0_0_1 _ _ _ rfl (by omega) (by omega)⟩
  · exact ⟨_, (List.Mem.tail _ (List.Mem.head _)), mem_block inb_S1x256x4_S1x256x1_0_0_2 _ _ _ rfl (by omega) (by omega)⟩
  · exact ⟨_, (List.Mem.head _), mem_block inb_S1x256x4_S1x256x1_0_0_3 _ _ _ rfl (by omega) (by omega)⟩

/-! ## One grid point -/

/-- A read of earlier stores, as a block of what they left. -/
theorem readCov_block {S : Shape} {e : EltTy} (v : View sig .tc .vmem S e) (L : List (View.Piece (Elt Ideal) S e)) (r : Rect S) :
    v.readCov L r.toLoadRect = View.ld (View.canon L) r := View.readCov_eq_canon' v L r.toLoadRect

theorem outA_s_fin {kv kp : ℕ → ℕ → ℝ} (c : Dev nD) (i : grid0.Coords) (arg2 : Memref sig .tc .vmem S1x256x768 .bf16) (harg2 : arg2.IsWhole) (arg3 : Memref sig .tc .vmem S1x2304x1024 .bf16) (harg3 : arg3.IsWhole) (arg4 : Memref sig .tc .vmem S1x2304x128 .bf16) (harg4 : arg4.IsWhole) (arg5 : Memref sig .tc .vmem S1x256x512 .bf16) (harg5 : arg5.IsWhole) (arg6 : Memref sig .tc .vmem S1x256x4 .f32) (harg6 : arg6.IsWhole) (arg7 : Memref sig .tc .vmem S4x2304x256 .bf16) (harg7 : arg7.IsWhole) (hc0 : cond0_0 i) (hc1 : cond0_1 i) (hc2 : ¬cond0_2 i)
    {x0 : Vec Ideal S1x256x768 .bf16} {x1 : Vec Ideal S1x2304x1024 .bf16} {x2 : Vec Ideal S1x2304x128 .bf16} (h1 : R1 x1 kv) (h2 : R1 x2 kp) :
    R3 (sout0_A_0 c i arg2 harg2 arg3 harg3 arg4 harg4 arg5 harg5 arg6 harg6 arg7 harg7 hc0 hc1 hc2 x0 x1 x2) (kc kv kp) := by
  intro z r j
  frame_out
  exact scratch_fin h1 h2 z r j

theorem outA_3_fin {q kv kp : ℕ → ℕ → ℝ} (c : Dev nD) (i : grid0.Coords) (arg2 : Memref sig .tc .vmem S1x256x768 .bf16) (harg2 : arg2.IsWhole) (arg3 : Memref sig .tc .vmem S1x2304x1024 .bf16) (harg3 : arg3.IsWhole) (arg4 : Memref sig .tc .vmem S1x2304x128 .bf16) (harg4 : arg4.IsWhole) (arg5 : Memref sig .tc .vmem S1x256x512 .bf16) (harg5 : arg5.IsWhole) (arg6 : Memref sig .tc .vmem S1x256x4 .f32) (harg6 : arg6.IsWhole) (arg7 : Memref sig .tc .vmem S4x2304x256 .bf16) (harg7 : arg7.IsWhole) (hc0 : cond0_0 i) (hc1 : cond0_1 i) (hc2 : ¬cond0_2 i)
    {x0 : Vec Ideal S1x256x768 .bf16} {x1 : Vec Ideal S1x2304x1024 .bf16} {x2 : Vec Ideal S1x2304x128 .bf16} (h0 : R1 x0 q) (h1 : R1 x1 kv) (h2 : R1 x2 kp) :
    R1 (out0_A_3 c i arg2 harg2 arg3 harg3 arg4 harg4 arg5 harg5 arg6 harg6 arg7 harg7 hc0 hc1 hc2 x0 x1 x2) (ov 2304 0 q kv kp) := by
  intro r j
  frame_out
  simp only [readCov_block arg7.view]
  obtain ⟨K, hKd⟩ : ∃ K, K = View.canon (scratch x1 x2) := ⟨_, rfl⟩
  have hK : R3 K (kc kv kp) := hKd ▸ scratch_fin h1 h2
  erw [hKd.symm]
  simp only [o0_L, o1_L, o2_L, o3_L]
  exact View.canon_apply_of_pieces _ (out3L x0 x1 K) (out3L_fin h0 h1 hK).mem _ (cover3L _ _ _ r j)

theorem outA_4_fin {q kv kp : ℕ → ℕ → ℝ} (c : Dev nD) (i : grid0.Coords) (arg2 : Memref sig .tc .vmem S1x256x768 .bf16) (harg2 : arg2.IsWhole) (arg3 : Memref sig .tc .vmem S1x2304x1024 .bf16) (harg3 : arg3.IsWhole) (arg4 : Memref sig .tc .vmem S1x2304x128 .bf16) (harg4 : arg4.IsWhole) (arg5 : Memref sig .tc .vmem S1x256x512 .bf16) (harg5 : arg5.IsWhole) (arg6 : Memref sig .tc .vmem S1x256x4 .f32) (harg6 : arg6.IsWhole) (arg7 : Memref sig .tc .vmem S4x2304x256 .bf16) (harg7 : arg7.IsWhole) (hc0 : cond0_0 i) (hc1 : cond0_1 i) (hc2 : ¬cond0_2 i)
    {x0 : Vec Ideal S1x256x768 .bf16} {x1 : Vec Ideal S1x2304x1024 .bf16} {x2 : Vec Ideal S1x2304x128 .bf16} (h0 : R1 x0 q) (h1 : R1 x1 kv) (h2 : R1 x2 kp) :
    R1 (out0_A_4 c i arg2 harg2 arg3 harg3 arg4 harg4 arg5 harg5 arg6 harg6 arg7 harg7 hc0 hc1 hc2 x0 x1 x2) (lsk 2304 0 q kv kp) := by
  intro r j
  frame_out
  simp only [readCov_block arg7.view]
  obtain ⟨K, hKd⟩ : ∃ K, K = View.canon (scratch x1 x2) := ⟨_, rfl⟩
  have hK : R3 K (kc kv kp) := hKd ▸ scratch_fin h1 h2
  erw [hKd.symm]
  simp only [l0_L, l1_L, l2_L, l3_L]
  exact View.canon_apply_of_pieces _ (out4L x0 K) (out4L_fin h0 hK).mem _ (cover4L _ _ r j)

theorem outB_3_fin {q kv kp : ℕ → ℕ → ℝ} (c : Dev nD) (i : grid0.Coords) (arg2 : Memref sig .tc .vmem S1x256x768 .bf16) (harg2 : arg2.IsWhole) (arg3 : Memref sig .tc .vmem S1x2304x1024 .bf16) (harg3 : arg3.IsWhole) (arg4 : Memref sig .tc .vmem S1x2304x128 .bf16) (harg4 : arg4.IsWhole) (arg5 : Memref sig .tc .vmem S1x256x512 .bf16) (harg5 : arg5.IsWhole) (arg6 : Memref sig .tc .vmem S1x256x4 .f32) (harg6 : arg6.IsWhole) (arg7 : Memref sig .tc .vmem S4x2304x256 .bf16) (harg7 : arg7.IsWhole) (hc0 : ¬cond0_0 i) (hc1 : cond0_1 i) (hc2 : ¬cond0_2 i)
    {x0 : Vec Ideal S1x256x768 .bf16} {x1 : Vec Ideal S1x2304x1024 .bf16} {x2 : Vec Ideal S1x2304x128 .bf16} {xs0 : Vec Ideal S4x2304x256 .bf16} (h0 : R1 x0 q) (h1 : R1 x1 kv) (hK : R3 xs0 (kc kv kp)) :
    R1 (out0_B_3 c i arg2 harg2 arg3 harg3 arg4 harg4 arg5 harg5 arg6 harg6 arg7 harg7 hc0 hc1 hc2 x0 x1 x2 xs0) (ov 2304 0 q kv kp) := by
  intro r j
  frame_out
  simp only [o0_L, o1_L, o2_L, o3_L]
  exact View.canon_apply_of_pieces _ (out3L x0 x1 xs0) (out3L_fin h0 h1 hK).mem _ (cover3L _ _ _ r j)

theorem outB_4_fin {q kv kp : ℕ → ℕ → ℝ} (c : Dev nD) (i : grid0.Coords) (arg2 : Memref sig .tc .vmem S1x256x768 .bf16) (harg2 : arg2.IsWhole) (arg3 : Memref sig .tc .vmem S1x2304x1024 .bf16) (harg3 : arg3.IsWhole) (arg4 : Memref sig .tc .vmem S1x2304x128 .bf16) (harg4 : arg4.IsWhole) (arg5 : Memref sig .tc .vmem S1x256x512 .bf16) (harg5 : arg5.IsWhole) (arg6 : Memref sig .tc .vmem S1x256x4 .f32) (harg6 : arg6.IsWhole) (arg7 : Memref sig .tc .vmem S4x2304x256 .bf16) (harg7 : arg7.IsWhole) (hc0 : ¬cond0_0 i) (hc1 : cond0_1 i) (hc2 : ¬cond0_2 i)
    {x0 : Vec Ideal S1x256x768 .bf16} {x1 : Vec Ideal S1x2304x1024 .bf16} {x2 : Vec Ideal S1x2304x128 .bf16} {xs0 : Vec Ideal S4x2304x256 .bf16} (h0 : R1 x0 q) (hK : R3 xs0 (kc kv kp)) :
    R1 (out0_B_4 c i arg2 harg2 arg3 harg3 arg4 harg4 arg5 harg5 arg6 harg6 arg7 harg7 hc0 hc1 hc2 x0 x1 x2 xs0) (lsk 2304 0 q kv kp) := by
  intro r j
  frame_out
  simp only [l0_L, l1_L, l2_L, l3_L]
  exact View.canon_apply_of_pieces _ (out4L x0 xs0) (out4L_fin h0 hK).mem _ (cover4L _ _ r j)

theorem outC_3_fin {q kv kp : ℕ → ℕ → ℝ} (c : Dev nD) (i : grid0.Coords) (arg2 : Memref sig .tc .vmem S1x256x768 .bf16) (harg2 : arg2.IsWhole) (arg3 : Memref sig .tc .vmem S1x2304x1024 .bf16) (harg3 : arg3.IsWhole) (arg4 : Memref sig .tc .vmem S1x2304x128 .bf16) (harg4 : arg4.IsWhole) (arg5 : Memref sig .tc .vmem S1x256x512 .bf16) (harg5 : arg5.IsWhole) (arg6 : Memref sig .tc .vmem S1x256x4 .f32) (harg6 : arg6.IsWhole) (arg7 : Memref sig .tc .vmem S4x2304x256 .bf16) (harg7 : arg7.IsWhole) (hc0 : ¬cond0_0 i) (hc1 : ¬cond0_1 i) (hc2 : cond0_2 i)
    {x0 : Vec Ideal S1x256x768 .bf16} {x1 : Vec Ideal S1x2304x1024 .bf16} {x2 : Vec Ideal S1x2304x128 .bf16} {xs0 : Vec Ideal S4x2304x256 .bf16} (h0 : R1 x0 q) (h1 : R1 x1 kv) (hK : R3 xs0 (kc kv kp)) :
    R1 (out0_C_3 c i arg2 harg2 arg3 harg3 arg4 harg4 arg5 harg5 arg6 harg6 arg7 harg7 hc0 hc1 hc2 x0 x1 x2 xs0) (ov 256 2048 q kv kp) := by
  intro r j
  frame_out
  simp only [o0_C, o1_C, o2_C, o3_C]
  exact View.canon_apply_of_pieces _ (out3C x0 x1 xs0) (out3C_fin h0 h1 hK).mem _ (cover3C _ _ _ r j)

theorem outC_4_fin {q kv kp : ℕ → ℕ → ℝ} (c : Dev nD) (i : grid0.Coords) (arg2 : Memref sig .tc .vmem S1x256x768 .bf16) (harg2 : arg2.IsWhole) (arg3 : Memref sig .tc .vmem S1x2304x1024 .bf16) (harg3 : arg3.IsWhole) (arg4 : Memref sig .tc .vmem S1x2304x128 .bf16) (harg4 : arg4.IsWhole) (arg5 : Memref sig .tc .vmem S1x256x512 .bf16) (harg5 : arg5.IsWhole) (arg6 : Memref sig .tc .vmem S1x256x4 .f32) (harg6 : arg6.IsWhole) (arg7 : Memref sig .tc .vmem S4x2304x256 .bf16) (harg7 : arg7.IsWhole) (hc0 : ¬cond0_0 i) (hc1 : ¬cond0_1 i) (hc2 : cond0_2 i)
    {x0 : Vec Ideal S1x256x768 .bf16} {x1 : Vec Ideal S1x2304x1024 .bf16} {x2 : Vec Ideal S1x2304x128 .bf16} {xs0 : Vec Ideal S4x2304x256 .bf16} (h0 : R1 x0 q) (hK : R3 xs0 (kc kv kp)) :
    R1 (out0_C_4 c i arg2 harg2 arg3 harg3 arg4 harg4 arg5 harg5 arg6 harg6 arg7 harg7 hc0 hc1 hc2 x0 x1 x2 xs0) (lsk 256 2048 q kv kp) := by
  intro r j
  frame_out
  simp only [l0_C, l1_C, l2_C, l3_C]
  exact View.canon_apply_of_pieces _ (out4C x0 xs0) (out4C_fin h0 hK).mem _ (cover4C _ _ r j)

end Cert.AttIdeal.Head
-- ==== Proof.AttFold.lean ====
/-
  The forward pass's grid: nine tiles of 256 query rows in each of four batches. The block each window reads, and what the two results and the carried
  key table hold after a tile.
-/
module
public import proofs.«01_k».proof.Proof.Gen.AttIdeal.Value
public import proofs.«01_k».proof.Proof.AttTile
@[expose] public section
set_option maxRecDepth 16384
noncomputable section
namespace Cert.AttIdeal.Head
open Cert.AttIdeal Cert.AttIdeal.Gen Cert.Attn Idealize.ShloMosaic Idealize.ShloMosaic.TcCoe Idealize.SL.Sem
open Cert.AttIdeal.Value

variable (m : (ℓ : Loc nD τ sig) → Buf (Elt Ideal) ℓ)

theorem N36 (t : Fin cfg0.N) : t.val < 36 := lt_of_lt_of_eq t.2 N_0

theorem idx0 : ∀ t : Fin cfg0.N, win0_0.index t 0 = t.val / 9 ∧ win0_0.index t 1 = t.val % 9 ∧ win0_0.index t 2 = 0 :=
  (by decide +kernel : ∀ t : Fin grid0.N, win0_0.index t 0 = t.val / 9 ∧ win0_0.index t 1 = t.val % 9 ∧ win0_0.index t 2 = 0)

theorem blk0 (c : Dev nD) (t : Fin cfg0.N) {f : ℕ → ℕ → ℕ → ℝ} (h : R3 (k := 4) (m := 2304) (n := 768) (V m c main_arg0) f) :
    R1 (m := 256) (n := 768) (iblk m c 0 t) (fun i j => f (t.val / 9) (256 * (t.val % 9) + i) j) := by
  intro i j
  have ht := N36 t
  obtain ⟨e0, e1, e2⟩ := idx0 t
  rw [← h ⟨t.val / 9, by omega⟩ ⟨256 * (t.val % 9) + i, by omega⟩ ⟨j, by omega⟩]
  unfold iblk
  rw [View.read_apply]
  show V m c main_arg0 _ = V m c main_arg0 _
  congr 1
  funext a
  apply Fin.ext
  match a with
  | ⟨0, _⟩ => show win0_0.index t 0 * 1 + 1 * 0 = t.val / 9; rw [e0]; omega
  | ⟨1, _⟩ => show win0_0.index t 1 * 256 + 1 * i.val = 256 * (t.val % 9) + i; rw [e1]; omega
  | ⟨2, _⟩ => show win0_0.index t 2 * 768 + 1 * j.val = j.val; rw [e2]; omega

theorem idx1 : ∀ t : Fin cfg0.N, win0_1.index t 0 = t.val / 9 ∧ win0_1.index t 1 = 0 ∧ win0_1.index t 2 = 0 :=
  (by decide +kernel : ∀ t : Fin grid0.N, win0_1.index t 0 = t.val / 9 ∧ win0_1.index t 1 = 0 ∧ win0_1.index t 2 = 0)

theorem blk1 (c : Dev nD) (t : Fin cfg0.N) {f : ℕ → ℕ → ℕ → ℝ} (h : R3 (k := 4) (m := 2304) (n := 1024) (V m c main_arg1) f) :
    R1 (m := 2304) (n := 1024) (iblk m c 1 t) (fun i j => f (t.val / 9) (i) j) := by
  intro i j
  have ht := N36 t
  obtain ⟨e0, e1, e2⟩ := idx1 t
  rw [← h ⟨t.val / 9, by omega⟩ ⟨i, by omega⟩ ⟨j, by omega⟩]
  unfold iblk
  rw [View.read_apply]
  show V m c main_arg1 _ = V m c main_arg1 _
  congr 1
  funext a
  apply Fin.ext
  match a with
  | ⟨0, _⟩ => show win0_1.index t 0 * 1 + 1 * 0 = t.val / 9; rw [e0]; omega
  | ⟨1, _⟩ => show win0_1.index t 1 * 2304 + 1 * i.val = i; rw [e1]; omega
  | ⟨2, _⟩ => show win0_1.index t 2 * 1024 + 1 * j.val = j.val; rw [e2]; omega

theorem idx2 : ∀ t : Fin cfg0.N, win0_2.index t 0 = t.val / 9 ∧ win0_2.index t 1 = 0 ∧ win0_2.index t 2 = 0 :=
  (by decide +kernel : ∀ t : Fin grid0.N, win0_2.index t 0 = t.val / 9 ∧ win0_2.index t 1 = 0 ∧ win0_2.index t 2 = 0)

theorem blk2 (c : Dev nD) (t : Fin cfg0.N) {f : ℕ → ℕ → ℕ → ℝ} (h : R3 (k := 4) (m := 2304) (n := 128) (V m c main_arg2) f) :
    R1 (m := 2304) (n := 128) (iblk m c 2 t) (fun i j => f (t.val / 9) (i) j) := by
  intro i j
  have ht := N36 t
  obtain ⟨e0, e1, e2⟩ := idx2 t
  rw [← h ⟨t.val / 9, by omega⟩ ⟨i, by omega⟩ ⟨j, by omega⟩]
  unfold iblk
  rw [View.read_apply]
  show V m c main_arg2 _ = V m c main_arg2 _
  congr 1
  funext a
  apply Fin.ext
  match a with
  | ⟨0, _⟩ => show win0_2.index t 0 * 1 + 1 * 0 = t.val / 9; rw [e0]; omega
  | ⟨1, _⟩ => show win0_2.index t 1 * 2304 + 1 * i.val = i; rw [e1]; omega
  | ⟨2, _⟩ => show win0_2.index t 2 * 128 + 1 * j.val = j.val; rw [e2]; omega

/-- The output rows of tile `i`, -/
def ot (q kv kp : ℕ → ℕ → ℕ → ℝ) (b i : ℕ) : ℕ → ℕ → ℝ :=
  if i ≤ 7 then ov 2304 0 (fun r d => q b (256 * i + r) d) (kv b) (kp b) else ov 256 2048 (fun r d => q b (256 * i + r) d) (kv b) (kp b)

/-- and the logarithms of their sums. -/
def lt (q kv kp : ℕ → ℕ → ℕ → ℝ) (b i : ℕ) : ℕ → ℕ → ℝ :=
  if i ≤ 7 then lsk 2304 0 (fun r d => q b (256 * i + r) d) (kv b) (kp b) else lsk 256 2048 (fun r d => q b (256 * i + r) d) (kv b) (kp b)

/-- What the two results and the key table hold. -/
def Hold (s : Vec Ideal S1x256x512 .bf16 × Vec Ideal S1x256x4 .f32 × Vec Ideal S4x2304x256 .bf16) (a3 a4 : ℕ → ℕ → ℝ) (aK : ℕ → ℕ → ℕ → ℝ) : Prop :=
  R1 (m := 256) (n := 512) s.1 a3 ∧ R1 (m := 256) (n := 4) s.2.1 a4 ∧ R3 (k := 4) (m := 2304) (n := 256) s.2.2 aK

theorem Hold.mk' {x3 : Vec Ideal S1x256x512 .bf16} {x4 : Vec Ideal S1x256x4 .f32} {xK : Vec Ideal S4x2304x256 .bf16} {a3 a4 aK}
    (h3 : R1 (m := 256) (n := 512) x3 a3) (h4 : R1 (m := 256) (n := 4) x4 a4) (hK : R3 (k := 4) (m := 2304) (n := 256) xK aK) : Hold (x3, x4, xK) a3 a4 aK :=
  ⟨h3, h4, hK⟩

theorem tileA (c : Dev nD) (t : Fin cfg0.N) (c0 : t.val % 9 = 0) (c1 : t.val % 9 ≤ 7) (c2 : ¬t.val % 9 = 8) {q kv kp : ℕ → ℕ → ℝ}
    (h0 : R1 (m := 256) (n := 768) (iblk m c 0 t) q) (h1 : R1 (m := 2304) (n := 1024) (iblk m c 1 t) kv) (h2 : R1 (m := 2304) (n := 128) (iblk m c 2 t) kp) :
    Hold (outsAt0 m c t.val t.isLt) (ov 2304 0 q kv kp) (lsk 2304 0 q kv kp) (kc kv kp) := by
  rw [outsAt0_A m c t c0 c1 c2]
  apply Hold.mk'
  · exact outA_3_fin _ _ _ _ _ _ _ _ _ _ _ _ _ _ _ _ _ h0 h1 h2
  · exact outA_4_fin _ _ _ _ _ _ _ _ _ _ _ _ _ _ _ _ _ h0 h1 h2
  · exact outA_s_fin _ _ _ _ _ _ _ _ _ _ _ _ _ _ _ _ _ h1 h2

theorem tileB (c : Dev nD) (t : Fin cfg0.N) (c0 : ¬t.val % 9 = 0) (c1 : t.val % 9 ≤ 7) (c2 : ¬t.val % 9 = 8) {q kv kp : ℕ → ℕ → ℝ} {s : Vec Ideal S1x256x512 .bf16 × Vec Ideal S1x256x4 .f32 × Vec Ideal S4x2304x256 .bf16}
    (h0 : R1 (m := 256) (n := 768) (iblk m c 0 t) q) (h1 : R1 (m := 2304) (n := 1024) (iblk m c 1 t) kv) (hK : R3 (k := 4) (m := 2304) (n := 256) s.2.2 (kc kv kp)) :
    Hold (stAt0 m c t.val t.isLt s) (ov 2304 0 q kv kp) (lsk 2304 0 q kv kp) (kc kv kp) := by
  rw [stAt0_B m c t s c0 c1 c2]
  apply Hold.mk'
  · exact outB_3_fin _ _ _ _ _ _ _ _ _ _ _ _ _ _ _ _ _ h0 h1 hK
  · exact outB_4_fin _ _ _ _ _ _ _ _ _ _ _ _ _ _ _ _ _ h0 hK
  · exact hK

theorem tileC (c : Dev nD) (t : Fin cfg0.N) (c0 : ¬t.val % 9 = 0) (c1 : ¬t.val % 9 ≤ 7) (c2 : t.val % 9 = 8) {q kv kp : ℕ → ℕ → ℝ} {s : Vec Ideal S1x256x512 .bf16 × Vec Ideal S1x256x4 .f32 × Vec Ideal S4x2304x256 .bf16}
    (h0 : R1 (m := 256) (n := 768) (iblk m c 0 t) q) (h1 : R1 (m := 2304) (n := 1024) (iblk m c 1 t) kv) (hK : R3 (k := 4) (m := 2304) (n := 256) s.2.2 (kc kv kp)) :
    Hold (stAt0 m c t.val t.isLt s) (ov 256 2048 q kv kp) (lsk 256 2048 q kv kp) (kc kv kp) := by
  rw [stAt0_C m c t s c0 c1 c2]
  apply Hold.mk'
  · exact outC_3_fin _ _ _ _ _ _ _ _ _ _ _ _ _ _ _ _ _ h0 h1 hK
  · exact outC_4_fin _ _ _ _ _ _ _ _ _ _ _ _ _ _ _ _ _ h0 hK
  · exact hK

theorem inv_tile (c : Dev nD) {q kv kp : ℕ → ℕ → ℕ → ℝ} (hq : R3 (k := 4) (m := 2304) (n := 768) (V m c main_arg0) q)
    (hkv : R3 (k := 4) (m := 2304) (n := 1024) (V m c main_arg1) kv) (hkp : R3 (k := 4) (m := 2304) (n := 128) (V m c main_arg2) kp) (b : ℕ) :
    ∀ (i n : ℕ) (hn : n < cfg0.N), i ≤ 8 → n = 9 * b + i → Hold (outsAt0 m c n hn) (ot q kv kp b i) (lt q kv kp b i) (kc (kv b) (kp b)) := by
  intro i
  induction i with
  | zero =>
    intro n h _ e
    have e1 : n / 9 = b := by omega
    have e2 : n % 9 = 0 := by omega
    have h0 := blk0 m c ⟨n, h⟩ hq
    have h1 := blk1 m c ⟨n, h⟩ hkv
    have h2 := blk2 m c ⟨n, h⟩ hkp
    simp only [e1, e2] at h0 h1 h2
    exact tileA m c ⟨n, h⟩ e2 (by show n % 9 ≤ 7; omega) (by show ¬n % 9 = 8; omega) h0 h1 h2
  | succ i ih =>
    intro n h hi e
    obtain ⟨n, rfl⟩ : ∃ k, n = k + 1 := ⟨n - 1, by omega⟩
    obtain ⟨-, -, iK⟩ := ih n (Nat.lt_of_succ_lt h) (by omega) (by omega)
    have e1 : (n + 1) / 9 = b := by omega
    have e2 : (n + 1) % 9 = i + 1 := by omega
    have h0 := blk0 m c ⟨n + 1, h⟩ hq
    have h1 := blk1 m c ⟨n + 1, h⟩ hkv
    simp only [e1, e2] at h0 h1
    rw [outsAt0_succ m c n h]
    by_cases h7 : i + 1 ≤ 7
    · have := tileB m c ⟨n + 1, h⟩ (by show ¬(n + 1) % 9 = 0; omega) (by show (n + 1) % 9 ≤ 7; omega) (by show ¬(n + 1) % 9 = 8; omega) h0 h1 iK
      simpa only [ot, lt, if_pos h7] using this
    · have := tileC m c ⟨n + 1, h⟩ (by show ¬(n + 1) % 9 = 0; omega) (by show ¬(n + 1) % 9 ≤ 7; omega) (by show (n + 1) % 9 = 8; omega) h0 h1 iK
      simpa only [ot, lt, if_neg h7] using this

theorem result3 (c : Dev nD) {q kv kp : ℕ → ℕ → ℕ → ℝ} (hq : R3 (k := 4) (m := 2304) (n := 768) (V m c main_arg0) q)
    (hkv : R3 (k := 4) (m := 2304) (n := 1024) (V m c main_arg1) kv) (hkp : R3 (k := 4) (m := 2304) (n := 128) (V m c main_arg2) kp) :
    R3 (k := 4) (m := 2304) (n := 512) (G3 m c) (fun b r d => ot q kv kp b (r / 256) (r % 256) d) := by
  intro b r d
  have hp : pt3Of (ix3 b r d) = 9 * b.val + r.val / 256 := by
    show 9 * (b.val / 1 - 0) + 1 * (r.val / 256 - 0) + 1 * (d.val / 512 - 0) = _
    omega
  have hN : pt3Of (ix3 b r d) < cfg0.N := lt_of_lt_of_eq (by omega : _ < 36) N_0.symm
  unfold G3
  rw [dif_pos hN, ← outsAt0_sweep m c _ hN]
  have h := (inv_tile m c hq hkv hkp b.val (r.val / 256) _ hN (by omega) hp).1 ⟨r.val % 256, by omega⟩ d
  refine Eq.trans (congrArg _ ?_) h
  funext a
  apply Fin.ext
  match a with
  | ⟨0, _⟩ => show b.val % 1 = 0; omega
  | ⟨1, _⟩ => rfl
  | ⟨2, _⟩ => show d.val % 512 = d.val; omega

theorem result4 (c : Dev nD) {q kv kp : ℕ → ℕ → ℕ → ℝ} (hq : R3 (k := 4) (m := 2304) (n := 768) (V m c main_arg0) q)
    (hkv : R3 (k := 4) (m := 2304) (n := 1024) (V m c main_arg1) kv) (hkp : R3 (k := 4) (m := 2304) (n := 128) (V m c main_arg2) kp) :
    R3 (k := 4) (m := 2304) (n := 4) (G4 m c) (fun b r d => lt q kv kp b (r / 256) (r % 256) d) := by
  intro b r d
  have hp : pt4Of (ix3 b r d) = 9 * b.val + r.val / 256 := by
    show 9 * (b.val / 1 - 0) + 1 * (r.val / 256 - 0) + 1 * (d.val / 4 - 0) = _
    omega
  have hN : pt4Of (ix3 b r d) < cfg0.N := lt_of_lt_of_eq (by omega : _ < 36) N_0.symm
  unfold G4
  rw [dif_pos hN, ← outsAt0_sweep m c _ hN]
  have h := (inv_tile m c hq hkv hkp b.val (r.val / 256) _ hN (by omega) hp).2.1 ⟨r.val % 256, by omega⟩ d
  refine Eq.trans (congrArg _ ?_) h
  funext a
  apply Fin.ext
  match a with
  | ⟨0, _⟩ => show b.val % 1 = 0; omega
  | ⟨1, _⟩ => rfl
  | ⟨2, _⟩ => show d.val % 4 = d.val; omega

end Cert.AttIdeal.Head
-- ==== Proof.AttEqual.lean ====
/-
  From finite arguments the forward attention's two results are the reference's.
-/
module
public import proofs.«01_k».proof.Proof.AttRef
public import proofs.«01_k».proof.Proof.AttFold
public import proofs.«01_k».proof.Proof.Equal
@[expose] public section
set_option maxRecDepth 16384
noncomputable section
namespace Cert.AttIdeal.Head
open Cert.AttIdeal Cert.AttIdeal.Gen Cert.AttIdeal.Value Idealize.ShloMosaic Idealize.ShloMosaic.TcCoe Idealize.SL.Sem Cert.Attn
open Cert.AttRefIdeal.Read (val_main_v52 val_main_v95 v95_at out_at)

/-- A tile's row of log-sums is the row of the array, -/
theorem lsk_eq {nk a i r' r : ℕ} (e : 256 * i + r' = a + r) (q kv kp : ℕ → ℕ → ℝ) (h : ℕ) :
    lsk nk a (fun r d => q (256 * i + r) d) kv kp r' h = lsum nk a q kv kp h (a + r) := by
  unfold lsk lsum
  rw [← e]
  exact congrArg Real.log (Finset.sum_congr rfl fun j _ => congrArg Real.exp (sc_eq q kv kp h (256 * i + r') (a + j)))

/-- and its output row. -/
theorem ov_eq {nk : ℕ} (hn : 0 < nk) {a i r' r : ℕ} (e : 256 * i + r' = a + r) (q kv kp M : ℕ → ℕ → ℝ) (x : ℕ) :
    ov nk a (fun r d => q (256 * i + r) d) kv kp r' x
      = ∑ k : Fin nk, pR nk a q kv kp M (x / 128) r k * kv (a + k) (256 * (x / 128) + 128 + x % 128) := by
  unfold ov
  refine Finset.sum_congr rfl fun j _ => congrArg (· * kv (a + j) (256 * (x / 128) + 128 + x % 128)) ?_
  rw [lsk_eq e, ← pr_eq hn a (l := fun r h => lsum nk a q kv kp h r) rfl j, ← e]
  rfl

/-- The two equations, of arguments holding reals. -/
theorem equal (m : (ℓ : Loc nD τ sig) → Buf (Elt Ideal) ℓ) (c : Dev nD) {q kv kp : ℕ → ℕ → ℕ → ℝ}
    (h0 : R3 (k := 4) (m := 2304) (n := 768) (V m c main_arg0) q) (h1 : R3 (k := 4) (m := 2304) (n := 1024) (V m c main_arg1) kv)
    (h2 : R3 (k := 4) (m := 2304) (n := 128) (V m c main_arg2) kp) :
    G3 m c = val_main_v52 (F := Ideal) (V m c main_arg0) (V m c main_arg1) (V m c main_arg2)
      ∧ G4 m c = val_main_v95 (F := Ideal) (V m c main_arg0) (V m c main_arg1) (V m c main_arg2) := by
  obtain ⟨M, M', ho⟩ := out_at h0 h1 h2
  refine ⟨?_, ?_⟩
  · refine Cert.KernelIdeal.Head.R3_ext (result3 m c h0 h1 h2) ho fun b r x _ hr _ => ?_
    by_cases h : r < 2048
    · rw [if_pos h, ot, if_pos (by omega)]
      exact ov_eq (by norm_num) (by omega) (q b) (kv b) (kp b) (M b) x
    · rw [if_neg h, ot, if_neg (by omega)]
      exact ov_eq (by norm_num) (by omega) (q b) (kv b) (kp b) (M' b) x
  · refine Cert.KernelIdeal.Head.R3_ext (result4 m c h0 h1 h2) (v95_at h0 h1 h2) fun b r h _ hr _ => ?_
    by_cases hl : r < 2048
    · rw [if_pos hl, lt, if_pos (by omega), lsk_eq (r := r) (by omega), Nat.zero_add]
    · rw [if_neg hl, lt, if_neg (by omega), lsk_eq (r := r - 2048) (by omega), Nat.add_sub_cancel' (by omega)]

end Cert.AttIdeal.Head
-- ==== Proof.FiniteAtt.lean ====
/-
  Finite arguments of the forward attention hold reals.
-/
module
public import proofs.«01_k».proof.Proof.Finite
@[expose] public section
set_option maxRecDepth 16384
noncomputable section
open Idealize Idealize.ShloMosaic
namespace Cert.Pre_finite_att
open Cert.Attn

/-- The shape facts the precondition states. -/
theorem facts : Cert.Pre_finite_att.Facts where
  bitsLt_bf16_f32 := by decide
  bcast_S_S4x2304x768 := by decide
  reducesTo_S4x2304x768_S_d0_1_2 := by decide
  h_S_ := by decide
  bcast_S_S4x2304x1024 := by decide
  reducesTo_S4x2304x1024_S_d0_1_2 := by decide
  bcast_S_S4x2304x128 := by decide
  reducesTo_S4x2304x128_S_d0_1_2 := by decide

theorem reals [Facts] {x0 : FVec Ideal S4x2304x768 .bf16} {x1 : FVec Ideal S4x2304x1024 .bf16} {x2 : FVec Ideal S4x2304x128 .bf16}
    (h : fn (F := Ideal) x0 x1 x2 = fun _ => 1#1) :
    (∃ f, R3 (k := 4) (m := 2304) (n := 768) x0 f) ∧ (∃ f, R3 (k := 4) (m := 2304) (n := 1024) x1 f) ∧ ∃ f, R3 (k := 4) (m := 2304) (n := 128) x2 f := by
  have e := congrFun h ix0
  unfold fn at e
  obtain ⟨e, h2⟩ := IntOp.andi_eq_one.1 e
  obtain ⟨h0, h1⟩ := IntOp.andi_eq_one.1 e
  exact ⟨Cert.Pre_finite.lift _ _ _ _ h0, Cert.Pre_finite.lift _ _ _ _ h1, Cert.Pre_finite.lift _ _ _ _ h2⟩

end Cert.Pre_finite_att
-- ==== Proof.ClaimsAtt.lean ====
module

public import proofs.«01_k».proof.Defs
public import proofs.«01_k».proof.Proof.OfAtt
public import proofs.«01_k».proof.Proof.AttEqual
public import proofs.«01_k».proof.Proof.FiniteAtt
public import Idealize.ShloMosaic.Adequacy
public import Idealize.ShloMosaic.Init

@[expose] public section

noncomputable section

namespace Cert.Proof

open Idealize.ShloMosaic Idealize.SL.Sem

/-- The forward attention: the call runs, at its own formats. -/
theorem att_p [Cert.Att.Facts] : Cert.quiescent_Att := fun m ρ _ => Cert.Att.Gen.frame m ρ

/-- and over the reals. -/
theorem att_pi : Cert.quiescent_AttIdeal (hAttIdeal := Cert.AttIdeal.Gen.facts) := fun m ρ _ => Cert.AttIdeal.Gen.frame m ρ

/-- The reference runs; it declares no semaphore. -/
theorem att_ri : Cert.quiescent_AttRefIdeal (hAttRefIdeal := Cert.AttRefIdeal.Gen.facts) := fun m ρ _ =>
  (θ_run Cert.AttRefIdeal.defs _ _).mono (fun r h => ⟨fun c => (h c).2.2, sem_eq_zero_of_no_sems (by decide) r.2⟩)
    (Cert.AttRefIdeal.Value.run (F := Ideal) m ρ)

theorem att_pi_pre : Cert.quiescent_AttIdeal_pre_finite_att (hAttIdeal := Cert.AttIdeal.Gen.facts) (hPre_finite_att := Cert.Pre_finite_att.facts) :=
  fun m ρ _ => Cert.AttIdeal.Gen.frame m ρ

theorem att_ri_pre : Cert.quiescent_AttRefIdeal_pre_finite_att (hAttRefIdeal := Cert.AttRefIdeal.Gen.facts) (hPre_finite_att := Cert.Pre_finite_att.facts) :=
  fun m ρ _ => att_ri m ρ trivial

/-- From finite arguments the call's two results are the reference's. -/
theorem att_alg : Cert.algebraic_AttIdeal_AttRefIdeal_pre_finite_att (hAttIdeal := Cert.AttIdeal.Gen.facts)
    (hAttRefIdeal := Cert.AttRefIdeal.Gen.facts) (hPre_finite_att := Cert.Pre_finite_att.facts) := by
  intro m ρ m' ρ' hpre hagree
  refine ⟨fun c => Cert.AttIdeal.Value.G3 m c, fun c => Cert.AttIdeal.Value.G4 m c, Cert.AttIdeal.Value.run m ρ, ?_⟩
  refine (θ_run Cert.AttRefIdeal.defs _ _).mono (fun r h c => ?_) (Cert.AttRefIdeal.Value.run (F := Ideal) m' ρ')
  have := Cert.Pre_finite_att.facts
  obtain ⟨e0, e1, e2⟩ := hagree c
  obtain ⟨⟨q, hq⟩, ⟨kv, hkv⟩, ⟨kp, hkp⟩⟩ := Cert.Pre_finite_att.reals (hpre c)
  obtain ⟨g3, g4⟩ := Cert.AttIdeal.Head.equal m c (q := q) (kv := kv) (kp := kp) hq hkv hkp
  obtain ⟨r0, r1, r2⟩ := h c
  refine ⟨(r0.trans (Cert.AttRefIdeal.Read.val_main_v52_eq m' c)).trans ?_, (r1.trans (Cert.AttRefIdeal.Read.val_main_v95_eq m' c)).trans ?_, r2⟩
  · rw [e0, e1, e2]
    exact g3.symm
  · rw [e0, e1, e2]
    exact g4.symm

end Cert.Proof

end
-- ==== Proof.Row.lean ====
module

public import Idealize.ShloMosaic.Lib.Pipeline.ValueKit

@[expose] public section

noncomputable section

namespace Cert.Row

open Idealize.ShloMosaic

/-- A row divided by its root mean square, times a weight, scaled and shifted. -/
def normed (row : Fin 1024 → EReal) (d : Fin 1024) (w scale shift : EReal) : EReal :=
  row d * Ideal.rsqrt (Ideal.div (∑ k, row k * row k) (Ideal.ofBits FTy.f32 1149239296#32) + Ideal.ofBits FTy.f32 897988541#32) * w * (1 + scale) + shift

end Cert.Row

end
-- ==== Proof.Pre.lean ====
module

public import proofs.«01_k».proof.Proof.OfPre
public import proofs.«01_k».proof.Proof.Row
public import Idealize.ShloMosaic.Lib.Pipeline.ReadBack
public import Idealize.ShloMosaic.Lib.Pipeline.ValueKit

@[expose] public section

set_option maxRecDepth 16384

noncomputable section

namespace Cert.PreIdeal.Mine

open Cert.PreIdeal Cert.PreIdeal.Gen Idealize.ShloMosaic Idealize.ShloMosaic.TcCoe Idealize.SL.Sem
open Idealize.ShloMosaic.Pipeline (Dat)

variable (m : (ℓ : Loc nD τ sig) → Buf (Elt Ideal) ℓ)

/-- Where the blocks of each array sit at every grid point. -/
theorem idx : ∀ t : Fin cfg0.N, win0_0.index t = ![0, t.val, 0] ∧ win0_1.index t = ![0, t.val / 8, 0, 0] ∧ win0_2.index t = ![0, 0]
    ∧ win0_3.index t = ![0, t.val, 0] :=
  (by decide +kernel : ∀ t : Fin grid0.N, _)

/-- One sample's rows: normed, scaled and shifted. -/
theorem pay_at (x : Vec Ideal S1x256x1024 .f32) (a b : Vec Ideal S1x1x1x1024 .f32) (w : Vec Ideal S1x1024 .f32) (r : Fin 256) (d : Fin 1024) :
    k0_pay2 x a b w (ix3 0 r d) = Row.normed (fun k => x (ix3 0 r k)) d (w (ix2 0 d)) (b (ix4 0 0 0 d)) (a (ix4 0 0 0 d)) := by
  unfold Row.normed
  pointwise [k0_pay2]

/-- The four samples' rows. -/
def tileRows (x : Vec Ideal S4x256x1024 .f32) (g : Vec Ideal S4x1x6x1024 .f32) (w : Vec Ideal S1x1024 .f32) : Vec Ideal S4x256x1024 .bf16 :=
  fun i => Row.normed (fun k => x (ix3 (i 0) (i 1) k)) (i 2) (w (ix2 0 (i 2))) (g (ix4 (i 0) 0 1 (i 2))) (g (ix4 (i 0) 0 0 (i 2)))

/-- The four stores are the same rows of four samples. -/
theorem out_eq (x : Vec Ideal S4x256x1024 .f32) (g : Vec Ideal S4x1x6x1024 .f32) (w : Vec Ideal S1x1024 .f32) : out0_3 x g w
    = View.canon [⟨r0_10, k0_pay2 (View.ld x r0_10) (View.ld g r0_11) (View.ld g r0_12) (View.ld w r0_3)⟩,
      ⟨r0_7, k0_pay2 (View.ld x r0_7) (View.ld g r0_8) (View.ld g r0_9) (View.ld w r0_3)⟩,
      ⟨r0_4, k0_pay2 (View.ld x r0_4) (View.ld g r0_5) (View.ld g r0_6) (View.ld w r0_3)⟩,
      ⟨r0_0, k0_pay2 (View.ld x r0_0) (View.ld g r0_1) (View.ld g r0_2) (View.ld w r0_3)⟩] := rfl

theorem out_at (x : Vec Ideal S4x256x1024 .f32) (g : Vec Ideal S4x1x6x1024 .f32) (w : Vec Ideal S1x1024 .f32) (i : S4x256x1024.Idx) :
    out0_3 x g w i = tileRows x g w i := by
  rw [out_eq]
  refine View.canon_apply_of_pieces (tileRows x g w) _ ?_ i (cover0_3 _ _ _ _ i)
  refine View.PiecesOf.mem (G := tileRows x g w) ⟨?_, ?_, ?_, ?_, trivial⟩ <;>
  · intro j
    obtain ⟨z, r, d, rfl⟩ : ∃ (z : Fin 1) (r : Fin 256) (d : Fin 1024), j = ix3 z r d := ⟨j 0, j 1, j 2, by funext a; fin_cases a <;> rfl⟩
    rw [Subsingleton.elim z 0]
    refine (pay_at _ _ _ _ r d).trans ?_
    unfold tileRows
    congr 1
    · funext k
      refine congrArg x ?_
      funext a
      apply Fin.ext
      fin_cases a <;> simp
    · apply Fin.ext
      simp
    · refine congrArg w ?_
      funext a
      apply Fin.ext
      fin_cases a <;> simp
    · refine congrArg g ?_
      funext a
      apply Fin.ext
      fin_cases a <;> simp
    · refine congrArg g ?_
      funext a
      apply Fin.ext
      fin_cases a <;> simp

open Cert.PreRefIdeal.Read in
/-- The reference's scale at a row. -/
theorem scale_at (g : Vec Ideal S4x2x6x1024 .f32) (b : Fin 4) (r : Fin 2304) (d : Fin 1024) (e : Fin 2) (he : e.val = r.val / 2048) :
    val_main_v21 (F := Ideal) g (ix3 b r d) = g (ix4 b e 1 d) := by
  unfold val_main_v21
  pointwise [val_main_v20, val_main_v19, val_main_v18, val_main_v17, val_main_v16, val_main_v15, val_main_v14, val_main_v13]
  have hr := r.isLt
  by_cases h : r.val < 2048
  · rw [dif_pos (by omega)]
    have : e = 0 := Fin.ext (by rw [he]; show _ = 0; omega)
    subst this
    rfl
  · rw [dif_neg (by omega)]
    have : e = 1 := Fin.ext (by rw [he]; show _ = 1; omega)
    subst this
    rfl

open Cert.PreRefIdeal.Read in
/-- The reference's shift at a row. -/
theorem shift_at (g : Vec Ideal S4x2x6x1024 .f32) (b : Fin 4) (r : Fin 2304) (d : Fin 1024) (e : Fin 2) (he : e.val = r.val / 2048) :
    val_main_v33 (F := Ideal) g (ix3 b r d) = g (ix4 b e 0 d) := by
  unfold val_main_v33
  pointwise [val_main_v32, val_main_v31, val_main_v30, val_main_v29, val_main_v28, val_main_v27, val_main_v26, val_main_v25]
  have hr := r.isLt
  by_cases h : r.val < 2048
  · rw [dif_pos (by omega)]
    have : e = 0 := Fin.ext (by rw [he]; show _ = 0; omega)
    subst this
    rfl
  · rw [dif_neg (by omega)]
    have : e = 1 := Fin.ext (by rw [he]; show _ = 1; omega)
    subst this
    rfl

open Cert.PreRefIdeal.Read in
/-- The reference's array at an index. -/
theorem ref_at (x : Vec Ideal S4x2304x1024 .f32) (g : Vec Ideal S4x2x6x1024 .f32) (w : Vec Ideal S1x1024 .f32) (b : Fin 4) (r : Fin 2304) (d : Fin 1024) (e : Fin 2)
    (he : e.val = r.val / 2048) : val_main_v35 (F := Ideal) x g w (ix3 b r d)
      = Row.normed (fun k => x (ix3 b r k)) d (w (ix2 0 d)) (g (ix4 b e 1 d)) (g (ix4 b e 0 d)) := by
  rw [← scale_at g b r d e he, ← shift_at g b r d e he]
  unfold Row.normed
  pointwise [val_main_v35, val_main_v34, val_main_v24, val_main_v23, val_main_v22, val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2]

/-- The normed and modulated rows before the first mixer: the kernel's array is the reference's. -/
theorem final (c : Dev nD) : (dats m 0 c).arrAt 3 (cfgs 0).N
    = Cert.PreRefIdeal.Read.val_main_v35 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out_at]
  have ht : t.val < 9 := lt_of_lt_of_eq t.isLt N_0
  obtain ⟨b, r, d, rfl⟩ : ∃ (b : Fin 4) (r : Fin 256) (d : Fin 1024), y = (ix3 b r d : S4x256x1024.Idx) := ⟨y 0, y 1, y 2, by blk_ext⟩
  have hr := r.isLt
  have e := ref_at (m ((c : Thread nD τ).loc main_arg0)) (m ((c : Thread nD τ).loc main_arg1)) (m ((c : Thread nD τ).loc main_arg2)) b
    ⟨t.val * 256 + r.val, by omega⟩ d ⟨t.val / 8, by omega⟩ (by dsimp only; omega)
  refine Eq.trans ?_ (e.symm.trans ?_)
  · show Row.normed _ d _ _ _ = _
    congr 1
    · funext k; blk_point [iblk, V, idx t]
    · blk_point [iblk, V, idx t]
    · blk_point [iblk, V, idx t]
    · blk_point [iblk, V, idx t]
  · blk_ext [idx t]

end Cert.PreIdeal.Mine

end
-- ==== Proof.Res.lean ====
module

public import proofs.«01_k».proof.Proof.OfRes
public import Idealize.ShloMosaic.Lib.Pipeline.ReadBack
public import Idealize.ShloMosaic.Lib.Pipeline.ValueKit

@[expose] public section

set_option maxRecDepth 16384

noncomputable section

namespace Cert.ResIdeal.Mine

open Cert.ResIdeal Cert.ResIdeal.Gen Idealize.ShloMosaic Idealize.ShloMosaic.TcCoe Idealize.SL.Sem
open Idealize.ShloMosaic.Pipeline (Dat)

variable (m : (ℓ : Loc nD τ sig) → Buf (Elt Ideal) ℓ)

/-- Where the blocks of each array sit at every grid point. -/
theorem idx : ∀ t : Fin cfg0.N, win0_0.index t = ![0, t.val, 0] ∧ win0_1.index t = ![0, t.val, 0] ∧ win0_2.index t = ![0, t.val / 8, 0, 0]
    ∧ win0_3.index t = ![0, t.val, 0] :=
  (by decide +kernel : ∀ t : Fin grid0.N, _)

/-- One sample's rows: the residual and the gated rows. -/
theorem pay_at (x : Vec Ideal S1x256x1024 .f32) (y : Vec Ideal S1x256x1024 .bf16) (g : Vec Ideal S1x1x1x1024 .f32) (r : Fin 256) (d : Fin 1024) :
    k0_pay1 x y g (ix3 0 r d) = x (ix3 0 r d) + g (ix4 0 0 0 d) * y (ix3 0 r d) := by
  pointwise [k0_pay1]

theorem pay2 (x y g) : k0_pay2 (F := Ideal) x y g = k0_pay1 x y g := rfl
theorem pay3 (x y g) : k0_pay3 (F := Ideal) x y g = k0_pay1 x y g := rfl
theorem pay4 (x y g) : k0_pay4 (F := Ideal) x y g = k0_pay1 x y g := rfl

/-- The four samples' rows. -/
def tileRows (x : Vec Ideal S4x256x1024 .f32) (y : Vec Ideal S4x256x1024 .bf16) (g : Vec Ideal S4x1x6x1024 .f32) : Vec Ideal S4x256x1024 .f32 :=
  fun i => x i + g (ix4 (i 0) 0 5 (i 2)) * y i

theorem out_at (x : Vec Ideal S4x256x1024 .f32) (y : Vec Ideal S4x256x1024 .bf16) (g : Vec Ideal S4x1x6x1024 .f32) (i : S4x256x1024.Idx) :
    out0_3 x y g i = tileRows x y g i := by
  unfold out0_3
  rw [pay2, pay3, pay4]
  refine View.canon_apply_of_pieces (tileRows x y g) _ ?_ i (cover0_3 _ _ _ _ i)
  refine View.PiecesOf.mem (G := tileRows x y g) ⟨?_, ?_, ?_, ?_, trivial⟩ <;>
  · intro j
    obtain ⟨z, r, d, rfl⟩ : ∃ (z : Fin 1) (r : Fin 256) (d : Fin 1024), j = ix3 z r d := ⟨j 0, j 1, j 2, by funext a; fin_cases a <;> rfl⟩
    rw [Subsingleton.elim z 0]
    refine (pay_at _ _ _ r d).trans ?_
    unfold tileRows
    refine congrArg₂ (· + ·) rfl (congrArg₂ (· * ·) ?_ rfl)
    refine congrArg g ?_
    funext a
    apply Fin.ext
    fin_cases a <;> simp

/-- The reference's array at an index. -/
theorem ref_at (x : Vec Ideal S4x2304x1024 .f32) (y : Vec Ideal S4x2304x1024 .bf16) (g : Vec Ideal S4x2x6x1024 .f32) (b : Fin 4) (r : Fin 2304) (d : Fin 1024) (e : Fin 2)
    (he : e.val = r.val / 2048) : Cert.ResRefIdeal.Read.val_main_v11 (F := Ideal) x y g (ix3 b r d) = x (ix3 b r d) + g (ix4 b e 5 d) * y (ix3 b r d) := by
  unfold Cert.ResRefIdeal.Read.val_main_v11 Cert.ResRefIdeal.Read.val_main_v10 Cert.ResRefIdeal.Read.val_main_v8
  pointwise [Cert.ResRefIdeal.Read.val_main_v9, Cert.ResRefIdeal.Read.val_main_v7, Cert.ResRefIdeal.Read.val_main_v6, Cert.ResRefIdeal.Read.val_main_v5, Cert.ResRefIdeal.Read.val_main_v4,
    Cert.ResRefIdeal.Read.val_main_v3, Cert.ResRefIdeal.Read.val_main_v2, Cert.ResRefIdeal.Read.val_main_v1, Cert.ResRefIdeal.Read.val_main_v0]
  have hr := r.isLt
  by_cases h : r.val < 2048
  · rw [dif_pos (by omega)]
    have : e = 0 := Fin.ext (by rw [he]; show _ = 0; omega)
    subst this
    rfl
  · rw [dif_neg (by omega)]
    have : e = 1 := Fin.ext (by rw [he]; show _ = 1; omega)
    subst this
    rfl

/-- The residual after the last feed-forward layer: the kernel's array is the reference's. -/
theorem final (c : Dev nD) : (dats m 0 c).arrAt 3 (cfgs 0).N
    = Cert.ResRefIdeal.Read.val_main_v11 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out_at]
  have ht : t.val < 9 := lt_of_lt_of_eq t.isLt N_0
  obtain ⟨b, r, d, rfl⟩ : ∃ (b : Fin 4) (r : Fin 256) (d : Fin 1024), y = (ix3 b r d : S4x256x1024.Idx) := ⟨y 0, y 1, y 2, by blk_ext⟩
  have hr := r.isLt
  have e := ref_at (m ((c : Thread nD τ).loc main_arg0)) (m ((c : Thread nD τ).loc main_arg1)) (m ((c : Thread nD τ).loc main_arg2)) b
    ⟨t.val * 256 + r.val, by omega⟩ d ⟨t.val / 8, by omega⟩ (by dsimp only; omega)
  refine Eq.trans ?_ (e.symm.trans ?_)
  · unfold tileRows
    refine congrArg₂ (· + ·) ?_ (congrArg₂ (· * ·) ?_ ?_) <;> blk_point [iblk, V, idx t]
  · blk_ext [idx t]

end Cert.ResIdeal.Mine

end
-- ==== Proof.MixRes.lean ====
module

public import proofs.«01_k».proof.Proof.OfMixRes
public import proofs.«01_k».proof.Proof.Row
public import Idealize.ShloMosaic.Lib.Pipeline.ReadBack
public import Idealize.ShloMosaic.Lib.Pipeline.ValueKit

@[expose] public section

set_option maxRecDepth 16384

noncomputable section

namespace Cert.MixResIdeal.Mine

open Cert.MixResIdeal Cert.MixResIdeal.Gen Idealize.ShloMosaic Idealize.ShloMosaic.TcCoe Idealize.SL.Sem
open Idealize.ShloMosaic.Pipeline (Dat)

variable (m : (ℓ : Loc nD τ sig) → Buf (Elt Ideal) ℓ)

/-- Where the blocks of each array sit at every grid point. -/
theorem idx : ∀ t : Fin cfg0.N, win0_0.index t = ![0, t.val, 0] ∧ win0_1.index t = ![0, t.val, 0] ∧ win0_2.index t = ![0, t.val / 8, 0, 0]
    ∧ win0_3.index t = ![0, 0] ∧ win0_4.index t = ![0, t.val, 0] ∧ win0_5.index t = ![0, t.val, 0] :=
  (by decide +kernel : ∀ t : Fin grid0.N, _)

/-- One sample's residual rows. -/
def res (x : Vec Ideal S1x256x1024 .f32) (y : Vec Ideal S1x256x1024 .bf16) (g : Vec Ideal S1x1x1x1024 .f32) : Vec Ideal S1x256x1024 .f32 :=
  k0_pay6 (k0_pay4 x y g)

/-- One sample's normed rows. -/
def nrm (x : Vec Ideal S1x256x1024 .f32) (y : Vec Ideal S1x256x1024 .bf16) (g a b : Vec Ideal S1x1x1x1024 .f32) (w : Vec Ideal S1x1024 .f32) : Vec Ideal S1x256x1024 .bf16 :=
  k0_pay7 (k0_pay5 x y g a b w)

theorem res_at (x : Vec Ideal S1x256x1024 .f32) (y : Vec Ideal S1x256x1024 .bf16) (g : Vec Ideal S1x1x1x1024 .f32) (r : Fin 256) (d : Fin 1024) :
    res x y g (ix3 0 r d) = x (ix3 0 r d) + g (ix4 0 0 0 d) * y (ix3 0 r d) := by
  pointwise [res, k0_pay6, k0_pay4]

theorem nrm_at (x : Vec Ideal S1x256x1024 .f32) (y : Vec Ideal S1x256x1024 .bf16) (g a b : Vec Ideal S1x1x1x1024 .f32) (w : Vec Ideal S1x1024 .f32) (r : Fin 256) (d : Fin 1024) :
    nrm x y g a b w (ix3 0 r d) = Row.normed (fun k => x (ix3 0 r k) + g (ix4 0 0 0 k) * y (ix3 0 r k)) d (w (ix2 0 d)) (b (ix4 0 0 0 d)) (a (ix4 0 0 0 d)) := by
  unfold Row.normed
  pointwise [nrm, k0_pay7, k0_pay5, k0_pay4]

/-- The four samples' residual rows. -/
def tileRes (x : Vec Ideal S4x256x1024 .f32) (y : Vec Ideal S4x256x1024 .bf16) (g : Vec Ideal S4x1x6x1024 .f32) : Vec Ideal S4x256x1024 .f32 :=
  fun i => x i + g (ix4 (i 0) 0 2 (i 2)) * y i

/-- The four samples' normed rows. -/
def tileNrm (x : Vec Ideal S4x256x1024 .f32) (y : Vec Ideal S4x256x1024 .bf16) (g : Vec Ideal S4x1x6x1024 .f32) (w : Vec Ideal S1x1024 .f32) : Vec Ideal S4x256x1024 .bf16 :=
  fun i => Row.normed (fun k => x (ix3 (i 0) (i 1) k) + g (ix4 (i 0) 0 2 k) * y (ix3 (i 0) (i 1) k)) (i 2) (w (ix2 0 (i 2))) (g (ix4 (i 0) 0 4 (i 2))) (g (ix4 (i 0) 0 3 (i 2)))

/-- The four stores of each result are the same rows of four samples. -/
theorem res_eq (x : Vec Ideal S4x256x1024 .f32) (y : Vec Ideal S4x256x1024 .bf16) (g : Vec Ideal S4x1x6x1024 .f32) (w : Vec Ideal S1x1024 .f32) : out0_4 x y g w
    = View.canon [⟨r0_13, res (View.ld x r0_13) (View.ld y r0_13) (View.ld g r0_14)⟩,
      ⟨r0_9, res (View.ld x r0_9) (View.ld y r0_9) (View.ld g r0_10)⟩,
      ⟨r0_5, res (View.ld x r0_5) (View.ld y r0_5) (View.ld g r0_6)⟩,
      ⟨r0_0, res (View.ld x r0_0) (View.ld y r0_0) (View.ld g r0_1)⟩] := rfl

theorem nrm_eq (x : Vec Ideal S4x256x1024 .f32) (y : Vec Ideal S4x256x1024 .bf16) (g : Vec Ideal S4x1x6x1024 .f32) (w : Vec Ideal S1x1024 .f32) : out0_5 x y g w
    = View.canon [⟨r0_13, nrm (View.ld x r0_13) (View.ld y r0_13) (View.ld g r0_14) (View.ld g r0_15) (View.ld g r0_16) (View.ld w r0_4)⟩,
      ⟨r0_9, nrm (View.ld x r0_9) (View.ld y r0_9) (View.ld g r0_10) (View.ld g r0_11) (View.ld g r0_12) (View.ld w r0_4)⟩,
      ⟨r0_5, nrm (View.ld x r0_5) (View.ld y r0_5) (View.ld g r0_6) (View.ld g r0_7) (View.ld g r0_8) (View.ld w r0_4)⟩,
      ⟨r0_0, nrm (View.ld x r0_0) (View.ld y r0_0) (View.ld g r0_1) (View.ld g r0_2) (View.ld g r0_3) (View.ld w r0_4)⟩] := rfl

theorem outRes_at (x : Vec Ideal S4x256x1024 .f32) (y : Vec Ideal S4x256x1024 .bf16) (g : Vec Ideal S4x1x6x1024 .f32) (w : Vec Ideal S1x1024 .f32) (i : S4x256x1024.Idx) :
    out0_4 x y g w i = tileRes x y g i := by
  rw [res_eq]
  refine View.canon_apply_of_pieces (tileRes x y g) _ ?_ i (cover0_4 _ _ _ _ i)
  refine View.PiecesOf.mem (G := tileRes x y g) ⟨?_, ?_, ?_, ?_, trivial⟩ <;>
  · intro j
    obtain ⟨z, r, d, rfl⟩ : ∃ (z : Fin 1) (r : Fin 256) (d : Fin 1024), j = ix3 z r d := ⟨j 0, j 1, j 2, by funext a; fin_cases a <;> rfl⟩
    rw [Subsingleton.elim z 0]
    refine (res_at _ _ _ r d).trans ?_
    unfold tileRes
    refine congrArg₂ (· + ·) rfl (congrArg₂ (· * ·) ?_ rfl)
    refine congrArg g ?_
    funext a
    apply Fin.ext
    fin_cases a <;> simp

theorem outNrm_at (x : Vec Ideal S4x256x1024 .f32) (y : Vec Ideal S4x256x1024 .bf16) (g : Vec Ideal S4x1x6x1024 .f32) (w : Vec Ideal S1x1024 .f32) (i : S4x256x1024.Idx) :
    out0_5 x y g w i = tileNrm x y g w i := by
  rw [nrm_eq]
  refine View.canon_apply_of_pieces (tileNrm x y g w) _ ?_ i (cover0_5 _ _ _ _ i)
  refine View.PiecesOf.mem (G := tileNrm x y g w) ⟨?_, ?_, ?_, ?_, trivial⟩ <;>
  · intro j
    obtain ⟨z, r, d, rfl⟩ : ∃ (z : Fin 1) (r : Fin 256) (d : Fin 1024), j = ix3 z r d := ⟨j 0, j 1, j 2, by funext a; fin_cases a <;> rfl⟩
    rw [Subsingleton.elim z 0]
    refine (nrm_at _ _ _ _ _ _ r d).trans ?_
    unfold tileNrm
    congr 1
    · funext k
      refine congrArg₂ (· + ·) (congrArg x ?_) (congrArg₂ (· * ·) (congrArg g ?_) (congrArg y ?_)) <;>
      · funext a
        apply Fin.ext
        fin_cases a <;> simp
    · apply Fin.ext
      simp
    · refine congrArg w ?_
      funext a
      apply Fin.ext
      fin_cases a <;> simp
    · refine congrArg g ?_
      funext a
      apply Fin.ext
      fin_cases a <;> simp
    · refine congrArg g ?_
      funext a
      apply Fin.ext
      fin_cases a <;> simp

open Cert.MixResRefIdeal.Read in
/-- The reference's gate at a row. -/
theorem gate_at (g : Vec Ideal S4x2x6x1024 .f32) (b : Fin 4) (r : Fin 2304) (d : Fin 1024) (e : Fin 2) (he : e.val = r.val / 2048) :
    val_main_v8 (F := Ideal) g (ix3 b r d) = g (ix4 b e 2 d) := by
  unfold val_main_v8
  pointwise [val_main_v7, val_main_v6, val_main_v5, val_main_v4, val_main_v3, val_main_v2, val_main_v1, val_main_v0]
  have hr := r.isLt
  by_cases h : r.val < 2048
  · rw [dif_pos (by omega)]
    have : e = 0 := Fin.ext (by rw [he]; show _ = 0; omega)
    subst this
    rfl
  · rw [dif_neg (by omega)]
    have : e = 1 := Fin.ext (by rw [he]; show _ = 1; omega)
    subst this
    rfl

open Cert.MixResRefIdeal.Read in
/-- The reference's scale at a row. -/
theorem scale_at (g : Vec Ideal S4x2x6x1024 .f32) (b : Fin 4) (r : Fin 2304) (d : Fin 1024) (e : Fin 2) (he : e.val = r.val / 2048) :
    val_main_v33 (F := Ideal) g (ix3 b r d) = g (ix4 b e 4 d) := by
  unfold val_main_v33
  pointwise [val_main_v32, val_main_v31, val_main_v30, val_main_v29, val_main_v28, val_main_v27, val_main_v26, val_main_v25]
  have hr := r.isLt
  by_cases h : r.val < 2048
  · rw [dif_pos (by omega)]
    have : e = 0 := Fin.ext (by rw [he]; show _ = 0; omega)
    subst this
    rfl
  · rw [dif_neg (by omega)]
    have : e = 1 := Fin.ext (by rw [he]; show _ = 1; omega)
    subst this
    rfl

open Cert.MixResRefIdeal.Read in
/-- The reference's shift at a row. -/
theorem shift_at (g : Vec Ideal S4x2x6x1024 .f32) (b : Fin 4) (r : Fin 2304) (d : Fin 1024) (e : Fin 2) (he : e.val = r.val / 2048) :
    val_main_v45 (F := Ideal) g (ix3 b r d) = g (ix4 b e 3 d) := by
  unfold val_main_v45
  pointwise [val_main_v44, val_main_v43, val_main_v42, val_main_v41, val_main_v40, val_main_v39, val_main_v38, val_main_v37]
  have hr := r.isLt
  by_cases h : r.val < 2048
  · rw [dif_pos (by omega)]
    have : e = 0 := Fin.ext (by rw [he]; show _ = 0; omega)
    subst this
    rfl
  · rw [dif_neg (by omega)]
    have : e = 1 := Fin.ext (by rw [he]; show _ = 1; omega)
    subst this
    rfl

open Cert.MixResRefIdeal.Read in
/-- The reference's residual at an index. -/
theorem ref_res (x : Vec Ideal S4x2304x1024 .f32) (y : Vec Ideal S4x2304x1024 .bf16) (g : Vec Ideal S4x2x6x1024 .f32) (b : Fin 4) (r : Fin 2304) (d : Fin 1024) (e : Fin 2)
    (he : e.val = r.val / 2048) : val_main_v11 (F := Ideal) x y g (ix3 b r d) = x (ix3 b r d) + g (ix4 b e 2 d) * y (ix3 b r d) := by
  rw [← gate_at g b r d e he]
  pointwise [val_main_v11, val_main_v10, val_main_v9]

open Cert.MixResRefIdeal.Read in
/-- The reference's normed rows at an index. -/
theorem ref_nrm (x : Vec Ideal S4x2304x1024 .f32) (y : Vec Ideal S4x2304x1024 .bf16) (g : Vec Ideal S4x2x6x1024 .f32) (w : Vec Ideal S1x1024 .f32) (b : Fin 4) (r : Fin 2304) (d : Fin 1024)
    (e : Fin 2) (he : e.val = r.val / 2048) : val_main_v47 (F := Ideal) x y g w (ix3 b r d)
      = Row.normed (fun k => x (ix3 b r k) + g (ix4 b e 2 k) * y (ix3 b r k)) d (w (ix2 0 d)) (g (ix4 b e 4 d)) (g (ix4 b e 3 d)) := by
  rw [← scale_at g b r d e he, ← shift_at g b r d e he]
  simp only [← ref_res x y g b r _ e he]
  unfold Row.normed
  pointwise [val_main_v47, val_main_v46, val_main_v36, val_main_v35, val_main_v34, val_main_v24, val_main_v23, val_main_v22, val_main_v21, val_main_v20, val_main_v19, val_main_v18,
    val_main_v17, val_main_v16, val_main_v15, val_main_v14, val_main_v13, val_main_v12, val_main_cst, val_main_cst_0, val_main_cst_1, val_main_cst_2]

/-- The residual: the kernel's array is the reference's. -/
theorem res_final (c : Dev nD) : (dats m 0 c).arrAt 4 (cfgs 0).N
    = Cert.MixResRefIdeal.Read.val_main_v11 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, outRes_at]
  have ht : t.val < 9 := lt_of_lt_of_eq t.isLt N_0
  obtain ⟨b, r, d, rfl⟩ : ∃ (b : Fin 4) (r : Fin 256) (d : Fin 1024), y = (ix3 b r d : S4x256x1024.Idx) := ⟨y 0, y 1, y 2, by blk_ext⟩
  have hr := r.isLt
  have e := ref_res (m ((c : Thread nD τ).loc main_arg0)) (m ((c : Thread nD τ).loc main_arg1)) (m ((c : Thread nD τ).loc main_arg2)) b
    ⟨t.val * 256 + r.val, by omega⟩ d ⟨t.val / 8, by omega⟩ (by dsimp only; omega)
  refine Eq.trans ?_ (e.symm.trans ?_)
  · unfold tileRes
    refine congrArg₂ (· + ·) ?_ (congrArg₂ (· * ·) ?_ ?_) <;> blk_point [iblk, V, idx t]
  · blk_ext [idx t]

/-- The normed and modulated rows: the kernel's array is the reference's. -/
theorem nrm_final (c : Dev nD) : (dats m 0 c).arrAt 5 (cfgs 0).N
    = Cert.MixResRefIdeal.Read.val_main_v47 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, outNrm_at]
  have ht : t.val < 9 := lt_of_lt_of_eq t.isLt N_0
  obtain ⟨b, r, d, rfl⟩ : ∃ (b : Fin 4) (r : Fin 256) (d : Fin 1024), y = (ix3 b r d : S4x256x1024.Idx) := ⟨y 0, y 1, y 2, by blk_ext⟩
  have hr := r.isLt
  have e := ref_nrm (m ((c : Thread nD τ).loc main_arg0)) (m ((c : Thread nD τ).loc main_arg1)) (m ((c : Thread nD τ).loc main_arg2)) (m ((c : Thread nD τ).loc main_arg3)) b
    ⟨t.val * 256 + r.val, by omega⟩ d ⟨t.val / 8, by omega⟩ (by dsimp only; omega)
  refine Eq.trans ?_ (e.symm.trans ?_)
  · show Row.normed _ d _ _ _ = _
    congr 1
    · funext k
      refine congrArg₂ (· + ·) ?_ (congrArg₂ (· * ·) ?_ ?_) <;> blk_point [iblk, V, idx t]
    · blk_point [iblk, V, idx t]
    · blk_point [iblk, V, idx t]
    · blk_point [iblk, V, idx t]
  · blk_ext [idx t]

end Cert.MixResIdeal.Mine

end
-- ==== Proof.FfnRes.lean ====
module

public import proofs.«01_k».proof.Proof.OfFfnRes
public import proofs.«01_k».proof.Proof.Row
public import Idealize.ShloMosaic.Lib.Pipeline.ReadBack
public import Idealize.ShloMosaic.Lib.Pipeline.ValueKit

@[expose] public section

set_option maxRecDepth 16384

noncomputable section

namespace Cert.FfnResIdeal.Mine

open Cert.FfnResIdeal Cert.FfnResIdeal.Gen Idealize.ShloMosaic Idealize.ShloMosaic.TcCoe Idealize.SL.Sem
open Idealize.ShloMosaic.Pipeline (Dat)

variable (m : (ℓ : Loc nD τ sig) → Buf (Elt Ideal) ℓ)

/-- Where the blocks of each array sit at every grid point. -/
theorem idx : ∀ t : Fin cfg0.N, win0_0.index t = ![0, t.val, 0] ∧ win0_1.index t = ![0, t.val, 0] ∧ win0_2.index t = ![0, t.val / 8, 0, 0]
    ∧ win0_3.index t = ![0, t.val / 8, 0, 0] ∧ win0_4.index t = ![0, 0] ∧ win0_5.index t = ![0, t.val, 0] ∧ win0_6.index t = ![0, t.val, 0] :=
  (by decide +kernel : ∀ t : Fin grid0.N, _)

/-- One sample's residual rows. -/
def res (x : Vec Ideal S1x256x1024 .f32) (y : Vec Ideal S1x256x1024 .bf16) (g : Vec Ideal S1x1x1x1024 .f32) : Vec Ideal S1x256x1024 .f32 :=
  k0_pay6 (k0_pay4 x y g)

/-- One sample's normed rows. -/
def nrm (x : Vec Ideal S1x256x1024 .f32) (y : Vec Ideal S1x256x1024 .bf16) (g a b : Vec Ideal S1x1x1x1024 .f32) (w : Vec Ideal S1x1024 .f32) : Vec Ideal S1x256x1024 .bf16 :=
  k0_pay7 (k0_pay5 x y g a b w)

theorem res_at (x : Vec Ideal S1x256x1024 .f32) (y : Vec Ideal S1x256x1024 .bf16) (g : Vec Ideal S1x1x1x1024 .f32) (r : Fin 256) (d : Fin 1024) :
    res x y g (ix3 0 r d) = x (ix3 0 r d) + g (ix4 0 0 0 d) * y (ix3 0 r d) := by
  pointwise [res, k0_pay6, k0_pay4]

theorem nrm_at (x : Vec Ideal S1x256x1024 .f32) (y : Vec Ideal S1x256x1024 .bf16) (g a b : Vec Ideal S1x1x1x1024 .f32) (w : Vec Ideal S1x1024 .f32) (r : Fin 256) (d : Fin 1024) :
    nrm x y g a b w (ix3 0 r d) = Row.normed (fun k => x (ix3 0 r k) + g (ix4 0 0 0 k) * y (ix3 0 r k)) d (w (ix2 0 d)) (b (ix4 0 0 0 d)) (a (ix4 0 0 0 d)) := by
  unfold Row.normed
  pointwise [nrm, k0_pay7, k0_pay5, k0_pay4]

/-- The four samples' residual rows. -/
def tileRes (x : Vec Ideal S4x256x1024 .f32) (y : Vec Ideal S4x256x1024 .bf16) (g : Vec Ideal S4x1x6x1024 .f32) : Vec Ideal S4x256x1024 .f32 :=
  fun i => x i + g (ix4 (i 0) 0 5 (i 2)) * y i

/-- The four samples' normed rows. -/
def tileNrm (x : Vec Ideal S4x256x1024 .f32) (y : Vec Ideal S4x256x1024 .bf16) (g h : Vec Ideal S4x1x6x1024 .f32) (w : Vec Ideal S1x1024 .f32) : Vec Ideal S4x256x1024 .bf16 :=
  fun i => Row.normed (fun k => x (ix3 (i 0) (i 1) k) + g (ix4 (i 0) 0 5 k) * y (ix3 (i 0) (i 1) k)) (i 2) (w (ix2 0 (i 2))) (h (ix4 (i 0) 0 1 (i 2))) (h (ix4 (i 0) 0 0 (i 2)))

/-- The four stores of each result are the same rows of four samples. -/
theorem res_eq (x : Vec Ideal S4x256x1024 .f32) (y : Vec Ideal S4x256x1024 .bf16) (g h : Vec Ideal S4x1x6x1024 .f32) (w : Vec Ideal S1x1024 .f32) : out0_5 x y g h w
    = View.canon [⟨r0_13, res (View.ld x r0_13) (View.ld y r0_13) (View.ld g r0_14)⟩,
      ⟨r0_9, res (View.ld x r0_9) (View.ld y r0_9) (View.ld g r0_10)⟩,
      ⟨r0_5, res (View.ld x r0_5) (View.ld y r0_5) (View.ld g r0_6)⟩,
      ⟨r0_0, res (View.ld x r0_0) (View.ld y r0_0) (View.ld g r0_1)⟩] := rfl

theorem nrm_eq (x : Vec Ideal S4x256x1024 .f32) (y : Vec Ideal S4x256x1024 .bf16) (g h : Vec Ideal S4x1x6x1024 .f32) (w : Vec Ideal S1x1024 .f32) : out0_6 x y g h w
    = View.canon [⟨r0_13, nrm (View.ld x r0_13) (View.ld y r0_13) (View.ld g r0_14) (View.ld h r0_15) (View.ld h r0_16) (View.ld w r0_4)⟩,
      ⟨r0_9, nrm (View.ld x r0_9) (View.ld y r0_9) (View.ld g r0_10) (View.ld h r0_11) (View.ld h r0_12) (View.ld w r0_4)⟩,
      ⟨r0_5, nrm (View.ld x r0_5) (View.ld y r0_5) (View.ld g r0_6) (View.ld h r0_7) (View.ld h r0_8) (View.ld w r0_4)⟩,
      ⟨r0_0, nrm (View.ld x r0_0) (View.ld y r0_0) (View.ld g r0_1) (View.ld h r0_2) (View.ld h r0_3) (View.ld w r0_4)⟩] := rfl

theorem outRes_at (x : Vec Ideal S4x256x1024 .f32) (y : Vec Ideal S4x256x1024 .bf16) (g h : Vec Ideal S4x1x6x1024 .f32) (w : Vec Ideal S1x1024 .f32) (i : S4x256x1024.Idx) :
    out0_5 x y g h w i = tileRes x y g i := by
  rw [res_eq]
  refine View.canon_apply_of_pieces (tileRes x y g) _ ?_ i (cover0_5 _ _ _ _ i)
  refine View.PiecesOf.mem (G := tileRes x y g) ⟨?_, ?_, ?_, ?_, trivial⟩ <;>
  · intro j
    obtain ⟨z, r, d, rfl⟩ : ∃ (z : Fin 1) (r : Fin 256) (d : Fin 1024), j = ix3 z r d := ⟨j 0, j 1, j 2, by funext a; fin_cases a <;> rfl⟩
    rw [Subsingleton.elim z 0]
    refine (res_at _ _ _ r d).trans ?_
    unfold tileRes
    refine congrArg₂ (· + ·) rfl (congrArg₂ (· * ·) ?_ rfl)
    refine congrArg g ?_
    funext a
    apply Fin.ext
    fin_cases a <;> simp

theorem outNrm_at (x : Vec Ideal S4x256x1024 .f32) (y : Vec Ideal S4x256x1024 .bf16) (g h : Vec Ideal S4x1x6x1024 .f32) (w : Vec Ideal S1x1024 .f32) (i : S4x256x1024.Idx) :
    out0_6 x y g h w i = tileNrm x y g h w i := by
  rw [nrm_eq]
  refine View.canon_apply_of_pieces (tileNrm x y g h w) _ ?_ i (cover0_6 _ _ _ _ i)
  refine View.PiecesOf.mem (G := tileNrm x y g h w) ⟨?_, ?_, ?_, ?_, trivial⟩ <;>
  · intro j
    obtain ⟨z, r, d, rfl⟩ : ∃ (z : Fin 1) (r : Fin 256) (d : Fin 1024), j = ix3 z r d := ⟨j 0, j 1, j 2, by funext a; fin_cases a <;> rfl⟩
    rw [Subsingleton.elim z 0]
    refine (nrm_at _ _ _ _ _ _ r d).trans ?_
    unfold tileNrm
    congr 1
    · funext k
      refine congrArg₂ (· + ·) (congrArg x ?_) (congrArg₂ (· * ·) (congrArg g ?_) (congrArg y ?_)) <;>
      · funext a
        apply Fin.ext
        fin_cases a <;> simp
    · apply Fin.ext
      simp
    · refine congrArg w ?_
      funext a
      apply Fin.ext
      fin_cases a <;> simp
    · refine congrArg h ?_
      funext a
      apply Fin.ext
      fin_cases a <;> simp
    · refine congrArg h ?_
      funext a
      apply Fin.ext
      fin_cases a <;> simp

open Cert.FfnResRefIdeal.Read in
/-- The reference's gate at a row. -/
theorem gate_at (g : Vec Ideal S4x2x6x1024 .f32) (b : Fin 4) (r : Fin 2304) (d : Fin 1024) (e : Fin 2) (he : e.val = r.val / 2048) :
    val_main_v8 (F := Ideal) g (ix3 b r d) = g (ix4 b e 5 d) := by
  unfold val_main_v8
  pointwise [val_main_v7, val_main_v6, val_main_v5, val_main_v4, val_main_v3, val_main_v2, val_main_v1, val_main_v0]
  have hr := r.isLt
  by_cases h : r.val < 2048
  · rw [dif_pos (by omega)]
    have : e = 0 := Fin.ext (by rw [he]; show _ = 0; omega)
    subst this
    rfl
  · rw [dif_neg (by omega)]
    have : e = 1 := Fin.ext (by rw [he]; show _ = 1; omega)
    subst this
    rfl

open Cert.FfnResRefIdeal.Read in
/-- The reference's scale at a row. -/
theorem scale_at (g : Vec Ideal S4x2x6x1024 .f32) (b : Fin 4) (r : Fin 2304) (d : Fin 1024) (e : Fin 2) (he : e.val = r.val / 2048) :
    val_main_v33 (F := Ideal) g (ix3 b r d) = g (ix4 b e 1 d) := by
  unfold val_main_v33
  pointwise [val_main_v32, val_main_v31, val_main_v30, val_main_v29, val_main_v28, val_main_v27, val_main_v26, val_main_v25]
  have hr := r.isLt
  by_cases h : r.val < 2048
  · rw [dif_pos (by omega)]
    have : e = 0 := Fin.ext (by rw [he]; show _ = 0; omega)
    subst this
    rfl
  · rw [dif_neg (by omega)]
    have : e = 1 := Fin.ext (by rw [he]; show _ = 1; omega)
    subst this
    rfl

open Cert.FfnResRefIdeal.Read in
/-- The reference's shift at a row. -/
theorem shift_at (g : Vec Ideal S4x2x6x1024 .f32) (b : Fin 4) (r : Fin 2304) (d : Fin 1024) (e : Fin 2) (he : e.val = r.val / 2048) :
    val_main_v45 (F := Ideal) g (ix3 b r d) = g (ix4 b e 0 d) := by
  unfold val_main_v45
  pointwise [val_main_v44, val_main_v43, val_main_v42, val_main_v41, val_main_v40, val_main_v39, val_main_v38, val_main_v37]
  have hr := r.isLt
  by_cases h : r.val < 2048
  · rw [dif_pos (by omega)]
    have : e = 0 := Fin.ext (by rw [he]; show _ = 0; omega)
    subst this
    rfl
  · rw [dif_neg (by omega)]
    have : e = 1 := Fin.ext (by rw [he]; show _ = 1; omega)
    subst this
    rfl

open Cert.FfnResRefIdeal.Read in
/-- The reference's residual at an index. -/
theorem ref_res (x : Vec Ideal S4x2304x1024 .f32) (y : Vec Ideal S4x2304x1024 .bf16) (g : Vec Ideal S4x2x6x1024 .f32) (b : Fin 4) (r : Fin 2304) (d : Fin 1024) (e : Fin 2)
    (he : e.val = r.val / 2048) : val_main_v11 (F := Ideal) x y g (ix3 b r d) = x (ix3 b r d) + g (ix4 b e 5 d) * y (ix3 b r d) := by
  rw [← gate_at g b r d e he]
  pointwise [val_main_v11, val_main_v10, val_main_v9]

open Cert.FfnResRefIdeal.Read in
/-- The reference's normed rows at an index. -/
theorem ref_nrm (x : Vec Ideal S4x2304x1024 .f32) (y : Vec Ideal S4x2304x1024 .bf16) (g h : Vec Ideal S4x2x6x1024 .f32) (w : Vec Ideal S1x1024 .f32) (b : Fin 4) (r : Fin 2304) (d : Fin 1024)
    (e : Fin 2) (he : e.val = r.val / 2048) : val_main_v47 (F := Ideal) x y g h w (ix3 b r d)
      = Row.normed (fun k => x (ix3 b r k) + g (ix4 b e 5 k) * y (ix3 b r k)) d (w (ix2 0 d)) (h (ix4 b e 1 d)) (h (ix4 b e 0 d)) := by
  rw [← scale_at h b r d e he, ← shift_at h b r d e he]
  simp only [← ref_res x y g b r _ e he]
  unfold Row.normed
  pointwise [val_main_v47, val_main_v46, val_main_v36, val_main_v35, val_main_v34, val_main_v24, val_main_v23, val_main_v22, val_main_v21, val_main_v20, val_main_v19, val_main_v18,
    val_main_v17, val_main_v16, val_main_v15, val_main_v14, val_main_v13, val_main_v12, val_main_cst, val_main_cst_0, val_main_cst_1, val_main_cst_2]

/-- The residual: the kernel's array is the reference's. -/
theorem res_final (c : Dev nD) : (dats m 0 c).arrAt 5 (cfgs 0).N
    = Cert.FfnResRefIdeal.Read.val_main_v11 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5, outRes_at]
  have ht : t.val < 9 := lt_of_lt_of_eq t.isLt N_0
  obtain ⟨b, r, d, rfl⟩ : ∃ (b : Fin 4) (r : Fin 256) (d : Fin 1024), y = (ix3 b r d : S4x256x1024.Idx) := ⟨y 0, y 1, y 2, by blk_ext⟩
  have hr := r.isLt
  have e := ref_res (m ((c : Thread nD τ).loc main_arg0)) (m ((c : Thread nD τ).loc main_arg1)) (m ((c : Thread nD τ).loc main_arg2)) b
    ⟨t.val * 256 + r.val, by omega⟩ d ⟨t.val / 8, by omega⟩ (by dsimp only; omega)
  refine Eq.trans ?_ (e.symm.trans ?_)
  · unfold tileRes
    refine congrArg₂ (· + ·) ?_ (congrArg₂ (· * ·) ?_ ?_) <;> blk_point [iblk, V, idx t]
  · blk_ext [idx t]

/-- The normed and modulated rows: the kernel's array is the reference's. -/
theorem nrm_final (c : Dev nD) : (dats m 0 c).arrAt 6 (cfgs 0).N
    = Cert.FfnResRefIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6, outNrm_at]
  have ht : t.val < 9 := lt_of_lt_of_eq t.isLt N_0
  obtain ⟨b, r, d, rfl⟩ : ∃ (b : Fin 4) (r : Fin 256) (d : Fin 1024), y = (ix3 b r d : S4x256x1024.Idx) := ⟨y 0, y 1, y 2, by blk_ext⟩
  have hr := r.isLt
  have e := ref_nrm (m ((c : Thread nD τ).loc main_arg0)) (m ((c : Thread nD τ).loc main_arg1)) (m ((c : Thread nD τ).loc main_arg2)) (m ((c : Thread nD τ).loc main_arg3)) (m ((c : Thread nD τ).loc main_arg4)) b
    ⟨t.val * 256 + r.val, by omega⟩ d ⟨t.val / 8, by omega⟩ (by dsimp only; omega)
  refine Eq.trans ?_ (e.symm.trans ?_)
  · show Row.normed _ d _ _ _ = _
    congr 1
    · funext k
      refine congrArg₂ (· + ·) ?_ (congrArg₂ (· * ·) ?_ ?_) <;> blk_point [iblk, V, idx t]
    · blk_point [iblk, V, idx t]
    · blk_point [iblk, V, idx t]
    · blk_point [iblk, V, idx t]
  · blk_ext [idx t]

end Cert.FfnResIdeal.Mine

end
-- ==== Proof.ClaimsRows.lean ====
module

public import proofs.«01_k».proof.Defs
public import proofs.«01_k».proof.Proof.Pre
public import proofs.«01_k».proof.Proof.Res
public import proofs.«01_k».proof.Proof.MixRes
public import proofs.«01_k».proof.Proof.FfnRes
public import Idealize.ShloMosaic.Adequacy
public import Idealize.ShloMosaic.Init

@[expose] public section

noncomputable section

namespace Cert.Proof

open Idealize.ShloMosaic Idealize.SL.Sem

/-- The normed rows before the first mixer: the call runs, at its own formats. -/
theorem pre_p [Cert.Pre.Facts] : Cert.quiescent_Pre := fun m ρ _ => Cert.Pre.Gen.frame m ρ

/-- and over the reals. -/
theorem pre_pi : Cert.quiescent_PreIdeal (hPreIdeal := Cert.PreIdeal.Gen.facts) := fun m ρ _ => Cert.PreIdeal.Gen.frame m ρ

/-- The reference runs; it declares no semaphore. -/
theorem pre_ri : Cert.quiescent_PreRefIdeal (hPreRefIdeal := Cert.PreRefIdeal.Gen.facts) := fun m ρ _ =>
  (θ_run Cert.PreRefIdeal.defs _ _).mono (fun r h => ⟨fun c => (h c).2, sem_eq_zero_of_no_sems (by decide) r.2⟩)
    (Cert.PreRefIdeal.Value.run (F := Ideal) m ρ)

/-- The normed rows before the first mixer: the call's result is the reference's. -/
theorem pre_alg : Cert.algebraic_PreIdeal_PreRefIdeal (hPreIdeal := Cert.PreIdeal.Gen.facts) (hPreRefIdeal := Cert.PreRefIdeal.Gen.facts) := by
  intro m ρ m' ρ' _ hagree
  refine ⟨fun c => (Cert.PreIdeal.Gen.dats m 0 c).arrAt 3 Cert.PreIdeal.cfg0.N, Cert.PreIdeal.Value.run_blocks m ρ, ?_⟩
  refine (θ_run Cert.PreRefIdeal.defs _ _).mono (fun r h c => ?_) (Cert.PreRefIdeal.Value.run (F := Ideal) m' ρ')
  have g := Cert.PreIdeal.Mine.final m c
  obtain ⟨e0, e1, e2⟩ := hagree c
  obtain ⟨r0, r1⟩ := h c
  rw [← e0, ← e1, ← e2] at g
  exact ⟨(r0.trans (Cert.PreRefIdeal.Read.val_main_v35_eq _ _ _ )).trans g.symm, r1⟩

/-- The residual after the last layer: the call runs, at its own formats. -/
theorem res_p [Cert.Res.Facts] : Cert.quiescent_Res := fun m ρ _ => Cert.Res.Gen.frame m ρ

/-- and over the reals. -/
theorem res_pi : Cert.quiescent_ResIdeal (hResIdeal := Cert.ResIdeal.Gen.facts) := fun m ρ _ => Cert.ResIdeal.Gen.frame m ρ

/-- The reference runs; it declares no semaphore. -/
theorem res_ri : Cert.quiescent_ResRefIdeal (hResRefIdeal := Cert.ResRefIdeal.Gen.facts) := fun m ρ _ =>
  (θ_run Cert.ResRefIdeal.defs _ _).mono (fun r h => ⟨fun c => (h c).2, sem_eq_zero_of_no_sems (by decide) r.2⟩)
    (Cert.ResRefIdeal.Value.run (F := Ideal) m ρ)

/-- The residual after the last layer: the call's result is the reference's. -/
theorem res_alg : Cert.algebraic_ResIdeal_ResRefIdeal (hResIdeal := Cert.ResIdeal.Gen.facts) (hResRefIdeal := Cert.ResRefIdeal.Gen.facts) := by
  intro m ρ m' ρ' _ hagree
  refine ⟨fun c => (Cert.ResIdeal.Gen.dats m 0 c).arrAt 3 Cert.ResIdeal.cfg0.N, Cert.ResIdeal.Value.run_blocks m ρ, ?_⟩
  refine (θ_run Cert.ResRefIdeal.defs _ _).mono (fun r h c => ?_) (Cert.ResRefIdeal.Value.run (F := Ideal) m' ρ')
  have g := Cert.ResIdeal.Mine.final m c
  obtain ⟨e0, e1, e2⟩ := hagree c
  obtain ⟨r0, r1⟩ := h c
  rw [← e0, ← e1, ← e2] at g
  exact ⟨(r0.trans (Cert.ResRefIdeal.Read.val_main_v11_eq _ _ _ )).trans g.symm, r1⟩

/-- The residual after the mixer and the next normed rows: the call runs, at its own formats. -/
theorem mixRes_p [Cert.MixRes.Facts] : Cert.quiescent_MixRes := fun m ρ _ => Cert.MixRes.Gen.frame m ρ

/-- and over the reals. -/
theorem mixRes_pi : Cert.quiescent_MixResIdeal (hMixResIdeal := Cert.MixResIdeal.Gen.facts) := fun m ρ _ => Cert.MixResIdeal.Gen.frame m ρ

/-- The reference runs; it declares no semaphore. -/
theorem mixRes_ri : Cert.quiescent_MixResRefIdeal (hMixResRefIdeal := Cert.MixResRefIdeal.Gen.facts) := fun m ρ _ =>
  (θ_run Cert.MixResRefIdeal.defs _ _).mono (fun r h => ⟨fun c => (h c).2.2, sem_eq_zero_of_no_sems (by decide) r.2⟩)
    (Cert.MixResRefIdeal.Value.run (F := Ideal) m ρ)

/-- The residual after the mixer and the next normed rows: the call's two results are the reference's. -/
theorem mixRes_alg : Cert.algebraic_MixResIdeal_MixResRefIdeal (hMixResIdeal := Cert.MixResIdeal.Gen.facts) (hMixResRefIdeal := Cert.MixResRefIdeal.Gen.facts) := by
  intro m ρ m' ρ' _ hagree
  refine ⟨fun c => (Cert.MixResIdeal.Gen.dats m 0 c).arrAt 4 Cert.MixResIdeal.cfg0.N, fun c => (Cert.MixResIdeal.Gen.dats m 0 c).arrAt 5 Cert.MixResIdeal.cfg0.N,
    Cert.MixResIdeal.Value.run_blocks m ρ, ?_⟩
  refine (θ_run Cert.MixResRefIdeal.defs _ _).mono (fun r h c => ?_) (Cert.MixResRefIdeal.Value.run (F := Ideal) m' ρ')
  have g := Cert.MixResIdeal.Mine.res_final m c
  have d := Cert.MixResIdeal.Mine.nrm_final m c
  obtain ⟨e0, e1, e2, e3⟩ := hagree c
  obtain ⟨r0, r1, r2⟩ := h c
  rw [← e0, ← e1, ← e2] at g
  rw [← e0, ← e1, ← e2, ← e3] at d
  exact ⟨(r0.trans (Cert.MixResRefIdeal.Read.val_main_v11_eq _ _ _)).trans g.symm, (r1.trans (Cert.MixResRefIdeal.Read.val_main_v47_eq m' c)).trans d.symm, r2⟩

/-- The residual after the feed-forward layer and the next normed rows: the call runs, at its own formats. -/
theorem ffnRes_p [Cert.FfnRes.Facts] : Cert.quiescent_FfnRes := fun m ρ _ => Cert.FfnRes.Gen.frame m ρ

/-- and over the reals. -/
theorem ffnRes_pi : Cert.quiescent_FfnResIdeal (hFfnResIdeal := Cert.FfnResIdeal.Gen.facts) := fun m ρ _ => Cert.FfnResIdeal.Gen.frame m ρ

/-- The reference runs; it declares no semaphore. -/
theorem ffnRes_ri : Cert.quiescent_FfnResRefIdeal (hFfnResRefIdeal := Cert.FfnResRefIdeal.Gen.facts) := fun m ρ _ =>
  (θ_run Cert.FfnResRefIdeal.defs _ _).mono (fun r h => ⟨fun c => (h c).2.2, sem_eq_zero_of_no_sems (by decide) r.2⟩)
    (Cert.FfnResRefIdeal.Value.run (F := Ideal) m ρ)

/-- The residual after the feed-forward layer and the next normed rows: the call's two results are the reference's. -/
theorem ffnRes_alg : Cert.algebraic_FfnResIdeal_FfnResRefIdeal (hFfnResIdeal := Cert.FfnResIdeal.Gen.facts) (hFfnResRefIdeal := Cert.FfnResRefIdeal.Gen.facts) := by
  intro m ρ m' ρ' _ hagree
  refine ⟨fun c => (Cert.FfnResIdeal.Gen.dats m 0 c).arrAt 5 Cert.FfnResIdeal.cfg0.N, fun c => (Cert.FfnResIdeal.Gen.dats m 0 c).arrAt 6 Cert.FfnResIdeal.cfg0.N,
    Cert.FfnResIdeal.Value.run_blocks m ρ, ?_⟩
  refine (θ_run Cert.FfnResRefIdeal.defs _ _).mono (fun r h c => ?_) (Cert.FfnResRefIdeal.Value.run (F := Ideal) m' ρ')
  have g := Cert.FfnResIdeal.Mine.res_final m c
  have d := Cert.FfnResIdeal.Mine.nrm_final m c
  obtain ⟨e0, e1, e2, e3, e4⟩ := hagree c
  obtain ⟨r0, r1, r2⟩ := h c
  rw [← e0, ← e1, ← e2] at g
  rw [← e0, ← e1, ← e2, ← e3, ← e4] at d
  exact ⟨(r0.trans (Cert.FfnResRefIdeal.Read.val_main_v11_eq _ _ _)).trans g.symm, (r1.trans (Cert.FfnResRefIdeal.Read.val_main_v47_eq m' c)).trans d.symm, r2⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Equal
public import proofs.«01_k».proof.Proof.OfMid
public import proofs.«01_k».proof.Proof.OfFfn
public import proofs.«01_k».proof.Proof.OfGIn
public import proofs.«01_k».proof.Proof.OfGOut
public import proofs.«01_k».proof.Proof.OfDX
public import proofs.«01_k».proof.Proof.OfAbIn
public import proofs.«01_k».proof.Proof.OfCdIn
public import proofs.«01_k».proof.Proof.OfOuts
public import proofs.«01_k».proof.Proof.OfGAb
public import proofs.«01_k».proof.Proof.OfWKv
public import proofs.«01_k».proof.Proof.OfWQ
public import proofs.«01_k».proof.Proof.OfGWQ
public import proofs.«01_k».proof.Proof.OfGWKv
public import proofs.«01_k».proof.Proof.OfDQn
public import proofs.«01_k».proof.Proof.OfDKvn
public import proofs.«01_k».proof.Proof.OfAtt
public import proofs.«01_k».proof.Proof.OfPre
public import proofs.«01_k».proof.Proof.OfRes
public import proofs.«01_k».proof.Proof.OfMixRes
public import proofs.«01_k».proof.Proof.OfFfnRes
public import proofs.«01_k».proof.Proof.OfGCd
public import proofs.«01_k».proof.Proof.OfGHalf
public import proofs.«01_k».proof.Proof.OfDCat
public import proofs.«01_k».proof.Proof.OfDAb
public import proofs.«01_k».proof.Proof.OfDCd
public import proofs.«01_k».proof.Proof.ClaimsMid
public import proofs.«01_k».proof.Proof.ClaimsF
public import proofs.«01_k».proof.Proof.ClaimsP
public import proofs.«01_k».proof.Proof.ClaimsQ
public import proofs.«01_k».proof.Proof.ClaimsAtt
public import proofs.«01_k».proof.Proof.ClaimsRows
public import Idealize.ShloMosaic.Adequacy
public import Idealize.ShloMosaic.Init

@[expose] public section

noncomputable section

namespace Cert.Proof

open Idealize.ShloMosaic Idealize.SL.Sem

/-- The gradient call runs, at its own formats. -/
theorem frame_p [Cert.Kernel.Facts] : Cert.quiescent_Kernel := fun m ρ _ => Cert.Kernel.Gen.frame m ρ

/-- and over the reals. -/
theorem frame_pi : Cert.quiescent_KernelIdeal (hKernelIdeal := Cert.KernelIdeal.Gen.facts) := fun m ρ _ => Cert.KernelIdeal.Gen.frame m ρ

theorem frame_pi_pre : Cert.quiescent_KernelIdeal_pre_finite (hKernelIdeal := Cert.KernelIdeal.Gen.facts) (hPre_finite := Cert.Pre_finite.facts) :=
  fun m ρ _ => Cert.KernelIdeal.Gen.frame m ρ

/-- The reference runs; it declares no semaphore. -/
theorem frame_ri : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_ri_pre : Cert.quiescent_ReferenceIdeal_pre_finite (hReferenceIdeal := Cert.ReferenceIdeal.Gen.facts) (hPre_finite := Cert.Pre_finite.facts) :=
  fun m ρ _ => frame_ri m ρ trivial

/-- From finite arguments the call's three gradients are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m ρ m' ρ' hpre hagree
  refine ⟨fun c => Cert.KernelIdeal.Value.G5 m c, fun c => Cert.KernelIdeal.Value.G6 m c, fun c => Cert.KernelIdeal.Value.G7 m c,
    Cert.KernelIdeal.Value.run m ρ, ?_⟩
  refine (θ_run Cert.ReferenceIdeal.defs _ _).mono (fun r h c => ?_) (Cert.ReferenceIdeal.Value.run (F := Ideal) m' ρ')
  have := Cert.Pre_finite.facts
  obtain ⟨e0, e1, e2, e3⟩ := hagree c
  obtain ⟨⟨q, hq⟩, ⟨kv, hkv⟩, ⟨kp, hkp⟩, ⟨o, ho⟩⟩ := Cert.Pre_finite.reals (hpre c)
  have v0 := Cert.KernelIdeal.Gen.V_main_arg0 m c
  have v1 := Cert.KernelIdeal.Gen.V_main_arg1 m c
  have v2 := Cert.KernelIdeal.Gen.V_main_arg2 m c
  have v3 := Cert.KernelIdeal.Gen.V_main_arg3 m c
  rw [← v0] at hq e0
  rw [← v1] at hkv e1
  rw [← v2] at hkp e2
  rw [← v3] at ho e3
  obtain ⟨g5, g6, g7⟩ := Cert.KernelIdeal.Head.equal m c hq hkv hkp ho
  rw [← e0, ← e1, ← e2, ← e3] at g5 g6 g7
  obtain ⟨r0, r1, r2, r3⟩ := h c
  exact ⟨(r0.trans (Cert.ReferenceIdeal.Read.val_main_v156_eq _)).trans g5.symm, (r1.trans (Cert.ReferenceIdeal.Read.val_main_v149_eq _)).trans g6.symm,
    (r2.trans (Cert.ReferenceIdeal.Read.val_main_v147_eq _)).trans g7.symm, r3⟩

theorem claim : Cert.Claim := ⟨Cert.Kernel.Gen.facts, Cert.KernelIdeal.Gen.facts, Cert.ReferenceIdeal.Gen.facts,
  Cert.Mid.Gen.facts, Cert.MidIdeal.Gen.facts, Cert.MidRefIdeal.Gen.facts,
  Cert.Ffn.Gen.facts, Cert.FfnIdeal.Gen.facts, Cert.FfnRefIdeal.Gen.facts,
  Cert.GIn.Gen.facts, Cert.GInIdeal.Gen.facts, Cert.GInRefIdeal.Gen.facts,
  Cert.GOut.Gen.facts, Cert.GOutIdeal.Gen.facts, Cert.GOutRefIdeal.Gen.facts,
  Cert.DX.Gen.facts, Cert.DXIdeal.Gen.facts, Cert.DXRefIdeal.Gen.facts,
  Cert.AbIn.Gen.facts, Cert.AbInIdeal.Gen.facts, Cert.AbInRefIdeal.Gen.facts,
  Cert.CdIn.Gen.facts, Cert.CdInIdeal.Gen.facts, Cert.CdInRefIdeal.Gen.facts,
  Cert.Outs.Gen.facts, Cert.OutsIdeal.Gen.facts, Cert.OutsRefIdeal.Gen.facts,
  Cert.GAb.Gen.facts, Cert.GAbIdeal.Gen.facts, Cert.GAbRefIdeal.Gen.facts,
  Cert.GCd.Gen.facts, Cert.GCdIdeal.Gen.facts, Cert.GCdRefIdeal.Gen.facts,
  Cert.GHalf.Gen.facts, Cert.GHalfIdeal.Gen.facts, Cert.GHalfRefIdeal.Gen.facts,
  Cert.DCat.Gen.facts, Cert.DCatIdeal.Gen.facts, Cert.DCatRefIdeal.Gen.facts,
  Cert.DAb.Gen.facts, Cert.DAbIdeal.Gen.facts, Cert.DAbRefIdeal.Gen.facts,
  Cert.DCd.Gen.facts, Cert.DCdIdeal.Gen.facts, Cert.DCdRefIdeal.Gen.facts,
  Cert.WKv.Gen.facts, Cert.WKvIdeal.Gen.facts, Cert.WKvRefIdeal.Gen.facts,
  Cert.WQ.Gen.facts, Cert.WQIdeal.Gen.facts, Cert.WQRefIdeal.Gen.facts,
  Cert.GWQ.Gen.facts, Cert.GWQIdeal.Gen.facts, Cert.GWQRefIdeal.Gen.facts,
  Cert.GWKv.Gen.facts, Cert.GWKvIdeal.Gen.facts, Cert.GWKvRefIdeal.Gen.facts,
  Cert.DQn.Gen.facts, Cert.DQnIdeal.Gen.facts, Cert.DQnRefIdeal.Gen.facts,
  Cert.DKvn.Gen.facts, Cert.DKvnIdeal.Gen.facts, Cert.DKvnRefIdeal.Gen.facts,
  Cert.Att.Gen.facts, Cert.AttIdeal.Gen.facts, Cert.AttRefIdeal.Gen.facts,
  Cert.Pre.Gen.facts, Cert.PreIdeal.Gen.facts, Cert.PreRefIdeal.Gen.facts,
  Cert.Res.Gen.facts, Cert.ResIdeal.Gen.facts, Cert.ResRefIdeal.Gen.facts,
  Cert.MixRes.Gen.facts, Cert.MixResIdeal.Gen.facts, Cert.MixResRefIdeal.Gen.facts,
  Cert.FfnRes.Gen.facts, Cert.FfnResIdeal.Gen.facts, Cert.FfnResRefIdeal.Gen.facts,
  Cert.Pre_finite.facts, Cert.Pre_finite_ffn.facts, Cert.Pre_finite_att.facts,
  frame_p, frame_pi, frame_pi_pre, frame_ri, frame_ri_pre,
  mid_p, mid_pi, mid_pi_pre, mid_ri, mid_ri_pre,
  ffn_p, ffn_pi, ffn_ri,
  gIn_p, gIn_pi, gIn_ri,
  gOut_p, gOut_pi, gOut_ri,
  dX_p, dX_pi, dX_ri,
  abIn_p, abIn_pi, abIn_ri,
  cdIn_p, cdIn_pi, cdIn_ri,
  outs_p, outs_pi, outs_ri,
  gAb_p, gAb_pi, gAb_ri,
  gCd_p, gCd_pi, gCd_ri,
  gHalf_p, gHalf_pi, gHalf_ri,
  dCat_p, dCat_pi, dCat_ri,
  dAb_p, dAb_pi, dAb_ri,
  dCd_p, dCd_pi, dCd_ri,
  wKv_p, wKv_pi, wKv_ri,
  wQ_p, wQ_pi, wQ_ri,
  gWQ_p, gWQ_pi, gWQ_ri,
  gWKv_p, gWKv_pi, gWKv_ri,
  dQn_p, dQn_pi, dQn_ri,
  dKvn_p, dKvn_pi, dKvn_ri,
  att_p, att_pi, att_pi_pre, att_ri, att_ri_pre,
  pre_p, pre_pi, pre_ri,
  res_p, res_pi, res_ri,
  mixRes_p, mixRes_pi, mixRes_ri,
  ffnRes_p, ffnRes_pi, ffnRes_ri,
  trivial, algebraic,
  trivial, mid_alg,
  trivial, ffn_alg,
  trivial, gIn_alg,
  trivial, gOut_alg,
  trivial, dX_alg,
  trivial, abIn_alg,
  trivial, cdIn_alg,
  trivial, outs_alg,
  trivial, gAb_alg,
  trivial, gCd_alg,
  trivial, gHalf_alg,
  trivial, dCat_alg,
  trivial, dAb_alg,
  trivial, dCd_alg,
  trivial, wKv_alg,
  trivial, wQ_alg,
  trivial, gWQ_alg,
  trivial, gWKv_alg,
  trivial, dQn_alg,
  trivial, dKvn_alg,
  trivial, att_alg,
  trivial, pre_alg,
  trivial, res_alg,
  trivial, mixRes_alg,
  trivial, ffnRes_alg⟩

end Cert.Proof

end
